-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v67)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v67) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v23)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v23)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v17_0)) (v1 : (c : Dev Cert.Kernel14Ideal.nD) → Buf (Elt Ideal) ((c.tc : Thread Cert.Kernel14Ideal.nD Cert.Kernel14Ideal.τ).loc Cert.Kernel14Ideal.main_v17_1)) (v2 : (c : Dev Cert.Kernel14Ideal.nD) → Buf (Elt Ideal) ((c.tc : Thread Cert.Kernel14Ideal.nD Cert.Kernel14Ideal.τ).loc Cert.Kernel14Ideal.main_v17_2)) (v3 : (c : Dev Cert.Kernel14Ideal.nD) → Buf (Elt Ideal) ((c.tc : Thread Cert.Kernel14Ideal.nD Cert.Kernel14Ideal.τ).loc Cert.Kernel14Ideal.main_v17_3)) (v4 : (c : Dev Cert.Kernel14Ideal.nD) → Buf (Elt Ideal) ((c.tc : Thread Cert.Kernel14Ideal.nD Cert.Kernel14Ideal.τ).loc Cert.Kernel14Ideal.main_v17_4)) (v5 : (c : Dev Cert.Kernel14Ideal.nD) → Buf (Elt Ideal) ((c.tc : Thread Cert.Kernel14Ideal.nD Cert.Kernel14Ideal.τ).loc Cert.Kernel14Ideal.main_v17_5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v17_0) = v0 c
          ∧ r.2.mem ((c.tc : Thread Cert.Kernel14Ideal.nD Cert.Kernel14Ideal.τ).loc Cert.Kernel14Ideal.main_v17_1) = v1 c
          ∧ r.2.mem ((c.tc : Thread Cert.Kernel14Ideal.nD Cert.Kernel14Ideal.τ).loc Cert.Kernel14Ideal.main_v17_2) = v2 c
          ∧ r.2.mem ((c.tc : Thread Cert.Kernel14Ideal.nD Cert.Kernel14Ideal.τ).loc Cert.Kernel14Ideal.main_v17_3) = v3 c
          ∧ r.2.mem ((c.tc : Thread Cert.Kernel14Ideal.nD Cert.Kernel14Ideal.τ).loc Cert.Kernel14Ideal.main_v17_4) = v4 c
          ∧ r.2.mem ((c.tc : Thread Cert.Kernel14Ideal.nD Cert.Kernel14Ideal.τ).loc Cert.Kernel14Ideal.main_v17_5) = v5 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v30) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_v32) = v2 c
          ∧ r.2.mem ((c.tc : Thread Cert.Reference14Ideal.nD Cert.Reference14Ideal.τ).loc Cert.Reference14Ideal.main_v33) = v3 c
          ∧ r.2.mem ((c.tc : Thread Cert.Reference14Ideal.nD Cert.Reference14Ideal.τ).loc Cert.Reference14Ideal.main_v35) = v4 c
          ∧ r.2.mem ((c.tc : Thread Cert.Reference14Ideal.nD Cert.Reference14Ideal.τ).loc Cert.Reference14Ideal.main_v37) = v5 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v10_0)) (v1 : (c : Dev Cert.Kernel15Ideal.nD) → Buf (Elt Ideal) ((c.tc : Thread Cert.Kernel15Ideal.nD Cert.Kernel15Ideal.τ).loc Cert.Kernel15Ideal.main_v10_1)) (v2 : (c : Dev Cert.Kernel15Ideal.nD) → Buf (Elt Ideal) ((c.tc : Thread Cert.Kernel15Ideal.nD Cert.Kernel15Ideal.τ).loc Cert.Kernel15Ideal.main_v10_2)) (v3 : (c : Dev Cert.Kernel15Ideal.nD) → Buf (Elt Ideal) ((c.tc : Thread Cert.Kernel15Ideal.nD Cert.Kernel15Ideal.τ).loc Cert.Kernel15Ideal.main_v10_3)) (v4 : (c : Dev Cert.Kernel15Ideal.nD) → Buf (Elt Ideal) ((c.tc : Thread Cert.Kernel15Ideal.nD Cert.Kernel15Ideal.τ).loc Cert.Kernel15Ideal.main_v10_4)) (v5 : (c : Dev Cert.Kernel15Ideal.nD) → Buf (Elt Ideal) ((c.tc : Thread Cert.Kernel15Ideal.nD Cert.Kernel15Ideal.τ).loc Cert.Kernel15Ideal.main_v10_5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10_0) = v0 c
          ∧ r.2.mem ((c.tc : Thread Cert.Kernel15Ideal.nD Cert.Kernel15Ideal.τ).loc Cert.Kernel15Ideal.main_v10_1) = v1 c
          ∧ r.2.mem ((c.tc : Thread Cert.Kernel15Ideal.nD Cert.Kernel15Ideal.τ).loc Cert.Kernel15Ideal.main_v10_2) = v2 c
          ∧ r.2.mem ((c.tc : Thread Cert.Kernel15Ideal.nD Cert.Kernel15Ideal.τ).loc Cert.Kernel15Ideal.main_v10_3) = v3 c
          ∧ r.2.mem ((c.tc : Thread Cert.Kernel15Ideal.nD Cert.Kernel15Ideal.τ).loc Cert.Kernel15Ideal.main_v10_4) = v4 c
          ∧ r.2.mem ((c.tc : Thread Cert.Kernel15Ideal.nD Cert.Kernel15Ideal.τ).loc Cert.Kernel15Ideal.main_v10_5) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_v19) = v2 c
          ∧ r.2.mem ((c.tc : Thread Cert.Reference15Ideal.nD Cert.Reference15Ideal.τ).loc Cert.Reference15Ideal.main_v20) = v3 c
          ∧ r.2.mem ((c.tc : Thread Cert.Reference15Ideal.nD Cert.Reference15Ideal.τ).loc Cert.Reference15Ideal.main_v21) = v4 c
          ∧ r.2.mem ((c.tc : Thread Cert.Reference15Ideal.nD Cert.Reference15Ideal.τ).loc Cert.Reference15Ideal.main_v22) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4096x8x128 : Shape := ⟨3, ![4096, 8, 128]⟩
abbrev S4096x8 : Shape := ⟨2, ![4096, 8]⟩
abbrev S_ : Shape := ⟨0, ![]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_v3 : IVec S_ 1) (main_v7 : IVec S_ 1) (main_v11 : IVec S_ 1) (main_v15 : IVec S_ 1) : IVec S_ 1 :=
  let main_v16 : FVec F S4096x8 .f32 := Host.absf main_arg4
  let main_cst_6 : FVec F S_ .f32 := constant S_ .f32 0x7F800000#32
  let main_v17 : FVec F S4096x8 .f32 := broadcastInDim S4096x8 ![] bcast_S_S4096x8 main_cst_6
  let main_v18 : IVec S4096x8 1 := cmpf .olt main_v16 main_v17
  let main_c_7 : IVec S_ 1 := constantI S_ 1 1#1
  let main_v19 : IVec S_ 1 := (fun x v => Host.reduce IntOp.andi x v reducesTo_S4096x8_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x8x128 .f32) (main_arg1 : FVec F S4096x8x128 .f32) (main_arg2 : FVec F S4096x8x128 .f32) (main_arg3 : FVec F S4096x8x128 .f32) (main_arg4 : FVec F S4096x8 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S4096x8x128 .f32 := Host.absf main_arg1
  let main_cst_0 : FVec F S_ .f32 := constant S_ .f32 0x7F800000#32
  let main_v5 : FVec F S4096x8x128 .f32 := broadcastInDim S4096x8x128 ![] bcast_S_S4096x8x128 main_cst_0
  let main_v6 : IVec S4096x8x128 1 := cmpf .olt main_v4 main_v5
  let main_c_1 : IVec S_ 1 := constantI S_ 1 1#1
  let main_v7 : IVec S_ 1 := (fun x v => Host.reduce IntOp.andi x v reducesTo_S4096x8x128_S_d0_1_2 h_S_) main_v6 main_c_1
  let main_v8 : FVec F S4096x8x128 .f32 := Host.absf main_arg2
  let main_cst_2 : FVec F S_ .f32 := constant S_ .f32 0x7F800000#32
  let main_v9 : FVec F S4096x8x128 .f32 := broadcastInDim S4096x8x128 ![] bcast_S_S4096x8x128 main_cst_2
  let main_v10 : IVec S4096x8x128 1 := cmpf .olt main_v8 main_v9
  let main_c_3 : IVec S_ 1 := constantI S_ 1 1#1
  let main_v11 : IVec S_ 1 := (fun x v => Host.reduce IntOp.andi x v reducesTo_S4096x8x128_S_d0_1_2 h_S_) main_v10 main_c_3
  let main_v12 : FVec F S4096x8x128 .f32 := Host.absf main_arg3
  let main_cst_4 : FVec F S_ .f32 := constant S_ .f32 0x7F800000#32
  let main_v13 : FVec F S4096x8x128 .f32 := broadcastInDim S4096x8x128 ![] bcast_S_S4096x8x128 main_cst_4
  let main_v14 : IVec S4096x8x128 1 := cmpf .olt main_v12 main_v13
  let main_c_5 : IVec S_ 1 := constantI S_ 1 1#1
  let main_v15 : IVec S_ 1 := (fun x v => Host.reduce IntOp.andi x v reducesTo_S4096x8x128_S_d0_1_2 h_S_) main_v14 main_c_5
  fn_part1 (F := F) main_arg4 main_v3 main_v7 main_v11 main_v15
-- ==== Kernel.lean ====
abbrev S4096x8x128 : Shape := ⟨3, ![4096, 8, 128]⟩
abbrev S4096x8 : Shape := ⟨2, ![4096, 8]⟩
abbrev S256x16x1024 : Shape := ⟨3, ![256, 16, 1024]⟩
abbrev S16x256x1024 : Shape := ⟨3, ![16, 256, 1024]⟩
abbrev S4096x1024 : Shape := ⟨2, ![4096, 1024]⟩
abbrev S1x4096x1024 : Shape := ⟨3, ![1, 4096, 1024]⟩
abbrev S3x4096x1024 : Shape := ⟨3, ![3, 4096, 1024]⟩
abbrev S256x16x8x128 : Shape := ⟨4, ![256, 16, 8, 128]⟩
abbrev S16x256x8x128 : Shape := ⟨4, ![16, 256, 8, 128]⟩
abbrev S16x2x128x8x128 : Shape := ⟨5, ![16, 2, 128, 8, 128]⟩
abbrev S16x1x128x8x128 : Shape := ⟨5, ![16, 1, 128, 8, 128]⟩
abbrev S_ : Shape := ⟨0, ![]⟩
abbrev S16x2x256x8x128 : Shape := ⟨5, ![16, 2, 256, 8, 128]⟩
abbrev S16x2x8x128x256 : Shape := ⟨5, ![16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S1x2x1x128x256 : Shape := ⟨5, ![1, 2, 1, 128, 256]⟩
abbrev S16x2x8x128 : Shape := ⟨4, ![16, 2, 8, 128]⟩
abbrev S16x2x8x128x1 : Shape := ⟨5, ![16, 2, 8, 128, 1]⟩
abbrev S16x2x8x128x128 : Shape := ⟨5, ![16, 2, 8, 128, 128]⟩
abbrev S16x2x128x8 : Shape := ⟨4, ![16, 2, 128, 8]⟩
abbrev S16x2x128x8x1 : Shape := ⟨5, ![16, 2, 128, 8, 1]⟩
abbrev S16x256x8 : Shape := ⟨3, ![16, 256, 8]⟩
abbrev S256x16x8 : Shape := ⟨3, ![256, 16, 8]⟩
abbrev S4096x8x1 : Shape := ⟨3, ![4096, 8, 1]⟩
abbrev S1x512x1024 : Shape := ⟨3, ![1, 512, 1024]⟩
abbrev S512x1024 : Shape := ⟨2, ![512, 1024]⟩
abbrev S1x128x1024 : Shape := ⟨3, ![1, 128, 1024]⟩
abbrev S3x512x1024 : Shape := ⟨3, ![3, 512, 1024]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S640x128 : Shape := ⟨2, ![640, 128]⟩
abbrev S256x128 : Shape := ⟨2, ![256, 128]⟩
abbrev S384x128 : Shape := ⟨2, ![384, 128]⟩
abbrev S1x384x128 : Shape := ⟨3, ![1, 384, 128]⟩

abbrev nBuf : Space → Nat
  | .hbm => 126
  | .vmem => 21
  | .smem => 0
  | _ => 0

abbrev bufTy : (tb : Table) → Fin (tcTables nBuf tb) → BufTy
  | .hbm, ⟨0, _⟩ => ⟨S4096x8x128, .f32⟩
  | .hbm, ⟨1, _⟩ => ⟨S4096x8x128, .f32⟩
  | .hbm, ⟨2, _⟩ => ⟨S4096x8x128, .f32⟩
  | .hbm, ⟨3, _⟩ => ⟨S4096x8x128, .f32⟩
  | .hbm, ⟨4, _⟩ => ⟨S4096x8, .f32⟩
  | .hbm, ⟨5, _⟩ => ⟨S256x16x1024, .f32⟩
  | .hbm, ⟨6, _⟩ => ⟨S16x256x1024, .f32⟩
  | .hbm, ⟨7, _⟩ => ⟨S4096x1024, .f32⟩
  | .hbm, ⟨8, _⟩ => ⟨S256x16x1024, .f32⟩
  | .hbm, ⟨9, _⟩ => ⟨S16x256x1024, .f32⟩
  | .hbm, ⟨10, _⟩ => ⟨S4096x1024, .f32⟩
  | .hbm, ⟨11, _⟩ => ⟨S256x16x1024, .f32⟩
  | .hbm, ⟨12, _⟩ => ⟨S16x256x1024, .f32⟩
  | .hbm, ⟨13, _⟩ => ⟨S4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S3x4096x1024, .f32⟩
  | .hbm, ⟨18, _⟩ => ⟨S3x4096x1024, .bf16⟩
  | .hbm, ⟨19, _⟩ => ⟨S256x16x8x128, .f32⟩
  | .hbm, ⟨20, _⟩ => ⟨S16x256x8x128, .f32⟩
  | .hbm, ⟨21, _⟩ => ⟨S16x2x128x8x128, .f32⟩
  | .hbm, ⟨22, _⟩ => ⟨S256x16x8x128, .f32⟩
  | .hbm, ⟨23, _⟩ => ⟨S16x256x8x128, .f32⟩
  | .hbm, ⟨24, _⟩ => ⟨S16x2x128x8x128, .f32⟩
  | .hbm, ⟨25, _⟩ => ⟨S16x1x128x8x128, .f32⟩
  | .hbm, ⟨26, _⟩ => ⟨S_, .f32⟩
  | .hbm, ⟨27, _⟩ => ⟨S16x1x128x8x128, .f32⟩
  | .hbm, ⟨28, _⟩ => ⟨S16x1x128x8x128, .f32⟩
  | .hbm, ⟨29, _⟩ => ⟨S16x2x128x8x128, .f32⟩
  | .hbm, ⟨30, _⟩ => ⟨S16x2x256x8x128, .f32⟩
  | .hbm, ⟨31, _⟩ => ⟨S256x16x8x128, .f32⟩
  | .hbm, ⟨32, _⟩ => ⟨S16x256x8x128, .f32⟩
  | .hbm, ⟨33, _⟩ => ⟨S16x2x128x8x128, .f32⟩
  | .hbm, ⟨34, _⟩ => ⟨S16x1x128x8x128, .f32⟩
  | .hbm, ⟨35, _⟩ => ⟨S_, .f32⟩
  | .hbm, ⟨36, _⟩ => ⟨S16x1x128x8x128, .f32⟩
  | .hbm, ⟨37, _⟩ => ⟨S16x1x128x8x128, .f32⟩
  | .hbm, ⟨38, _⟩ => ⟨S16x2x128x8x128, .f32⟩
  | .hbm, ⟨39, _⟩ => ⟨S16x2x256x8x128, .f32⟩
  | .hbm, ⟨40, _⟩ => ⟨S16x2x8x128x256, .f32⟩
  | .hbm, ⟨41, _⟩ => ⟨S_, .f32⟩
  | .hbm, ⟨42, _⟩ => ⟨S16x2x8x128x256, .f32⟩
  | .hbm, ⟨43, _⟩ => ⟨S16x2x8x128x256, .f32⟩
  | .hbm, ⟨44, _⟩ => ⟨S128, .i32⟩
  | .hbm, ⟨45, _⟩ => ⟨S128x1, .i32⟩
  | .hbm, ⟨46, _⟩ => ⟨S256, .i32⟩
  | .hbm, ⟨47, _⟩ => ⟨S1x256, .i32⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S2, .i32⟩
  | .hbm, ⟨55, _⟩ => ⟨S2x1x1, .i32⟩
  | .hbm, ⟨56, _⟩ => ⟨S_, .i32⟩
  | .hbm, ⟨57, _⟩ => ⟨S128x256, .i32⟩
  | .hbm, ⟨58, _⟩ => ⟨S128x256, .i1⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S128x256, .i1⟩
  | .hbm, ⟨63, _⟩ => ⟨S_, .i32⟩
  | .hbm, ⟨64, _⟩ => ⟨S2x1x1, .i32⟩
  | .hbm, ⟨65, _⟩ => ⟨S2x1x1, .i1⟩
  | .hbm, ⟨66, _⟩ => ⟨S_, .i32⟩
  | .hbm, ⟨67, _⟩ => ⟨S1x256, .i32⟩
  | .hbm, ⟨68, _⟩ => ⟨S1x256, .i1⟩
  | .hbm, ⟨69, _⟩ => ⟨S1x1x256, .i1⟩
  | .hbm, ⟨70, _⟩ => ⟨S2x1x256, .i1⟩
  | .hbm, ⟨71, _⟩ => ⟨S2x1x256, .i1⟩
  | .hbm, ⟨72, _⟩ => ⟨S2x1x256, .i1⟩
  | .hbm, ⟨73, _⟩ => ⟨S1x128x256, .i1⟩
  | .hbm, ⟨74, _⟩ => ⟨S2x128x256, .i1⟩
  | .hbm, ⟨75, _⟩ => ⟨S2x128x256, .i1⟩
  | .hbm, ⟨76, _⟩ => ⟨S2x128x256, .i1⟩
  | .hbm, ⟨77, _⟩ => ⟨S1x2x1x128x256, .i1⟩
  | .hbm, ⟨78, _⟩ => ⟨S_, .f32⟩
  | .hbm, ⟨79, _⟩ => ⟨S_, .f32⟩
  | .hbm, ⟨80, _⟩ => ⟨S16x2x8x128x256, .i1⟩
  | .hbm, ⟨81, _⟩ => ⟨S16x2x8x128x256, .f32⟩
  | .hbm, ⟨82, _⟩ => ⟨S16x2x8x128x256, .f32⟩
  | .hbm, ⟨83, _⟩ => ⟨S_, .f32⟩
  | .hbm, ⟨84, _⟩ => ⟨S16x2x8x128, .f32⟩
  | .hbm, ⟨85, _⟩ => ⟨S16x2x8x128x1, .f32⟩
  | .hbm, ⟨86, _⟩ => ⟨S16x2x8x128x256, .f32⟩
  | .hbm, ⟨87, _⟩ => ⟨S16x2x8x128x256, .f32⟩
  | .hbm, ⟨88, _⟩ => ⟨S16x2x8x128x256, .f32⟩
  | .hbm, ⟨89, _⟩ => ⟨S_, .f32⟩
  | .hbm, ⟨90, _⟩ => ⟨S16x2x8x128, .f32⟩
  | .hbm, ⟨91, _⟩ => ⟨S16x2x8x128x128, .f32⟩
  | .hbm, ⟨92, _⟩ => ⟨S16x2x128x8x128, .f32⟩
  | .hbm, ⟨93, _⟩ => ⟨S16x2x128x8, .f32⟩
  | .hbm, ⟨94, _⟩ => ⟨S16x2x128x8x1, .f32⟩
  | .hbm, ⟨95, _⟩ => ⟨S16x2x128x8x128, .f32⟩
  | .hbm, ⟨96, _⟩ => ⟨S16x2x128x8x128, .f32⟩
  | .hbm, ⟨97, _⟩ => ⟨S16x2x8x128, .f32⟩
  | .hbm, ⟨98, _⟩ => ⟨S16x2x8x128, .f32⟩
  | .hbm, ⟨99, _⟩ => ⟨S16x2x8x128, .f32⟩
  | .hbm, ⟨100, _⟩ => ⟨S16x256x8x128, .f32⟩
  | .hbm, ⟨101, _⟩ => ⟨S256x16x8x128, .f32⟩
  | .hbm, ⟨102, _⟩ => ⟨S4096x8x128, .f32⟩
  | .hbm, ⟨103, _⟩ => ⟨S16x2x128x8, .f32⟩
  | .hbm, ⟨104, _⟩ => ⟨S16x256x8, .f32⟩
  | .hbm, ⟨105, _⟩ => ⟨S256x16x8, .f32⟩
  | .hbm, ⟨106, _⟩ => ⟨S4096x8, .f32⟩
  | .hbm, ⟨107, _⟩ => ⟨S4096x8x128, .f32⟩
  | .hbm, ⟨108, _⟩ => ⟨S_, .f32⟩
  | .hbm, ⟨109, _⟩ => ⟨S4096x8, .f32⟩
  | .hbm, ⟨110, _⟩ => ⟨S4096x8, .f32⟩
  | .hbm, ⟨111, _⟩ => ⟨S256x16x1024, .f32⟩
  | .hbm, ⟨112, _⟩ => ⟨S16x256x1024, .f32⟩
  | .hbm, ⟨113, _⟩ => ⟨S4096x1024, .f32⟩
  | .hbm, ⟨114, _⟩ => ⟨S4096x1024, .bf16⟩
  | .hbm, ⟨115, _⟩ => ⟨S4096x8x1, .f32⟩
  | .hbm, ⟨116, _⟩ => ⟨S4096x8x128, .f32⟩
  | .hbm, ⟨117, _⟩ => ⟨S256x16x1024, .f32⟩
  | .hbm, ⟨118, _⟩ => ⟨S16x256x1024, .f32⟩
  | .hbm, ⟨119, _⟩ => ⟨S4096x1024, .f32⟩
  | .hbm, ⟨120, _⟩ => ⟨S4096x8x1, .f32⟩
  | .hbm, ⟨121, _⟩ => ⟨S4096x8x128, .f32⟩
  | .hbm, ⟨122, _⟩ => ⟨S256x16x1024, .f32⟩
  | .hbm, ⟨123, _⟩ => ⟨S16x256x1024, .f32⟩
  | .hbm, ⟨124, _⟩ => ⟨S4096x1024, .f32⟩
  | .hbm, ⟨125, _⟩ => ⟨S3x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x128x1024, .bf16⟩
  | .local _ .vmem, ⟨15, _⟩ => ⟨S1x128x1024, .bf16⟩
  | .local _ .vmem, ⟨16, _⟩ => ⟨S3x512x1024, .bf16⟩
  | .local _ .vmem, ⟨17, _⟩ => ⟨S3x512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_2 : Ref sig .tc := ⟨.hbm, 56, rfl⟩
abbrev main_v47 : Ref sig .tc := ⟨.hbm, 57, rfl⟩
abbrev main_v48 : Ref sig .tc := ⟨.hbm, 58, rfl⟩
abbrev main_c_3 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_4 : Ref sig .tc := ⟨.hbm, 63, rfl⟩
abbrev main_v52 : Ref sig .tc := ⟨.hbm, 64, rfl⟩
abbrev main_v53 : Ref sig .tc := ⟨.hbm, 65, rfl⟩
abbrev main_c_5 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_6 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_9 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  ![c1_i32.toNat, v0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c1_i32_0 : BitVec 32 := 1#32
  let c0_i32_1 : BitVec 32 := 0#32
  let c0_i32_2 : BitVec 32 := 0#32
  ![c1_i32_0.toNat, v3.toNat, c0_i32_1.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c2_i32 : BitVec 32 := 2#32
  let c0_i32 : BitVec 32 := 0#32
  let c0_i32_0 : BitVec 32 := 0#32
  ![c2_i32.toNat, v0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c2_i32 : BitVec 32 := 2#32
  let c0_i32_0 : BitVec 32 := 0#32
  let c0_i32_1 : BitVec 32 := 0#32
  ![c2_i32.toNat, v3.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x8x128 : Shape := ⟨3, ![4096, 8, 128]⟩
abbrev S4096x8 : Shape := ⟨2, ![4096, 8]⟩
abbrev S256x16x8x128 : Shape := ⟨4, ![256, 16, 8, 128]⟩
abbrev S16x256x8x128 : Shape := ⟨4, ![16, 256, 8, 128]⟩
abbrev S16x2x128x8x128 : Shape := ⟨5, ![16, 2, 128, 8, 128]⟩
abbrev S16x1x128x8x128 : Shape := ⟨5, ![16, 1, 128, 8, 128]⟩
abbrev S_ : Shape := ⟨0, ![]⟩
abbrev S16x2x256x8x128 : Shape := ⟨5, ![16, 2, 256, 8, 128]⟩
abbrev S16x2x8x128x256 : Shape := ⟨5, ![16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S1x2x1x128x256 : Shape := ⟨5, ![1, 2, 1, 128, 256]⟩
abbrev S16x2x8x128 : Shape := ⟨4, ![16, 2, 8, 128]⟩
abbrev S16x2x8x128x1 : Shape := ⟨5, ![16, 2, 8, 128, 1]⟩
abbrev S16x2x8x128x128 : Shape := ⟨5, ![16, 2, 8, 128, 128]⟩
abbrev S16x2x128x8 : Shape := ⟨4, ![16, 2, 128, 8]⟩
abbrev S16x2x128x8x1 : Shape := ⟨5, ![16, 2, 128, 8, 1]⟩
abbrev S16x256x8 : Shape := ⟨3, ![16, 256, 8]⟩
abbrev S256x16x8 : Shape := ⟨3, ![256, 16, 8]⟩
abbrev S16x2x8x256x128 : Shape := ⟨5, ![16, 2, 8, 256, 128]⟩
abbrev S256x16x1024 : Shape := ⟨3, ![256, 16, 1024]⟩
abbrev S16x256x1024 : Shape := ⟨3, ![16, 256, 1024]⟩
abbrev S4096x1024 : Shape := ⟨2, ![4096, 1024]⟩
abbrev S1x4096x1024 : Shape := ⟨3, ![1, 4096, 1024]⟩
abbrev S3x4096x1024 : Shape := ⟨3, ![3, 4096, 1024]⟩

abbrev nBuf : Space → Nat
  | .hbm => 196
  | .vmem => 0
  | .smem => 0
  | _ => 0

abbrev hbmTy0_0 (i : Nat) : BufTy := match i % 128 with
  | 0 => ⟨S4096x8x128, .f32⟩
  | 1 => ⟨S4096x8x128, .f32⟩
  | 2 => ⟨S4096x8x128, .f32⟩
  | 3 => ⟨S4096x8x128, .f32⟩
  | 4 => ⟨S4096x8, .f32⟩
  | 5 => ⟨S256x16x8x128, .f32⟩
  | 6 => ⟨S16x256x8x128, .f32⟩
  | 7 => ⟨S16x2x128x8x128, .f32⟩
  | 8 => ⟨S256x16x8x128, .f32⟩
  | 9 => ⟨S16x256x8x128, .f32⟩
  | 10 => ⟨S16x2x128x8x128, .f32⟩
  | 11 => ⟨S16x1x128x8x128, .f32⟩
  | 12 => ⟨S_, .f32⟩
  | 13 => ⟨S16x1x128x8x128, .f32⟩
  | 14 => ⟨S16x1x128x8x128, .f32⟩
  | 15 => ⟨S16x2x128x8x128, .f32⟩
  | 16 => ⟨S_, .f32⟩
  | 17 => ⟨S16x1x128x8x128, .f32⟩
  | 18 => ⟨S16x2x256x8x128, .f32⟩
  | 19 => ⟨S256x16x8x128, .f32⟩
  | 20 => ⟨S16x256x8x128, .f32⟩
  | 21 => ⟨S16x2x128x8x128, .f32⟩
  | 22 => ⟨S16x1x128x8x128, .f32⟩
  | 23 => ⟨S_, .f32⟩
  | 24 => ⟨S16x1x128x8x128, .f32⟩
  | 25 => ⟨S16x1x128x8x128, .f32⟩
  | 26 => ⟨S16x2x128x8x128, .f32⟩
  | 27 => ⟨S_, .f32⟩
  | 28 => ⟨S16x1x128x8x128, .f32⟩
  | 29 => ⟨S16x2x256x8x128, .f32⟩
  | 30 => ⟨S16x2x8x128x256, .f32⟩
  | 31 => ⟨S_, .f32⟩
  | 32 => ⟨S16x2x8x128x256, .f32⟩
  | 33 => ⟨S16x2x8x128x256, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S2, .i32⟩
  | 45 => ⟨S2x1x1, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i1⟩
  | 52 => ⟨S128x256, .i1⟩
  | 53 => ⟨S_, .i32⟩
  | 54 => ⟨S2x1x1, .i32⟩
  | 55 => ⟨S2x1x1, .i1⟩
  | 56 => ⟨S_, .i32⟩
  | 57 => ⟨S1x256, .i32⟩
  | 58 => ⟨S1x256, .i1⟩
  | 59 => ⟨S1x1x256, .i1⟩
  | 60 => ⟨S2x1x256, .i1⟩
  | 61 => ⟨S2x1x256, .i1⟩
  | 62 => ⟨S2x1x256, .i1⟩
  | 63 => ⟨S1x128x256, .i1⟩
  | 64 => ⟨S2x128x256, .i1⟩
  | 65 => ⟨S2x128x256, .i1⟩
  | 66 => ⟨S2x128x256, .i1⟩
  | 67 => ⟨S1x2x1x128x256, .i1⟩
  | 68 => ⟨S_, .f32⟩
  | 69 => ⟨S_, .f32⟩
  | 70 => ⟨S16x2x8x128x256, .i1⟩
  | 71 => ⟨S16x2x8x128x256, .f32⟩
  | 72 => ⟨S16x2x8x128x256, .f32⟩
  | 73 => ⟨S_, .f32⟩
  | 74 => ⟨S16x2x8x128x256, .f32⟩
  | 75 => ⟨S_, .f32⟩
  | 76 => ⟨S16x2x8x128, .f32⟩
  | 77 => ⟨S16x2x8x128x1, .f32⟩
  | 78 => ⟨S16x2x8x128x256, .f32⟩
  | 79 => ⟨S16x2x8x128x256, .i1⟩
  | 80 => ⟨S16x2x8x128x256, .f32⟩
  | 81 => ⟨S_, .f32⟩
  | 82 => ⟨S16x2x8x128, .f32⟩
  | 83 => ⟨S16x2x8x128x1, .f32⟩
  | 84 => ⟨S16x2x8x128x256, .f32⟩
  | 85 => ⟨S16x2x8x128x256, .f32⟩
  | 86 => ⟨S16x2x8x128x256, .f32⟩
  | 87 => ⟨S_, .f32⟩
  | 88 => ⟨S16x2x8x128, .f32⟩
  | 89 => ⟨S16x2x8x128x128, .f32⟩
  | 90 => ⟨S16x2x128x8x128, .f32⟩
  | 91 => ⟨S16x2x128x8, .f32⟩
  | 92 => ⟨S16x2x128x8x1, .f32⟩
  | 93 => ⟨S16x2x128x8x128, .f32⟩
  | 94 => ⟨S16x2x128x8x128, .f32⟩
  | 95 => ⟨S16x2x128x8x1, .f32⟩
  | 96 => ⟨S_, .f32⟩
  | 97 => ⟨S16x2x128x8x1, .f32⟩
  | 98 => ⟨S16x2x128x8x1, .f32⟩
  | 99 => ⟨S16x2x8x128, .f32⟩
  | 100 => ⟨S16x2x8x128, .f32⟩
  | 101 => ⟨S16x2x8x128, .f32⟩
  | 102 => ⟨S16x256x8x128, .f32⟩
  | 103 => ⟨S256x16x8x128, .f32⟩
  | 104 => ⟨S4096x8x128, .f32⟩
  | 105 => ⟨S16x2x128x8, .f32⟩
  | 106 => ⟨S16x256x8, .f32⟩
  | 107 => ⟨S256x16x8, .f32⟩
  | 108 => ⟨S4096x8, .f32⟩
  | 109 => ⟨S256x16x8, .f32⟩
  | 110 => ⟨S16x256x8, .f32⟩
  | 111 => ⟨S16x2x128x8, .f32⟩
  | 112 => ⟨S16x2x8x128, .f32⟩
  | 113 => ⟨S256x16x8x128, .f32⟩
  | 114 => ⟨S16x256x8x128, .f32⟩
  | 115 => ⟨S16x2x128x8x128, .f32⟩
  | 116 => ⟨S16x2x8x128, .f32⟩
  | 117 => ⟨S16x2x8x128x1, .f32⟩
  | 118 => ⟨S16x2x128x8x128, .f32⟩
  | 119 => ⟨S16x2x128x8x128, .f32⟩
  | 120 => ⟨S16x2x128x8x128, .f32⟩
  | 121 => ⟨S_, .f32⟩
  | 122 => ⟨S16x2x128x8, .f32⟩
  | 123 => ⟨S16x2x128x8x1, .f32⟩
  | 124 => ⟨S16x2x128x8x1, .f32⟩
  | 125 => ⟨S16x2x128x8x128, .f32⟩
  | 126 => ⟨S16x2x128x8x128, .f32⟩
  | 127 => ⟨S_, .f32⟩
  | _ => ⟨S4096x8x128, .f32⟩

abbrev hbmTy0_1 (i : Nat) : BufTy := match i % 128 with
  | 0 => ⟨S16x2x128x8, .f32⟩
  | 1 => ⟨S16x2x8x128, .f32⟩
  | 2 => ⟨S16x2x8x128, .f32⟩
  | 3 => ⟨S16x2x8x128x128, .f32⟩
  | 4 => ⟨S16x2x8x128x256, .f32⟩
  | 5 => ⟨S16x2x8x128x256, .f32⟩
  | 6 => ⟨S16x2x256x8x128, .f32⟩
  | 7 => ⟨S16x2x8x128x256, .f32⟩
  | 8 => ⟨S16x2x8x128x256, .f32⟩
  | 9 => ⟨S16x2x8x128x256, .f32⟩
  | 10 => ⟨S16x2x8x128x256, .f32⟩
  | 11 => ⟨S_, .f32⟩
  | 12 => ⟨S16x2x8x128, .f32⟩
  | 13 => ⟨S16x2x8x128x1, .f32⟩
  | 14 => ⟨S16x2x8x128x1, .f32⟩
  | 15 => ⟨S_, .f32⟩
  | 16 => ⟨S16x2x8x128, .f32⟩
  | 17 => ⟨S16x2x8x128, .f32⟩
  | 18 => ⟨S16x2x8x128x256, .f32⟩
  | 19 => ⟨S16x2x8x128x256, .f32⟩
  | 20 => ⟨S16x2x8x128x256, .f32⟩
  | 21 => ⟨S_, .f32⟩
  | 22 => ⟨S16x2x8x128x256, .f32⟩
  | 23 => ⟨S16x2x8x128x256, .f32⟩
  | 24 => ⟨S_, .f32⟩
  | 25 => ⟨S16x2x8x128x256, .f32⟩
  | 26 => ⟨S16x2x8x128x256, .f32⟩
  | 27 => ⟨S16x2x8x256x128, .f32⟩
  | 28 => ⟨S16x2x256x8x128, .f32⟩
  | 29 => ⟨S16x2x8x128x128, .f32⟩
  | 30 => ⟨S16x2x128x8x128, .f32⟩
  | 31 => ⟨S16x2x128x8x128, .f32⟩
  | 32 => ⟨S16x2x128x8x128, .f32⟩
  | 33 => ⟨S16x1x128x8x128, .f32⟩
  | 34 => ⟨S16x1x128x8x128, .f32⟩
  | 35 => ⟨S_, .f32⟩
  | 36 => ⟨S16x2x128x8x128, .f32⟩
  | 37 => ⟨S16x2x128x8x128, .f32⟩
  | 38 => ⟨S16x256x8x128, .f32⟩
  | 39 => ⟨S256x16x8x128, .f32⟩
  | 40 => ⟨S4096x8x128, .f32⟩
  | 41 => ⟨S16x2x128x8x128, .f32⟩
  | 42 => ⟨S16x2x128x8x128, .f32⟩
  | 43 => ⟨S16x1x128x8x128, .f32⟩
  | 44 => ⟨S16x1x128x8x128, .f32⟩
  | 45 => ⟨S_, .f32⟩
  | 46 => ⟨S16x2x128x8x128, .f32⟩
  | 47 => ⟨S16x2x128x8x128, .f32⟩
  | 48 => ⟨S16x256x8x128, .f32⟩
  | 49 => ⟨S256x16x8x128, .f32⟩
  | 50 => ⟨S4096x8x128, .f32⟩
  | 51 => ⟨S16x256x8x128, .f32⟩
  | 52 => ⟨S256x16x8x128, .f32⟩
  | 53 => ⟨S4096x8x128, .f32⟩
  | 54 => ⟨S256x16x1024, .f32⟩
  | 55 => ⟨S16x256x1024, .f32⟩
  | 56 => ⟨S4096x1024, .f32⟩
  | 57 => ⟨S256x16x1024, .f32⟩
  | 58 => ⟨S16x256x1024, .f32⟩
  | 59 => ⟨S4096x1024, .f32⟩
  | 60 => ⟨S256x16x1024, .f32⟩
  | 61 => ⟨S16x256x1024, .f32⟩
  | 62 => ⟨S4096x1024, .f32⟩
  | 63 => ⟨S1x4096x1024, .f32⟩
  | 64 => ⟨S1x4096x1024, .f32⟩
  | 65 => ⟨S1x4096x1024, .f32⟩
  | 66 => ⟨S3x4096x1024, .f32⟩
  | 67 => ⟨S3x4096x1024, .bf16⟩
  | _ => ⟨S4096x8x128, .f32⟩

abbrev hbmTy (i : Nat) : BufTy := match i / 128 with
  | 0 => hbmTy0_0 i
  | 1 => hbmTy0_1 i
  | _ => ⟨S4096x8x128, .f32⟩

abbrev bufTy : (tb : Table) → Fin (tcTables nBuf tb) → BufTy
  | .hbm, ⟨i, _⟩ => hbmTy i
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_call0_v0 : Ref sig .tc := ⟨.hbm, 69, rfl⟩
abbrev main_v53_1 : Ref sig .tc := ⟨.hbm, 70, rfl⟩
abbrev main_call0_v2 : Ref sig .tc := ⟨.hbm, 71, rfl⟩
abbrev main_v53_0 : Ref sig .tc := ⟨.hbm, 72, rfl⟩
abbrev main_call0_cst : Ref sig .tc := ⟨.hbm, 73, rfl⟩
abbrev main_v53_2 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_13 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_14 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_15 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_16 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_call1_cst : Ref sig .tc := ⟨.hbm, 149, rfl⟩
abbrev main_call1_v0 : Ref sig .tc := ⟨.hbm, 150, rfl⟩
abbrev main_v120 : Ref sig .tc := ⟨.hbm, 151, rfl⟩
abbrev main_cst_17 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_18 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_19 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩

abbrev nD : Nat := 1
abbrev τ : Topo := Topo.v7x

variable {F : FTy → Type} [FloatOps F]
-- ==== Kernel2.lean ====
abbrev S4096x16384 : Shape := ⟨2, ![4096, 16384]⟩
abbrev S4096x2048 : Shape := ⟨2, ![4096, 2048]⟩
abbrev S2048x16384 : Shape := ⟨2, ![2048, 16384]⟩
abbrev S4096x1024 : Shape := ⟨2, ![4096, 1024]⟩
abbrev S4096x1x1024 : Shape := ⟨3, ![4096, 1, 1024]⟩
abbrev S1x4096x1024 : Shape := ⟨3, ![1, 4096, 1024]⟩
abbrev S3x4096x1024 : Shape := ⟨3, ![3, 4096, 1024]⟩
abbrev S1024x4x1024 : Shape := ⟨3, ![1024, 4, 1024]⟩
abbrev S4x1024x1024 : Shape := ⟨3, ![4, 1024, 1024]⟩
abbrev S256x16x1024 : Shape := ⟨3, ![256, 16, 1024]⟩
abbrev S16x256x1024 : Shape := ⟨3, ![16, 256, 1024]⟩
abbrev S2048x4x4096 : Shape := ⟨3, ![2048, 4, 4096]⟩
abbrev S4x2048x4096 : Shape := ⟨3, ![4, 2048, 4096]⟩
abbrev S3x1x4096x1024 : Shape := ⟨4, ![3, 1, 4096, 1024]⟩
abbrev S3x4x1024x1024 : Shape := ⟨4, ![3, 4, 1024, 1024]⟩
abbrev S3x16x256x1024 : Shape := ⟨4, ![3, 16, 256, 1024]⟩
abbrev S1x1x512x1024 : Shape := ⟨4, ![1, 1, 512, 1024]⟩
abbrev S1x4x128x1024 : Shape := ⟨4, ![1, 4, 128, 1024]⟩
abbrev S1x16x32x1024 : Shape := ⟨4, ![1, 16, 32, 1024]⟩
abbrev S512x1024 : Shape := ⟨2, ![512, 1024]⟩
abbrev S1x2048x1024 : Shape := ⟨3, ![1, 2048, 1024]⟩
abbrev S512x2048 : Shape := ⟨2, ![512, 2048]⟩
abbrev S8x512x128 : Shape := ⟨3, ![8, 512, 128]⟩
abbrev S2048x1024 : Shape := ⟨2, ![2048, 1024]⟩
abbrev S1x1x128x1024 : Shape := ⟨4, ![1, 1, 128, 1024]⟩
abbrev S128x1024 : Shape := ⟨2, ![128, 1024]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S1x1x32x1024 : Shape := ⟨4, ![1, 1, 32, 1024]⟩
abbrev S32x1024 : Shape := ⟨2, ![32, 1024]⟩
abbrev S32x128 : Shape := ⟨2, ![32, 128]⟩
abbrev S1x32x128 : Shape := ⟨3, ![1, 32, 128]⟩

abbrev nBuf : Space → Nat
  | .hbm => 71
  | .vmem => 24
  | .smem => 0
  | _ => 0

abbrev bufTy : (tb : Table) → Fin (tcTables nBuf tb) → BufTy
  | .hbm, ⟨0, _⟩ => ⟨S4096x16384, .f32⟩
  | .hbm, ⟨1, _⟩ => ⟨S4096x2048, .f32⟩
  | .hbm, ⟨2, _⟩ => ⟨S2048x16384, .f32⟩
  | .hbm, ⟨3, _⟩ => ⟨S4096x1024, .f32⟩
  | .hbm, ⟨4, _⟩ => ⟨S4096x1x1024, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S4096x1x1024, .f32⟩
  | .hbm, ⟨9, _⟩ => ⟨S1x4096x1024, .f32⟩
  | .hbm, ⟨10, _⟩ => ⟨S4096x1024, .f32⟩
  | .hbm, ⟨11, _⟩ => ⟨S4096x1024, .f32⟩
  | .hbm, ⟨12, _⟩ => ⟨S4096x1x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S3x4096x1024, .f32⟩
  | .hbm, ⟨19, _⟩ => ⟨S3x4096x1024, .bf16⟩
  | .hbm, ⟨20, _⟩ => ⟨S4096x1024, .f32⟩
  | .hbm, ⟨21, _⟩ => ⟨S1024x4x1024, .f32⟩
  | .hbm, ⟨22, _⟩ => ⟨S4x1024x1024, .f32⟩
  | .hbm, ⟨23, _⟩ => ⟨S4096x1024, .f32⟩
  | .hbm, ⟨24, _⟩ => ⟨S4096x1024, .f32⟩
  | .hbm, ⟨25, _⟩ => ⟨S1024x4x1024, .f32⟩
  | .hbm, ⟨26, _⟩ => ⟨S4x1024x1024, .f32⟩
  | .hbm, ⟨27, _⟩ => ⟨S4096x1024, .f32⟩
  | .hbm, ⟨28, _⟩ => ⟨S4096x1024, .f32⟩
  | .hbm, ⟨29, _⟩ => ⟨S1024x4x1024, .f32⟩
  | .hbm, ⟨30, _⟩ => ⟨S4x1024x1024, .f32⟩
  | .hbm, ⟨31, _⟩ => ⟨S4096x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S3x4096x1024, .f32⟩
  | .hbm, ⟨36, _⟩ => ⟨S3x4096x1024, .bf16⟩
  | .hbm, ⟨37, _⟩ => ⟨S4096x1024, .f32⟩
  | .hbm, ⟨38, _⟩ => ⟨S256x16x1024, .f32⟩
  | .hbm, ⟨39, _⟩ => ⟨S16x256x1024, .f32⟩
  | .hbm, ⟨40, _⟩ => ⟨S4096x1024, .f32⟩
  | .hbm, ⟨41, _⟩ => ⟨S4096x1024, .f32⟩
  | .hbm, ⟨42, _⟩ => ⟨S256x16x1024, .f32⟩
  | .hbm, ⟨43, _⟩ => ⟨S16x256x1024, .f32⟩
  | .hbm, ⟨44, _⟩ => ⟨S4096x1024, .f32⟩
  | .hbm, ⟨45, _⟩ => ⟨S4096x1024, .f32⟩
  | .hbm, ⟨46, _⟩ => ⟨S256x16x1024, .f32⟩
  | .hbm, ⟨47, _⟩ => ⟨S16x256x1024, .f32⟩
  | .hbm, ⟨48, _⟩ => ⟨S4096x1024, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S3x4096x1024, .f32⟩
  | .hbm, ⟨53, _⟩ => ⟨S3x4096x1024, .bf16⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x2048, .f32⟩
  | .hbm, ⟨58, _⟩ => ⟨S4096x2048, .f32⟩
  | .hbm, ⟨59, _⟩ => ⟨S4096x1024, .bf16⟩
  | .hbm, ⟨60, _⟩ => ⟨S4096x1024, .bf16⟩
  | .hbm, ⟨61, _⟩ => ⟨S4096x1024, .bf16⟩
  | .hbm, ⟨62, _⟩ => ⟨S4096x2048, .bf16⟩
  | .hbm, ⟨63, _⟩ => ⟨S4096x2048, .bf16⟩
  | .hbm, ⟨64, _⟩ => ⟨S2048x4x4096, .f32⟩
  | .hbm, ⟨65, _⟩ => ⟨S4x2048x4096, .f32⟩
  | .hbm, ⟨66, _⟩ => ⟨S4x2048x4096, .bf16⟩
  | .hbm, ⟨67, _⟩ => ⟨S3x1x4096x1024, .bf16⟩
  | .hbm, ⟨68, _⟩ => ⟨S3x4x1024x1024, .bf16⟩
  | .hbm, ⟨69, _⟩ => ⟨S3x16x256x1024, .bf16⟩
  | .hbm, ⟨70, _⟩ => ⟨S4096x2048, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x4x128x1024, .bf16⟩
  | .local _ .vmem, ⟨3, _⟩ => ⟨S1x4x128x1024, .bf16⟩
  | .local _ .vmem, ⟨4, _⟩ => ⟨S1x16x32x1024, .bf16⟩
  | .local _ .vmem, ⟨5, _⟩ => ⟨S1x16x32x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | .local _ .vmem, ⟨23, _⟩ => ⟨S8x512x128, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

def k0_cond10 (i : grid0.Coords) : BitVec 1 :=
  let arg1 : BitVec 32 := BitVec.ofNat 32 (i 1).val
  let c15_i32 : BitVec 32 := 15#32
  let v97 : BitVec 1 := Scalar.cmpi .eq arg1 c15_i32
  let v98 : BitVec 32 := Scalar.extui v97
  let c0_i32_40 : BitVec 32 := 0#32
  let v99 : BitVec 1 := Scalar.cmpi .ne v98 c0_i32_40
  v99

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.minsi v16 c8_i32
  let c3_i32 : BitVec 32 := 3#32
  let v18 : BitVec 32 := Scalar.divsi v17 c3_i32
  let c0_i32_5 : BitVec 32 := 0#32
  let v19 : BitVec 1 := Scalar.cmpi .sgt v17 c0_i32_5
  let v20 : BitVec 32 := Scalar.extui v19
  let c0_i32_6 : BitVec 32 := 0#32
  let v21 : BitVec 1 := Scalar.cmpi .slt v17 c0_i32_6
  let v22 : BitVec 32 := Scalar.extui v21
  let v23 : BitVec 32 := Scalar.subi v20 v22
  let c0_i32_7 : BitVec 32 := 0#32
  let v24 : BitVec 1 := Scalar.cmpi .sgt c3_i32 c0_i32_7
  let v25 : BitVec 32 := Scalar.extui v24
  let c0_i32_8 : BitVec 32 := 0#32
  let v26 : BitVec 1 := Scalar.cmpi .slt c3_i32 c0_i32_8
  let v27 : BitVec 32 := Scalar.extui v26
  let v28 : BitVec 32 := Scalar.subi v25 v27
  let v29 : BitVec 1 := Scalar.cmpi .ne v23 v28
  let v30 : BitVec 32 := Scalar.remsi v17 c3_i32
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c9_i32 : BitVec 32 := 9#32
  let v35 : BitVec 1 := Scalar.cmpi .slt arg1 c9_i32
  let c1_i32_11 : BitVec 32 := 1#32
  let c0_i32_12 : BitVec 32 := 0#32
  let v36 : BitVec 1 := Scalar.cmpi .eq c1_i32_11 c0_i32_12
  let c1_i32_13 : BitVec 32 := 1#32
  let v37 : BitVec 32 := Scalar.select v36 c1_i32_13 c1_i32_11
  let v38 : BitVec 32 := Scalar.remsi arg1 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c0_i32_17 : BitVec 32 := 0#32
  let v46 : BitVec 32 := Scalar.select v35 v45 c0_i32_17
  let c0_i32_18 : BitVec 32 := 0#32
  let c0_i32_19 : BitVec 32 := 0#32
  ![v34.toNat, c0_i32_18.toNat, arg0.toNat, v46.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.minsi v16 c8_i32
  let c3_i32 : BitVec 32 := 3#32
  let v18 : BitVec 32 := Scalar.divsi v17 c3_i32
  let c0_i32_5 : BitVec 32 := 0#32
  let v19 : BitVec 1 := Scalar.cmpi .sgt v17 c0_i32_5
  let v20 : BitVec 32 := Scalar.extui v19
  let c0_i32_6 : BitVec 32 := 0#32
  let v21 : BitVec 1 := Scalar.cmpi .slt v17 c0_i32_6
  let v22 : BitVec 32 := Scalar.extui v21
  let v23 : BitVec 32 := Scalar.subi v20 v22
  let c0_i32_7 : BitVec 32 := 0#32
  let v24 : BitVec 1 := Scalar.cmpi .sgt c3_i32 c0_i32_7
  let v25 : BitVec 32 := Scalar.extui v24
  let c0_i32_8 : BitVec 32 := 0#32
  let v26 : BitVec 1 := Scalar.cmpi .slt c3_i32 c0_i32_8
  let v27 : BitVec 32 := Scalar.extui v26
  let v28 : BitVec 32 := Scalar.subi v25 v27
  let v29 : BitVec 1 := Scalar.cmpi .ne v23 v28
  let v30 : BitVec 32 := Scalar.remsi v17 c3_i32
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c9_i32 : BitVec 32 := 9#32
  let v35 : BitVec 1 := Scalar.cmpi .slt arg1 c9_i32
  let c1_i32_11 : BitVec 32 := 1#32
  let c0_i32_12 : BitVec 32 := 0#32
  let v36 : BitVec 1 := Scalar.cmpi .eq c1_i32_11 c0_i32_12
  let c1_i32_13 : BitVec 32 := 1#32
  let v37 : BitVec 32 := Scalar.select v36 c1_i32_13 c1_i32_11
  let v38 : BitVec 32 := Scalar.remsi arg1 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c0_i32_17 : BitVec 32 := 0#32
  let v46 : BitVec 32 := Scalar.select v35 v45 c0_i32_17
  let c0_i32_18 : BitVec 32 := 0#32
  let c0_i32_19 : BitVec 32 := 0#32
  ![v34.toNat, c0_i32_18.toNat, arg0.toNat, v46.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.minsi v16 c8_i32
  let c3_i32 : BitVec 32 := 3#32
  let v18 : BitVec 32 := Scalar.divsi v17 c3_i32
  let c0_i32_5 : BitVec 32 := 0#32
  let v19 : BitVec 1 := Scalar.cmpi .sgt v17 c0_i32_5
  let v20 : BitVec 32 := Scalar.extui v19
  let c0_i32_6 : BitVec 32 := 0#32
  let v21 : BitVec 1 := Scalar.cmpi .slt v17 c0_i32_6
  let v22 : BitVec 32 := Scalar.extui v21
  let v23 : BitVec 32 := Scalar.subi v20 v22
  let c0_i32_7 : BitVec 32 := 0#32
  let v24 : BitVec 1 := Scalar.cmpi .sgt c3_i32 c0_i32_7
  let v25 : BitVec 32 := Scalar.extui v24
  let c0_i32_8 : BitVec 32 := 0#32
  let v26 : BitVec 1 := Scalar.cmpi .slt c3_i32 c0_i32_8
  let v27 : BitVec 32 := Scalar.extui v26
  let v28 : BitVec 32 := Scalar.subi v25 v27
  let v29 : BitVec 1 := Scalar.cmpi .ne v23 v28
  let v30 : BitVec 32 := Scalar.remsi v17 c3_i32
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c9_i32 : BitVec 32 := 9#32
  let v35 : BitVec 1 := Scalar.cmpi .slt arg1 c9_i32
  let c1_i32_11 : BitVec 32 := 1#32
  let c0_i32_12 : BitVec 32 := 0#32
  let v36 : BitVec 1 := Scalar.cmpi .eq c1_i32_11 c0_i32_12
  let c1_i32_13 : BitVec 32 := 1#32
  let v37 : BitVec 32 := Scalar.select v36 c1_i32_13 c1_i32_11
  let v38 : BitVec 32 := Scalar.remsi arg1 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c0_i32_17 : BitVec 32 := 0#32
  let v46 : BitVec 32 := Scalar.select v35 v45 c0_i32_17
  let c0_i32_18 : BitVec 32 := 0#32
  let c0_i32_19 : BitVec 32 := 0#32
  ![v34.toNat, c0_i32_18.toNat, arg0.toNat, v46.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S4096x16384 : Shape := ⟨2, ![4096, 16384]⟩
abbrev S4096x2048 : Shape := ⟨2, ![4096, 2048]⟩
abbrev S2048x16384 : Shape := ⟨2, ![2048, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x2048, .f32⟩
  | .hbm, ⟨2, _⟩ => ⟨S2048x16384, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x16384, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel3.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S4096x1x1024 : Shape := ⟨3, ![4096, 1, 1024]⟩
abbrev S1x4096x1024 : Shape := ⟨3, ![1, 4096, 1024]⟩
abbrev S3x4096x1024 : Shape := ⟨3, ![3, 4096, 1024]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 27
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S4096x1x1024, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S4096x1x1024, .f32⟩
  | .hbm, ⟨9, _⟩ => ⟨S1x4096x1024, .f32⟩
  | .hbm, ⟨10, _⟩ => ⟨S4096x1024, .f32⟩
  | .hbm, ⟨11, _⟩ => ⟨S4096x1024, .f32⟩
  | .hbm, ⟨12, _⟩ => ⟨S4096x1x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S3x4096x1024, .f32⟩
  | .hbm, ⟨19, _⟩ => ⟨S3x4096x1024, .bf16⟩
  | .hbm, ⟨20, _⟩ => ⟨S4096x1x2048, .f32⟩
  | .hbm, ⟨21, _⟩ => ⟨S1x4096x2048, .f32⟩
  | .hbm, ⟨22, _⟩ => ⟨S4096x2048, .f32⟩
  | .hbm, ⟨23, _⟩ => ⟨S2048x4096, .f32⟩
  | .hbm, ⟨24, _⟩ => ⟨S2048x4096, .bf16⟩
  | .hbm, ⟨25, _⟩ => ⟨S4x2048x4096, .bf16⟩
  | .hbm, ⟨26, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.muli v16 c3_i32
  let c0_i32_5 : BitVec 32 := 0#32
  let v18 : BitVec 32 := Scalar.addi v17 c0_i32_5
  let c1_i32_6 : BitVec 32 := 1#32
  let v19 : BitVec 32 := Scalar.muli v18 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c4_i32 : BitVec 32 := 4#32
  let v31 : BitVec 32 := Scalar.divsi v30 c4_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c1_i32_19 : BitVec 32 := 1#32
  let v48 : BitVec 32 := Scalar.divsi arg0 c1_i32_19
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .slt arg0 c0_i32_21
  let v52 : BitVec 32 := Scalar.extui v51
  let v53 : BitVec 32 := Scalar.subi v50 v52
  let c0_i32_22 : BitVec 32 := 0#32
  let v54 : BitVec 1 := Scalar.cmpi .sgt c1_i32_19 c0_i32_22
  let v55 : BitVec 32 := Scalar.extui v54
  let c0_i32_23 : BitVec 32 := 0#32
  let v56 : BitVec 1 := Scalar.cmpi .slt c1_i32_19 c0_i32_23
  let v57 : BitVec 32 := Scalar.extui v56
  let v58 : BitVec 32 := Scalar.subi v55 v57
  let v59 : BitVec 1 := Scalar.cmpi .ne v53 v58
  let v60 : BitVec 32 := Scalar.remsi arg0 c1_i32_19
  let c0_i32_24 : BitVec 32 := 0#32
  let v61 : BitVec 1 := Scalar.cmpi .ne v60 c0_i32_24
  let v62 : BitVec 1 := Scalar.andi v59 v61
  let c1_i32_25 : BitVec 32 := 1#32
  let v63 : BitVec 32 := Scalar.subi v48 c1_i32_25
  let v64 : BitVec 32 := Scalar.select v62 v63 v48
  let c3_i32_26 : BitVec 32 := 3#32
  let v65 : BitVec 32 := Scalar.muli v64 c3_i32_26
  let c0_i32_27 : BitVec 32 := 0#32
  let v66 : BitVec 32 := Scalar.addi v65 c0_i32_27
  let c1_i32_28 : BitVec 32 := 1#32
  let v67 : BitVec 32 := Scalar.muli v66 c1_i32_28
  let c1_i32_29 : BitVec 32 := 1#32
  let c0_i32_30 : BitVec 32 := 0#32
  let v68 : BitVec 1 := Scalar.cmpi .eq c1_i32_29 c0_i32_30
  let c1_i32_31 : BitVec 32 := 1#32
  let v69 : BitVec 32 := Scalar.select v68 c1_i32_31 c1_i32_29
  let v70 : BitVec 32 := Scalar.remsi arg0 v69
  let c0_i32_32 : BitVec 32 := 0#32
  let v71 : BitVec 1 := Scalar.cmpi .ne v70 c0_i32_32
  let c0_i32_33 : BitVec 32 := 0#32
  let v72 : BitVec 1 := Scalar.cmpi .slt v70 c0_i32_33
  let c0_i32_34 : BitVec 32 := 0#32
  let v73 : BitVec 1 := Scalar.cmpi .slt v69 c0_i32_34
  let v74 : BitVec 1 := Scalar.xori v72 v73
  let v75 : BitVec 1 := Scalar.andi v74 v71
  let v76 : BitVec 32 := Scalar.addi v70 v69
  let v77 : BitVec 32 := Scalar.select v75 v76 v70
  let v78 : BitVec 32 := Scalar.addi v67 v77
  let c4_i32_35 : BitVec 32 := 4#32
  let c0_i32_36 : BitVec 32 := 0#32
  let v79 : BitVec 1 := Scalar.cmpi .eq c4_i32_35 c0_i32_36
  let c1_i32_37 : BitVec 32 := 1#32
  let v80 : BitVec 32 := Scalar.select v79 c1_i32_37 c4_i32_35
  let v81 : BitVec 32 := Scalar.remsi v78 v80
  let c0_i32_38 : BitVec 32 := 0#32
  let v82 : BitVec 1 := Scalar.cmpi .ne v81 c0_i32_38
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let v86 : BitVec 1 := Scalar.andi v85 v82
  let v87 : BitVec 32 := Scalar.addi v81 v80
  let v88 : BitVec 32 := Scalar.select v86 v87 v81
  let c0_i32_41 : BitVec 32 := 0#32
  ![v47.toNat, arg1.toNat, v88.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S4096x1x1024 : Shape := ⟨3, ![4096, 1, 1024]⟩
abbrev S1x4096x1024 : Shape := ⟨3, ![1, 4096, 1024]⟩
abbrev S3x4096x1024 : Shape := ⟨3, ![3, 4096, 1024]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 27
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S4096x1x1024, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S4096x1x1024, .f32⟩
  | .hbm, ⟨9, _⟩ => ⟨S1x4096x1024, .f32⟩
  | .hbm, ⟨10, _⟩ => ⟨S4096x1024, .f32⟩
  | .hbm, ⟨11, _⟩ => ⟨S4096x1024, .f32⟩
  | .hbm, ⟨12, _⟩ => ⟨S4096x1x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S3x4096x1024, .f32⟩
  | .hbm, ⟨19, _⟩ => ⟨S3x4096x1024, .bf16⟩
  | .hbm, ⟨20, _⟩ => ⟨S4096x1x2048, .f32⟩
  | .hbm, ⟨21, _⟩ => ⟨S1x4096x2048, .f32⟩
  | .hbm, ⟨22, _⟩ => ⟨S4096x2048, .f32⟩
  | .hbm, ⟨23, _⟩ => ⟨S2048x4096, .f32⟩
  | .hbm, ⟨24, _⟩ => ⟨S2048x4096, .bf16⟩
  | .hbm, ⟨25, _⟩ => ⟨S4x2048x4096, .bf16⟩
  | .hbm, ⟨26, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.muli v16 c3_i32
  let c0_i32_5 : BitVec 32 := 0#32
  let v18 : BitVec 32 := Scalar.addi v17 c0_i32_5
  let c1_i32_6 : BitVec 32 := 1#32
  let v19 : BitVec 32 := Scalar.muli v18 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c4_i32 : BitVec 32 := 4#32
  let v31 : BitVec 32 := Scalar.divsi v30 c4_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c1_i32_19 : BitVec 32 := 1#32
  let v48 : BitVec 32 := Scalar.divsi arg0 c1_i32_19
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .slt arg0 c0_i32_21
  let v52 : BitVec 32 := Scalar.extui v51
  let v53 : BitVec 32 := Scalar.subi v50 v52
  let c0_i32_22 : BitVec 32 := 0#32
  let v54 : BitVec 1 := Scalar.cmpi .sgt c1_i32_19 c0_i32_22
  let v55 : BitVec 32 := Scalar.extui v54
  let c0_i32_23 : BitVec 32 := 0#32
  let v56 : BitVec 1 := Scalar.cmpi .slt c1_i32_19 c0_i32_23
  let v57 : BitVec 32 := Scalar.extui v56
  let v58 : BitVec 32 := Scalar.subi v55 v57
  let v59 : BitVec 1 := Scalar.cmpi .ne v53 v58
  let v60 : BitVec 32 := Scalar.remsi arg0 c1_i32_19
  let c0_i32_24 : BitVec 32 := 0#32
  let v61 : BitVec 1 := Scalar.cmpi .ne v60 c0_i32_24
  let v62 : BitVec 1 := Scalar.andi v59 v61
  let c1_i32_25 : BitVec 32 := 1#32
  let v63 : BitVec 32 := Scalar.subi v48 c1_i32_25
  let v64 : BitVec 32 := Scalar.select v62 v63 v48
  let c3_i32_26 : BitVec 32 := 3#32
  let v65 : BitVec 32 := Scalar.muli v64 c3_i32_26
  let c0_i32_27 : BitVec 32 := 0#32
  let v66 : BitVec 32 := Scalar.addi v65 c0_i32_27
  let c1_i32_28 : BitVec 32 := 1#32
  let v67 : BitVec 32 := Scalar.muli v66 c1_i32_28
  let c1_i32_29 : BitVec 32 := 1#32
  let c0_i32_30 : BitVec 32 := 0#32
  let v68 : BitVec 1 := Scalar.cmpi .eq c1_i32_29 c0_i32_30
  let c1_i32_31 : BitVec 32 := 1#32
  let v69 : BitVec 32 := Scalar.select v68 c1_i32_31 c1_i32_29
  let v70 : BitVec 32 := Scalar.remsi arg0 v69
  let c0_i32_32 : BitVec 32 := 0#32
  let v71 : BitVec 1 := Scalar.cmpi .ne v70 c0_i32_32
  let c0_i32_33 : BitVec 32 := 0#32
  let v72 : BitVec 1 := Scalar.cmpi .slt v70 c0_i32_33
  let c0_i32_34 : BitVec 32 := 0#32
  let v73 : BitVec 1 := Scalar.cmpi .slt v69 c0_i32_34
  let v74 : BitVec 1 := Scalar.xori v72 v73
  let v75 : BitVec 1 := Scalar.andi v74 v71
  let v76 : BitVec 32 := Scalar.addi v70 v69
  let v77 : BitVec 32 := Scalar.select v75 v76 v70
  let v78 : BitVec 32 := Scalar.addi v67 v77
  let c4_i32_35 : BitVec 32 := 4#32
  let c0_i32_36 : BitVec 32 := 0#32
  let v79 : BitVec 1 := Scalar.cmpi .eq c4_i32_35 c0_i32_36
  let c1_i32_37 : BitVec 32 := 1#32
  let v80 : BitVec 32 := Scalar.select v79 c1_i32_37 c4_i32_35
  let v81 : BitVec 32 := Scalar.remsi v78 v80
  let c0_i32_38 : BitVec 32 := 0#32
  let v82 : BitVec 1 := Scalar.cmpi .ne v81 c0_i32_38
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let v86 : BitVec 1 := Scalar.andi v85 v82
  let v87 : BitVec 32 := Scalar.addi v81 v80
  let v88 : BitVec 32 := Scalar.select v86 v87 v81
  let c0_i32_41 : BitVec 32 := 0#32
  ![v47.toNat, arg1.toNat, v88.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S_ : Shape := ⟨0, ![]⟩
abbrev S2048x16384 : Shape := ⟨2, ![2048, 16384]⟩
abbrev S16384x2048 : Shape := ⟨2, ![16384, 2048]⟩
abbrev S2048x4x4x1024 : Shape := ⟨4, ![2048, 4, 4, 1024]⟩
abbrev S4x2048x4x1024 : Shape := ⟨4, ![4, 2048, 4, 1024]⟩
abbrev S16 : Shape := ⟨1, ![16]⟩
abbrev S4x1x4x1 : Shape := ⟨4, ![4, 1, 4, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S2048x16384, .f32⟩
  | .hbm, ⟨5, _⟩ => ⟨S4096x16384, .f32⟩
  | .hbm, ⟨6, _⟩ => ⟨S16384x2048, .f32⟩
  | .hbm, ⟨7, _⟩ => ⟨S2048x16384, .f32⟩
  | .hbm, ⟨8, _⟩ => ⟨S2048x4x4x1024, .f32⟩
  | .hbm, ⟨9, _⟩ => ⟨S4x2048x4x1024, .f32⟩
  | .hbm, ⟨10, _⟩ => ⟨S16, .i32⟩
  | .hbm, ⟨11, _⟩ => ⟨S4x1x4x1, .i32⟩
  | .hbm, ⟨12, _⟩ => ⟨S_, .i32⟩
  | .hbm, ⟨13, _⟩ => ⟨S4x1x4x1, .i32⟩
  | .hbm, ⟨14, _⟩ => ⟨S4x1x4x1, .i1⟩
  | .hbm, ⟨15, _⟩ => ⟨S_, .i32⟩
  | .hbm, ⟨16, _⟩ => ⟨S4x1x4x1, .i32⟩
  | .hbm, ⟨17, _⟩ => ⟨S4x1x4x1, .i1⟩
  | .hbm, ⟨18, _⟩ => ⟨S4x1x4x1, .i1⟩
  | .hbm, ⟨19, _⟩ => ⟨S_, .i32⟩
  | .hbm, ⟨20, _⟩ => ⟨S4x1x4x1, .i32⟩
  | .hbm, ⟨21, _⟩ => ⟨S4x1x4x1, .i1⟩
  | .hbm, ⟨22, _⟩ => ⟨S4x1x4x1, .i1⟩
  | .hbm, ⟨23, _⟩ => ⟨S4x2048x4x1024, .f32⟩
  | .hbm, ⟨24, _⟩ => ⟨S4x2048x4x1024, .i1⟩
  | .hbm, ⟨25, _⟩ => ⟨S4x2048x4x1024, .f32⟩
  | .hbm, ⟨26, _⟩ => ⟨S4x2048x4096, .f32⟩
  | .hbm, ⟨27, _⟩ => ⟨S4x2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel4.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x4096x1024 : Shape := ⟨3, ![1, 4096, 1024]⟩
abbrev S3x4096x1024 : Shape := ⟨3, ![3, 4096, 1024]⟩
abbrev S1024x4x2048 : Shape := ⟨3, ![1024, 4, 2048]⟩
abbrev S4x1024x2048 : Shape := ⟨3, ![4, 1024, 2048]⟩
abbrev S2048x4096 : Shape := ⟨2, ![2048, 4096]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 27
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S1024x4x1024, .f32⟩
  | .hbm, ⟨5, _⟩ => ⟨S4x1024x1024, .f32⟩
  | .hbm, ⟨6, _⟩ => ⟨S4096x1024, .f32⟩
  | .hbm, ⟨7, _⟩ => ⟨S4096x1024, .f32⟩
  | .hbm, ⟨8, _⟩ => ⟨S1024x4x1024, .f32⟩
  | .hbm, ⟨9, _⟩ => ⟨S4x1024x1024, .f32⟩
  | .hbm, ⟨10, _⟩ => ⟨S4096x1024, .f32⟩
  | .hbm, ⟨11, _⟩ => ⟨S4096x1024, .f32⟩
  | .hbm, ⟨12, _⟩ => ⟨S1024x4x1024, .f32⟩
  | .hbm, ⟨13, _⟩ => ⟨S4x1024x1024, .f32⟩
  | .hbm, ⟨14, _⟩ => ⟨S4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S3x4096x1024, .f32⟩
  | .hbm, ⟨19, _⟩ => ⟨S3x4096x1024, .bf16⟩
  | .hbm, ⟨20, _⟩ => ⟨S1024x4x2048, .f32⟩
  | .hbm, ⟨21, _⟩ => ⟨S4x1024x2048, .f32⟩
  | .hbm, ⟨22, _⟩ => ⟨S4096x2048, .f32⟩
  | .hbm, ⟨23, _⟩ => ⟨S2048x4096, .f32⟩
  | .hbm, ⟨24, _⟩ => ⟨S2048x4096, .bf16⟩
  | .hbm, ⟨25, _⟩ => ⟨S4x2048x4096, .bf16⟩
  | .hbm, ⟨26, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.muli v16 c3_i32
  let c1_i32_5 : BitVec 32 := 1#32
  let v18 : BitVec 32 := Scalar.addi v17 c1_i32_5
  let c1_i32_6 : BitVec 32 := 1#32
  let v19 : BitVec 32 := Scalar.muli v18 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c4_i32 : BitVec 32 := 4#32
  let v31 : BitVec 32 := Scalar.divsi v30 c4_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c1_i32_19 : BitVec 32 := 1#32
  let v48 : BitVec 32 := Scalar.divsi arg0 c1_i32_19
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .slt arg0 c0_i32_21
  let v52 : BitVec 32 := Scalar.extui v51
  let v53 : BitVec 32 := Scalar.subi v50 v52
  let c0_i32_22 : BitVec 32 := 0#32
  let v54 : BitVec 1 := Scalar.cmpi .sgt c1_i32_19 c0_i32_22
  let v55 : BitVec 32 := Scalar.extui v54
  let c0_i32_23 : BitVec 32 := 0#32
  let v56 : BitVec 1 := Scalar.cmpi .slt c1_i32_19 c0_i32_23
  let v57 : BitVec 32 := Scalar.extui v56
  let v58 : BitVec 32 := Scalar.subi v55 v57
  let v59 : BitVec 1 := Scalar.cmpi .ne v53 v58
  let v60 : BitVec 32 := Scalar.remsi arg0 c1_i32_19
  let c0_i32_24 : BitVec 32 := 0#32
  let v61 : BitVec 1 := Scalar.cmpi .ne v60 c0_i32_24
  let v62 : BitVec 1 := Scalar.andi v59 v61
  let c1_i32_25 : BitVec 32 := 1#32
  let v63 : BitVec 32 := Scalar.subi v48 c1_i32_25
  let v64 : BitVec 32 := Scalar.select v62 v63 v48
  let c3_i32_26 : BitVec 32 := 3#32
  let v65 : BitVec 32 := Scalar.muli v64 c3_i32_26
  let c1_i32_27 : BitVec 32 := 1#32
  let v66 : BitVec 32 := Scalar.addi v65 c1_i32_27
  let c1_i32_28 : BitVec 32 := 1#32
  let v67 : BitVec 32 := Scalar.muli v66 c1_i32_28
  let c1_i32_29 : BitVec 32 := 1#32
  let c0_i32_30 : BitVec 32 := 0#32
  let v68 : BitVec 1 := Scalar.cmpi .eq c1_i32_29 c0_i32_30
  let c1_i32_31 : BitVec 32 := 1#32
  let v69 : BitVec 32 := Scalar.select v68 c1_i32_31 c1_i32_29
  let v70 : BitVec 32 := Scalar.remsi arg0 v69
  let c0_i32_32 : BitVec 32 := 0#32
  let v71 : BitVec 1 := Scalar.cmpi .ne v70 c0_i32_32
  let c0_i32_33 : BitVec 32 := 0#32
  let v72 : BitVec 1 := Scalar.cmpi .slt v70 c0_i32_33
  let c0_i32_34 : BitVec 32 := 0#32
  let v73 : BitVec 1 := Scalar.cmpi .slt v69 c0_i32_34
  let v74 : BitVec 1 := Scalar.xori v72 v73
  let v75 : BitVec 1 := Scalar.andi v74 v71
  let v76 : BitVec 32 := Scalar.addi v70 v69
  let v77 : BitVec 32 := Scalar.select v75 v76 v70
  let v78 : BitVec 32 := Scalar.addi v67 v77
  let c4_i32_35 : BitVec 32 := 4#32
  let c0_i32_36 : BitVec 32 := 0#32
  let v79 : BitVec 1 := Scalar.cmpi .eq c4_i32_35 c0_i32_36
  let c1_i32_37 : BitVec 32 := 1#32
  let v80 : BitVec 32 := Scalar.select v79 c1_i32_37 c4_i32_35
  let v81 : BitVec 32 := Scalar.remsi v78 v80
  let c0_i32_38 : BitVec 32 := 0#32
  let v82 : BitVec 1 := Scalar.cmpi .ne v81 c0_i32_38
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let v86 : BitVec 1 := Scalar.andi v85 v82
  let v87 : BitVec 32 := Scalar.addi v81 v80
  let v88 : BitVec 32 := Scalar.select v86 v87 v81
  let c0_i32_41 : BitVec 32 := 0#32
  ![v47.toNat, arg1.toNat, v88.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x4096x1024 : Shape := ⟨3, ![1, 4096, 1024]⟩
abbrev S3x4096x1024 : Shape := ⟨3, ![3, 4096, 1024]⟩
abbrev S1024x4x2048 : Shape := ⟨3, ![1024, 4, 2048]⟩
abbrev S4x1024x2048 : Shape := ⟨3, ![4, 1024, 2048]⟩
abbrev S2048x4096 : Shape := ⟨2, ![2048, 4096]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 27
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S1024x4x1024, .f32⟩
  | .hbm, ⟨5, _⟩ => ⟨S4x1024x1024, .f32⟩
  | .hbm, ⟨6, _⟩ => ⟨S4096x1024, .f32⟩
  | .hbm, ⟨7, _⟩ => ⟨S4096x1024, .f32⟩
  | .hbm, ⟨8, _⟩ => ⟨S1024x4x1024, .f32⟩
  | .hbm, ⟨9, _⟩ => ⟨S4x1024x1024, .f32⟩
  | .hbm, ⟨10, _⟩ => ⟨S4096x1024, .f32⟩
  | .hbm, ⟨11, _⟩ => ⟨S4096x1024, .f32⟩
  | .hbm, ⟨12, _⟩ => ⟨S1024x4x1024, .f32⟩
  | .hbm, ⟨13, _⟩ => ⟨S4x1024x1024, .f32⟩
  | .hbm, ⟨14, _⟩ => ⟨S4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S3x4096x1024, .f32⟩
  | .hbm, ⟨19, _⟩ => ⟨S3x4096x1024, .bf16⟩
  | .hbm, ⟨20, _⟩ => ⟨S1024x4x2048, .f32⟩
  | .hbm, ⟨21, _⟩ => ⟨S4x1024x2048, .f32⟩
  | .hbm, ⟨22, _⟩ => ⟨S4096x2048, .f32⟩
  | .hbm, ⟨23, _⟩ => ⟨S2048x4096, .f32⟩
  | .hbm, ⟨24, _⟩ => ⟨S2048x4096, .bf16⟩
  | .hbm, ⟨25, _⟩ => ⟨S4x2048x4096, .bf16⟩
  | .hbm, ⟨26, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.muli v16 c3_i32
  let c1_i32_5 : BitVec 32 := 1#32
  let v18 : BitVec 32 := Scalar.addi v17 c1_i32_5
  let c1_i32_6 : BitVec 32 := 1#32
  let v19 : BitVec 32 := Scalar.muli v18 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c4_i32 : BitVec 32 := 4#32
  let v31 : BitVec 32 := Scalar.divsi v30 c4_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c1_i32_19 : BitVec 32 := 1#32
  let v48 : BitVec 32 := Scalar.divsi arg0 c1_i32_19
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .slt arg0 c0_i32_21
  let v52 : BitVec 32 := Scalar.extui v51
  let v53 : BitVec 32 := Scalar.subi v50 v52
  let c0_i32_22 : BitVec 32 := 0#32
  let v54 : BitVec 1 := Scalar.cmpi .sgt c1_i32_19 c0_i32_22
  let v55 : BitVec 32 := Scalar.extui v54
  let c0_i32_23 : BitVec 32 := 0#32
  let v56 : BitVec 1 := Scalar.cmpi .slt c1_i32_19 c0_i32_23
  let v57 : BitVec 32 := Scalar.extui v56
  let v58 : BitVec 32 := Scalar.subi v55 v57
  let v59 : BitVec 1 := Scalar.cmpi .ne v53 v58
  let v60 : BitVec 32 := Scalar.remsi arg0 c1_i32_19
  let c0_i32_24 : BitVec 32 := 0#32
  let v61 : BitVec 1 := Scalar.cmpi .ne v60 c0_i32_24
  let v62 : BitVec 1 := Scalar.andi v59 v61
  let c1_i32_25 : BitVec 32 := 1#32
  let v63 : BitVec 32 := Scalar.subi v48 c1_i32_25
  let v64 : BitVec 32 := Scalar.select v62 v63 v48
  let c3_i32_26 : BitVec 32 := 3#32
  let v65 : BitVec 32 := Scalar.muli v64 c3_i32_26
  let c1_i32_27 : BitVec 32 := 1#32
  let v66 : BitVec 32 := Scalar.addi v65 c1_i32_27
  let c1_i32_28 : BitVec 32 := 1#32
  let v67 : BitVec 32 := Scalar.muli v66 c1_i32_28
  let c1_i32_29 : BitVec 32 := 1#32
  let c0_i32_30 : BitVec 32 := 0#32
  let v68 : BitVec 1 := Scalar.cmpi .eq c1_i32_29 c0_i32_30
  let c1_i32_31 : BitVec 32 := 1#32
  let v69 : BitVec 32 := Scalar.select v68 c1_i32_31 c1_i32_29
  let v70 : BitVec 32 := Scalar.remsi arg0 v69
  let c0_i32_32 : BitVec 32 := 0#32
  let v71 : BitVec 1 := Scalar.cmpi .ne v70 c0_i32_32
  let c0_i32_33 : BitVec 32 := 0#32
  let v72 : BitVec 1 := Scalar.cmpi .slt v70 c0_i32_33
  let c0_i32_34 : BitVec 32 := 0#32
  let v73 : BitVec 1 := Scalar.cmpi .slt v69 c0_i32_34
  let v74 : BitVec 1 := Scalar.xori v72 v73
  let v75 : BitVec 1 := Scalar.andi v74 v71
  let v76 : BitVec 32 := Scalar.addi v70 v69
  let v77 : BitVec 32 := Scalar.select v75 v76 v70
  let v78 : BitVec 32 := Scalar.addi v67 v77
  let c4_i32_35 : BitVec 32 := 4#32
  let c0_i32_36 : BitVec 32 := 0#32
  let v79 : BitVec 1 := Scalar.cmpi .eq c4_i32_35 c0_i32_36
  let c1_i32_37 : BitVec 32 := 1#32
  let v80 : BitVec 32 := Scalar.select v79 c1_i32_37 c4_i32_35
  let v81 : BitVec 32 := Scalar.remsi v78 v80
  let c0_i32_38 : BitVec 32 := 0#32
  let v82 : BitVec 1 := Scalar.cmpi .ne v81 c0_i32_38
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let v86 : BitVec 1 := Scalar.andi v85 v82
  let v87 : BitVec 32 := Scalar.addi v81 v80
  let v88 : BitVec 32 := Scalar.select v86 v87 v81
  let c0_i32_41 : BitVec 32 := 0#32
  ![v47.toNat, arg1.toNat, v88.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S_ : Shape := ⟨0, ![]⟩
abbrev S2048x16384 : Shape := ⟨2, ![2048, 16384]⟩
abbrev S16384x2048 : Shape := ⟨2, ![16384, 2048]⟩
abbrev S2048x4x4x1024 : Shape := ⟨4, ![2048, 4, 4, 1024]⟩
abbrev S4x2048x4x1024 : Shape := ⟨4, ![4, 2048, 4, 1024]⟩
abbrev S16 : Shape := ⟨1, ![16]⟩
abbrev S4x1x4x1 : Shape := ⟨4, ![4, 1, 4, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S2048x16384, .f32⟩
  | .hbm, ⟨5, _⟩ => ⟨S4096x16384, .f32⟩
  | .hbm, ⟨6, _⟩ => ⟨S16384x2048, .f32⟩
  | .hbm, ⟨7, _⟩ => ⟨S2048x16384, .f32⟩
  | .hbm, ⟨8, _⟩ => ⟨S2048x4x4x1024, .f32⟩
  | .hbm, ⟨9, _⟩ => ⟨S4x2048x4x1024, .f32⟩
  | .hbm, ⟨10, _⟩ => ⟨S16, .i32⟩
  | .hbm, ⟨11, _⟩ => ⟨S4x1x4x1, .i32⟩
  | .hbm, ⟨12, _⟩ => ⟨S_, .i32⟩
  | .hbm, ⟨13, _⟩ => ⟨S4x1x4x1, .i32⟩
  | .hbm, ⟨14, _⟩ => ⟨S4x1x4x1, .i1⟩
  | .hbm, ⟨15, _⟩ => ⟨S_, .i32⟩
  | .hbm, ⟨16, _⟩ => ⟨S4x1x4x1, .i32⟩
  | .hbm, ⟨17, _⟩ => ⟨S4x1x4x1, .i1⟩
  | .hbm, ⟨18, _⟩ => ⟨S4x1x4x1, .i1⟩
  | .hbm, ⟨19, _⟩ => ⟨S_, .i32⟩
  | .hbm, ⟨20, _⟩ => ⟨S4x1x4x1, .i32⟩
  | .hbm, ⟨21, _⟩ => ⟨S4x1x4x1, .i1⟩
  | .hbm, ⟨22, _⟩ => ⟨S4x1x4x1, .i1⟩
  | .hbm, ⟨23, _⟩ => ⟨S4x2048x4x1024, .f32⟩
  | .hbm, ⟨24, _⟩ => ⟨S4x2048x4x1024, .i1⟩
  | .hbm, ⟨25, _⟩ => ⟨S4x2048x4x1024, .f32⟩
  | .hbm, ⟨26, _⟩ => ⟨S4x2048x4096, .f32⟩
  | .hbm, ⟨27, _⟩ => ⟨S4x2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S256x16x1024 : Shape := ⟨3, ![256, 16, 1024]⟩
abbrev S16x256x1024 : Shape := ⟨3, ![16, 256, 1024]⟩
abbrev S1x4096x1024 : Shape := ⟨3, ![1, 4096, 1024]⟩
abbrev S3x4096x1024 : Shape := ⟨3, ![3, 4096, 1024]⟩
abbrev S256x16x2048 : Shape := ⟨3, ![256, 16, 2048]⟩
abbrev S16x256x2048 : Shape := ⟨3, ![16, 256, 2048]⟩
abbrev S2048x4096 : Shape := ⟨2, ![2048, 4096]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 27
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S256x16x1024, .f32⟩
  | .hbm, ⟨5, _⟩ => ⟨S16x256x1024, .f32⟩
  | .hbm, ⟨6, _⟩ => ⟨S4096x1024, .f32⟩
  | .hbm, ⟨7, _⟩ => ⟨S4096x1024, .f32⟩
  | .hbm, ⟨8, _⟩ => ⟨S256x16x1024, .f32⟩
  | .hbm, ⟨9, _⟩ => ⟨S16x256x1024, .f32⟩
  | .hbm, ⟨10, _⟩ => ⟨S4096x1024, .f32⟩
  | .hbm, ⟨11, _⟩ => ⟨S4096x1024, .f32⟩
  | .hbm, ⟨12, _⟩ => ⟨S256x16x1024, .f32⟩
  | .hbm, ⟨13, _⟩ => ⟨S16x256x1024, .f32⟩
  | .hbm, ⟨14, _⟩ => ⟨S4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S3x4096x1024, .f32⟩
  | .hbm, ⟨19, _⟩ => ⟨S3x4096x1024, .bf16⟩
  | .hbm, ⟨20, _⟩ => ⟨S256x16x2048, .f32⟩
  | .hbm, ⟨21, _⟩ => ⟨S16x256x2048, .f32⟩
  | .hbm, ⟨22, _⟩ => ⟨S4096x2048, .f32⟩
  | .hbm, ⟨23, _⟩ => ⟨S2048x4096, .f32⟩
  | .hbm, ⟨24, _⟩ => ⟨S2048x4096, .bf16⟩
  | .hbm, ⟨25, _⟩ => ⟨S4x2048x4096, .bf16⟩
  | .hbm, ⟨26, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.muli v16 c3_i32
  let c2_i32 : BitVec 32 := 2#32
  let v18 : BitVec 32 := Scalar.addi v17 c2_i32
  let c1_i32_5 : BitVec 32 := 1#32
  let v19 : BitVec 32 := Scalar.muli v18 c1_i32_5
  let c1_i32_6 : BitVec 32 := 1#32
  let c0_i32_7 : BitVec 32 := 0#32
  let v20 : BitVec 1 := Scalar.cmpi .eq c1_i32_6 c0_i32_7
  let c1_i32_8 : BitVec 32 := 1#32
  let v21 : BitVec 32 := Scalar.select v20 c1_i32_8 c1_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c4_i32 : BitVec 32 := 4#32
  let v31 : BitVec 32 := Scalar.divsi v30 c4_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32 c0_i32_14
  let v38 : BitVec 32 := Scalar.extui v37
  let c0_i32_15 : BitVec 32 := 0#32
  let v39 : BitVec 1 := Scalar.cmpi .slt c4_i32 c0_i32_15
  let v40 : BitVec 32 := Scalar.extui v39
  let v41 : BitVec 32 := Scalar.subi v38 v40
  let v42 : BitVec 1 := Scalar.cmpi .ne v36 v41
  let v43 : BitVec 32 := Scalar.remsi v30 c4_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c1_i32_18 : BitVec 32 := 1#32
  let v48 : BitVec 32 := Scalar.divsi arg0 c1_i32_18
  let c0_i32_19 : BitVec 32 := 0#32
  let v49 : BitVec 1 := Scalar.cmpi .sgt arg0 c0_i32_19
  let v50 : BitVec 32 := Scalar.extui v49
  let c0_i32_20 : BitVec 32 := 0#32
  let v51 : BitVec 1 := Scalar.cmpi .slt arg0 c0_i32_20
  let v52 : BitVec 32 := Scalar.extui v51
  let v53 : BitVec 32 := Scalar.subi v50 v52
  let c0_i32_21 : BitVec 32 := 0#32
  let v54 : BitVec 1 := Scalar.cmpi .sgt c1_i32_18 c0_i32_21
  let v55 : BitVec 32 := Scalar.extui v54
  let c0_i32_22 : BitVec 32 := 0#32
  let v56 : BitVec 1 := Scalar.cmpi .slt c1_i32_18 c0_i32_22
  let v57 : BitVec 32 := Scalar.extui v56
  let v58 : BitVec 32 := Scalar.subi v55 v57
  let v59 : BitVec 1 := Scalar.cmpi .ne v53 v58
  let v60 : BitVec 32 := Scalar.remsi arg0 c1_i32_18
  let c0_i32_23 : BitVec 32 := 0#32
  let v61 : BitVec 1 := Scalar.cmpi .ne v60 c0_i32_23
  let v62 : BitVec 1 := Scalar.andi v59 v61
  let c1_i32_24 : BitVec 32 := 1#32
  let v63 : BitVec 32 := Scalar.subi v48 c1_i32_24
  let v64 : BitVec 32 := Scalar.select v62 v63 v48
  let c3_i32_25 : BitVec 32 := 3#32
  let v65 : BitVec 32 := Scalar.muli v64 c3_i32_25
  let c2_i32_26 : BitVec 32 := 2#32
  let v66 : BitVec 32 := Scalar.addi v65 c2_i32_26
  let c1_i32_27 : BitVec 32 := 1#32
  let v67 : BitVec 32 := Scalar.muli v66 c1_i32_27
  let c1_i32_28 : BitVec 32 := 1#32
  let c0_i32_29 : BitVec 32 := 0#32
  let v68 : BitVec 1 := Scalar.cmpi .eq c1_i32_28 c0_i32_29
  let c1_i32_30 : BitVec 32 := 1#32
  let v69 : BitVec 32 := Scalar.select v68 c1_i32_30 c1_i32_28
  let v70 : BitVec 32 := Scalar.remsi arg0 v69
  let c0_i32_31 : BitVec 32 := 0#32
  let v71 : BitVec 1 := Scalar.cmpi .ne v70 c0_i32_31
  let c0_i32_32 : BitVec 32 := 0#32
  let v72 : BitVec 1 := Scalar.cmpi .slt v70 c0_i32_32
  let c0_i32_33 : BitVec 32 := 0#32
  let v73 : BitVec 1 := Scalar.cmpi .slt v69 c0_i32_33
  let v74 : BitVec 1 := Scalar.xori v72 v73
  let v75 : BitVec 1 := Scalar.andi v74 v71
  let v76 : BitVec 32 := Scalar.addi v70 v69
  let v77 : BitVec 32 := Scalar.select v75 v76 v70
  let v78 : BitVec 32 := Scalar.addi v67 v77
  let c4_i32_34 : BitVec 32 := 4#32
  let c0_i32_35 : BitVec 32 := 0#32
  let v79 : BitVec 1 := Scalar.cmpi .eq c4_i32_34 c0_i32_35
  let c1_i32_36 : BitVec 32 := 1#32
  let v80 : BitVec 32 := Scalar.select v79 c1_i32_36 c4_i32_34
  let v81 : BitVec 32 := Scalar.remsi v78 v80
  let c0_i32_37 : BitVec 32 := 0#32
  let v82 : BitVec 1 := Scalar.cmpi .ne v81 c0_i32_37
  let c0_i32_38 : BitVec 32 := 0#32
  let v83 : BitVec 1 := Scalar.cmpi .slt v81 c0_i32_38
  let c0_i32_39 : BitVec 32 := 0#32
  let v84 : BitVec 1 := Scalar.cmpi .slt v80 c0_i32_39
  let v85 : BitVec 1 := Scalar.xori v83 v84
  let v86 : BitVec 1 := Scalar.andi v85 v82
  let v87 : BitVec 32 := Scalar.addi v81 v80
  let v88 : BitVec 32 := Scalar.select v86 v87 v81
  let c0_i32_40 : BitVec 32 := 0#32
  ![v47.toNat, arg1.toNat, v88.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S_ : Shape := ⟨0, ![]⟩
abbrev S2048x16384 : Shape := ⟨2, ![2048, 16384]⟩
abbrev S16384x2048 : Shape := ⟨2, ![16384, 2048]⟩
abbrev S2048x4x4x1024 : Shape := ⟨4, ![2048, 4, 4, 1024]⟩
abbrev S4x2048x4x1024 : Shape := ⟨4, ![4, 2048, 4, 1024]⟩
abbrev S16 : Shape := ⟨1, ![16]⟩
abbrev S4x1x4x1 : Shape := ⟨4, ![4, 1, 4, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S2048x16384, .f32⟩
  | .hbm, ⟨5, _⟩ => ⟨S4096x16384, .f32⟩
  | .hbm, ⟨6, _⟩ => ⟨S16384x2048, .f32⟩
  | .hbm, ⟨7, _⟩ => ⟨S2048x16384, .f32⟩
  | .hbm, ⟨8, _⟩ => ⟨S2048x4x4x1024, .f32⟩
  | .hbm, ⟨9, _⟩ => ⟨S4x2048x4x1024, .f32⟩
  | .hbm, ⟨10, _⟩ => ⟨S16, .i32⟩
  | .hbm, ⟨11, _⟩ => ⟨S4x1x4x1, .i32⟩
  | .hbm, ⟨12, _⟩ => ⟨S_, .i32⟩
  | .hbm, ⟨13, _⟩ => ⟨S4x1x4x1, .i32⟩
  | .hbm, ⟨14, _⟩ => ⟨S4x1x4x1, .i1⟩
  | .hbm, ⟨15, _⟩ => ⟨S_, .i32⟩
  | .hbm, ⟨16, _⟩ => ⟨S4x1x4x1, .i32⟩
  | .hbm, ⟨17, _⟩ => ⟨S4x1x4x1, .i1⟩
  | .hbm, ⟨18, _⟩ => ⟨S4x1x4x1, .i1⟩
  | .hbm, ⟨19, _⟩ => ⟨S_, .i32⟩
  | .hbm, ⟨20, _⟩ => ⟨S4x1x4x1, .i32⟩
  | .hbm, ⟨21, _⟩ => ⟨S4x1x4x1, .i1⟩
  | .hbm, ⟨22, _⟩ => ⟨S4x1x4x1, .i1⟩
  | .hbm, ⟨23, _⟩ => ⟨S4x2048x4x1024, .f32⟩
  | .hbm, ⟨24, _⟩ => ⟨S4x2048x4x1024, .i1⟩
  | .hbm, ⟨25, _⟩ => ⟨S4x2048x4x1024, .f32⟩
  | .hbm, ⟨26, _⟩ => ⟨S4x2048x4096, .f32⟩
  | .hbm, ⟨27, _⟩ => ⟨S4x2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel6.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S4096x1024, .bf16⟩
  | .hbm, ⟨5, _⟩ => ⟨S4096x1x2048, .f32⟩
  | .hbm, ⟨6, _⟩ => ⟨S1x4096x2048, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S4x2048x4096, .bf16⟩
  | .hbm, ⟨11, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let v18 : BitVec 32 := Scalar.addi c9_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S4096x1024, .bf16⟩
  | .hbm, ⟨5, _⟩ => ⟨S4096x1x2048, .f32⟩
  | .hbm, ⟨6, _⟩ => ⟨S1x4096x2048, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S4x2048x4096, .bf16⟩
  | .hbm, ⟨11, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let v18 : BitVec 32 := Scalar.addi c9_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S_ : Shape := ⟨0, ![]⟩
abbrev S2048x16384 : Shape := ⟨2, ![2048, 16384]⟩
abbrev S16384x2048 : Shape := ⟨2, ![16384, 2048]⟩
abbrev S2048x4x4x1024 : Shape := ⟨4, ![2048, 4, 4, 1024]⟩
abbrev S4x2048x4x1024 : Shape := ⟨4, ![4, 2048, 4, 1024]⟩
abbrev S16 : Shape := ⟨1, ![16]⟩
abbrev S4x1x4x1 : Shape := ⟨4, ![4, 1, 4, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S2048x16384, .f32⟩
  | .hbm, ⟨5, _⟩ => ⟨S4096x16384, .f32⟩
  | .hbm, ⟨6, _⟩ => ⟨S16384x2048, .f32⟩
  | .hbm, ⟨7, _⟩ => ⟨S2048x16384, .f32⟩
  | .hbm, ⟨8, _⟩ => ⟨S2048x4x4x1024, .f32⟩
  | .hbm, ⟨9, _⟩ => ⟨S4x2048x4x1024, .f32⟩
  | .hbm, ⟨10, _⟩ => ⟨S16, .i32⟩
  | .hbm, ⟨11, _⟩ => ⟨S4x1x4x1, .i32⟩
  | .hbm, ⟨12, _⟩ => ⟨S_, .i32⟩
  | .hbm, ⟨13, _⟩ => ⟨S4x1x4x1, .i32⟩
  | .hbm, ⟨14, _⟩ => ⟨S4x1x4x1, .i1⟩
  | .hbm, ⟨15, _⟩ => ⟨S4x2048x4x1024, .f32⟩
  | .hbm, ⟨16, _⟩ => ⟨S4x2048x4x1024, .i1⟩
  | .hbm, ⟨17, _⟩ => ⟨S4x2048x4x1024, .f32⟩
  | .hbm, ⟨18, _⟩ => ⟨S4x2048x4096, .f32⟩
  | .hbm, ⟨19, _⟩ => ⟨S4x2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S4096x1024, .bf16⟩
  | .hbm, ⟨5, _⟩ => ⟨S4096x1x2048, .f32⟩
  | .hbm, ⟨6, _⟩ => ⟨S1x4096x2048, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S4x2048x4096, .bf16⟩
  | .hbm, ⟨11, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c10_i32_4 : BitVec 32 := 10#32
  let v18 : BitVec 32 := Scalar.addi c10_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S4096x1024, .bf16⟩
  | .hbm, ⟨5, _⟩ => ⟨S4096x1x2048, .f32⟩
  | .hbm, ⟨6, _⟩ => ⟨S1x4096x2048, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S4x2048x4096, .bf16⟩
  | .hbm, ⟨11, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c10_i32_4 : BitVec 32 := 10#32
  let v18 : BitVec 32 := Scalar.addi c10_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S_ : Shape := ⟨0, ![]⟩
abbrev S2048x16384 : Shape := ⟨2, ![2048, 16384]⟩
abbrev S16384x2048 : Shape := ⟨2, ![16384, 2048]⟩
abbrev S2048x4x4x1024 : Shape := ⟨4, ![2048, 4, 4, 1024]⟩
abbrev S4x2048x4x1024 : Shape := ⟨4, ![4, 2048, 4, 1024]⟩
abbrev S16 : Shape := ⟨1, ![16]⟩
abbrev S4x1x4x1 : Shape := ⟨4, ![4, 1, 4, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S2048x16384, .f32⟩
  | .hbm, ⟨5, _⟩ => ⟨S4096x16384, .f32⟩
  | .hbm, ⟨6, _⟩ => ⟨S16384x2048, .f32⟩
  | .hbm, ⟨7, _⟩ => ⟨S2048x16384, .f32⟩
  | .hbm, ⟨8, _⟩ => ⟨S2048x4x4x1024, .f32⟩
  | .hbm, ⟨9, _⟩ => ⟨S4x2048x4x1024, .f32⟩
  | .hbm, ⟨10, _⟩ => ⟨S16, .i32⟩
  | .hbm, ⟨11, _⟩ => ⟨S4x1x4x1, .i32⟩
  | .hbm, ⟨12, _⟩ => ⟨S_, .i32⟩
  | .hbm, ⟨13, _⟩ => ⟨S4x1x4x1, .i32⟩
  | .hbm, ⟨14, _⟩ => ⟨S4x1x4x1, .i1⟩
  | .hbm, ⟨15, _⟩ => ⟨S4x2048x4x1024, .f32⟩
  | .hbm, ⟨16, _⟩ => ⟨S4x2048x4x1024, .i1⟩
  | .hbm, ⟨17, _⟩ => ⟨S4x2048x4x1024, .f32⟩
  | .hbm, ⟨18, _⟩ => ⟨S4x2048x4096, .f32⟩
  | .hbm, ⟨19, _⟩ => ⟨S4x2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel8.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S4096x1024, .bf16⟩
  | .hbm, ⟨5, _⟩ => ⟨S4096x1x2048, .f32⟩
  | .hbm, ⟨6, _⟩ => ⟨S1x4096x2048, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S4x2048x4096, .bf16⟩
  | .hbm, ⟨11, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let v18 : BitVec 32 := Scalar.addi c11_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1024 : Shape := ⟨2, ![4096, 1024]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x1024, .f32⟩
  | .hbm, ⟨4, _⟩ => ⟨S4096x1024, .bf16⟩
  | .hbm, ⟨5, _⟩ => ⟨S4096x1x2048, .f32⟩
  | .hbm, ⟨6, _⟩ => ⟨S1x4096x2048, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S4x2048x4096, .bf16⟩
  | .hbm, ⟨11, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let v18 : BitVec 32 := Scalar.addi c11_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S_ : Shape := ⟨0, ![]⟩
abbrev S2048x16384 : Shape := ⟨2, ![2048, 16384]⟩
abbrev S16384x2048 : Shape := ⟨2, ![16384, 2048]⟩
abbrev S2048x4x4x1024 : Shape := ⟨4, ![2048, 4, 4, 1024]⟩
abbrev S4x2048x4x1024 : Shape := ⟨4, ![4, 2048, 4, 1024]⟩
abbrev S16 : Shape := ⟨1, ![16]⟩
abbrev S4x1x4x1 : Shape := ⟨4, ![4, 1, 4, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S2048x16384, .f32⟩
  | .hbm, ⟨5, _⟩ => ⟨S4096x16384, .f32⟩
  | .hbm, ⟨6, _⟩ => ⟨S16384x2048, .f32⟩
  | .hbm, ⟨7, _⟩ => ⟨S2048x16384, .f32⟩
  | .hbm, ⟨8, _⟩ => ⟨S2048x4x4x1024, .f32⟩
  | .hbm, ⟨9, _⟩ => ⟨S4x2048x4x1024, .f32⟩
  | .hbm, ⟨10, _⟩ => ⟨S16, .i32⟩
  | .hbm, ⟨11, _⟩ => ⟨S4x1x4x1, .i32⟩
  | .hbm, ⟨12, _⟩ => ⟨S_, .i32⟩
  | .hbm, ⟨13, _⟩ => ⟨S4x1x4x1, .i32⟩
  | .hbm, ⟨14, _⟩ => ⟨S4x1x4x1, .i1⟩
  | .hbm, ⟨15, _⟩ => ⟨S4x2048x4x1024, .f32⟩
  | .hbm, ⟨16, _⟩ => ⟨S4x2048x4x1024, .i1⟩
  | .hbm, ⟨17, _⟩ => ⟨S4x2048x4x1024, .f32⟩
  | .hbm, ⟨18, _⟩ => ⟨S4x2048x4096, .f32⟩
  | .hbm, ⟨19, _⟩ => ⟨S4x2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x2048, .f32⟩
  | .hbm, ⟨4, _⟩ => ⟨S4096x2048, .bf16⟩
  | .hbm, ⟨5, _⟩ => ⟨S4096x1x2048, .f32⟩
  | .hbm, ⟨6, _⟩ => ⟨S1x4096x2048, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S4x2048x4096, .bf16⟩
  | .hbm, ⟨11, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let v18 : BitVec 32 := Scalar.addi c12_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x2048, .f32⟩
  | .hbm, ⟨4, _⟩ => ⟨S4096x2048, .bf16⟩
  | .hbm, ⟨5, _⟩ => ⟨S4096x1x2048, .f32⟩
  | .hbm, ⟨6, _⟩ => ⟨S1x4096x2048, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S4x2048x4096, .bf16⟩
  | .hbm, ⟨11, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let v18 : BitVec 32 := Scalar.addi c12_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S_ : Shape := ⟨0, ![]⟩
abbrev S2048x16384 : Shape := ⟨2, ![2048, 16384]⟩
abbrev S16384x2048 : Shape := ⟨2, ![16384, 2048]⟩
abbrev S2048x4x4x1024 : Shape := ⟨4, ![2048, 4, 4, 1024]⟩
abbrev S4x2048x4x1024 : Shape := ⟨4, ![4, 2048, 4, 1024]⟩
abbrev S16 : Shape := ⟨1, ![16]⟩
abbrev S4x1x4x1 : Shape := ⟨4, ![4, 1, 4, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S2048x16384, .f32⟩
  | .hbm, ⟨5, _⟩ => ⟨S4096x16384, .f32⟩
  | .hbm, ⟨6, _⟩ => ⟨S16384x2048, .f32⟩
  | .hbm, ⟨7, _⟩ => ⟨S2048x16384, .f32⟩
  | .hbm, ⟨8, _⟩ => ⟨S2048x4x4x1024, .f32⟩
  | .hbm, ⟨9, _⟩ => ⟨S4x2048x4x1024, .f32⟩
  | .hbm, ⟨10, _⟩ => ⟨S16, .i32⟩
  | .hbm, ⟨11, _⟩ => ⟨S4x1x4x1, .i32⟩
  | .hbm, ⟨12, _⟩ => ⟨S_, .i32⟩
  | .hbm, ⟨13, _⟩ => ⟨S4x1x4x1, .i32⟩
  | .hbm, ⟨14, _⟩ => ⟨S4x1x4x1, .i1⟩
  | .hbm, ⟨15, _⟩ => ⟨S_, .i32⟩
  | .hbm, ⟨16, _⟩ => ⟨S4x1x4x1, .i32⟩
  | .hbm, ⟨17, _⟩ => ⟨S4x1x4x1, .i1⟩
  | .hbm, ⟨18, _⟩ => ⟨S4x1x4x1, .i1⟩
  | .hbm, ⟨19, _⟩ => ⟨S4x2048x4x1024, .f32⟩
  | .hbm, ⟨20, _⟩ => ⟨S4x2048x4x1024, .i1⟩
  | .hbm, ⟨21, _⟩ => ⟨S4x2048x4x1024, .f32⟩
  | .hbm, ⟨22, _⟩ => ⟨S4x2048x4096, .f32⟩
  | .hbm, ⟨23, _⟩ => ⟨S4x2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S4096x2048 : Shape := ⟨2, ![4096, 2048]⟩
abbrev S4096x16384 : Shape := ⟨2, ![4096, 16384]⟩
abbrev S4x2048x4096 : Shape := ⟨3, ![4, 2048, 4096]⟩
abbrev S4096x1x2048 : Shape := ⟨3, ![4096, 1, 2048]⟩
abbrev S1x4096x2048 : Shape := ⟨3, ![1, 4096, 2048]⟩
abbrev S2048x4096 : Shape := ⟨2, ![2048, 4096]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S4096x2048, .f32⟩
  | .hbm, ⟨4, _⟩ => ⟨S4096x2048, .bf16⟩
  | .hbm, ⟨5, _⟩ => ⟨S4096x1x2048, .f32⟩
  | .hbm, ⟨6, _⟩ => ⟨S1x4096x2048, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S4x2048x4096, .bf16⟩
  | .hbm, ⟨11, _⟩ => ⟨S4x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c14_i32_4 : BitVec 32 := 14#32
  let v18 : BitVec 32 := Scalar.addi c14_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x16384 : Shape := ⟨2, ![4096, 16384]⟩
abbrev S4x2048x4096 : Shape := ⟨3, ![4, 2048, 4096]⟩
abbrev S_ : Shape := ⟨0, ![]⟩
abbrev S2048x16384 : Shape := ⟨2, ![2048, 16384]⟩
abbrev S16384x2048 : Shape := ⟨2, ![16384, 2048]⟩
abbrev S2048x4x4x1024 : Shape := ⟨4, ![2048, 4, 4, 1024]⟩
abbrev S4x2048x4x1024 : Shape := ⟨4, ![4, 2048, 4, 1024]⟩
abbrev S16 : Shape := ⟨1, ![16]⟩
abbrev S4x1x4x1 : Shape := ⟨4, ![4, 1, 4, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S2048x16384, .f32⟩
  | .hbm, ⟨5, _⟩ => ⟨S4096x16384, .f32⟩
  | .hbm, ⟨6, _⟩ => ⟨S16384x2048, .f32⟩
  | .hbm, ⟨7, _⟩ => ⟨S2048x16384, .f32⟩
  | .hbm, ⟨8, _⟩ => ⟨S2048x4x4x1024, .f32⟩
  | .hbm, ⟨9, _⟩ => ⟨S4x2048x4x1024, .f32⟩
  | .hbm, ⟨10, _⟩ => ⟨S16, .i32⟩
  | .hbm, ⟨11, _⟩ => ⟨S4x1x4x1, .i32⟩
  | .hbm, ⟨12, _⟩ => ⟨S_, .i32⟩
  | .hbm, ⟨13, _⟩ => ⟨S4x1x4x1, .i32⟩
  | .hbm, ⟨14, _⟩ => ⟨S4x1x4x1, .i1⟩
  | .hbm, ⟨15, _⟩ => ⟨S_, .i32⟩
  | .hbm, ⟨16, _⟩ => ⟨S4x1x4x1, .i32⟩
  | .hbm, ⟨17, _⟩ => ⟨S4x1x4x1, .i1⟩
  | .hbm, ⟨18, _⟩ => ⟨S4x1x4x1, .i1⟩
  | .hbm, ⟨19, _⟩ => ⟨S4x2048x4x1024, .f32⟩
  | .hbm, ⟨20, _⟩ => ⟨S4x2048x4x1024, .i1⟩
  | .hbm, ⟨21, _⟩ => ⟨S4x2048x4x1024, .f32⟩
  | .hbm, ⟨22, _⟩ => ⟨S4x2048x4096, .f32⟩
  | .hbm, ⟨23, _⟩ => ⟨S4x2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel11.lean ====
abbrev S4096x2048 : Shape := ⟨2, ![4096, 2048]⟩
abbrev S2048x4096 : Shape := ⟨2, ![2048, 4096]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048x4096, .bf16⟩
  | .hbm, ⟨4, _⟩ => ⟨S4096x2048, .bf16⟩
  | .hbm, ⟨5, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S4096x2048 : Shape := ⟨2, ![4096, 2048]⟩
abbrev S1024x4096 : Shape := ⟨2, ![1024, 4096]⟩
abbrev S4x1024x512 : Shape := ⟨3, ![4, 1024, 512]⟩
abbrev S1024x2048 : Shape := ⟨2, ![1024, 2048]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x4096, .f32⟩
  | .hbm, ⟨3, _⟩ => ⟨S1024x4096, .bf16⟩
  | .hbm, ⟨4, _⟩ => ⟨S4096x2048, .bf16⟩
  | .hbm, ⟨5, _⟩ => ⟨S4x1024x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S4096x2048 : Shape := ⟨2, ![4096, 2048]⟩
abbrev S1024x4096 : Shape := ⟨2, ![1024, 4096]⟩
abbrev S4x1024x512 : Shape := ⟨3, ![4, 1024, 512]⟩
abbrev S1024x2048 : Shape := ⟨2, ![1024, 2048]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x4096, .f32⟩
  | .hbm, ⟨3, _⟩ => ⟨S1024x4096, .bf16⟩
  | .hbm, ⟨4, _⟩ => ⟨S4096x2048, .bf16⟩
  | .hbm, ⟨5, _⟩ => ⟨S4x1024x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S1x2048 : Shape := ⟨2, ![1, 2048]⟩
abbrev S1024x2048 : Shape := ⟨2, ![1024, 2048]⟩
abbrev S512x2048 : Shape := ⟨2, ![512, 2048]⟩
abbrev S1024x512 : Shape := ⟨2, ![1024, 512]⟩
abbrev S1x512 : Shape := ⟨2, ![1, 512]⟩
abbrev S512 : Shape := ⟨1, ![512]⟩

abbrev nBuf : Space → Nat
  | .hbm => 31
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x4096, .f32⟩
  | .hbm, ⟨5, _⟩ => ⟨S4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S2048x2048, .bf16⟩
  | .hbm, ⟨21, _⟩ => ⟨S4096x2048, .bf16⟩
  | .hbm, ⟨22, _⟩ => ⟨S4096x2048, .bf16⟩
  | .hbm, ⟨23, _⟩ => ⟨S4096x2048, .bf16⟩
  | .hbm, ⟨24, _⟩ => ⟨S4096x2048, .bf16⟩
  | .hbm, ⟨25, _⟩ => ⟨S4096x2048, .bf16⟩
  | .hbm, ⟨26, _⟩ => ⟨S4096x2048, .bf16⟩
  | .hbm, ⟨27, _⟩ => ⟨S4096x2048, .bf16⟩
  | .hbm, ⟨28, _⟩ => ⟨S4096x2048, .bf16⟩
  | .hbm, ⟨29, _⟩ => ⟨S1x2048, .f32⟩
  | .hbm, ⟨30, _⟩ => ⟨S1x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference14Ideal.lean ====
abbrev S4096x2048 : Shape := ⟨2, ![4096, 2048]⟩
abbrev S2048x2048 : Shape := ⟨2, ![2048, 2048]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S2048 : Shape := ⟨1, ![2048]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x4096, .f32⟩
  | .hbm, ⟨5, _⟩ => ⟨S4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S1x4096, .f32⟩
  | .hbm, ⟨37, _⟩ => ⟨S_, .f32⟩
  | .hbm, ⟨38, _⟩ => ⟨S4096, .f32⟩
  | .hbm, ⟨39, _⟩ => ⟨S4096x2048, .f32⟩
  | .hbm, ⟨40, _⟩ => ⟨S4096x2048, .f32⟩
  | .hbm, ⟨41, _⟩ => ⟨S4096x2048, .bf16⟩
  | .hbm, ⟨42, _⟩ => ⟨S4096x2048, .bf16⟩
  | .hbm, ⟨43, _⟩ => ⟨S4096x2048, .bf16⟩
  | .hbm, ⟨44, _⟩ => ⟨S4096x2048, .bf16⟩
  | .hbm, ⟨45, _⟩ => ⟨S2048, .f32⟩
  | .hbm, ⟨46, _⟩ => ⟨S1x2048, .f32⟩
  | .hbm, ⟨47, _⟩ => ⟨S2048, .f32⟩
  | .hbm, ⟨48, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel15.lean ====
abbrev S4096x1024 : Shape := ⟨2, ![4096, 1024]⟩
abbrev S1024x2048 : Shape := ⟨2, ![1024, 2048]⟩
abbrev S4096x4096 : Shape := ⟨2, ![4096, 4096]⟩
abbrev S4096 : Shape := ⟨1, ![4096]⟩
abbrev S1024x4x512 : Shape := ⟨3, ![1024, 4, 512]⟩
abbrev S4x1024x512 : Shape := ⟨3, ![4, 1024, 512]⟩
abbrev S1x4096 : Shape := ⟨2, ![1, 4096]⟩
abbrev S4096x2048 : Shape := ⟨2, ![4096, 2048]⟩
abbrev S2048x4096 : Shape := ⟨2, ![2048, 4096]⟩
abbrev S1024x1024 : Shape := ⟨2, ![1024, 1024]⟩
abbrev S1x1024x512 : Shape := ⟨3, ![1, 1024, 512]⟩
abbrev S1024x512 : Shape := ⟨2, ![1024, 512]⟩
abbrev S1x512 : Shape := ⟨2, ![1, 512]⟩
abbrev S512x1024 : Shape := ⟨2, ![512, 1024]⟩

abbrev nBuf : Space → Nat
  | .hbm => 22
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x2048, .f32⟩
  | .hbm, ⟨4, _⟩ => ⟨S4096x4096, .f32⟩
  | .hbm, ⟨5, _⟩ => ⟨S4096, .f32⟩
  | .hbm, ⟨6, _⟩ => ⟨S1024x2048, .bf16⟩
  | .hbm, ⟨7, _⟩ => ⟨S1024x4x512, .bf16⟩
  | .hbm, ⟨8, _⟩ => ⟨S4x1024x512, .bf16⟩
  | .hbm, ⟨9, _⟩ => ⟨S1024x2048, .bf16⟩
  | .hbm, ⟨10, _⟩ => ⟨S1024x4x512, .bf16⟩
  | .hbm, ⟨11, _⟩ => ⟨S4x1024x512, .bf16⟩
  | .hbm, ⟨12, _⟩ => ⟨S4096x1024, .bf16⟩
  | .hbm, ⟨13, _⟩ => ⟨S4096x1024, .bf16⟩
  | .hbm, ⟨14, _⟩ => ⟨S4096x4096, .bf16⟩
  | .hbm, ⟨15, _⟩ => ⟨S1x4096, .f32⟩
  | .hbm, ⟨16, _⟩ => ⟨S4096x2048, .bf16⟩
  | .hbm, ⟨17, _⟩ => ⟨S4096x2048, .bf16⟩
  | .hbm, ⟨18, _⟩ => ⟨S4096x2048, .bf16⟩
  | .hbm, ⟨19, _⟩ => ⟨S4096x2048, .bf16⟩
  | .hbm, ⟨20, _⟩ => ⟨S4096x2048, .bf16⟩
  | .hbm, ⟨21, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S512x1024, .bf16⟩
  | .local _ .vmem, ⟨27, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference15Ideal.lean ====
abbrev S4096x1024 : Shape := ⟨2, ![4096, 1024]⟩
abbrev S1024x2048 : Shape := ⟨2, ![1024, 2048]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S4096x2048 : Shape := ⟨2, ![4096, 2048]⟩
abbrev S2048x4096 : Shape := ⟨2, ![2048, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x2048, .f32⟩
  | .hbm, ⟨4, _⟩ => ⟨S4096x4096, .f32⟩
  | .hbm, ⟨5, _⟩ => ⟨S4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S2048x4096, .f32⟩
  | .hbm, ⟨25, _⟩ => ⟨S4096x2048, .bf16⟩
  | .hbm, ⟨26, _⟩ => ⟨S4096x2048, .bf16⟩
  | .hbm, ⟨27, _⟩ => ⟨S4096x2048, .bf16⟩
  | .hbm, ⟨28, _⟩ => ⟨S4096x2048, .bf16⟩
  | .hbm, ⟨29, _⟩ => ⟨S4096x2048, .bf16⟩
  | .hbm, ⟨30, _⟩ => ⟨S2048x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Pieces.lean ====
/-
  One (head, block) piece of the attention's backward product, read at an index over the extended reals.

  The kernel computes, for each of eight heads and each of the four 128-row blocks of a point's 512 rows, the probabilities of
  128 queries against 256 keys, their gradient, and three products. Here each is a formula over functions of row and column
  NUMBERS (`Prob`, `Dsc`, `Dq`, `Dk`, `Dv`), and the printed vectors are those formulas at an index.
-/
module

public import proofs.«01_k».proof.Proof.Gen.KernelIdeal.Value
public import Idealize.ShloMosaic.PureOps.Ideal
public import Idealize.ShloMosaic.PureOps.Ideal.Laws
public import Idealize.ShloMosaic.Lib.ValueIdx
public import Idealize.ShloMosaic.Lib.WordCmp
public import Idealize.ShloMosaic.Lib.Pipeline.ReadBack
public import Idealize.ShloMosaic.Lib.Pipeline.ValueKit

@[expose] public section

noncomputable section

open Idealize.ShloMosaic hiding ix2 ix3 eq_ix2 eq_ix3
open Idealize.ShloMosaic.TcCoe Idealize.ShloMosaic.ValueIdx Idealize.SL.Sem
open scoped BigOperators

namespace Cert.KernelIdeal.Piece

open Cert.KernelIdeal.Gen

/-- The softmax scale, the f32 nearest 1/√128, as the extended real it is. -/
def cS : EReal := Ideal.ofBits .f32 0x3DB504F3#32

/-- A row statistic stored along 128 lanes, read along 256: the lanes twice. -/
def lane (A : ℕ → ℕ → EReal) (r c : ℕ) : EReal := if c < 128 then A r c else A r (c - 128)

/-- The probability of key `c` for query `r`: zero outside the window. -/
def Prob (M : ℕ → ℕ → Prop) [∀ r c, Decidable (M r c)] (Q K L : ℕ → ℕ → EReal) (r c : ℕ) : EReal :=
  if M r c then Ideal.exp ((∑ e : Fin 128, Q r e.val * K c e.val) * cS - lane L r c) else 0

/-- The gradient of the score. -/
def Dsc (M : ℕ → ℕ → Prop) [∀ r c, Decidable (M r c)] (Q K L D V E : ℕ → ℕ → EReal) (r c : ℕ) : EReal :=
  Prob M Q K L r c * ((∑ e : Fin 128, D r e.val * V c e.val) - lane E r c) * cS

/-- The three products. -/
def Dq (M : ℕ → ℕ → Prop) [∀ r c, Decidable (M r c)] (Q K L D V E : ℕ → ℕ → EReal) (r e : ℕ) : EReal :=
  ∑ c : Fin 256, Dsc M Q K L D V E r c.val * K c.val e
def Dk (M : ℕ → ℕ → Prop) [∀ r c, Decidable (M r c)] (Q K L D V E : ℕ → ℕ → EReal) (c e : ℕ) : EReal :=
  ∑ r : Fin 128, Dsc M Q K L D V E r.val c * Q r.val e
def Dv (M : ℕ → ℕ → Prop) [∀ r c, Decidable (M r c)] (Q K L D : ℕ → ℕ → EReal) (c e : ℕ) : EReal :=
  ∑ r : Fin 128, Prob M Q K L r.val c * D r.val e

section Vectors

variable {v28 : IVec S128x256 1} {q d : FVec Ideal S128x128 .bf16} {k v : FVec Ideal S256x128 .bf16}
  {l1 l2 d1 d2 : Vec Ideal S128x128 .f32}

/-- The printed vectors, with the key and value rows already sliced. -/
def dscV (v28 : IVec S128x256 1) (q d : FVec Ideal S128x128 .bf16) (k v : FVec Ideal S256x128 .bf16)
    (l1 l2 d1 d2 : Vec Ideal S128x128 .f32) : FVec Ideal S128x256 .f32 :=
  mulf (mulf (k0_pay20 v28 q k l1 l2)
    (subf (matmul dot_S128x128_S256x128_S128x256_1_1_0_0_n_n none d v (constant S128x256 .f32 0x00000000#32))
      (concatenate S128x256 1 [⟨S128x128, shapeCast S128x128 d1 shapeCasts_S128x128_S128x128⟩,
        ⟨S128x128, shapeCast S128x128 d2 shapeCasts_S128x128_S128x128⟩] concatenates_S128x128_S128x128_S128x256_d1)))
    (broadcast S128x256 (Scalar.ofBits .f32 0x3DB504F3#32 : Ideal .f32))
def dqV (v28 : IVec S128x256 1) (q d : FVec Ideal S128x128 .bf16) (k v : FVec Ideal S256x128 .bf16)
    (l1 l2 d1 d2 : Vec Ideal S128x128 .f32) : FVec Ideal S128x128 .f32 :=
  shapeCast S128x128 (matmul dot_S128x256_S256x128_S128x128_1_0_0_1_n_n none
    (truncf .bf16 (dscV v28 q d k v l1 l2 d1 d2) bitsLt_bf16_f32) k (constant S128x128 .f32 0x00000000#32))
    shapeCasts_S128x128_S128x128
def dkV (v28 : IVec S128x256 1) (q d : FVec Ideal S128x128 .bf16) (k v : FVec Ideal S256x128 .bf16)
    (l1 l2 d1 d2 : Vec Ideal S128x128 .f32) : FVec Ideal S256x128 .f32 :=
  matmul dot_S128x256_S128x128_S256x128_0_0_1_1_n_n none
    (truncf .bf16 (dscV v28 q d k v l1 l2 d1 d2) bitsLt_bf16_f32) q (constant S256x128 .f32 0x00000000#32)

theorem lanes_apply {x y : Vec Ideal S128x128 .f32} {A : ℕ → ℕ → EReal}
    (hx : ∀ r e : Fin 128, x (ix2 r e) = A r.val e.val) (hy : ∀ r e : Fin 128, y (ix2 r e) = A r.val e.val)
    (r : Fin 128) (c : Fin 256) :
    concatenate S128x256 1 [⟨S128x128, shapeCast S128x128 x shapeCasts_S128x128_S128x128⟩,
      ⟨S128x128, shapeCast S128x128 y shapeCasts_S128x128_S128x128⟩] concatenates_S128x128_S128x128_S128x256_d1 (ix2 r c)
      = lane A r.val c.val := by
  rw [shapeCast_self, shapeCast_self]
  unfold lane
  split_ifs with hc
  · rw [concatenate_pair_apply_left (t := S128x256) (s₁ := S128x128) (s₂ := S128x128) 1 x y _ (ix2 r c) rfl (ix2 r ⟨c.val, hc⟩)
      (by intro b; fin_cases b <;> rfl)]
    exact hx r ⟨c.val, hc⟩
  · have hc' : c.val - 128 < 128 := by omega
    rw [concatenate_pair_apply_right (t := S128x256) (s₁ := S128x128) (s₂ := S128x128) 1 x y _ (ix2 r c) rfl rfl (ix2 r ⟨c.val - 128, hc'⟩)
      (by intro b hb; fin_cases b <;> first | rfl | exact absurd rfl hb)
      (by show c.val - 128 + 128 = c.val; omega)]
    exact hy r ⟨c.val - 128, hc'⟩

theorem prob_apply {M : ℕ → ℕ → Prop} [∀ r c, Decidable (M r c)] {Q K L : ℕ → ℕ → EReal}
    (hm : ∀ (r : Fin 128) (c : Fin 256), v28 (ix2 r c) = 1#1 ↔ M r.val c.val)
    (hq : ∀ r e : Fin 128, q (ix2 r e) = Q r.val e.val)
    (hk : ∀ (c : Fin 256) (e : Fin 128), k (ix2 c e) = K c.val e.val)
    (h1 : ∀ r e : Fin 128, l1 (ix2 r e) = L r.val e.val) (h2 : ∀ r e : Fin 128, l2 (ix2 r e) = L r.val e.val)
    (r : Fin 128) (c : Fin 256) : k0_pay20 v28 q k l1 l2 (ix2 r c) = Prob M Q K L r.val c.val := by
  have e1 : matmul dot_S128x128_S256x128_S128x256_1_1_0_0_n_n none q k (constant S128x256 .f32 0x00000000#32) (ix2 r c)
      = ∑ e : Fin 128, Q r.val e.val * K c.val e.val := by
    refine (Ideal.matmul_constant_zero_apply _ none q k (ix2 r c)).trans ?_
    refine (Equiv.sum_comp (contrEquiv1 _ 128 rfl rfl).symm _).symm.trans ?_
    refine Finset.sum_congr rfl fun e _ => ?_
    rw [← hq r e, ← hk c e]
    congr 2
    · funext a; fin_cases a <;> rfl
    · funext a; fin_cases a <;> rfl
  have e2 := lanes_apply h1 h2 r c
  show Scalar.select (v28 (ix2 r c)) (Ideal.exp (_ * cS - _)) (Ideal.ofBits .f32 0x00000000#32) = _
  rw [Ideal.ofBits_zero_f32]
  unfold Prob
  by_cases hM : M r.val c.val
  · rw [(hm r c).2 hM, select_one, if_pos hM, ← e1, ← e2]
  · rw [eq_zero_of_ne_one fun h => hM ((hm r c).1 h), select_zero, if_neg hM]

section Products

variable {M : ℕ → ℕ → Prop} [∀ r c, Decidable (M r c)] {Q K L D V E : ℕ → ℕ → EReal}
  (hm : ∀ (r : Fin 128) (c : Fin 256), v28 (ix2 r c) = 1#1 ↔ M r.val c.val)
  (hq : ∀ r e : Fin 128, q (ix2 r e) = Q r.val e.val)
  (hk : ∀ (c : Fin 256) (e : Fin 128), k (ix2 c e) = K c.val e.val)
  (h1 : ∀ r e : Fin 128, l1 (ix2 r e) = L r.val e.val) (h2 : ∀ r e : Fin 128, l2 (ix2 r e) = L r.val e.val)
  (hd : ∀ r e : Fin 128, d (ix2 r e) = D r.val e.val)
  (hv : ∀ (c : Fin 256) (e : Fin 128), v (ix2 c e) = V c.val e.val)
  (g1 : ∀ r e : Fin 128, d1 (ix2 r e) = E r.val e.val) (g2 : ∀ r e : Fin 128, d2 (ix2 r e) = E r.val e.val)

include hm hq hk h1 h2 hd in
theorem dv_apply (c : Fin 256) (e : Fin 128) : k0_pay24 v28 q d k l1 l2 (ix2 c e) = Dv M Q K L D c.val e.val := by
  refine (Ideal.matmul_constant_zero_apply dot_S128x256_S128x128_S256x128_0_0_1_1_n_n none
    (truncf .bf16 (k0_pay20 v28 q k l1 l2) bitsLt_bf16_f32) d (ix2 c e)).trans ?_
  refine (Equiv.sum_comp (contrEquiv1 _ 128 rfl rfl).symm _).symm.trans ?_
  refine Finset.sum_congr rfl fun r _ => ?_
  rw [← hd r e, ← prob_apply hm hq hk h1 h2 r c]
  show k0_pay20 v28 q k l1 l2 _ * d _ = _
  refine congrArg₂ (· * ·) (congrArg (k0_pay20 v28 q k l1 l2) ?_) (congrArg d ?_)
  · funext a; fin_cases a <;> rfl
  · funext a; fin_cases a <;> rfl

include hm hq hk h1 h2 hd hv g1 g2

theorem dsc_apply (r : Fin 128) (c : Fin 256) :
    dscV v28 q d k v l1 l2 d1 d2 (ix2 r c) = Dsc M Q K L D V E r.val c.val := by
  have e1 : matmul dot_S128x128_S256x128_S128x256_1_1_0_0_n_n none d v (constant S128x256 .f32 0x00000000#32) (ix2 r c)
      = ∑ e : Fin 128, D r.val e.val * V c.val e.val := by
    refine (Ideal.matmul_constant_zero_apply _ none d v (ix2 r c)).trans ?_
    refine (Equiv.sum_comp (contrEquiv1 _ 128 rfl rfl).symm _).symm.trans ?_
    refine Finset.sum_congr rfl fun e _ => ?_
    rw [← hd r e, ← hv c e]
    congr 2
    · funext a; fin_cases a <;> rfl
    · funext a; fin_cases a <;> rfl
  have e2 := lanes_apply g1 g2 r c
  unfold Dsc
  rw [← prob_apply hm hq hk h1 h2 r c, ← e1, ← e2]
  rfl

theorem dq_apply (r e : Fin 128) : dqV v28 q d k v l1 l2 d1 d2 (ix2 r e) = Dq M Q K L D V E r.val e.val := by
  unfold dqV
  rw [shapeCast_self]
  refine (Ideal.matmul_constant_zero_apply _ none _ k (ix2 r e)).trans ?_
  refine (Equiv.sum_comp (contrEquiv1 _ 256 rfl rfl).symm _).symm.trans ?_
  refine Finset.sum_congr rfl fun c _ => ?_
  rw [← hk c e, ← dsc_apply hm hq hk h1 h2 hd hv g1 g2 r c]
  show dscV v28 q d k v l1 l2 d1 d2 _ * k _ = _
  refine congrArg₂ (· * ·) (congrArg (dscV v28 q d k v l1 l2 d1 d2) ?_) (congrArg k ?_)
  · funext a; fin_cases a <;> rfl
  · funext a; fin_cases a <;> rfl

theorem dk_apply (c : Fin 256) (e : Fin 128) : dkV v28 q d k v l1 l2 d1 d2 (ix2 c e) = Dk M Q K L D V E c.val e.val := by
  unfold dkV
  refine (Ideal.matmul_constant_zero_apply _ none _ q (ix2 c e)).trans ?_
  refine (Equiv.sum_comp (contrEquiv1 _ 128 rfl rfl).symm _).symm.trans ?_
  refine Finset.sum_congr rfl fun r _ => ?_
  rw [← hq r e, ← dsc_apply hm hq hk h1 h2 hd hv g1 g2 r c]
  show dscV v28 q d k v l1 l2 d1 d2 _ * q _ = _
  refine congrArg₂ (· * ·) (congrArg (dscV v28 q d k v l1 l2 d1 d2) ?_) (congrArg q ?_)
  · funext a; fin_cases a <;> rfl
  · funext a; fin_cases a <;> rfl

end Products

end Vectors

/-! ## The operands of a piece at an index -/

/-- A block read at row and column NUMBERS (zero outside it). -/
def at2 {n m : ℕ} (x : (⟨2, ![n, m]⟩ : Shape).Idx → EReal) (R L : ℕ) : EReal :=
  if h : R < n ∧ L < m then x (ix2 ⟨R, h.1⟩ ⟨L, h.2⟩) else 0
def at3 {a n m : ℕ} (x : (⟨3, ![a, n, m]⟩ : Shape).Idx → EReal) (A R L : ℕ) : EReal :=
  if h : A < a ∧ R < n ∧ L < m then x (ix3 ⟨A, h.1⟩ ⟨R, h.2.1⟩ ⟨L, h.2.2⟩) else 0

theorem at2_eq {n m : ℕ} (x : (⟨2, ![n, m]⟩ : Shape).Idx → EReal) (i : (⟨2, ![n, m]⟩ : Shape).Idx) {R L : ℕ}
    (h0 : (i 0).val = R) (h1 : (i 1).val = L) : x i = at2 x R L := by
  subst h0 h1
  unfold at2
  rw [dif_pos ⟨(i 0).isLt, (i 1).isLt⟩]
  exact congrArg x (eq_ix2 i)
theorem at3_eq {a n m : ℕ} (x : (⟨3, ![a, n, m]⟩ : Shape).Idx → EReal) (i : (⟨3, ![a, n, m]⟩ : Shape).Idx) {A R L : ℕ}
    (h0 : (i 0).val = A) (h1 : (i 1).val = R) (h2 : (i 2).val = L) : x i = at3 x A R L := by
  subst h0 h1 h2
  unfold at3
  rw [dif_pos ⟨(i 0).isLt, (i 1).isLt, (i 2).isLt⟩]
  exact congrArg x (eq_ix3 i)

/-- The keys (or values) of a point's window: the 128 rows before it, then its own. -/
def keys (p : S1x128x1024.Idx → EReal) (x : S1x512x1024.Idx → EReal) (c L : ℕ) : EReal :=
  if c < 128 then at3 p 0 c L else at3 x 0 (c - 128) L

section Loads

variable {M3 : Memref sig .tc .vmem S1x512x1024 .bf16} {hM3 : M3.IsWhole} {X3 : Vec Ideal S1x512x1024 .bf16}
  {MP : Memref sig .tc .vmem S1x128x1024 .bf16} {hMP : MP.IsWhole} {XP : Vec Ideal S1x128x1024 .bf16}
  {M2 : Memref sig .tc .vmem S512x1024 .bf16} {hM2 : M2.IsWhole} {X2 : Vec Ideal S512x1024 .bf16}
  {MF : Memref sig .tc .vmem S512x1024 .f32} {hMF : MF.IsWhole} {XF : Vec Ideal S512x1024 .f32}

theorem q_load {o1 o2 : ℕ} {inb : ∀ a, (![0, o1, o2] : Fin 3 → ℕ) a + S1x128x128.size a ≤ S1x512x1024.size a}
    {hc : S1x128x128.ShapeCasts S128x128} (r e : Fin 128) :
    shapeCast S128x128 (View.readAt (Elt Ideal) M3.view (Rect.unit (s := S1x512x1024) ![0, o1, o2] S1x128x128.size inb).toLoadRect
      (hM3.unread X3)) hc (ix2 r e) = at3 X3 0 (o1 + r.val) (o2 + e.val) := by
  refine (shapeCast_dropUnit_apply ![128, 128] _ hc (ix2 r e)).trans ?_
  rw [View.readAt_eq_ld, hM3.read_unread]
  exact at3_eq X3 _ (Rect.idx_unit_val _ _ inb _ 0) (Rect.idx_unit_val _ _ inb _ 1) (Rect.idx_unit_val _ _ inb _ 2)

theorem d_load {o1 o2 : ℕ} {inb : ∀ a, (![o1, o2] : Fin 2 → ℕ) a + S128x128.size a ≤ S512x1024.size a}
    {hc : S128x128.ShapeCasts S128x128} (r e : Fin 128) :
    shapeCast S128x128 (View.readAt (Elt Ideal) M2.view (Rect.unit (s := S512x1024) ![o1, o2] S128x128.size inb).toLoadRect
      (hM2.unread X2)) hc (ix2 r e) = at2 X2 (o1 + r.val) (o2 + e.val) := by
  refine (congrFun (shapeCast_self _ hc) (ix2 r e)).trans ?_
  rw [View.readAt_eq_ld, hM2.read_unread]
  exact at2_eq X2 _ (Rect.idx_unit_val _ _ inb _ 0) (Rect.idx_unit_val _ _ inb _ 1)

theorem l_load {o1 o2 : ℕ} {inb : ∀ a, (![o1, o2] : Fin 2 → ℕ) a + S128x128.size a ≤ S512x1024.size a} (r e : Fin 128) :
    View.readAt (Elt Ideal) MF.view (Rect.unit (s := S512x1024) ![o1, o2] S128x128.size inb).toLoadRect
      (hMF.unread XF) (ix2 r e) = at2 XF (o1 + r.val) (o2 + e.val) := by
  rw [View.readAt_eq_ld, hMF.read_unread]
  exact at2_eq XF _ (Rect.idx_unit_val _ _ inb _ 0) (Rect.idx_unit_val _ _ inb _ 1)

theorem k_load {o o2 : ℕ} {inbP : ∀ a, (![0, 0, o2] : Fin 3 → ℕ) a + S1x128x128.size a ≤ S1x128x1024.size a}
    {inb : ∀ a, (![0, 0, o2] : Fin 3 → ℕ) a + S1x512x128.size a ≤ S1x512x1024.size a}
    {hcP : S1x128x128.ShapeCasts S128x128} {hc : S1x512x128.ShapeCasts S512x128}
    {hs : S640x128.Slices ![o, 0] S256x128}
    (c : Fin 256) (e : Fin 128) :
    extractStridedSlice S256x128 ![o, 0] (concatenate S640x128 0
      [⟨S128x128, shapeCast S128x128 (View.readAt (Elt Ideal) MP.view
          (Rect.unit (s := S1x128x1024) ![0, 0, o2] S1x128x128.size inbP).toLoadRect (hMP.unread XP)) hcP⟩,
        ⟨S512x128, shapeCast S512x128 (View.readAt (Elt Ideal) M3.view
          (Rect.unit (s := S1x512x1024) ![0, 0, o2] S1x512x128.size inb).toLoadRect (hM3.unread X3)) hc⟩] concatenates_S128x128_S512x128_S640x128_d0) hs (ix2 c e)
      = keys XP X3 (o + c.val) (o2 + e.val) := by
  have hb : o + 256 ≤ 640 := by have := hs.2 0; simpa using this
  have hlt : o + c.val < 640 := by have := c.isLt; omega
  refine (extractStridedSlice_apply ![o, 0] _ hs (ix2 c e) (ix2 ⟨o + c.val, hlt⟩ e) (by
    intro a; fin_cases a
    · rfl
    · show e.val = 0 + e.val; omega)).trans ?_
  unfold keys
  split_ifs with h
  · refine (concatenate_pair_apply_left (t := S640x128) (s₁ := S128x128) (s₂ := S512x128) 0 _ _ concatenates_S128x128_S512x128_S640x128_d0 _ rfl (ix2 ⟨o + c.val, h⟩ e)
      (by intro b; fin_cases b <;> rfl)).trans ?_
    refine (shapeCast_dropUnit_apply ![128, 128] _ hcP _).trans ?_
    rw [View.readAt_eq_ld, hMP.read_unread]
    exact at3_eq XP _ (Rect.idx_unit_val _ _ inbP _ 0) ((Rect.idx_unit_val _ _ inbP _ 1).trans (Nat.zero_add _)) (Rect.idx_unit_val _ _ inbP _ 2)
  · have h' : o + c.val - 128 < 512 := by omega
    refine (concatenate_pair_apply_right (t := S640x128) (s₁ := S128x128) (s₂ := S512x128) 0 _ _ concatenates_S128x128_S512x128_S640x128_d0 _ rfl rfl (ix2 ⟨o + c.val - 128, h'⟩ e)
      (by intro b hb; fin_cases b <;> first | rfl | exact absurd rfl hb) (by show o + c.val - 128 + 128 = o + c.val; omega)).trans ?_
    refine (shapeCast_dropUnit_apply ![512, 128] _ hc _).trans ?_
    rw [View.readAt_eq_ld, hM3.read_unread]
    exact at3_eq X3 _ (Rect.idx_unit_val _ _ inb _ 0) ((Rect.idx_unit_val _ _ inb _ 1).trans (Nat.zero_add _)) (Rect.idx_unit_val _ _ inb _ 2)

end Loads

/-! ## The window mask -/

/-- Query row `r` of the 128-row block `b` sees key `c` of the 256 rows that end with the block's own: at most 128 back, and in the
    first block of a sequence (every second block begins one) not before it. -/
def Win (b r c : ℕ) : Prop := r ≤ c ∧ c ≤ r + 128 ∧ (b % 2 = 0 → 128 ≤ c)
instance (b r c : ℕ) : Decidable (Win b r c) := by unfold Win; infer_instance

/-- The printed mask of block `w`'s parity. -/
def maskV (w : BitVec 32) : IVec S128x256 1 :=
  andi (andi (cmpi .sge (iota .tc S128x256 32 [1] iota_S128x256_d1_w32) (iota .tc S128x256 32 [0] iota_S128x256_d0_w32))
      (cmpi .sle (iota .tc S128x256 32 [1] iota_S128x256_d1_w32)
        (addi (iota .tc S128x256 32 [0] iota_S128x256_d0_w32) (broadcast S128x256 128#32))))
    (cmpi .sge (iota .tc S128x256 32 [1] iota_S128x256_d1_w32) (broadcast S128x256 w))

theorem maskV_apply (b : ℕ) (w : BitVec 32) (hw : w = if b % 2 = 0 then 128#32 else 0#32) (r : Fin 128) (c : Fin 256) :
    maskV w (ix2 r c) = 1#1 ↔ Win b r.val c.val := by
  have hr := r.isLt
  have hc := c.isLt
  have i0 : iota .tc S128x256 32 [0] iota_S128x256_d0_w32 (ix2 r c) = BitVec.ofNat 32 r.val := iota_single_apply _ _ _ _ _ _
  have i1 : iota .tc S128x256 32 [1] iota_S128x256_d1_w32 (ix2 r c) = BitVec.ofNat 32 c.val := iota_single_apply _ _ _ _ _ _
  have key : maskV w (ix2 r c) = IntOp.andi (IntOp.andi (IntOp.cmpi .sge (BitVec.ofNat 32 c.val) (BitVec.ofNat 32 r.val))
      (IntOp.cmpi .sle (BitVec.ofNat 32 c.val) (IntOp.addi (BitVec.ofNat 32 r.val) (BitVec.ofNat 32 128))))
      (IntOp.cmpi .sge (BitVec.ofNat 32 c.val) w) := by
    rw [← i0, ← i1]; rfl
  rw [key, WordCmp.addi_ofNat]
  have a1 : IntOp.cmpi .sge (BitVec.ofNat 32 c.val) (BitVec.ofNat 32 r.val) = 1#1 ↔ r.val ≤ c.val :=
    WordCmp.cmpi_sge_ofNat_eq_one_iff (by norm_num; omega) (by norm_num; omega)
  have a2 : IntOp.cmpi .sle (BitVec.ofNat 32 c.val) (BitVec.ofNat 32 (r.val + 128)) = 1#1 ↔ c.val ≤ r.val + 128 :=
    WordCmp.cmpi_sle_ofNat_eq_one_iff (by norm_num; omega) (by norm_num; omega)
  have a3 : IntOp.cmpi .sge (BitVec.ofNat 32 c.val) w = 1#1 ↔ (b % 2 = 0 → 128 ≤ c.val) := by
    subst hw
    split_ifs with h
    exacts [(WordCmp.cmpi_sge_ofNat_eq_one_iff (w := 32) (b := 128) (by norm_num; omega) (by norm_num)).trans (by simp [h]),
      (WordCmp.cmpi_sge_ofNat_eq_one_iff (w := 32) (b := 0) (by norm_num; omega) (by norm_num)).trans (by simp [h])]
  have and1 : ∀ x y : BitVec 1, IntOp.andi x y = 1#1 ↔ x = 1#1 ∧ y = 1#1 := by decide
  rw [and1, and1, a1, a2, a3, Win, and_assoc]

/-- The word the kernel compares the lane with, at point `n` and block `j` of its four. -/
theorem word_eq (n : ℕ) (hn : n < 9) (j : ℕ) (hj : j < 4) :
    Scalar.select (Scalar.cmpi .eq (Scalar.remsi (Scalar.addi (Scalar.muli (BitVec.ofNat 32 n) 4#32) (BitVec.ofNat 32 j)) 2#32) 0#32)
      128#32 0#32 = if (4 * n + j) % 2 = 0 then 128#32 else 0#32 := by
  interval_cases n <;> interval_cases j <;> decide

/-- The mask of block `j` at point `n`. -/
theorem mask_at (i : grid0.Coords) (n : ℕ) (hi : (i 0).val = n) (hn : n < 9) (j : ℕ) (hj : j < 4) (r : Fin 128) (c : Fin 256) :
    maskV (Scalar.select (Scalar.cmpi .eq (Scalar.remsi (Scalar.addi (Scalar.muli (BitVec.ofNat 32 (i 0).val) 4#32)
      (BitVec.ofNat 32 j)) 2#32) 0#32) 128#32 0#32) (ix2 r c) = 1#1 ↔ Win (4 * n + j) r.val c.val :=
  maskV_apply (4 * n + j) _ (hi ▸ word_eq (i 0).val (hi ▸ hn) j hj) r c

/-! ## A point's blocks, and what it computes of them -/

/-- The blocks a grid point reads. -/
structure In where
  q : Vec Ideal S1x512x1024 .bf16
  d : Vec Ideal S512x1024 .bf16
  l : Vec Ideal S512x1024 .f32
  g : Vec Ideal S512x1024 .f32
  k : Vec Ideal S1x512x1024 .bf16
  kp : Vec Ideal S1x128x1024 .bf16
  v : Vec Ideal S1x512x1024 .bf16
  vp : Vec Ideal S1x128x1024 .bf16

namespace In

variable (X : In) (n j h : ℕ)

def Q (r e : ℕ) : EReal := at3 X.q 0 (128 * j + r) (128 * h + e)
def D (r e : ℕ) : EReal := at2 X.d (128 * j + r) (128 * h + e)
def L (r e : ℕ) : EReal := at2 X.l (128 * j + r) (128 * h + e)
def E (r e : ℕ) : EReal := at2 X.g (128 * j + r) (128 * h + e)
def K (c e : ℕ) : EReal := keys X.kp X.k (128 * j + c) (128 * h + e)
def V (c e : ℕ) : EReal := keys X.vp X.v (128 * j + c) (128 * h + e)

/-- Block `j` and head `h`'s three products at a row and a lane. -/
def dq (r e : ℕ) : EReal := Dq (Win (4 * n + j)) (X.Q j h) (X.K j h) (X.L j h) (X.D j h) (X.V j h) (X.E j h) r e
def dk (c e : ℕ) : EReal := Dk (Win (4 * n + j)) (X.Q j h) (X.K j h) (X.L j h) (X.D j h) (X.V j h) (X.E j h) c e
def dv (c e : ℕ) : EReal := Dv (Win (4 * n + j)) (X.Q j h) (X.K j h) (X.L j h) (X.D j h) c e

/-- What the point leaves in its first scratch, at a row and a column: the query gradient of the row. -/
def cq (R C : ℕ) : EReal := X.dq n (R / 128) (C / 128) (R % 128) (C % 128)
def cqF : S512x1024.Idx → Elt Ideal .f32 := fun y => X.cq n (y 0).val (y 1).val

end In

/-- A key (value) scratch piece of a block before the last: the block's own part and the next block's. -/
def totV (a b : FVec Ideal S256x128 .f32) : FVec Ideal S128x128 .f32 :=
  shapeCast S128x128 (addf (extractStridedSlice S128x128 ![128, 0] a slices_S256x128_o128_0_S128x128)
    (extractStridedSlice S128x128 ![0, 0] b slices_S256x128_o0_0_S128x128)) shapeCasts_S128x128_S128x128
/-- And of the last block: its own part. -/
def lastV (a : FVec Ideal S256x128 .f32) : FVec Ideal S128x128 .f32 :=
  shapeCast S128x128 (extractStridedSlice S128x128 ![128, 0] a slices_S256x128_o128_0_S128x128) shapeCasts_S128x128_S128x128

theorem hi_apply (a : FVec Ideal S256x128 .f32) (r e : Fin 128) :
    extractStridedSlice S128x128 ![128, 0] a slices_S256x128_o128_0_S128x128 (ix2 r e)
      = a (ix2 ⟨128 + r.val, by have := r.isLt; omega⟩ e) :=
  extractStridedSlice_apply _ _ _ _ _ (by
    intro x; fin_cases x
    · rfl
    · show e.val = 0 + e.val; omega)
theorem lo_apply (a : FVec Ideal S256x128 .f32) (r e : Fin 128) :
    extractStridedSlice S128x128 ![0, 0] a slices_S256x128_o0_0_S128x128 (ix2 r e)
      = a (ix2 ⟨r.val, by have := r.isLt; omega⟩ e) :=
  extractStridedSlice_apply _ _ _ _ _ (by
    intro x; fin_cases x
    · show r.val = 0 + r.val; omega
    · show e.val = 0 + e.val; omega)

section PieceLemmas

variable (X : In) (n j h : ℕ) {o1 o2 : ℕ} (ho1 : o1 = 128 * j) (ho2 : o2 = 128 * h) {v28 : IVec S128x256 1} {q d : FVec Ideal S128x128 .bf16} {k v : FVec Ideal S256x128 .bf16}
  {l1 l2 d1 d2 : Vec Ideal S128x128 .f32}
  (hm : ∀ (r : Fin 128) (c : Fin 256), v28 (ix2 r c) = 1#1 ↔ Win (4 * n + j) r.val c.val)
  (hq : ∀ r e : Fin 128, q (ix2 r e) = at3 X.q 0 (o1 + r.val) (o2 + e.val))
  (hk : ∀ (c : Fin 256) (e : Fin 128), k (ix2 c e) = keys X.kp X.k (o1 + c.val) (o2 + e.val))
  (h1 : ∀ r e : Fin 128, l1 (ix2 r e) = at2 X.l (o1 + r.val) (o2 + e.val))
  (h2 : ∀ r e : Fin 128, l2 (ix2 r e) = at2 X.l (o1 + r.val) (o2 + e.val))
  (hd : ∀ r e : Fin 128, d (ix2 r e) = at2 X.d (o1 + r.val) (o2 + e.val))
  (hv : ∀ (c : Fin 256) (e : Fin 128), v (ix2 c e) = keys X.vp X.v (o1 + c.val) (o2 + e.val))
  (g1 : ∀ r e : Fin 128, d1 (ix2 r e) = at2 X.g (o1 + r.val) (o2 + e.val))
  (g2 : ∀ r e : Fin 128, d2 (ix2 r e) = at2 X.g (o1 + r.val) (o2 + e.val))

theorem row_emb {inb : ∀ a, (![o1, o2] : Fin 2 → ℕ) a + S128x128.size a ≤ S512x1024.size a} (r e : Fin 128) :
    (((Rect.unit (s := S512x1024) ![o1, o2] S128x128.size inb).emb (ix2 r e)) 0).val = o1 + r.val
    ∧ (((Rect.unit (s := S512x1024) ![o1, o2] S128x128.size inb).emb (ix2 r e)) 1).val = o2 + e.val :=
  ⟨Rect.idx_unit_val _ _ inb _ 0, Rect.idx_unit_val _ _ inb _ 1⟩

theorem split_row (r : Fin 128) : (128 * j + r.val) / 128 = j ∧ (128 * j + r.val) % 128 = r.val := by
  have := r.isLt; omega

include ho1 ho2 hm hq hk h1 h2 hd hv g1 g2 in
theorem dq_at (r e : Fin 128) : dqV v28 q d k v l1 l2 d1 d2 (ix2 r e) = X.dq n j h r.val e.val := by
  subst ho1 ho2
  exact dq_apply (Q := X.Q j h) (K := X.K j h) (L := X.L j h) (D := X.D j h) (V := X.V j h) (E := X.E j h) hm hq hk h1 h2 hd hv g1 g2 r e

include ho1 ho2 hm hq hk h1 h2 hd hv g1 g2 in
theorem dk_at (c : Fin 256) (e : Fin 128) : dkV v28 q d k v l1 l2 d1 d2 (ix2 c e) = X.dk n j h c.val e.val := by
  subst ho1 ho2
  exact dk_apply (Q := X.Q j h) (K := X.K j h) (L := X.L j h) (D := X.D j h) (V := X.V j h) (E := X.E j h) hm hq hk h1 h2 hd hv g1 g2 c e

include ho1 ho2 hm hq hk h1 h2 hd in
theorem dv_at (c : Fin 256) (e : Fin 128) : k0_pay24 v28 q d k l1 l2 (ix2 c e) = X.dv n j h c.val e.val := by
  subst ho1 ho2
  exact dv_apply (Q := X.Q j h) (K := X.K j h) (L := X.L j h) (D := X.D j h) hm hq hk h1 h2 hd c e

include ho1 ho2 in
theorem cq_piece {inb : ∀ a, (![o1, o2] : Fin 2 → ℕ) a + S128x128.size a ≤ S512x1024.size a} {w : FVec Ideal S128x128 .f32}
    (hw : ∀ r e : Fin 128, w (ix2 r e) = X.dq n j h r.val e.val) (x : S128x128.Idx) :
    w x = X.cqF n ((Rect.unit (s := S512x1024) ![o1, o2] S128x128.size inb).emb x) := by
  obtain ⟨r, e, rfl⟩ : ∃ r e : Fin 128, x = ix2 r e := ⟨x 0, x 1, eq_ix2 x⟩
  unfold In.cqF
  rw [(row_emb r e).1, (row_emb r e).2]
  subst ho1 ho2
  unfold In.cq
  rw [(split_row j r).1, (split_row j r).2, (split_row h e).1, (split_row h e).2]
  exact hw r e

section Totals

variable {f : ℕ → ℕ → ℕ → ℕ → EReal} {a b : FVec Ideal S256x128 .f32}
  {inb : ∀ a, (![o1, o2] : Fin 2 → ℕ) a + S128x128.size a ≤ S512x1024.size a}

/-- The scratch a family of parts leaves. -/
def tot (f : ℕ → ℕ → ℕ → ℕ → EReal) (R C : ℕ) : EReal :=
  if R / 128 < 3 then f (R / 128) (C / 128) (128 + R % 128) (C % 128) + f (R / 128 + 1) (C / 128) (R % 128) (C % 128)
  else f (R / 128) (C / 128) (128 + R % 128) (C % 128)
def totF (f : ℕ → ℕ → ℕ → ℕ → EReal) : S512x1024.Idx → Elt Ideal .f32 := fun y => tot f (y 0).val (y 1).val

include ho1 ho2

theorem tot_piece (hj : j < 3) (ha : ∀ (c : Fin 256) (e : Fin 128), a (ix2 c e) = f j h c.val e.val)
    (hb : ∀ (c : Fin 256) (e : Fin 128), b (ix2 c e) = f (j + 1) h c.val e.val) (x : S128x128.Idx) :
    totV a b x = totF f ((Rect.unit (s := S512x1024) ![o1, o2] S128x128.size inb).emb x) := by
  obtain ⟨r, e, rfl⟩ : ∃ r e : Fin 128, x = ix2 r e := ⟨x 0, x 1, eq_ix2 x⟩
  unfold totF
  rw [(row_emb r e).1, (row_emb r e).2]
  subst ho1 ho2
  unfold tot totV
  rw [shapeCast_self, (split_row j r).1, (split_row j r).2, (split_row h e).1, (split_row h e).2, if_pos hj]
  show extractStridedSlice S128x128 ![128, 0] a _ (ix2 r e) + extractStridedSlice S128x128 ![0, 0] b _ (ix2 r e) = _
  rw [hi_apply, lo_apply, ha, hb]

theorem last_piece (hj : ¬j < 3) (ha : ∀ (c : Fin 256) (e : Fin 128), a (ix2 c e) = f j h c.val e.val) (x : S128x128.Idx) :
    lastV a x = totF f ((Rect.unit (s := S512x1024) ![o1, o2] S128x128.size inb).emb x) := by
  obtain ⟨r, e, rfl⟩ : ∃ r e : Fin 128, x = ix2 r e := ⟨x 0, x 1, eq_ix2 x⟩
  unfold totF
  rw [(row_emb r e).1, (row_emb r e).2]
  subst ho1 ho2
  unfold tot lastV
  rw [shapeCast_self, (split_row j r).1, (split_row j r).2, (split_row h e).1, (split_row h e).2, if_neg hj, hi_apply, ha]

end Totals

end PieceLemmas

/-! ## What a point writes back -/

/-- Rows of a key (value) gradient block: what the point before left, and in its last 128 rows the parts of this point's first block. -/
def low (xs : S512x1024.Idx → EReal) (f : ℕ → ℕ → ℕ → ℕ → EReal) (R C : ℕ) : EReal :=
  if R < 384 then at2 xs R C else at2 xs R C + f 0 (C / 128) (R - 384) (C % 128)

/-- The block a point before the last writes back: the query, key and value gradients of the block before it. -/
def outBF (a b d : S512x1024.Idx → EReal) (f g : ℕ → ℕ → ℕ → ℕ → EReal) : S3x512x1024.Idx → Elt Ideal .bf16 := fun y =>
  if (y 0).val = 0 then at2 a (y 1).val (y 2).val else if (y 0).val = 1 then low b f (y 1).val (y 2).val
  else low d g (y 1).val (y 2).val
/-- And the last point. -/
def outCF (a b d : S512x1024.Idx → EReal) : S3x512x1024.Idx → Elt Ideal .bf16 := fun y =>
  if (y 0).val = 0 then at2 a (y 1).val (y 2).val else if (y 0).val = 1 then at2 b (y 1).val (y 2).val
  else at2 d (y 1).val (y 2).val

/-- Block rows 0 to 383, as stored. -/
def topV (a : FVec Ideal S384x128 .f32) : FVec Ideal S1x384x128 .bf16 :=
  shapeCast S1x384x128 (truncf .bf16 a bitsLt_bf16_f32) shapeCasts_S384x128_S1x384x128
/-- Block rows 384 to 511, as stored. -/
def botV (a : FVec Ideal S128x128 .f32) (w : FVec Ideal S256x128 .f32) : FVec Ideal S1x128x128 .bf16 :=
  shapeCast S1x128x128 (truncf .bf16 (addf a (extractStridedSlice S128x128 ![0, 0] w slices_S256x128_o0_0_S128x128)) bitsLt_bf16_f32)
    shapeCasts_S128x128_S1x128x128

section Stores

variable {M : Memref sig .tc .vmem S512x1024 .f32} {hM : M.IsWhole} {xs : Vec Ideal S512x1024 .f32} {f : ℕ → ℕ → ℕ → ℕ → EReal}
  {F : S3x512x1024.Idx → Elt Ideal .bf16} (p : ℕ)

theorem load_apply {o1 o2 n1 n2 : ℕ} {inb : ∀ a, (![o1, o2] : Fin 2 → ℕ) a + (![n1, n2] : Fin 2 → ℕ) a ≤ S512x1024.size a}
    (r : Fin n1) (e : Fin n2) :
    View.readAt (Elt Ideal) M.view (Rect.unit (s := S512x1024) ![o1, o2] ![n1, n2] inb).toLoadRect (hM.unread xs) (ix2 r e)
      = at2 xs (o1 + r.val) (o2 + e.val) := by
  rw [View.readAt_eq_ld, hM.read_unread]
  exact at2_eq xs _ (Rect.idx_unit_val _ _ inb _ 0) (Rect.idx_unit_val _ _ inb _ 1)

theorem all_piece (hF : ∀ y : S3x512x1024.Idx, (y 0).val = p → F y = at2 xs (y 1).val (y 2).val)
    {inb : ∀ a, (![p, 0, 0] : Fin 3 → ℕ) a + (![1, 512, 1024] : Fin 3 → ℕ) a ≤ S3x512x1024.size a}
    {inb' : ∀ a, (![0, 0] : Fin 2 → ℕ) a + (![512, 1024] : Fin 2 → ℕ) a ≤ S512x1024.size a} (x : S1x512x1024.Idx) :
    k0_pay4 (View.readAt (Elt Ideal) M.view (Rect.unit (s := S512x1024) ![0, 0] ![512, 1024] inb').toLoadRect (hM.unread xs)) x
      = F ((Rect.unit (s := S3x512x1024) ![p, 0, 0] ![1, 512, 1024] inb).emb x) := by
  obtain ⟨z, r, e, rfl⟩ : ∃ (z : Fin 1) (r : Fin 512) (e : Fin 1024), x = ix3 z r e := ⟨x 0, x 1, x 2, eq_ix3 x⟩
  have hx : (fun a : Fin 2 => (ix3 z r e : S1x512x1024.Idx) a.succ) = (ix2 r e : S512x1024.Idx) := by funext a; fin_cases a <;> rfl
  have e0 : (((Rect.unit (s := S3x512x1024) ![p, 0, 0] ![1, 512, 1024] inb).emb (ix3 z r e)) 0).val = p :=
    (Rect.idx_unit_val _ _ inb _ 0).trans (by show p + z.val = p; omega)
  have e1 : (((Rect.unit (s := S3x512x1024) ![p, 0, 0] ![1, 512, 1024] inb).emb (ix3 z r e)) 1).val = 0 + r.val :=
    Rect.idx_unit_val _ _ inb _ 1
  have e2 : (((Rect.unit (s := S3x512x1024) ![p, 0, 0] ![1, 512, 1024] inb).emb (ix3 z r e)) 2).val = 0 + e.val :=
    Rect.idx_unit_val _ _ inb _ 2
  rw [hF _ e0, e1, e2]
  show shapeCast S1x512x1024 (truncf .bf16 _ bitsLt_bf16_f32) shapeCasts_S512x1024_S1x512x1024 (ix3 z r e) = _
  refine (shapeCast_addUnit_apply ![512, 1024] _ shapeCasts_S512x1024_S1x512x1024 (ix3 z r e)).trans ((congrArg _ hx).trans ?_)
  exact load_apply (M := M) (hM := hM) (xs := xs) (n1 := 512) (n2 := 1024) r e

variable (hF : ∀ y : S3x512x1024.Idx, (y 0).val = p → F y = low xs f (y 1).val (y 2).val) (h : ℕ) {o2 : ℕ} (ho2 : o2 = 128 * h)

include hF in
theorem top_piece {inb : ∀ a, (![p, 0, o2] : Fin 3 → ℕ) a + S1x384x128.size a ≤ S3x512x1024.size a}
    {inb' : ∀ a, (![0, o2] : Fin 2 → ℕ) a + S384x128.size a ≤ S512x1024.size a} (x : S1x384x128.Idx) :
    topV (View.readAt (Elt Ideal) M.view (Rect.unit (s := S512x1024) ![0, o2] S384x128.size inb').toLoadRect (hM.unread xs)) x
      = F ((Rect.unit (s := S3x512x1024) ![p, 0, o2] S1x384x128.size inb).emb x) := by
  obtain ⟨z, r, e, rfl⟩ : ∃ (z : Fin 1) (r : Fin 384) (e : Fin 128), x = ix3 z r e := ⟨x 0, x 1, x 2, eq_ix3 x⟩
  have hr := r.isLt
  have hx : (fun a : Fin 2 => (ix3 z r e : S1x384x128.Idx) a.succ) = (ix2 r e : S384x128.Idx) := by funext a; fin_cases a <;> rfl
  have e0 : (((Rect.unit (s := S3x512x1024) ![p, 0, o2] S1x384x128.size inb).emb (ix3 z r e)) 0).val = p :=
    (Rect.idx_unit_val _ _ inb _ 0).trans (by show p + z.val = p; omega)
  have e1 : (((Rect.unit (s := S3x512x1024) ![p, 0, o2] S1x384x128.size inb).emb (ix3 z r e)) 1).val = 0 + r.val :=
    Rect.idx_unit_val _ _ inb _ 1
  have e2 : (((Rect.unit (s := S3x512x1024) ![p, 0, o2] S1x384x128.size inb).emb (ix3 z r e)) 2).val = o2 + e.val :=
    Rect.idx_unit_val _ _ inb _ 2
  rw [hF _ e0, low, e1, e2, if_pos (by omega)]
  refine (shapeCast_addUnit_apply ![384, 128] _ shapeCasts_S384x128_S1x384x128 (ix3 z r e)).trans ((congrArg _ hx).trans ?_)
  exact load_apply (M := M) (hM := hM) (xs := xs) (n1 := 384) (n2 := 128) r e

include hF ho2 in
theorem bot_piece {w : FVec Ideal S256x128 .f32} (hw : ∀ (c : Fin 256) (e : Fin 128), w (ix2 c e) = f 0 h c.val e.val)
    {inb : ∀ a, (![p, 384, o2] : Fin 3 → ℕ) a + S1x128x128.size a ≤ S3x512x1024.size a}
    {inb' : ∀ a, (![384, o2] : Fin 2 → ℕ) a + S128x128.size a ≤ S512x1024.size a} (x : S1x128x128.Idx) :
    botV (View.readAt (Elt Ideal) M.view (Rect.unit (s := S512x1024) ![384, o2] S128x128.size inb').toLoadRect (hM.unread xs)) w x
      = F ((Rect.unit (s := S3x512x1024) ![p, 384, o2] S1x128x128.size inb).emb x) := by
  obtain ⟨z, r, e, rfl⟩ : ∃ (z : Fin 1) (r e : Fin 128), x = ix3 z r e := ⟨x 0, x 1, x 2, eq_ix3 x⟩
  have hx : (fun a : Fin 2 => (ix3 z r e : S1x128x128.Idx) a.succ) = (ix2 r e : S128x128.Idx) := by funext a; fin_cases a <;> rfl
  have e0 : (((Rect.unit (s := S3x512x1024) ![p, 384, o2] S1x128x128.size inb).emb (ix3 z r e)) 0).val = p :=
    (Rect.idx_unit_val _ _ inb _ 0).trans (by show p + z.val = p; omega)
  have e1 : (((Rect.unit (s := S3x512x1024) ![p, 384, o2] S1x128x128.size inb).emb (ix3 z r e)) 1).val = 384 + r.val :=
    Rect.idx_unit_val _ _ inb _ 1
  have e2 : (((Rect.unit (s := S3x512x1024) ![p, 384, o2] S1x128x128.size inb).emb (ix3 z r e)) 2).val = o2 + e.val :=
    Rect.idx_unit_val _ _ inb _ 2
  rw [hF _ e0, low, e1, e2, if_neg (by omega)]
  refine (shapeCast_addUnit_apply ![128, 128] _ shapeCasts_S128x128_S1x128x128 (ix3 z r e)).trans ((congrArg _ hx).trans ?_)
  have key : extractStridedSlice S128x128 ![0, 0] w slices_S256x128_o0_0_S128x128 (ix2 r e)
      = f 0 ((o2 + e.val) / 128) (384 + r.val - 384) ((o2 + e.val) % 128) := by
    subst ho2
    rw [(split_row h e).1, (split_row h e).2, Nat.add_sub_cancel_left, lo_apply, hw]
  exact congrArg₂ (· + ·) (load_apply (M := M) (hM := hM) (xs := xs) (n1 := 128) (n2 := 128) r e) key

end Stores

end Cert.KernelIdeal.Piece
-- ==== Proof.ScratchA.lean ====
module
public import proofs.«01_k».proof.Proof.Pieces
@[expose] public section
noncomputable section
open Idealize.ShloMosaic hiding ix2 ix3 eq_ix2 eq_ix3
open Idealize.ShloMosaic.TcCoe Idealize.ShloMosaic.ValueIdx Idealize.SL.Sem
namespace Cert.KernelIdeal.Piece
open Cert.KernelIdeal.Gen
section
variable (c : Dev nD) (i : grid0.Coords)
  (arg1 : Memref sig .tc .vmem S1x512x1024 .bf16) (harg1 : arg1.IsWhole)
  (arg2 : Memref sig .tc .vmem S512x1024 .bf16) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x512x1024 .bf16) (harg5 : arg5.IsWhole)
  (arg6 : Memref sig .tc .vmem S1x128x1024 .bf16) (harg6 : arg6.IsWhole)
  (arg7 : Memref sig .tc .vmem S1x512x1024 .bf16) (harg7 : arg7.IsWhole)
  (arg8 : Memref sig .tc .vmem S1x128x1024 .bf16) (harg8 : arg8.IsWhole)
  (arg9 : Memref sig .tc .vmem S3x512x1024 .bf16) (harg9 : arg9.IsWhole)
  (arg10 : Memref sig .tc .vmem S512x1024 .f32) (harg10 : arg10.IsWhole)
  (arg11 : Memref sig .tc .vmem S512x1024 .f32) (harg11 : arg11.IsWhole)
  (arg12 : Memref sig .tc .vmem S512x1024 .f32) (harg12 : arg12.IsWhole)
  (x0 : Vec Ideal S1x512x1024 .bf16)  (x1 : Vec Ideal S512x1024 .bf16)  (x2 : Vec Ideal S512x1024 .f32)  (x3 : Vec Ideal S512x1024 .f32)  (x4 : Vec Ideal S1x512x1024 .bf16)  (x5 : Vec Ideal S1x128x1024 .bf16)  (x6 : Vec Ideal S1x512x1024 .bf16)  (x7 : Vec Ideal S1x128x1024 .bf16)
variable (hc0 : cond0_0 i) (hc1 : cond0_1 i) (hc2 : ¬cond0_2 i) (n : ℕ) (hi : (i 0).val = n) (hn : n < 9)
include hi hn
set_option maxHeartbeats 4000000
theorem s0_A : sout0_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 = ((⟨x0, x1, x2, x3, x4, x5, x6, x7⟩ : In).cqF n) := by
  unfold sout0_A_0
  rw [View.read_writes_junk_eq_canon]
  funext y
  rw [← List.take_append_drop 32 (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1]
  refine View.canon_append_of_piecesOf ((⟨x0, x1, x2, x3, x4, x5, x6, x7⟩ : In).cqF n) _ _ ?_ y
    (View.cover_of_tiledL (s := S512x1024) ((kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1.take 32) S128x128.size (by sl_kernel_rfl) y)
  frame_open
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro x
    show dqV _ _ _ _ _ _ _ _ _ x = _
    refine cq_piece _ n 3 7 (o1 := 384) (o2 := 896) rfl rfl (inb := inb_S512x1024_S128x128_384_896) (w := dqV _ _ _ _ _ _ _ _ _) ?_ x
    refine dq_at _ n 3 7 (o1 := 384) (o2 := 896) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 7 (o1 := 256) (o2 := 896) rfl rfl (inb := inb_S512x1024_S128x128_256_896) (w := dqV _ _ _ _ _ _ _ _ _) ?_ x
    refine dq_at _ n 2 7 (o1 := 256) (o2 := 896) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 7 (o1 := 128) (o2 := 896) rfl rfl (inb := inb_S512x1024_S128x128_128_896) (w := dqV _ _ _ _ _ _ _ _ _) ?_ x
    refine dq_at _ n 1 7 (o1 := 128) (o2 := 896) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 7 (o1 := 0) (o2 := 896) rfl rfl (inb := inb_S512x1024_S128x128_0_896) (w := dqV _ _ _ _ _ _ _ _ _) ?_ x
    refine dq_at _ n 0 7 (o1 := 0) (o2 := 896) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 6 (o1 := 384) (o2 := 768) rfl rfl (inb := inb_S512x1024_S128x128_384_768) (w := dqV _ _ _ _ _ _ _ _ _) ?_ x
    refine dq_at _ n 3 6 (o1 := 384) (o2 := 768) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 6 (o1 := 256) (o2 := 768) rfl rfl (inb := inb_S512x1024_S128x128_256_768) (w := dqV _ _ _ _ _ _ _ _ _) ?_ x
    refine dq_at _ n 2 6 (o1 := 256) (o2 := 768) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 6 (o1 := 128) (o2 := 768) rfl rfl (inb := inb_S512x1024_S128x128_128_768) (w := dqV _ _ _ _ _ _ _ _ _) ?_ x
    refine dq_at _ n 1 6 (o1 := 128) (o2 := 768) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 6 (o1 := 0) (o2 := 768) rfl rfl (inb := inb_S512x1024_S128x128_0_768) (w := dqV _ _ _ _ _ _ _ _ _) ?_ x
    refine dq_at _ n 0 6 (o1 := 0) (o2 := 768) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 5 (o1 := 384) (o2 := 640) rfl rfl (inb := inb_S512x1024_S128x128_384_640) (w := dqV _ _ _ _ _ _ _ _ _) ?_ x
    refine dq_at _ n 3 5 (o1 := 384) (o2 := 640) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 5 (o1 := 256) (o2 := 640) rfl rfl (inb := inb_S512x1024_S128x128_256_640) (w := dqV _ _ _ _ _ _ _ _ _) ?_ x
    refine dq_at _ n 2 5 (o1 := 256) (o2 := 640) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 5 (o1 := 128) (o2 := 640) rfl rfl (inb := inb_S512x1024_S128x128_128_640) (w := dqV _ _ _ _ _ _ _ _ _) ?_ x
    refine dq_at _ n 1 5 (o1 := 128) (o2 := 640) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 5 (o1 := 0) (o2 := 640) rfl rfl (inb := inb_S512x1024_S128x128_0_640) (w := dqV _ _ _ _ _ _ _ _ _) ?_ x
    refine dq_at _ n 0 5 (o1 := 0) (o2 := 640) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 4 (o1 := 384) (o2 := 512) rfl rfl (inb := inb_S512x1024_S128x128_384_512) (w := dqV _ _ _ _ _ _ _ _ _) ?_ x
    refine dq_at _ n 3 4 (o1 := 384) (o2 := 512) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 4 (o1 := 256) (o2 := 512) rfl rfl (inb := inb_S512x1024_S128x128_256_512) (w := dqV _ _ _ _ _ _ _ _ _) ?_ x
    refine dq_at _ n 2 4 (o1 := 256) (o2 := 512) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 4 (o1 := 128) (o2 := 512) rfl rfl (inb := inb_S512x1024_S128x128_128_512) (w := dqV _ _ _ _ _ _ _ _ _) ?_ x
    refine dq_at _ n 1 4 (o1 := 128) (o2 := 512) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 4 (o1 := 0) (o2 := 512) rfl rfl (inb := inb_S512x1024_S128x128_0_512) (w := dqV _ _ _ _ _ _ _ _ _) ?_ x
    refine dq_at _ n 0 4 (o1 := 0) (o2 := 512) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 3 (o1 := 384) (o2 := 384) rfl rfl (inb := inb_S512x1024_S128x128_384_384) (w := dqV _ _ _ _ _ _ _ _ _) ?_ x
    refine dq_at _ n 3 3 (o1 := 384) (o2 := 384) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 3 (o1 := 256) (o2 := 384) rfl rfl (inb := inb_S512x1024_S128x128_256_384) (w := dqV _ _ _ _ _ _ _ _ _) ?_ x
    refine dq_at _ n 2 3 (o1 := 256) (o2 := 384) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 3 (o1 := 128) (o2 := 384) rfl rfl (inb := inb_S512x1024_S128x128_128_384) (w := dqV _ _ _ _ _ _ _ _ _) ?_ x
    refine dq_at _ n 1 3 (o1 := 128) (o2 := 384) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 3 (o1 := 0) (o2 := 384) rfl rfl (inb := inb_S512x1024_S128x128_0_384) (w := dqV _ _ _ _ _ _ _ _ _) ?_ x
    refine dq_at _ n 0 3 (o1 := 0) (o2 := 384) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 2 (o1 := 384) (o2 := 256) rfl rfl (inb := inb_S512x1024_S128x128_384_256) (w := dqV _ _ _ _ _ _ _ _ _) ?_ x
    refine dq_at _ n 3 2 (o1 := 384) (o2 := 256) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 2 (o1 := 256) (o2 := 256) rfl rfl (inb := inb_S512x1024_S128x128_256_256) (w := dqV _ _ _ _ _ _ _ _ _) ?_ x
    refine dq_at _ n 2 2 (o1 := 256) (o2 := 256) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 2 (o1 := 128) (o2 := 256) rfl rfl (inb := inb_S512x1024_S128x128_128_256) (w := dqV _ _ _ _ _ _ _ _ _) ?_ x
    refine dq_at _ n 1 2 (o1 := 128) (o2 := 256) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 2 (o1 := 0) (o2 := 256) rfl rfl (inb := inb_S512x1024_S128x128_0_256) (w := dqV _ _ _ _ _ _ _ _ _) ?_ x
    refine dq_at _ n 0 2 (o1 := 0) (o2 := 256) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 1 (o1 := 384) (o2 := 128) rfl rfl (inb := inb_S512x1024_S128x128_384_128) (w := dqV _ _ _ _ _ _ _ _ _) ?_ x
    refine dq_at _ n 3 1 (o1 := 384) (o2 := 128) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 1 (o1 := 256) (o2 := 128) rfl rfl (inb := inb_S512x1024_S128x128_256_128) (w := dqV _ _ _ _ _ _ _ _ _) ?_ x
    refine dq_at _ n 2 1 (o1 := 256) (o2 := 128) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 1 (o1 := 128) (o2 := 128) rfl rfl (inb := inb_S512x1024_S128x128_128_128) (w := dqV _ _ _ _ _ _ _ _ _) ?_ x
    refine dq_at _ n 1 1 (o1 := 128) (o2 := 128) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 1 (o1 := 0) (o2 := 128) rfl rfl (inb := inb_S512x1024_S128x128_0_128) (w := dqV _ _ _ _ _ _ _ _ _) ?_ x
    refine dq_at _ n 0 1 (o1 := 0) (o2 := 128) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 0 (o1 := 384) (o2 := 0) rfl rfl (inb := inb_S512x1024_S128x128_384_0) (w := dqV _ _ _ _ _ _ _ _ _) ?_ x
    refine dq_at _ n 3 0 (o1 := 384) (o2 := 0) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 0 (o1 := 256) (o2 := 0) rfl rfl (inb := inb_S512x1024_S128x128_256_0) (w := dqV _ _ _ _ _ _ _ _ _) ?_ x
    refine dq_at _ n 2 0 (o1 := 256) (o2 := 0) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 0 (o1 := 128) (o2 := 0) rfl rfl (inb := inb_S512x1024_S128x128_128_0) (w := dqV _ _ _ _ _ _ _ _ _) ?_ x
    refine dq_at _ n 1 0 (o1 := 128) (o2 := 0) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 0 (o1 := 0) (o2 := 0) rfl rfl (inb := inb_S512x1024_S128x128_0_0) (w := dqV _ _ _ _ _ _ _ _ _) ?_ x
    refine dq_at _ n 0 0 (o1 := 0) (o2 := 0) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · trivial
theorem s1_A : sout0_A_1 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 = (totF ((⟨x0, x1, x2, x3, x4, x5, x6, x7⟩ : In).dk n)) := by
  unfold sout0_A_1
  rw [View.read_writes_junk_eq_canon]
  funext y
  rw [← List.take_append_drop 32 (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.2.1]
  refine View.canon_append_of_piecesOf (totF ((⟨x0, x1, x2, x3, x4, x5, x6, x7⟩ : In).dk n)) _ _ ?_ y
    (View.cover_of_tiledL (s := S512x1024) ((kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.2.1.take 32) S128x128.size (by sl_kernel_rfl) y)
  frame_open
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro x
    show lastV (dkV _ _ _ _ _ _ _ _ _) x = _
    refine last_piece 3 7 (o1 := 384) (o2 := 896) rfl rfl (f := ((⟨x0, x1, x2, x3, x4, x5, x6, x7⟩ : In).dk n)) (a := dkV _ _ _ _ _ _ _ _ _) (inb := inb_S512x1024_S128x128_384_896) (by decide) ?_ x
    · refine dk_at _ n 3 7 (o1 := 384) (o2 := 896) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 7 (o1 := 256) (o2 := 896) rfl rfl (f := ((⟨x0, x1, x2, x3, x4, x5, x6, x7⟩ : In).dk n)) (a := dkV _ _ _ _ _ _ _ _ _) (b := dkV _ _ _ _ _ _ _ _ _) (inb := inb_S512x1024_S128x128_256_896) (by decide) ?_ ?_ x
    · refine dk_at _ n 2 7 (o1 := 256) (o2 := 896) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 7 (o1 := 384) (o2 := 896) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 7 (o1 := 128) (o2 := 896) rfl rfl (f := ((⟨x0, x1, x2, x3, x4, x5, x6, x7⟩ : In).dk n)) (a := dkV _ _ _ _ _ _ _ _ _) (b := dkV _ _ _ _ _ _ _ _ _) (inb := inb_S512x1024_S128x128_128_896) (by decide) ?_ ?_ x
    · refine dk_at _ n 1 7 (o1 := 128) (o2 := 896) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 7 (o1 := 256) (o2 := 896) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 7 (o1 := 0) (o2 := 896) rfl rfl (f := ((⟨x0, x1, x2, x3, x4, x5, x6, x7⟩ : In).dk n)) (a := dkV _ _ _ _ _ _ _ _ _) (b := dkV _ _ _ _ _ _ _ _ _) (inb := inb_S512x1024_S128x128_0_896) (by decide) ?_ ?_ x
    · refine dk_at _ n 0 7 (o1 := 0) (o2 := 896) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 7 (o1 := 128) (o2 := 896) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 6 (o1 := 384) (o2 := 768) rfl rfl (f := ((⟨x0, x1, x2, x3, x4, x5, x6, x7⟩ : In).dk n)) (a := dkV _ _ _ _ _ _ _ _ _) (inb := inb_S512x1024_S128x128_384_768) (by decide) ?_ x
    · refine dk_at _ n 3 6 (o1 := 384) (o2 := 768) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 6 (o1 := 256) (o2 := 768) rfl rfl (f := ((⟨x0, x1, x2, x3, x4, x5, x6, x7⟩ : In).dk n)) (a := dkV _ _ _ _ _ _ _ _ _) (b := dkV _ _ _ _ _ _ _ _ _) (inb := inb_S512x1024_S128x128_256_768) (by decide) ?_ ?_ x
    · refine dk_at _ n 2 6 (o1 := 256) (o2 := 768) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 6 (o1 := 384) (o2 := 768) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 6 (o1 := 128) (o2 := 768) rfl rfl (f := ((⟨x0, x1, x2, x3, x4, x5, x6, x7⟩ : In).dk n)) (a := dkV _ _ _ _ _ _ _ _ _) (b := dkV _ _ _ _ _ _ _ _ _) (inb := inb_S512x1024_S128x128_128_768) (by decide) ?_ ?_ x
    · refine dk_at _ n 1 6 (o1 := 128) (o2 := 768) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 6 (o1 := 256) (o2 := 768) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 6 (o1 := 0) (o2 := 768) rfl rfl (f := ((⟨x0, x1, x2, x3, x4, x5, x6, x7⟩ : In).dk n)) (a := dkV _ _ _ _ _ _ _ _ _) (b := dkV _ _ _ _ _ _ _ _ _) (inb := inb_S512x1024_S128x128_0_768) (by decide) ?_ ?_ x
    · refine dk_at _ n 0 6 (o1 := 0) (o2 := 768) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 6 (o1 := 128) (o2 := 768) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 5 (o1 := 384) (o2 := 640) rfl rfl (f := ((⟨x0, x1, x2, x3, x4, x5, x6, x7⟩ : In).dk n)) (a := dkV _ _ _ _ _ _ _ _ _) (inb := inb_S512x1024_S128x128_384_640) (by decide) ?_ x
    · refine dk_at _ n 3 5 (o1 := 384) (o2 := 640) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 5 (o1 := 256) (o2 := 640) rfl rfl (f := ((⟨x0, x1, x2, x3, x4, x5, x6, x7⟩ : In).dk n)) (a := dkV _ _ _ _ _ _ _ _ _) (b := dkV _ _ _ _ _ _ _ _ _) (inb := inb_S512x1024_S128x128_256_640) (by decide) ?_ ?_ x
    · refine dk_at _ n 2 5 (o1 := 256) (o2 := 640) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 5 (o1 := 384) (o2 := 640) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 5 (o1 := 128) (o2 := 640) rfl rfl (f := ((⟨x0, x1, x2, x3, x4, x5, x6, x7⟩ : In).dk n)) (a := dkV _ _ _ _ _ _ _ _ _) (b := dkV _ _ _ _ _ _ _ _ _) (inb := inb_S512x1024_S128x128_128_640) (by decide) ?_ ?_ x
    · refine dk_at _ n 1 5 (o1 := 128) (o2 := 640) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 5 (o1 := 256) (o2 := 640) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 5 (o1 := 0) (o2 := 640) rfl rfl (f := ((⟨x0, x1, x2, x3, x4, x5, x6, x7⟩ : In).dk n)) (a := dkV _ _ _ _ _ _ _ _ _) (b := dkV _ _ _ _ _ _ _ _ _) (inb := inb_S512x1024_S128x128_0_640) (by decide) ?_ ?_ x
    · refine dk_at _ n 0 5 (o1 := 0) (o2 := 640) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 5 (o1 := 128) (o2 := 640) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 4 (o1 := 384) (o2 := 512) rfl rfl (f := ((⟨x0, x1, x2, x3, x4, x5, x6, x7⟩ : In).dk n)) (a := dkV _ _ _ _ _ _ _ _ _) (inb := inb_S512x1024_S128x128_384_512) (by decide) ?_ x
    · refine dk_at _ n 3 4 (o1 := 384) (o2 := 512) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 4 (o1 := 256) (o2 := 512) rfl rfl (f := ((⟨x0, x1, x2, x3, x4, x5, x6, x7⟩ : In).dk n)) (a := dkV _ _ _ _ _ _ _ _ _) (b := dkV _ _ _ _ _ _ _ _ _) (inb := inb_S512x1024_S128x128_256_512) (by decide) ?_ ?_ x
    · refine dk_at _ n 2 4 (o1 := 256) (o2 := 512) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 4 (o1 := 384) (o2 := 512) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 4 (o1 := 128) (o2 := 512) rfl rfl (f := ((⟨x0, x1, x2, x3, x4, x5, x6, x7⟩ : In).dk n)) (a := dkV _ _ _ _ _ _ _ _ _) (b := dkV _ _ _ _ _ _ _ _ _) (inb := inb_S512x1024_S128x128_128_512) (by decide) ?_ ?_ x
    · refine dk_at _ n 1 4 (o1 := 128) (o2 := 512) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 4 (o1 := 256) (o2 := 512) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 4 (o1 := 0) (o2 := 512) rfl rfl (f := ((⟨x0, x1, x2, x3, x4, x5, x6, x7⟩ : In).dk n)) (a := dkV _ _ _ _ _ _ _ _ _) (b := dkV _ _ _ _ _ _ _ _ _) (inb := inb_S512x1024_S128x128_0_512) (by decide) ?_ ?_ x
    · refine dk_at _ n 0 4 (o1 := 0) (o2 := 512) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 4 (o1 := 128) (o2 := 512) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 3 (o1 := 384) (o2 := 384) rfl rfl (f := ((⟨x0, x1, x2, x3, x4, x5, x6, x7⟩ : In).dk n)) (a := dkV _ _ _ _ _ _ _ _ _) (inb := inb_S512x1024_S128x128_384_384) (by decide) ?_ x
    · refine dk_at _ n 3 3 (o1 := 384) (o2 := 384) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 3 (o1 := 256) (o2 := 384) rfl rfl (f := ((⟨x0, x1, x2, x3, x4, x5, x6, x7⟩ : In).dk n)) (a := dkV _ _ _ _ _ _ _ _ _) (b := dkV _ _ _ _ _ _ _ _ _) (inb := inb_S512x1024_S128x128_256_384) (by decide) ?_ ?_ x
    · refine dk_at _ n 2 3 (o1 := 256) (o2 := 384) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 3 (o1 := 384) (o2 := 384) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 3 (o1 := 128) (o2 := 384) rfl rfl (f := ((⟨x0, x1, x2, x3, x4, x5, x6, x7⟩ : In).dk n)) (a := dkV _ _ _ _ _ _ _ _ _) (b := dkV _ _ _ _ _ _ _ _ _) (inb := inb_S512x1024_S128x128_128_384) (by decide) ?_ ?_ x
    · refine dk_at _ n 1 3 (o1 := 128) (o2 := 384) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 3 (o1 := 256) (o2 := 384) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 3 (o1 := 0) (o2 := 384) rfl rfl (f := ((⟨x0, x1, x2, x3, x4, x5, x6, x7⟩ : In).dk n)) (a := dkV _ _ _ _ _ _ _ _ _) (b := dkV _ _ _ _ _ _ _ _ _) (inb := inb_S512x1024_S128x128_0_384) (by decide) ?_ ?_ x
    · refine dk_at _ n 0 3 (o1 := 0) (o2 := 384) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 3 (o1 := 128) (o2 := 384) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 2 (o1 := 384) (o2 := 256) rfl rfl (f := ((⟨x0, x1, x2, x3, x4, x5, x6, x7⟩ : In).dk n)) (a := dkV _ _ _ _ _ _ _ _ _) (inb := inb_S512x1024_S128x128_384_256) (by decide) ?_ x
    · refine dk_at _ n 3 2 (o1 := 384) (o2 := 256) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 2 (o1 := 256) (o2 := 256) rfl rfl (f := ((⟨x0, x1, x2, x3, x4, x5, x6, x7⟩ : In).dk n)) (a := dkV _ _ _ _ _ _ _ _ _) (b := dkV _ _ _ _ _ _ _ _ _) (inb := inb_S512x1024_S128x128_256_256) (by decide) ?_ ?_ x
    · refine dk_at _ n 2 2 (o1 := 256) (o2 := 256) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 2 (o1 := 384) (o2 := 256) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 2 (o1 := 128) (o2 := 256) rfl rfl (f := ((⟨x0, x1, x2, x3, x4, x5, x6, x7⟩ : In).dk n)) (a := dkV _ _ _ _ _ _ _ _ _) (b := dkV _ _ _ _ _ _ _ _ _) (inb := inb_S512x1024_S128x128_128_256) (by decide) ?_ ?_ x
    · refine dk_at _ n 1 2 (o1 := 128) (o2 := 256) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 2 (o1 := 256) (o2 := 256) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 2 (o1 := 0) (o2 := 256) rfl rfl (f := ((⟨x0, x1, x2, x3, x4, x5, x6, x7⟩ : In).dk n)) (a := dkV _ _ _ _ _ _ _ _ _) (b := dkV _ _ _ _ _ _ _ _ _) (inb := inb_S512x1024_S128x128_0_256) (by decide) ?_ ?_ x
    · refine dk_at _ n 0 2 (o1 := 0) (o2 := 256) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 2 (o1 := 128) (o2 := 256) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 1 (o1 := 384) (o2 := 128) rfl rfl (f := ((⟨x0, x1, x2, x3, x4, x5, x6, x7⟩ : In).dk n)) (a := dkV _ _ _ _ _ _ _ _ _) (inb := inb_S512x1024_S128x128_384_128) (by decide) ?_ x
    · refine dk_at _ n 3 1 (o1 := 384) (o2 := 128) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 1 (o1 := 256) (o2 := 128) rfl rfl (f := ((⟨x0, x1, x2, x3, x4, x5, x6, x7⟩ : In).dk n)) (a := dkV _ _ _ _ _ _ _ _ _) (b := dkV _ _ _ _ _ _ _ _ _) (inb := inb_S512x1024_S128x128_256_128) (by decide) ?_ ?_ x
    · refine dk_at _ n 2 1 (o1 := 256) (o2 := 128) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 1 (o1 := 384) (o2 := 128) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 1 (o1 := 128) (o2 := 128) rfl rfl (f := ((⟨x0, x1, x2, x3, x4, x5, x6, x7⟩ : In).dk n)) (a := dkV _ _ _ _ _ _ _ _ _) (b := dkV _ _ _ _ _ _ _ _ _) (inb := inb_S512x1024_S128x128_128_128) (by decide) ?_ ?_ x
    · refine dk_at _ n 1 1 (o1 := 128) (o2 := 128) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 1 (o1 := 256) (o2 := 128) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 1 (o1 := 0) (o2 := 128) rfl rfl (f := ((⟨x0, x1, x2, x3, x4, x5, x6, x7⟩ : In).dk n)) (a := dkV _ _ _ _ _ _ _ _ _) (b := dkV _ _ _ _ _ _ _ _ _) (inb := inb_S512x1024_S128x128_0_128) (by decide) ?_ ?_ x
    · refine dk_at _ n 0 1 (o1 := 0) (o2 := 128) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 1 (o1 := 128) (o2 := 128) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 0 (o1 := 384) (o2 := 0) rfl rfl (f := ((⟨x0, x1, x2, x3, x4, x5, x6, x7⟩ : In).dk n)) (a := dkV _ _ _ _ _ _ _ _ _) (inb := inb_S512x1024_S128x128_384_0) (by decide) ?_ x
    · refine dk_at _ n 3 0 (o1 := 384) (o2 := 0) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 0 (o1 := 256) (o2 := 0) rfl rfl (f := ((⟨x0, x1, x2, x3, x4, x5, x6, x7⟩ : In).dk n)) (a := dkV _ _ _ _ _ _ _ _ _) (b := dkV _ _ _ _ _ _ _ _ _) (inb := inb_S512x1024_S128x128_256_0) (by decide) ?_ ?_ x
    · refine dk_at _ n 2 0 (o1 := 256) (o2 := 0) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 0 (o1 := 384) (o2 := 0) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 0 (o1 := 128) (o2 := 0) rfl rfl (f := ((⟨x0, x1, x2, x3, x4, x5, x6, x7⟩ : In).dk n)) (a := dkV _ _ _ _ _ _ _ _ _) (b := dkV _ _ _ _ _ _ _ _ _) (inb := inb_S512x1024_S128x128_128_0) (by decide) ?_ ?_ x
    · refine dk_at _ n 1 0 (o1 := 128) (o2 := 0) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 0 (o1 := 256) (o2 := 0) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 0 (o1 := 0) (o2 := 0) rfl rfl (f := ((⟨x0, x1, x2, x3, x4, x5, x6, x7⟩ : In).dk n)) (a := dkV _ _ _ _ _ _ _ _ _) (b := dkV _ _ _ _ _ _ _ _ _) (inb := inb_S512x1024_S128x128_0_0) (by decide) ?_ ?_ x
    · refine dk_at _ n 0 0 (o1 := 0) (o2 := 0) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 0 (o1 := 128) (o2 := 0) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · trivial
theorem s2_A : sout0_A_2 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 = (totF ((⟨x0, x1, x2, x3, x4, x5, x6, x7⟩ : In).dv n)) := by
  unfold sout0_A_2
  rw [View.read_writes_junk_eq_canon]
  funext y
  rw [← List.take_append_drop 32 (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.2.2.1]
  refine View.canon_append_of_piecesOf (totF ((⟨x0, x1, x2, x3, x4, x5, x6, x7⟩ : In).dv n)) _ _ ?_ y
    (View.cover_of_tiledL (s := S512x1024) ((kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.2.2.1.take 32) S128x128.size (by sl_kernel_rfl) y)
  frame_open
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro x
    show lastV (k0_pay24 _ _ _ _ _ _) x = _
    refine last_piece 3 7 (o1 := 384) (o2 := 896) rfl rfl (f := ((⟨x0, x1, x2, x3, x4, x5, x6, x7⟩ : In).dv n)) (a := k0_pay24 _ _ _ _ _ _) (inb := inb_S512x1024_S128x128_384_896) (by decide) ?_ x
    · refine dv_at _ n 3 7 (o1 := 384) (o2 := 896) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 7 (o1 := 256) (o2 := 896) rfl rfl (f := ((⟨x0, x1, x2, x3, x4, x5, x6, x7⟩ : In).dv n)) (a := k0_pay24 _ _ _ _ _ _) (b := k0_pay24 _ _ _ _ _ _) (inb := inb_S512x1024_S128x128_256_896) (by decide) ?_ ?_ x
    · refine dv_at _ n 2 7 (o1 := 256) (o2 := 896) rfl rfl ?_ ?_ ?_ ?_ ?_ ?_
      exacts [mask_at i n hi hn 2 (by decide), q_load, k_load (hs := slices_S640x128_o256_0_S256x128), l_load, l_load, d_load]
    · refine dv_at _ n 3 7 (o1 := 384) (o2 := 896) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 7 (o1 := 128) (o2 := 896) rfl rfl (f := ((⟨x0, x1, x2, x3, x4, x5, x6, x7⟩ : In).dv n)) (a := k0_pay24 _ _ _ _ _ _) (b := k0_pay24 _ _ _ _ _ _) (inb := inb_S512x1024_S128x128_128_896) (by decide) ?_ ?_ x
    · refine dv_at _ n 1 7 (o1 := 128) (o2 := 896) rfl rfl ?_ ?_ ?_ ?_ ?_ ?_
      exacts [mask_at i n hi hn 1 (by decide), q_load, k_load (hs := slices_S640x128_o128_0_S256x128), l_load, l_load, d_load]
    · refine dv_at _ n 2 7 (o1 := 256) (o2 := 896) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 7 (o1 := 0) (o2 := 896) rfl rfl (f := ((⟨x0, x1, x2, x3, x4, x5, x6, x7⟩ : In).dv n)) (a := k0_pay24 _ _ _ _ _ _) (b := k0_pay24 _ _ _ _ _ _) (inb := inb_S512x1024_S128x128_0_896) (by decide) ?_ ?_ x
    · refine dv_at _ n 0 7 (o1 := 0) (o2 := 896) rfl rfl ?_ ?_ ?_ ?_ ?_ ?_
      exacts [mask_at i n hi hn 0 (by decide), q_load, k_load (hs := slices_S640x128_o0_0_S256x128), l_load, l_load, d_load]
    · refine dv_at _ n 1 7 (o1 := 128) (o2 := 896) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 6 (o1 := 384) (o2 := 768) rfl rfl (f := ((⟨x0, x1, x2, x3, x4, x5, x6, x7⟩ : In).dv n)) (a := k0_pay24 _ _ _ _ _ _) (inb := inb_S512x1024_S128x128_384_768) (by decide) ?_ x
    · refine dv_at _ n 3 6 (o1 := 384) (o2 := 768) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 6 (o1 := 256) (o2 := 768) rfl rfl (f := ((⟨x0, x1, x2, x3, x4, x5, x6, x7⟩ : In).dv n)) (a := k0_pay24 _ _ _ _ _ _) (b := k0_pay24 _ _ _ _ _ _) (inb := inb_S512x1024_S128x128_256_768) (by decide) ?_ ?_ x
    · refine dv_at _ n 2 6 (o1 := 256) (o2 := 768) rfl rfl ?_ ?_ ?_ ?_ ?_ ?_
      exacts [mask_at i n hi hn 2 (by decide), q_load, k_load (hs := slices_S640x128_o256_0_S256x128), l_load, l_load, d_load]
    · refine dv_at _ n 3 6 (o1 := 384) (o2 := 768) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 6 (o1 := 128) (o2 := 768) rfl rfl (f := ((⟨x0, x1, x2, x3, x4, x5, x6, x7⟩ : In).dv n)) (a := k0_pay24 _ _ _ _ _ _) (b := k0_pay24 _ _ _ _ _ _) (inb := inb_S512x1024_S128x128_128_768) (by decide) ?_ ?_ x
    · refine dv_at _ n 1 6 (o1 := 128) (o2 := 768) rfl rfl ?_ ?_ ?_ ?_ ?_ ?_
      exacts [mask_at i n hi hn 1 (by decide), q_load, k_load (hs := slices_S640x128_o128_0_S256x128), l_load, l_load, d_load]
    · refine dv_at _ n 2 6 (o1 := 256) (o2 := 768) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 6 (o1 := 0) (o2 := 768) rfl rfl (f := ((⟨x0, x1, x2, x3, x4, x5, x6, x7⟩ : In).dv n)) (a := k0_pay24 _ _ _ _ _ _) (b := k0_pay24 _ _ _ _ _ _) (inb := inb_S512x1024_S128x128_0_768) (by decide) ?_ ?_ x
    · refine dv_at _ n 0 6 (o1 := 0) (o2 := 768) rfl rfl ?_ ?_ ?_ ?_ ?_ ?_
      exacts [mask_at i n hi hn 0 (by decide), q_load, k_load (hs := slices_S640x128_o0_0_S256x128), l_load, l_load, d_load]
    · refine dv_at _ n 1 6 (o1 := 128) (o2 := 768) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 5 (o1 := 384) (o2 := 640) rfl rfl (f := ((⟨x0, x1, x2, x3, x4, x5, x6, x7⟩ : In).dv n)) (a := k0_pay24 _ _ _ _ _ _) (inb := inb_S512x1024_S128x128_384_640) (by decide) ?_ x
    · refine dv_at _ n 3 5 (o1 := 384) (o2 := 640) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 5 (o1 := 256) (o2 := 640) rfl rfl (f := ((⟨x0, x1, x2, x3, x4, x5, x6, x7⟩ : In).dv n)) (a := k0_pay24 _ _ _ _ _ _) (b := k0_pay24 _ _ _ _ _ _) (inb := inb_S512x1024_S128x128_256_640) (by decide) ?_ ?_ x
    · refine dv_at _ n 2 5 (o1 := 256) (o2 := 640) rfl rfl ?_ ?_ ?_ ?_ ?_ ?_
      exacts [mask_at i n hi hn 2 (by decide), q_load, k_load (hs := slices_S640x128_o256_0_S256x128), l_load, l_load, d_load]
    · refine dv_at _ n 3 5 (o1 := 384) (o2 := 640) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 5 (o1 := 128) (o2 := 640) rfl rfl (f := ((⟨x0, x1, x2, x3, x4, x5, x6, x7⟩ : In).dv n)) (a := k0_pay24 _ _ _ _ _ _) (b := k0_pay24 _ _ _ _ _ _) (inb := inb_S512x1024_S128x128_128_640) (by decide) ?_ ?_ x
    · refine dv_at _ n 1 5 (o1 := 128) (o2 := 640) rfl rfl ?_ ?_ ?_ ?_ ?_ ?_
      exacts [mask_at i n hi hn 1 (by decide), q_load, k_load (hs := slices_S640x128_o128_0_S256x128), l_load, l_load, d_load]
    · refine dv_at _ n 2 5 (o1 := 256) (o2 := 640) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 5 (o1 := 0) (o2 := 640) rfl rfl (f := ((⟨x0, x1, x2, x3, x4, x5, x6, x7⟩ : In).dv n)) (a := k0_pay24 _ _ _ _ _ _) (b := k0_pay24 _ _ _ _ _ _) (inb := inb_S512x1024_S128x128_0_640) (by decide) ?_ ?_ x
    · refine dv_at _ n 0 5 (o1 := 0) (o2 := 640) rfl rfl ?_ ?_ ?_ ?_ ?_ ?_
      exacts [mask_at i n hi hn 0 (by decide), q_load, k_load (hs := slices_S640x128_o0_0_S256x128), l_load, l_load, d_load]
    · refine dv_at _ n 1 5 (o1 := 128) (o2 := 640) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 4 (o1 := 384) (o2 := 512) rfl rfl (f := ((⟨x0, x1, x2, x3, x4, x5, x6, x7⟩ : In).dv n)) (a := k0_pay24 _ _ _ _ _ _) (inb := inb_S512x1024_S128x128_384_512) (by decide) ?_ x
    · refine dv_at _ n 3 4 (o1 := 384) (o2 := 512) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 4 (o1 := 256) (o2 := 512) rfl rfl (f := ((⟨x0, x1, x2, x3, x4, x5, x6, x7⟩ : In).dv n)) (a := k0_pay24 _ _ _ _ _ _) (b := k0_pay24 _ _ _ _ _ _) (inb := inb_S512x1024_S128x128_256_512) (by decide) ?_ ?_ x
    · refine dv_at _ n 2 4 (o1 := 256) (o2 := 512) rfl rfl ?_ ?_ ?_ ?_ ?_ ?_
      exacts [mask_at i n hi hn 2 (by decide), q_load, k_load (hs := slices_S640x128_o256_0_S256x128), l_load, l_load, d_load]
    · refine dv_at _ n 3 4 (o1 := 384) (o2 := 512) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 4 (o1 := 128) (o2 := 512) rfl rfl (f := ((⟨x0, x1, x2, x3, x4, x5, x6, x7⟩ : In).dv n)) (a := k0_pay24 _ _ _ _ _ _) (b := k0_pay24 _ _ _ _ _ _) (inb := inb_S512x1024_S128x128_128_512) (by decide) ?_ ?_ x
    · refine dv_at _ n 1 4 (o1 := 128) (o2 := 512) rfl rfl ?_ ?_ ?_ ?_ ?_ ?_
      exacts [mask_at i n hi hn 1 (by decide), q_load, k_load (hs := slices_S640x128_o128_0_S256x128), l_load, l_load, d_load]
    · refine dv_at _ n 2 4 (o1 := 256) (o2 := 512) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 4 (o1 := 0) (o2 := 512) rfl rfl (f := ((⟨x0, x1, x2, x3, x4, x5, x6, x7⟩ : In).dv n)) (a := k0_pay24 _ _ _ _ _ _) (b := k0_pay24 _ _ _ _ _ _) (inb := inb_S512x1024_S128x128_0_512) (by decide) ?_ ?_ x
    · refine dv_at _ n 0 4 (o1 := 0) (o2 := 512) rfl rfl ?_ ?_ ?_ ?_ ?_ ?_
      exacts [mask_at i n hi hn 0 (by decide), q_load, k_load (hs := slices_S640x128_o0_0_S256x128), l_load, l_load, d_load]
    · refine dv_at _ n 1 4 (o1 := 128) (o2 := 512) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 3 (o1 := 384) (o2 := 384) rfl rfl (f := ((⟨x0, x1, x2, x3, x4, x5, x6, x7⟩ : In).dv n)) (a := k0_pay24 _ _ _ _ _ _) (inb := inb_S512x1024_S128x128_384_384) (by decide) ?_ x
    · refine dv_at _ n 3 3 (o1 := 384) (o2 := 384) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 3 (o1 := 256) (o2 := 384) rfl rfl (f := ((⟨x0, x1, x2, x3, x4, x5, x6, x7⟩ : In).dv n)) (a := k0_pay24 _ _ _ _ _ _) (b := k0_pay24 _ _ _ _ _ _) (inb := inb_S512x1024_S128x128_256_384) (by decide) ?_ ?_ x
    · refine dv_at _ n 2 3 (o1 := 256) (o2 := 384) rfl rfl ?_ ?_ ?_ ?_ ?_ ?_
      exacts [mask_at i n hi hn 2 (by decide), q_load, k_load (hs := slices_S640x128_o256_0_S256x128), l_load, l_load, d_load]
    · refine dv_at _ n 3 3 (o1 := 384) (o2 := 384) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 3 (o1 := 128) (o2 := 384) rfl rfl (f := ((⟨x0, x1, x2, x3, x4, x5, x6, x7⟩ : In).dv n)) (a := k0_pay24 _ _ _ _ _ _) (b := k0_pay24 _ _ _ _ _ _) (inb := inb_S512x1024_S128x128_128_384) (by decide) ?_ ?_ x
    · refine dv_at _ n 1 3 (o1 := 128) (o2 := 384) rfl rfl ?_ ?_ ?_ ?_ ?_ ?_
      exacts [mask_at i n hi hn 1 (by decide), q_load, k_load (hs := slices_S640x128_o128_0_S256x128), l_load, l_load, d_load]
    · refine dv_at _ n 2 3 (o1 := 256) (o2 := 384) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 3 (o1 := 0) (o2 := 384) rfl rfl (f := ((⟨x0, x1, x2, x3, x4, x5, x6, x7⟩ : In).dv n)) (a := k0_pay24 _ _ _ _ _ _) (b := k0_pay24 _ _ _ _ _ _) (inb := inb_S512x1024_S128x128_0_384) (by decide) ?_ ?_ x
    · refine dv_at _ n 0 3 (o1 := 0) (o2 := 384) rfl rfl ?_ ?_ ?_ ?_ ?_ ?_
      exacts [mask_at i n hi hn 0 (by decide), q_load, k_load (hs := slices_S640x128_o0_0_S256x128), l_load, l_load, d_load]
    · refine dv_at _ n 1 3 (o1 := 128) (o2 := 384) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 2 (o1 := 384) (o2 := 256) rfl rfl (f := ((⟨x0, x1, x2, x3, x4, x5, x6, x7⟩ : In).dv n)) (a := k0_pay24 _ _ _ _ _ _) (inb := inb_S512x1024_S128x128_384_256) (by decide) ?_ x
    · refine dv_at _ n 3 2 (o1 := 384) (o2 := 256) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 2 (o1 := 256) (o2 := 256) rfl rfl (f := ((⟨x0, x1, x2, x3, x4, x5, x6, x7⟩ : In).dv n)) (a := k0_pay24 _ _ _ _ _ _) (b := k0_pay24 _ _ _ _ _ _) (inb := inb_S512x1024_S128x128_256_256) (by decide) ?_ ?_ x
    · refine dv_at _ n 2 2 (o1 := 256) (o2 := 256) rfl rfl ?_ ?_ ?_ ?_ ?_ ?_
      exacts [mask_at i n hi hn 2 (by decide), q_load, k_load (hs := slices_S640x128_o256_0_S256x128), l_load, l_load, d_load]
    · refine dv_at _ n 3 2 (o1 := 384) (o2 := 256) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 2 (o1 := 128) (o2 := 256) rfl rfl (f := ((⟨x0, x1, x2, x3, x4, x5, x6, x7⟩ : In).dv n)) (a := k0_pay24 _ _ _ _ _ _) (b := k0_pay24 _ _ _ _ _ _) (inb := inb_S512x1024_S128x128_128_256) (by decide) ?_ ?_ x
    · refine dv_at _ n 1 2 (o1 := 128) (o2 := 256) rfl rfl ?_ ?_ ?_ ?_ ?_ ?_
      exacts [mask_at i n hi hn 1 (by decide), q_load, k_load (hs := slices_S640x128_o128_0_S256x128), l_load, l_load, d_load]
    · refine dv_at _ n 2 2 (o1 := 256) (o2 := 256) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 2 (o1 := 0) (o2 := 256) rfl rfl (f := ((⟨x0, x1, x2, x3, x4, x5, x6, x7⟩ : In).dv n)) (a := k0_pay24 _ _ _ _ _ _) (b := k0_pay24 _ _ _ _ _ _) (inb := inb_S512x1024_S128x128_0_256) (by decide) ?_ ?_ x
    · refine dv_at _ n 0 2 (o1 := 0) (o2 := 256) rfl rfl ?_ ?_ ?_ ?_ ?_ ?_
      exacts [mask_at i n hi hn 0 (by decide), q_load, k_load (hs := slices_S640x128_o0_0_S256x128), l_load, l_load, d_load]
    · refine dv_at _ n 1 2 (o1 := 128) (o2 := 256) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 1 (o1 := 384) (o2 := 128) rfl rfl (f := ((⟨x0, x1, x2, x3, x4, x5, x6, x7⟩ : In).dv n)) (a := k0_pay24 _ _ _ _ _ _) (inb := inb_S512x1024_S128x128_384_128) (by decide) ?_ x
    · refine dv_at _ n 3 1 (o1 := 384) (o2 := 128) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 1 (o1 := 256) (o2 := 128) rfl rfl (f := ((⟨x0, x1, x2, x3, x4, x5, x6, x7⟩ : In).dv n)) (a := k0_pay24 _ _ _ _ _ _) (b := k0_pay24 _ _ _ _ _ _) (inb := inb_S512x1024_S128x128_256_128) (by decide) ?_ ?_ x
    · refine dv_at _ n 2 1 (o1 := 256) (o2 := 128) rfl rfl ?_ ?_ ?_ ?_ ?_ ?_
      exacts [mask_at i n hi hn 2 (by decide), q_load, k_load (hs := slices_S640x128_o256_0_S256x128), l_load, l_load, d_load]
    · refine dv_at _ n 3 1 (o1 := 384) (o2 := 128) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 1 (o1 := 128) (o2 := 128) rfl rfl (f := ((⟨x0, x1, x2, x3, x4, x5, x6, x7⟩ : In).dv n)) (a := k0_pay24 _ _ _ _ _ _) (b := k0_pay24 _ _ _ _ _ _) (inb := inb_S512x1024_S128x128_128_128) (by decide) ?_ ?_ x
    · refine dv_at _ n 1 1 (o1 := 128) (o2 := 128) rfl rfl ?_ ?_ ?_ ?_ ?_ ?_
      exacts [mask_at i n hi hn 1 (by decide), q_load, k_load (hs := slices_S640x128_o128_0_S256x128), l_load, l_load, d_load]
    · refine dv_at _ n 2 1 (o1 := 256) (o2 := 128) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 1 (o1 := 0) (o2 := 128) rfl rfl (f := ((⟨x0, x1, x2, x3, x4, x5, x6, x7⟩ : In).dv n)) (a := k0_pay24 _ _ _ _ _ _) (b := k0_pay24 _ _ _ _ _ _) (inb := inb_S512x1024_S128x128_0_128) (by decide) ?_ ?_ x
    · refine dv_at _ n 0 1 (o1 := 0) (o2 := 128) rfl rfl ?_ ?_ ?_ ?_ ?_ ?_
      exacts [mask_at i n hi hn 0 (by decide), q_load, k_load (hs := slices_S640x128_o0_0_S256x128), l_load, l_load, d_load]
    · refine dv_at _ n 1 1 (o1 := 128) (o2 := 128) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 0 (o1 := 384) (o2 := 0) rfl rfl (f := ((⟨x0, x1, x2, x3, x4, x5, x6, x7⟩ : In).dv n)) (a := k0_pay24 _ _ _ _ _ _) (inb := inb_S512x1024_S128x128_384_0) (by decide) ?_ x
    · refine dv_at _ n 3 0 (o1 := 384) (o2 := 0) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 0 (o1 := 256) (o2 := 0) rfl rfl (f := ((⟨x0, x1, x2, x3, x4, x5, x6, x7⟩ : In).dv n)) (a := k0_pay24 _ _ _ _ _ _) (b := k0_pay24 _ _ _ _ _ _) (inb := inb_S512x1024_S128x128_256_0) (by decide) ?_ ?_ x
    · refine dv_at _ n 2 0 (o1 := 256) (o2 := 0) rfl rfl ?_ ?_ ?_ ?_ ?_ ?_
      exacts [mask_at i n hi hn 2 (by decide), q_load, k_load (hs := slices_S640x128_o256_0_S256x128), l_load, l_load, d_load]
    · refine dv_at _ n 3 0 (o1 := 384) (o2 := 0) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 0 (o1 := 128) (o2 := 0) rfl rfl (f := ((⟨x0, x1, x2, x3, x4, x5, x6, x7⟩ : In).dv n)) (a := k0_pay24 _ _ _ _ _ _) (b := k0_pay24 _ _ _ _ _ _) (inb := inb_S512x1024_S128x128_128_0) (by decide) ?_ ?_ x
    · refine dv_at _ n 1 0 (o1 := 128) (o2 := 0) rfl rfl ?_ ?_ ?_ ?_ ?_ ?_
      exacts [mask_at i n hi hn 1 (by decide), q_load, k_load (hs := slices_S640x128_o128_0_S256x128), l_load, l_load, d_load]
    · refine dv_at _ n 2 0 (o1 := 256) (o2 := 0) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 0 (o1 := 0) (o2 := 0) rfl rfl (f := ((⟨x0, x1, x2, x3, x4, x5, x6, x7⟩ : In).dv n)) (a := k0_pay24 _ _ _ _ _ _) (b := k0_pay24 _ _ _ _ _ _) (inb := inb_S512x1024_S128x128_0_0) (by decide) ?_ ?_ x
    · refine dv_at _ n 0 0 (o1 := 0) (o2 := 0) rfl rfl ?_ ?_ ?_ ?_ ?_ ?_
      exacts [mask_at i n hi hn 0 (by decide), q_load, k_load (hs := slices_S640x128_o0_0_S256x128), l_load, l_load, d_load]
    · refine dv_at _ n 1 0 (o1 := 128) (o2 := 0) rfl rfl ?_ ?_ ?_ ?_ ?_ ?_
      exacts [mask_at i n hi hn 1 (by decide), q_load, k_load (hs := slices_S640x128_o128_0_S256x128), l_load, l_load, d_load]
  · trivial
end
end Cert.KernelIdeal.Piece
-- ==== Proof.ScratchB.lean ====
module
public import proofs.«01_k».proof.Proof.Pieces
@[expose] public section
noncomputable section
open Idealize.ShloMosaic hiding ix2 ix3 eq_ix2 eq_ix3
open Idealize.ShloMosaic.TcCoe Idealize.ShloMosaic.ValueIdx Idealize.SL.Sem
namespace Cert.KernelIdeal.Piece
open Cert.KernelIdeal.Gen
section
variable (c : Dev nD) (i : grid0.Coords)
  (arg1 : Memref sig .tc .vmem S1x512x1024 .bf16) (harg1 : arg1.IsWhole)
  (arg2 : Memref sig .tc .vmem S512x1024 .bf16) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x512x1024 .bf16) (harg5 : arg5.IsWhole)
  (arg6 : Memref sig .tc .vmem S1x128x1024 .bf16) (harg6 : arg6.IsWhole)
  (arg7 : Memref sig .tc .vmem S1x512x1024 .bf16) (harg7 : arg7.IsWhole)
  (arg8 : Memref sig .tc .vmem S1x128x1024 .bf16) (harg8 : arg8.IsWhole)
  (arg9 : Memref sig .tc .vmem S3x512x1024 .bf16) (harg9 : arg9.IsWhole)
  (arg10 : Memref sig .tc .vmem S512x1024 .f32) (harg10 : arg10.IsWhole)
  (arg11 : Memref sig .tc .vmem S512x1024 .f32) (harg11 : arg11.IsWhole)
  (arg12 : Memref sig .tc .vmem S512x1024 .f32) (harg12 : arg12.IsWhole)
  (x0 : Vec Ideal S1x512x1024 .bf16)  (x1 : Vec Ideal S512x1024 .bf16)  (x2 : Vec Ideal S512x1024 .f32)  (x3 : Vec Ideal S512x1024 .f32)  (x4 : Vec Ideal S1x512x1024 .bf16)  (x5 : Vec Ideal S1x128x1024 .bf16)  (x6 : Vec Ideal S1x512x1024 .bf16)  (x7 : Vec Ideal S1x128x1024 .bf16)
variable (xs0 xs1 xs2 : Vec Ideal S512x1024 .f32)
variable (hc0 : ¬cond0_0 i) (hc1 : cond0_1 i) (hc2 : ¬cond0_2 i) (n : ℕ) (hi : (i 0).val = n) (hn : n < 9)
include hi hn
set_option maxHeartbeats 4000000
theorem s0_B : sout0_B_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 = ((⟨x0, x1, x2, x3, x4, x5, x6, x7⟩ : In).cqF n) := by
  unfold sout0_B_0
  rw [View.read_writes_junk_eq_canon]
  funext y
  refine View.canon_apply_of_pieces ((⟨x0, x1, x2, x3, x4, x5, x6, x7⟩ : In).cqF n) _ (View.PiecesOf.mem (G := ((⟨x0, x1, x2, x3, x4, x5, x6, x7⟩ : In).cqF n)) ?_) y (scover0_B_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 y)
  frame_open
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro x
    show dqV _ _ _ _ _ _ _ _ _ x = _
    refine cq_piece _ n 3 7 (o1 := 384) (o2 := 896) rfl rfl (inb := inb_S512x1024_S128x128_384_896) (w := dqV _ _ _ _ _ _ _ _ _) ?_ x
    refine dq_at _ n 3 7 (o1 := 384) (o2 := 896) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 7 (o1 := 256) (o2 := 896) rfl rfl (inb := inb_S512x1024_S128x128_256_896) (w := dqV _ _ _ _ _ _ _ _ _) ?_ x
    refine dq_at _ n 2 7 (o1 := 256) (o2 := 896) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 7 (o1 := 128) (o2 := 896) rfl rfl (inb := inb_S512x1024_S128x128_128_896) (w := dqV _ _ _ _ _ _ _ _ _) ?_ x
    refine dq_at _ n 1 7 (o1 := 128) (o2 := 896) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 7 (o1 := 0) (o2 := 896) rfl rfl (inb := inb_S512x1024_S128x128_0_896) (w := dqV _ _ _ _ _ _ _ _ _) ?_ x
    refine dq_at _ n 0 7 (o1 := 0) (o2 := 896) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 6 (o1 := 384) (o2 := 768) rfl rfl (inb := inb_S512x1024_S128x128_384_768) (w := dqV _ _ _ _ _ _ _ _ _) ?_ x
    refine dq_at _ n 3 6 (o1 := 384) (o2 := 768) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 6 (o1 := 256) (o2 := 768) rfl rfl (inb := inb_S512x1024_S128x128_256_768) (w := dqV _ _ _ _ _ _ _ _ _) ?_ x
    refine dq_at _ n 2 6 (o1 := 256) (o2 := 768) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 6 (o1 := 128) (o2 := 768) rfl rfl (inb := inb_S512x1024_S128x128_128_768) (w := dqV _ _ _ _ _ _ _ _ _) ?_ x
    refine dq_at _ n 1 6 (o1 := 128) (o2 := 768) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 6 (o1 := 0) (o2 := 768) rfl rfl (inb := inb_S512x1024_S128x128_0_768) (w := dqV _ _ _ _ _ _ _ _ _) ?_ x
    refine dq_at _ n 0 6 (o1 := 0) (o2 := 768) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 5 (o1 := 384) (o2 := 640) rfl rfl (inb := inb_S512x1024_S128x128_384_640) (w := dqV _ _ _ _ _ _ _ _ _) ?_ x
    refine dq_at _ n 3 5 (o1 := 384) (o2 := 640) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 5 (o1 := 256) (o2 := 640) rfl rfl (inb := inb_S512x1024_S128x128_256_640) (w := dqV _ _ _ _ _ _ _ _ _) ?_ x
    refine dq_at _ n 2 5 (o1 := 256) (o2 := 640) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 5 (o1 := 128) (o2 := 640) rfl rfl (inb := inb_S512x1024_S128x128_128_640) (w := dqV _ _ _ _ _ _ _ _ _) ?_ x
    refine dq_at _ n 1 5 (o1 := 128) (o2 := 640) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 5 (o1 := 0) (o2 := 640) rfl rfl (inb := inb_S512x1024_S128x128_0_640) (w := dqV _ _ _ _ _ _ _ _ _) ?_ x
    refine dq_at _ n 0 5 (o1 := 0) (o2 := 640) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 4 (o1 := 384) (o2 := 512) rfl rfl (inb := inb_S512x1024_S128x128_384_512) (w := dqV _ _ _ _ _ _ _ _ _) ?_ x
    refine dq_at _ n 3 4 (o1 := 384) (o2 := 512) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 4 (o1 := 256) (o2 := 512) rfl rfl (inb := inb_S512x1024_S128x128_256_512) (w := dqV _ _ _ _ _ _ _ _ _) ?_ x
    refine dq_at _ n 2 4 (o1 := 256) (o2 := 512) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 4 (o1 := 128) (o2 := 512) rfl rfl (inb := inb_S512x1024_S128x128_128_512) (w := dqV _ _ _ _ _ _ _ _ _) ?_ x
    refine dq_at _ n 1 4 (o1 := 128) (o2 := 512) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 4 (o1 := 0) (o2 := 512) rfl rfl (inb := inb_S512x1024_S128x128_0_512) (w := dqV _ _ _ _ _ _ _ _ _) ?_ x
    refine dq_at _ n 0 4 (o1 := 0) (o2 := 512) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 3 (o1 := 384) (o2 := 384) rfl rfl (inb := inb_S512x1024_S128x128_384_384) (w := dqV _ _ _ _ _ _ _ _ _) ?_ x
    refine dq_at _ n 3 3 (o1 := 384) (o2 := 384) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 3 (o1 := 256) (o2 := 384) rfl rfl (inb := inb_S512x1024_S128x128_256_384) (w := dqV _ _ _ _ _ _ _ _ _) ?_ x
    refine dq_at _ n 2 3 (o1 := 256) (o2 := 384) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 3 (o1 := 128) (o2 := 384) rfl rfl (inb := inb_S512x1024_S128x128_128_384) (w := dqV _ _ _ _ _ _ _ _ _) ?_ x
    refine dq_at _ n 1 3 (o1 := 128) (o2 := 384) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 3 (o1 := 0) (o2 := 384) rfl rfl (inb := inb_S512x1024_S128x128_0_384) (w := dqV _ _ _ _ _ _ _ _ _) ?_ x
    refine dq_at _ n 0 3 (o1 := 0) (o2 := 384) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 2 (o1 := 384) (o2 := 256) rfl rfl (inb := inb_S512x1024_S128x128_384_256) (w := dqV _ _ _ _ _ _ _ _ _) ?_ x
    refine dq_at _ n 3 2 (o1 := 384) (o2 := 256) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 2 (o1 := 256) (o2 := 256) rfl rfl (inb := inb_S512x1024_S128x128_256_256) (w := dqV _ _ _ _ _ _ _ _ _) ?_ x
    refine dq_at _ n 2 2 (o1 := 256) (o2 := 256) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 2 (o1 := 128) (o2 := 256) rfl rfl (inb := inb_S512x1024_S128x128_128_256) (w := dqV _ _ _ _ _ _ _ _ _) ?_ x
    refine dq_at _ n 1 2 (o1 := 128) (o2 := 256) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 2 (o1 := 0) (o2 := 256) rfl rfl (inb := inb_S512x1024_S128x128_0_256) (w := dqV _ _ _ _ _ _ _ _ _) ?_ x
    refine dq_at _ n 0 2 (o1 := 0) (o2 := 256) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 1 (o1 := 384) (o2 := 128) rfl rfl (inb := inb_S512x1024_S128x128_384_128) (w := dqV _ _ _ _ _ _ _ _ _) ?_ x
    refine dq_at _ n 3 1 (o1 := 384) (o2 := 128) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 1 (o1 := 256) (o2 := 128) rfl rfl (inb := inb_S512x1024_S128x128_256_128) (w := dqV _ _ _ _ _ _ _ _ _) ?_ x
    refine dq_at _ n 2 1 (o1 := 256) (o2 := 128) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 1 (o1 := 128) (o2 := 128) rfl rfl (inb := inb_S512x1024_S128x128_128_128) (w := dqV _ _ _ _ _ _ _ _ _) ?_ x
    refine dq_at _ n 1 1 (o1 := 128) (o2 := 128) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 1 (o1 := 0) (o2 := 128) rfl rfl (inb := inb_S512x1024_S128x128_0_128) (w := dqV _ _ _ _ _ _ _ _ _) ?_ x
    refine dq_at _ n 0 1 (o1 := 0) (o2 := 128) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show dqV _ _ _ _ _ _ _ _ _ x = _
    refine cq_piece _ n 3 0 (o1 := 384) (o2 := 0) rfl rfl (inb := inb_S512x1024_S128x128_384_0) (w := dqV _ _ _ _ _ _ _ _ _) ?_ x
    refine dq_at _ n 3 0 (o1 := 384) (o2 := 0) rfl rfl ?_ ?_ ?_ ?_ ?_ ?_ ?_ ?_ ?_
    exacts [mask_at i n hi hn 3 (by decide), q_load, k_load (hs := slices_S640x128_o384_0_S256x128), l_load, l_load, d_load,
      k_load (hs := slices_S640x128_o384_0_S256x128), l_load, l_load]
  · intro x
    show dqV _ _ _ _ _ _ _ _ _ x = _
    refine cq_piece _ n 2 0 (o1 := 256) (o2 := 0) rfl rfl (inb := inb_S512x1024_S128x128_256_0) (w := dqV _ _ _ _ _ _ _ _ _) ?_ x
    refine dq_at _ n 2 0 (o1 := 256) (o2 := 0) rfl rfl ?_ ?_ ?_ ?_ ?_ ?_ ?_ ?_ ?_
    exacts [mask_at i n hi hn 2 (by decide), q_load, k_load (hs := slices_S640x128_o256_0_S256x128), l_load, l_load, d_load,
      k_load (hs := slices_S640x128_o256_0_S256x128), l_load, l_load]
  · intro x
    show dqV _ _ _ _ _ _ _ _ _ x = _
    refine cq_piece _ n 1 0 (o1 := 128) (o2 := 0) rfl rfl (inb := inb_S512x1024_S128x128_128_0) (w := dqV _ _ _ _ _ _ _ _ _) ?_ x
    refine dq_at _ n 1 0 (o1 := 128) (o2 := 0) rfl rfl ?_ ?_ ?_ ?_ ?_ ?_ ?_ ?_ ?_
    exacts [mask_at i n hi hn 1 (by decide), q_load, k_load (hs := slices_S640x128_o128_0_S256x128), l_load, l_load, d_load,
      k_load (hs := slices_S640x128_o128_0_S256x128), l_load, l_load]
  · intro x
    show dqV _ _ _ _ _ _ _ _ _ x = _
    refine cq_piece _ n 0 0 (o1 := 0) (o2 := 0) rfl rfl (inb := inb_S512x1024_S128x128_0_0) (w := dqV _ _ _ _ _ _ _ _ _) ?_ x
    refine dq_at _ n 0 0 (o1 := 0) (o2 := 0) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · trivial
theorem s1_B : sout0_B_1 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 = (totF ((⟨x0, x1, x2, x3, x4, x5, x6, x7⟩ : In).dk n)) := by
  unfold sout0_B_1
  rw [View.read_writes_junk_eq_canon]
  funext y
  refine View.canon_apply_of_pieces (totF ((⟨x0, x1, x2, x3, x4, x5, x6, x7⟩ : In).dk n)) _ (View.PiecesOf.mem (G := (totF ((⟨x0, x1, x2, x3, x4, x5, x6, x7⟩ : In).dk n))) ?_) y (scover0_B_1 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 y)
  frame_open
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro x
    show lastV (dkV _ _ _ _ _ _ _ _ _) x = _
    refine last_piece 3 7 (o1 := 384) (o2 := 896) rfl rfl (f := ((⟨x0, x1, x2, x3, x4, x5, x6, x7⟩ : In).dk n)) (a := dkV _ _ _ _ _ _ _ _ _) (inb := inb_S512x1024_S128x128_384_896) (by decide) ?_ x
    · refine dk_at _ n 3 7 (o1 := 384) (o2 := 896) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 7 (o1 := 256) (o2 := 896) rfl rfl (f := ((⟨x0, x1, x2, x3, x4, x5, x6, x7⟩ : In).dk n)) (a := dkV _ _ _ _ _ _ _ _ _) (b := dkV _ _ _ _ _ _ _ _ _) (inb := inb_S512x1024_S128x128_256_896) (by decide) ?_ ?_ x
    · refine dk_at _ n 2 7 (o1 := 256) (o2 := 896) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 7 (o1 := 384) (o2 := 896) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 7 (o1 := 128) (o2 := 896) rfl rfl (f := ((⟨x0, x1, x2, x3, x4, x5, x6, x7⟩ : In).dk n)) (a := dkV _ _ _ _ _ _ _ _ _) (b := dkV _ _ _ _ _ _ _ _ _) (inb := inb_S512x1024_S128x128_128_896) (by decide) ?_ ?_ x
    · refine dk_at _ n 1 7 (o1 := 128) (o2 := 896) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 7 (o1 := 256) (o2 := 896) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 7 (o1 := 0) (o2 := 896) rfl rfl (f := ((⟨x0, x1, x2, x3, x4, x5, x6, x7⟩ : In).dk n)) (a := dkV _ _ _ _ _ _ _ _ _) (b := dkV _ _ _ _ _ _ _ _ _) (inb := inb_S512x1024_S128x128_0_896) (by decide) ?_ ?_ x
    · refine dk_at _ n 0 7 (o1 := 0) (o2 := 896) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 7 (o1 := 128) (o2 := 896) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 6 (o1 := 384) (o2 := 768) rfl rfl (f := ((⟨x0, x1, x2, x3, x4, x5, x6, x7⟩ : In).dk n)) (a := dkV _ _ _ _ _ _ _ _ _) (inb := inb_S512x1024_S128x128_384_768) (by decide) ?_ x
    · refine dk_at _ n 3 6 (o1 := 384) (o2 := 768) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 6 (o1 := 256) (o2 := 768) rfl rfl (f := ((⟨x0, x1, x2, x3, x4, x5, x6, x7⟩ : In).dk n)) (a := dkV _ _ _ _ _ _ _ _ _) (b := dkV _ _ _ _ _ _ _ _ _) (inb := inb_S512x1024_S128x128_256_768) (by decide) ?_ ?_ x
    · refine dk_at _ n 2 6 (o1 := 256) (o2 := 768) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 6 (o1 := 384) (o2 := 768) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 6 (o1 := 128) (o2 := 768) rfl rfl (f := ((⟨x0, x1, x2, x3, x4, x5, x6, x7⟩ : In).dk n)) (a := dkV _ _ _ _ _ _ _ _ _) (b := dkV _ _ _ _ _ _ _ _ _) (inb := inb_S512x1024_S128x128_128_768) (by decide) ?_ ?_ x
    · refine dk_at _ n 1 6 (o1 := 128) (o2 := 768) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 6 (o1 := 256) (o2 := 768) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 6 (o1 := 0) (o2 := 768) rfl rfl (f := ((⟨x0, x1, x2, x3, x4, x5, x6, x7⟩ : In).dk n)) (a := dkV _ _ _ _ _ _ _ _ _) (b := dkV _ _ _ _ _ _ _ _ _) (inb := inb_S512x1024_S128x128_0_768) (by decide) ?_ ?_ x
    · refine dk_at _ n 0 6 (o1 := 0) (o2 := 768) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 6 (o1 := 128) (o2 := 768) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 5 (o1 := 384) (o2 := 640) rfl rfl (f := ((⟨x0, x1, x2, x3, x4, x5, x6, x7⟩ : In).dk n)) (a := dkV _ _ _ _ _ _ _ _ _) (inb := inb_S512x1024_S128x128_384_640) (by decide) ?_ x
    · refine dk_at _ n 3 5 (o1 := 384) (o2 := 640) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 5 (o1 := 256) (o2 := 640) rfl rfl (f := ((⟨x0, x1, x2, x3, x4, x5, x6, x7⟩ : In).dk n)) (a := dkV _ _ _ _ _ _ _ _ _) (b := dkV _ _ _ _ _ _ _ _ _) (inb := inb_S512x1024_S128x128_256_640) (by decide) ?_ ?_ x
    · refine dk_at _ n 2 5 (o1 := 256) (o2 := 640) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 5 (o1 := 384) (o2 := 640) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 5 (o1 := 128) (o2 := 640) rfl rfl (f := ((⟨x0, x1, x2, x3, x4, x5, x6, x7⟩ : In).dk n)) (a := dkV _ _ _ _ _ _ _ _ _) (b := dkV _ _ _ _ _ _ _ _ _) (inb := inb_S512x1024_S128x128_128_640) (by decide) ?_ ?_ x
    · refine dk_at _ n 1 5 (o1 := 128) (o2 := 640) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 5 (o1 := 256) (o2 := 640) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 5 (o1 := 0) (o2 := 640) rfl rfl (f := ((⟨x0, x1, x2, x3, x4, x5, x6, x7⟩ : In).dk n)) (a := dkV _ _ _ _ _ _ _ _ _) (b := dkV _ _ _ _ _ _ _ _ _) (inb := inb_S512x1024_S128x128_0_640) (by decide) ?_ ?_ x
    · refine dk_at _ n 0 5 (o1 := 0) (o2 := 640) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 5 (o1 := 128) (o2 := 640) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 4 (o1 := 384) (o2 := 512) rfl rfl (f := ((⟨x0, x1, x2, x3, x4, x5, x6, x7⟩ : In).dk n)) (a := dkV _ _ _ _ _ _ _ _ _) (inb := inb_S512x1024_S128x128_384_512) (by decide) ?_ x
    · refine dk_at _ n 3 4 (o1 := 384) (o2 := 512) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 4 (o1 := 256) (o2 := 512) rfl rfl (f := ((⟨x0, x1, x2, x3, x4, x5, x6, x7⟩ : In).dk n)) (a := dkV _ _ _ _ _ _ _ _ _) (b := dkV _ _ _ _ _ _ _ _ _) (inb := inb_S512x1024_S128x128_256_512) (by decide) ?_ ?_ x
    · refine dk_at _ n 2 4 (o1 := 256) (o2 := 512) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 4 (o1 := 384) (o2 := 512) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 4 (o1 := 128) (o2 := 512) rfl rfl (f := ((⟨x0, x1, x2, x3, x4, x5, x6, x7⟩ : In).dk n)) (a := dkV _ _ _ _ _ _ _ _ _) (b := dkV _ _ _ _ _ _ _ _ _) (inb := inb_S512x1024_S128x128_128_512) (by decide) ?_ ?_ x
    · refine dk_at _ n 1 4 (o1 := 128) (o2 := 512) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 4 (o1 := 256) (o2 := 512) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 4 (o1 := 0) (o2 := 512) rfl rfl (f := ((⟨x0, x1, x2, x3, x4, x5, x6, x7⟩ : In).dk n)) (a := dkV _ _ _ _ _ _ _ _ _) (b := dkV _ _ _ _ _ _ _ _ _) (inb := inb_S512x1024_S128x128_0_512) (by decide) ?_ ?_ x
    · refine dk_at _ n 0 4 (o1 := 0) (o2 := 512) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 4 (o1 := 128) (o2 := 512) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 3 (o1 := 384) (o2 := 384) rfl rfl (f := ((⟨x0, x1, x2, x3, x4, x5, x6, x7⟩ : In).dk n)) (a := dkV _ _ _ _ _ _ _ _ _) (inb := inb_S512x1024_S128x128_384_384) (by decide) ?_ x
    · refine dk_at _ n 3 3 (o1 := 384) (o2 := 384) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 3 (o1 := 256) (o2 := 384) rfl rfl (f := ((⟨x0, x1, x2, x3, x4, x5, x6, x7⟩ : In).dk n)) (a := dkV _ _ _ _ _ _ _ _ _) (b := dkV _ _ _ _ _ _ _ _ _) (inb := inb_S512x1024_S128x128_256_384) (by decide) ?_ ?_ x
    · refine dk_at _ n 2 3 (o1 := 256) (o2 := 384) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 3 (o1 := 384) (o2 := 384) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 3 (o1 := 128) (o2 := 384) rfl rfl (f := ((⟨x0, x1, x2, x3, x4, x5, x6, x7⟩ : In).dk n)) (a := dkV _ _ _ _ _ _ _ _ _) (b := dkV _ _ _ _ _ _ _ _ _) (inb := inb_S512x1024_S128x128_128_384) (by decide) ?_ ?_ x
    · refine dk_at _ n 1 3 (o1 := 128) (o2 := 384) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 3 (o1 := 256) (o2 := 384) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 3 (o1 := 0) (o2 := 384) rfl rfl (f := ((⟨x0, x1, x2, x3, x4, x5, x6, x7⟩ : In).dk n)) (a := dkV _ _ _ _ _ _ _ _ _) (b := dkV _ _ _ _ _ _ _ _ _) (inb := inb_S512x1024_S128x128_0_384) (by decide) ?_ ?_ x
    · refine dk_at _ n 0 3 (o1 := 0) (o2 := 384) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 3 (o1 := 128) (o2 := 384) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 2 (o1 := 384) (o2 := 256) rfl rfl (f := ((⟨x0, x1, x2, x3, x4, x5, x6, x7⟩ : In).dk n)) (a := dkV _ _ _ _ _ _ _ _ _) (inb := inb_S512x1024_S128x128_384_256) (by decide) ?_ x
    · refine dk_at _ n 3 2 (o1 := 384) (o2 := 256) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 2 (o1 := 256) (o2 := 256) rfl rfl (f := ((⟨x0, x1, x2, x3, x4, x5, x6, x7⟩ : In).dk n)) (a := dkV _ _ _ _ _ _ _ _ _) (b := dkV _ _ _ _ _ _ _ _ _) (inb := inb_S512x1024_S128x128_256_256) (by decide) ?_ ?_ x
    · refine dk_at _ n 2 2 (o1 := 256) (o2 := 256) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 2 (o1 := 384) (o2 := 256) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 2 (o1 := 128) (o2 := 256) rfl rfl (f := ((⟨x0, x1, x2, x3, x4, x5, x6, x7⟩ : In).dk n)) (a := dkV _ _ _ _ _ _ _ _ _) (b := dkV _ _ _ _ _ _ _ _ _) (inb := inb_S512x1024_S128x128_128_256) (by decide) ?_ ?_ x
    · refine dk_at _ n 1 2 (o1 := 128) (o2 := 256) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 2 (o1 := 256) (o2 := 256) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 2 (o1 := 0) (o2 := 256) rfl rfl (f := ((⟨x0, x1, x2, x3, x4, x5, x6, x7⟩ : In).dk n)) (a := dkV _ _ _ _ _ _ _ _ _) (b := dkV _ _ _ _ _ _ _ _ _) (inb := inb_S512x1024_S128x128_0_256) (by decide) ?_ ?_ x
    · refine dk_at _ n 0 2 (o1 := 0) (o2 := 256) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 2 (o1 := 128) (o2 := 256) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 1 (o1 := 384) (o2 := 128) rfl rfl (f := ((⟨x0, x1, x2, x3, x4, x5, x6, x7⟩ : In).dk n)) (a := dkV _ _ _ _ _ _ _ _ _) (inb := inb_S512x1024_S128x128_384_128) (by decide) ?_ x
    · refine dk_at _ n 3 1 (o1 := 384) (o2 := 128) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 1 (o1 := 256) (o2 := 128) rfl rfl (f := ((⟨x0, x1, x2, x3, x4, x5, x6, x7⟩ : In).dk n)) (a := dkV _ _ _ _ _ _ _ _ _) (b := dkV _ _ _ _ _ _ _ _ _) (inb := inb_S512x1024_S128x128_256_128) (by decide) ?_ ?_ x
    · refine dk_at _ n 2 1 (o1 := 256) (o2 := 128) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 1 (o1 := 384) (o2 := 128) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 1 (o1 := 128) (o2 := 128) rfl rfl (f := ((⟨x0, x1, x2, x3, x4, x5, x6, x7⟩ : In).dk n)) (a := dkV _ _ _ _ _ _ _ _ _) (b := dkV _ _ _ _ _ _ _ _ _) (inb := inb_S512x1024_S128x128_128_128) (by decide) ?_ ?_ x
    · refine dk_at _ n 1 1 (o1 := 128) (o2 := 128) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 1 (o1 := 256) (o2 := 128) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 1 (o1 := 0) (o2 := 128) rfl rfl (f := ((⟨x0, x1, x2, x3, x4, x5, x6, x7⟩ : In).dk n)) (a := dkV _ _ _ _ _ _ _ _ _) (b := dkV _ _ _ _ _ _ _ _ _) (inb := inb_S512x1024_S128x128_0_128) (by decide) ?_ ?_ x
    · refine dk_at _ n 0 1 (o1 := 0) (o2 := 128) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 1 (o1 := 128) (o2 := 128) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · intro x
    show lastV (dkV _ _ _ _ _ _ _ _ _) x = _
    refine last_piece 3 0 (o1 := 384) (o2 := 0) rfl rfl (f := ((⟨x0, x1, x2, x3, x4, x5, x6, x7⟩ : In).dk n)) (a := dkV _ _ _ _ _ _ _ _ _) (inb := inb_S512x1024_S128x128_384_0) (by decide) ?_ x
    · refine dk_at _ n 3 0 (o1 := 384) (o2 := 0) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 2 0 (o1 := 256) (o2 := 0) rfl rfl (f := ((⟨x0, x1, x2, x3, x4, x5, x6, x7⟩ : In).dk n)) (a := dkV _ _ _ _ _ _ _ _ _) (b := dkV _ _ _ _ _ _ _ _ _) (inb := inb_S512x1024_S128x128_256_0) (by decide) ?_ ?_ x
    · refine dk_at _ n 2 0 (o1 := 256) (o2 := 0) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
    · refine dk_at _ n 3 0 (o1 := 384) (o2 := 0) rfl rfl ?_ ?_ ?_ ?_ ?_ ?_ ?_ ?_ ?_
      exacts [mask_at i n hi hn 3 (by decide), q_load, k_load (hs := slices_S640x128_o384_0_S256x128), l_load, l_load, d_load,
        k_load (hs := slices_S640x128_o384_0_S256x128), l_load, l_load]
  · intro x
    show totV (dkV _ _ _ _ _ _ _ _ _) (dkV _ _ _ _ _ _ _ _ _) x = _
    refine tot_piece 1 0 (o1 := 128) (o2 := 0) rfl rfl (f := ((⟨x0, x1, x2, x3, x4, x5, x6, x7⟩ : In).dk n)) (a := dkV _ _ _ _ _ _ _ _ _) (b := dkV _ _ _ _ _ _ _ _ _) (inb := inb_S512x1024_S128x128_128_0) (by decide) ?_ ?_ x
    · refine dk_at _ n 1 0 (o1 := 128) (o2 := 0) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
    · refine dk_at _ n 2 0 (o1 := 256) (o2 := 0) rfl rfl ?_ ?_ ?_ ?_ ?_ ?_ ?_ ?_ ?_
      exacts [mask_at i n hi hn 2 (by decide), q_load, k_load (hs := slices_S640x128_o256_0_S256x128), l_load, l_load, d_load,
        k_load (hs := slices_S640x128_o256_0_S256x128), l_load, l_load]
  · intro x
    show totV (dkV _ _ _ _ _ _ _ _ _) (dkV _ _ _ _ _ _ _ _ _) x = _
    refine tot_piece 0 0 (o1 := 0) (o2 := 0) rfl rfl (f := ((⟨x0, x1, x2, x3, x4, x5, x6, x7⟩ : In).dk n)) (a := dkV _ _ _ _ _ _ _ _ _) (b := dkV _ _ _ _ _ _ _ _ _) (inb := inb_S512x1024_S128x128_0_0) (by decide) ?_ ?_ x
    · refine dk_at _ n 0 0 (o1 := 0) (o2 := 0) rfl rfl ?_ ?_ ?_ ?_ ?_ ?_ ?_ ?_ ?_
      exacts [mask_at i n hi hn 0 (by decide), q_load, k_load (hs := slices_S640x128_o0_0_S256x128), l_load, l_load, d_load,
        k_load (hs := slices_S640x128_o0_0_S256x128), l_load, l_load]
    · refine dk_at _ n 1 0 (o1 := 128) (o2 := 0) rfl rfl ?_ ?_ ?_ ?_ ?_ ?_ ?_ ?_ ?_
      exacts [mask_at i n hi hn 1 (by decide), q_load, k_load (hs := slices_S640x128_o128_0_S256x128), l_load, l_load, d_load,
        k_load (hs := slices_S640x128_o128_0_S256x128), l_load, l_load]
  · trivial
theorem s2_B : sout0_B_2 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 = (totF ((⟨x0, x1, x2, x3, x4, x5, x6, x7⟩ : In).dv n)) := by
  unfold sout0_B_2
  rw [View.read_writes_junk_eq_canon]
  funext y
  refine View.canon_apply_of_pieces (totF ((⟨x0, x1, x2, x3, x4, x5, x6, x7⟩ : In).dv n)) _ (View.PiecesOf.mem (G := (totF ((⟨x0, x1, x2, x3, x4, x5, x6, x7⟩ : In).dv n))) ?_) y (scover0_B_2 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 y)
  frame_open
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro x
    show lastV (k0_pay24 _ _ _ _ _ _) x = _
    refine last_piece 3 7 (o1 := 384) (o2 := 896) rfl rfl (f := ((⟨x0, x1, x2, x3, x4, x5, x6, x7⟩ : In).dv n)) (a := k0_pay24 _ _ _ _ _ _) (inb := inb_S512x1024_S128x128_384_896) (by decide) ?_ x
    · refine dv_at _ n 3 7 (o1 := 384) (o2 := 896) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 7 (o1 := 256) (o2 := 896) rfl rfl (f := ((⟨x0, x1, x2, x3, x4, x5, x6, x7⟩ : In).dv n)) (a := k0_pay24 _ _ _ _ _ _) (b := k0_pay24 _ _ _ _ _ _) (inb := inb_S512x1024_S128x128_256_896) (by decide) ?_ ?_ x
    · refine dv_at _ n 2 7 (o1 := 256) (o2 := 896) rfl rfl ?_ ?_ ?_ ?_ ?_ ?_
      exacts [mask_at i n hi hn 2 (by decide), q_load, k_load (hs := slices_S640x128_o256_0_S256x128), l_load, l_load, d_load]
    · refine dv_at _ n 3 7 (o1 := 384) (o2 := 896) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 7 (o1 := 128) (o2 := 896) rfl rfl (f := ((⟨x0, x1, x2, x3, x4, x5, x6, x7⟩ : In).dv n)) (a := k0_pay24 _ _ _ _ _ _) (b := k0_pay24 _ _ _ _ _ _) (inb := inb_S512x1024_S128x128_128_896) (by decide) ?_ ?_ x
    · refine dv_at _ n 1 7 (o1 := 128) (o2 := 896) rfl rfl ?_ ?_ ?_ ?_ ?_ ?_
      exacts [mask_at i n hi hn 1 (by decide), q_load, k_load (hs := slices_S640x128_o128_0_S256x128), l_load, l_load, d_load]
    · refine dv_at _ n 2 7 (o1 := 256) (o2 := 896) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 7 (o1 := 0) (o2 := 896) rfl rfl (f := ((⟨x0, x1, x2, x3, x4, x5, x6, x7⟩ : In).dv n)) (a := k0_pay24 _ _ _ _ _ _) (b := k0_pay24 _ _ _ _ _ _) (inb := inb_S512x1024_S128x128_0_896) (by decide) ?_ ?_ x
    · refine dv_at _ n 0 7 (o1 := 0) (o2 := 896) rfl rfl ?_ ?_ ?_ ?_ ?_ ?_
      exacts [mask_at i n hi hn 0 (by decide), q_load, k_load (hs := slices_S640x128_o0_0_S256x128), l_load, l_load, d_load]
    · refine dv_at _ n 1 7 (o1 := 128) (o2 := 896) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 6 (o1 := 384) (o2 := 768) rfl rfl (f := ((⟨x0, x1, x2, x3, x4, x5, x6, x7⟩ : In).dv n)) (a := k0_pay24 _ _ _ _ _ _) (inb := inb_S512x1024_S128x128_384_768) (by decide) ?_ x
    · refine dv_at _ n 3 6 (o1 := 384) (o2 := 768) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 6 (o1 := 256) (o2 := 768) rfl rfl (f := ((⟨x0, x1, x2, x3, x4, x5, x6, x7⟩ : In).dv n)) (a := k0_pay24 _ _ _ _ _ _) (b := k0_pay24 _ _ _ _ _ _) (inb := inb_S512x1024_S128x128_256_768) (by decide) ?_ ?_ x
    · refine dv_at _ n 2 6 (o1 := 256) (o2 := 768) rfl rfl ?_ ?_ ?_ ?_ ?_ ?_
      exacts [mask_at i n hi hn 2 (by decide), q_load, k_load (hs := slices_S640x128_o256_0_S256x128), l_load, l_load, d_load]
    · refine dv_at _ n 3 6 (o1 := 384) (o2 := 768) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 6 (o1 := 128) (o2 := 768) rfl rfl (f := ((⟨x0, x1, x2, x3, x4, x5, x6, x7⟩ : In).dv n)) (a := k0_pay24 _ _ _ _ _ _) (b := k0_pay24 _ _ _ _ _ _) (inb := inb_S512x1024_S128x128_128_768) (by decide) ?_ ?_ x
    · refine dv_at _ n 1 6 (o1 := 128) (o2 := 768) rfl rfl ?_ ?_ ?_ ?_ ?_ ?_
      exacts [mask_at i n hi hn 1 (by decide), q_load, k_load (hs := slices_S640x128_o128_0_S256x128), l_load, l_load, d_load]
    · refine dv_at _ n 2 6 (o1 := 256) (o2 := 768) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 6 (o1 := 0) (o2 := 768) rfl rfl (f := ((⟨x0, x1, x2, x3, x4, x5, x6, x7⟩ : In).dv n)) (a := k0_pay24 _ _ _ _ _ _) (b := k0_pay24 _ _ _ _ _ _) (inb := inb_S512x1024_S128x128_0_768) (by decide) ?_ ?_ x
    · refine dv_at _ n 0 6 (o1 := 0) (o2 := 768) rfl rfl ?_ ?_ ?_ ?_ ?_ ?_
      exacts [mask_at i n hi hn 0 (by decide), q_load, k_load (hs := slices_S640x128_o0_0_S256x128), l_load, l_load, d_load]
    · refine dv_at _ n 1 6 (o1 := 128) (o2 := 768) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 5 (o1 := 384) (o2 := 640) rfl rfl (f := ((⟨x0, x1, x2, x3, x4, x5, x6, x7⟩ : In).dv n)) (a := k0_pay24 _ _ _ _ _ _) (inb := inb_S512x1024_S128x128_384_640) (by decide) ?_ x
    · refine dv_at _ n 3 5 (o1 := 384) (o2 := 640) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 5 (o1 := 256) (o2 := 640) rfl rfl (f := ((⟨x0, x1, x2, x3, x4, x5, x6, x7⟩ : In).dv n)) (a := k0_pay24 _ _ _ _ _ _) (b := k0_pay24 _ _ _ _ _ _) (inb := inb_S512x1024_S128x128_256_640) (by decide) ?_ ?_ x
    · refine dv_at _ n 2 5 (o1 := 256) (o2 := 640) rfl rfl ?_ ?_ ?_ ?_ ?_ ?_
      exacts [mask_at i n hi hn 2 (by decide), q_load, k_load (hs := slices_S640x128_o256_0_S256x128), l_load, l_load, d_load]
    · refine dv_at _ n 3 5 (o1 := 384) (o2 := 640) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 5 (o1 := 128) (o2 := 640) rfl rfl (f := ((⟨x0, x1, x2, x3, x4, x5, x6, x7⟩ : In).dv n)) (a := k0_pay24 _ _ _ _ _ _) (b := k0_pay24 _ _ _ _ _ _) (inb := inb_S512x1024_S128x128_128_640) (by decide) ?_ ?_ x
    · refine dv_at _ n 1 5 (o1 := 128) (o2 := 640) rfl rfl ?_ ?_ ?_ ?_ ?_ ?_
      exacts [mask_at i n hi hn 1 (by decide), q_load, k_load (hs := slices_S640x128_o128_0_S256x128), l_load, l_load, d_load]
    · refine dv_at _ n 2 5 (o1 := 256) (o2 := 640) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 5 (o1 := 0) (o2 := 640) rfl rfl (f := ((⟨x0, x1, x2, x3, x4, x5, x6, x7⟩ : In).dv n)) (a := k0_pay24 _ _ _ _ _ _) (b := k0_pay24 _ _ _ _ _ _) (inb := inb_S512x1024_S128x128_0_640) (by decide) ?_ ?_ x
    · refine dv_at _ n 0 5 (o1 := 0) (o2 := 640) rfl rfl ?_ ?_ ?_ ?_ ?_ ?_
      exacts [mask_at i n hi hn 0 (by decide), q_load, k_load (hs := slices_S640x128_o0_0_S256x128), l_load, l_load, d_load]
    · refine dv_at _ n 1 5 (o1 := 128) (o2 := 640) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 4 (o1 := 384) (o2 := 512) rfl rfl (f := ((⟨x0, x1, x2, x3, x4, x5, x6, x7⟩ : In).dv n)) (a := k0_pay24 _ _ _ _ _ _) (inb := inb_S512x1024_S128x128_384_512) (by decide) ?_ x
    · refine dv_at _ n 3 4 (o1 := 384) (o2 := 512) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 4 (o1 := 256) (o2 := 512) rfl rfl (f := ((⟨x0, x1, x2, x3, x4, x5, x6, x7⟩ : In).dv n)) (a := k0_pay24 _ _ _ _ _ _) (b := k0_pay24 _ _ _ _ _ _) (inb := inb_S512x1024_S128x128_256_512) (by decide) ?_ ?_ x
    · refine dv_at _ n 2 4 (o1 := 256) (o2 := 512) rfl rfl ?_ ?_ ?_ ?_ ?_ ?_
      exacts [mask_at i n hi hn 2 (by decide), q_load, k_load (hs := slices_S640x128_o256_0_S256x128), l_load, l_load, d_load]
    · refine dv_at _ n 3 4 (o1 := 384) (o2 := 512) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 4 (o1 := 128) (o2 := 512) rfl rfl (f := ((⟨x0, x1, x2, x3, x4, x5, x6, x7⟩ : In).dv n)) (a := k0_pay24 _ _ _ _ _ _) (b := k0_pay24 _ _ _ _ _ _) (inb := inb_S512x1024_S128x128_128_512) (by decide) ?_ ?_ x
    · refine dv_at _ n 1 4 (o1 := 128) (o2 := 512) rfl rfl ?_ ?_ ?_ ?_ ?_ ?_
      exacts [mask_at i n hi hn 1 (by decide), q_load, k_load (hs := slices_S640x128_o128_0_S256x128), l_load, l_load, d_load]
    · refine dv_at _ n 2 4 (o1 := 256) (o2 := 512) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 4 (o1 := 0) (o2 := 512) rfl rfl (f := ((⟨x0, x1, x2, x3, x4, x5, x6, x7⟩ : In).dv n)) (a := k0_pay24 _ _ _ _ _ _) (b := k0_pay24 _ _ _ _ _ _) (inb := inb_S512x1024_S128x128_0_512) (by decide) ?_ ?_ x
    · refine dv_at _ n 0 4 (o1 := 0) (o2 := 512) rfl rfl ?_ ?_ ?_ ?_ ?_ ?_
      exacts [mask_at i n hi hn 0 (by decide), q_load, k_load (hs := slices_S640x128_o0_0_S256x128), l_load, l_load, d_load]
    · refine dv_at _ n 1 4 (o1 := 128) (o2 := 512) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 3 (o1 := 384) (o2 := 384) rfl rfl (f := ((⟨x0, x1, x2, x3, x4, x5, x6, x7⟩ : In).dv n)) (a := k0_pay24 _ _ _ _ _ _) (inb := inb_S512x1024_S128x128_384_384) (by decide) ?_ x
    · refine dv_at _ n 3 3 (o1 := 384) (o2 := 384) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 3 (o1 := 256) (o2 := 384) rfl rfl (f := ((⟨x0, x1, x2, x3, x4, x5, x6, x7⟩ : In).dv n)) (a := k0_pay24 _ _ _ _ _ _) (b := k0_pay24 _ _ _ _ _ _) (inb := inb_S512x1024_S128x128_256_384) (by decide) ?_ ?_ x
    · refine dv_at _ n 2 3 (o1 := 256) (o2 := 384) rfl rfl ?_ ?_ ?_ ?_ ?_ ?_
      exacts [mask_at i n hi hn 2 (by decide), q_load, k_load (hs := slices_S640x128_o256_0_S256x128), l_load, l_load, d_load]
    · refine dv_at _ n 3 3 (o1 := 384) (o2 := 384) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 3 (o1 := 128) (o2 := 384) rfl rfl (f := ((⟨x0, x1, x2, x3, x4, x5, x6, x7⟩ : In).dv n)) (a := k0_pay24 _ _ _ _ _ _) (b := k0_pay24 _ _ _ _ _ _) (inb := inb_S512x1024_S128x128_128_384) (by decide) ?_ ?_ x
    · refine dv_at _ n 1 3 (o1 := 128) (o2 := 384) rfl rfl ?_ ?_ ?_ ?_ ?_ ?_
      exacts [mask_at i n hi hn 1 (by decide), q_load, k_load (hs := slices_S640x128_o128_0_S256x128), l_load, l_load, d_load]
    · refine dv_at _ n 2 3 (o1 := 256) (o2 := 384) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 3 (o1 := 0) (o2 := 384) rfl rfl (f := ((⟨x0, x1, x2, x3, x4, x5, x6, x7⟩ : In).dv n)) (a := k0_pay24 _ _ _ _ _ _) (b := k0_pay24 _ _ _ _ _ _) (inb := inb_S512x1024_S128x128_0_384) (by decide) ?_ ?_ x
    · refine dv_at _ n 0 3 (o1 := 0) (o2 := 384) rfl rfl ?_ ?_ ?_ ?_ ?_ ?_
      exacts [mask_at i n hi hn 0 (by decide), q_load, k_load (hs := slices_S640x128_o0_0_S256x128), l_load, l_load, d_load]
    · refine dv_at _ n 1 3 (o1 := 128) (o2 := 384) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 2 (o1 := 384) (o2 := 256) rfl rfl (f := ((⟨x0, x1, x2, x3, x4, x5, x6, x7⟩ : In).dv n)) (a := k0_pay24 _ _ _ _ _ _) (inb := inb_S512x1024_S128x128_384_256) (by decide) ?_ x
    · refine dv_at _ n 3 2 (o1 := 384) (o2 := 256) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 2 (o1 := 256) (o2 := 256) rfl rfl (f := ((⟨x0, x1, x2, x3, x4, x5, x6, x7⟩ : In).dv n)) (a := k0_pay24 _ _ _ _ _ _) (b := k0_pay24 _ _ _ _ _ _) (inb := inb_S512x1024_S128x128_256_256) (by decide) ?_ ?_ x
    · refine dv_at _ n 2 2 (o1 := 256) (o2 := 256) rfl rfl ?_ ?_ ?_ ?_ ?_ ?_
      exacts [mask_at i n hi hn 2 (by decide), q_load, k_load (hs := slices_S640x128_o256_0_S256x128), l_load, l_load, d_load]
    · refine dv_at _ n 3 2 (o1 := 384) (o2 := 256) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 2 (o1 := 128) (o2 := 256) rfl rfl (f := ((⟨x0, x1, x2, x3, x4, x5, x6, x7⟩ : In).dv n)) (a := k0_pay24 _ _ _ _ _ _) (b := k0_pay24 _ _ _ _ _ _) (inb := inb_S512x1024_S128x128_128_256) (by decide) ?_ ?_ x
    · refine dv_at _ n 1 2 (o1 := 128) (o2 := 256) rfl rfl ?_ ?_ ?_ ?_ ?_ ?_
      exacts [mask_at i n hi hn 1 (by decide), q_load, k_load (hs := slices_S640x128_o128_0_S256x128), l_load, l_load, d_load]
    · refine dv_at _ n 2 2 (o1 := 256) (o2 := 256) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 2 (o1 := 0) (o2 := 256) rfl rfl (f := ((⟨x0, x1, x2, x3, x4, x5, x6, x7⟩ : In).dv n)) (a := k0_pay24 _ _ _ _ _ _) (b := k0_pay24 _ _ _ _ _ _) (inb := inb_S512x1024_S128x128_0_256) (by decide) ?_ ?_ x
    · refine dv_at _ n 0 2 (o1 := 0) (o2 := 256) rfl rfl ?_ ?_ ?_ ?_ ?_ ?_
      exacts [mask_at i n hi hn 0 (by decide), q_load, k_load (hs := slices_S640x128_o0_0_S256x128), l_load, l_load, d_load]
    · refine dv_at _ n 1 2 (o1 := 128) (o2 := 256) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 1 (o1 := 384) (o2 := 128) rfl rfl (f := ((⟨x0, x1, x2, x3, x4, x5, x6, x7⟩ : In).dv n)) (a := k0_pay24 _ _ _ _ _ _) (inb := inb_S512x1024_S128x128_384_128) (by decide) ?_ x
    · refine dv_at _ n 3 1 (o1 := 384) (o2 := 128) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 1 (o1 := 256) (o2 := 128) rfl rfl (f := ((⟨x0, x1, x2, x3, x4, x5, x6, x7⟩ : In).dv n)) (a := k0_pay24 _ _ _ _ _ _) (b := k0_pay24 _ _ _ _ _ _) (inb := inb_S512x1024_S128x128_256_128) (by decide) ?_ ?_ x
    · refine dv_at _ n 2 1 (o1 := 256) (o2 := 128) rfl rfl ?_ ?_ ?_ ?_ ?_ ?_
      exacts [mask_at i n hi hn 2 (by decide), q_load, k_load (hs := slices_S640x128_o256_0_S256x128), l_load, l_load, d_load]
    · refine dv_at _ n 3 1 (o1 := 384) (o2 := 128) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 1 (o1 := 128) (o2 := 128) rfl rfl (f := ((⟨x0, x1, x2, x3, x4, x5, x6, x7⟩ : In).dv n)) (a := k0_pay24 _ _ _ _ _ _) (b := k0_pay24 _ _ _ _ _ _) (inb := inb_S512x1024_S128x128_128_128) (by decide) ?_ ?_ x
    · refine dv_at _ n 1 1 (o1 := 128) (o2 := 128) rfl rfl ?_ ?_ ?_ ?_ ?_ ?_
      exacts [mask_at i n hi hn 1 (by decide), q_load, k_load (hs := slices_S640x128_o128_0_S256x128), l_load, l_load, d_load]
    · refine dv_at _ n 2 1 (o1 := 256) (o2 := 128) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 1 (o1 := 0) (o2 := 128) rfl rfl (f := ((⟨x0, x1, x2, x3, x4, x5, x6, x7⟩ : In).dv n)) (a := k0_pay24 _ _ _ _ _ _) (b := k0_pay24 _ _ _ _ _ _) (inb := inb_S512x1024_S128x128_0_128) (by decide) ?_ ?_ x
    · refine dv_at _ n 0 1 (o1 := 0) (o2 := 128) rfl rfl ?_ ?_ ?_ ?_ ?_ ?_
      exacts [mask_at i n hi hn 0 (by decide), q_load, k_load (hs := slices_S640x128_o0_0_S256x128), l_load, l_load, d_load]
    · refine dv_at _ n 1 1 (o1 := 128) (o2 := 128) rfl rfl ?_ ?_ ?_ ?_ ?_ ?_
      exacts [mask_at i n hi hn 1 (by decide), q_load, k_load (hs := slices_S640x128_o128_0_S256x128), l_load, l_load, d_load]
  · intro x
    show lastV (k0_pay24 _ _ _ _ _ _) x = _
    refine last_piece 3 0 (o1 := 384) (o2 := 0) rfl rfl (f := ((⟨x0, x1, x2, x3, x4, x5, x6, x7⟩ : In).dv n)) (a := k0_pay24 _ _ _ _ _ _) (inb := inb_S512x1024_S128x128_384_0) (by decide) ?_ x
    · refine dv_at _ n 3 0 (o1 := 384) (o2 := 0) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 2 0 (o1 := 256) (o2 := 0) rfl rfl (f := ((⟨x0, x1, x2, x3, x4, x5, x6, x7⟩ : In).dv n)) (a := k0_pay24 _ _ _ _ _ _) (b := k0_pay24 _ _ _ _ _ _) (inb := inb_S512x1024_S128x128_256_0) (by decide) ?_ ?_ x
    · refine dv_at _ n 2 0 (o1 := 256) (o2 := 0) rfl rfl ?_ ?_ ?_ ?_ ?_ ?_
      exacts [mask_at i n hi hn 2 (by decide), q_load, k_load (hs := slices_S640x128_o256_0_S256x128), l_load, l_load, d_load]
    · refine dv_at _ n 3 0 (o1 := 384) (o2 := 0) rfl rfl ?_ ?_ ?_ ?_ ?_ ?_
      exacts [mask_at i n hi hn 3 (by decide), q_load, k_load (hs := slices_S640x128_o384_0_S256x128), l_load, l_load, d_load]
  · intro x
    show totV (k0_pay24 _ _ _ _ _ _) (k0_pay24 _ _ _ _ _ _) x = _
    refine tot_piece 1 0 (o1 := 128) (o2 := 0) rfl rfl (f := ((⟨x0, x1, x2, x3, x4, x5, x6, x7⟩ : In).dv n)) (a := k0_pay24 _ _ _ _ _ _) (b := k0_pay24 _ _ _ _ _ _) (inb := inb_S512x1024_S128x128_128_0) (by decide) ?_ ?_ x
    · refine dv_at _ n 1 0 (o1 := 128) (o2 := 0) rfl rfl ?_ ?_ ?_ ?_ ?_ ?_
      exacts [mask_at i n hi hn 1 (by decide), q_load, k_load (hs := slices_S640x128_o128_0_S256x128), l_load, l_load, d_load]
    · refine dv_at _ n 2 0 (o1 := 256) (o2 := 0) rfl rfl ?_ ?_ ?_ ?_ ?_ ?_
      exacts [mask_at i n hi hn 2 (by decide), q_load, k_load (hs := slices_S640x128_o256_0_S256x128), l_load, l_load, d_load]
  · intro x
    show totV (k0_pay24 _ _ _ _ _ _) (k0_pay24 _ _ _ _ _ _) x = _
    refine tot_piece 0 0 (o1 := 0) (o2 := 0) rfl rfl (f := ((⟨x0, x1, x2, x3, x4, x5, x6, x7⟩ : In).dv n)) (a := k0_pay24 _ _ _ _ _ _) (b := k0_pay24 _ _ _ _ _ _) (inb := inb_S512x1024_S128x128_0_0) (by decide) ?_ ?_ x
    · refine dv_at _ n 0 0 (o1 := 0) (o2 := 0) rfl rfl ?_ ?_ ?_ ?_ ?_ ?_
      exacts [mask_at i n hi hn 0 (by decide), q_load, k_load (hs := slices_S640x128_o0_0_S256x128), l_load, l_load, d_load]
    · refine dv_at _ n 1 0 (o1 := 128) (o2 := 0) rfl rfl ?_ ?_ ?_ ?_ ?_ ?_
      exacts [mask_at i n hi hn 1 (by decide), q_load, k_load (hs := slices_S640x128_o128_0_S256x128), l_load, l_load, d_load]
  · trivial
end
end Cert.KernelIdeal.Piece
-- ==== Proof.Out.lean ====
module
public import proofs.«01_k».proof.Proof.Pieces
@[expose] public section
noncomputable section
open Idealize.ShloMosaic hiding ix2 ix3 eq_ix2 eq_ix3
open Idealize.ShloMosaic.TcCoe Idealize.ShloMosaic.ValueIdx Idealize.SL.Sem
namespace Cert.KernelIdeal.Piece
open Cert.KernelIdeal.Gen
section
variable (c : Dev nD) (i : grid0.Coords)
  (arg1 : Memref sig .tc .vmem S1x512x1024 .bf16) (harg1 : arg1.IsWhole)
  (arg2 : Memref sig .tc .vmem S512x1024 .bf16) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x512x1024 .bf16) (harg5 : arg5.IsWhole)
  (arg6 : Memref sig .tc .vmem S1x128x1024 .bf16) (harg6 : arg6.IsWhole)
  (arg7 : Memref sig .tc .vmem S1x512x1024 .bf16) (harg7 : arg7.IsWhole)
  (arg8 : Memref sig .tc .vmem S1x128x1024 .bf16) (harg8 : arg8.IsWhole)
  (arg9 : Memref sig .tc .vmem S3x512x1024 .bf16) (harg9 : arg9.IsWhole)
  (arg10 : Memref sig .tc .vmem S512x1024 .f32) (harg10 : arg10.IsWhole)
  (arg11 : Memref sig .tc .vmem S512x1024 .f32) (harg11 : arg11.IsWhole)
  (arg12 : Memref sig .tc .vmem S512x1024 .f32) (harg12 : arg12.IsWhole)
  (x0 : Vec Ideal S1x512x1024 .bf16)  (x1 : Vec Ideal S512x1024 .bf16)  (x2 : Vec Ideal S512x1024 .f32)  (x3 : Vec Ideal S512x1024 .f32)  (x4 : Vec Ideal S1x512x1024 .bf16)  (x5 : Vec Ideal S1x128x1024 .bf16)  (x6 : Vec Ideal S1x512x1024 .bf16)  (x7 : Vec Ideal S1x128x1024 .bf16)
variable (xs0 xs1 xs2 : Vec Ideal S512x1024 .f32)
variable (hc0 : ¬cond0_0 i) (hc1 : cond0_1 i) (hc2 : ¬cond0_2 i) (n : ℕ) (hi : (i 0).val = n) (hn : n < 9)
include hi hn
set_option maxHeartbeats 4000000
theorem o_B : out0_B_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 = (outBF xs0 xs1 xs2 ((⟨x0, x1, x2, x3, x4, x5, x6, x7⟩ : In).dk n) ((⟨x0, x1, x2, x3, x4, x5, x6, x7⟩ : In).dv n)) := by
  have h0 : ∀ y : S3x512x1024.Idx, (y 0).val = 0 → (outBF xs0 xs1 xs2 ((⟨x0, x1, x2, x3, x4, x5, x6, x7⟩ : In).dk n) ((⟨x0, x1, x2, x3, x4, x5, x6, x7⟩ : In).dv n)) y = at2 xs0 (y 1).val (y 2).val := fun y h => if_pos h
  have h1 : ∀ y : S3x512x1024.Idx, (y 0).val = 1 → (outBF xs0 xs1 xs2 ((⟨x0, x1, x2, x3, x4, x5, x6, x7⟩ : In).dk n) ((⟨x0, x1, x2, x3, x4, x5, x6, x7⟩ : In).dv n)) y = low xs1 ((⟨x0, x1, x2, x3, x4, x5, x6, x7⟩ : In).dk n) (y 1).val (y 2).val := fun y h =>
    (if_neg (by omega)).trans (if_pos h)
  have h2 : ∀ y : S3x512x1024.Idx, (y 0).val = 2 → (outBF xs0 xs1 xs2 ((⟨x0, x1, x2, x3, x4, x5, x6, x7⟩ : In).dk n) ((⟨x0, x1, x2, x3, x4, x5, x6, x7⟩ : In).dv n)) y = low xs2 ((⟨x0, x1, x2, x3, x4, x5, x6, x7⟩ : In).dv n) (y 1).val (y 2).val := fun y h =>
    (if_neg (by omega)).trans (if_neg (by omega))
  unfold out0_B_8
  rw [View.read_writes_junk_eq_canon]
  funext y
  refine View.canon_apply_of_pieces (outBF xs0 xs1 xs2 ((⟨x0, x1, x2, x3, x4, x5, x6, x7⟩ : In).dk n) ((⟨x0, x1, x2, x3, x4, x5, x6, x7⟩ : In).dv n)) _ (View.PiecesOf.mem (G := (outBF xs0 xs1 xs2 ((⟨x0, x1, x2, x3, x4, x5, x6, x7⟩ : In).dk n) ((⟨x0, x1, x2, x3, x4, x5, x6, x7⟩ : In).dv n))) ?_) y (cover0_B_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 y)
  frame_open
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro x
    show topV _ x = _
    exact top_piece 2 h2 (inb := inb_S3x512x1024_S1x384x128_2_0_896) x
  · intro x
    show botV _ (k0_pay24 _ _ _ _ _ _) x = _
    refine bot_piece 2 h2 7 (o2 := 896) rfl (f := ((⟨x0, x1, x2, x3, x4, x5, x6, x7⟩ : In).dv n)) (w := (k0_pay24 _ _ _ _ _ _)) ?_ (inb := inb_S3x512x1024_S1x128x128_2_384_896) x
    refine dv_at _ n 0 7 (o1 := 0) (o2 := 896) rfl rfl ?_ ?_ ?_ ?_ ?_ ?_
    exacts [mask_at i n hi hn 0 (by decide), q_load, k_load (hs := slices_S640x128_o0_0_S256x128), l_load, l_load, d_load]
  · intro x
    show topV _ x = _
    exact top_piece 1 h1 (inb := inb_S3x512x1024_S1x384x128_1_0_896) x
  · intro x
    show botV _ (dkV _ _ _ _ _ _ _ _ _) x = _
    refine bot_piece 1 h1 7 (o2 := 896) rfl (f := ((⟨x0, x1, x2, x3, x4, x5, x6, x7⟩ : In).dk n)) (w := (dkV _ _ _ _ _ _ _ _ _)) ?_ (inb := inb_S3x512x1024_S1x128x128_1_384_896) x
    refine dk_at _ n 0 7 (o1 := 0) (o2 := 896) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show topV _ x = _
    exact top_piece 2 h2 (inb := inb_S3x512x1024_S1x384x128_2_0_768) x
  · intro x
    show botV _ (k0_pay24 _ _ _ _ _ _) x = _
    refine bot_piece 2 h2 6 (o2 := 768) rfl (f := ((⟨x0, x1, x2, x3, x4, x5, x6, x7⟩ : In).dv n)) (w := (k0_pay24 _ _ _ _ _ _)) ?_ (inb := inb_S3x512x1024_S1x128x128_2_384_768) x
    refine dv_at _ n 0 6 (o1 := 0) (o2 := 768) rfl rfl ?_ ?_ ?_ ?_ ?_ ?_
    exacts [mask_at i n hi hn 0 (by decide), q_load, k_load (hs := slices_S640x128_o0_0_S256x128), l_load, l_load, d_load]
  · intro x
    show topV _ x = _
    exact top_piece 1 h1 (inb := inb_S3x512x1024_S1x384x128_1_0_768) x
  · intro x
    show botV _ (dkV _ _ _ _ _ _ _ _ _) x = _
    refine bot_piece 1 h1 6 (o2 := 768) rfl (f := ((⟨x0, x1, x2, x3, x4, x5, x6, x7⟩ : In).dk n)) (w := (dkV _ _ _ _ _ _ _ _ _)) ?_ (inb := inb_S3x512x1024_S1x128x128_1_384_768) x
    refine dk_at _ n 0 6 (o1 := 0) (o2 := 768) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show topV _ x = _
    exact top_piece 2 h2 (inb := inb_S3x512x1024_S1x384x128_2_0_640) x
  · intro x
    show botV _ (k0_pay24 _ _ _ _ _ _) x = _
    refine bot_piece 2 h2 5 (o2 := 640) rfl (f := ((⟨x0, x1, x2, x3, x4, x5, x6, x7⟩ : In).dv n)) (w := (k0_pay24 _ _ _ _ _ _)) ?_ (inb := inb_S3x512x1024_S1x128x128_2_384_640) x
    refine dv_at _ n 0 5 (o1 := 0) (o2 := 640) rfl rfl ?_ ?_ ?_ ?_ ?_ ?_
    exacts [mask_at i n hi hn 0 (by decide), q_load, k_load (hs := slices_S640x128_o0_0_S256x128), l_load, l_load, d_load]
  · intro x
    show topV _ x = _
    exact top_piece 1 h1 (inb := inb_S3x512x1024_S1x384x128_1_0_640) x
  · intro x
    show botV _ (dkV _ _ _ _ _ _ _ _ _) x = _
    refine bot_piece 1 h1 5 (o2 := 640) rfl (f := ((⟨x0, x1, x2, x3, x4, x5, x6, x7⟩ : In).dk n)) (w := (dkV _ _ _ _ _ _ _ _ _)) ?_ (inb := inb_S3x512x1024_S1x128x128_1_384_640) x
    refine dk_at _ n 0 5 (o1 := 0) (o2 := 640) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show topV _ x = _
    exact top_piece 2 h2 (inb := inb_S3x512x1024_S1x384x128_2_0_512) x
  · intro x
    show botV _ (k0_pay24 _ _ _ _ _ _) x = _
    refine bot_piece 2 h2 4 (o2 := 512) rfl (f := ((⟨x0, x1, x2, x3, x4, x5, x6, x7⟩ : In).dv n)) (w := (k0_pay24 _ _ _ _ _ _)) ?_ (inb := inb_S3x512x1024_S1x128x128_2_384_512) x
    refine dv_at _ n 0 4 (o1 := 0) (o2 := 512) rfl rfl ?_ ?_ ?_ ?_ ?_ ?_
    exacts [mask_at i n hi hn 0 (by decide), q_load, k_load (hs := slices_S640x128_o0_0_S256x128), l_load, l_load, d_load]
  · intro x
    show topV _ x = _
    exact top_piece 1 h1 (inb := inb_S3x512x1024_S1x384x128_1_0_512) x
  · intro x
    show botV _ (dkV _ _ _ _ _ _ _ _ _) x = _
    refine bot_piece 1 h1 4 (o2 := 512) rfl (f := ((⟨x0, x1, x2, x3, x4, x5, x6, x7⟩ : In).dk n)) (w := (dkV _ _ _ _ _ _ _ _ _)) ?_ (inb := inb_S3x512x1024_S1x128x128_1_384_512) x
    refine dk_at _ n 0 4 (o1 := 0) (o2 := 512) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show topV _ x = _
    exact top_piece 2 h2 (inb := inb_S3x512x1024_S1x384x128_2_0_384) x
  · intro x
    show botV _ (k0_pay24 _ _ _ _ _ _) x = _
    refine bot_piece 2 h2 3 (o2 := 384) rfl (f := ((⟨x0, x1, x2, x3, x4, x5, x6, x7⟩ : In).dv n)) (w := (k0_pay24 _ _ _ _ _ _)) ?_ (inb := inb_S3x512x1024_S1x128x128_2_384_384) x
    refine dv_at _ n 0 3 (o1 := 0) (o2 := 384) rfl rfl ?_ ?_ ?_ ?_ ?_ ?_
    exacts [mask_at i n hi hn 0 (by decide), q_load, k_load (hs := slices_S640x128_o0_0_S256x128), l_load, l_load, d_load]
  · intro x
    show topV _ x = _
    exact top_piece 1 h1 (inb := inb_S3x512x1024_S1x384x128_1_0_384) x
  · intro x
    show botV _ (dkV _ _ _ _ _ _ _ _ _) x = _
    refine bot_piece 1 h1 3 (o2 := 384) rfl (f := ((⟨x0, x1, x2, x3, x4, x5, x6, x7⟩ : In).dk n)) (w := (dkV _ _ _ _ _ _ _ _ _)) ?_ (inb := inb_S3x512x1024_S1x128x128_1_384_384) x
    refine dk_at _ n 0 3 (o1 := 0) (o2 := 384) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show topV _ x = _
    exact top_piece 2 h2 (inb := inb_S3x512x1024_S1x384x128_2_0_256) x
  · intro x
    show botV _ (k0_pay24 _ _ _ _ _ _) x = _
    refine bot_piece 2 h2 2 (o2 := 256) rfl (f := ((⟨x0, x1, x2, x3, x4, x5, x6, x7⟩ : In).dv n)) (w := (k0_pay24 _ _ _ _ _ _)) ?_ (inb := inb_S3x512x1024_S1x128x128_2_384_256) x
    refine dv_at _ n 0 2 (o1 := 0) (o2 := 256) rfl rfl ?_ ?_ ?_ ?_ ?_ ?_
    exacts [mask_at i n hi hn 0 (by decide), q_load, k_load (hs := slices_S640x128_o0_0_S256x128), l_load, l_load, d_load]
  · intro x
    show topV _ x = _
    exact top_piece 1 h1 (inb := inb_S3x512x1024_S1x384x128_1_0_256) x
  · intro x
    show botV _ (dkV _ _ _ _ _ _ _ _ _) x = _
    refine bot_piece 1 h1 2 (o2 := 256) rfl (f := ((⟨x0, x1, x2, x3, x4, x5, x6, x7⟩ : In).dk n)) (w := (dkV _ _ _ _ _ _ _ _ _)) ?_ (inb := inb_S3x512x1024_S1x128x128_1_384_256) x
    refine dk_at _ n 0 2 (o1 := 0) (o2 := 256) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show topV _ x = _
    exact top_piece 2 h2 (inb := inb_S3x512x1024_S1x384x128_2_0_128) x
  · intro x
    show botV _ (k0_pay24 _ _ _ _ _ _) x = _
    refine bot_piece 2 h2 1 (o2 := 128) rfl (f := ((⟨x0, x1, x2, x3, x4, x5, x6, x7⟩ : In).dv n)) (w := (k0_pay24 _ _ _ _ _ _)) ?_ (inb := inb_S3x512x1024_S1x128x128_2_384_128) x
    refine dv_at _ n 0 1 (o1 := 0) (o2 := 128) rfl rfl ?_ ?_ ?_ ?_ ?_ ?_
    exacts [mask_at i n hi hn 0 (by decide), q_load, k_load (hs := slices_S640x128_o0_0_S256x128), l_load, l_load, d_load]
  · intro x
    show topV _ x = _
    exact top_piece 1 h1 (inb := inb_S3x512x1024_S1x384x128_1_0_128) x
  · intro x
    show botV _ (dkV _ _ _ _ _ _ _ _ _) x = _
    refine bot_piece 1 h1 1 (o2 := 128) rfl (f := ((⟨x0, x1, x2, x3, x4, x5, x6, x7⟩ : In).dk n)) (w := (dkV _ _ _ _ _ _ _ _ _)) ?_ (inb := inb_S3x512x1024_S1x128x128_1_384_128) x
    refine dk_at _ n 0 1 (o1 := 0) (o2 := 128) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    show topV _ x = _
    exact top_piece 2 h2 (inb := inb_S3x512x1024_S1x384x128_2_0_0) x
  · intro x
    show botV _ (k0_pay24 _ _ _ _ _ _) x = _
    refine bot_piece 2 h2 0 (o2 := 0) rfl (f := ((⟨x0, x1, x2, x3, x4, x5, x6, x7⟩ : In).dv n)) (w := (k0_pay24 _ _ _ _ _ _)) ?_ (inb := inb_S3x512x1024_S1x128x128_2_384_0) x
    refine dv_at _ n 0 0 (o1 := 0) (o2 := 0) rfl rfl ?_ ?_ ?_ ?_ ?_ ?_
    exacts [mask_at i n hi hn 0 (by decide), q_load, k_load (hs := slices_S640x128_o0_0_S256x128), l_load, l_load, d_load]
  · intro x
    show topV _ x = _
    exact top_piece 1 h1 (inb := inb_S3x512x1024_S1x384x128_1_0_0) x
  · intro x
    show botV _ (dkV _ _ _ _ _ _ _ _ _) x = _
    refine bot_piece 1 h1 0 (o2 := 0) rfl (f := ((⟨x0, x1, x2, x3, x4, x5, x6, x7⟩ : In).dk n)) (w := (dkV _ _ _ _ _ _ _ _ _)) ?_ (inb := inb_S3x512x1024_S1x128x128_1_384_0) x
    refine dk_at _ n 0 0 (o1 := 0) (o2 := 0) rfl rfl ?_ ?_ ?_ ?_ ?_ ?_ ?_ ?_ ?_
    exacts [mask_at i n hi hn 0 (by decide), q_load, k_load (hs := slices_S640x128_o0_0_S256x128), l_load, l_load, d_load, k_load (hs := slices_S640x128_o0_0_S256x128),
      l_load, l_load]
  · intro x
    exact all_piece 0 h0 (inb := inb_S3x512x1024_S1x512x1024_0_0_0) x
  · trivial
end
end Cert.KernelIdeal.Piece
section
noncomputable section
open Idealize.ShloMosaic hiding ix2 ix3 eq_ix2 eq_ix3
open Idealize.ShloMosaic.TcCoe Idealize.ShloMosaic.ValueIdx Idealize.SL.Sem
namespace Cert.KernelIdeal.Piece
open Cert.KernelIdeal.Gen
section
variable (c : Dev nD) (i : grid0.Coords)
  (arg1 : Memref sig .tc .vmem S1x512x1024 .bf16) (harg1 : arg1.IsWhole)
  (arg2 : Memref sig .tc .vmem S512x1024 .bf16) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x512x1024 .bf16) (harg5 : arg5.IsWhole)
  (arg6 : Memref sig .tc .vmem S1x128x1024 .bf16) (harg6 : arg6.IsWhole)
  (arg7 : Memref sig .tc .vmem S1x512x1024 .bf16) (harg7 : arg7.IsWhole)
  (arg8 : Memref sig .tc .vmem S1x128x1024 .bf16) (harg8 : arg8.IsWhole)
  (arg9 : Memref sig .tc .vmem S3x512x1024 .bf16) (harg9 : arg9.IsWhole)
  (arg10 : Memref sig .tc .vmem S512x1024 .f32) (harg10 : arg10.IsWhole)
  (arg11 : Memref sig .tc .vmem S512x1024 .f32) (harg11 : arg11.IsWhole)
  (arg12 : Memref sig .tc .vmem S512x1024 .f32) (harg12 : arg12.IsWhole)
  (x0 : Vec Ideal S1x512x1024 .bf16)  (x1 : Vec Ideal S512x1024 .bf16)  (x2 : Vec Ideal S512x1024 .f32)  (x3 : Vec Ideal S512x1024 .f32)  (x4 : Vec Ideal S1x512x1024 .bf16)  (x5 : Vec Ideal S1x128x1024 .bf16)  (x6 : Vec Ideal S1x512x1024 .bf16)  (x7 : Vec Ideal S1x128x1024 .bf16)
variable (xs0 xs1 xs2 : Vec Ideal S512x1024 .f32)
variable (hc0 : ¬cond0_0 i) (hc1 : ¬cond0_1 i) (hc2 : cond0_2 i)
set_option maxHeartbeats 4000000
theorem o_C : out0_C_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 = (outCF xs0 xs1 xs2) := by
  have h0 : ∀ y : S3x512x1024.Idx, (y 0).val = 0 → (outCF xs0 xs1 xs2) y = at2 xs0 (y 1).val (y 2).val := fun y h => if_pos h
  have h1 : ∀ y : S3x512x1024.Idx, (y 0).val = 1 → (outCF xs0 xs1 xs2) y = at2 xs1 (y 1).val (y 2).val := fun y h =>
    (if_neg (by omega)).trans (if_pos h)
  have h2 : ∀ y : S3x512x1024.Idx, (y 0).val = 2 → (outCF xs0 xs1 xs2) y = at2 xs2 (y 1).val (y 2).val := fun y h =>
    (if_neg (by omega)).trans (if_neg (by omega))
  unfold out0_C_8
  rw [View.read_writes_junk_eq_canon]
  funext y
  refine View.canon_apply_of_pieces (outCF xs0 xs1 xs2) _ (View.PiecesOf.mem (G := (outCF xs0 xs1 xs2)) ?_) y (cover0_C_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 xs2 y)
  frame_open
  refine ⟨?_, ?_, ?_, ?_⟩
  · intro x
    exact all_piece 2 h2 (inb := inb_S3x512x1024_S1x512x1024_2_0_0) x
  · intro x
    exact all_piece 1 h1 (inb := inb_S3x512x1024_S1x512x1024_1_0_0) x
  · intro x
    exact all_piece 0 h0 (inb := inb_S3x512x1024_S1x512x1024_0_0_0) x
  · trivial
end
end Cert.KernelIdeal.Piece
-- ==== Proof.Array.lean ====
module

public import proofs.«01_k».proof.Proof.ScratchA
public import proofs.«01_k».proof.Proof.ScratchB
public import proofs.«01_k».proof.Proof.Out

/-!
  # The kernel's result array

  The blocks a grid point reads are rows of the arrays in memory, so what a point leaves in its scratches, and what the next point writes
  back, are the window products at the array's own rows. Row `R` lies in block `R / 128` of 32.
-/

@[expose] public section

noncomputable section

open Idealize.ShloMosaic hiding ix2 ix3 eq_ix2 eq_ix3
open Idealize.ShloMosaic.TcCoe Idealize.ShloMosaic.ValueIdx Idealize.SL.Sem
open scoped BigOperators

namespace Cert.KernelIdeal.Piece

open Cert.KernelIdeal.Gen

/-! ## The products read their rows inside the window only -/

section Congr

variable {M M' : ℕ → ℕ → Prop} [∀ r c, Decidable (M r c)] [∀ r c, Decidable (M' r c)] (hM : ∀ r c, M r c ↔ M' r c)
  {Q Q' K K' L L' D D' V V' E E' : ℕ → ℕ → EReal}
  (hQ : ∀ r e, r < 128 → e < 128 → Q r e = Q' r e) (hK : ∀ c e, c < 256 → e < 128 → K c e = K' c e)
  (hL : ∀ r e, r < 128 → e < 128 → L r e = L' r e) (hD : ∀ r e, r < 128 → e < 128 → D r e = D' r e)
  (hV : ∀ c e, c < 256 → e < 128 → V c e = V' c e) (hE : ∀ r e, r < 128 → e < 128 → E r e = E' r e)

theorem lane_congr {A A' : ℕ → ℕ → EReal} (h : ∀ r e, r < 128 → e < 128 → A r e = A' r e) {r c : ℕ} (hr : r < 128) (hc : c < 256) :
    lane A r c = lane A' r c := by
  unfold lane
  split_ifs with hlt
  exacts [h r c hr hlt, h r (c - 128) hr (by omega)]

include hM hQ hK hL in
theorem Prob_congr {r c : ℕ} (hr : r < 128) (hc : c < 256) : Prob M Q K L r c = Prob M' Q' K' L' r c := by
  unfold Prob
  rw [lane_congr hL hr hc, Finset.sum_congr rfl fun e _ => congrArg₂ (· * ·) (hQ r e.val hr e.isLt) (hK c e.val hc e.isLt)]
  exact if_congr (hM r c) rfl rfl

include hM hQ hK hL hD hV hE in
theorem Dsc_congr {r c : ℕ} (hr : r < 128) (hc : c < 256) : Dsc M Q K L D V E r c = Dsc M' Q' K' L' D' V' E' r c := by
  unfold Dsc
  rw [Prob_congr hM hQ hK hL hr hc, lane_congr hE hr hc,
    Finset.sum_congr rfl fun e _ => congrArg₂ (· * ·) (hD r e.val hr e.isLt) (hV c e.val hc e.isLt)]

include hM hQ hK hL hD hV hE in
theorem Dq_congr {r e : ℕ} (hr : r < 128) (he : e < 128) : Dq M Q K L D V E r e = Dq M' Q' K' L' D' V' E' r e :=
  Finset.sum_congr rfl fun c _ => congrArg₂ (· * ·) (Dsc_congr hM hQ hK hL hD hV hE hr c.isLt) (hK c.val e c.isLt he)

include hM hQ hK hL hD hV hE in
theorem Dk_congr {c e : ℕ} (hc : c < 256) (he : e < 128) : Dk M Q K L D V E c e = Dk M' Q' K' L' D' V' E' c e :=
  Finset.sum_congr rfl fun r _ => congrArg₂ (· * ·) (Dsc_congr hM hQ hK hL hD hV hE r.isLt hc) (hQ r.val e r.isLt he)

include hM hQ hK hL hD in
theorem Dv_congr {c e : ℕ} (hc : c < 256) (he : e < 128) : Dv M Q K L D c e = Dv M' Q' K' L' D' c e :=
  Finset.sum_congr rfl fun r _ => congrArg₂ (· * ·) (Prob_congr hM hQ hK hL r.isLt hc) (hD r.val e r.isLt he)

end Congr

/-! ## The whole arrays -/

/-- The arrays the call reads. -/
structure Arr where
  qkv : S3x4096x1024.Idx → EReal
  d : S4096x1024.Idx → EReal
  l : S4096x1024.Idx → EReal
  g : S4096x1024.Idx → EReal

namespace Arr

variable (A : Arr) (b h : ℕ)

/-- The row of key `c` of block `b`'s window. In the first block the first 128 lie outside every window. -/
def keyRow (b c : ℕ) : ℕ := if b = 0 ∧ c < 128 then c else 128 * b + c - 128

def Q (r e : ℕ) : EReal := at3 A.qkv 0 (128 * b + r) (128 * h + e)
def K (c e : ℕ) : EReal := at3 A.qkv 1 (keyRow b c) (128 * h + e)
def V (c e : ℕ) : EReal := at3 A.qkv 2 (keyRow b c) (128 * h + e)
def D (r e : ℕ) : EReal := at2 A.d (128 * b + r) (128 * h + e)
def L (r e : ℕ) : EReal := at2 A.l (128 * b + r) (128 * h + e)
def E (r e : ℕ) : EReal := at2 A.g (128 * b + r) (128 * h + e)

def dq (r e : ℕ) : EReal := Dq (Win b) (A.Q b h) (A.K b h) (A.L b h) (A.D b h) (A.V b h) (A.E b h) r e
def dk (c e : ℕ) : EReal := Dk (Win b) (A.Q b h) (A.K b h) (A.L b h) (A.D b h) (A.V b h) (A.E b h) c e
def dv (c e : ℕ) : EReal := Dv (Win b) (A.Q b h) (A.K b h) (A.L b h) (A.D b h) c e

/-- A block's key (value) gradient: its own window's part and, but for the last block, the next window's. -/
def two (f : ℕ → ℕ → ℕ → ℕ → EReal) (r e : ℕ) : EReal :=
  if b + 1 < 32 then f b h (128 + r) e + f (b + 1) h r e else f b h (128 + r) e

/-- The result, at a plane, a row and a column. -/
def res (p R C : ℕ) : EReal :=
  if p = 0 then A.dq (R / 128) (C / 128) (R % 128) (C % 128)
  else if p = 1 then two (R / 128) (C / 128) A.dk (R % 128) (C % 128)
  else two (R / 128) (C / 128) A.dv (R % 128) (C % 128)

end Arr

variable (m : (ℓ : Loc nD τ sig) → Buf (Elt Ideal) ℓ) (c : Dev nD)

/-- The arrays of a run. -/
def arr : Arr := ⟨V m c main_v13, V m c main_v94, V m c main_v99, V m c main_v104⟩

/-- The blocks of a point. -/
def inp (t : Fin cfg0.N) : In :=
  ⟨iblk m c 0 t, iblk m c 1 t, iblk m c 2 t, iblk m c 3 t, iblk m c 4 t, iblk m c 5 t, iblk m c 6 t, iblk m c 7 t⟩

/-! ## A point's blocks are rows of the arrays -/

theorem ixs : (∀ t : Fin cfg0.N, win0_0.index t 0 = 0 ∧ win0_0.index t 1 = min t.val 7 ∧ win0_0.index t 2 = 0)
    ∧ (∀ t : Fin cfg0.N, win0_4.index t 0 = 1 ∧ win0_4.index t 1 = min t.val 7 ∧ win0_4.index t 2 = 0)
    ∧ (∀ t : Fin cfg0.N, win0_6.index t 0 = 2 ∧ win0_6.index t 1 = min t.val 7 ∧ win0_6.index t 2 = 0) := by
  refine ⟨?_, ?_, ?_⟩ <;> decide +kernel
theorem ixr : (∀ t : Fin cfg0.N, win0_1.index t 0 = min t.val 7 ∧ win0_1.index t 1 = 0)
    ∧ (∀ t : Fin cfg0.N, win0_2.index t 0 = min t.val 7 ∧ win0_2.index t 1 = 0)
    ∧ (∀ t : Fin cfg0.N, win0_3.index t 0 = min t.val 7 ∧ win0_3.index t 1 = 0) := by
  refine ⟨?_, ?_, ?_⟩ <;> decide +kernel
theorem ixp : (∀ t : Fin cfg0.N, win0_5.index t 0 = 1 ∧ win0_5.index t 1 = 4 * t.val - 1 ∧ win0_5.index t 2 = 0)
    ∧ (∀ t : Fin cfg0.N, win0_7.index t 0 = 2 ∧ win0_7.index t 1 = 4 * t.val - 1 ∧ win0_7.index t 2 = 0) := by
  refine ⟨?_, ?_⟩ <;> decide +kernel
theorem ixo : ∀ t : Fin cfg0.N, win0_8.index t 0 = 0 ∧ win0_8.index t 1 = t.val - 1 ∧ win0_8.index t 2 = 0 := by
  decide +kernel

theorem rd0 (X : S3x4096x1024.Idx → Elt Ideal .bf16) (t : Fin cfg0.N) (y : S1x512x1024.Idx) :
    ((cfg0.win 0).blk t).view.read (Elt Ideal) X y = X ((win0_0.blk t).view.emb y) := rfl
theorem blk0 (t : Fin cfg0.N) (y : S1x512x1024.Idx) : iblk m c 0 t y = V m c main_v13 ((win0_0.blk t).view.emb y) :=
  rd0 (V m c main_v13) t y
theorem rd1 (X : S4096x1024.Idx → Elt Ideal .bf16) (t : Fin cfg0.N) (y : S512x1024.Idx) :
    ((cfg0.win 1).blk t).view.read (Elt Ideal) X y = X ((win0_1.blk t).view.emb y) := rfl
theorem blk1 (t : Fin cfg0.N) (y : S512x1024.Idx) : iblk m c 1 t y = V m c main_v94 ((win0_1.blk t).view.emb y) :=
  rd1 (V m c main_v94) t y
theorem rd2 (X : S4096x1024.Idx → Elt Ideal .f32) (t : Fin cfg0.N) (y : S512x1024.Idx) :
    ((cfg0.win 2).blk t).view.read (Elt Ideal) X y = X ((win0_2.blk t).view.emb y) := rfl
theorem blk2 (t : Fin cfg0.N) (y : S512x1024.Idx) : iblk m c 2 t y = V m c main_v99 ((win0_2.blk t).view.emb y) :=
  rd2 (V m c main_v99) t y
theorem rd3 (X : S4096x1024.Idx → Elt Ideal .f32) (t : Fin cfg0.N) (y : S512x1024.Idx) :
    ((cfg0.win 3).blk t).view.read (Elt Ideal) X y = X ((win0_3.blk t).view.emb y) := rfl
theorem blk3 (t : Fin cfg0.N) (y : S512x1024.Idx) : iblk m c 3 t y = V m c main_v104 ((win0_3.blk t).view.emb y) :=
  rd3 (V m c main_v104) t y
theorem rd4 (X : S3x4096x1024.Idx → Elt Ideal .bf16) (t : Fin cfg0.N) (y : S1x512x1024.Idx) :
    ((cfg0.win 4).blk t).view.read (Elt Ideal) X y = X ((win0_4.blk t).view.emb y) := rfl
theorem blk4 (t : Fin cfg0.N) (y : S1x512x1024.Idx) : iblk m c 4 t y = V m c main_v13 ((win0_4.blk t).view.emb y) :=
  rd4 (V m c main_v13) t y
theorem rd5 (X : S3x4096x1024.Idx → Elt Ideal .bf16) (t : Fin cfg0.N) (y : S1x128x1024.Idx) :
    ((cfg0.win 5).blk t).view.read (Elt Ideal) X y = X ((win0_5.blk t).view.emb y) := rfl
theorem blk5 (t : Fin cfg0.N) (y : S1x128x1024.Idx) : iblk m c 5 t y = V m c main_v13 ((win0_5.blk t).view.emb y) :=
  rd5 (V m c main_v13) t y
theorem rd6 (X : S3x4096x1024.Idx → Elt Ideal .bf16) (t : Fin cfg0.N) (y : S1x512x1024.Idx) :
    ((cfg0.win 6).blk t).view.read (Elt Ideal) X y = X ((win0_6.blk t).view.emb y) := rfl
theorem blk6 (t : Fin cfg0.N) (y : S1x512x1024.Idx) : iblk m c 6 t y = V m c main_v13 ((win0_6.blk t).view.emb y) :=
  rd6 (V m c main_v13) t y
theorem rd7 (X : S3x4096x1024.Idx → Elt Ideal .bf16) (t : Fin cfg0.N) (y : S1x128x1024.Idx) :
    ((cfg0.win 7).blk t).view.read (Elt Ideal) X y = X ((win0_7.blk t).view.emb y) := rfl
theorem blk7 (t : Fin cfg0.N) (y : S1x128x1024.Idx) : iblk m c 7 t y = V m c main_v13 ((win0_7.blk t).view.emb y) :=
  rd7 (V m c main_v13) t y
/-- Reading a block is reading the array where the block lies. -/
theorem at3_of {a n l A N L : ℕ} (x : (⟨3, ![a, n, l]⟩ : Shape).Idx → EReal) (X : (⟨3, ![A, N, L]⟩ : Shape).Idx → EReal)
    (φ : (⟨3, ![a, n, l]⟩ : Shape).Idx → (⟨3, ![A, N, L]⟩ : Shape).Idx) (hx : ∀ y, x y = X (φ y)) (p o : ℕ) (ha : a = 1)
    (h0 : ∀ y, (φ y 0).val = p) (h1 : ∀ y, (φ y 1).val = o + (y 1).val) (h2 : ∀ y, (φ y 2).val = (y 2).val)
    {r C : ℕ} (hr : r < n) (hC : C < l) : at3 x 0 r C = at3 X p (o + r) C := by
  have e : at3 x 0 r C = x (ix3 ⟨0, by omega⟩ ⟨r, hr⟩ ⟨C, hC⟩) := dif_pos ⟨by omega, hr, hC⟩
  rw [e, hx]
  exact at3_eq X _ (h0 _) (h1 _) (h2 _)
theorem at2_of {n l N L : ℕ} (x : (⟨2, ![n, l]⟩ : Shape).Idx → EReal) (X : (⟨2, ![N, L]⟩ : Shape).Idx → EReal)
    (φ : (⟨2, ![n, l]⟩ : Shape).Idx → (⟨2, ![N, L]⟩ : Shape).Idx) (hx : ∀ y, x y = X (φ y)) (o : ℕ)
    (h0 : ∀ y, (φ y 0).val = o + (y 0).val) (h1 : ∀ y, (φ y 1).val = (y 1).val)
    {r C : ℕ} (hr : r < n) (hC : C < l) : at2 x r C = at2 X (o + r) C := by
  have e : at2 x r C = x (ix2 ⟨r, hr⟩ ⟨C, hC⟩) := dif_pos ⟨hr, hC⟩
  rw [e, hx]
  exact at2_eq X _ (h0 _) (h1 _)

theorem z0 {n l : ℕ} (y : (⟨3, ![1, n, l]⟩ : Shape).Idx) : (y 0).val = 0 := by
  have := (y 0).isLt
  simpa using this

/-! ## Where a window's block lies -/

theorem e0_0 (t : Fin cfg0.N) (y : S1x512x1024.Idx) : ((win0_0.blk t).view.emb y 0).val = 0 := by
  have hz := z0 y
  blk_simp; rw [(ixs.1 t).1]
theorem e0_1 (t : Fin cfg0.N) (ht : t.val < 8) (y : S1x512x1024.Idx) : ((win0_0.blk t).view.emb y 1).val = 512 * t.val + (y 1).val := by
  blk_simp; rw [(ixs.1 t).2.1, min_eq_left (by omega)]; omega
theorem e0_2 (t : Fin cfg0.N) (y : S1x512x1024.Idx) : ((win0_0.blk t).view.emb y 2).val = (y 2).val := by
  blk_simp; rw [(ixs.1 t).2.2]; omega
theorem e4_0 (t : Fin cfg0.N) (y : S1x512x1024.Idx) : ((win0_4.blk t).view.emb y 0).val = 1 := by
  have hz := z0 y
  blk_simp; rw [(ixs.2.1 t).1]
theorem e4_1 (t : Fin cfg0.N) (ht : t.val < 8) (y : S1x512x1024.Idx) : ((win0_4.blk t).view.emb y 1).val = 512 * t.val + (y 1).val := by
  blk_simp; rw [(ixs.2.1 t).2.1, min_eq_left (by omega)]; omega
theorem e4_2 (t : Fin cfg0.N) (y : S1x512x1024.Idx) : ((win0_4.blk t).view.emb y 2).val = (y 2).val := by
  blk_simp; rw [(ixs.2.1 t).2.2]; omega
theorem e6_0 (t : Fin cfg0.N) (y : S1x512x1024.Idx) : ((win0_6.blk t).view.emb y 0).val = 2 := by
  have hz := z0 y
  blk_simp; rw [(ixs.2.2 t).1]
theorem e6_1 (t : Fin cfg0.N) (ht : t.val < 8) (y : S1x512x1024.Idx) : ((win0_6.blk t).view.emb y 1).val = 512 * t.val + (y 1).val := by
  blk_simp; rw [(ixs.2.2 t).2.1, min_eq_left (by omega)]; omega
theorem e6_2 (t : Fin cfg0.N) (y : S1x512x1024.Idx) : ((win0_6.blk t).view.emb y 2).val = (y 2).val := by
  blk_simp; rw [(ixs.2.2 t).2.2]; omega
theorem e5_0 (t : Fin cfg0.N) (y : S1x128x1024.Idx) : ((win0_5.blk t).view.emb y 0).val = 1 := by
  have hz := z0 y
  blk_simp; rw [(ixp.1 t).1]
theorem e5_1 (t : Fin cfg0.N) (y : S1x128x1024.Idx) : ((win0_5.blk t).view.emb y 1).val = 128 * (4 * t.val - 1) + (y 1).val := by
  blk_simp; rw [(ixp.1 t).2.1]; omega
theorem e5_2 (t : Fin cfg0.N) (y : S1x128x1024.Idx) : ((win0_5.blk t).view.emb y 2).val = (y 2).val := by
  blk_simp; rw [(ixp.1 t).2.2]; omega
theorem e7_0 (t : Fin cfg0.N) (y : S1x128x1024.Idx) : ((win0_7.blk t).view.emb y 0).val = 2 := by
  have hz := z0 y
  blk_simp; rw [(ixp.2 t).1]
theorem e7_1 (t : Fin cfg0.N) (y : S1x128x1024.Idx) : ((win0_7.blk t).view.emb y 1).val = 128 * (4 * t.val - 1) + (y 1).val := by
  blk_simp; rw [(ixp.2 t).2.1]; omega
theorem e7_2 (t : Fin cfg0.N) (y : S1x128x1024.Idx) : ((win0_7.blk t).view.emb y 2).val = (y 2).val := by
  blk_simp; rw [(ixp.2 t).2.2]; omega
theorem e1_0 (t : Fin cfg0.N) (ht : t.val < 8) (y : S512x1024.Idx) : ((win0_1.blk t).view.emb y 0).val = 512 * t.val + (y 0).val := by
  blk_simp; rw [(ixr.1 t).1, min_eq_left (by omega)]; omega
theorem e1_1 (t : Fin cfg0.N) (y : S512x1024.Idx) : ((win0_1.blk t).view.emb y 1).val = (y 1).val := by
  blk_simp; rw [(ixr.1 t).2]; omega
theorem e2_0 (t : Fin cfg0.N) (ht : t.val < 8) (y : S512x1024.Idx) : ((win0_2.blk t).view.emb y 0).val = 512 * t.val + (y 0).val := by
  blk_simp; rw [(ixr.2.1 t).1, min_eq_left (by omega)]; omega
theorem e2_1 (t : Fin cfg0.N) (y : S512x1024.Idx) : ((win0_2.blk t).view.emb y 1).val = (y 1).val := by
  blk_simp; rw [(ixr.2.1 t).2]; omega
theorem e3_0 (t : Fin cfg0.N) (ht : t.val < 8) (y : S512x1024.Idx) : ((win0_3.blk t).view.emb y 0).val = 512 * t.val + (y 0).val := by
  blk_simp; rw [(ixr.2.2 t).1, min_eq_left (by omega)]; omega
theorem e3_1 (t : Fin cfg0.N) (y : S512x1024.Idx) : ((win0_3.blk t).view.emb y 1).val = (y 1).val := by
  blk_simp; rw [(ixr.2.2 t).2]; omega

/-- The blocks of a point are blocks of the arrays. -/
structure Of (A : Arr) (t : Fin cfg0.N) (I : In) : Prop where
  q : ∀ y, I.q y = A.qkv ((win0_0.blk t).view.emb y)
  d : ∀ y, I.d y = A.d ((win0_1.blk t).view.emb y)
  l : ∀ y, I.l y = A.l ((win0_2.blk t).view.emb y)
  g : ∀ y, I.g y = A.g ((win0_3.blk t).view.emb y)
  k : ∀ y, I.k y = A.qkv ((win0_4.blk t).view.emb y)
  kp : ∀ y, I.kp y = A.qkv ((win0_5.blk t).view.emb y)
  v : ∀ y, I.v y = A.qkv ((win0_6.blk t).view.emb y)
  vp : ∀ y, I.vp y = A.qkv ((win0_7.blk t).view.emb y)

theorem of_mk (X : S3x4096x1024.Idx → EReal) (X1 X2 X3 : S4096x1024.Idx → EReal) (t : Fin cfg0.N)
    (x0 x4 x6 : S1x512x1024.Idx → EReal) (x1 x2 x3 : S512x1024.Idx → EReal) (x5 x7 : S1x128x1024.Idx → EReal)
    (h0 : ∀ y, x0 y = X ((win0_0.blk t).view.emb y)) (h1 : ∀ y, x1 y = X1 ((win0_1.blk t).view.emb y))
    (h2 : ∀ y, x2 y = X2 ((win0_2.blk t).view.emb y)) (h3 : ∀ y, x3 y = X3 ((win0_3.blk t).view.emb y))
    (h4 : ∀ y, x4 y = X ((win0_4.blk t).view.emb y)) (h5 : ∀ y, x5 y = X ((win0_5.blk t).view.emb y))
    (h6 : ∀ y, x6 y = X ((win0_6.blk t).view.emb y)) (h7 : ∀ y, x7 y = X ((win0_7.blk t).view.emb y)) :
    Of ⟨X, X1, X2, X3⟩ t ⟨x0, x1, x2, x3, x4, x5, x6, x7⟩ := ⟨h0, h1, h2, h3, h4, h5, h6, h7⟩

theorem of_run (t : Fin cfg0.N) : Of (arr m c) t (inp m c t) := by
  unfold arr inp
  exact of_mk (V m c main_v13) (V m c main_v94) (V m c main_v99) (V m c main_v104) t (iblk m c 0 t) (iblk m c 4 t)
    (iblk m c 6 t) (iblk m c 1 t) (iblk m c 2 t) (iblk m c 3 t) (iblk m c 5 t) (iblk m c 7 t)
    (blk0 m c t) (blk1 m c t) (blk2 m c t) (blk3 m c t) (blk4 m c t) (blk5 m c t) (blk6 m c t) (blk7 m c t)

section Rows

variable {A : Arr} {I : In} {t : Fin cfg0.N} (H : Of A t I) (ht : t.val < 8)
include H ht

theorem q_row {r C : ℕ} (hr : r < 512) (hC : C < 1024) : at3 I.q 0 r C = at3 A.qkv 0 (512 * t.val + r) C :=
  at3_of I.q A.qkv _ H.q 0 (512 * t.val) rfl (e0_0 t) (e0_1 t ht) (e0_2 t) hr hC
theorem k_row {r C : ℕ} (hr : r < 512) (hC : C < 1024) : at3 I.k 0 r C = at3 A.qkv 1 (512 * t.val + r) C :=
  at3_of I.k A.qkv _ H.k 1 (512 * t.val) rfl (e4_0 t) (e4_1 t ht) (e4_2 t) hr hC
theorem v_row {r C : ℕ} (hr : r < 512) (hC : C < 1024) : at3 I.v 0 r C = at3 A.qkv 2 (512 * t.val + r) C :=
  at3_of I.v A.qkv _ H.v 2 (512 * t.val) rfl (e6_0 t) (e6_1 t ht) (e6_2 t) hr hC
omit ht in
theorem kp_row {r C : ℕ} (hr : r < 128) (hC : C < 1024) : at3 I.kp 0 r C = at3 A.qkv 1 (128 * (4 * t.val - 1) + r) C :=
  at3_of I.kp A.qkv _ H.kp 1 (128 * (4 * t.val - 1)) rfl (e5_0 t) (e5_1 t) (e5_2 t) hr hC
omit ht in
theorem vp_row {r C : ℕ} (hr : r < 128) (hC : C < 1024) : at3 I.vp 0 r C = at3 A.qkv 2 (128 * (4 * t.val - 1) + r) C :=
  at3_of I.vp A.qkv _ H.vp 2 (128 * (4 * t.val - 1)) rfl (e7_0 t) (e7_1 t) (e7_2 t) hr hC
theorem d_row {r C : ℕ} (hr : r < 512) (hC : C < 1024) : at2 I.d r C = at2 A.d (512 * t.val + r) C :=
  at2_of I.d A.d _ H.d (512 * t.val) (e1_0 t ht) (e1_1 t) hr hC
theorem l_row {r C : ℕ} (hr : r < 512) (hC : C < 1024) : at2 I.l r C = at2 A.l (512 * t.val + r) C :=
  at2_of I.l A.l _ H.l (512 * t.val) (e2_0 t ht) (e2_1 t) hr hC
theorem g_row {r C : ℕ} (hr : r < 512) (hC : C < 1024) : at2 I.g r C = at2 A.g (512 * t.val + r) C :=
  at2_of I.g A.g _ H.g (512 * t.val) (e3_0 t ht) (e3_1 t) hr hC

variable {j h : ℕ} (hj : j < 4) (hh : h < 8)
include hj hh

theorem Q_row (r e : ℕ) (hr : r < 128) (he : e < 128) : I.Q j h r e = A.Q (4 * t.val + j) h r e :=
  (q_row H ht (by omega) (by omega)).trans (by unfold Arr.Q; congr 1; omega)
theorem D_row (r e : ℕ) (hr : r < 128) (he : e < 128) : I.D j h r e = A.D (4 * t.val + j) h r e :=
  (d_row H ht (by omega) (by omega)).trans (by unfold Arr.D; congr 1; omega)
theorem L_row (r e : ℕ) (hr : r < 128) (he : e < 128) : I.L j h r e = A.L (4 * t.val + j) h r e :=
  (l_row H ht (by omega) (by omega)).trans (by unfold Arr.L; congr 1; omega)
theorem E_row (r e : ℕ) (hr : r < 128) (he : e < 128) : I.E j h r e = A.E (4 * t.val + j) h r e :=
  (g_row H ht (by omega) (by omega)).trans (by unfold Arr.E; congr 1; omega)
theorem K_row (k e : ℕ) (hk : k < 256) (he : e < 128) : I.K j h k e = A.K (4 * t.val + j) h k e := by
  unfold In.K keys Arr.K Arr.keyRow
  split_ifs
  · exact (kp_row H (by omega) (by omega)).trans (by congr 1; omega)
  · exact (kp_row H (by omega) (by omega)).trans (by congr 1; omega)
  · omega
  · exact (k_row H ht (by omega) (by omega)).trans (by congr 1; omega)
theorem V_row (k e : ℕ) (hk : k < 256) (he : e < 128) : I.V j h k e = A.V (4 * t.val + j) h k e := by
  unfold In.V keys Arr.V Arr.keyRow
  split_ifs
  · exact (vp_row H (by omega) (by omega)).trans (by congr 1; omega)
  · exact (vp_row H (by omega) (by omega)).trans (by congr 1; omega)
  · omega
  · exact (v_row H ht (by omega) (by omega)).trans (by congr 1; omega)

theorem dq_row {r e : ℕ} (hr : r < 128) (he : e < 128) : I.dq t.val j h r e = A.dq (4 * t.val + j) h r e :=
  Dq_congr (fun _ _ => Iff.rfl) (Q_row H ht hj hh) (K_row H ht hj hh) (L_row H ht hj hh) (D_row H ht hj hh)
    (V_row H ht hj hh) (E_row H ht hj hh) hr he
theorem dk_row {k e : ℕ} (hk : k < 256) (he : e < 128) : I.dk t.val j h k e = A.dk (4 * t.val + j) h k e :=
  Dk_congr (fun _ _ => Iff.rfl) (Q_row H ht hj hh) (K_row H ht hj hh) (L_row H ht hj hh) (D_row H ht hj hh)
    (V_row H ht hj hh) (E_row H ht hj hh) hk he
theorem dv_row {k e : ℕ} (hk : k < 256) (he : e < 128) : I.dv t.val j h k e = A.dv (4 * t.val + j) h k e :=
  Dv_congr (fun _ _ => Iff.rfl) (Q_row H ht hj hh) (K_row H ht hj hh) (L_row H ht hj hh) (D_row H ht hj hh) hk he

end Rows

end Cert.KernelIdeal.Piece
-- ==== Proof.Softmax.lean ====
module
public import Idealize.ShloMosaic.Lib.Pointwise
@[expose] public section
noncomputable section
namespace Cert.Softmax
open scoped BigOperators

/-! One query row: scores `s`, visible keys `mk`, values `v`, cotangents `w` (of the output) and `u` (of the log-sum-exp). -/
variable {ι κ : Type} [Fintype ι] [Fintype κ] (mk : ι → Prop) [DecidablePred mk] (s : ι → ℝ) (M : ℝ) (v : ι → κ → ℝ) (w : κ → ℝ) (u : ℝ)

/-- The exponentials, against the maximum `M`. -/
def ex (k : ι) : ℝ := if mk k then Real.exp (s k - M) else 0
def den : ℝ := ∑ k, ex mk s M k
def num (d : κ) : ℝ := ∑ k, v k d * ex mk s M k
def lse : ℝ := M + Real.log (den mk s M)
/-- The cotangent of an exponential, as the chain rule through quotient and logarithm gives it. -/
def dex (k : ι) : ℝ := (∑ d, w d / den mk s M * v k d) + (u / den mk s M + -∑ d, w d * (1 / (den mk s M * den mk s M)) * num mk s M v d)

theorem den_pos (h : ∃ k, mk k) : 0 < den mk s M := by
  obtain ⟨k, hk⟩ := h
  refine Finset.sum_pos' (fun j _ => ?_) ⟨k, Finset.mem_univ _, ?_⟩
  · unfold ex; split_ifs
    exacts [(Real.exp_pos _).le, le_rfl]
  · unfold ex; rw [if_pos hk]; exact Real.exp_pos _

theorem exp_lse (h : ∃ k, mk k) (k : ι) (hk : mk k) : Real.exp (s k - lse mk s M) = ex mk s M k / den mk s M := by
  have hd := den_pos mk s M h
  unfold lse ex
  rw [if_pos hk, ← sub_sub, Real.exp_sub, Real.exp_log hd]

theorem sum_dot (w : κ → ℝ) : ∑ k, (∑ d, w d * v k d) * ex mk s M k = ∑ d, w d * num mk s M v d := by
  unfold num
  simp only [Finset.sum_mul, Finset.mul_sum]
  rw [Finset.sum_comm]
  exact Finset.sum_congr rfl fun d _ => Finset.sum_congr rfl fun k _ => by ring

/-- The maximum's own cotangent is zero. -/
theorem dmax_zero (h : ∃ k, mk k) : u + ∑ k, -(dex mk s M v w u k * ex mk s M k) = 0 := by
  have hd := (den_pos mk s M h).ne'
  have h1 : ∑ k, dex mk s M v w u k * ex mk s M k = u := by
    unfold dex
    simp only [add_mul, Finset.sum_add_distrib]
    rw [sum_dot mk s M v (fun d => w d / den mk s M), ← Finset.mul_sum, ← Finset.mul_sum]
    change _ + (u / den mk s M * den mk s M + (-∑ d, w d * (1 / (den mk s M * den mk s M)) * num mk s M v d) * den mk s M) = u
    rw [neg_mul, Finset.sum_mul]
    have : ∑ d, w d * (1 / (den mk s M * den mk s M)) * num mk s M v d * den mk s M = ∑ d, w d / den mk s M * num mk s M v d :=
      Finset.sum_congr rfl fun d _ => by field_simp
    rw [this]
    field_simp
    ring
  rw [Finset.sum_neg_distrib, h1]; ring

/-- The chain rule's gradient of a visible score is the kernel's: the probability times the value gradient less the row's own. -/
theorem dscore (h : ∃ k, mk k) (k : ι) (hk : mk k) :
    Real.exp (s k - lse mk s M) * ((∑ d, w d * v k d) - ((∑ d, w d * (num mk s M v d / den mk s M)) - u))
      = dex mk s M v w u k * ex mk s M k := by
  have hd := (den_pos mk s M h).ne'
  rw [exp_lse mk s M h k hk]
  unfold dex
  have h1 : ∑ d, w d / den mk s M * v k d = (∑ d, w d * v k d) / den mk s M := by
    rw [Finset.sum_div]; exact Finset.sum_congr rfl fun d _ => by ring
  have h2 : ∑ d, w d * (1 / (den mk s M * den mk s M)) * num mk s M v d = (∑ d, w d * (num mk s M v d / den mk s M)) / den mk s M := by
    rw [Finset.sum_div]; exact Finset.sum_congr rfl fun d _ => by field_simp
  rw [h1, h2]
  ring

end Cert.Softmax
-- ==== Proof.Grad.lean ====
module

public import proofs.«01_k».proof.Proof.Gen.ReferenceIdeal.Read
public import Idealize.ShloMosaic.Lib.Pointwise
public import Idealize.ShloMosaic.Lib.WordCmp
public import proofs.«01_k».proof.Proof.Softmax

/-!
  # The reference, read at an index

  On finite inputs every array of the reference is real. The row maximum is attained by a visible key, so the count of the keys that
  attain it is not zero; the maximum's cotangent is zero (`Softmax.dmax_zero`), so its share of every score's gradient is.
-/

@[expose] public section
noncomputable section
namespace Cert.ReferenceIdeal.Grad
open Idealize.ShloMosaic Idealize.ShloMosaic.TcCoe Idealize.SL.Sem
open Cert.ReferenceIdeal Cert.ReferenceIdeal.Gen Cert.ReferenceIdeal.Read
open scoped BigOperators
set_option maxRecDepth 16384

/-- A real array of the tokens, at natural coordinates (zero outside it). -/
def g3 (a : S4096x8x128.Idx → ℝ) (t h e : ℕ) : ℝ :=
  if w : t < 4096 ∧ h < 8 ∧ e < 128 then a (ix3 ⟨t, w.1⟩ ⟨h, w.2.1⟩ ⟨e, w.2.2⟩) else 0
def g2 (a : S4096x8.Idx → ℝ) (t h : ℕ) : ℝ :=
  if w : t < 4096 ∧ h < 8 then a (ix2 ⟨t, w.1⟩ ⟨h, w.2⟩) else 0
/-- A real array among the extended reals. -/
def up {I : Type} (a : I → ℝ) : I → EReal := fun j => (a j : EReal)
theorem up3 (a : S4096x8x128.Idx → ℝ) (t : Fin 4096) (h : Fin 8) (e : Fin 128) : up a (ix3 t h e) = ((g3 a t.val h.val e.val : ℝ) : EReal) := by
  unfold up g3
  rw [dif_pos ⟨t.isLt, h.isLt, e.isLt⟩]
theorem up2 (a : S4096x8.Idx → ℝ) (t : Fin 4096) (h : Fin 8) : up a (ix2 t h) = ((g2 a t.val h.val : ℝ) : EReal) := by
  unfold up g2
  rw [dif_pos ⟨t.isLt, h.isLt⟩]
/-- The rows of a block of the subsequence `i`, and the 256 rows its queries may see: the block before (zeros before the first) and its own. -/
def own (a : S4096x8x128.Idx → ℝ) (i n h q e : ℕ) : ℝ := g3 a ((n * 128 + q) * 16 + i) h e
def seen (a : S4096x8x128.Idx → ℝ) (i n h k e : ℕ) : ℝ :=
  if k < 128 then if n < 1 then 0 else own a i (n - 1) h k e else own a i n h (k - 128) e

variable (a0 a1 a2 a3 : S4096x8x128.Idx → ℝ) (a4 : S4096x8.Idx → ℝ)
variable (i : Fin 16) (n : Fin 2) (h : Fin 8)
theorem v2_at (q e : Fin 128) : val_main_v2 (F := Ideal) (up a0) (ix5 i n q h e) = ((own a0 i.val n.val h.val q.val e.val : ℝ) : EReal) := by
  pointwise [val_main_v2, val_main_v1, val_main_v0]
  exact up3 a0 _ h e
theorem v5_at (q e : Fin 128) : val_main_v5 (F := Ideal) (up a1) (ix5 i n q h e) = ((own a1 i.val n.val h.val q.val e.val : ℝ) : EReal) := by
  pointwise [val_main_v5, val_main_v4, val_main_v3]
  exact up3 a1 _ h e
theorem v11_at (k : Fin 256) (e : Fin 128) : val_main_v11 (F := Ideal) (up a1) (ix5 i n k h e) = ((seen a1 i.val n.val h.val k.val e.val : ℝ) : EReal) := by
  pointwise [val_main_v11, val_main_v9, val_main_v8, val_main_v7, val_main_cst]
  simp only [v5_at]
  unfold seen
  split_ifs
  · exact EReal.coe_zero.symm
  · rfl
  · rfl
theorem v14_at (q e : Fin 128) : val_main_v14 (F := Ideal) (up a1) (ix5 i n q h e) = ((own a1 i.val n.val h.val q.val e.val : ℝ) : EReal) := by
  pointwise [val_main_v14, val_main_v13, val_main_v12]
  exact up3 a1 _ h e
theorem v20_at (k : Fin 256) (e : Fin 128) : val_main_v20 (F := Ideal) (up a1) (ix5 i n k h e) = ((seen a1 i.val n.val h.val k.val e.val : ℝ) : EReal) := by
  pointwise [val_main_v20, val_main_v18, val_main_v17, val_main_v16, val_main_cst_1]
  simp only [v14_at]
  unfold seen
  split_ifs
  · exact EReal.coe_zero.symm
  · rfl
  · rfl

theorem coe_sum {ι : Type} (t : Finset ι) (f : ι → ℝ) : ∑ k ∈ t, (f k : EReal) = ((∑ k ∈ t, f k : ℝ) : EReal) := by
  classical
  refine Finset.induction_on t (by simp) fun a t ha ih => ?_
  rw [Finset.sum_insert ha, Finset.sum_insert ha, ih, EReal.coe_add]

def scale : ℝ := (Ideal.ofBits .f32 1035273459#32).toReal
theorem scale_coe : Ideal.ofBits .f32 1035273459#32 = ((scale : ℝ) : EReal) := by
  have : ∃ r : ℝ, Ideal.ofBits .f32 1035273459#32 = (r : EReal) := ⟨_, by simp [Ideal.ofBits, Ideal.ieee, -EReal.coe_mul]; rfl⟩
  obtain ⟨r, hr⟩ := this
  unfold scale
  rw [hr, EReal.toReal_coe]
theorem ninf : Ideal.ofBits .f32 4286578688#32 = ⊥ := by
  simp [Ideal.ofBits, Ideal.ieee, -EReal.coe_mul]

def score (i n h q k : ℕ) : ℝ := (∑ e : Fin 128, own a0 i n h q e.val * seen a1 i n h k e.val) * scale
def vis (n q k : ℕ) : Prop := q ≤ k ∧ k ≤ q + 128 ∧ (n = 0 → 128 ≤ k)
instance (n q k : ℕ) : Decidable (vis n q k) := by unfold vis; infer_instance

theorem v23_at (q : Fin 128) (k : Fin 256) : val_main_v23 (F := Ideal) (up a0) (up a1) (ix5 i n h q k) = ((score a0 a1 i.val n.val h.val q.val k.val : ℝ) : EReal) := by
  pointwise [val_main_v23, val_main_v21, val_main_v22, val_main_cst_3]
  simp only [v2_at, v11_at, scale_coe, ← EReal.coe_mul, coe_sum]
  rfl
theorem mask_at (q : Fin 128) (k : Fin 256) : val_main_v53_1 (F := Ideal) (ix5 i n h q k) = if vis n.val q.val k.val then 1#1 else 0#1 := by
  have hq := q.isLt
  have hk := k.isLt
  have hn := n.isLt
  pointwise [val_main_v53_1, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_c, val_main_c_4, val_main_c_5, val_main_c_6, val_main_c_7]
  have e : IntOp.subi (IntOp.addi (128#32) (BitVec.ofNat 32 q.val)) (BitVec.ofNat 32 k.val) = BitVec.ofInt 32 ((128 + q.val : ℤ) - k.val) := by
    apply BitVec.eq_of_toInt_eq
    have t1 : (BitVec.ofNat 32 q.val).toInt = q.val := by
      rw [BitVec.toInt_ofNat']; exact Int.bmod_eq_of_le (by norm_num) (by norm_num; omega)
    have t2 : (BitVec.ofNat 32 k.val).toInt = k.val := by
      rw [BitVec.toInt_ofNat']; exact Int.bmod_eq_of_le (by norm_num) (by norm_num; omega)
    simp [IntOp.subi, IntOp.addi, t1, t2]
  have ei : (BitVec.ofInt 32 ((128 + q.val : ℤ) - k.val)).toInt = (128 + q.val : ℤ) - k.val := by
    rw [BitVec.toInt_ofInt]
    exact Int.bmod_eq_of_le (by norm_num; omega) (by norm_num; omega)
  have ob : ∀ p : Bool, BitVec.ofBool p = 1#1 ↔ p = true := by decide
  have a1 : IntOp.cmpi CmpIPredicate.sge (BitVec.ofInt 32 ((128 + q.val : ℤ) - k.val)) 0#32 = 1#1 ↔ k.val ≤ q.val + 128 := by
    unfold IntOp.cmpi
    simp only [BitVec.sle, ei]
    rw [ob]
    simp
    omega
  have a2 : IntOp.cmpi CmpIPredicate.sle (BitVec.ofInt 32 ((128 + q.val : ℤ) - k.val)) 128#32 = 1#1 ↔ q.val ≤ k.val := by
    unfold IntOp.cmpi
    simp only [BitVec.sle, ei]
    rw [ob]
    simp
  have a3 : IntOp.cmpi .sge (BitVec.ofNat 32 k.val) 128#32 = 1#1 ↔ 128 ≤ k.val :=
    Idealize.ShloMosaic.WordCmp.cmpi_sge_ofNat_eq_one_iff (w := 32) (b := 128) (by norm_num; omega) (by norm_num)
  have a4 : IntOp.cmpi .sgt (BitVec.ofNat 32 n.val) 0#32 = 1#1 ↔ 0 < n.val :=
    Idealize.ShloMosaic.WordCmp.cmpi_sgt_ofNat_eq_one_iff (w := 32) (b := 0) (by norm_num; omega) (by norm_num)
  have and1 : ∀ x y : BitVec 1, IntOp.andi x y = 1#1 ↔ x = 1#1 ∧ y = 1#1 := by decide
  have or1 : ∀ x y : BitVec 1, IntOp.ori x y = 1#1 ↔ x = 1#1 ∨ y = 1#1 := by decide
  have ext : ∀ x : BitVec 1, ∀ p : Prop, ∀ _ : Decidable p, (x = 1#1 ↔ p) → x = if p then 1#1 else 0#1 := by
    intro x p _ hx
    split_ifs with hp
    · exact hx.2 hp
    · rcases (by decide : ∀ x : BitVec 1, x = 1#1 ∨ x = 0#1) x with h | h
      exacts [absurd (hx.1 h) hp, h]
  refine ext _ _ _ ?_
  rw [e, and1, and1, or1, a1, a2, a3, a4]
  unfold vis
  omega

theorem v53_at (q : Fin 128) (k : Fin 256) : val_main_v53_0 (F := Ideal) (up a0) (up a1) (ix5 i n h q k)
   = if vis n.val q.val k.val then ((score a0 a1 i.val n.val h.val q.val k.val : ℝ) : EReal) else ⊥ := by
  pointwise [val_main_v53_0, val_main_call0_v2, val_main_call0_v0, val_main_cst_8]
  simp only [v23_at, mask_at]
  split_ifs
  · rfl
  · exact ninf

/-- The largest visible score of a query row. -/
def top (i : Fin 16) (n : Fin 2) (h : Fin 8) (q : Fin 128) : ℝ := (val_main_v54 (F := Ideal) (up a0) (up a1) (ix4 i n h q)).toReal

theorem vis_some (n : Fin 2) (q : Fin 128) : ∃ k : Fin 256, vis n.val q.val k.val :=
  ⟨⟨q.val + 128, by have := q.isLt; omega⟩, by unfold vis; refine ⟨?_, ?_, ?_⟩ <;> simp⟩

theorem fold_max {ι : Type} (t : Finset ι) (f : ι → EReal) : Finset.fold max ⊥ f t = t.sup f := rfl
/-- The largest of a row whose hidden entries are `⊥` and some of whose entries are visible is a visible one. -/
theorem max_mem {ι : Type} [Fintype ι] (p : ι → Prop) [DecidablePred p] (f : ι → ℝ) (hp : ∃ k, p k) :
    ∃ k, p k ∧ Finset.fold max ⊥ (fun k => if p k then (f k : EReal) else ⊥) Finset.univ = (f k : EReal) := by
  obtain ⟨k0, h0⟩ := hp
  rw [fold_max]
  obtain ⟨k, _, hk⟩ := Finset.exists_mem_eq_sup (Finset.univ : Finset ι) ⟨k0, Finset.mem_univ _⟩ (fun k => if p k then (f k : EReal) else ⊥)
  have hle := Finset.le_sup (f := fun k => if p k then (f k : EReal) else ⊥) (Finset.mem_univ k0)
  have hv : p k := by
    by_contra hv
    rw [hk] at hle
    simp only [if_pos h0, if_neg hv] at hle
    exact absurd hle (by simp)
  refine ⟨k, hv, ?_⟩
  rw [hk]
  simp only [if_pos hv]

theorem v54_key (q : Fin 128) : ∃ k : Fin 256, vis n.val q.val k.val ∧
    val_main_v54 (F := Ideal) (up a0) (up a1) (ix4 i n h q) = ((score a0 a1 i.val n.val h.val q.val k.val : ℝ) : EReal) := by
  pointwise [val_main_v54, val_main_cst_9]
  simp only [v53_at, ninf]
  exact max_mem (fun k : Fin 256 => vis n.val q.val k.val) (fun k => score a0 a1 i.val n.val h.val q.val k.val) (vis_some n q)

theorem v54_at (q : Fin 128) : val_main_v54 (F := Ideal) (up a0) (up a1) (ix4 i n h q) = ((top a0 a1 i n h q : ℝ) : EReal) := by
  obtain ⟨k, _, hk⟩ := v54_key a0 a1 i n h q
  unfold top
  rw [hk, EReal.toReal_coe]

theorem top_mem (q : Fin 128) : ∃ k : Fin 256, vis n.val q.val k.val ∧ score a0 a1 i.val n.val h.val q.val k.val = top a0 a1 i n h q := by
  obtain ⟨k, hv, hk⟩ := v54_key a0 a1 i n h q
  refine ⟨k, hv, ?_⟩
  unfold top
  rw [hk, EReal.toReal_coe]

/-! ## The row's softmax -/

theorem div_real (a : ℝ) {b : ℝ} (hb : b ≠ 0) : Ideal.div (a : EReal) (b : EReal) = ((a / b : ℝ) : EReal) := by
  rw [Ideal.div_coe hb, ← EReal.coe_mul, mul_one_div]

variable (q : Fin 128)

abbrev sees (n : Fin 2) (q : Fin 128) (k : Fin 256) : Prop := vis n.val q.val k.val
abbrev sc (k : Fin 256) : ℝ := score a0 a1 i.val n.val h.val q.val k.val
abbrev vs (k : Fin 256) (d : Fin 128) : ℝ := seen a2 i.val n.val h.val k.val d.val
def EX (k : Fin 256) : ℝ := Softmax.ex (sees n q) (sc a0 a1 i n h q) (top a0 a1 i n h q) k
def DEN : ℝ := Softmax.den (sees n q) (sc a0 a1 i n h q) (top a0 a1 i n h q)
def NUM (d : Fin 128) : ℝ := Softmax.num (sees n q) (sc a0 a1 i n h q) (top a0 a1 i n h q) (vs a2 i n h) d
def LSE : ℝ := Softmax.lse (sees n q) (sc a0 a1 i n h q) (top a0 a1 i n h q)

theorem DEN_pos : 0 < DEN a0 a1 i n h q := Softmax.den_pos _ _ _ (vis_some n q)
theorem DEN_ne : DEN a0 a1 i n h q ≠ 0 := (DEN_pos a0 a1 i n h q).ne'

theorem v63_at (k : Fin 256) : val_main_v63 (F := Ideal) (up a0) (up a1) (ix5 i n h q k) = ((EX a0 a1 i n h q k : ℝ) : EReal) := by
  pointwise [val_main_v63, val_main_v62, val_main_v61, val_main_v60]
  simp only [v53_at, v54_at]
  unfold EX Softmax.ex
  by_cases hv : vis n.val q.val k.val
  · rw [if_pos hv, if_pos hv]; rfl
  · rw [if_neg hv, if_neg hv]; rfl
theorem v64_at : val_main_v64 (F := Ideal) (up a0) (up a1) (ix4 i n h q) = ((DEN a0 a1 i n h q : ℝ) : EReal) := by
  pointwise [val_main_v64, val_main_cst_11]
  simp only [v63_at, coe_sum]
  rfl
theorem v65_at (d : Fin 128) : val_main_v65 (F := Ideal) (up a0) (up a1) (up a2) (ix5 i n h d q) = ((NUM a0 a1 a2 i n h q d : ℝ) : EReal) := by
  pointwise [val_main_v65]
  simp only [v20_at, v63_at, ← EReal.coe_mul, coe_sum]
  rfl
theorem v70_at (d : Fin 128) : val_main_v70 (F := Ideal) (up a0) (up a1) (up a2) (ix5 i n q h d) = ((NUM a0 a1 a2 i n h q d / DEN a0 a1 i n h q : ℝ) : EReal) := by
  pointwise [val_main_v70, val_main_v66, val_main_v69, val_main_v68, val_main_v67]
  simp only [v65_at, v64_at]
  exact div_real _ (DEN_ne a0 a1 i n h q)
theorem v60_at : val_main_v60 (F := Ideal) (up a0) (up a1) (ix5 i n h q 0) = ((top a0 a1 i n h q : ℝ) : EReal) := by
  pointwise [val_main_v60]
  exact v54_at a0 a1 i n h q
theorem idx74 : idx_main_v74 (ix4 i n h q) = ix5 i n h q 0 := by
  have hi := i.isLt
  have hn := n.isLt
  have hh := h.isLt
  have hq := q.isLt
  funext a
  fin_cases a
  · apply Fin.ext; show ((((i.val * 2 + n.val) * 8 + h.val) * 128 + q.val) / 2048 = i.val); omega
  · apply Fin.ext; show ((((i.val * 2 + n.val) * 8 + h.val) * 128 + q.val) / 1024 % 2 = n.val); omega
  · apply Fin.ext; show ((((i.val * 2 + n.val) * 8 + h.val) * 128 + q.val) / 128 % 8 = h.val); omega
  · apply Fin.ext; show ((((i.val * 2 + n.val) * 8 + h.val) * 128 + q.val) / 1 % 128 = q.val); omega
  · rfl
theorem v74_at : val_main_v74 (F := Ideal) (up a0) (up a1) (ix4 i n h q) = ((top a0 a1 i n h q : ℝ) : EReal) := by
  rw [val_main_v74_apply, idx74, v60_at]
theorem v75_at : val_main_v75 (F := Ideal) (up a0) (up a1) (ix4 i n h q) = ((Real.log (DEN a0 a1 i n h q) : ℝ) : EReal) := by
  pointwise [val_main_v75]
  rw [v64_at]
  exact (Ideal.log_coe (DEN a0 a1 i n h q)).trans (if_neg (not_le.2 (DEN_pos a0 a1 i n h q)))
theorem v76_at : val_main_v76 (F := Ideal) (up a0) (up a1) (ix4 i n h q) = ((LSE a0 a1 i n h q : ℝ) : EReal) := by
  rw [val_main_v76_apply, v74_at, v75_at]
  rfl
/-- Whether a key attains the row's maximum. -/
def hit (k : Fin 256) : ℝ := if sees n q k ∧ sc a0 a1 i n h q k = top a0 a1 i n h q then 1 else 0
theorem v58_at (k : Fin 256) : val_main_v58 (F := Ideal) (up a0) (up a1) (ix5 i n h q k) = ((hit a0 a1 i n h q k : ℝ) : EReal) := by
  pointwise [val_main_v58, val_main_v57, val_main_v56, val_main_v55]
  simp only [v53_at, v54_at]
  unfold hit
  have hb : ∀ p : Prop, ∀ _ : Decidable p, (FloatOps.uitofp (F := Ideal) FTy.f32 (BitVec.ofBool (decide p)) : EReal) = ((if p then 1 else 0 : ℝ) : EReal) := by
    intro p _
    by_cases hp : p
    · rw [decide_eq_true hp, if_pos hp]; show (((1#1 : BitVec 1).toNat : ℝ) : EReal) = _; simp
    · rw [decide_eq_false hp, if_neg hp]; show (((0#1 : BitVec 1).toNat : ℝ) : EReal) = _; simp
  rw [hb]
  congr 1
  by_cases hv : vis n.val q.val k.val
  · simp only [hv, if_true, EReal.coe_eq_coe_iff, true_and]
  · simp only [if_neg hv, hv, false_and, (EReal.bot_ne_coe _), if_false]

def CNT : ℝ := ∑ k : Fin 256, hit a0 a1 i n h q k
theorem CNT_ne : CNT a0 a1 i n h q ≠ 0 := by
  obtain ⟨k, hk⟩ := top_mem a0 a1 i n h q
  refine (Finset.sum_pos' (fun j _ => ?_) ⟨k, Finset.mem_univ _, ?_⟩).ne'
  · unfold hit; split_ifs <;> norm_num
  · unfold hit; rw [if_pos hk]; norm_num
theorem v59_at : val_main_v59 (F := Ideal) (up a0) (up a1) (ix4 i n h q) = ((CNT a0 a1 i n h q : ℝ) : EReal) := by
  pointwise [val_main_v59, val_main_cst_10]
  simp only [v58_at, coe_sum]
  rfl

/-! ## The cotangents' way back -/

theorem one_bits : Ideal.ofBits .f32 1065353216#32 = ((1 : ℝ) : EReal) := by
  simp [Ideal.ofBits, Ideal.ieee, -EReal.coe_mul]; try norm_num

abbrev dy (d : Fin 128) : ℝ := own a3 i.val n.val h.val q.val d.val
abbrev du : ℝ := g2 a4 ((n.val * 128 + q.val) * 16 + i.val) h.val
def DEX (k : Fin 256) : ℝ := Softmax.dex (sees n q) (sc a0 a1 i n h q) (top a0 a1 i n h q) (vs a2 i n h) (dy a3 i n h q) (du a4 i n h q) k

theorem v87_at : val_main_v87 (F := Ideal) (up a4) (ix4 i n h q) = ((du a4 i n h q : ℝ) : EReal) := by
  pointwise [val_main_v87, val_main_v86, val_main_v85, val_main_v84]
  exact up2 a4 _ h
theorem v90_at (d : Fin 128) : val_main_v90 (F := Ideal) (up a3) (ix5 i n q h d) = ((dy a3 i n h q d : ℝ) : EReal) := by
  pointwise [val_main_v90, val_main_v89, val_main_v88]
  exact up3 a3 _ h d
theorem v66_at (d : Fin 128) : val_main_v66 (F := Ideal) (up a0) (up a1) (up a2) (ix5 i n q h d) = ((NUM a0 a1 a2 i n h q d : ℝ) : EReal) := by
  pointwise [val_main_v66]
  exact v65_at a0 a1 a2 i n h q d
theorem v68_at : val_main_v68 (F := Ideal) (up a0) (up a1) (ix5 i n q h 0) = ((DEN a0 a1 i n h q : ℝ) : EReal) := by
  pointwise [val_main_v68, val_main_v67]
  exact v64_at a0 a1 i n h q
theorem v73_at : val_main_v73 (F := Ideal) (up a0) (up a1) (ix5 i n q h 0) = ((1 / (DEN a0 a1 i n h q * DEN a0 a1 i n h q) : ℝ) : EReal) := by
  pointwise [val_main_v73, val_main_v72, val_main_v71, val_main_cst_12]
  simp only [v68_at, one_bits, ← EReal.coe_mul]
  exact div_real _ (mul_ne_zero (DEN_ne a0 a1 i n h q) (DEN_ne a0 a1 i n h q))
theorem v96_at : val_main_v96 (F := Ideal) (up a0) (up a1) (up a2) (up a3) (ix4 i n q h)
    = ((∑ d, dy a3 i n h q d * (1 / (DEN a0 a1 i n h q * DEN a0 a1 i n h q)) * NUM a0 a1 a2 i n h q d : ℝ) : EReal) := by
  pointwise [val_main_v96, val_main_v95, val_main_v94, val_main_v93, val_main_cst_13]
  simp only [v90_at, v73_at, v66_at, ← EReal.coe_mul, coe_sum]
theorem v98_at : val_main_v98 (F := Ideal) (up a0) (up a1) (up a2) (up a3) (ix5 i n q h 0)
    = ((-∑ d, dy a3 i n h q d * (1 / (DEN a0 a1 i n h q * DEN a0 a1 i n h q)) * NUM a0 a1 a2 i n h q d : ℝ) : EReal) := by
  rw [val_main_v98_apply, val_main_v97_apply]
  have hidx : idx_main_v97 (ix5 i n q h 0) = ix4 i n q h := by
    have hi := i.isLt
    have hn := n.isLt
    have hh := h.isLt
    have hq := q.isLt
    funext a
    fin_cases a
    · apply Fin.ext; show (((((i.val * 2 + n.val) * 128 + q.val) * 8 + h.val) * 1 + 0) / 2048 = i.val); omega
    · apply Fin.ext; show (((((i.val * 2 + n.val) * 128 + q.val) * 8 + h.val) * 1 + 0) / 1024 % 2 = n.val); omega
    · apply Fin.ext; show (((((i.val * 2 + n.val) * 128 + q.val) * 8 + h.val) * 1 + 0) / 8 % 128 = q.val); omega
    · apply Fin.ext; show (((((i.val * 2 + n.val) * 128 + q.val) * 8 + h.val) * 1 + 0) % 8 = h.val); omega
  rw [hidx, v96_at]
  rfl
theorem v102_at : val_main_v102 (F := Ideal) (up a0) (up a1) (up a2) (up a3) (ix4 i n h q)
    = ((-∑ d, dy a3 i n h q d * (1 / (DEN a0 a1 i n h q * DEN a0 a1 i n h q)) * NUM a0 a1 a2 i n h q d : ℝ) : EReal) := by
  pointwise [val_main_v102, val_main_v101, val_main_cst_14]
  rw [Fin.sum_univ_one]
  exact v98_at a0 a1 a2 a3 i n h q
theorem v103_at : val_main_v103 (F := Ideal) (up a0) (up a1) (up a2) (up a3) (up a4) (ix4 i n h q)
    = ((du a4 i n h q / DEN a0 a1 i n h q + -∑ d, dy a3 i n h q d * (1 / (DEN a0 a1 i n h q * DEN a0 a1 i n h q)) * NUM a0 a1 a2 i n h q d : ℝ) : EReal) := by
  pointwise [val_main_v103, val_main_v91]
  rw [v87_at, v64_at, v102_at, EReal.coe_add]
  exact congrArg (· + _) (div_real _ (DEN_ne a0 a1 i n h q))
theorem v104_at (d : Fin 128) : val_main_v104 (F := Ideal) (up a0) (up a1) (up a3) (ix5 i n h d q) = ((dy a3 i n h q d / DEN a0 a1 i n h q : ℝ) : EReal) := by
  pointwise [val_main_v104, val_main_v100, val_main_v99]
  rw [v90_at, v68_at]
  exact div_real _ (DEN_ne a0 a1 i n h q)
theorem v105_at (k : Fin 256) : val_main_v105 (F := Ideal) (up a0) (up a1) (up a2) (up a3) (ix5 i n h q k)
    = ((∑ d, dy a3 i n h q d / DEN a0 a1 i n h q * vs a2 i n h k d : ℝ) : EReal) := by
  pointwise [val_main_v105]
  simp only [v104_at, v20_at, ← EReal.coe_mul, coe_sum]
theorem v109_at (k : Fin 256) : val_main_v109 (F := Ideal) (up a0) (up a1) (up a2) (up a3) (up a4) (ix5 i n h q k)
    = ((DEX a0 a1 a2 a3 a4 i n h q k : ℝ) : EReal) := by
  pointwise [val_main_v109, val_main_v108]
  rw [v105_at, v103_at, ← EReal.coe_add]
  rfl
theorem v110_at (k : Fin 256) : val_main_v110 (F := Ideal) (up a0) (up a1) (up a2) (up a3) (up a4) (ix5 i n h q k)
    = ((DEX a0 a1 a2 a3 a4 i n h q k * EX a0 a1 i n h q k : ℝ) : EReal) := by
  pointwise [val_main_v110]
  rw [v109_at, v63_at, ← EReal.coe_mul]
theorem v112_at : val_main_v112 (F := Ideal) (up a0) (up a1) (up a2) (up a3) (up a4) (ix4 i n h q)
    = ((∑ k, -(DEX a0 a1 a2 a3 a4 i n h q k * EX a0 a1 i n h q k) : ℝ) : EReal) := by
  pointwise [val_main_v112, val_main_v111, val_main_cst_15]
  simp only [v110_at, ← EReal.coe_neg, coe_sum]
theorem v113_at : val_main_v113 (F := Ideal) (up a0) (up a1) (up a2) (up a3) (up a4) (ix5 i n h q 0)
    = ((∑ k, -(DEX a0 a1 a2 a3 a4 i n h q k * EX a0 a1 i n h q k) : ℝ) : EReal) := by
  rw [val_main_v113_apply]
  have hidx : idx_main_v113 (ix5 i n h q 0) = ix4 i n h q := by
    have hi := i.isLt
    have hn := n.isLt
    have hh := h.isLt
    have hq := q.isLt
    funext a
    fin_cases a
    · apply Fin.ext; show (((((i.val * 2 + n.val) * 8 + h.val) * 128 + q.val) * 1 + 0) / 2048 = i.val); omega
    · apply Fin.ext; show (((((i.val * 2 + n.val) * 8 + h.val) * 128 + q.val) * 1 + 0) / 1024 % 2 = n.val); omega
    · apply Fin.ext; show (((((i.val * 2 + n.val) * 8 + h.val) * 128 + q.val) * 1 + 0) / 128 % 8 = h.val); omega
    · apply Fin.ext; show (((((i.val * 2 + n.val) * 8 + h.val) * 128 + q.val) * 1 + 0) % 128 = q.val); omega
  rw [hidx, v112_at]
theorem v115_at : val_main_v115 (F := Ideal) (up a0) (up a1) (up a2) (up a3) (up a4) (ix4 i n h q) = ((0 : ℝ) : EReal) := by
  pointwise [val_main_v115, val_main_v114, val_main_v92, val_main_cst_16]
  rw [Fin.sum_univ_one]
  refine (congrArg₂ (· + ·) (v87_at a4 i n h q) (v113_at a0 a1 a2 a3 a4 i n h q)).trans ?_
  rw [← EReal.coe_add]
  exact congrArg _ (Softmax.dmax_zero _ _ _ _ _ _ (vis_some n q))
theorem v118_at (k : Fin 256) : val_main_v118 (F := Ideal) (up a0) (up a1) (up a2) (up a3) (up a4) (ix5 i n h q k) = 0 := by
  pointwise [val_main_v118, val_main_v117, val_main_v116]
  rw [v115_at, v59_at, v58_at]
  rw [div_real _ (CNT_ne a0 a1 i n h q), ← EReal.coe_mul, zero_div, zero_mul, EReal.coe_zero]
def DSC (k : Fin 256) : ℝ := (if vis n.val q.val k.val then DEX a0 a1 a2 a3 a4 i n h q k * EX a0 a1 i n h q k else 0) * scale
theorem v122_at (k : Fin 256) : val_main_v122 (F := Ideal) (up a0) (up a1) (up a2) (up a3) (up a4) (ix5 i n h q k) = ((DSC a0 a1 a2 a3 a4 i n h q k : ℝ) : EReal) := by
  pointwise [val_main_v122, val_main_v121, val_main_v120, val_main_v119, val_main_cst_17, val_main_call1_v0, val_main_call1_cst]
  simp only [mask_at, v110_at, v118_at]
  rw [add_zero, scale_coe, ← EReal.coe_mul]
  unfold DSC
  split_ifs
  · rfl
  · rw [zero_mul]; exact EReal.coe_zero.symm
theorem v123_at (k : Fin 256) (e : Fin 128) : val_main_v123 (F := Ideal) (up a0) (up a1) (up a2) (up a3) (up a4) (ix5 i n h k e)
    = ((∑ q, DSC a0 a1 a2 a3 a4 i n h q k * own a0 i.val n.val h.val q.val e.val : ℝ) : EReal) := by
  pointwise [val_main_v123]
  simp only [v122_at, v2_at, ← EReal.coe_mul, coe_sum]
theorem v125_at (e : Fin 128) : val_main_v125 (F := Ideal) (up a0) (up a1) (up a2) (up a3) (up a4) (ix5 i n h q e)
    = ((∑ k, DSC a0 a1 a2 a3 a4 i n h q k * seen a1 i.val n.val h.val k.val e.val : ℝ) : EReal) := by
  pointwise [val_main_v125]
  simp only [v122_at, v11_at, ← EReal.coe_mul, coe_sum]
theorem v106_at (k : Fin 256) (d : Fin 128) : val_main_v106 (F := Ideal) (up a0) (up a1) (up a3) (ix5 i n h d k)
    = ((∑ q, dy a3 i n h q d / DEN a0 a1 i n h q * EX a0 a1 i n h q k : ℝ) : EReal) := by
  pointwise [val_main_v106]
  simp only [v104_at, v63_at, ← EReal.coe_mul, coe_sum]

/-! ## The result's rows -/

/-- The row of the grouped arrays, and the token, of row `q` of block `n` of the subsequence `i`; the lane of entry `e` of head `h`. -/
def gr (i : Fin 16) (n : Fin 2) (q : Fin 128) : Fin 4096 := ⟨(i.val * 2 + n.val) * 128 + q.val, by omega⟩
def gc (h : Fin 8) (e : Fin 128) : Fin 1024 := ⟨h.val * 128 + e.val, by omega⟩
def tk (i : Fin 16) (n : Fin 2) (q : Fin 128) : Fin 4096 := ⟨(n.val * 128 + q.val) * 16 + i.val, by omega⟩

section Index

variable {α : Type} (e : Fin 128)

theorem tk_split (f : Fin 16 → Fin 2 → Fin 128 → α) {a : Fin 16} {b : Fin 2} {c : Fin 128} (ha : a.val = (tk i n q).val % 16)
    (hb : b.val = (tk i n q).val / 16 / 128) (hc : c.val = (tk i n q).val / 16 % 128) : f a b c = f i n q := by
  unfold tk at ha hb hc
  have hi := i.isLt
  have hn := n.isLt
  have hq := q.isLt
  have h1 : a = i := Fin.ext (by simp only at ha; omega)
  have h2 : b = n := Fin.ext (by simp only at hb; omega)
  have h3 : c = q := Fin.ext (by simp only at hc; omega)
  rw [h1, h2, h3]

theorem gr_split (f : Fin 4096 → Fin 8 → Fin 128 → α) {t : Fin 4096} {b : Fin 8} {c : Fin 128}
    (ht : t.val = (gr i n q).val % 256 * 16 + (gr i n q).val / 256) (hb : b.val = (gc h e).val / 128) (hc : c.val = (gc h e).val % 128) :
    f t b c = f (tk i n q) h e := by
  unfold gr at ht
  unfold gc at hb hc
  have hi := i.isLt
  have hn := n.isLt
  have hq := q.isLt
  have hh := h.isLt
  have he := e.isLt
  have h1 : t = tk i n q := Fin.ext (by unfold tk; simp only at ht ⊢; omega)
  have h2 : b = h := Fin.ext (by simp only at hb; omega)
  have h3 : c = e := Fin.ext (by simp only at hc; omega)
  rw [h1, h2, h3]

end Index

theorem v79_at (e : Fin 128) : val_main_v79 (F := Ideal) (up a0) (up a1) (up a2) (ix3 (tk i n q) h e)
    = ((NUM a0 a1 a2 i n h q e / DEN a0 a1 i n h q : ℝ) : EReal) := by
  pointwise [val_main_v79, val_main_v78, val_main_v77]
  refine (tk_split i n q (fun a b c => val_main_v70 (F := Ideal) (up a0) (up a1) (up a2) (ix5 a b c h e)) rfl rfl rfl).trans ?_
  exact v70_at a0 a1 a2 i n h q e
theorem v83_at : val_main_v83 (F := Ideal) (up a0) (up a1) (ix2 (tk i n q) h) = ((LSE a0 a1 i n h q : ℝ) : EReal) := by
  pointwise [val_main_v83, val_main_v82, val_main_v81, val_main_v80]
  refine (tk_split i n q (fun a b c => val_main_v76 (F := Ideal) (up a0) (up a1) (ix4 a b h c)) rfl rfl rfl).trans ?_
  exact v76_at a0 a1 i n h q

def DQ (e : Fin 128) : ℝ := ∑ k, DSC a0 a1 a2 a3 a4 i n h q k * seen a1 i.val n.val h.val k.val e.val
def DK (k : Fin 256) (e : Fin 128) : ℝ := ∑ q, DSC a0 a1 a2 a3 a4 i n h q k * own a0 i.val n.val h.val q.val e.val
def DV (k : Fin 256) (e : Fin 128) : ℝ := ∑ q, dy a3 i n h q e / DEN a0 a1 i n h q * EX a0 a1 i n h q k
/-- A key row's gradient: its share as one of its block's own keys, and as one of the block before the next. -/
def both (f : Fin 2 → Fin 256 → ℝ) (n : Fin 2) (k : Fin 128) : ℝ :=
  f n ⟨128 + k.val, by omega⟩ + if w : n.val < 1 then f ⟨1 + n.val, by omega⟩ ⟨k.val, by omega⟩ else 0

theorem both_coe (f : Fin 2 → Fin 256 → ℝ) (n : Fin 2) (k : Fin 128) :
    ((f n ⟨128 + k.val, by omega⟩ : ℝ) : EReal) + (if w : n.val < 1 then ((f ⟨1 + n.val, by omega⟩ ⟨k.val, by omega⟩ : ℝ) : EReal) else 0) = ((both f n k : ℝ) : EReal) := by
  unfold both
  split_ifs
  · rw [EReal.coe_add]
  · rw [EReal.coe_add, EReal.coe_zero]

theorem dq_at (e : Fin 128) : val_main_v150 (F := Ideal) (up a0) (up a1) (up a2) (up a3) (up a4) (ix2 (gr i n q) (gc h e))
    = ((DQ a0 a1 a2 a3 a4 i n h q e : ℝ) : EReal) := by
  pointwise [val_main_v150, val_main_v149, val_main_v148]
  refine (gr_split i n h q e (fun a b c => val_main_v147 (F := Ideal) (up a0) (up a1) (up a2) (up a3) (up a4) (ix3 a b c)) rfl rfl rfl).trans ?_
  show val_main_v147 (F := Ideal) (up a0) (up a1) (up a2) (up a3) (up a4) (ix3 (tk i n q) h e) = _
  pointwise [val_main_v147, val_main_v146, val_main_v145, val_main_v126]
  refine (tk_split i n q (fun a b c => val_main_v125 (F := Ideal) (up a0) (up a1) (up a2) (up a3) (up a4) (ix5 a b h c e)) rfl rfl rfl).trans ?_
  exact v125_at a0 a1 a2 a3 a4 i n h q e

theorem v141_at (e : Fin 128) : val_main_v141 (F := Ideal) (up a0) (up a1) (up a2) (up a3) (up a4) (ix5 i n q h e)
    = ((both (fun n k => DK a0 a1 a2 a3 a4 i n h k e) n q : ℝ) : EReal) := by
  pointwise [val_main_v141, val_main_v140, val_main_v139, val_main_v137, val_main_v136, val_main_v124, val_main_cst_19]
  simp only [v123_at]
  exact both_coe (fun n k => DK a0 a1 a2 a3 a4 i n h k e) n q
theorem dk_at (e : Fin 128) : val_main_v153 (F := Ideal) (up a0) (up a1) (up a2) (up a3) (up a4) (ix2 (gr i n q) (gc h e))
    = ((both (fun n k => DK a0 a1 a2 a3 a4 i n h k e) n q : ℝ) : EReal) := by
  pointwise [val_main_v153, val_main_v152, val_main_v151]
  refine (gr_split i n h q e (fun a b c => val_main_v144 (F := Ideal) (up a0) (up a1) (up a2) (up a3) (up a4) (ix3 a b c)) rfl rfl rfl).trans ?_
  show val_main_v144 (F := Ideal) (up a0) (up a1) (up a2) (up a3) (up a4) (ix3 (tk i n q) h e) = _
  pointwise [val_main_v144, val_main_v143, val_main_v142]
  refine (tk_split i n q (fun a b c => val_main_v141 (F := Ideal) (up a0) (up a1) (up a2) (up a3) (up a4) (ix5 a b c h e)) rfl rfl rfl).trans ?_
  exact v141_at a0 a1 a2 a3 a4 i n h q e

theorem v132_at (e : Fin 128) : val_main_v132 (F := Ideal) (up a0) (up a1) (up a3) (ix5 i n q h e)
    = ((both (fun n k => DV a0 a1 a3 i n h k e) n q : ℝ) : EReal) := by
  pointwise [val_main_v132, val_main_v131, val_main_v130, val_main_v128, val_main_v127, val_main_v107, val_main_cst_18]
  simp only [v106_at]
  exact both_coe (fun n k => DV a0 a1 a3 i n h k e) n q
theorem dv_at (e : Fin 128) : val_main_v156 (F := Ideal) (up a0) (up a1) (up a3) (ix2 (gr i n q) (gc h e))
    = ((both (fun n k => DV a0 a1 a3 i n h k e) n q : ℝ) : EReal) := by
  pointwise [val_main_v156, val_main_v155, val_main_v154]
  refine (gr_split i n h q e (fun a b c => val_main_v135 (F := Ideal) (up a0) (up a1) (up a3) (ix3 a b c)) rfl rfl rfl).trans ?_
  show val_main_v135 (F := Ideal) (up a0) (up a1) (up a3) (ix3 (tk i n q) h e) = _
  pointwise [val_main_v135, val_main_v134, val_main_v133]
  refine (tk_split i n q (fun a b c => val_main_v132 (F := Ideal) (up a0) (up a1) (up a3) (ix5 a b c h e)) rfl rfl rfl).trans ?_
  exact v132_at a0 a1 a3 i n h q e

theorem result_at (p : Fin 3) (e : Fin 128) : val_main_v161 (F := Ideal) (up a0) (up a1) (up a2) (up a3) (up a4) (ix3 p (gr i n q) (gc h e))
    = if p.val = 0 then ((DQ a0 a1 a2 a3 a4 i n h q e : ℝ) : EReal)
      else if p.val = 1 then ((both (fun n k => DK a0 a1 a2 a3 a4 i n h k e) n q : ℝ) : EReal)
      else ((both (fun n k => DV a0 a1 a3 i n h k e) n q : ℝ) : EReal) := by
  pointwise [val_main_v161, val_main_v160, val_main_v157, val_main_v158, val_main_v159]
  rw [dq_at, dk_at, dv_at]
  split_ifs <;> first | rfl | omega

end Cert.ReferenceIdeal.Grad
-- ==== Proof.Host.lean ====
module
public import proofs.«01_k».proof.Proof.Array
public import proofs.«01_k».proof.Proof.Grad
@[expose] public section
noncomputable section
open Idealize.ShloMosaic hiding ix2 ix3 eq_ix2 eq_ix3
open Idealize.ShloMosaic.TcCoe Idealize.ShloMosaic.ValueIdx Idealize.SL.Sem
namespace Cert.KernelIdeal.Piece
open Cert.KernelIdeal.Gen
variable (m : (ℓ : Loc nD τ sig) → Buf (Elt Ideal) ℓ) (c : Dev nD)
set_option maxHeartbeats 4000000

/-- The tokens' rows, one strided subsequence after the other. -/
def rows (x : FVec Ideal S4096x8x128 .f32) : FVec Ideal S4096x1024 .f32 :=
  shapeCast S4096x1024 (transpose S16x256x1024 [1, 0, 2] (shapeCast S256x16x1024 x shapeCasts_S4096x8x128_S256x16x1024)
    transposes_S256x16x1024_S16x256x1024_1_0_2) shapeCasts_S16x256x1024_S4096x1024

/-- A value per token and head, on every lane of the head. -/
def lanes (x : FVec Ideal S4096x8 .f32) : FVec Ideal S4096x8x128 .f32 :=
  broadcastInDim S4096x8x128 ![0, 1, 2] bcast_S4096x8x1_S4096x8x128_0_1_2 (broadcastInDim S4096x8x1 ![0, 1] bcast_S4096x8_S4096x8x1_0_1 x)

/-- A token's output against its cotangent, less the cotangent of the log-sum-exp. -/
def less (x o : FVec Ideal S4096x8x128 .f32) (u : FVec Ideal S4096x8 .f32) : FVec Ideal S4096x8 .f32 :=
  subf (Host.reduceAdd (mulf x o) (constant S_ .f32 0x00000000#32) reducesTo_S4096x8x128_S4096x8_d2 h_S_) u

/-- Three arrays' rows, stacked. -/
def stack (x y z : FVec Ideal S4096x8x128 .f32) : FVec Ideal S3x4096x1024 .bf16 :=
  truncf FTy.bf16 (concatenate S3x4096x1024 0
    [⟨S1x4096x1024, broadcastInDim S1x4096x1024 ![1, 2] bcast_S4096x1024_S1x4096x1024_1_2 (rows x)⟩,
      ⟨S1x4096x1024, broadcastInDim S1x4096x1024 ![1, 2] bcast_S4096x1024_S1x4096x1024_1_2 (rows y)⟩,
      ⟨S1x4096x1024, broadcastInDim S1x4096x1024 ![1, 2] bcast_S4096x1024_S1x4096x1024_1_2 (rows z)⟩]
      concatenates_S1x4096x1024_S1x4096x1024_S1x4096x1024_S3x4096x1024_d0) bitsLt_bf16_f32

theorem host_do : V m c main_v94 = truncf FTy.bf16 (rows (m ((c : Thread nD τ).loc main_arg3))) bitsLt_bf16_f32 := by
  unfold_abbrev_sides
  simp only [hostOps0, hostOps0_1, hostOps0_2, List.flatten_cons, List.flatten_nil, List.append_nil, List.cons_append, List.nil_append]
  after_results
  rfl
theorem host_q : V m c main_v13 = stack (m ((c : Thread nD τ).loc main_arg0)) (m ((c : Thread nD τ).loc main_arg1)) (m ((c : Thread nD τ).loc main_arg2)) := by
  unfold_abbrev_sides
  simp only [hostOps0, hostOps0_1, hostOps0_2, List.flatten_cons, List.flatten_nil, List.append_nil, List.cons_append, List.nil_append]
  after_results
  rfl
theorem host_l : V m c main_v99 = rows (lanes (ReferenceIdeal.Read.val_main_v83 (F := Ideal) (m ((c : Thread nD τ).loc main_arg0)) (m ((c : Thread nD τ).loc main_arg1)))) := by
  unfold_abbrev_sides
  simp only [hostOps0, hostOps0_1, hostOps0_2, List.flatten_cons, List.flatten_nil, List.append_nil, List.cons_append, List.nil_append]
  after_results
  rfl
theorem host_g : V m c main_v104 = rows (lanes (less (m ((c : Thread nD τ).loc main_arg3))
    (ReferenceIdeal.Read.val_main_v79 (F := Ideal) (m ((c : Thread nD τ).loc main_arg0)) (m ((c : Thread nD τ).loc main_arg1)) (m ((c : Thread nD τ).loc main_arg2)))
    (m ((c : Thread nD τ).loc main_arg4)))) := by
  unfold_abbrev_sides
  simp only [hostOps0, hostOps0_1, hostOps0_2, List.flatten_cons, List.flatten_nil, List.append_nil, List.cons_append, List.nil_append]
  after_results
  rfl

end Cert.KernelIdeal.Piece
-- ==== Proof.Rows.lean ====
module
public import proofs.«01_k».proof.Proof.Host
@[expose] public section
noncomputable section
open Idealize.ShloMosaic Idealize.ShloMosaic.TcCoe Idealize.SL.Sem
open scoped BigOperators
namespace Cert.KernelIdeal.Piece
open Cert.KernelIdeal.Gen
open Cert.ReferenceIdeal.Grad (gr gc tk gr_split)
set_option maxRecDepth 16384
variable (i : Fin 16) (n : Fin 2) (h : Fin 8) (q e : Fin 128)
theorem rows_at (x : FVec Ideal S4096x8x128 .f32) : rows x (ix2 (gr i n q) (gc h e)) = x (ix3 (tk i n q) h e) := by
  pointwise [rows]
  exact gr_split i n h q e (fun a b c => x (ix3 a b c)) rfl rfl rfl
theorem lanes_at (x : FVec Ideal S4096x8 .f32) (t : Fin 4096) : lanes x (ix3 t h e) = x (ix2 t h) := by
  pointwise [lanes]
theorem less_at (x o : FVec Ideal S4096x8x128 .f32) (u : FVec Ideal S4096x8 .f32) (t : Fin 4096) :
   less x o u (ix2 t h) = (∑ e : Fin 128, x (ix3 t h e) * o (ix3 t h e)) - u (ix2 t h) := by
  pointwise [less]
theorem stack_at (x y z : FVec Ideal S4096x8x128 .f32) (p : Fin 3) : stack x y z (ix3 p (gr i n q) (gc h e))
   = if p.val = 0 then x (ix3 (tk i n q) h e) else if p.val = 1 then y (ix3 (tk i n q) h e) else z (ix3 (tk i n q) h e) := by
  pointwise [stack]
  rw [rows_at, rows_at, rows_at]
  split_ifs <;> first | rfl | omega
end Cert.KernelIdeal.Piece
-- ==== Proof.Final.lean ====
module

public import proofs.«01_k».proof.Proof.Array

/-!
  # The kernel's result, whole

  Point `t` leaves block `t`'s gradients in the scratches; point `t + 1` adds its first window's share and writes them back.
-/

@[expose] public section

noncomputable section

open Idealize.ShloMosaic hiding ix2 ix3 eq_ix2 eq_ix3
open Idealize.ShloMosaic.TcCoe Idealize.ShloMosaic.ValueIdx Idealize.SL.Sem
open scoped BigOperators

namespace Cert.KernelIdeal.Piece

open Cert.KernelIdeal.Gen

/-! ## From a block's rows to the array's -/

section Blocks

variable (F f f' : ℕ → ℕ → ℕ → ℕ → EReal) (n : ℕ) (hf : ∀ j h k e, j < 4 → h < 8 → k < 256 → e < 128 → f j h k e = F (4 * n + j) h k e)
include hf

theorem tot_two (hn : n < 8) {R C : ℕ} (hR : R < 512) (hC : C < 1024) (hl : R < 384 ∨ n = 7) :
    tot f R C = Arr.two ((512 * n + R) / 128) (C / 128) F ((512 * n + R) % 128) (C % 128) := by
  have e1 : (512 * n + R) / 128 = 4 * n + R / 128 := by omega
  have e2 : (512 * n + R) % 128 = R % 128 := by omega
  have g1 := hf (R / 128) (C / 128) (128 + R % 128) (C % 128) (by omega) (by omega) (by omega) (by omega)
  unfold tot Arr.two
  rw [e1, e2, g1]
  by_cases h : R / 128 < 3
  · rw [if_pos h, if_pos (by omega), hf (R / 128 + 1) (C / 128) (R % 128) (C % 128) (by omega) (by omega) (by omega) (by omega), Nat.add_assoc]
  · rw [if_neg h, if_neg (by omega)]

theorem low_two (hf' : ∀ j h k e, j < 4 → h < 8 → k < 256 → e < 128 → f' j h k e = F (4 * (n + 1) + j) h k e) (hn : n < 7) {R C : ℕ}
    (hR : R < 512) (hC : C < 1024) :
    low (totF f) f' R C = Arr.two ((512 * n + R) / 128) (C / 128) F ((512 * n + R) % 128) (C % 128) := by
  have e0 : at2 (totF f) R C = tot f R C := dif_pos ⟨hR, hC⟩
  unfold low
  by_cases h : R < 384
  · rw [if_pos h, e0]
    exact tot_two F f n hf (by omega) hR hC (Or.inl h)
  · rw [if_neg h, e0]
    have e1 : (512 * n + R) / 128 = 4 * n + R / 128 := by omega
    have e2 : (512 * n + R) % 128 = R % 128 := by omega
    have e3 : R - 384 = R % 128 := by omega
    have e4 : 4 * (n + 1) + 0 = 4 * n + R / 128 + 1 := by omega
    unfold tot Arr.two
    rw [if_neg (by omega), if_pos (by omega), e1, e2, e3, hf (R / 128) (C / 128) (128 + R % 128) (C % 128) (by omega) (by omega) (by omega) (by omega),
      hf' 0 (C / 128) (R % 128) (C % 128) (by omega) (by omega) (by omega) (by omega), e4]

end Blocks

variable (m : (ℓ : Loc nD τ sig) → Buf (Elt Ideal) ℓ) (c : Dev nD)

theorem co : ∀ t : Fin cfg0.N, (grid0.coords t 0).val = t.val := by decide

/-! ## What a point leaves in the scratches -/

theorem scr_A (t : Fin cfg0.N) (h0 : t.val % 9 = 0) (h1 : t.val < 8) (h2 : ¬t.val % 9 = 8) :
    (outsAt0 m c t.val t.isLt).2.1 = (inp m c t).cqF t.val ∧ (outsAt0 m c t.val t.isLt).2.2.1 = totF ((inp m c t).dk t.val)
      ∧ (outsAt0 m c t.val t.isLt).2.2.2 = totF ((inp m c t).dv t.val) := by
  rw [outsAt0_A m c t h0 h1 h2]
  dsimp only [inp]
  refine ⟨?_, ?_, ?_⟩
  · refine (s0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) _ _ _ t.val (co t) t.isLt)
  · refine (s1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) _ _ _ t.val (co t) t.isLt)
  · refine (s2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) _ _ _ t.val (co t) t.isLt)

theorem scr_B (t : Fin cfg0.N) (h0 : ¬t.val % 9 = 0) (h1 : t.val < 8) (h2 : ¬t.val % 9 = 8) :
    (outsAt0 m c t.val t.isLt).2.1 = (inp m c t).cqF t.val ∧ (outsAt0 m c t.val t.isLt).2.2.1 = totF ((inp m c t).dk t.val)
      ∧ (outsAt0 m c t.val t.isLt).2.2.2 = totF ((inp m c t).dv t.val) := by
  rw [outsAt0_B m c t h0 h1 h2]
  dsimp only [inp]
  refine ⟨?_, ?_, ?_⟩
  · refine (s0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _ _ t.val (co t) t.isLt)
  · refine (s1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _ _ t.val (co t) t.isLt)
  · refine (s2_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _ _ t.val (co t) t.isLt)

theorem scr (t : Fin cfg0.N) (h1 : t.val < 8) :
    (outsAt0 m c t.val t.isLt).2.1 = (inp m c t).cqF t.val ∧ (outsAt0 m c t.val t.isLt).2.2.1 = totF ((inp m c t).dk t.val)
      ∧ (outsAt0 m c t.val t.isLt).2.2.2 = totF ((inp m c t).dv t.val) := by
  by_cases h : t.val % 9 = 0
  exacts [scr_A m c t h h1 (by omega), scr_B m c t h h1 (by omega)]

/-! ## What a point writes back -/

theorem out_B (t : Fin cfg0.N) (h0 : ¬t.val % 9 = 0) (h1 : t.val < 8) (h2 : ¬t.val % 9 = 8) :
    (outsAt0 m c t.val t.isLt).1 = outBF (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 ((inp m c t).dk t.val) ((inp m c t).dv t.val) := by
  rw [outsAt0_B m c t h0 h1 h2]
  dsimp only [inp]
  exact o_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) t.val (co t) t.isLt

theorem out_C (t : Fin cfg0.N) (h0 : ¬t.val % 9 = 0) (h1 : ¬t.val < 8) (h2 : t.val % 9 = 8) :
    (outsAt0 m c t.val t.isLt).1 = outCF (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1 h2]
  dsimp only
  refine (o_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _ _)

/-! ## The result array -/

section Values

variable (t : Fin cfg0.N) (ht : t.val < 8)
include ht

theorem dqv {R C : ℕ} (hR : R < 512) (hC : C < 1024) :
    at2 ((inp m c t).cqF t.val) R C
      = (arr m c).dq ((512 * t.val + R) / 128) (C / 128) ((512 * t.val + R) % 128) (C % 128) := by
  have e0 : at2 ((inp m c t).cqF t.val) R C = (inp m c t).cq t.val R C := dif_pos ⟨hR, hC⟩
  have e1 : (512 * t.val + R) / 128 = 4 * t.val + R / 128 := by omega
  have e2 : (512 * t.val + R) % 128 = R % 128 := by omega
  rw [e0, e1, e2]
  exact dq_row (of_run m c t) ht (by omega) (by omega) (by omega) (by omega)
theorem dkv (j h k e : ℕ) (hj : j < 4) (hh : h < 8) (hk : k < 256) (he : e < 128) :
    (inp m c t).dk t.val j h k e = (arr m c).dk (4 * t.val + j) h k e := dk_row (of_run m c t) ht hj hh hk he
theorem dvv (j h k e : ℕ) (hj : j < 4) (hh : h < 8) (hk : k < 256) (he : e < 128) :
    (inp m c t).dv t.val j h k e = (arr m c).dv (4 * t.val + j) h k e := dv_row (of_run m c t) ht hj hh hk he

end Values

/-- What a point writes back is its block of the result. -/
theorem back (t s : Fin cfg0.N) (hs : t.val = s.val + 1) (y : S3x512x1024.Idx) :
    (outsAt0 m c t.val t.isLt).1 y = (arr m c).res (y 0).val (512 * s.val + (y 1).val) (y 2).val := by
  have hN : t.val < 9 := t.isLt
  have hp : outsAt0 m c (t.val - 1) (Nat.lt_of_le_of_lt (Nat.sub_le _ _) t.isLt) = outsAt0 m c s.val s.isLt := by
    congr 1; omega
  have hy0 : (y 0).val < 3 := (y 0).isLt
  have hy1 : (y 1).val < 512 := (y 1).isLt
  have hy2 : (y 2).val < 1024 := (y 2).isLt
  have hs8 : s.val < 8 := by omega
  obtain ⟨s0, s1, s2⟩ := scr m c s hs8
  unfold Arr.res
  by_cases h1 : t.val < 8
  · have hk' := dkv m c t h1
    have hv' := dvv m c t h1
    rw [hs] at hk' hv'
    rw [out_B m c t (by omega) h1 (by omega), hp, s0, s1, s2, hs]
    unfold outBF
    by_cases p0 : (y 0).val = 0
    · rw [if_pos p0, if_pos p0]
      exact dqv m c s hs8 hy1 hy2
    · rw [if_neg p0, if_neg p0]
      by_cases p1 : (y 0).val = 1
      · rw [if_pos p1, if_pos p1]
        exact low_two _ _ _ s.val (dkv m c s hs8) hk' (by omega) hy1 hy2
      · rw [if_neg p1, if_neg p1]
        exact low_two _ _ _ s.val (dvv m c s hs8) hv' (by omega) hy1 hy2
  · rw [out_C m c t (by omega) h1 (by omega), hp, s0, s1, s2]
    unfold outCF
    by_cases p0 : (y 0).val = 0
    · rw [if_pos p0, if_pos p0]
      exact dqv m c s hs8 hy1 hy2
    · rw [if_neg p0, if_neg p0]
      by_cases p1 : (y 0).val = 1
      · rw [if_pos p1, if_pos p1]
        have e0 : at2 (totF ((inp m c s).dk s.val)) (y 1).val (y 2).val = tot ((inp m c s).dk s.val) (y 1).val (y 2).val := dif_pos ⟨hy1, hy2⟩
        rw [e0]
        exact tot_two _ _ s.val (dkv m c s hs8) hs8 hy1 hy2 (Or.inr (by omega))
      · rw [if_neg p1, if_neg p1]
        have e0 : at2 (totF ((inp m c s).dv s.val)) (y 1).val (y 2).val = tot ((inp m c s).dv s.val) (y 1).val (y 2).val := dif_pos ⟨hy1, hy2⟩
        rw [e0]
        exact tot_two _ _ s.val (dvv m c s hs8) hs8 hy1 hy2 (Or.inr (by omega))

theorem flushed : ∀ t : Fin cfg0.N, (cfg0.win 8).flush t = true → 0 < t.val := by decide +kernel

theorem o8 (t : Fin cfg0.N) (y : S3x512x1024.Idx) : ((win0_8.blk t).view.emb y 0).val = (y 0).val
    ∧ ((win0_8.blk t).view.emb y 1).val = 512 * (t.val - 1) + (y 1).val ∧ ((win0_8.blk t).view.emb y 2).val = (y 2).val := by
  refine ⟨?_, ?_, ?_⟩
  · blk_simp; rw [(ixo t).1]; omega
  · blk_simp; rw [(ixo t).2.1]; omega
  · blk_simp; rw [(ixo t).2.2]; omega

/-- The result array after the run. -/
def resF (A : Arr) : S3x4096x1024.Idx → Elt Ideal .bf16 := fun x => A.res (x 0).val (x 1).val (x 2).val

theorem final : (dats m 0 c).arrAt 8 cfg0.N = resF (arr m c) := by
  refine (dats m 0 c).arrAt_eq_of_covers 8 _ (by decide +kernel) fun t hf y => ?_
  have ht := flushed t hf
  obtain ⟨e0, e1, e2⟩ := o8 t y
  have hb := back m c t ⟨t.val - 1, by have := t.isLt; omega⟩ (by show t.val = t.val - 1 + 1; omega) y
  blk_simp
  rw [after0_8]
  refine hb.trans ?_
  unfold resF
  rw [e0, e1, e2]

end Cert.KernelIdeal.Piece
-- ==== Proof.Join.lean ====
module

public import proofs.«01_k».proof.Proof.Rows
public import proofs.«01_k».proof.Proof.Final

/-!
  # The kernel's gradients are the reference's

  On finite inputs the arrays the call reads are real. A visible key has the reference's row; a hidden one enters with probability zero.
-/

@[expose] public section

set_option maxRecDepth 16384

noncomputable section

open Idealize.ShloMosaic Idealize.ShloMosaic.TcCoe Idealize.SL.Sem
open scoped BigOperators

namespace Cert.KernelIdeal.Piece

open Cert.KernelIdeal.Gen
open Cert.ReferenceIdeal.Grad hiding gr_split

variable (a0 a1 a2 a3 : S4096x8x128.Idx → ℝ) (a4 : S4096x8.Idx → ℝ)

/-- The arrays the call reads, of real inputs. -/
def real : Arr where
  qkv := stack (up a0) (up a1) (up a2)
  d := truncf FTy.bf16 (rows (up a3)) bitsLt_bf16_f32
  l := rows (lanes (ReferenceIdeal.Read.val_main_v83 (F := Ideal) (up a0) (up a1)))
  g := rows (lanes (less (up a3) (ReferenceIdeal.Read.val_main_v79 (F := Ideal) (up a0) (up a1) (up a2)) (up a4)))

variable (i : Fin 16) (n : Fin 2) (h : Fin 8)

/-- The block of the grouped rows. -/
abbrev blk (i : Fin 16) (n : Fin 2) : ℕ := i.val * 2 + n.val

/-- The rows a block's window covers, whether visible or not. -/
def win (a : S4096x8x128.Idx → ℝ) (i n h c e : ℕ) : ℝ :=
  if 128 ≤ c then own a i n h (c - 128) e
  else if n = 1 then own a i 0 h c e
  else if i = 0 then own a 0 0 h c e
  else own a (i - 1) 1 h c e

theorem win_seen (a : S4096x8x128.Idx → ℝ) {i n h c e : ℕ} (hn : n < 2) (hv : n = 0 → 128 ≤ c) : win a i n h c e = seen a i n h c e := by
  unfold win seen
  by_cases h1 : 128 ≤ c
  · rw [if_pos h1, if_neg (by omega)]
  · have : n = 1 := by by_contra hne; exact h1 (hv (by omega))
    subst this
    rw [if_neg h1, if_pos rfl, if_pos (by omega), if_neg (by omega)]

section Reads

variable (p : Fin 3) (q e : Fin 128)

theorem qkv_at : at3 (real a0 a1 a2 a3 a4).qkv p.val (128 * blk i n + q.val) (128 * h.val + e.val)
    = ((own (if p.val = 0 then a0 else if p.val = 1 then a1 else a2) i.val n.val h.val q.val e.val : ℝ) : EReal) := by
  refine (at3_eq (real a0 a1 a2 a3 a4).qkv (ix3 p (gr i n q) (gc h e)) rfl (by show (i.val * 2 + n.val) * 128 + q.val = _; unfold blk; ring)
    (by show h.val * 128 + e.val = _; ring)).symm.trans ?_
  refine (stack_at i n h q e (up a0) (up a1) (up a2) p).trans ?_
  split_ifs <;> exact up3 _ _ h e

theorem d_at : at2 (real a0 a1 a2 a3 a4).d (128 * blk i n + q.val) (128 * h.val + e.val) = ((dy a3 i n h q e : ℝ) : EReal) := by
  refine (at2_eq (real a0 a1 a2 a3 a4).d (ix2 (gr i n q) (gc h e)) (by show (i.val * 2 + n.val) * 128 + q.val = _; unfold blk; ring)
    (by show h.val * 128 + e.val = _; ring)).symm.trans ?_
  exact (rows_at i n h q e (up a3)).trans (up3 a3 _ h e)

theorem l_at : at2 (real a0 a1 a2 a3 a4).l (128 * blk i n + q.val) (128 * h.val + e.val) = ((LSE a0 a1 i n h q : ℝ) : EReal) := by
  refine (at2_eq (real a0 a1 a2 a3 a4).l (ix2 (gr i n q) (gc h e)) (by show (i.val * 2 + n.val) * 128 + q.val = _; unfold blk; ring)
    (by show h.val * 128 + e.val = _; ring)).symm.trans ?_
  show rows (lanes (ReferenceIdeal.Read.val_main_v83 (F := Ideal) (up a0) (up a1))) (ix2 (gr i n q) (gc h e)) = _
  rw [rows_at, lanes_at, v83_at]

/-- What the kernel subtracts from a query row's value gradients. -/
def off (q : Fin 128) : ℝ := (∑ d, dy a3 i n h q d * (NUM a0 a1 a2 i n h q d / DEN a0 a1 i n h q)) - du a4 i n h q

theorem g_at : at2 (real a0 a1 a2 a3 a4).g (128 * blk i n + q.val) (128 * h.val + e.val) = ((off a0 a1 a2 a3 a4 i n h q : ℝ) : EReal) := by
  refine (at2_eq (real a0 a1 a2 a3 a4).g (ix2 (gr i n q) (gc h e)) (by show (i.val * 2 + n.val) * 128 + q.val = _; unfold blk; ring)
    (by show h.val * 128 + e.val = _; ring)).symm.trans ?_
  show rows (lanes (less (up a3) (ReferenceIdeal.Read.val_main_v79 (F := Ideal) (up a0) (up a1) (up a2)) (up a4))) (ix2 (gr i n q) (gc h e)) = _
  rw [rows_at, lanes_at, less_at]
  have h1 : ∀ d : Fin 128, up a3 (ix3 (tk i n q) h d) = ((dy a3 i n h q d : ℝ) : EReal) := fun d => up3 a3 _ h d
  have h2 : up a4 (ix2 (tk i n q) h) = ((du a4 i n h q : ℝ) : EReal) := up2 a4 _ h
  simp only [h1, h2, v79_at, ← EReal.coe_mul, coe_sum, ← EReal.coe_sub]
  rfl

theorem win_at (hp : p.val ≠ 0) (c : Fin 256) : at3 (real a0 a1 a2 a3 a4).qkv p.val (Arr.keyRow (blk i n) c.val) (128 * h.val + e.val)
    = ((win (if p.val = 1 then a1 else a2) i.val n.val h.val c.val e.val : ℝ) : EReal) := by
  have hi := i.isLt
  have hn := n.isLt
  have hc := c.isLt
  have key : ∀ (i' : Fin 16) (n' : Fin 2) (q' : Fin 128), Arr.keyRow (blk i n) c.val = 128 * blk i' n' + q'.val →
      at3 (real a0 a1 a2 a3 a4).qkv p.val (Arr.keyRow (blk i n) c.val) (128 * h.val + e.val)
        = ((own (if p.val = 1 then a1 else a2) i'.val n'.val h.val q'.val e.val : ℝ) : EReal) := by
    intro i' n' q' hk
    rw [hk, qkv_at, if_neg hp]
  unfold win
  split_ifs with h1 h2 h3 h4 h5 h6 <;> first
    | refine (key i n ⟨c.val - 128, by omega⟩ (by unfold Arr.keyRow blk; rw [if_neg (by omega)]; simp only; omega)).trans ?_; simp_all; done
    | refine (key i 0 ⟨c.val, by omega⟩ (by unfold Arr.keyRow blk; rw [if_neg (by omega)]; simp; omega)).trans ?_; simp_all; done
    | refine (key 0 0 ⟨c.val, by omega⟩ (by unfold Arr.keyRow blk; rw [if_pos (by omega)]; simp)).trans ?_; simp_all; done
    | refine (key ⟨i.val - 1, by omega⟩ 1 ⟨c.val, by omega⟩ (by unfold Arr.keyRow blk; rw [if_neg (by omega)]; simp; omega)).trans ?_; simp_all; done

end Reads

/-! ## A row -/

variable (q : Fin 128)

theorem win_iff (c : ℕ) : Win (blk i n) q.val c ↔ vis n.val q.val c := by
  have hn := n.isLt
  unfold Win vis blk
  refine and_congr Iff.rfl (and_congr Iff.rfl ?_)
  constructor
  · intro hh h0; exact hh (by omega)
  · intro hh h0; exact hh (by omega)

theorem lane_const {A : ℕ → ℕ → EReal} {r : ℕ} {x : EReal} (hA : ∀ e : Fin 128, A r e.val = x) (c : Fin 256) : lane A r c.val = x := by
  have hc := c.isLt
  unfold lane
  split_ifs with hlt
  exacts [hA ⟨c.val, hlt⟩, hA ⟨c.val - 128, by omega⟩]

local notation "AA" => real a0 a1 a2 a3 a4

theorem Q_at (e : Fin 128) : Arr.Q AA (blk i n) h.val q.val e.val = ((own a0 i.val n.val h.val q.val e.val : ℝ) : EReal) :=
  qkv_at a0 a1 a2 a3 a4 i n h 0 q e
theorem K_at (c : Fin 256) (e : Fin 128) : Arr.K AA (blk i n) h.val c.val e.val = ((win a1 i.val n.val h.val c.val e.val : ℝ) : EReal) :=
  win_at a0 a1 a2 a3 a4 i n h 1 e (by decide) c
theorem V_at (c : Fin 256) (e : Fin 128) : Arr.V AA (blk i n) h.val c.val e.val = ((win a2 i.val n.val h.val c.val e.val : ℝ) : EReal) :=
  win_at a0 a1 a2 a3 a4 i n h 2 e (by decide) c
theorem D_at (e : Fin 128) : Arr.D AA (blk i n) h.val q.val e.val = ((dy a3 i n h q e : ℝ) : EReal) := d_at a0 a1 a2 a3 a4 i n h q e
theorem L_at (e : Fin 128) : Arr.L AA (blk i n) h.val q.val e.val = ((LSE a0 a1 i n h q : ℝ) : EReal) := l_at a0 a1 a2 a3 a4 i n h q e
theorem E_at (e : Fin 128) : Arr.E AA (blk i n) h.val q.val e.val = ((off a0 a1 a2 a3 a4 i n h q : ℝ) : EReal) := g_at a0 a1 a2 a3 a4 i n h q e

theorem prob_at (c : Fin 256) : Prob (Win (blk i n)) (Arr.Q AA (blk i n) h.val) (Arr.K AA (blk i n) h.val) (Arr.L AA (blk i n) h.val) q.val c.val
    = ((if vis n.val q.val c.val then Real.exp (sc a0 a1 i n h q c - LSE a0 a1 i n h q) else 0 : ℝ) : EReal) := by
  unfold Prob
  by_cases hv : vis n.val q.val c.val
  · rw [if_pos ((win_iff i n q c.val).2 hv), if_pos hv, lane_const (L_at a0 a1 a2 a3 a4 i n h q) c]
    simp only [Q_at, K_at, win_seen a1 n.isLt hv.2.2]
    have hs : cS = ((scale : ℝ) : EReal) := scale_coe
    simp only [hs, ← EReal.coe_mul, coe_sum, ← EReal.coe_sub]
    exact Ideal.exp_coe _
  · rw [if_neg (fun hw => hv ((win_iff i n q c.val).1 hw)), if_neg hv, EReal.coe_zero]

theorem dsc_at (c : Fin 256) : Dsc (Win (blk i n)) (Arr.Q AA (blk i n) h.val) (Arr.K AA (blk i n) h.val) (Arr.L AA (blk i n) h.val)
    (Arr.D AA (blk i n) h.val) (Arr.V AA (blk i n) h.val) (Arr.E AA (blk i n) h.val) q.val c.val
    = ((DSC a0 a1 a2 a3 a4 i n h q c : ℝ) : EReal) := by
  unfold Dsc
  rw [prob_at, lane_const (E_at a0 a1 a2 a3 a4 i n h q) c]
  have hs : cS = ((scale : ℝ) : EReal) := scale_coe
  simp only [D_at, V_at, hs, ← EReal.coe_mul, coe_sum, ← EReal.coe_sub]
  congr 1
  unfold DSC
  by_cases hv : vis n.val q.val c.val
  · rw [if_pos hv, if_pos hv]
    simp only [win_seen a2 n.isLt hv.2.2]
    congr 1
    exact Softmax.dscore (sees n q) (sc a0 a1 i n h q) (top a0 a1 i n h q) (vs a2 i n h) (dy a3 i n h q) (du a4 i n h q) (vis_some n q) c hv
  · rw [if_neg hv, if_neg hv, zero_mul]

theorem dq_real (e : Fin 128) : Arr.dq AA (blk i n) h.val q.val e.val = ((DQ a0 a1 a2 a3 a4 i n h q e : ℝ) : EReal) := by
  unfold Arr.dq Dq
  simp only [dsc_at, K_at, ← EReal.coe_mul, coe_sum]
  congr 1
  unfold DQ
  refine Finset.sum_congr rfl fun c _ => ?_
  by_cases hv : vis n.val q.val c.val
  · rw [win_seen a1 n.isLt hv.2.2]
  · unfold DSC
    rw [if_neg hv, zero_mul, zero_mul, zero_mul]

theorem dk_real (c : Fin 256) (e : Fin 128) : Arr.dk AA (blk i n) h.val c.val e.val = ((DK a0 a1 a2 a3 a4 i n h c e : ℝ) : EReal) := by
  unfold Arr.dk Dk
  simp only [dsc_at, Q_at, ← EReal.coe_mul, coe_sum]
  rfl

theorem dv_real (c : Fin 256) (e : Fin 128) : Arr.dv AA (blk i n) h.val c.val e.val = ((DV a0 a1 a3 i n h c e : ℝ) : EReal) := by
  unfold Arr.dv Dv
  simp only [prob_at, D_at, ← EReal.coe_mul, coe_sum]
  congr 1
  unfold DV
  refine Finset.sum_congr rfl fun q _ => ?_
  by_cases hv : vis n.val q.val c.val
  · rw [if_pos hv]
    have := Softmax.exp_lse (sees n q) (sc a0 a1 i n h q) (top a0 a1 i n h q) (vis_some n q) c hv
    refine (congrArg (· * _) this).trans ?_
    show EX a0 a1 i n h q c / DEN a0 a1 i n h q * _ = _
    ring
  · rw [if_neg hv, zero_mul]
    unfold EX Softmax.ex
    rw [if_neg hv, mul_zero]

/-- The first window of a sequence gives the rows before it nothing. -/
theorem dk_first (c : Fin 256) (e : Fin 128) (hc : c.val < 128) : DK a0 a1 a2 a3 a4 i 0 h c e = 0 := by
  unfold DK
  refine Finset.sum_eq_zero fun q _ => ?_
  unfold DSC
  rw [if_neg (fun hv => absurd (hv.2.2 rfl) (by omega)), zero_mul, zero_mul]
theorem dv_first (c : Fin 256) (e : Fin 128) (hc : c.val < 128) : DV a0 a1 a3 i 0 h c e = 0 := by
  unfold DV
  refine Finset.sum_eq_zero fun q _ => ?_
  unfold EX Softmax.ex
  rw [if_neg (fun hv => absurd (hv.2.2 rfl) (by omega)), mul_zero]

theorem two_real (f : ℕ → ℕ → ℕ → ℕ → EReal) (F : Fin 16 → Fin 2 → Fin 256 → ℝ) (e : Fin 128)
    (hf : ∀ i n c, f (blk i n) h.val c.val e.val = ((F i n c : ℝ) : EReal)) (h0 : ∀ i c, c.val < 128 → F i 0 c = 0) :
    Arr.two (blk i n) h.val f q.val e.val = ((both (F i) n q : ℝ) : EReal) := by
  have hq := q.isLt
  have hi := i.isLt
  have own_part := hf i n ⟨128 + q.val, by omega⟩
  unfold Arr.two both
  match n, own_part with
  | ⟨0, _⟩, own_part =>
    have next := hf i 1 ⟨q.val, by omega⟩
    have e1 : blk i ⟨0, by omega⟩ + 1 = blk i 1 := rfl
    rw [if_pos (by unfold blk; simp only; omega), e1, dif_pos (by simp), EReal.coe_add]
    exact congrArg₂ (· + ·) own_part next
  | ⟨1, _⟩, own_part =>
    rw [dif_neg (by simp), add_zero]
    split_ifs with hb
    · have hlt : i.val + 1 < 16 := by unfold blk at hb; simp only at hb; omega
      have next := hf ⟨i.val + 1, hlt⟩ 0 ⟨q.val, by omega⟩
      rw [h0 _ _ hq, EReal.coe_zero] at next
      have e1 : blk i ⟨1, by omega⟩ + 1 = blk ⟨i.val + 1, hlt⟩ 0 := by unfold blk; simp; omega
      rw [e1]
      refine (congrArg₂ (· + ·) own_part next).trans (add_zero _)
    · exact own_part

/-- The kernel's result is the reference's. -/
theorem res_real : resF AA = ReferenceIdeal.Read.val_main_v161 (F := Ideal) (up a0) (up a1) (up a2) (up a3) (up a4) := by
  have split : ∀ (p : Fin 3) (R : Fin 4096) (C : Fin 1024), ∃ (i : Fin 16) (n : Fin 2) (q : Fin 128) (h : Fin 8) (e : Fin 128),
      R = gr i n q ∧ C = gc h e := by
    intro p R C
    have hR := R.isLt
    have hC := C.isLt
    exact ⟨⟨R.val / 256, by omega⟩, ⟨R.val / 128 % 2, by omega⟩, ⟨R.val % 128, by omega⟩, ⟨C.val / 128, by omega⟩, ⟨C.val % 128, by omega⟩,
      Fin.ext (by unfold gr; simp only; omega), Fin.ext (by unfold gc; simp only; omega)⟩
  funext x
  obtain ⟨p, R, C, rfl⟩ : ∃ (p : Fin 3) (R : Fin 4096) (C : Fin 1024), x = ix3 p R C := ⟨x 0, x 1, x 2, eq_ix3 x⟩
  obtain ⟨i, n, q, h, e, rfl, rfl⟩ := split p R C
  have hq := q.isLt
  have he := e.isLt
  rw [result_at]
  have r1 : (gr i n q).val / 128 = blk i n := by unfold gr blk; simp only; omega
  have r2 : (gr i n q).val % 128 = q.val := by unfold gr; simp only; omega
  have c1 : (gc h e).val / 128 = h.val := by unfold gc; simp only; omega
  have c2 : (gc h e).val % 128 = e.val := by unfold gc; simp only; omega
  show Arr.res AA p.val (gr i n q).val (gc h e).val = _
  unfold Arr.res
  rw [r1, r2, c1, c2]
  split_ifs
  · exact dq_real a0 a1 a2 a3 a4 i n h q e
  · exact two_real i n h q _ (fun i n c => DK a0 a1 a2 a3 a4 i n h c e) e (fun i n c => dk_real a0 a1 a2 a3 a4 i n h c e)
      (fun i c hc => dk_first a0 a1 a2 a3 a4 i h c e hc)
  · exact two_real i n h q _ (fun i n c => DV a0 a1 a3 i n h c e) e (fun i n c => dv_real a0 a1 a2 a3 a4 i n h c e)
      (fun i c hc => dv_first a0 a1 a3 i h c e hc)

end Cert.KernelIdeal.Piece
-- ==== Proof.Finite.lean ====
module

public import proofs.«01_k».proof.Proof.Gen.Pre_finite
public import proofs.«01_k».proof.Proof.Grad
public import Idealize.ShloMosaic.Lib.ReduceAll

/-!
  # Finite inputs are real
-/

@[expose] public section

set_option maxRecDepth 16384

noncomputable section

open Idealize.ShloMosaic Idealize.SL.Sem

namespace Cert.Pre_finite

open Cert.Pre_finite.Gen
open Cert.ReferenceIdeal.Grad (up)

theorem inf_bits : Ideal.ofBits .f32 0x7F800000#32 = ⊤ := by
  simp [Ideal.ofBits, Ideal.ieee, -EReal.coe_mul]

/-- An extended real whose magnitude is below `⊤` is real. -/
theorem lt_top (x : EReal) (hx : FloatOps.cmpf (F := Ideal) (φ := .f32) .olt (max x (-x)) (⊤ : EReal) = 1#1) : ∃ r : ℝ, x = (r : EReal) := by
  have h1 : max x (-x) < ⊤ := by
    by_contra hn
    have : FloatOps.cmpf (F := Ideal) (φ := .f32) .olt (max x (-x)) (⊤ : EReal) = BitVec.ofBool (decide (max x (-x) < ⊤)) := rfl
    rw [this, decide_eq_false hn] at hx
    exact absurd hx (by decide)
  induction x with
  | bot => simp at h1
  | top => simp at h1
  | coe r => exact ⟨r, rfl⟩

theorem and1 : ∀ x y : BitVec 1, IntOp.andi x y = 1#1 ↔ x = 1#1 ∧ y = 1#1 := by decide

theorem reals {s : Shape} (x : s.Idx → EReal) (h : ∀ i, ∃ r : ℝ, x i = (r : EReal)) : ∃ a : s.Idx → ℝ, x = up a :=
  ⟨fun i => (h i).choose, funext fun i => (h i).choose_spec⟩

theorem of_all {s : Shape} {axes : List (Fin s.rank)} (x : FVec Ideal s .f32) (hb : S_.BroadcastsInDim s ![]) (hr : s.ReducesTo axes S_)
    (hu : 0 < S_.numel) (j : S_.Idx)
    (h : Host.reduce IntOp.andi (cmpf .olt (Host.absf x) (broadcastInDim s ![] hb (constant S_ .f32 0x7F800000#32))) (constantI S_ 1 1#1) hr hu j = 1#1) :
    ∃ a, x = up a := by
  haveI : Subsingleton S_.Idx := ⟨fun a b => funext fun k => k.elim0⟩
  refine reals x fun i => lt_top (x i) ?_
  rw [← inf_bits]
  exact Host.reduce_andi_all _ _ hr hu j h i

theorem of_fn (x0 x1 x2 x3 : FVec Ideal S4096x8x128 .f32) (x4 : FVec Ideal S4096x8 .f32)
    (h : fn (F := Ideal) x0 x1 x2 x3 x4 = fun _ => 1#1) :
    (∃ a, x0 = up a) ∧ (∃ a, x1 = up a) ∧ (∃ a, x2 = up a) ∧ (∃ a, x3 = up a) ∧ ∃ a, x4 = up a := by
  have h0 := congrFun h (fun a => a.elim0)
  unfold fn fn_part1 at h0
  dsimp only [andi] at h0
  rw [and1, and1, and1, and1] at h0
  obtain ⟨⟨⟨⟨h1, h2⟩, h3⟩, h4⟩, h5⟩ := h0
  exact ⟨of_all x0 _ _ _ _ h1, of_all x1 _ _ _ _ h2, of_all x2 _ _ _ _ h3, of_all x3 _ _ _ _ h4, of_all x4 _ _ _ _ h5⟩

end Cert.Pre_finite
-- ==== Proof.Result.lean ====
module

public import proofs.«01_k».proof.Proof.Join
public import proofs.«01_k».proof.Proof.Finite

/-!
  # The run's result
-/

@[expose] public section

noncomputable section

open Idealize.ShloMosaic Idealize.ShloMosaic.TcCoe Idealize.SL.Sem

namespace Cert.KernelIdeal.Piece

open Cert.KernelIdeal.Gen
open Cert.ReferenceIdeal.Grad (up)

theorem arr_of {A : Arr} {q k v w : S4096x8x128.Idx → EReal} {u : S4096x8.Idx → EReal}
    (h1 : A.qkv = stack q k v) (h2 : A.d = truncf FTy.bf16 (rows w) bitsLt_bf16_f32)
    (h3 : A.l = rows (lanes (ReferenceIdeal.Read.val_main_v83 (F := Ideal) q k)))
    (h4 : A.g = rows (lanes (less w (ReferenceIdeal.Read.val_main_v79 (F := Ideal) q k v) u)))
    (hq : ∃ a, q = up a) (hk : ∃ a, k = up a) (hv : ∃ a, v = up a) (hw : ∃ a, w = up a) (hu : ∃ a, u = up a) :
    resF A = ReferenceIdeal.Read.val_main_v161 (F := Ideal) q k v w u := by
  obtain ⟨a0, rfl⟩ := hq
  obtain ⟨a1, rfl⟩ := hk
  obtain ⟨a2, rfl⟩ := hv
  obtain ⟨a3, rfl⟩ := hw
  obtain ⟨a4, rfl⟩ := hu
  have : A = real a0 a1 a2 a3 a4 := by
    cases A
    simp only at h1 h2 h3 h4
    unfold real
    rw [h1, h2, h3, h4]
  rw [this]
  exact res_real a0 a1 a2 a3 a4

variable (m : (ℓ : Loc nD τ sig) → Buf (Elt Ideal) ℓ) (c : Dev nD)

theorem arr_mk {x : S3x4096x1024.Idx → EReal} {y z w : S4096x1024.Idx → EReal} (h1 : V m c main_v13 = x) (h2 : V m c main_v94 = y)
    (h3 : V m c main_v99 = z) (h4 : V m c main_v104 = w) : arr m c = ⟨x, y, z, w⟩ := by
  unfold arr
  rw [h1, h2, h3, h4]

theorem result (h : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (dats m 0 c).arrAt 8 cfg0.N = ReferenceIdeal.Read.val_main_v161 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  have hf := Cert.Pre_finite.of_fn _ _ _ _ _ h
  refine (final m c).trans ((congrArg resF (arr_mk m c (host_q m c) (host_do m c) (host_l m c) (host_g m c))).trans ?_)
  exact arr_of rfl rfl rfl rfl hf.1 hf.2.1 hf.2.2.1 hf.2.2.2.1 hf.2.2.2.2

/-- Equal arguments, equal results. -/
theorem result_congr {q q' k k' v v' w w' : S4096x8x128.Idx → EReal} {u u' : S4096x8.Idx → EReal} (hq : q = q') (hk : k = k') (hv : v = v')
    (hw : w = w') (hu : u = u') :
    ReferenceIdeal.Read.val_main_v161 (F := Ideal) q k v w u = ReferenceIdeal.Read.val_main_v161 (F := Ideal) q' k' v' w' u' := by
  subst hq hk hv hw hu
  rfl

end Cert.KernelIdeal.Piece
-- ==== Proof.XPay.lean ====
/-
  One step of the input gradient's product, read at an index over the extended reals.

  Every grid point adds to a 512 × 2048 accumulator the product of 512 × 1024 rows with a 2048 × 1024 block of the
  weights, the rows taken as they lie, or out of a scratch into which they were written in the order of the tokens.
  `stepV` is that sum at an index; the printed payloads are `stepV` of their operands.
-/
module

public import proofs.«01_k».proof.Proof.Gen.Kernel2Ideal.Skeleton
public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.Pipeline.ReadBack
public import Idealize.ShloMosaic.Lib.Pipeline.ValueKit

@[expose] public section

noncomputable section

open Idealize.ShloMosaic hiding ix2 ix3 ix4 eq_ix2 eq_ix3 eq_ix4
open Idealize.ShloMosaic.TcCoe Idealize.ShloMosaic.ValueIdx Idealize.SL.Sem
open scoped BigOperators

namespace Cert.Kernel2Ideal.Step

open Cert.Kernel2Ideal.Gen

/-- The accumulator plus the product of rows `A` with the weights' block `w`. -/
def stepV (A : S512x1024.Idx → EReal) (w : S1x2048x1024.Idx → EReal) (acc : S512x2048.Idx → EReal) : S512x2048.Idx → EReal :=
  fun y => acc y + ∑ e : Fin 1024, A (ix2 (y 0) e) * w (ix3 0 (y 1) e)

/-- The first accumulator: the residual's share. -/
def startV (r : S512x2048.Idx → EReal) : S512x2048.Idx → EReal := fun y => Ideal.ofBits .f32 0x3F9837F0#32 * r y

theorem product_apply (A : FVec Ideal S512x1024 .bf16) (w : Vec Ideal S1x2048x1024 .bf16) (acc : FVec Ideal S512x2048 .f32)
    (y : S512x2048.Idx) :
    addf acc (matmul (φ₂ := .bf16) dot_S512x1024_S2048x1024_S512x2048_1_1_0_0_n_n none A
      (shapeCast S2048x1024 w shapeCasts_S1x2048x1024_S2048x1024) (constant S512x2048 .f32 0x00000000#32)) y = stepV A w acc y := by
  refine congrArg (acc y + ·) ?_
  refine (Ideal.matmul_constant_zero_apply _ none A _ y).trans ?_
  refine (Equiv.sum_comp (contrEquiv1 _ 1024 rfl rfl).symm _).symm.trans ?_
  refine Finset.sum_congr rfl fun e _ => ?_
  rw [← shapeCast_1ab_ab_apply (a := 2048) (b := 1024) w shapeCasts_S1x2048x1024_S2048x1024 (y 1) e]
  congr 2
  · funext a; fin_cases a <;> rfl
  · funext a; fin_cases a <;> rfl

theorem pay_plain (acc : Vec Ideal S512x2048 .f32) (A : Vec Ideal S512x1024 .bf16) (w : Vec Ideal S1x2048x1024 .bf16) :
    k0_pay1 (F := Ideal) acc A w = stepV A w acc := by
  funext y
  unfold k0_pay1
  rw [shapeCast_self, shapeCast_self]
  exact product_apply A w acc y

/-- Rows of the undilated group. -/
def rows1 (x : S1x1x512x1024.Idx → EReal) : S512x1024.Idx → EReal := fun y => x (ix4 0 0 (y 0) (y 1))
/-- Rows of a group of dilation `n`, in the order of the tokens: residue `p % n` first, then place `p / n`. -/
def rowsN {n l : ℕ} (hn : n * l = 512) (x : (⟨4, ![1, n, l, 1024]⟩ : Shape).Idx → EReal) : S512x1024.Idx → EReal := fun y =>
  x (ix4 0 ⟨(y 0).val % n, Nat.mod_lt _ (Nat.pos_of_ne_zero fun h => by simp [h] at hn)⟩
    ⟨(y 0).val / n, Nat.div_lt_of_lt_mul (by rw [hn]; exact (y 0).isLt)⟩ (y 1))

theorem pay_first (x : Vec Ideal S1x1x512x1024 .bf16) (acc : Vec Ideal S512x2048 .f32) (w : Vec Ideal S1x2048x1024 .bf16) :
    k0_pay207 (F := Ideal) x acc w = stepV (rows1 x) w acc := by
  funext y
  unfold k0_pay207
  rw [shapeCast_self]
  refine (product_apply _ w acc y).trans ?_
  refine congrArg (fun A => stepV A w acc y) (funext fun z => ?_)
  show shapeCast S512x1024 x shapeCasts_S1x1x512x1024_S512x1024 z = _
  refine shapeCast_apply x _ z _ ?_
  rw [Shape.rowMajor_val_four, Shape.rowMajor_val_two]
  show ((0 * 1 + 0) * 512 + (z 0).val) * 1024 + (z 1).val = (z 0).val * 1024 + (z 1).val
  omega

theorem pay_start (r : Vec Ideal S512x2048 .f32) : k0_pay206 (F := Ideal) r = startV r := by
  funext y
  unfold k0_pay206
  rw [shapeCast_self]
  rfl

/-- The scratch holding rows `A`: 128 lanes to a slab. -/
def plane (A : S512x1024.Idx → EReal) : S8x512x128.Idx → EReal := fun y =>
  A (ix2 (y 1) ⟨128 * (y 0).val + (y 2).val, by
    have h0 : (y 0).val < 8 := (y 0).isLt
    have h2 : (y 2).val < 128 := (y 2).isLt
    omega⟩)

/-- Eight slabs of 128 lanes, side by side. -/
theorem slabs_apply (A : S512x1024.Idx → EReal) (v : Fin 8 → FVec Ideal S512x128 .f32)
    (hv : ∀ c (p : Fin 512) (l : Fin 128), v c (ix2 p l) = plane A (ix3 c p l)) :
    concatenate S512x1024 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩] concatenates_S512x128_S512x128_S512x128_S512x128_S512x128_S512x128_S512x128_S512x128_S512x1024_d1
      = A := by
  funext y
  have hy : (y 1).val < 1024 := (y 1).isLt
  have hc : (y 1).val / 128 < 8 := by omega
  refine (concatenate_ofFn_apply (t := S512x1024) (s₁ := S512x128) 1 v
    concatenates_S512x128_S512x128_S512x128_S512x128_S512x128_S512x128_S512x128_S512x128_S512x1024_d1 rfl 128 rfl y
    ⟨(y 1).val / 128, hc⟩ rfl (ix2 (y 0) ⟨(y 1).val % 128, Nat.mod_lt _ (by norm_num)⟩) rfl ?_).trans ?_
  · intro b hb
    fin_cases b
    · rfl
    · exact absurd rfl hb
  refine (hv _ _ _).trans ?_
  refine congrArg A ?_
  funext a
  fin_cases a
  · rfl
  · refine Fin.ext ?_
    show 128 * ((y 1).val / 128) + (y 1).val % 128 = (y 1).val
    omega

/-- A slab read as a matrix. -/
theorem slab_cast (G : S8x512x128.Idx → EReal) (c : Fin 8) (v : Vec Ideal S1x512x128 .f32)
    (hv : ∀ y : S1x512x128.Idx, v y = G (ix3 c (y 1) (y 2))) (p : Fin 512) (l : Fin 128) :
    shapeCast S512x128 v shapeCasts_S1x512x128_S512x128 (ix2 p l) = G (ix3 c p l) :=
  (shapeCast_1ab_ab_apply (a := 512) (b := 128) v _ p l).trans (hv _)

/-- What a strided store writes: 128 lanes of `L` rows. -/
theorem lanes_apply {L : ℕ} (v : (⟨4, ![1, 1, L, 1024]⟩ : Shape).Idx → EReal) (o : ℕ)
    (h1 : (⟨4, ![1, 1, L, 1024]⟩ : Shape).ShapeCasts ⟨2, ![L, 1024]⟩) (h2 : (⟨2, ![L, 1024]⟩ : Shape).Slices ![0, o] ⟨2, ![L, 128]⟩)
    (h3 : (⟨2, ![L, 128]⟩ : Shape).ShapeCasts ⟨3, ![1, L, 128]⟩) (ho : o + 128 ≤ 1024) (x : (⟨3, ![1, L, 128]⟩ : Shape).Idx) :
    shapeCast (⟨3, ![1, L, 128]⟩ : Shape) (extractStridedSlice (⟨2, ![L, 128]⟩ : Shape) ![0, o]
      (shapeCast (⟨2, ![L, 1024]⟩ : Shape) v h1) h2) h3 x
      = v (ix4 0 0 (x 1) ⟨o + (x 2).val, by have h : (x 2).val < 128 := (x 2).isLt; omega⟩) := by
  have hx : x = ix3 (0 : Fin 1) (x 1) (x 2) := by
    funext a
    fin_cases a
    · exact Subsingleton.elim (α := Fin 1) _ _
    · rfl
    · rfl
  rw [hx]
  refine (shapeCast_ab_1ab_apply (a := L) (b := 128) _ h3 0 (x 1) (x 2)).trans ?_
  show shapeCast (⟨2, ![L, 1024]⟩ : Shape) v h1 _ = _
  refine shapeCast_apply v h1 _ _ ?_
  rw [Shape.rowMajor_val_four, Shape.rowMajor_val_two]
  show ((0 * 1 + 0) * L + (x 1).val) * 1024 + (o + (x 2).val) = (0 + (x 1).val) * 1024 + (o + (x 2).val)
  simp

theorem pay_second (A : S512x1024.Idx → EReal) (v0 v1 v2 : FVec Ideal S512x128 .f32) (v3 v4 v5 v6 v7 : Vec Ideal S1x512x128 .f32)
    (acc : Vec Ideal S512x2048 .f32) (w : Vec Ideal S1x2048x1024 .bf16)
    (h0 : ∀ p l, v0 (ix2 p l) = plane A (ix3 0 p l)) (h1 : ∀ p l, v1 (ix2 p l) = plane A (ix3 1 p l))
    (h2 : ∀ p l, v2 (ix2 p l) = plane A (ix3 2 p l)) (h3 : ∀ y, v3 y = plane A (ix3 3 (y 1) (y 2)))
    (h4 : ∀ y, v4 y = plane A (ix3 4 (y 1) (y 2))) (h5 : ∀ y, v5 y = plane A (ix3 5 (y 1) (y 2)))
    (h6 : ∀ y, v6 y = plane A (ix3 6 (y 1) (y 2))) (h7 : ∀ y, v7 y = plane A (ix3 7 (y 1) (y 2))) :
    k0_pay208 (F := Ideal) v0 v1 v2 v3 v4 v5 v6 v7 acc w = stepV A w acc := by
  funext y
  unfold k0_pay208
  rw [shapeCast_self]
  refine (product_apply _ w acc y).trans ?_
  refine congrArg (fun A => stepV A w acc y) ?_
  exact slabs_apply A ![v0, v1, v2, shapeCast S512x128 v3 shapeCasts_S1x512x128_S512x128, shapeCast S512x128 v4 shapeCasts_S1x512x128_S512x128,
    shapeCast S512x128 v5 shapeCasts_S1x512x128_S512x128, shapeCast S512x128 v6 shapeCasts_S1x512x128_S512x128,
    shapeCast S512x128 v7 shapeCasts_S1x512x128_S512x128] (by
      intro c
      fin_cases c
      · exact h0
      · exact h1
      · exact h2
      · exact slab_cast _ 3 v3 h3
      · exact slab_cast _ 4 v4 h4
      · exact slab_cast _ 5 v5 h5
      · exact slab_cast _ 6 v6 h6
      · exact slab_cast _ 7 v7 h7)

theorem pay_third (A : S512x1024.Idx → EReal) (v : Fin 8 → Vec Ideal S1x512x128 .f32)
    (acc : Vec Ideal S512x2048 .f32) (w : Vec Ideal S1x2048x1024 .bf16)
    (h : ∀ c y, v c y = plane A (ix3 c (y 1) (y 2))) :
    k0_pay209 (F := Ideal) (k0_pay205 (v 0) (v 1) (v 2) (v 3) (v 4) (v 5) (v 6) (v 7)) acc w = stepV A w acc := by
  funext y
  unfold k0_pay209
  rw [shapeCast_self]
  refine (product_apply _ w acc y).trans ?_
  refine congrArg (fun A => stepV A w acc y) ?_
  exact slabs_apply A (fun c => shapeCast S512x128 (v c) shapeCasts_S1x512x128_S512x128) fun c => slab_cast _ c (v c) (h c)

end Cert.Kernel2Ideal.Step
-- ==== Proof.XHost.lean ====
/-
  The arrays the input gradient's call reads, at an index of the call's arguments.

  The gradient of the projection is cut into columns of 1024; the columns of a group are stacked for the queries, the keys and the
  values and put in the group's order: residue first, then place. The weights are cut into four blocks of columns.
-/
module

public import proofs.«01_k».proof.Proof.XPay
public import proofs.«01_k».proof.Proof.Gen.Kernel2Ideal.Frame.Runs

@[expose] public section

set_option maxRecDepth 16384

noncomputable section

open Idealize.ShloMosaic hiding ix2 ix3 ix4 eq_ix2 eq_ix3 eq_ix4
open Idealize.ShloMosaic.TcCoe Idealize.ShloMosaic.ValueIdx Idealize.SL.Sem

namespace Cert.Kernel2Ideal.Step

open Cert.Kernel2Ideal.Gen

/-- An array of two axes, read at two numbers; zero outside it. -/
def at2 {n l : ℕ} (x : (⟨2, ![n, l]⟩ : Shape).Idx → EReal) (r c : ℕ) : EReal := if h : r < n ∧ c < l then x (ix2 ⟨r, h.1⟩ ⟨c, h.2⟩) else 0

theorem at2_eq {n l : ℕ} (x : (⟨2, ![n, l]⟩ : Shape).Idx → EReal) (y : (⟨2, ![n, l]⟩ : Shape).Idx) {r c : ℕ} (h0 : (y 0).val = r)
    (h1 : (y 1).val = c) : x y = at2 x r c := by
  subst h0 h1
  have h : (y 0).val < n ∧ (y 1).val < l := ⟨(y 0).isLt, (y 1).isLt⟩
  unfold at2
  rw [dif_pos h]
  exact congrArg x (eq_ix2 y)

/-- Columns `o`, …, `o + l - 1`. -/
theorem cols_apply {l : ℕ} (o : ℕ) (x : S4096x16384.Idx → EReal) (h : S4096x16384.Slices ![0, o] ⟨2, ![4096, l]⟩)
    (y : (⟨2, ![4096, l]⟩ : Shape).Idx) : extractStridedSlice (⟨2, ![4096, l]⟩ : Shape) ![0, o] x h y = at2 x (y 0).val (o + (y 1).val) := by
  unfold extractStridedSlice
  refine at2_eq (n := 4096) (l := 16384) x _ ?_ ?_
  · show 0 + (y 0).val = _; omega
  · rfl

/-- A group's rows: residue first, then place. -/
theorem group_apply {n l : ℕ} (hn : n * l = 4096) (x : S4096x1024.Idx → EReal)
    (h1 : S4096x1024.ShapeCasts ⟨3, ![l, n, 1024]⟩) (h2 : (⟨3, ![l, n, 1024]⟩ : Shape).Transposes [1, 0, 2] ⟨3, ![n, l, 1024]⟩)
    (h3 : (⟨3, ![n, l, 1024]⟩ : Shape).ShapeCasts S4096x1024) (y : S4096x1024.Idx) :
    shapeCast S4096x1024 (transpose (⟨3, ![n, l, 1024]⟩ : Shape) [1, 0, 2] (shapeCast (⟨3, ![l, n, 1024]⟩ : Shape) x h1) h2) h3 y
      = at2 x ((y 0).val % l * n + (y 0).val / l) (y 1).val := by
  have hy : (y 0).val < 4096 := (y 0).isLt
  have hl : 0 < l := Nat.pos_of_ne_zero fun h => by simp [h] at hn
  have ha : (y 0).val / l < n := Nat.div_lt_of_lt_mul (by rw [Nat.mul_comm]; rw [hn]; exact hy)
  have hb : (y 0).val % l < l := Nat.mod_lt _ hl
  refine (shapeCast_apply _ h3 y (ix3 ⟨(y 0).val / l, ha⟩ ⟨(y 0).val % l, hb⟩ (y 1)) ?_).trans ?_
  · rw [Shape.rowMajor_val_three, Shape.rowMajor_val_two]
    show ((y 0).val / l * l + (y 0).val % l) * 1024 + (y 1).val = (y 0).val * 1024 + (y 1).val
    rw [Nat.div_add_mod']
  refine (transpose_apply [1, 0, 2] _ h2 _ (ix3 ⟨(y 0).val % l, hb⟩ ⟨(y 0).val / l, ha⟩ (y 1)) ?_).trans ?_
  · intro b; fin_cases b <;> rfl
  have hlt : (y 0).val % l * n + (y 0).val / l < 4096 := by
    rw [← hn]
    calc (y 0).val % l * n + (y 0).val / l < (y 0).val % l * n + n := by omega
      _ = ((y 0).val % l + 1) * n := by ring
      _ ≤ l * n := Nat.mul_le_mul_right _ hb
      _ = n * l := Nat.mul_comm _ _
  refine (shapeCast_apply x h1 _ (ix2 ⟨(y 0).val % l * n + (y 0).val / l, hlt⟩ (y 1)) ?_).trans ?_
  · rw [Shape.rowMajor_val_three, Shape.rowMajor_val_two]
    rfl
  exact at2_eq (n := 4096) (l := 1024) x _ rfl rfl

/-- Three arrays, stacked. -/
def stack3 (x : Fin 3 → S4096x1024.Idx → EReal) : S3x4096x1024.Idx → EReal :=
  concatenate S3x4096x1024 0
    [⟨S1x4096x1024, broadcastInDim S1x4096x1024 ![1, 2] bcast_S4096x1024_S1x4096x1024_1_2 (x 0)⟩,
      ⟨S1x4096x1024, broadcastInDim S1x4096x1024 ![1, 2] bcast_S4096x1024_S1x4096x1024_1_2 (x 1)⟩,
      ⟨S1x4096x1024, broadcastInDim S1x4096x1024 ![1, 2] bcast_S4096x1024_S1x4096x1024_1_2 (x 2)⟩]
      concatenates_S1x4096x1024_S1x4096x1024_S1x4096x1024_S3x4096x1024_d0

theorem stack3_congr {x y z : S1x4096x1024.Idx → EReal} (a b c : S4096x1024.Idx → EReal)
    (hx : x = broadcastInDim S1x4096x1024 ![1, 2] bcast_S4096x1024_S1x4096x1024_1_2 a)
    (hy : y = broadcastInDim S1x4096x1024 ![1, 2] bcast_S4096x1024_S1x4096x1024_1_2 b)
    (hz : z = broadcastInDim S1x4096x1024 ![1, 2] bcast_S4096x1024_S1x4096x1024_1_2 c) :
    concatenate S3x4096x1024 0 [⟨S1x4096x1024, x⟩, ⟨S1x4096x1024, y⟩, ⟨S1x4096x1024, z⟩]
      concatenates_S1x4096x1024_S1x4096x1024_S1x4096x1024_S3x4096x1024_d0 = stack3 ![a, b, c] := by
  subst hx hy hz
  rfl

theorem stack3_apply (x : Fin 3 → S4096x1024.Idx → EReal) (p : Fin 3) (r : Fin 4096) (e : Fin 1024) :
    stack3 x (ix3 p r e) = x p (ix2 r e) := by
  refine (concatenate_ofFn_unit_apply (t := S3x4096x1024) (s₁ := S1x4096x1024) 0
    (fun p => broadcastInDim S1x4096x1024 ![1, 2] bcast_S4096x1024_S1x4096x1024_1_2 (x p))
    concatenates_S1x4096x1024_S1x4096x1024_S1x4096x1024_S3x4096x1024_d0 rfl rfl (ix3 p r e) p rfl (ix3 0 r e) ?_).trans ?_
  · intro b hb
    fin_cases b
    · exact absurd rfl hb
    · rfl
    · rfl
  · refine broadcastInDim_apply _ _ (x p) _ (ix2 r e) ?_
    intro a
    fin_cases a <;> rfl

/-- The stack, cut by residue. -/
theorem cut_apply {n l : ℕ} (hn : n * l = 4096) (x : S3x4096x1024.Idx → EReal) (h : S3x4096x1024.ShapeCasts ⟨4, ![3, n, l, 1024]⟩)
    (y : (⟨4, ![3, n, l, 1024]⟩ : Shape).Idx) (hr : (y 1).val * l + (y 2).val < 4096) :
    shapeCast (⟨4, ![3, n, l, 1024]⟩ : Shape) x h y = x (ix3 (y 0) ⟨(y 1).val * l + (y 2).val, hr⟩ (y 3)) := by
  refine shapeCast_apply x h y _ ?_
  rw [Shape.rowMajor_val_four, Shape.rowMajor_val_three]
  show ((y 0).val * 4096 + ((y 1).val * l + (y 2).val)) * 1024 + (y 3).val = (((y 0).val * n + (y 1).val) * l + (y 2).val) * 1024 + (y 3).val
  rw [← hn]
  ring

/-- A group's array: its columns of queries, keys and values, in its order. -/
theorem arr_apply {n l : ℕ} (hn : n * l = 4096) (dh : S4096x16384.Idx → EReal) (x : Fin 3 → S4096x1024.Idx → EReal) (o : ℕ)
    (hx : ∀ p (y : S4096x1024.Idx), x p y = at2 dh ((y 0).val % l * n + (y 0).val / l) (1024 * (3 * p.val + o) + (y 1).val))
    (h : S3x4096x1024.ShapeCasts ⟨4, ![3, n, l, 1024]⟩) (y : (⟨4, ![3, n, l, 1024]⟩ : Shape).Idx) :
    shapeCast (⟨4, ![3, n, l, 1024]⟩ : Shape) (stack3 x) h y
      = at2 dh ((y 2).val * n + (y 1).val) (1024 * (3 * (y 0).val + o) + (y 3).val) := by
  have h1 : (y 1).val < n := (y 1).isLt
  have h2 : (y 2).val < l := (y 2).isLt
  have hr : (y 1).val * l + (y 2).val < 4096 := by
    rw [← hn]
    calc (y 1).val * l + (y 2).val < (y 1).val * l + l := by omega
      _ = ((y 1).val + 1) * l := by ring
      _ ≤ n * l := Nat.mul_le_mul_right _ h1
  refine (cut_apply hn (stack3 x) h y hr).trans ((stack3_apply x _ _ _).trans ((hx _ _).trans ?_))
  have e1 : ((y 1).val * l + (y 2).val) % l = (y 2).val := by
    rw [Nat.mul_comm, Nat.mul_add_mod, Nat.mod_eq_of_lt h2]
  have e2 : ((y 1).val * l + (y 2).val) / l = (y 1).val := by
    rw [Nat.mul_comm, Nat.mul_add_div (by omega), Nat.div_eq_of_lt h2, Nat.add_zero]
  show at2 dh (((y 1).val * l + (y 2).val) % l * n + ((y 1).val * l + (y 2).val) / l) _ = _
  exact congrArg (fun k => at2 dh k (1024 * (3 * (y 0).val + o) + (y 3).val)) (congrArg₂ (fun a b => a * n + b) e1 e2)

section

variable (m : (ℓ : Loc nD τ sig) → Buf (Elt Ideal) ℓ) (c : Dev nD)

/-- The call's arguments. -/
abbrev dhA : S4096x16384.Idx → EReal := m ((c : Thread nD τ).loc main_arg0)
abbrev drA : S4096x2048.Idx → EReal := m ((c : Thread nD τ).loc main_arg1)
abbrev wA : S2048x16384.Idx → EReal := m ((c : Thread nD τ).loc main_arg2)

set_option maxHeartbeats 4000000

/-- The columns of a group, in its order. -/
def grp1 (o : ℕ) (dh : S4096x16384.Idx → EReal) (h : S4096x16384.Slices ![0, o] S4096x1024) : S4096x1024.Idx → EReal :=
  shapeCast S4096x1024 (transpose S1x4096x1024 [1, 0, 2] (shapeCast S4096x1x1024 (extractStridedSlice S4096x1024 ![0, o] dh h)
    shapeCasts_S4096x1024_S4096x1x1024) transposes_S4096x1x1024_S1x4096x1024_1_0_2) shapeCasts_S1x4096x1024_S4096x1024
def grp4 (o : ℕ) (dh : S4096x16384.Idx → EReal) (h : S4096x16384.Slices ![0, o] S4096x1024) : S4096x1024.Idx → EReal :=
  shapeCast S4096x1024 (transpose S4x1024x1024 [1, 0, 2] (shapeCast S1024x4x1024 (extractStridedSlice S4096x1024 ![0, o] dh h)
    shapeCasts_S4096x1024_S1024x4x1024) transposes_S1024x4x1024_S4x1024x1024_1_0_2) shapeCasts_S4x1024x1024_S4096x1024
def grp16 (o : ℕ) (dh : S4096x16384.Idx → EReal) (h : S4096x16384.Slices ![0, o] S4096x1024) : S4096x1024.Idx → EReal :=
  shapeCast S4096x1024 (transpose S16x256x1024 [1, 0, 2] (shapeCast S256x16x1024 (extractStridedSlice S4096x1024 ![0, o] dh h)
    shapeCasts_S4096x1024_S256x16x1024) transposes_S256x16x1024_S16x256x1024_1_0_2) shapeCasts_S16x256x1024_S4096x1024

theorem host_0 : V m c main_v64 = shapeCast S3x1x4096x1024 (stack3 ![grp1 0 (dhA m c) slices_S4096x16384_S4096x1024_0_0,
    grp1 3072 (dhA m c) slices_S4096x16384_S4096x1024_0_3072, grp1 6144 (dhA m c) slices_S4096x16384_S4096x1024_0_6144])
    shapeCasts_S3x4096x1024_S3x1x4096x1024 := by
  unfold_abbrev_sides
  simp only [hostOps0]
  after_results
  dsimp only [Matrix.cons_val_zero, Matrix.cons_val_one, Matrix.cons_val]
  refine congrArg (fun x => shapeCast S3x1x4096x1024 x shapeCasts_S3x4096x1024_S3x1x4096x1024) (stack3_congr _ _ _ ?_ ?_ ?_)
  · after_results; rfl
  · after_results; rfl
  · after_results; rfl

theorem host_1 : V m c main_v65 = shapeCast S3x4x1024x1024 (stack3 ![grp4 1024 (dhA m c) slices_S4096x16384_S4096x1024_0_1024,
    grp4 4096 (dhA m c) slices_S4096x16384_S4096x1024_0_4096, grp4 7168 (dhA m c) slices_S4096x16384_S4096x1024_0_7168])
    shapeCasts_S3x4096x1024_S3x4x1024x1024 := by
  unfold_abbrev_sides
  simp only [hostOps0]
  after_results
  dsimp only [Matrix.cons_val_zero, Matrix.cons_val_one, Matrix.cons_val]
  refine congrArg (fun x => shapeCast S3x4x1024x1024 x shapeCasts_S3x4096x1024_S3x4x1024x1024) (stack3_congr _ _ _ ?_ ?_ ?_)
  · after_results; rfl
  · after_results; rfl
  · after_results; rfl

theorem host_2 : V m c main_v66 = shapeCast S3x16x256x1024 (stack3 ![grp16 2048 (dhA m c) slices_S4096x16384_S4096x1024_0_2048,
    grp16 5120 (dhA m c) slices_S4096x16384_S4096x1024_0_5120, grp16 8192 (dhA m c) slices_S4096x16384_S4096x1024_0_8192])
    shapeCasts_S3x4096x1024_S3x16x256x1024 := by
  unfold_abbrev_sides
  simp only [hostOps0]
  after_results
  dsimp only [Matrix.cons_val_zero, Matrix.cons_val_one, Matrix.cons_val]
  refine congrArg (fun x => shapeCast S3x16x256x1024 x shapeCasts_S3x4096x1024_S3x16x256x1024) (stack3_congr _ _ _ ?_ ?_ ?_)
  · after_results; rfl
  · after_results; rfl
  · after_results; rfl

theorem host_3 : V m c main_v56 = extractStridedSlice S4096x1024 ![0, 9216] (dhA m c) slices_S4096x16384_S4096x1024_0_9216 := by
  unfold_abbrev_sides
  simp only [hostOps0]
  after_results
  rfl

theorem host_4 : V m c main_v57 = extractStridedSlice S4096x1024 ![0, 10240] (dhA m c) slices_S4096x16384_S4096x1024_0_10240 := by
  unfold_abbrev_sides
  simp only [hostOps0]
  after_results
  rfl

theorem host_5 : V m c main_v58 = extractStridedSlice S4096x1024 ![0, 11264] (dhA m c) slices_S4096x16384_S4096x1024_0_11264 := by
  unfold_abbrev_sides
  simp only [hostOps0]
  after_results
  rfl

theorem host_6 : V m c main_v59 = extractStridedSlice S4096x2048 ![0, 12288] (dhA m c) slices_S4096x16384_S4096x2048_0_12288 := by
  unfold_abbrev_sides
  simp only [hostOps0]
  after_results
  rfl

theorem host_7 : V m c main_v60 = extractStridedSlice S4096x2048 ![0, 14336] (dhA m c) slices_S4096x16384_S4096x2048_0_14336 := by
  unfold_abbrev_sides
  simp only [hostOps0]
  after_results
  rfl

theorem host_8 : V m c main_v63 = transpose S4x2048x4096 [1, 0, 2] (shapeCast S2048x4x4096 (wA m c) shapeCasts_S2048x16384_S2048x4x4096)
    transposes_S2048x4x4096_S4x2048x4096_1_0_2 := by
  unfold_abbrev_sides
  simp only [hostOps0]
  after_results
  rfl

theorem host_9 : V m c main_arg1 = drA m c := by
  unfold_abbrev_sides
  simp only [hostOps0]
  after_results

theorem arr_0 (y : S3x1x4096x1024.Idx) : V m c main_v64 y = at2 (dhA m c) ((y 2).val * 1 + (y 1).val) (1024 * (3 * (y 0).val + 0) + (y 3).val) := by
  rw [host_0]
  refine arr_apply (n := 1) (l := 4096) (by norm_num) (dhA m c) _ 0 ?_ _ y
  intro p z
  have e : ∀ (o : ℕ) (h : S4096x16384.Slices ![0, o] S4096x1024), grp1 o (dhA m c) h z = at2 (dhA m c) ((z 0).val % 4096 * 1 + (z 0).val / 4096) (o + (z 1).val) := by
    intro o h
    have hz : (z 1).val < 1024 := (z 1).isLt
    have hz0 : (z 0).val < 4096 := (z 0).isLt
    refine (group_apply (n := 1) (l := 4096) (by norm_num) _ _ _ _ z).trans ?_
    refine (at2_eq (n := 4096) (l := 1024) _ (ix2 ⟨(z 0).val % 4096 * 1 + (z 0).val / 4096, by omega⟩ (z 1)) rfl rfl).symm.trans ?_
    exact cols_apply o (dhA m c) h _
  fin_cases p
  · exact e _ slices_S4096x16384_S4096x1024_0_0
  · exact e _ slices_S4096x16384_S4096x1024_0_3072
  · exact e _ slices_S4096x16384_S4096x1024_0_6144

theorem arr_1 (y : S3x4x1024x1024.Idx) : V m c main_v65 y = at2 (dhA m c) ((y 2).val * 4 + (y 1).val) (1024 * (3 * (y 0).val + 1) + (y 3).val) := by
  rw [host_1]
  refine arr_apply (n := 4) (l := 1024) (by norm_num) (dhA m c) _ 1 ?_ _ y
  intro p z
  have e : ∀ (o : ℕ) (h : S4096x16384.Slices ![0, o] S4096x1024), grp4 o (dhA m c) h z = at2 (dhA m c) ((z 0).val % 1024 * 4 + (z 0).val / 1024) (o + (z 1).val) := by
    intro o h
    have hz : (z 1).val < 1024 := (z 1).isLt
    have hz0 : (z 0).val < 4096 := (z 0).isLt
    refine (group_apply (n := 4) (l := 1024) (by norm_num) _ _ _ _ z).trans ?_
    refine (at2_eq (n := 4096) (l := 1024) _ (ix2 ⟨(z 0).val % 1024 * 4 + (z 0).val / 1024, by omega⟩ (z 1)) rfl rfl).symm.trans ?_
    exact cols_apply o (dhA m c) h _
  fin_cases p
  · exact e _ slices_S4096x16384_S4096x1024_0_1024
  · exact e _ slices_S4096x16384_S4096x1024_0_4096
  · exact e _ slices_S4096x16384_S4096x1024_0_7168

theorem arr_2 (y : S3x16x256x1024.Idx) : V m c main_v66 y = at2 (dhA m c) ((y 2).val * 16 + (y 1).val) (1024 * (3 * (y 0).val + 2) + (y 3).val) := by
  rw [host_2]
  refine arr_apply (n := 16) (l := 256) (by norm_num) (dhA m c) _ 2 ?_ _ y
  intro p z
  have e : ∀ (o : ℕ) (h : S4096x16384.Slices ![0, o] S4096x1024), grp16 o (dhA m c) h z = at2 (dhA m c) ((z 0).val % 256 * 16 + (z 0).val / 256) (o + (z 1).val) := by
    intro o h
    have hz : (z 1).val < 1024 := (z 1).isLt
    have hz0 : (z 0).val < 4096 := (z 0).isLt
    refine (group_apply (n := 16) (l := 256) (by norm_num) _ _ _ _ z).trans ?_
    refine (at2_eq (n := 4096) (l := 1024) _ (ix2 ⟨(z 0).val % 256 * 16 + (z 0).val / 256, by omega⟩ (z 1)) rfl rfl).symm.trans ?_
    exact cols_apply o (dhA m c) h _
  fin_cases p
  · exact e _ slices_S4096x16384_S4096x1024_0_2048
  · exact e _ slices_S4096x16384_S4096x1024_0_5120
  · exact e _ slices_S4096x16384_S4096x1024_0_8192

theorem arr_3 (y : S4096x1024.Idx) : V m c main_v56 y = at2 (dhA m c) (y 0).val (9216 + (y 1).val) := by
  rw [host_3]; exact cols_apply 9216 (dhA m c) _ y
theorem arr_4 (y : S4096x1024.Idx) : V m c main_v57 y = at2 (dhA m c) (y 0).val (10240 + (y 1).val) := by
  rw [host_4]; exact cols_apply 10240 (dhA m c) _ y
theorem arr_5 (y : S4096x1024.Idx) : V m c main_v58 y = at2 (dhA m c) (y 0).val (11264 + (y 1).val) := by
  rw [host_5]; exact cols_apply 11264 (dhA m c) _ y
theorem arr_6 (y : S4096x2048.Idx) : V m c main_v59 y = at2 (dhA m c) (y 0).val (12288 + (y 1).val) := by
  rw [host_6]; exact cols_apply 12288 (dhA m c) _ y
theorem arr_7 (y : S4096x2048.Idx) : V m c main_v60 y = at2 (dhA m c) (y 0).val (14336 + (y 1).val) := by
  rw [host_7]; exact cols_apply 14336 (dhA m c) _ y

theorem arr_8 (y : S4x2048x4096.Idx) : V m c main_v63 y = at2 (wA m c) (y 1).val (4096 * (y 0).val + (y 2).val) := by
  rw [host_8]
  have h0 : (y 0).val < 4 := (y 0).isLt
  have h2 : (y 2).val < 4096 := (y 2).isLt
  refine (transpose_apply [1, 0, 2] _ _ y (ix3 (y 1) (y 0) (y 2)) (fun b => by fin_cases b <;> rfl)).trans ?_
  refine (shapeCast_apply (wA m c) _ _ (ix2 (y 1) ⟨4096 * (y 0).val + (y 2).val, by omega⟩) ?_).trans ?_
  · refine (Shape.rowMajor_val_two (d := ![2048, 16384]) _).trans (Eq.trans ?_ (Shape.rowMajor_val_three (d := ![2048, 4, 4096]) _).symm)
    show (y 1).val * 16384 + (4096 * (y 0).val + (y 2).val) = ((y 1).val * 4 + (y 0).val) * 4096 + (y 2).val
    ring
  · exact at2_eq (n := 2048) (l := 16384) (wA m c) _ rfl rfl

theorem arr_9 (y : S4096x2048.Idx) : V m c main_arg1 y = at2 (drA m c) (y 0).val (y 1).val := by
  rw [host_9]; exact at2_eq (n := 4096) (l := 2048) (drA m c) y rfl rfl

end

end Cert.Kernel2Ideal.Step
-- ==== Proof.XScratch.lean ====
/-
  A scratch written a residue at a time and read a slab at a time.

  The eight slabs of 128 lanes are written, for each of `n` residues, by a store of every `n`-th row, and read whole. When every
  store is a block of one function of the scratch's index, a read of a slab is that function there.
-/
module

public import proofs.«01_k».proof.Proof.XPay

@[expose] public section

noncomputable section

open Idealize.ShloMosaic hiding ix2 ix3 ix4 eq_ix2 eq_ix3 eq_ix4
open Idealize.ShloMosaic.TcCoe Idealize.ShloMosaic.ValueIdx Idealize.SL.Sem

namespace Cert.Kernel2Ideal.Step

open Cert.Kernel2Ideal.Gen

/-- A store's offsets, sizes and strides. -/
def key (p : View.Piece (Elt Ideal) S8x512x128 .f32) : List ℕ :=
  [p.1.off 0, p.1.off 1, p.1.off 2, p.1.size 0, p.1.size 1, p.1.size 2, p.1.stride 0, p.1.stride 1, p.1.stride 2]

/-- The stores of every residue, the last first. -/
def keys (n l : ℕ) : List (List ℕ) := (List.range (8 * n)).reverse.map fun k => [k % 8, k / 8, 0, 1, l, 128, 1, n, 1]

theorem slab_covered {n l : ℕ} (hn : n * l = 512) (L : List (View.Piece (Elt Ideal) S8x512x128 .f32)) (hk : L.map key = keys n l)
    (y : S8x512x128.Idx) : ∃ p ∈ L, y ∈ p.1.set := by
  have h0 : (y 0).val < 8 := (y 0).isLt
  have h1 : (y 1).val < 512 := (y 1).isLt
  have h2 : (y 2).val < 128 := (y 2).isLt
  have hpos : 0 < n := Nat.pos_of_ne_zero fun h => by simp [h] at hn
  have hr : (y 1).val % n < n := Nat.mod_lt _ hpos
  have hq : (y 1).val / n < l := Nat.div_lt_of_lt_mul (by rw [hn]; exact h1)
  have hm : [(y 0).val, (y 1).val % n, 0, 1, l, 128, 1, n, 1] ∈ L.map key := by
    rw [hk]
    refine List.mem_map.2 ⟨8 * ((y 1).val % n) + (y 0).val, ?_, ?_⟩
    · rw [List.mem_reverse, List.mem_range]; omega
    · rw [show (8 * ((y 1).val % n) + (y 0).val) % 8 = (y 0).val by omega,
        show (8 * ((y 1).val % n) + (y 0).val) / 8 = (y 1).val % n by omega]
  obtain ⟨p, hp, he⟩ := List.mem_map.1 hm
  refine ⟨p, hp, ?_⟩
  unfold key at he
  simp only [List.cons.injEq, and_true] at he
  obtain ⟨a0, a1, a2, b0, b1, b2, c0, c1, c2⟩ := he
  rw [LoadRect.mem_set]
  intro a
  fin_cases a
  · exact ⟨0, by show 0 < p.1.size 0; omega, by show (y 0).val = p.1.off 0 + p.1.stride 0 * 0; omega⟩
  · refine ⟨(y 1).val / n, by show _ < p.1.size 1; omega, ?_⟩
    show (y 1).val = p.1.off 1 + p.1.stride 1 * ((y 1).val / n)
    rw [a1, c1]
    exact (Nat.mod_add_div _ _).symm
  · exact ⟨(y 2).val, by show _ < p.1.size 2; omega, by show (y 2).val = p.1.off 2 + p.1.stride 2 * (y 2).val; rw [a2, c2]; omega⟩

theorem slab_read {n l : ℕ} (hn : n * l = 512) {sg : RefSig} {κ : Kind} {sp : Space} (v : View sg κ sp S8x512x128 .f32)
    (L : List (View.Piece (Elt Ideal) S8x512x128 .f32))
    (G : S8x512x128.Idx → EReal) (hG : View.PiecesOf (Val := Elt Ideal) (e := .f32) G L) (hk : L.map key = keys n l) (c : Fin 8)
    {inb : ∀ a, (![c.val, 0, 0] : Fin 3 → ℕ) a + S1x512x128.size a ≤ S8x512x128.size a} (y : S1x512x128.Idx) :
    v.readCov L (Rect.unit (s := S8x512x128) ![c.val, 0, 0] S1x512x128.size inb).toLoadRect y = G (ix3 c (y 1) (y 2)) := by
  rw [View.readCov_eq_canon']
  refine (View.canon_apply_of_pieces (Val := Elt Ideal) (e := .f32) G L hG.mem _ (slab_covered hn L hk _)).trans (congrArg G ?_)
  have hy : (y 0).val < 1 := (y 0).isLt
  funext a
  refine Fin.ext ((Rect.idx_unit_val _ _ inb y a).trans ?_)
  fin_cases a
  · show c.val + (y 0).val = c.val; omega
  · show 0 + (y 1).val = (y 1).val; omega
  · show 0 + (y 2).val = (y 2).val; omega

/-- One store of the scratch: residue `r`, slab `q`, is a block of the rows of the group in the order of the tokens. -/
theorem store_block {n l : ℕ} (hn : n * l = 512) (x : (⟨4, ![1, n, l, 1024]⟩ : Shape).Idx → EReal) (r o q : ℕ) (hr : r < n) (hq : q < 8) (ho : o = 128 * q)
    (v : (⟨4, ![1, 1, l, 1024]⟩ : Shape).Idx → EReal) (hv : ∀ (p : Fin l) (e : Fin 1024), v (ix4 0 0 p e) = x (ix4 0 ⟨r, hr⟩ p e))
    (y : S8x512x128.Idx) (z : (⟨3, ![1, l, 128]⟩ : Shape).Idx) (e0 : (y 0).val = q) (e1 : (y 1).val = r + n * (z 1).val) (e2 : (y 2).val = (z 2).val) (hb : o + (z 2).val < 1024) :
    v (ix4 0 0 (z 1) ⟨o + (z 2).val, hb⟩) = plane (rowsN hn x) y := by
  have hpos : 0 < n := Nat.pos_of_ne_zero fun h => by simp [h] at hn
  refine (hv _ _).trans ?_
  unfold plane rowsN
  refine congrArg x ?_
  funext a
  fin_cases a
  · rfl
  · refine Fin.ext ?_
    show r = (y 1).val % n
    rw [e1, Nat.add_mul_mod_self_left, Nat.mod_eq_of_lt hr]
  · refine Fin.ext ?_
    show (z 1).val = (y 1).val / n
    rw [e1, Nat.add_mul_div_left _ _ hpos, Nat.div_eq_of_lt hr, Nat.zero_add]
  · refine Fin.ext ?_
    show o + (z 2).val = 128 * (y 0).val + (y 2).val
    rw [e0, e2, ho]

end Cert.Kernel2Ideal.Step
-- ==== Proof.XStep.lean ====
/-
  What each case of a grid point leaves in the accumulator: one step of the product, by the rows that case takes.
-/
module

public import proofs.«01_k».proof.Proof.XScratch
public import proofs.«01_k».proof.Proof.Gen.Kernel2Ideal.Frame

@[expose] public section

noncomputable section

open Idealize.ShloMosaic hiding ix2 ix3 ix4 eq_ix2 eq_ix3 eq_ix4
open Idealize.ShloMosaic.TcCoe Idealize.ShloMosaic.ValueIdx Idealize.ShloMosaic.Tactic Idealize.SL.Sem

namespace Cert.Kernel2Ideal.Step

open Cert.Kernel2Ideal.Gen

set_option maxHeartbeats 4000000
set_option maxRecDepth 16384

section
variable (c : Dev nD) (i : grid0.Coords)
  (arg2 : Memref sig .tc .vmem S1x1x512x1024 .bf16) (harg2 : arg2.IsWhole)
  (arg3 : Memref sig .tc .vmem S1x4x128x1024 .bf16) (harg3 : arg3.IsWhole)
  (arg4 : Memref sig .tc .vmem S1x16x32x1024 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S1x2048x1024 .bf16) (harg10 : arg10.IsWhole)
  (arg11 : Memref sig .tc .vmem S512x2048 .f32) (harg11 : arg11.IsWhole)
  (arg12 : Memref sig .tc .vmem S512x2048 .f32) (harg12 : arg12.IsWhole)
  (arg13 : Memref sig .tc .vmem S512x2048 .f32) (harg13 : arg13.IsWhole)
  (arg14 : Memref sig .tc .vmem S8x512x128 .f32) (harg14 : arg14.IsWhole)
variable (x0 : Vec Ideal S1x1x512x1024 .bf16) (x1 : Vec Ideal S1x4x128x1024 .bf16) (x2 : Vec Ideal S1x16x32x1024 .bf16) (x3 : Vec Ideal S512x1024 .bf16) (x4 : Vec Ideal S512x1024 .bf16) (x5 : Vec Ideal S512x1024 .bf16) (x6 : Vec Ideal S512x1024 .bf16) (x7 : Vec Ideal S512x1024 .bf16) (x8 : Vec Ideal S1x2048x1024 .bf16) (x9 : Vec Ideal S512x2048 .f32)
variable (xs0 : Vec Ideal S512x2048 .f32)

theorem s_A (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 = stepV (rows1 x0) x8 (startV x9) := by
  unfold sout0_A_0
  frame_out
  rw [pay_start]
  exact pay_first _ _ _

theorem s_D (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) :
    sout0_D_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV (rows1 x0) x8 xs0 := by
  unfold sout0_D_0
  frame_out
  exact pay_first _ _ _

theorem s_E (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i) (hc9 : ¬cond0_9 i) :
    sout0_E_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV x3 x8 xs0 := by
  unfold sout0_E_0
  frame_out
  exact pay_plain _ _ _

theorem s_F (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : ¬cond0_9 i) :
    sout0_F_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV x4 x8 xs0 := by
  unfold sout0_F_0
  frame_out
  exact pay_plain _ _ _

theorem s_G (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i) (hc9 : ¬cond0_9 i) :
    sout0_G_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV x5 x8 xs0 := by
  unfold sout0_G_0
  frame_out
  exact pay_plain _ _ _

theorem s_H (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i) (hc9 : ¬cond0_9 i) :
    sout0_H_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV x6 x8 xs0 := by
  unfold sout0_H_0
  frame_out
  exact pay_plain _ _ _

theorem s_I (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : ¬cond0_9 i) :
    sout0_I_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV x7 x8 xs0 := by
  unfold sout0_I_0
  frame_out
  exact pay_plain _ _ _

theorem s_J (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : cond0_9 i) :
    sout0_J_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV x7 x8 xs0 := by
  unfold sout0_J_0
  frame_out
  exact pay_plain _ _ _

theorem o_J (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : cond0_9 i) :
    out0_J_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV x7 x8 xs0 := by
  unfold out0_J_10
  frame_out
  exact pay_plain _ _ _

end

end Cert.Kernel2Ideal.Step
-- ==== Proof.XFill.lean ====
/-
  What the two cases that go through the scratch leave in the accumulator.

  The dilated groups' rows are written into the scratch 128 lanes of one residue at a time, and read back a slab at a time.
-/
module

public import proofs.«01_k».proof.Proof.XScratch
public import proofs.«01_k».proof.Proof.Gen.Kernel2Ideal.Frame

@[expose] public section

noncomputable section

open Idealize.ShloMosaic hiding ix2 ix3 ix4 eq_ix2 eq_ix3 eq_ix4
open Idealize.ShloMosaic.TcCoe Idealize.ShloMosaic.ValueIdx Idealize.ShloMosaic.Tactic Idealize.SL.Sem

namespace Cert.Kernel2Ideal.Step

open Cert.Kernel2Ideal.Gen

set_option maxHeartbeats 4000000
set_option maxRecDepth 16384

/-- A load of one residue, all its rows. -/
theorem residue_load {n l : ℕ} {M : Memref sig .tc .vmem ⟨4, ![1, n, l, 1024]⟩ .bf16} {hM : M.IsWhole}
    (x : (⟨4, ![1, n, l, 1024]⟩ : Shape).Idx → EReal) (r : ℕ) (hr : r < n)
    {inb : ∀ a, (![0, r, 0, 0] : Fin 4 → ℕ) a + (![1, 1, l, 1024] : Fin 4 → ℕ) a ≤ (⟨4, ![1, n, l, 1024]⟩ : Shape).size a}
    (p : Fin l) (e : Fin 1024) :
    View.readAt (Elt Ideal) M.view (Rect.unit (s := ⟨4, ![1, n, l, 1024]⟩) ![0, r, 0, 0] ![1, 1, l, 1024] inb).toLoadRect (hM.unread x) (ix4 0 0 p e)
      = x (ix4 0 ⟨r, hr⟩ p e) := by
  rw [View.readAt_eq_ld, hM.read_unread]
  refine congrArg x ?_
  funext a
  refine Fin.ext ((Rect.idx_unit_val _ _ inb _ a).trans ?_)
  fin_cases a
  · rfl
  · rfl
  · show 0 + p.val = p.val; omega
  · show 0 + e.val = e.val; omega

/-- One store of the scratch is a block of the rows in the order of the tokens. -/
theorem lanes_piece {n l : ℕ} (hn : n * l = 512) {M : Memref sig .tc .vmem ⟨4, ![1, n, l, 1024]⟩ .bf16} {hM : M.IsWhole}
    (x : (⟨4, ![1, n, l, 1024]⟩ : Shape).Idx → EReal) {r o q : ℕ} (hr : r < n) (hq : q < 8) (ho : o = 128 * q)
    {inb : ∀ a, (![0, r, 0, 0] : Fin 4 → ℕ) a + (![1, 1, l, 1024] : Fin 4 → ℕ) a ≤ (⟨4, ![1, n, l, 1024]⟩ : Shape).size a}
    {h1 : (⟨4, ![1, 1, l, 1024]⟩ : Shape).ShapeCasts ⟨2, ![l, 1024]⟩} {h2 : (⟨2, ![l, 1024]⟩ : Shape).Slices ![0, o] ⟨2, ![l, 128]⟩}
    {h3 : (⟨2, ![l, 128]⟩ : Shape).ShapeCasts ⟨3, ![1, l, 128]⟩} {inb' pos'} : ∀ z : (⟨3, ![1, l, 128]⟩ : Shape).Idx,
    shapeCast (⟨3, ![1, l, 128]⟩ : Shape) (extractStridedSlice (⟨2, ![l, 128]⟩ : Shape) ![0, o]
      (shapeCast (⟨2, ![l, 1024]⟩ : Shape)
        (View.readAt (Elt Ideal) M.view (Rect.unit (s := ⟨4, ![1, n, l, 1024]⟩) ![0, r, 0, 0] ![1, 1, l, 1024] inb).toLoadRect (hM.unread x)) h1) h2) h3 z
      = plane (rowsN hn x) (Rect.emb (s := S8x512x128) ({ off := ![q, r, 0], size := ![1, l, 128], stride := ![1, n, 1], inb := inb', stride_pos := pos' } : Rect S8x512x128) z) := by
  intro z
  have hz0 : (z 0).val < 1 := (z 0).isLt
  have hz2 : (z 2).val < 128 := (z 2).isLt
  refine (lanes_apply (L := l) _ o h1 h2 h3 (by omega) z).trans ?_
  refine store_block hn x r o q hr hq ho _ (residue_load (M := M) (hM := hM) x r hr (inb := inb)) _ z ?_ ?_ ?_ (by omega)
  · show q + 1 * (z 0).val = q; omega
  · show r + n * (z 1).val = r + n * (z 1).val; rfl
  · show 0 + 1 * (z 2).val = (z 2).val; omega

theorem second_read {n l : ℕ} (hn : n * l = 512) (x : (⟨4, ![1, n, l, 1024]⟩ : Shape).Idx → EReal) (acc : Vec Ideal S512x2048 .f32)
    (w : Vec Ideal S1x2048x1024 .bf16) {acc' : Vec Ideal S512x2048 .f32} {w' : Vec Ideal S1x2048x1024 .bf16}
    {sg : RefSig} {κ : Kind} {sp : Space} (v : View sg κ sp S8x512x128 .f32) (L : List (View.Piece (Elt Ideal) S8x512x128 .f32))
    (hG : View.PiecesOf (Val := Elt Ideal) (e := .f32) (plane (rowsN hn x)) L) (hk : L.map key = keys n l) (ha : acc' = acc) (hw : w' = w)
    {b0 b1 b2 b3 b4 b5 b6 b7} :
    k0_pay208 (F := Ideal) (k0_pay45 (v.readCov L (Rect.unit (s := S8x512x128) ![0, 0, 0] S1x512x128.size b0).toLoadRect))
      (k0_pay46 (v.readCov L (Rect.unit (s := S8x512x128) ![1, 0, 0] S1x512x128.size b1).toLoadRect))
      (k0_pay47 (v.readCov L (Rect.unit (s := S8x512x128) ![2, 0, 0] S1x512x128.size b2).toLoadRect))
      (v.readCov L (Rect.unit (s := S8x512x128) ![3, 0, 0] S1x512x128.size b3).toLoadRect)
      (v.readCov L (Rect.unit (s := S8x512x128) ![4, 0, 0] S1x512x128.size b4).toLoadRect)
      (v.readCov L (Rect.unit (s := S8x512x128) ![5, 0, 0] S1x512x128.size b5).toLoadRect)
      (v.readCov L (Rect.unit (s := S8x512x128) ![6, 0, 0] S1x512x128.size b6).toLoadRect)
      (v.readCov L (Rect.unit (s := S8x512x128) ![7, 0, 0] S1x512x128.size b7).toLoadRect) acc' w' = stepV (rowsN hn x) w acc := by
  subst ha hw
  refine pay_second (rowsN hn x) _ _ _ _ _ _ _ _ acc' w' ?_ ?_ ?_ ?_ ?_ ?_ ?_ ?_
  · exact slab_cast _ 0 _ fun y => slab_read hn v L _ hG hk 0 y
  · exact slab_cast _ 1 _ fun y => slab_read hn v L _ hG hk 1 y
  · exact slab_cast _ 2 _ fun y => slab_read hn v L _ hG hk 2 y
  · exact fun y => slab_read hn v L _ hG hk 3 y
  · exact fun y => slab_read hn v L _ hG hk 4 y
  · exact fun y => slab_read hn v L _ hG hk 5 y
  · exact fun y => slab_read hn v L _ hG hk 6 y
  · exact fun y => slab_read hn v L _ hG hk 7 y

theorem third_read {n l : ℕ} (hn : n * l = 512) (x : (⟨4, ![1, n, l, 1024]⟩ : Shape).Idx → EReal) (acc : Vec Ideal S512x2048 .f32)
    (w : Vec Ideal S1x2048x1024 .bf16) {acc' : Vec Ideal S512x2048 .f32} {w' : Vec Ideal S1x2048x1024 .bf16}
    {sg : RefSig} {κ : Kind} {sp : Space} (v : View sg κ sp S8x512x128 .f32) (L : List (View.Piece (Elt Ideal) S8x512x128 .f32))
    (hG : View.PiecesOf (Val := Elt Ideal) (e := .f32) (plane (rowsN hn x)) L) (hk : L.map key = keys n l) (ha : acc' = acc) (hw : w' = w)
    {b0 b1 b2 b3 b4 b5 b6 b7} :
    k0_pay209 (F := Ideal) (k0_pay205 (v.readCov L (Rect.unit (s := S8x512x128) ![0, 0, 0] S1x512x128.size b0).toLoadRect)
      (v.readCov L (Rect.unit (s := S8x512x128) ![1, 0, 0] S1x512x128.size b1).toLoadRect)
      (v.readCov L (Rect.unit (s := S8x512x128) ![2, 0, 0] S1x512x128.size b2).toLoadRect)
      (v.readCov L (Rect.unit (s := S8x512x128) ![3, 0, 0] S1x512x128.size b3).toLoadRect)
      (v.readCov L (Rect.unit (s := S8x512x128) ![4, 0, 0] S1x512x128.size b4).toLoadRect)
      (v.readCov L (Rect.unit (s := S8x512x128) ![5, 0, 0] S1x512x128.size b5).toLoadRect)
      (v.readCov L (Rect.unit (s := S8x512x128) ![6, 0, 0] S1x512x128.size b6).toLoadRect)
      (v.readCov L (Rect.unit (s := S8x512x128) ![7, 0, 0] S1x512x128.size b7).toLoadRect)) acc' w' = stepV (rowsN hn x) w acc := by
  subst ha hw
  refine pay_third (rowsN hn x)
    ![v.readCov L (Rect.unit (s := S8x512x128) ![0, 0, 0] S1x512x128.size b0).toLoadRect,
      v.readCov L (Rect.unit (s := S8x512x128) ![1, 0, 0] S1x512x128.size b1).toLoadRect,
      v.readCov L (Rect.unit (s := S8x512x128) ![2, 0, 0] S1x512x128.size b2).toLoadRect,
      v.readCov L (Rect.unit (s := S8x512x128) ![3, 0, 0] S1x512x128.size b3).toLoadRect,
      v.readCov L (Rect.unit (s := S8x512x128) ![4, 0, 0] S1x512x128.size b4).toLoadRect,
      v.readCov L (Rect.unit (s := S8x512x128) ![5, 0, 0] S1x512x128.size b5).toLoadRect,
      v.readCov L (Rect.unit (s := S8x512x128) ![6, 0, 0] S1x512x128.size b6).toLoadRect,
      v.readCov L (Rect.unit (s := S8x512x128) ![7, 0, 0] S1x512x128.size b7).toLoadRect] acc' w' ?_
  intro c y
  fin_cases c
  · exact slab_read hn v L _ hG hk 0 y
  · exact slab_read hn v L _ hG hk 1 y
  · exact slab_read hn v L _ hG hk 2 y
  · exact slab_read hn v L _ hG hk 3 y
  · exact slab_read hn v L _ hG hk 4 y
  · exact slab_read hn v L _ hG hk 5 y
  · exact slab_read hn v L _ hG hk 6 y
  · exact slab_read hn v L _ hG hk 7 y

section
variable (c : Dev nD) (i : grid0.Coords)
  (arg2 : Memref sig .tc .vmem S1x1x512x1024 .bf16) (harg2 : arg2.IsWhole)
  (arg3 : Memref sig .tc .vmem S1x4x128x1024 .bf16) (harg3 : arg3.IsWhole)
  (arg4 : Memref sig .tc .vmem S1x16x32x1024 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S1x2048x1024 .bf16) (harg10 : arg10.IsWhole)
  (arg11 : Memref sig .tc .vmem S512x2048 .f32) (harg11 : arg11.IsWhole)
  (arg12 : Memref sig .tc .vmem S512x2048 .f32) (harg12 : arg12.IsWhole)
  (arg13 : Memref sig .tc .vmem S512x2048 .f32) (harg13 : arg13.IsWhole)
  (arg14 : Memref sig .tc .vmem S8x512x128 .f32) (harg14 : arg14.IsWhole)
variable (x0 : Vec Ideal S1x1x512x1024 .bf16) (x1 : Vec Ideal S1x4x128x1024 .bf16) (x2 : Vec Ideal S1x16x32x1024 .bf16) (x3 : Vec Ideal S512x1024 .bf16) (x4 : Vec Ideal S512x1024 .bf16) (x5 : Vec Ideal S512x1024 .bf16) (x6 : Vec Ideal S512x1024 .bf16) (x7 : Vec Ideal S512x1024 .bf16) (x8 : Vec Ideal S1x2048x1024 .bf16) (x9 : Vec Ideal S512x2048 .f32)
variable (xs0 : Vec Ideal S512x2048 .f32)

theorem s_B (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV (rowsN (n := 4) (l := 128) (by norm_num) x1) x8 xs0 := by
  unfold sout0_B_0
  rw [View.read_writes_junk_eq_canon]
  frame_open
  refine (View.canon_cons_unit_lit _ _ _ (by decide)).trans ?_
  refine second_read (n := 4) (l := 128) (by norm_num) x1 xs0 x8 _ _ ?_ ?_ ?_ ?_
  · iterate 32 refine ⟨lanes_piece (n := 4) (l := 128) (by norm_num) (M := arg3) (hM := harg3) x1 (by norm_num) (by norm_num) (by norm_num) (h2 := by decide), ?_⟩
    exact trivial
  · sl_kernel_rfl
  · rw [View.readAt_eq_ld, harg13.read_unread]
    exact View.ld_unit_lit _ _ (by decide)
  · rw [View.readAt_eq_ld, harg10.read_unread]
    exact View.ld_unit_lit _ _ (by decide)

theorem s_C (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i) (hc9 : ¬cond0_9 i) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 x0 x1 x2 x3 x4 x5 x6 x7 x8 x9 xs0 = stepV (rowsN (n := 16) (l := 32) (by norm_num) x2) x8 xs0 := by
  unfold sout0_C_0
  rw [View.read_writes_junk_eq_canon]
  frame_open
  refine (View.canon_cons_unit_lit _ _ _ (by decide)).trans ?_
  refine third_read (n := 16) (l := 32) (by norm_num) x2 xs0 x8 _ _ ?_ ?_ ?_ ?_
  · iterate 128 refine ⟨lanes_piece (n := 16) (l := 32) (by norm_num) (M := arg4) (hM := harg4) x2 (by norm_num) (by norm_num) (by norm_num) (h2 := by decide), ?_⟩
    exact trivial
  · sl_kernel_rfl
  · rw [View.readAt_eq_ld, harg13.read_unread]
    exact View.ld_unit_lit _ _ (by decide)
  · rw [View.readAt_eq_ld, harg10.read_unread]
    exact View.ld_unit_lit _ _ (by decide)

end

end Cert.Kernel2Ideal.Step
-- ==== Proof.XArray.lean ====
/-
  A grid point's blocks are rows and columns of the call's arguments, and each point adds one block of columns to the product.

  Point `t` takes rows `512 (t / 16)`, … of the gradient, in the order of the tokens, and columns `1024 (t % 16)`, … of the gradient
  and of the weights.
-/
module

public import proofs.«01_k».proof.Proof.XHost
public import proofs.«01_k».proof.Proof.XStep
public import proofs.«01_k».proof.Proof.XFill
public import proofs.«01_k».proof.Proof.Gen.Kernel2Ideal.Value

@[expose] public section

set_option maxRecDepth 16384

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel2Ideal.Step

open Cert.Kernel2Ideal.Gen

/-- The gradient's block of point `t`. -/
def rowsT (dh : S4096x16384.Idx → EReal) (t : ℕ) : S512x1024.Idx → EReal := fun y => at2 dh (512 * (t / 16) + (y 0).val) (1024 * (t % 16) + (y 1).val)
/-- The weights' block of point `t`. -/
def wT (w : S2048x16384.Idx → EReal) (t : ℕ) : S1x2048x1024.Idx → EReal := fun z => at2 w (z 1).val (1024 * (t % 16) + (z 2).val)
/-- The residual's block of point `t`. -/
def drT (dr : S4096x2048.Idx → EReal) (t : ℕ) : S512x2048.Idx → EReal := fun y => at2 dr (512 * (t / 16) + (y 0).val) (y 1).val

variable (m : (ℓ : Loc nD τ sig) → Buf (Elt Ideal) ℓ) (c : Dev nD)

/-! ## Where a window's block lies -/

theorem ix_0 : ∀ t : Fin cfg0.N, (t.val % 16 = 0 ∨ t.val % 16 = 3 ∨ t.val % 16 = 6) → win0_0.index t 0 = t.val % 16 / 3 ∧ win0_0.index t 1 = 0 ∧ win0_0.index t 2 = t.val / 16 ∧ win0_0.index t 3 = 0 := by
  decide +kernel
theorem ix_1 : ∀ t : Fin cfg0.N, (t.val % 16 = 1 ∨ t.val % 16 = 4 ∨ t.val % 16 = 7) → win0_1.index t 0 = t.val % 16 / 3 ∧ win0_1.index t 1 = 0 ∧ win0_1.index t 2 = t.val / 16 ∧ win0_1.index t 3 = 0 := by
  decide +kernel
theorem ix_2 : ∀ t : Fin cfg0.N, (t.val % 16 = 2 ∨ t.val % 16 = 5 ∨ t.val % 16 = 8) → win0_2.index t 0 = t.val % 16 / 3 ∧ win0_2.index t 1 = 0 ∧ win0_2.index t 2 = t.val / 16 ∧ win0_2.index t 3 = 0 := by
  decide +kernel
theorem ix_3 : ∀ t : Fin cfg0.N, t.val % 16 = 9 → win0_3.index t 0 = t.val / 16 ∧ win0_3.index t 1 = 0 := by
  decide +kernel
theorem ix_4 : ∀ t : Fin cfg0.N, t.val % 16 = 10 → win0_4.index t 0 = t.val / 16 ∧ win0_4.index t 1 = 0 := by
  decide +kernel
theorem ix_5 : ∀ t : Fin cfg0.N, t.val % 16 = 11 → win0_5.index t 0 = t.val / 16 ∧ win0_5.index t 1 = 0 := by
  decide +kernel
theorem ix_6 : ∀ t : Fin cfg0.N, (12 ≤ t.val % 16 ∧ t.val % 16 ≤ 13) → win0_6.index t 0 = t.val / 16 ∧ win0_6.index t 1 = t.val % 16 - 12 := by
  decide +kernel
theorem ix_7 : ∀ t : Fin cfg0.N, 14 ≤ t.val % 16 → win0_7.index t 0 = t.val / 16 ∧ win0_7.index t 1 = t.val % 16 - 14 := by
  decide +kernel
theorem ix_8 : ∀ t : Fin cfg0.N, win0_8.index t 0 = t.val % 16 / 4 ∧ win0_8.index t 1 = 0 ∧ win0_8.index t 2 = t.val % 16 % 4 := by
  decide +kernel
theorem ix_9 : ∀ t : Fin cfg0.N, win0_9.index t 0 = t.val / 16 ∧ win0_9.index t 1 = 0 := by
  decide +kernel

theorem rd_0 (X : S3x1x4096x1024.Idx → Elt Ideal .bf16) (t : Fin cfg0.N) (y : S1x1x512x1024.Idx) :
    ((cfg0.win 0).blk t).view.read (Elt Ideal) X y = X ((win0_0.blk t).view.emb y) := rfl
theorem blk_0 (t : Fin cfg0.N) (y : S1x1x512x1024.Idx) : iblk m c 0 t y = V m c main_v64 ((win0_0.blk t).view.emb y) :=
  rd_0 (V m c main_v64) t y
theorem rd_1 (X : S3x4x1024x1024.Idx → Elt Ideal .bf16) (t : Fin cfg0.N) (y : S1x4x128x1024.Idx) :
    ((cfg0.win 1).blk t).view.read (Elt Ideal) X y = X ((win0_1.blk t).view.emb y) := rfl
theorem blk_1 (t : Fin cfg0.N) (y : S1x4x128x1024.Idx) : iblk m c 1 t y = V m c main_v65 ((win0_1.blk t).view.emb y) :=
  rd_1 (V m c main_v65) t y
theorem rd_2 (X : S3x16x256x1024.Idx → Elt Ideal .bf16) (t : Fin cfg0.N) (y : S1x16x32x1024.Idx) :
    ((cfg0.win 2).blk t).view.read (Elt Ideal) X y = X ((win0_2.blk t).view.emb y) := rfl
theorem blk_2 (t : Fin cfg0.N) (y : S1x16x32x1024.Idx) : iblk m c 2 t y = V m c main_v66 ((win0_2.blk t).view.emb y) :=
  rd_2 (V m c main_v66) t y
theorem rd_3 (X : S4096x1024.Idx → Elt Ideal .bf16) (t : Fin cfg0.N) (y : S512x1024.Idx) :
    ((cfg0.win 3).blk t).view.read (Elt Ideal) X y = X ((win0_3.blk t).view.emb y) := rfl
theorem blk_3 (t : Fin cfg0.N) (y : S512x1024.Idx) : iblk m c 3 t y = V m c main_v56 ((win0_3.blk t).view.emb y) :=
  rd_3 (V m c main_v56) t y
theorem rd_4 (X : S4096x1024.Idx → Elt Ideal .bf16) (t : Fin cfg0.N) (y : S512x1024.Idx) :
    ((cfg0.win 4).blk t).view.read (Elt Ideal) X y = X ((win0_4.blk t).view.emb y) := rfl
theorem blk_4 (t : Fin cfg0.N) (y : S512x1024.Idx) : iblk m c 4 t y = V m c main_v57 ((win0_4.blk t).view.emb y) :=
  rd_4 (V m c main_v57) t y
theorem rd_5 (X : S4096x1024.Idx → Elt Ideal .bf16) (t : Fin cfg0.N) (y : S512x1024.Idx) :
    ((cfg0.win 5).blk t).view.read (Elt Ideal) X y = X ((win0_5.blk t).view.emb y) := rfl
theorem blk_5 (t : Fin cfg0.N) (y : S512x1024.Idx) : iblk m c 5 t y = V m c main_v58 ((win0_5.blk t).view.emb y) :=
  rd_5 (V m c main_v58) t y
theorem rd_6 (X : S4096x2048.Idx → Elt Ideal .bf16) (t : Fin cfg0.N) (y : S512x1024.Idx) :
    ((cfg0.win 6).blk t).view.read (Elt Ideal) X y = X ((win0_6.blk t).view.emb y) := rfl
theorem blk_6 (t : Fin cfg0.N) (y : S512x1024.Idx) : iblk m c 6 t y = V m c main_v59 ((win0_6.blk t).view.emb y) :=
  rd_6 (V m c main_v59) t y
theorem rd_7 (X : S4096x2048.Idx → Elt Ideal .bf16) (t : Fin cfg0.N) (y : S512x1024.Idx) :
    ((cfg0.win 7).blk t).view.read (Elt Ideal) X y = X ((win0_7.blk t).view.emb y) := rfl
theorem blk_7 (t : Fin cfg0.N) (y : S512x1024.Idx) : iblk m c 7 t y = V m c main_v60 ((win0_7.blk t).view.emb y) :=
  rd_7 (V m c main_v60) t y
theorem rd_8 (X : S4x2048x4096.Idx → Elt Ideal .bf16) (t : Fin cfg0.N) (y : S1x2048x1024.Idx) :
    ((cfg0.win 8).blk t).view.read (Elt Ideal) X y = X ((win0_8.blk t).view.emb y) := rfl
theorem blk_8 (t : Fin cfg0.N) (y : S1x2048x1024.Idx) : iblk m c 8 t y = V m c main_v63 ((win0_8.blk t).view.emb y) :=
  rd_8 (V m c main_v63) t y
theorem rd_9 (X : S4096x2048.Idx → Elt Ideal .f32) (t : Fin cfg0.N) (y : S512x2048.Idx) :
    ((cfg0.win 9).blk t).view.read (Elt Ideal) X y = X ((win0_9.blk t).view.emb y) := rfl
theorem blk_9 (t : Fin cfg0.N) (y : S512x2048.Idx) : iblk m c 9 t y = V m c main_arg1 ((win0_9.blk t).view.emb y) :=
  rd_9 (V m c main_arg1) t y

/-! ## A point's blocks -/

theorem e_0 (t : Fin cfg0.N) (h : (t.val % 16 = 0 ∨ t.val % 16 = 3 ∨ t.val % 16 = 6)) (y : S1x1x512x1024.Idx) : ((win0_0.blk t).view.emb y 0).val = (t.val % 16 / 3) * 1 + (y 0).val ∧ ((win0_0.blk t).view.emb y 1).val = (0) * 1 + (y 1).val ∧ ((win0_0.blk t).view.emb y 2).val = (t.val / 16) * 512 + (y 2).val ∧ ((win0_0.blk t).view.emb y 3).val = (0) * 1024 + (y 3).val := by
  obtain ⟨i0, i1, i2, i3⟩ := ix_0 t h
  refine ⟨?_, ?_, ?_, ?_⟩
  · blk_simp; rw [i0] <;> omega
  · blk_simp; rw [i1] <;> omega
  · blk_simp; rw [i2] <;> omega
  · blk_simp; rw [i3] <;> omega
theorem e_1 (t : Fin cfg0.N) (h : (t.val % 16 = 1 ∨ t.val % 16 = 4 ∨ t.val % 16 = 7)) (y : S1x4x128x1024.Idx) : ((win0_1.blk t).view.emb y 0).val = (t.val % 16 / 3) * 1 + (y 0).val ∧ ((win0_1.blk t).view.emb y 1).val = (0) * 4 + (y 1).val ∧ ((win0_1.blk t).view.emb y 2).val = (t.val / 16) * 128 + (y 2).val ∧ ((win0_1.blk t).view.emb y 3).val = (0) * 1024 + (y 3).val := by
  obtain ⟨i0, i1, i2, i3⟩ := ix_1 t h
  refine ⟨?_, ?_, ?_, ?_⟩
  · blk_simp; rw [i0] <;> omega
  · blk_simp; rw [i1] <;> omega
  · blk_simp; rw [i2] <;> omega
  · blk_simp; rw [i3] <;> omega
theorem e_2 (t : Fin cfg0.N) (h : (t.val % 16 = 2 ∨ t.val % 16 = 5 ∨ t.val % 16 = 8)) (y : S1x16x32x1024.Idx) : ((win0_2.blk t).view.emb y 0).val = (t.val % 16 / 3) * 1 + (y 0).val ∧ ((win0_2.blk t).view.emb y 1).val = (0) * 16 + (y 1).val ∧ ((win0_2.blk t).view.emb y 2).val = (t.val / 16) * 32 + (y 2).val ∧ ((win0_2.blk t).view.emb y 3).val = (0) * 1024 + (y 3).val := by
  obtain ⟨i0, i1, i2, i3⟩ := ix_2 t h
  refine ⟨?_, ?_, ?_, ?_⟩
  · blk_simp; rw [i0] <;> omega
  · blk_simp; rw [i1] <;> omega
  · blk_simp; rw [i2] <;> omega
  · blk_simp; rw [i3] <;> omega
theorem e_3 (t : Fin cfg0.N) (h : t.val % 16 = 9) (y : S512x1024.Idx) : ((win0_3.blk t).view.emb y 0).val = (t.val / 16) * 512 + (y 0).val ∧ ((win0_3.blk t).view.emb y 1).val = (0) * 1024 + (y 1).val := by
  obtain ⟨i0, i1⟩ := ix_3 t h
  refine ⟨?_, ?_⟩
  · blk_simp; rw [i0] <;> omega
  · blk_simp; rw [i1] <;> omega
theorem e_4 (t : Fin cfg0.N) (h : t.val % 16 = 10) (y : S512x1024.Idx) : ((win0_4.blk t).view.emb y 0).val = (t.val / 16) * 512 + (y 0).val ∧ ((win0_4.blk t).view.emb y 1).val = (0) * 1024 + (y 1).val := by
  obtain ⟨i0, i1⟩ := ix_4 t h
  refine ⟨?_, ?_⟩
  · blk_simp; rw [i0] <;> omega
  · blk_simp; rw [i1] <;> omega
theorem e_5 (t : Fin cfg0.N) (h : t.val % 16 = 11) (y : S512x1024.Idx) : ((win0_5.blk t).view.emb y 0).val = (t.val / 16) * 512 + (y 0).val ∧ ((win0_5.blk t).view.emb y 1).val = (0) * 1024 + (y 1).val := by
  obtain ⟨i0, i1⟩ := ix_5 t h
  refine ⟨?_, ?_⟩
  · blk_simp; rw [i0] <;> omega
  · blk_simp; rw [i1] <;> omega
theorem e_6 (t : Fin cfg0.N) (h : (12 ≤ t.val % 16 ∧ t.val % 16 ≤ 13)) (y : S512x1024.Idx) : ((win0_6.blk t).view.emb y 0).val = (t.val / 16) * 512 + (y 0).val ∧ ((win0_6.blk t).view.emb y 1).val = (t.val % 16 - 12) * 1024 + (y 1).val := by
  obtain ⟨i0, i1⟩ := ix_6 t h
  refine ⟨?_, ?_⟩
  · blk_simp; rw [i0] <;> omega
  · blk_simp; rw [i1] <;> omega
theorem e_7 (t : Fin cfg0.N) (h : 14 ≤ t.val % 16) (y : S512x1024.Idx) : ((win0_7.blk t).view.emb y 0).val = (t.val / 16) * 512 + (y 0).val ∧ ((win0_7.blk t).view.emb y 1).val = (t.val % 16 - 14) * 1024 + (y 1).val := by
  obtain ⟨i0, i1⟩ := ix_7 t h
  refine ⟨?_, ?_⟩
  · blk_simp; rw [i0] <;> omega
  · blk_simp; rw [i1] <;> omega
theorem e_8 (t : Fin cfg0.N) (y : S1x2048x1024.Idx) : ((win0_8.blk t).view.emb y 0).val = (t.val % 16 / 4) * 1 + (y 0).val ∧ ((win0_8.blk t).view.emb y 1).val = (0) * 2048 + (y 1).val ∧ ((win0_8.blk t).view.emb y 2).val = (t.val % 16 % 4) * 1024 + (y 2).val := by
  obtain ⟨i0, i1, i2⟩ := ix_8 t
  refine ⟨?_, ?_, ?_⟩
  · blk_simp; rw [i0] <;> omega
  · blk_simp; rw [i1] <;> omega
  · blk_simp; rw [i2] <;> omega
theorem e_9 (t : Fin cfg0.N) (y : S512x2048.Idx) : ((win0_9.blk t).view.emb y 0).val = (t.val / 16) * 512 + (y 0).val ∧ ((win0_9.blk t).view.emb y 1).val = (0) * 2048 + (y 1).val := by
  obtain ⟨i0, i1⟩ := ix_9 t
  refine ⟨?_, ?_⟩
  · blk_simp; rw [i0] <;> omega
  · blk_simp; rw [i1] <;> omega

theorem r_0 (t : Fin cfg0.N) (h : (t.val % 16 = 0 ∨ t.val % 16 = 3 ∨ t.val % 16 = 6)) : rows1 (iblk m c 0 t) = rowsT (dhA m c) t.val := by
  funext y
  unfold rows1 rowsT
  refine (blk_0 m c t _).trans ((arr_0 m c _).trans ?_)
  obtain ⟨e0, e1, e2, e3⟩ := e_0 t h (ix4 0 0 (y 0) (y 1))
  rw [e0, e1, e2, e3]
  have hy : (y 0).val < 512 := (y 0).isLt
  have ht : t.val < 128 := t.isLt
  refine congrArg₂ (at2 (dhA m c)) ?_ ?_
  · show (t.val / 16 * 512 + (y 0).val) * 1 + (0 * 1 + 0) = _; omega
  · show 1024 * (3 * (t.val % 16 / 3 * 1 + 0) + 0) + (0 * 1024 + (y 1).val) = _; omega
theorem r_1 (t : Fin cfg0.N) (h : (t.val % 16 = 1 ∨ t.val % 16 = 4 ∨ t.val % 16 = 7)) : rowsN (n := 4) (l := 128) (by norm_num) (iblk m c 1 t) = rowsT (dhA m c) t.val := by
  funext y
  unfold rowsN rowsT
  refine (blk_1 m c t _).trans ((arr_1 m c _).trans ?_)
  obtain ⟨e0, e1, e2, e3⟩ := e_1 t h (ix4 0 ⟨(y 0).val % 4, Nat.mod_lt _ (by norm_num)⟩ ⟨(y 0).val / 4, Nat.div_lt_of_lt_mul (y 0).isLt⟩ (y 1))
  rw [e0, e1, e2, e3]
  have hy : (y 0).val < 512 := (y 0).isLt
  have ht : t.val < 128 := t.isLt
  refine congrArg₂ (at2 (dhA m c)) ?_ ?_
  · show (t.val / 16 * 128 + (y 0).val / 4) * 4 + (0 * 4 + (y 0).val % 4) = _; omega
  · show 1024 * (3 * (t.val % 16 / 3 * 1 + 0) + 1) + (0 * 1024 + (y 1).val) = _; omega
theorem r_2 (t : Fin cfg0.N) (h : (t.val % 16 = 2 ∨ t.val % 16 = 5 ∨ t.val % 16 = 8)) : rowsN (n := 16) (l := 32) (by norm_num) (iblk m c 2 t) = rowsT (dhA m c) t.val := by
  funext y
  unfold rowsN rowsT
  refine (blk_2 m c t _).trans ((arr_2 m c _).trans ?_)
  obtain ⟨e0, e1, e2, e3⟩ := e_2 t h (ix4 0 ⟨(y 0).val % 16, Nat.mod_lt _ (by norm_num)⟩ ⟨(y 0).val / 16, Nat.div_lt_of_lt_mul (y 0).isLt⟩ (y 1))
  rw [e0, e1, e2, e3]
  have hy : (y 0).val < 512 := (y 0).isLt
  have ht : t.val < 128 := t.isLt
  refine congrArg₂ (at2 (dhA m c)) ?_ ?_
  · show (t.val / 16 * 32 + (y 0).val / 16) * 16 + (0 * 16 + (y 0).val % 16) = _; omega
  · show 1024 * (3 * (t.val % 16 / 3 * 1 + 0) + 2) + (0 * 1024 + (y 1).val) = _; omega
theorem r_3 (t : Fin cfg0.N) (h : t.val % 16 = 9) : (iblk m c 3 t : S512x1024.Idx → EReal) = rowsT (dhA m c) t.val := by
  funext y
  unfold rowsT
  refine (blk_3 m c t y).trans ((arr_3 m c _).trans ?_)
  obtain ⟨e0, e1⟩ := e_3 t h y
  rw [e0, e1]
  exact congrArg₂ (at2 (dhA m c)) (by omega) (by omega)
theorem r_4 (t : Fin cfg0.N) (h : t.val % 16 = 10) : (iblk m c 4 t : S512x1024.Idx → EReal) = rowsT (dhA m c) t.val := by
  funext y
  unfold rowsT
  refine (blk_4 m c t y).trans ((arr_4 m c _).trans ?_)
  obtain ⟨e0, e1⟩ := e_4 t h y
  rw [e0, e1]
  exact congrArg₂ (at2 (dhA m c)) (by omega) (by omega)
theorem r_5 (t : Fin cfg0.N) (h : t.val % 16 = 11) : (iblk m c 5 t : S512x1024.Idx → EReal) = rowsT (dhA m c) t.val := by
  funext y
  unfold rowsT
  refine (blk_5 m c t y).trans ((arr_5 m c _).trans ?_)
  obtain ⟨e0, e1⟩ := e_5 t h y
  rw [e0, e1]
  exact congrArg₂ (at2 (dhA m c)) (by omega) (by omega)
theorem r_6 (t : Fin cfg0.N) (h : (12 ≤ t.val % 16 ∧ t.val % 16 ≤ 13)) : (iblk m c 6 t : S512x1024.Idx → EReal) = rowsT (dhA m c) t.val := by
  funext y
  unfold rowsT
  refine (blk_6 m c t y).trans ((arr_6 m c _).trans ?_)
  obtain ⟨e0, e1⟩ := e_6 t h y
  rw [e0, e1]
  exact congrArg₂ (at2 (dhA m c)) (by omega) (by omega)
theorem r_7 (t : Fin cfg0.N) (h : 14 ≤ t.val % 16) : (iblk m c 7 t : S512x1024.Idx → EReal) = rowsT (dhA m c) t.val := by
  funext y
  unfold rowsT
  refine (blk_7 m c t y).trans ((arr_7 m c _).trans ?_)
  obtain ⟨e0, e1⟩ := e_7 t h y
  rw [e0, e1]
  exact congrArg₂ (at2 (dhA m c)) (by omega) (by omega)
theorem r_8 (t : Fin cfg0.N) : (iblk m c 8 t : S1x2048x1024.Idx → EReal) = wT (wA m c) t.val := by
  funext y
  unfold wT
  refine (blk_8 m c t y).trans ((arr_8 m c _).trans ?_)
  obtain ⟨e0, e1, e2⟩ := e_8 t y
  have hy : (y 0).val < 1 := (y 0).isLt
  rw [e0, e1, e2]
  exact congrArg₂ (at2 (wA m c)) (by omega) (by omega)
theorem r_9 (t : Fin cfg0.N) : (iblk m c 9 t : S512x2048.Idx → EReal) = drT (drA m c) t.val := by
  funext y
  unfold drT
  refine (blk_9 m c t y).trans ((arr_9 m c _).trans ?_)
  obtain ⟨e0, e1⟩ := e_9 t y
  rw [e0, e1]
  exact congrArg₂ (at2 (drA m c)) (by omega) (by omega)

end Cert.Kernel2Ideal.Step
-- ==== Proof.XRun.lean ====
/-
  The accumulator after each grid point, and the array the call leaves.

  The sixteen points of a block of rows start from the residual's share and add sixteen blocks of columns; the last of them writes the
  accumulator back.
-/
module

public import proofs.«01_k».proof.Proof.XArray

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel2Ideal.Step

open Cert.Kernel2Ideal.Gen

variable (m : (ℓ : Loc nD τ sig) → Buf (Elt Ideal) ℓ) (c : Dev nD)

/-! ## One point -/

section

variable (t : Fin cfg0.N) (acc : Vec Ideal S512x2048 .f32 × Vec Ideal S512x2048 .f32)

theorem st_A (h0 : t.val % 16 = 0) (h1 : (t.val % 16 = 0 ∨ t.val % 16 = 3 ∨ t.val % 16 = 6)) (h2 : ¬(t.val % 16 = 1 ∨ t.val % 16 = 4 ∨ t.val % 16 = 7)) (h3 : ¬(t.val % 16 = 2 ∨ t.val % 16 = 5 ∨ t.val % 16 = 8)) (h4 : ¬t.val % 16 = 9) (h5 : ¬t.val % 16 = 10) (h6 : ¬t.val % 16 = 11) (h7 : ¬(12 ≤ t.val % 16 ∧ t.val % 16 ≤ 13)) (h8 : ¬14 ≤ t.val % 16) (h9 : ¬t.val % 16 = 15) :
    (Value.stAt0 m c t.val t.isLt acc).2 = stepV (rowsT (dhA m c) t.val) (wT (wA m c) t.val) (startV (drT (drA m c) t.val)) := by
  rw [Value.stAt0_A m c t acc h0 h1 h2 h3 h4 h5 h6 h7 h8 h9]
  dsimp only
  exact (s_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (fun h => h9 ((hcond0_9 t).mp h))).trans ((congrArg₂ (fun A w => stepV A w (startV (iblk m c 9 t))) (r_0 m c t h1) (r_8 m c t)).trans
    (congrArg (fun r => stepV (rowsT (dhA m c) t.val) (wT (wA m c) t.val) (startV r)) (r_9 m c t)))

theorem st_B (h0 : ¬t.val % 16 = 0) (h1 : ¬(t.val % 16 = 0 ∨ t.val % 16 = 3 ∨ t.val % 16 = 6)) (h2 : (t.val % 16 = 1 ∨ t.val % 16 = 4 ∨ t.val % 16 = 7)) (h3 : ¬(t.val % 16 = 2 ∨ t.val % 16 = 5 ∨ t.val % 16 = 8)) (h4 : ¬t.val % 16 = 9) (h5 : ¬t.val % 16 = 10) (h6 : ¬t.val % 16 = 11) (h7 : ¬(12 ≤ t.val % 16 ∧ t.val % 16 ≤ 13)) (h8 : ¬14 ≤ t.val % 16) (h9 : ¬t.val % 16 = 15) :
    (Value.stAt0 m c t.val t.isLt acc).2 = stepV (rowsT (dhA m c) t.val) (wT (wA m c) t.val) (acc.2) := by
  rw [Value.stAt0_B m c t acc h0 h1 h2 h3 h4 h5 h6 h7 h8 h9]
  dsimp only
  exact (s_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (fun h => h9 ((hcond0_9 t).mp h))).trans (congrArg₂ (fun A w => stepV A w acc.2) (r_1 m c t h2) (r_8 m c t))

theorem st_C (h0 : ¬t.val % 16 = 0) (h1 : ¬(t.val % 16 = 0 ∨ t.val % 16 = 3 ∨ t.val % 16 = 6)) (h2 : ¬(t.val % 16 = 1 ∨ t.val % 16 = 4 ∨ t.val % 16 = 7)) (h3 : (t.val % 16 = 2 ∨ t.val % 16 = 5 ∨ t.val % 16 = 8)) (h4 : ¬t.val % 16 = 9) (h5 : ¬t.val % 16 = 10) (h6 : ¬t.val % 16 = 11) (h7 : ¬(12 ≤ t.val % 16 ∧ t.val % 16 ≤ 13)) (h8 : ¬14 ≤ t.val % 16) (h9 : ¬t.val % 16 = 15) :
    (Value.stAt0 m c t.val t.isLt acc).2 = stepV (rowsT (dhA m c) t.val) (wT (wA m c) t.val) (acc.2) := by
  rw [Value.stAt0_C m c t acc h0 h1 h2 h3 h4 h5 h6 h7 h8 h9]
  dsimp only
  exact (s_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (fun h => h9 ((hcond0_9 t).mp h))).trans (congrArg₂ (fun A w => stepV A w acc.2) (r_2 m c t h3) (r_8 m c t))

theorem st_D (h0 : ¬t.val % 16 = 0) (h1 : (t.val % 16 = 0 ∨ t.val % 16 = 3 ∨ t.val % 16 = 6)) (h2 : ¬(t.val % 16 = 1 ∨ t.val % 16 = 4 ∨ t.val % 16 = 7)) (h3 : ¬(t.val % 16 = 2 ∨ t.val % 16 = 5 ∨ t.val % 16 = 8)) (h4 : ¬t.val % 16 = 9) (h5 : ¬t.val % 16 = 10) (h6 : ¬t.val % 16 = 11) (h7 : ¬(12 ≤ t.val % 16 ∧ t.val % 16 ≤ 13)) (h8 : ¬14 ≤ t.val % 16) (h9 : ¬t.val % 16 = 15) :
    (Value.stAt0 m c t.val t.isLt acc).2 = stepV (rowsT (dhA m c) t.val) (wT (wA m c) t.val) (acc.2) := by
  rw [Value.stAt0_D m c t acc h0 h1 h2 h3 h4 h5 h6 h7 h8 h9]
  dsimp only
  exact (s_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (fun h => h9 ((hcond0_9 t).mp h))).trans (congrArg₂ (fun A w => stepV A w acc.2) (r_0 m c t h1) (r_8 m c t))

theorem st_E (h0 : ¬t.val % 16 = 0) (h1 : ¬(t.val % 16 = 0 ∨ t.val % 16 = 3 ∨ t.val % 16 = 6)) (h2 : ¬(t.val % 16 = 1 ∨ t.val % 16 = 4 ∨ t.val % 16 = 7)) (h3 : ¬(t.val % 16 = 2 ∨ t.val % 16 = 5 ∨ t.val % 16 = 8)) (h4 : t.val % 16 = 9) (h5 : ¬t.val % 16 = 10) (h6 : ¬t.val % 16 = 11) (h7 : ¬(12 ≤ t.val % 16 ∧ t.val % 16 ≤ 13)) (h8 : ¬14 ≤ t.val % 16) (h9 : ¬t.val % 16 = 15) :
    (Value.stAt0 m c t.val t.isLt acc).2 = stepV (rowsT (dhA m c) t.val) (wT (wA m c) t.val) (acc.2) := by
  rw [Value.stAt0_E m c t acc h0 h1 h2 h3 h4 h5 h6 h7 h8 h9]
  dsimp only
  exact (s_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (fun h => h9 ((hcond0_9 t).mp h))).trans (congrArg₂ (fun A w => stepV A w acc.2) (r_3 m c t h4) (r_8 m c t))

theorem st_F (h0 : ¬t.val % 16 = 0) (h1 : ¬(t.val % 16 = 0 ∨ t.val % 16 = 3 ∨ t.val % 16 = 6)) (h2 : ¬(t.val % 16 = 1 ∨ t.val % 16 = 4 ∨ t.val % 16 = 7)) (h3 : ¬(t.val % 16 = 2 ∨ t.val % 16 = 5 ∨ t.val % 16 = 8)) (h4 : ¬t.val % 16 = 9) (h5 : t.val % 16 = 10) (h6 : ¬t.val % 16 = 11) (h7 : ¬(12 ≤ t.val % 16 ∧ t.val % 16 ≤ 13)) (h8 : ¬14 ≤ t.val % 16) (h9 : ¬t.val % 16 = 15) :
    (Value.stAt0 m c t.val t.isLt acc).2 = stepV (rowsT (dhA m c) t.val) (wT (wA m c) t.val) (acc.2) := by
  rw [Value.stAt0_F m c t acc h0 h1 h2 h3 h4 h5 h6 h7 h8 h9]
  dsimp only
  exact (s_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (fun h => h9 ((hcond0_9 t).mp h))).trans (congrArg₂ (fun A w => stepV A w acc.2) (r_4 m c t h5) (r_8 m c t))

theorem st_G (h0 : ¬t.val % 16 = 0) (h1 : ¬(t.val % 16 = 0 ∨ t.val % 16 = 3 ∨ t.val % 16 = 6)) (h2 : ¬(t.val % 16 = 1 ∨ t.val % 16 = 4 ∨ t.val % 16 = 7)) (h3 : ¬(t.val % 16 = 2 ∨ t.val % 16 = 5 ∨ t.val % 16 = 8)) (h4 : ¬t.val % 16 = 9) (h5 : ¬t.val % 16 = 10) (h6 : t.val % 16 = 11) (h7 : ¬(12 ≤ t.val % 16 ∧ t.val % 16 ≤ 13)) (h8 : ¬14 ≤ t.val % 16) (h9 : ¬t.val % 16 = 15) :
    (Value.stAt0 m c t.val t.isLt acc).2 = stepV (rowsT (dhA m c) t.val) (wT (wA m c) t.val) (acc.2) := by
  rw [Value.stAt0_G m c t acc h0 h1 h2 h3 h4 h5 h6 h7 h8 h9]
  dsimp only
  exact (s_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (fun h => h9 ((hcond0_9 t).mp h))).trans (congrArg₂ (fun A w => stepV A w acc.2) (r_5 m c t h6) (r_8 m c t))

theorem st_H (h0 : ¬t.val % 16 = 0) (h1 : ¬(t.val % 16 = 0 ∨ t.val % 16 = 3 ∨ t.val % 16 = 6)) (h2 : ¬(t.val % 16 = 1 ∨ t.val % 16 = 4 ∨ t.val % 16 = 7)) (h3 : ¬(t.val % 16 = 2 ∨ t.val % 16 = 5 ∨ t.val % 16 = 8)) (h4 : ¬t.val % 16 = 9) (h5 : ¬t.val % 16 = 10) (h6 : ¬t.val % 16 = 11) (h7 : (12 ≤ t.val % 16 ∧ t.val % 16 ≤ 13)) (h8 : ¬14 ≤ t.val % 16) (h9 : ¬t.val % 16 = 15) :
    (Value.stAt0 m c t.val t.isLt acc).2 = stepV (rowsT (dhA m c) t.val) (wT (wA m c) t.val) (acc.2) := by
  rw [Value.stAt0_H m c t acc h0 h1 h2 h3 h4 h5 h6 h7 h8 h9]
  dsimp only
  exact (s_H c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (fun h => h9 ((hcond0_9 t).mp h))).trans (congrArg₂ (fun A w => stepV A w acc.2) (r_6 m c t h7) (r_8 m c t))

theorem st_I (h0 : ¬t.val % 16 = 0) (h1 : ¬(t.val % 16 = 0 ∨ t.val % 16 = 3 ∨ t.val % 16 = 6)) (h2 : ¬(t.val % 16 = 1 ∨ t.val % 16 = 4 ∨ t.val % 16 = 7)) (h3 : ¬(t.val % 16 = 2 ∨ t.val % 16 = 5 ∨ t.val % 16 = 8)) (h4 : ¬t.val % 16 = 9) (h5 : ¬t.val % 16 = 10) (h6 : ¬t.val % 16 = 11) (h7 : ¬(12 ≤ t.val % 16 ∧ t.val % 16 ≤ 13)) (h8 : 14 ≤ t.val % 16) (h9 : ¬t.val % 16 = 15) :
    (Value.stAt0 m c t.val t.isLt acc).2 = stepV (rowsT (dhA m c) t.val) (wT (wA m c) t.val) (acc.2) := by
  rw [Value.stAt0_I m c t acc h0 h1 h2 h3 h4 h5 h6 h7 h8 h9]
  dsimp only
  exact (s_I c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (fun h => h9 ((hcond0_9 t).mp h))).trans (congrArg₂ (fun A w => stepV A w acc.2) (r_7 m c t h8) (r_8 m c t))

theorem st_J (h0 : ¬t.val % 16 = 0) (h1 : ¬(t.val % 16 = 0 ∨ t.val % 16 = 3 ∨ t.val % 16 = 6)) (h2 : ¬(t.val % 16 = 1 ∨ t.val % 16 = 4 ∨ t.val % 16 = 7)) (h3 : ¬(t.val % 16 = 2 ∨ t.val % 16 = 5 ∨ t.val % 16 = 8)) (h4 : ¬t.val % 16 = 9) (h5 : ¬t.val % 16 = 10) (h6 : ¬t.val % 16 = 11) (h7 : ¬(12 ≤ t.val % 16 ∧ t.val % 16 ≤ 13)) (h8 : 14 ≤ t.val % 16) (h9 : t.val % 16 = 15) :
    (Value.stAt0 m c t.val t.isLt acc).2 = stepV (rowsT (dhA m c) t.val) (wT (wA m c) t.val) (acc.2) := by
  rw [Value.stAt0_J m c t acc h0 h1 h2 h3 h4 h5 h6 h7 h8 h9]
  dsimp only
  exact (s_J c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) ((hcond0_9 t).mpr h9)).trans (congrArg₂ (fun A w => stepV A w acc.2) (r_7 m c t h8) (r_8 m c t))

theorem w_J (h0 : ¬t.val % 16 = 0) (h1 : ¬(t.val % 16 = 0 ∨ t.val % 16 = 3 ∨ t.val % 16 = 6)) (h2 : ¬(t.val % 16 = 1 ∨ t.val % 16 = 4 ∨ t.val % 16 = 7)) (h3 : ¬(t.val % 16 = 2 ∨ t.val % 16 = 5 ∨ t.val % 16 = 8)) (h4 : ¬t.val % 16 = 9) (h5 : ¬t.val % 16 = 10) (h6 : ¬t.val % 16 = 11) (h7 : ¬(12 ≤ t.val % 16 ∧ t.val % 16 ≤ 13)) (h8 : 14 ≤ t.val % 16) (h9 : t.val % 16 = 15) :
    (Value.stAt0 m c t.val t.isLt acc).1 = stepV (rowsT (dhA m c) t.val) (wT (wA m c) t.val) (acc.2) := by
  rw [Value.stAt0_J m c t acc h0 h1 h2 h3 h4 h5 h6 h7 h8 h9]
  dsimp only
  exact (o_J c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2 (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) ((hcond0_9 t).mpr h9)).trans (congrArg₂ (fun A w => stepV A w acc.2) (r_7 m c t h8) (r_8 m c t))

/-- A block of rows starts from the residual's share. -/
theorem st_start (h : t.val % 16 = 0) : (Value.stAt0 m c t.val t.isLt acc).2
    = stepV (rowsT (dhA m c) t.val) (wT (wA m c) t.val) (startV (drT (drA m c) t.val)) :=
  st_A m c t acc (by omega) (by omega) (by omega) (by omega) (by omega) (by omega) (by omega) (by omega) (by omega) (by omega)

/-- Every other point adds to the accumulator. -/
theorem st_next (h : ¬t.val % 16 = 0) : (Value.stAt0 m c t.val t.isLt acc).2
    = stepV (rowsT (dhA m c) t.val) (wT (wA m c) t.val) acc.2 := by
  by_cases hB : t.val % 16 = 1 ∨ t.val % 16 = 4 ∨ t.val % 16 = 7
  · exact st_B m c t acc (by omega) (by omega) (by omega) (by omega) (by omega) (by omega) (by omega) (by omega) (by omega) (by omega)
  by_cases hC : t.val % 16 = 2 ∨ t.val % 16 = 5 ∨ t.val % 16 = 8
  · exact st_C m c t acc (by omega) (by omega) (by omega) (by omega) (by omega) (by omega) (by omega) (by omega) (by omega) (by omega)
  by_cases hD : t.val % 16 = 3 ∨ t.val % 16 = 6
  · exact st_D m c t acc (by omega) (by omega) (by omega) (by omega) (by omega) (by omega) (by omega) (by omega) (by omega) (by omega)
  by_cases hE : t.val % 16 = 9
  · exact st_E m c t acc (by omega) (by omega) (by omega) (by omega) (by omega) (by omega) (by omega) (by omega) (by omega) (by omega)
  by_cases hF : t.val % 16 = 10
  · exact st_F m c t acc (by omega) (by omega) (by omega) (by omega) (by omega) (by omega) (by omega) (by omega) (by omega) (by omega)
  by_cases hG : t.val % 16 = 11
  · exact st_G m c t acc (by omega) (by omega) (by omega) (by omega) (by omega) (by omega) (by omega) (by omega) (by omega) (by omega)
  by_cases hH : 12 ≤ t.val % 16 ∧ t.val % 16 ≤ 13
  · exact st_H m c t acc (by omega) (by omega) (by omega) (by omega) (by omega) (by omega) (by omega) (by omega) (by omega) (by omega)
  by_cases hI : t.val % 16 = 14
  · exact st_I m c t acc (by omega) (by omega) (by omega) (by omega) (by omega) (by omega) (by omega) (by omega) (by omega) (by omega)
  · exact st_J m c t acc (by omega) (by omega) (by omega) (by omega) (by omega) (by omega) (by omega) (by omega) (by omega) (by omega)

/-- The last point of a block of rows writes the accumulator back. -/
theorem st_last (h : t.val % 16 = 15) : (Value.stAt0 m c t.val t.isLt acc).1 = (Value.stAt0 m c t.val t.isLt acc).2 :=
  (w_J m c t acc (by omega) (by omega) (by omega) (by omega) (by omega) (by omega) (by omega) (by omega) (by omega) (by omega)).trans (st_next m c t acc (by omega)).symm

end

/-! ## The accumulator after a point -/

/-- The residual's share and the first `k` blocks of columns, at a row and a column. -/
def upTo (dh : S4096x16384.Idx → EReal) (dr : S4096x2048.Idx → EReal) (w : S2048x16384.Idx → EReal) (k p d : ℕ) : EReal :=
  Ideal.ofBits .f32 0x3F9837F0#32 * at2 dr p d
    + ∑ j ∈ Finset.range k, ∑ e : Fin 1024, at2 dh p (1024 * j + e.val) * at2 w d (1024 * j + e.val)

theorem step_upTo (dh : S4096x16384.Idx → EReal) (dr : S4096x2048.Idx → EReal) (w : S2048x16384.Idx → EReal) (t : ℕ)
    (acc : S512x2048.Idx → EReal)
    (h : ∀ y : S512x2048.Idx, acc y = upTo dh dr w (t % 16) (512 * (t / 16) + (y 0).val) (y 1).val) (y : S512x2048.Idx) :
    stepV (rowsT dh t) (wT w t) acc y = upTo dh dr w (t % 16 + 1) (512 * (t / 16) + (y 0).val) (y 1).val := by
  unfold stepV
  rw [h y]
  unfold upTo
  rw [Finset.sum_range_succ, ← add_assoc]
  rfl

theorem acc_eq (n : ℕ) : ∀ (hn : n < cfg0.N) (y : S512x2048.Idx), (outsAt0 m c n hn).2 y
    = upTo (dhA m c) (drA m c) (wA m c) (n % 16 + 1) (512 * (n / 16) + (y 0).val) (y 1).val := by
  have start : ∀ t : ℕ, t % 16 = 0 → ∀ y : S512x2048.Idx, startV (drT (drA m c) t) y
      = upTo (dhA m c) (drA m c) (wA m c) (t % 16) (512 * (t / 16) + (y 0).val) (y 1).val := by
    intro t ht y
    rw [ht]
    unfold upTo
    rw [Finset.sum_range_zero, add_zero]
    rfl
  induction n with
  | zero =>
    intro hn y
    rw [Value.outsAt0_zero m c hn]
    refine (congrFun (st_start m c ⟨0, hn⟩ Value.junk0 rfl) y).trans ?_
    exact step_upTo (dhA m c) (drA m c) (wA m c) 0 _ (start 0 rfl) y
  | succ n ih =>
    intro hn y
    rw [Value.outsAt0_succ m c n hn]
    by_cases h : (n + 1) % 16 = 0
    · refine (congrFun (st_start m c ⟨n + 1, hn⟩ _ h) y).trans ?_
      exact step_upTo (dhA m c) (drA m c) (wA m c) (n + 1) _ (start (n + 1) h) y
    · refine (congrFun (st_next m c ⟨n + 1, hn⟩ _ h) y).trans ?_
      refine step_upTo (dhA m c) (drA m c) (wA m c) (n + 1) _ (fun z => (ih (Nat.lt_of_succ_lt hn) z).trans ?_) y
      rw [show n % 16 + 1 = (n + 1) % 16 by omega, show n / 16 = (n + 1) / 16 by omega]

theorem out_eq (n : ℕ) (hn : n < cfg0.N) (h : n % 16 = 15) (y : S512x2048.Idx) : (outsAt0 m c n hn).1 y
    = upTo (dhA m c) (drA m c) (wA m c) 16 (512 * (n / 16) + (y 0).val) (y 1).val := by
  obtain ⟨k, rfl⟩ : ∃ k, n = k + 1 := ⟨n - 1, by omega⟩
  have e := acc_eq m c (k + 1) hn y
  rw [h] at e
  refine Eq.trans ?_ e
  rw [Value.outsAt0_succ m c k hn]
  exact congrFun (st_last m c ⟨k + 1, hn⟩ _ h) y

/-! ## The array -/

/-- The result, at an index. -/
def resX (dh : S4096x16384.Idx → EReal) (dr : S4096x2048.Idx → EReal) (w : S2048x16384.Idx → EReal) : S4096x2048.Idx → EReal :=
  fun x => upTo dh dr w 16 (x 0).val (x 1).val

theorem array_eq : Value.G10 m c = resX (dhA m c) (drA m c) (wA m c) := by
  funext x
  have h0 : (x 0).val < 4096 := (x 0).isLt
  have h1 : (x 1).val < 2048 := (x 1).isLt
  have hp : Value.pt10Of x = 16 * ((x 0).val / 512) + 15 := by
    show 16 * (1 * ((x 0).val / 512 - 0) + 1 * ((x 1).val / 2048 - 0)) + 15 = _
    omega
  have hlt : Value.pt10Of x < cfg0.N := by
    show Value.pt10Of x < 128
    rw [hp]; omega
  unfold Value.G10
  rw [dif_pos hlt, ← Value.outsAt0_sweep m c _ hlt]
  refine (out_eq m c _ hlt (by rw [hp]; omega) _).trans ?_
  unfold resX
  rw [hp]
  refine congrArg₂ (upTo (dhA m c) (drA m c) (wA m c) 16) ?_ ?_
  · show 512 * ((16 * ((x 0).val / 512) + 15) / 16) + (x 0).val % 512 = (x 0).val
    omega
  · show (x 1).val % 2048 = (x 1).val
    omega

end Cert.Kernel2Ideal.Step
-- ==== Proof.XJoin.lean ====
/-
  The derivative of the reference's lines, read at an index, is the array the call leaves.

  The reference contracts all 16384 columns at once; the call adds sixteen blocks of 1024.
-/
module

public import proofs.«01_k».proof.Proof.XRun
public import proofs.«01_k».proof.Proof.Gen.Reference2Ideal.Run

@[expose] public section

noncomputable section

open Idealize.ShloMosaic hiding ix2 ix3 ix4 eq_ix2 eq_ix3 eq_ix4
open Idealize.ShloMosaic.TcCoe Idealize.ShloMosaic.ValueIdx Idealize.SL.Sem
open scoped BigOperators

namespace Cert.Kernel2Ideal.Step

/-- What the reference computes. -/
def refX (dh : FVec Ideal Cert.Reference2Ideal.S4096x16384 .f32) (dr : FVec Ideal Cert.Reference2Ideal.S4096x2048 .f32)
    (w : FVec Ideal Cert.Reference2Ideal.S2048x16384 .f32) : FVec Ideal Cert.Reference2Ideal.S4096x2048 .f32 :=
  addf (Host.dotGeneral Cert.Reference2Ideal.dot_S4096x16384_S2048x16384_S4096x2048_1_1_0_0_n_n none dh w)
    (mulf (broadcastInDim Cert.Reference2Ideal.S4096x2048 ![] Cert.Reference2Ideal.Gen.bcast_S_S4096x2048
      (constant Cert.Reference2Ideal.S_ .f32 0x3F9837F0#32)) dr)

/-- A sum over all columns is the sum over the blocks of columns. -/
theorem sum_blocks (f : ℕ → EReal) : ∑ k : Fin 16384, f k.val = ∑ j ∈ Finset.range 16, ∑ e : Fin 1024, f (1024 * j + e.val) := by
  rw [Finset.sum_range, ← Fintype.sum_prod_type']
  refine (Equiv.sum_comp (finProdFinEquiv (m := 16) (n := 1024)) fun k : Fin 16384 => f k.val).symm.trans ?_
  refine Finset.sum_congr rfl fun x _ => congrArg f ?_
  show x.2.val + 1024 * x.1.val = 1024 * x.1.val + x.2.val
  omega

theorem dot_apply (dh : FVec Ideal Cert.Reference2Ideal.S4096x16384 .f32) (w : FVec Ideal Cert.Reference2Ideal.S2048x16384 .f32)
    (y : S4096x2048.Idx) :
    Host.dotGeneral Cert.Reference2Ideal.dot_S4096x16384_S2048x16384_S4096x2048_1_1_0_0_n_n none dh w y
      = ∑ k : Fin 16384, at2 (n := 4096) (l := 16384) dh (y 0).val k.val * at2 (n := 2048) (l := 16384) w (y 1).val k.val := by
  refine (Ideal.dotGeneral_apply _ none _ dh w y).trans ?_
  refine (Equiv.sum_comp (contrEquiv1 _ 16384 rfl rfl).symm _).symm.trans ?_
  refine Finset.sum_congr rfl fun k _ => congrArg₂ (· * ·) ?_ ?_
  · exact at2_eq (n := 4096) (l := 16384) dh _ rfl rfl
  · exact at2_eq (n := 2048) (l := 16384) w _ rfl rfl

theorem ref_eq (dh : S4096x16384.Idx → EReal) (dr : S4096x2048.Idx → EReal) (w : S2048x16384.Idx → EReal) :
    refX dh dr w = resX dh dr w := by
  funext y
  unfold resX upTo
  refine (add_comm _ _).trans (congrArg₂ (· + ·) ?_ ?_)
  · show Ideal.ofBits .f32 0x3F9837F0#32 * dr y = _
    exact congrArg _ (at2_eq (n := 4096) (l := 2048) dr y rfl rfl)
  · refine (dot_apply dh w y).trans ?_
    exact sum_blocks fun k => at2 dh (y 0).val k * at2 w (y 1).val k

variable (m : (ℓ : Loc nD τ sig) → Buf (Elt Ideal) ℓ) (c : Dev nD)

theorem result : Value.G10 m c = refX (m ((c : Thread nD τ).loc main_arg0)) (m ((c : Thread nD τ).loc main_arg1)) (m ((c : Thread nD τ).loc main_arg2)) :=
  (array_eq m c).trans (ref_eq (dhA m c) (drA m c) (wA m c)).symm

/-- Equal arguments, equal results. -/
theorem result_congr {dh dh' : S4096x16384.Idx → EReal} {dr dr' : S4096x2048.Idx → EReal} {w w' : S2048x16384.Idx → EReal}
    (h0 : dh = dh') (h1 : dr = dr') (h2 : w = w') : refX dh dr w = refX dh' dr' w' := by
  subst h0 h1 h2
  rfl

end Cert.Kernel2Ideal.Step
-- ==== Proof.Tokens.lean ====
/-
  Tokens in a group's order, and sums over them.

  A group of dilation `n` has its tokens by residue first, then by place: position `p` holds the token `p % l * n + p / l`, `l` tokens
  to a residue. A sum over all positions is the sum over all tokens.
-/
module

public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.Pipeline.ValueKit

@[expose] public section

noncomputable section

open Idealize.ShloMosaic hiding ix2 ix3 ix4 eq_ix2 eq_ix3 eq_ix4
open Idealize.ShloMosaic.ValueIdx
open scoped BigOperators

namespace Cert.Tokens

/-- An array of two axes, read at two numbers; zero outside it. -/
def at2 {n l : ℕ} (x : (⟨2, ![n, l]⟩ : Shape).Idx → EReal) (r c : ℕ) : EReal := if h : r < n ∧ c < l then x (ix2 ⟨r, h.1⟩ ⟨c, h.2⟩) else 0

theorem at2_eq {n l : ℕ} (x : (⟨2, ![n, l]⟩ : Shape).Idx → EReal) (y : (⟨2, ![n, l]⟩ : Shape).Idx) {r c : ℕ} (h0 : (y 0).val = r)
    (h1 : (y 1).val = c) : x y = at2 x r c := by
  subst h0 h1
  have h : (y 0).val < n ∧ (y 1).val < l := ⟨(y 0).isLt, (y 1).isLt⟩
  unfold at2
  rw [dif_pos h]
  exact congrArg x (eq_ix2 y)

/-- Columns `o`, …, `o + l - 1`. -/
theorem cols_apply {N L l : ℕ} (o : ℕ) (x : (⟨2, ![N, L]⟩ : Shape).Idx → EReal) (h : (⟨2, ![N, L]⟩ : Shape).Slices ![0, o] ⟨2, ![N, l]⟩)
    (y : (⟨2, ![N, l]⟩ : Shape).Idx) : extractStridedSlice (⟨2, ![N, l]⟩ : Shape) ![0, o] x h y = at2 x (y 0).val (o + (y 1).val) := by
  unfold extractStridedSlice
  refine at2_eq (n := N) (l := L) x _ ?_ ?_
  · show 0 + (y 0).val = _; omega
  · rfl

/-- The token at position `p`. -/
def tok (n l p : ℕ) : ℕ := p % l * n + p / l

/-- Rows in the group's order: residue first, then place. -/
theorem group_apply {n l w : ℕ} (hn : n * l = 4096) (x : (⟨2, ![4096, w]⟩ : Shape).Idx → EReal)
    (h1 : (⟨2, ![4096, w]⟩ : Shape).ShapeCasts ⟨3, ![l, n, w]⟩) (h2 : (⟨3, ![l, n, w]⟩ : Shape).Transposes [1, 0, 2] ⟨3, ![n, l, w]⟩)
    (h3 : (⟨3, ![n, l, w]⟩ : Shape).ShapeCasts ⟨2, ![4096, w]⟩) (y : (⟨2, ![4096, w]⟩ : Shape).Idx) :
    shapeCast (⟨2, ![4096, w]⟩ : Shape) (transpose (⟨3, ![n, l, w]⟩ : Shape) [1, 0, 2] (shapeCast (⟨3, ![l, n, w]⟩ : Shape) x h1) h2) h3 y
      = at2 x (tok n l (y 0).val) (y 1).val := by
  have hy : (y 0).val < 4096 := (y 0).isLt
  have hl : 0 < l := Nat.pos_of_ne_zero fun h => by simp [h] at hn
  have ha : (y 0).val / l < n := Nat.div_lt_of_lt_mul (by rw [Nat.mul_comm]; rw [hn]; exact hy)
  have hb : (y 0).val % l < l := Nat.mod_lt _ hl
  refine (shapeCast_apply _ h3 y (ix3 ⟨(y 0).val / l, ha⟩ ⟨(y 0).val % l, hb⟩ (y 1)) ?_).trans ?_
  · rw [Shape.rowMajor_val_three, Shape.rowMajor_val_two]
    show ((y 0).val / l * l + (y 0).val % l) * w + (y 1).val = (y 0).val * w + (y 1).val
    rw [Nat.div_add_mod']
  refine (transpose_apply [1, 0, 2] _ h2 _ (ix3 ⟨(y 0).val % l, hb⟩ ⟨(y 0).val / l, ha⟩ (y 1)) ?_).trans ?_
  · intro b; fin_cases b <;> rfl
  have hlt : (y 0).val % l * n + (y 0).val / l < 4096 := by
    have e : ((y 0).val % l + 1) * n ≤ 4096 := Nat.le_trans (Nat.mul_le_mul_right n hb) (by rw [Nat.mul_comm]; exact Nat.le_of_eq hn)
    have e' : ((y 0).val % l + 1) * n = (y 0).val % l * n + n := by ring
    omega
  refine (shapeCast_apply x h1 _ (ix2 ⟨(y 0).val % l * n + (y 0).val / l, hlt⟩ (y 1)) ?_).trans ?_
  · rw [Shape.rowMajor_val_three, Shape.rowMajor_val_two]
    rfl
  exact at2_eq (n := 4096) (l := w) x _ rfl rfl

/-- Three arrays, stacked. -/
theorem stack3_apply (x : Fin 3 → (⟨2, ![4096, 1024]⟩ : Shape).Idx → EReal)
    (hb : (⟨2, ![4096, 1024]⟩ : Shape).BroadcastsInDim (⟨3, ![1, 4096, 1024]⟩ : Shape) (![1, 2] : Fin 2 → Fin 3))
    (hc : Shape.Concatenates [(⟨3, ![1, 4096, 1024]⟩ : Shape), ⟨3, ![1, 4096, 1024]⟩, ⟨3, ![1, 4096, 1024]⟩] (⟨3, ![3, 4096, 1024]⟩ : Shape) 0)
    (p : Fin 3) (r : Fin 4096) (e : Fin 1024) :
    concatenate (⟨3, ![3, 4096, 1024]⟩ : Shape) 0
      [⟨⟨3, ![1, 4096, 1024]⟩, broadcastInDim (⟨3, ![1, 4096, 1024]⟩ : Shape) ![1, 2] hb (x 0)⟩,
        ⟨⟨3, ![1, 4096, 1024]⟩, broadcastInDim (⟨3, ![1, 4096, 1024]⟩ : Shape) ![1, 2] hb (x 1)⟩,
        ⟨⟨3, ![1, 4096, 1024]⟩, broadcastInDim (⟨3, ![1, 4096, 1024]⟩ : Shape) ![1, 2] hb (x 2)⟩] hc (ix3 p r e) = x p (ix2 r e) := by
  refine (concatenate_ofFn_unit_apply (t := ⟨3, ![3, 4096, 1024]⟩) (s₁ := ⟨3, ![1, 4096, 1024]⟩) 0
    (fun p => broadcastInDim (⟨3, ![1, 4096, 1024]⟩ : Shape) ![1, 2] hb (x p))
    hc rfl rfl (ix3 p r e) p rfl (ix3 0 r e) ?_).trans ?_
  · intro b hb
    fin_cases b
    · exact absurd rfl hb
    · rfl
    · rfl
  · refine broadcastInDim_apply _ _ (x p) _ (ix2 r e) ?_
    intro a
    fin_cases a <;> rfl

/-- A sum by rows of `l`. -/
theorem sum_grid (n l : ℕ) (f : ℕ → EReal) : ∑ k ∈ Finset.range (n * l), f k = ∑ i : Fin n, ∑ j : Fin l, f (l * i.val + j.val) := by
  rw [Finset.sum_range, ← Fintype.sum_prod_type']
  refine (Equiv.sum_comp (finProdFinEquiv (m := n) (n := l)) fun k : Fin (n * l) => f k.val).symm.trans ?_
  refine Finset.sum_congr rfl fun x _ => congrArg f ?_
  show x.2.val + l * x.1.val = l * x.1.val + x.2.val
  omega

/-- All positions hold all tokens. -/
theorem sum_tok (n l : ℕ) (f : ℕ → EReal) :
    ∑ p ∈ Finset.range (n * l), f (tok n l p) = ∑ s ∈ Finset.range (n * l), f s := by
  rw [sum_grid n l fun p => f (tok n l p)]
  have e : ∑ s ∈ Finset.range (n * l), f s = ∑ i : Fin l, ∑ j : Fin n, f (n * i.val + j.val) := by
    rw [Nat.mul_comm n l]
    exact sum_grid l n f
  rw [e, Finset.sum_comm]
  refine Finset.sum_congr rfl fun j _ => Finset.sum_congr rfl fun i _ => congrArg f ?_
  have hj : j.val < l := j.isLt
  unfold tok
  rw [Nat.mul_add_mod, Nat.mod_eq_of_lt hj, Nat.mul_add_div (by omega), Nat.div_eq_of_lt hj, Nat.add_zero, Nat.mul_comm]

/-- Two halves of the positions make up the sum over all tokens. -/
theorem two_halves {n l : ℕ} (hn : n * l = 4096) (f : ℕ → EReal) :
    (∑ e : Fin 2048, f (tok n l (2048 * 0 + e.val))) + (∑ e : Fin 2048, f (tok n l (2048 * 1 + e.val))) = ∑ s ∈ Finset.range 4096, f s := by
  have e : ∑ p ∈ Finset.range (2 * 2048), f (tok n l p) = ∑ s ∈ Finset.range 4096, f s := by
    have := sum_tok n l f
    rw [hn] at this
    exact this
  rw [← e, sum_grid 2 2048, Fin.sum_univ_two]
  rfl

/-- The gradient of a weight: the sum over the tokens. -/
def gradAt (x : (⟨2, ![4096, 2048]⟩ : Shape).Idx → EReal) (dh : (⟨2, ![4096, 16384]⟩ : Shape).Idx → EReal) (r k : ℕ) : EReal :=
  ∑ s ∈ Finset.range 4096, at2 x s r * at2 dh s k

/-! ## A weight's gradient, in blocks -/

/-- A group's rows, in its order, transposed. -/
theorem groupT_apply {n l : ℕ} (hn : n * l = 4096) (x : (⟨2, ![4096, 2048]⟩ : Shape).Idx → EReal)
    (h1 : (⟨2, ![4096, 2048]⟩ : Shape).ShapeCasts ⟨3, ![l, n, 2048]⟩)
    (h2 : (⟨3, ![l, n, 2048]⟩ : Shape).Transposes [1, 0, 2] ⟨3, ![n, l, 2048]⟩)
    (h3 : (⟨3, ![n, l, 2048]⟩ : Shape).ShapeCasts ⟨2, ![4096, 2048]⟩)
    (h4 : (⟨2, ![4096, 2048]⟩ : Shape).Transposes [1, 0] ⟨2, ![2048, 4096]⟩) (y : (⟨2, ![2048, 4096]⟩ : Shape).Idx) :
    transpose (⟨2, ![2048, 4096]⟩ : Shape) [1, 0] (shapeCast (⟨2, ![4096, 2048]⟩ : Shape) (transpose (⟨3, ![n, l, 2048]⟩ : Shape) [1, 0, 2]
      (shapeCast (⟨3, ![l, n, 2048]⟩ : Shape) x h1) h2) h3) h4 y = at2 x (tok n l (y 1).val) (y 0).val := by
  refine (transpose_apply [1, 0] _ _ y (ix2 (y 1) (y 0)) (fun b => by fin_cases b <;> rfl)).trans ?_
  exact group_apply hn x h1 h2 h3 (ix2 (y 1) (y 0))

/-- A group's columns `o`, … of 1024, in its order. -/
def grp {n l : ℕ} (o : ℕ) (dh : (⟨2, ![4096, 16384]⟩ : Shape).Idx → EReal)
    (h0 : (⟨2, ![4096, 16384]⟩ : Shape).Slices ![0, o] ⟨2, ![4096, 1024]⟩)
    (h1 : (⟨2, ![4096, 1024]⟩ : Shape).ShapeCasts ⟨3, ![l, n, 1024]⟩)
    (h2 : (⟨3, ![l, n, 1024]⟩ : Shape).Transposes [1, 0, 2] ⟨3, ![n, l, 1024]⟩)
    (h3 : (⟨3, ![n, l, 1024]⟩ : Shape).ShapeCasts ⟨2, ![4096, 1024]⟩) : (⟨2, ![4096, 1024]⟩ : Shape).Idx → EReal :=
  shapeCast (⟨2, ![4096, 1024]⟩ : Shape) (transpose (⟨3, ![n, l, 1024]⟩ : Shape) [1, 0, 2] (shapeCast (⟨3, ![l, n, 1024]⟩ : Shape)
    (extractStridedSlice (⟨2, ![4096, 1024]⟩ : Shape) ![0, o] dh h0) h1) h2) h3

theorem grp_apply {n l : ℕ} (hn : n * l = 4096) (o : ℕ) (dh : (⟨2, ![4096, 16384]⟩ : Shape).Idx → EReal)
    (h0 : (⟨2, ![4096, 16384]⟩ : Shape).Slices ![0, o] ⟨2, ![4096, 1024]⟩)
    (h1 : (⟨2, ![4096, 1024]⟩ : Shape).ShapeCasts ⟨3, ![l, n, 1024]⟩)
    (h2 : (⟨3, ![l, n, 1024]⟩ : Shape).Transposes [1, 0, 2] ⟨3, ![n, l, 1024]⟩)
    (h3 : (⟨3, ![n, l, 1024]⟩ : Shape).ShapeCasts ⟨2, ![4096, 1024]⟩) (z : (⟨2, ![4096, 1024]⟩ : Shape).Idx) :
    grp o dh h0 h1 h2 h3 z = at2 dh (tok n l (z 0).val) (o + (z 1).val) := by
  have hz0 : (z 0).val < 4096 := (z 0).isLt
  have hl : 0 < l := Nat.pos_of_ne_zero fun h => by simp [h] at hn
  have ha : (z 0).val / l < n := Nat.div_lt_of_lt_mul (by rw [Nat.mul_comm]; rw [hn]; exact hz0)
  have hb : (z 0).val % l < l := Nat.mod_lt _ hl
  have ht : tok n l (z 0).val < 4096 := by
    have e : ((z 0).val % l + 1) * n ≤ 4096 := Nat.le_trans (Nat.mul_le_mul_right n hb) (by rw [Nat.mul_comm]; exact Nat.le_of_eq hn)
    have e' : ((z 0).val % l + 1) * n = (z 0).val % l * n + n := by ring
    show (z 0).val % l * n + (z 0).val / l < 4096
    omega
  refine (group_apply hn _ h1 h2 h3 z).trans ?_
  refine (at2_eq (n := 4096) (l := 1024) _ (ix2 ⟨tok n l (z 0).val, ht⟩ (z 1)) rfl rfl).symm.trans ?_
  exact cols_apply o dh h0 _

/-- Three arrays, stacked. -/
def stack3 (hb : (⟨2, ![4096, 1024]⟩ : Shape).BroadcastsInDim (⟨3, ![1, 4096, 1024]⟩ : Shape) (![1, 2] : Fin 2 → Fin 3))
    (hc : Shape.Concatenates [(⟨3, ![1, 4096, 1024]⟩ : Shape), ⟨3, ![1, 4096, 1024]⟩, ⟨3, ![1, 4096, 1024]⟩] (⟨3, ![3, 4096, 1024]⟩ : Shape) 0)
    (x : Fin 3 → (⟨2, ![4096, 1024]⟩ : Shape).Idx → EReal) : (⟨3, ![3, 4096, 1024]⟩ : Shape).Idx → EReal :=
  concatenate (⟨3, ![3, 4096, 1024]⟩ : Shape) 0
    [⟨⟨3, ![1, 4096, 1024]⟩, broadcastInDim (⟨3, ![1, 4096, 1024]⟩ : Shape) ![1, 2] hb (x 0)⟩,
      ⟨⟨3, ![1, 4096, 1024]⟩, broadcastInDim (⟨3, ![1, 4096, 1024]⟩ : Shape) ![1, 2] hb (x 1)⟩,
      ⟨⟨3, ![1, 4096, 1024]⟩, broadcastInDim (⟨3, ![1, 4096, 1024]⟩ : Shape) ![1, 2] hb (x 2)⟩] hc

theorem stack3_congr (hb : (⟨2, ![4096, 1024]⟩ : Shape).BroadcastsInDim (⟨3, ![1, 4096, 1024]⟩ : Shape) (![1, 2] : Fin 2 → Fin 3))
    (hc : Shape.Concatenates [(⟨3, ![1, 4096, 1024]⟩ : Shape), ⟨3, ![1, 4096, 1024]⟩, ⟨3, ![1, 4096, 1024]⟩] (⟨3, ![3, 4096, 1024]⟩ : Shape) 0)
    {x y z : (⟨3, ![1, 4096, 1024]⟩ : Shape).Idx → EReal} (a b c : (⟨2, ![4096, 1024]⟩ : Shape).Idx → EReal)
    (hx : x = broadcastInDim (⟨3, ![1, 4096, 1024]⟩ : Shape) ![1, 2] hb a) (hy : y = broadcastInDim (⟨3, ![1, 4096, 1024]⟩ : Shape) ![1, 2] hb b)
    (hz : z = broadcastInDim (⟨3, ![1, 4096, 1024]⟩ : Shape) ![1, 2] hb c) :
    concatenate (⟨3, ![3, 4096, 1024]⟩ : Shape) 0
      [⟨⟨3, ![1, 4096, 1024]⟩, x⟩, ⟨⟨3, ![1, 4096, 1024]⟩, y⟩, ⟨⟨3, ![1, 4096, 1024]⟩, z⟩] hc = stack3 hb hc ![a, b, c] := by
  subst hx hy hz
  rfl

/-- The accumulator plus the product of `A` with `b`. -/
def stepW (A : (⟨2, ![1024, 2048]⟩ : Shape).Idx → EReal) (b : (⟨2, ![2048, 1024]⟩ : Shape).Idx → EReal)
    (acc : (⟨2, ![1024, 1024]⟩ : Shape).Idx → EReal) : (⟨2, ![1024, 1024]⟩ : Shape).Idx → EReal :=
  fun y => acc y + ∑ e : Fin 2048, A (ix2 (y 0) e) * b (ix2 e (y 1))

/-- A stack of one, without its first axis. -/
def flat (b : (⟨3, ![1, 2048, 1024]⟩ : Shape).Idx → EReal) : (⟨2, ![2048, 1024]⟩ : Shape).Idx → EReal := fun z => b (ix3 0 (z 0) (z 1))

/-- The activations' block of point `t`. -/
def xT (n l : ℕ) (x : (⟨2, ![4096, 2048]⟩ : Shape).Idx → EReal) (t : ℕ) : (⟨2, ![1024, 2048]⟩ : Shape).Idx → EReal := fun y =>
  at2 x (tok n l (2048 * (t % 2) + (y 1).val)) (1024 * (t / 2 % 2) + (y 0).val)
/-- The gradient's block of point `t`, from block `j` of the columns. -/
def dT (n l j : ℕ) (dh : (⟨2, ![4096, 16384]⟩ : Shape).Idx → EReal) (t : ℕ) : (⟨2, ![2048, 1024]⟩ : Shape).Idx → EReal := fun y =>
  at2 dh (tok n l (2048 * (t % 2) + (y 0).val)) (1024 * j + (y 1).val)

/-- Two halves of the tokens make the gradient. -/
theorem two_steps {n l : ℕ} (hn : n * l = 4096) (j : ℕ) (x : (⟨2, ![4096, 2048]⟩ : Shape).Idx → EReal)
    (dh : (⟨2, ![4096, 16384]⟩ : Shape).Idx → EReal) (t : ℕ) (h : t % 2 = 1) (y : (⟨2, ![1024, 1024]⟩ : Shape).Idx) :
    stepW (xT n l x t) (dT n l j dh t) (stepW (xT n l x (t - 1)) (dT n l j dh (t - 1)) fun _ => 0) y
      = gradAt x dh (1024 * (t / 2 % 2) + (y 0).val) (1024 * j + (y 1).val) := by
  unfold gradAt
  refine Eq.trans ?_ (two_halves hn fun s => at2 x s (1024 * (t / 2 % 2) + (y 0).val) * at2 dh s (1024 * j + (y 1).val))
  unfold stepW
  rw [zero_add]
  refine congrArg₂ (· + ·) (Finset.sum_congr rfl fun e _ => ?_) (Finset.sum_congr rfl fun e _ => ?_)
  · unfold xT dT
    rw [show (t - 1) % 2 = 0 by omega, show (t - 1) / 2 = t / 2 by omega]
  · unfold xT dT
    rw [h]

/-- The gradient in the blocks of columns `M`, what was there before in the others. -/
def resW (M : ℕ → Prop) [DecidablePred M] (x : (⟨2, ![4096, 2048]⟩ : Shape).Idx → EReal) (dh : (⟨2, ![4096, 16384]⟩ : Shape).Idx → EReal)
    (prev : (⟨3, ![4, 2048, 4096]⟩ : Shape).Idx → EReal) : (⟨3, ![4, 2048, 4096]⟩ : Shape).Idx → EReal :=
  fun y => if M ((y 0).val * 4 + (y 2).val / 1024) then gradAt x dh (y 1).val (4096 * (y 0).val + (y 2).val) else prev y

/-- The same, chosen block by block from arrays of four axes. -/
theorem choose_blocks (M : ℕ → Prop) [DecidablePred M] (x : (⟨2, ![4096, 2048]⟩ : Shape).Idx → EReal)
    (dh : (⟨2, ![4096, 16384]⟩ : Shape).Idx → EReal) (prev : (⟨3, ![4, 2048, 4096]⟩ : Shape).Idx → EReal)
    (mask : (⟨4, ![4, 2048, 4, 1024]⟩ : Shape).Idx → BitVec 1) (dw : (⟨4, ![4, 2048, 4, 1024]⟩ : Shape).Idx → EReal)
    (hm : ∀ i, mask i = if M ((i 0).val * 4 + (i 2).val) then 1#1 else 0#1)
    (hd : ∀ i, dw i = gradAt x dh (i 1).val (4096 * (i 0).val + 1024 * (i 2).val + (i 3).val))
    (h1 : (⟨3, ![4, 2048, 4096]⟩ : Shape).ShapeCasts ⟨4, ![4, 2048, 4, 1024]⟩)
    (h2 : (⟨4, ![4, 2048, 4, 1024]⟩ : Shape).ShapeCasts ⟨3, ![4, 2048, 4096]⟩) :
    shapeCast (⟨3, ![4, 2048, 4096]⟩ : Shape) (fun i => if mask i = 1#1 then dw i else shapeCast (⟨4, ![4, 2048, 4, 1024]⟩ : Shape) prev h1 i) h2
      = resW M x dh prev := by
  funext y
  have y0 : (y 0).val < 4 := (y 0).isLt
  have y1 : (y 1).val < 2048 := (y 1).isLt
  have y2 : (y 2).val < 4096 := (y 2).isLt
  have e : ((y 0).val * 2048 + (y 1).val) * 4096 + (y 2).val
      = (((y 0).val * 2048 + (y 1).val) * 4 + (y 2).val / 1024) * 1024 + (y 2).val % 1024 := by omega
  refine (shapeCast_apply _ h2 y (ix4 (y 0) (y 1) (⟨(y 2).val / 1024, by omega⟩ : Fin 4) (⟨(y 2).val % 1024, by omega⟩ : Fin 1024)) ?_).trans ?_
  · rw [Shape.rowMajor_val_three, Shape.rowMajor_val_four]
    exact e.symm
  rw [hm, hd, shapeCast_apply prev h1 _ y (by rw [Shape.rowMajor_val_three, Shape.rowMajor_val_four]; exact e)]
  unfold resW
  by_cases h : M ((y 0).val * 4 + (y 2).val / 1024)
  · rw [if_pos h]
    refine (if_pos rfl).trans ?_
    rw [if_pos h]
    refine Eq.trans (b := gradAt x dh (y 1).val (4096 * (y 0).val + 1024 * ((y 2).val / 1024) + (y 2).val % 1024)) rfl ?_
    exact congrArg (gradAt x dh (y 1).val) (by omega)
  · rw [if_neg h]
    refine (if_neg (by decide)).trans ?_
    rw [if_neg h]

end Cert.Tokens
-- ==== Proof.WPart3.lean ====
/-
  The call `w_in_grad_qkv0`: its operands have their tokens in the order of the group of dilation 1, its blocks of columns are those of the
  queries, the keys and the values of that group.

  Point `t` takes half `t % 2` of the tokens, rows `1024 (t / 2 % 2)`, … of the gradient and block `(3 * (t.val / 4))` of its columns. A block
  of 1024 × 1024 is accumulated over the two halves: the first starts from zero, the second adds to it and writes the sum back.
-/
module

public import proofs.«01_k».proof.Proof.Tokens
public import proofs.«01_k».proof.Proof.Gen.Reference3Ideal.Read
public import proofs.«01_k».proof.Proof.Gen.Kernel3Ideal.Frame
public import proofs.«01_k».proof.Proof.Gen.Kernel3Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel3Ideal.Part

open Cert.Kernel3Ideal.Gen Cert.Tokens

/-! ## One point -/

theorem pay_zero : k0_pay1 (F := Ideal) = fun _ => 0 := by
  funext y
  unfold k0_pay1
  rw [shapeCast_self]
  exact Ideal.ofBits_zero_f32

theorem pay_step (acc : Vec Ideal S1024x1024 .f32) (A : Vec Ideal S1024x2048 .bf16) (b : Vec Ideal S1x2048x1024 .bf16) :
    k0_pay2 (F := Ideal) acc A b = stepW A (flat b) acc := by
  funext y
  unfold k0_pay2
  rw [shapeCast_self, shapeCast_self]
  refine congrArg (acc y + ·) ?_
  refine (Ideal.matmul_constant_zero_apply _ none A _ y).trans ?_
  refine (Equiv.sum_comp (contrEquiv1 _ 2048 rfl rfl).symm _).symm.trans ?_
  refine Finset.sum_congr rfl fun e _ => ?_
  show _ = A (ix2 (y 0) e) * b (ix3 0 e (y 1))
  rw [← shapeCast_1ab_ab_apply (a := 2048) (b := 1024) b shapeCasts_S1x2048x1024_S2048x1024 e (y 1)]
  congr 2
  · funext a; fin_cases a <;> rfl
  · funext a; fin_cases a <;> rfl

theorem pay_out (acc : Vec Ideal S1024x1024 .f32) (y : S1x1024x1024.Idx) : k0_pay3 (F := Ideal) acc y = acc (ix2 (y 1) (y 2)) := by
  unfold k0_pay3
  have hy : y = ix3 (0 : Fin 1) (y 1) (y 2) := by
    funext a
    fin_cases a
    · exact Subsingleton.elim (α := Fin 1) _ _
    · rfl
    · rfl
  rw [hy]
  exact (shapeCast_ab_1ab_apply (a := 1024) (b := 1024) _ _ 0 (y 1) (y 2)).trans rfl

/-! ## The arrays the call reads, and a point's blocks of them -/

variable (m : (ℓ : Loc nD τ sig) → Buf (Elt Ideal) ℓ) (c : Dev nD)

/-- The call's arguments. -/
abbrev xA : S4096x2048.Idx → EReal := m ((c : Thread nD τ).loc main_arg0)
abbrev dhA : S4096x16384.Idx → EReal := m ((c : Thread nD τ).loc main_arg1)
abbrev prevA : S4x2048x4096.Idx → EReal := m ((c : Thread nD τ).loc main_arg2)

theorem arr_0 (y : S2048x4096.Idx) : V m c main_v21 y = at2 (xA m c) (tok 1 4096 (y 1).val) (y 0).val := by
  have e : V m c main_v21 = transpose S2048x4096 [1, 0] (shapeCast S4096x2048 (transpose S1x4096x2048 [1, 0, 2] (shapeCast S4096x1x2048 (xA m c)
      shapeCasts_S4096x2048_S4096x1x2048) transposes_S4096x1x2048_S1x4096x2048_1_0_2) shapeCasts_S1x4096x2048_S4096x2048)
      transposes_S4096x2048_S2048x4096_1_0 := by
    unfold_abbrev_sides
    simp only [hostOps0]
    after_results
    rfl
  rw [e]
  exact groupT_apply (n := 1) (l := 4096) (by norm_num) (xA m c) _ _ _ _ y

theorem arr_1 (y : S3x4096x1024.Idx) :
    V m c main_v16 y = at2 (dhA m c) (tok 1 4096 (y 1).val) (1024 * (3 * ((y 0).val)) + (y 2).val) := by
  have e : V m c main_v16 = stack3 bcast_S4096x1024_S1x4096x1024_1_2 concatenates_S1x4096x1024_S1x4096x1024_S1x4096x1024_S3x4096x1024_d0
      ![grp (n := 1) (l := 4096) 0 (dhA m c) slices_S4096x16384_S4096x1024_0_0 shapeCasts_S4096x1024_S4096x1x1024
        transposes_S4096x1x1024_S1x4096x1024_1_0_2 shapeCasts_S1x4096x1024_S4096x1024,
      grp (n := 1) (l := 4096) 3072 (dhA m c) slices_S4096x16384_S4096x1024_0_3072 shapeCasts_S4096x1024_S4096x1x1024
        transposes_S4096x1x1024_S1x4096x1024_1_0_2 shapeCasts_S1x4096x1024_S4096x1024,
      grp (n := 1) (l := 4096) 6144 (dhA m c) slices_S4096x16384_S4096x1024_0_6144 shapeCasts_S4096x1024_S4096x1x1024
        transposes_S4096x1x1024_S1x4096x1024_1_0_2 shapeCasts_S1x4096x1024_S4096x1024] := by
    unfold_abbrev_sides
    simp only [hostOps0]
    after_results
    dsimp only [Matrix.cons_val_zero, Matrix.cons_val_one, Matrix.cons_val]
    refine stack3_congr _ _ _ _ _ ?_ ?_ ?_
    · after_results; rfl
    · after_results; rfl
    · after_results; rfl
  rw [e]
  obtain ⟨p, r, e, rfl⟩ : ∃ (p : Fin 3) (r : Fin 4096) (e : Fin 1024), y = ix3 p r e := ⟨y 0, y 1, y 2, eq_ix3 y⟩
  refine (stack3_apply _ _ _ p r e).trans ?_
  fin_cases p
  exacts [grp_apply (by norm_num) 0 (dhA m c) slices_S4096x16384_S4096x1024_0_0 _ _ _ _,
    grp_apply (by norm_num) 3072 (dhA m c) slices_S4096x16384_S4096x1024_0_3072 _ _ _ _,
    grp_apply (by norm_num) 6144 (dhA m c) slices_S4096x16384_S4096x1024_0_6144 _ _ _ _]

theorem host_2 : V m c main_v23 = prevA m c := by
  unfold_abbrev_sides
  simp only [hostOps0]
  after_results
  rfl

theorem ix_0 : ∀ t : Fin cfg0.N, win0_0.index t 0 = t.val / 2 % 2 ∧ win0_0.index t 1 = t.val % 2 := by decide +kernel
theorem ix_1 : ∀ t : Fin cfg0.N, win0_1.index t 0 = t.val / 4 ∧ win0_1.index t 1 = t.val % 2 ∧ win0_1.index t 2 = 0 := by decide +kernel
theorem ix_2 : ∀ t : Fin cfg0.N, win0_2.index t 0 = (3 * (t.val / 4)) / 4 ∧ win0_2.index t 1 = t.val / 2 % 2 ∧ win0_2.index t 2 = (3 * (t.val / 4)) % 4 := by
  decide +kernel
theorem flush_2 : ∀ t : Fin cfg0.N, (cfg0.win 2).flush t = true ↔ t.val % 2 = 1 := by decide +kernel

theorem rd_0 (X : S2048x4096.Idx → Elt Ideal .bf16) (t : Fin cfg0.N) (y : S1024x2048.Idx) :
    ((cfg0.win 0).blk t).view.read (Elt Ideal) X y = X ((win0_0.blk t).view.emb y) := rfl
theorem rd_1 (X : S3x4096x1024.Idx → Elt Ideal .bf16) (t : Fin cfg0.N) (y : S1x2048x1024.Idx) :
    ((cfg0.win 1).blk t).view.read (Elt Ideal) X y = X ((win0_1.blk t).view.emb y) := rfl
theorem rd_2 (X : S4x2048x4096.Idx → Elt Ideal .bf16) (t : Fin cfg0.N) (y : S1x1024x1024.Idx) :
    ((cfg0.win 2).blk t).view.read (Elt Ideal) X y = X ((win0_2.blk t).view.emb y) := rfl

theorem e_0 (t : Fin cfg0.N) (y : S1024x2048.Idx) : ((win0_0.blk t).view.emb y 0).val = (t.val / 2 % 2) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S1x2048x1024.Idx) : ((win0_1.blk t).view.emb y 0).val = (t.val / 4) * 1 + (y 0).val
    ∧ ((win0_1.blk t).view.emb y 1).val = (t.val % 2) * 2048 + (y 1).val ∧ ((win0_1.blk t).view.emb y 2).val = 0 * 1024 + (y 2).val := by
  obtain ⟨i0, i1, i2⟩ := ix_1 t
  refine ⟨?_, ?_, ?_⟩
  · blk_simp; rw [i0] <;> omega
  · blk_simp; rw [i1] <;> omega
  · blk_simp; rw [i2] <;> omega
theorem e_2 (t : Fin cfg0.N) (y : S1x1024x1024.Idx) : ((win0_2.blk t).view.emb y 0).val = (3 * (t.val / 4)) / 4 * 1 + (y 0).val
    ∧ ((win0_2.blk t).view.emb y 1).val = (t.val / 2 % 2) * 1024 + (y 1).val
    ∧ ((win0_2.blk t).view.emb y 2).val = (3 * (t.val / 4)) % 4 * 1024 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = xT 1 4096 (xA m c) t.val := by
  funext y
  unfold xT
  refine (rd_0 (V m c main_v21) t y).trans ((arr_0 m c _).trans ?_)
  obtain ⟨e0, e1⟩ := e_0 t y
  rw [e0, e1]
  exact congrArg₂ (fun p q => at2 (xA m c) (tok 1 4096 p) q) (by omega) (by omega)
theorem r_1 (t : Fin cfg0.N) : (flat (iblk m c 1 t)) = dT 1 4096 ((3 * (t.val / 4))) (dhA m c) t.val := by
  funext y
  unfold dT
  refine (rd_1 (V m c main_v16) t (ix3 (0 : Fin 1) (y 0) (y 1))).trans ((arr_1 m c _).trans ?_)
  obtain ⟨e0, e1, e2⟩ := e_1 t (ix3 (0 : Fin 1) (y 0) (y 1))
  rw [e0, e1, e2]
  refine congrArg₂ (fun p q => at2 (dhA m c) (tok 1 4096 p) q) (?_ : t.val % 2 * 2048 + (y 0).val = _)
    (?_ : 1024 * (3 * (t.val / 4 * 1 + 0)) + (0 * 1024 + (y 1).val) = _) <;> omega

/-! ## The array the call leaves -/

/-- The blocks of columns of the call. -/
abbrev Mine (j : ℕ) : Prop := j = 0 ∨ j = 3 ∨ j = 6

/-- The first half, from zero. -/
theorem acc_A (t : Fin cfg0.N) (h : t.val % 2 = 0) :
    (outsAt0 m c t.val t.isLt).2 = stepW (xT 1 4096 (xA m c) t.val) (dT 1 4096 ((3 * (t.val / 4))) (dhA m c) t.val) fun _ => 0 := by
  rw [outsAt0_A m c t h (by omega)]
  dsimp only
  unfold sout0_A_0
  frame_out
  rw [pay_zero]
  exact (pay_step _ _ _).trans (congrArg₂ (fun A b => stepW A b fun _ => 0) (r_0 m c t) (r_1 m c t))

/-- What the second half writes back. -/
theorem back (t : Fin cfg0.N) (h : t.val % 2 = 1) (y : S1x1024x1024.Idx) : (dats m 0 c).flushed 2 t y
    = gradAt (xA m c) (dhA m c) (1024 * (t.val / 2 % 2) + (y 1).val) (1024 * ((3 * (t.val / 4))) + (y 2).val) := by
  rw [Value.flushed2_B m c t (by omega) h]
  unfold out0_B_2
  frame_out
  refine (pay_out _ y).trans ((congrFun ((pay_step _ _ _).trans (congrArg (stepW _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (3 * ((t.val - 1) / 4)) = (3 * (t.val / 4)) by omega]
  exact two_steps (by norm_num) _ (xA m c) (dhA m c) t.val h _

theorem mine_blk (t a b : ℕ) (ht : t < 12) (ha : a < 1) (hb : b < 1024) : Mine (((3 * (t / 4)) / 4 * 1 + a) * 4 + ((3 * (t / 4)) % 4 * 1024 + b) / 1024) := by
  obtain ⟨j, hj⟩ : ∃ j, j = ((3 * (t / 4)) / 4 * 1 + a) * 4 + ((3 * (t / 4)) % 4 * 1024 + b) / 1024 := ⟨_, rfl⟩
  rw [← hj]
  show j = 0 ∨ j = 3 ∨ j = 6
  omega

/-- The array, block by block. -/
theorem block (t : Fin cfg0.N) (h : (cfg0.win 2).flush t = true) : (dats m 0 c).flushed 2 t
    = ((cfg0.win 2).blk t).view.read (Elt Ideal) (resW Mine (xA m c) (dhA m c) (prevA m c)) := by
  have ht : t.val < 12 := t.isLt
  funext y
  have y0 : (y 0).val < 1 := (y 0).isLt
  have y2 : (y 2).val < 1024 := (y 2).isLt
  obtain ⟨e0, e1, e2⟩ := e_2 t y
  refine (back m c t ((flush_2 t).mp h) y).trans (Eq.trans ?_ (rd_2 (resW Mine (xA m c) (dhA m c) (prevA m c)) t y).symm)
  unfold resW
  rw [e0, e1, e2, if_pos (mine_blk t.val _ _ ht y0 y2)]
  exact congrArg₂ (gradAt (xA m c) (dhA m c)) (by omega) (by omega)

theorem final : (dats m 0 c).arrAt 2 cfg0.N = resW Mine (xA m c) (dhA m c) (prevA m c) := by
  funext i
  have i0 : (i 0).val < 4 := (i 0).isLt
  have i1 : (i 1).val < 2048 := (i 1).isLt
  have i2 : (i 2).val < 4096 := (i 2).isLt
  by_cases hj : Mine ((i 0).val * 4 + (i 2).val / 1024)
  · obtain ⟨j, ej⟩ : ∃ j, j = (i 0).val * 4 + (i 2).val / 1024 := ⟨_, rfl⟩
    have hj' : j = 0 ∨ j = 3 ∨ j = 6 := by rw [ej]; exact hj
    have hN : 4 * (j / 3) + 2 * ((i 1).val / 1024) + 1 < 12 := by omega
    obtain ⟨t, ht⟩ : ∃ t : Fin cfg0.N, t.val = 4 * (j / 3) + 2 * ((i 1).val / 1024) + 1 := ⟨⟨_, hN⟩, rfl⟩
    have hf : (cfg0.win 2).flush t = true := (flush_2 t).mpr (by omega)
    refine (dats m 0 c).arrAt_apply_of_mem 2 _ (block m c) cfg0.N t i t.isLt hf ?_
    obtain ⟨e0, e1, e2⟩ := e_2 t (ix3 (0 : Fin 1) (⟨(i 1).val % 1024, Nat.mod_lt _ (by norm_num)⟩ : Fin 1024)
      (⟨(i 2).val % 1024, Nat.mod_lt _ (by norm_num)⟩ : Fin 1024))
    have he : (win0_2.blk t).view.emb (ix3 (0 : Fin 1) (⟨(i 1).val % 1024, Nat.mod_lt _ (by norm_num)⟩ : Fin 1024)
      (⟨(i 2).val % 1024, Nat.mod_lt _ (by norm_num)⟩ : Fin 1024)) = i := by
      funext a
      refine Fin.ext ?_
      fin_cases a
      · refine e0.trans ?_
        show (3 * (t.val / 4)) / 4 * 1 + 0 = (i 0).val
        omega
      · refine e1.trans ?_
        show t.val / 2 % 2 * 1024 + (i 1).val % 1024 = (i 1).val
        omega
      · refine e2.trans ?_
        show (3 * (t.val / 4)) % 4 * 1024 + (i 2).val % 1024 = (i 2).val
        omega
    exact he ▸ (win0_2.blk t).view.emb_mem_set _
  · rw [Value.entry2 m c i fun t hf hi => hj ?_]
    · exact (congrFun (host_2 m c) i).trans (if_neg hj).symm
    · obtain ⟨y, -, rfl⟩ := Finset.mem_map.mp hi
      obtain ⟨e0, e1, e2⟩ := e_2 t y
      have h := mine_blk t.val (y 0).val (y 2).val t.isLt (y 0).isLt (y 2).isLt
      rw [← e0, ← e2] at h
      exact h

/-! ## The reference -/

open Cert.Reference3Ideal.Read

theorem here (q : Fin 16) (b : BitVec 1) (hb : b = IntOp.ori (IntOp.ori (IntOp.cmpi .eq (BitVec.ofNat 32 q.val) 0#32) (IntOp.cmpi .eq (BitVec.ofNat 32 q.val) 3#32)) (IntOp.cmpi .eq (BitVec.ofNat 32 q.val) 6#32)) : b = if Mine q.val then 1#1 else 0#1 := by
  subst hb
  revert q
  decide +kernel

theorem mask (i : Cert.Reference3Ideal.S4x2048x4x1024.Idx) : val_main_call0_v0 (F := Ideal) i
    = if Mine ((i 0).val * 4 + (i 2).val) then 1#1 else 0#1 := by
  have h0 : (i 0).val < 4 := (i 0).isLt
  have h2 : (i 2).val < 4 := (i 2).isLt
  refine here ⟨(i 0).val * 4 + (i 2).val, by omega⟩ _ ?_
  rw [val_main_call0_v0_apply, val_main_v15_apply, val_main_v12_apply, val_main_v9_apply, val_main_v11_apply, val_main_v14_apply, val_main_v7_apply, val_main_v6_apply, val_main_v8_apply, val_main_v10_apply, val_main_v13_apply, val_main_c_apply, val_main_c_0_apply, val_main_c_1_apply]
  have e : (idx_main_v7 (idx_main_call0_v0 i) 0).val = (i 0).val * 4 + (i 2).val := by
    show (((i 0).val * 1 + 0) * 4 + (i 2).val) * 1 + 0 = _
    omega
  rw [e]

theorem deriv (x : S4096x2048.Idx → EReal) (dh : S4096x16384.Idx → EReal) (i : Cert.Reference3Ideal.S4x2048x4x1024.Idx) :
    val_main_v5 (F := Ideal) x dh i = gradAt x dh (i 1).val (4096 * (i 0).val + 1024 * (i 2).val + (i 3).val) := by
  have h0 : (i 0).val < 4 := (i 0).isLt
  have h1 : (i 1).val < 2048 := (i 1).isLt
  have h2 : (i 2).val < 4 := (i 2).isLt
  have h3 : (i 3).val < 1024 := (i 3).isLt
  rw [val_main_v5_apply, val_main_v4_apply, val_main_v3_apply, val_main_v2_apply]
  unfold gradAt
  rw [Finset.sum_range]
  refine Finset.sum_congr rfl fun k _ => (mul_comm _ _).trans (congrArg₂ (· * ·) ?_ ?_)
  · refine at2_eq (n := 4096) (l := 2048) x _ rfl ?_
    show (((((i 1).val * 4 + (i 0).val) * 4 + (i 2).val) * 1024 + (i 3).val) / 16384) = _
    omega
  · refine at2_eq (n := 4096) (l := 16384) dh _ rfl ?_
    show (((((i 1).val * 4 + (i 0).val) * 4 + (i 2).val) * 1024 + (i 3).val) % 16384) = _
    omega

theorem result : (dats m 0 c).arrAt 2 cfg0.N = val_main_v19 (F := Ideal) (m ((c : Thread nD τ).loc main_arg0)) (m ((c : Thread nD τ).loc main_arg1))
    (m ((c : Thread nD τ).loc main_arg2)) :=
  (final m c).trans (choose_blocks Mine (xA m c) (dhA m c) (prevA m c) (val_main_call0_v0 (F := Ideal)) (val_main_v5 (F := Ideal) (xA m c) (dhA m c))
    mask (deriv (xA m c) (dhA m c)) _ _).symm

/-- Equal arguments, equal results. -/
theorem result_congr {x x' : S4096x2048.Idx → EReal} {dh dh' : S4096x16384.Idx → EReal} {prev prev' : S4x2048x4096.Idx → EReal}
    (h0 : x = x') (h1 : dh = dh') (h2 : prev = prev') : val_main_v19 (F := Ideal) x dh prev = val_main_v19 (F := Ideal) x' dh' prev' := by
  subst h0 h1 h2
  rfl

end Cert.Kernel3Ideal.Part
-- ==== Proof.WPart4.lean ====
/-
  The call `w_in_grad_qkv1`: its operands have their tokens in the order of the group of dilation 4, its blocks of columns are those of the
  queries, the keys and the values of that group.

  Point `t` takes half `t % 2` of the tokens, rows `1024 (t / 2 % 2)`, … of the gradient and block `(3 * (t.val / 4) + 1)` of its columns. A block
  of 1024 × 1024 is accumulated over the two halves: the first starts from zero, the second adds to it and writes the sum back.
-/
module

public import proofs.«01_k».proof.Proof.Tokens
public import proofs.«01_k».proof.Proof.WPart3
public import proofs.«01_k».proof.Proof.Gen.Reference4Ideal.Read
public import proofs.«01_k».proof.Proof.Gen.Kernel4Ideal.Frame
public import proofs.«01_k».proof.Proof.Gen.Kernel4Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel4Ideal.Part

open Cert.Kernel4Ideal.Gen Cert.Tokens

/-! ## One point -/

theorem pay_zero : k0_pay1 (F := Ideal) = fun _ => 0 := Cert.Kernel3Ideal.Part.pay_zero

theorem pay_step (acc : Vec Ideal S1024x1024 .f32) (A : Vec Ideal S1024x2048 .bf16) (b : Vec Ideal S1x2048x1024 .bf16) :
    k0_pay2 (F := Ideal) acc A b = stepW A (flat b) acc := Cert.Kernel3Ideal.Part.pay_step acc A b

theorem pay_out (acc : Vec Ideal S1024x1024 .f32) (y : S1x1024x1024.Idx) : k0_pay3 (F := Ideal) acc y = acc (ix2 (y 1) (y 2)) :=
  Cert.Kernel3Ideal.Part.pay_out acc y

/-! ## The arrays the call reads, and a point's blocks of them -/

variable (m : (ℓ : Loc nD τ sig) → Buf (Elt Ideal) ℓ) (c : Dev nD)

/-- The call's arguments. -/
abbrev xA : S4096x2048.Idx → EReal := m ((c : Thread nD τ).loc main_arg0)
abbrev dhA : S4096x16384.Idx → EReal := m ((c : Thread nD τ).loc main_arg1)
abbrev prevA : S4x2048x4096.Idx → EReal := m ((c : Thread nD τ).loc main_arg2)

theorem arr_0 (y : S2048x4096.Idx) : V m c main_v21 y = at2 (xA m c) (tok 4 1024 (y 1).val) (y 0).val := by
  have e : V m c main_v21 = transpose S2048x4096 [1, 0] (shapeCast S4096x2048 (transpose S4x1024x2048 [1, 0, 2] (shapeCast S1024x4x2048 (xA m c)
      shapeCasts_S4096x2048_S1024x4x2048) transposes_S1024x4x2048_S4x1024x2048_1_0_2) shapeCasts_S4x1024x2048_S4096x2048)
      transposes_S4096x2048_S2048x4096_1_0 := by
    unfold_abbrev_sides
    simp only [hostOps0]
    after_results
    rfl
  rw [e]
  exact groupT_apply (n := 4) (l := 1024) (by norm_num) (xA m c) _ _ _ _ y

theorem arr_1 (y : S3x4096x1024.Idx) :
    V m c main_v16 y = at2 (dhA m c) (tok 4 1024 (y 1).val) (1024 * (3 * ((y 0).val) + 1) + (y 2).val) := by
  have e : V m c main_v16 = stack3 bcast_S4096x1024_S1x4096x1024_1_2 concatenates_S1x4096x1024_S1x4096x1024_S1x4096x1024_S3x4096x1024_d0
      ![grp (n := 4) (l := 1024) 1024 (dhA m c) slices_S4096x16384_S4096x1024_0_1024 shapeCasts_S4096x1024_S1024x4x1024
        transposes_S1024x4x1024_S4x1024x1024_1_0_2 shapeCasts_S4x1024x1024_S4096x1024,
      grp (n := 4) (l := 1024) 4096 (dhA m c) slices_S4096x16384_S4096x1024_0_4096 shapeCasts_S4096x1024_S1024x4x1024
        transposes_S1024x4x1024_S4x1024x1024_1_0_2 shapeCasts_S4x1024x1024_S4096x1024,
      grp (n := 4) (l := 1024) 7168 (dhA m c) slices_S4096x16384_S4096x1024_0_7168 shapeCasts_S4096x1024_S1024x4x1024
        transposes_S1024x4x1024_S4x1024x1024_1_0_2 shapeCasts_S4x1024x1024_S4096x1024] := by
    unfold_abbrev_sides
    simp only [hostOps0]
    after_results
    dsimp only [Matrix.cons_val_zero, Matrix.cons_val_one, Matrix.cons_val]
    refine stack3_congr _ _ _ _ _ ?_ ?_ ?_
    · after_results; rfl
    · after_results; rfl
    · after_results; rfl
  rw [e]
  obtain ⟨p, r, e, rfl⟩ : ∃ (p : Fin 3) (r : Fin 4096) (e : Fin 1024), y = ix3 p r e := ⟨y 0, y 1, y 2, eq_ix3 y⟩
  refine (stack3_apply _ _ _ p r e).trans ?_
  fin_cases p
  exacts [grp_apply (by norm_num) 1024 (dhA m c) slices_S4096x16384_S4096x1024_0_1024 _ _ _ _,
    grp_apply (by norm_num) 4096 (dhA m c) slices_S4096x16384_S4096x1024_0_4096 _ _ _ _,
    grp_apply (by norm_num) 7168 (dhA m c) slices_S4096x16384_S4096x1024_0_7168 _ _ _ _]

theorem host_2 : V m c main_v23 = prevA m c := by
  unfold_abbrev_sides
  simp only [hostOps0]
  after_results
  rfl

theorem ix_0 : ∀ t : Fin cfg0.N, win0_0.index t 0 = t.val / 2 % 2 ∧ win0_0.index t 1 = t.val % 2 := by decide +kernel
theorem ix_1 : ∀ t : Fin cfg0.N, win0_1.index t 0 = t.val / 4 ∧ win0_1.index t 1 = t.val % 2 ∧ win0_1.index t 2 = 0 := by decide +kernel
theorem ix_2 : ∀ t : Fin cfg0.N, win0_2.index t 0 = (3 * (t.val / 4) + 1) / 4 ∧ win0_2.index t 1 = t.val / 2 % 2 ∧ win0_2.index t 2 = (3 * (t.val / 4) + 1) % 4 := by
  decide +kernel
theorem flush_2 : ∀ t : Fin cfg0.N, (cfg0.win 2).flush t = true ↔ t.val % 2 = 1 := by decide +kernel

theorem rd_0 (X : S2048x4096.Idx → Elt Ideal .bf16) (t : Fin cfg0.N) (y : S1024x2048.Idx) :
    ((cfg0.win 0).blk t).view.read (Elt Ideal) X y = X ((win0_0.blk t).view.emb y) := rfl
theorem rd_1 (X : S3x4096x1024.Idx → Elt Ideal .bf16) (t : Fin cfg0.N) (y : S1x2048x1024.Idx) :
    ((cfg0.win 1).blk t).view.read (Elt Ideal) X y = X ((win0_1.blk t).view.emb y) := rfl
theorem rd_2 (X : S4x2048x4096.Idx → Elt Ideal .bf16) (t : Fin cfg0.N) (y : S1x1024x1024.Idx) :
    ((cfg0.win 2).blk t).view.read (Elt Ideal) X y = X ((win0_2.blk t).view.emb y) := rfl

theorem e_0 (t : Fin cfg0.N) (y : S1024x2048.Idx) : ((win0_0.blk t).view.emb y 0).val = (t.val / 2 % 2) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S1x2048x1024.Idx) : ((win0_1.blk t).view.emb y 0).val = (t.val / 4) * 1 + (y 0).val
    ∧ ((win0_1.blk t).view.emb y 1).val = (t.val % 2) * 2048 + (y 1).val ∧ ((win0_1.blk t).view.emb y 2).val = 0 * 1024 + (y 2).val := by
  obtain ⟨i0, i1, i2⟩ := ix_1 t
  refine ⟨?_, ?_, ?_⟩
  · blk_simp; rw [i0] <;> omega
  · blk_simp; rw [i1] <;> omega
  · blk_simp; rw [i2] <;> omega
theorem e_2 (t : Fin cfg0.N) (y : S1x1024x1024.Idx) : ((win0_2.blk t).view.emb y 0).val = (3 * (t.val / 4) + 1) / 4 * 1 + (y 0).val
    ∧ ((win0_2.blk t).view.emb y 1).val = (t.val / 2 % 2) * 1024 + (y 1).val
    ∧ ((win0_2.blk t).view.emb y 2).val = (3 * (t.val / 4) + 1) % 4 * 1024 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = xT 4 1024 (xA m c) t.val := by
  funext y
  unfold xT
  refine (rd_0 (V m c main_v21) t y).trans ((arr_0 m c _).trans ?_)
  obtain ⟨e0, e1⟩ := e_0 t y
  rw [e0, e1]
  exact congrArg₂ (fun p q => at2 (xA m c) (tok 4 1024 p) q) (by omega) (by omega)
theorem r_1 (t : Fin cfg0.N) : (flat (iblk m c 1 t)) = dT 4 1024 ((3 * (t.val / 4) + 1)) (dhA m c) t.val := by
  funext y
  unfold dT
  refine (rd_1 (V m c main_v16) t (ix3 (0 : Fin 1) (y 0) (y 1))).trans ((arr_1 m c _).trans ?_)
  obtain ⟨e0, e1, e2⟩ := e_1 t (ix3 (0 : Fin 1) (y 0) (y 1))
  rw [e0, e1, e2]
  refine congrArg₂ (fun p q => at2 (dhA m c) (tok 4 1024 p) q) (?_ : t.val % 2 * 2048 + (y 0).val = _)
    (?_ : 1024 * (3 * (t.val / 4 * 1 + 0) + 1) + (0 * 1024 + (y 1).val) = _) <;> omega

/-! ## The array the call leaves -/

/-- The blocks of columns of the call. -/
abbrev Mine (j : ℕ) : Prop := j = 1 ∨ j = 4 ∨ j = 7

/-- The first half, from zero. -/
theorem acc_A (t : Fin cfg0.N) (h : t.val % 2 = 0) :
    (outsAt0 m c t.val t.isLt).2 = stepW (xT 4 1024 (xA m c) t.val) (dT 4 1024 ((3 * (t.val / 4) + 1)) (dhA m c) t.val) fun _ => 0 := by
  rw [outsAt0_A m c t h (by omega)]
  dsimp only
  unfold sout0_A_0
  frame_out
  rw [pay_zero]
  exact (pay_step _ _ _).trans (congrArg₂ (fun A b => stepW A b fun _ => 0) (r_0 m c t) (r_1 m c t))

/-- What the second half writes back. -/
theorem back (t : Fin cfg0.N) (h : t.val % 2 = 1) (y : S1x1024x1024.Idx) : (dats m 0 c).flushed 2 t y
    = gradAt (xA m c) (dhA m c) (1024 * (t.val / 2 % 2) + (y 1).val) (1024 * ((3 * (t.val / 4) + 1)) + (y 2).val) := by
  rw [Value.flushed2_B m c t (by omega) h]
  unfold out0_B_2
  frame_out
  refine (pay_out _ y).trans ((congrFun ((pay_step _ _ _).trans (congrArg (stepW _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (3 * ((t.val - 1) / 4) + 1) = (3 * (t.val / 4) + 1) by omega]
  exact two_steps (by norm_num) _ (xA m c) (dhA m c) t.val h _

theorem mine_blk (t a b : ℕ) (ht : t < 12) (ha : a < 1) (hb : b < 1024) : Mine (((3 * (t / 4) + 1) / 4 * 1 + a) * 4 + ((3 * (t / 4) + 1) % 4 * 1024 + b) / 1024) := by
  obtain ⟨j, hj⟩ : ∃ j, j = ((3 * (t / 4) + 1) / 4 * 1 + a) * 4 + ((3 * (t / 4) + 1) % 4 * 1024 + b) / 1024 := ⟨_, rfl⟩
  rw [← hj]
  show j = 1 ∨ j = 4 ∨ j = 7
  omega

/-- The array, block by block. -/
theorem block (t : Fin cfg0.N) (h : (cfg0.win 2).flush t = true) : (dats m 0 c).flushed 2 t
    = ((cfg0.win 2).blk t).view.read (Elt Ideal) (resW Mine (xA m c) (dhA m c) (prevA m c)) := by
  have ht : t.val < 12 := t.isLt
  funext y
  have y0 : (y 0).val < 1 := (y 0).isLt
  have y2 : (y 2).val < 1024 := (y 2).isLt
  obtain ⟨e0, e1, e2⟩ := e_2 t y
  refine (back m c t ((flush_2 t).mp h) y).trans (Eq.trans ?_ (rd_2 (resW Mine (xA m c) (dhA m c) (prevA m c)) t y).symm)
  unfold resW
  rw [e0, e1, e2, if_pos (mine_blk t.val _ _ ht y0 y2)]
  exact congrArg₂ (gradAt (xA m c) (dhA m c)) (by omega) (by omega)

theorem final : (dats m 0 c).arrAt 2 cfg0.N = resW Mine (xA m c) (dhA m c) (prevA m c) := by
  funext i
  have i0 : (i 0).val < 4 := (i 0).isLt
  have i1 : (i 1).val < 2048 := (i 1).isLt
  have i2 : (i 2).val < 4096 := (i 2).isLt
  by_cases hj : Mine ((i 0).val * 4 + (i 2).val / 1024)
  · obtain ⟨j, ej⟩ : ∃ j, j = (i 0).val * 4 + (i 2).val / 1024 := ⟨_, rfl⟩
    have hj' : j = 1 ∨ j = 4 ∨ j = 7 := by rw [ej]; exact hj
    have hN : 4 * (j / 3) + 2 * ((i 1).val / 1024) + 1 < 12 := by omega
    obtain ⟨t, ht⟩ : ∃ t : Fin cfg0.N, t.val = 4 * (j / 3) + 2 * ((i 1).val / 1024) + 1 := ⟨⟨_, hN⟩, rfl⟩
    have hf : (cfg0.win 2).flush t = true := (flush_2 t).mpr (by omega)
    refine (dats m 0 c).arrAt_apply_of_mem 2 _ (block m c) cfg0.N t i t.isLt hf ?_
    obtain ⟨e0, e1, e2⟩ := e_2 t (ix3 (0 : Fin 1) (⟨(i 1).val % 1024, Nat.mod_lt _ (by norm_num)⟩ : Fin 1024)
      (⟨(i 2).val % 1024, Nat.mod_lt _ (by norm_num)⟩ : Fin 1024))
    have he : (win0_2.blk t).view.emb (ix3 (0 : Fin 1) (⟨(i 1).val % 1024, Nat.mod_lt _ (by norm_num)⟩ : Fin 1024)
      (⟨(i 2).val % 1024, Nat.mod_lt _ (by norm_num)⟩ : Fin 1024)) = i := by
      funext a
      refine Fin.ext ?_
      fin_cases a
      · refine e0.trans ?_
        show (3 * (t.val / 4) + 1) / 4 * 1 + 0 = (i 0).val
        omega
      · refine e1.trans ?_
        show t.val / 2 % 2 * 1024 + (i 1).val % 1024 = (i 1).val
        omega
      · refine e2.trans ?_
        show (3 * (t.val / 4) + 1) % 4 * 1024 + (i 2).val % 1024 = (i 2).val
        omega
    exact he ▸ (win0_2.blk t).view.emb_mem_set _
  · rw [Value.entry2 m c i fun t hf hi => hj ?_]
    · exact (congrFun (host_2 m c) i).trans (if_neg hj).symm
    · obtain ⟨y, -, rfl⟩ := Finset.mem_map.mp hi
      obtain ⟨e0, e1, e2⟩ := e_2 t y
      have h := mine_blk t.val (y 0).val (y 2).val t.isLt (y 0).isLt (y 2).isLt
      rw [← e0, ← e2] at h
      exact h

/-! ## The reference -/

open Cert.Reference4Ideal.Read

theorem here (q : Fin 16) (b : BitVec 1) (hb : b = IntOp.ori (IntOp.ori (IntOp.cmpi .eq (BitVec.ofNat 32 q.val) 1#32) (IntOp.cmpi .eq (BitVec.ofNat 32 q.val) 4#32)) (IntOp.cmpi .eq (BitVec.ofNat 32 q.val) 7#32)) : b = if Mine q.val then 1#1 else 0#1 := by
  subst hb
  revert q
  decide +kernel

theorem mask (i : Cert.Reference4Ideal.S4x2048x4x1024.Idx) : val_main_call0_v0 (F := Ideal) i
    = if Mine ((i 0).val * 4 + (i 2).val) then 1#1 else 0#1 := by
  have h0 : (i 0).val < 4 := (i 0).isLt
  have h2 : (i 2).val < 4 := (i 2).isLt
  refine here ⟨(i 0).val * 4 + (i 2).val, by omega⟩ _ ?_
  rw [val_main_call0_v0_apply, val_main_v15_apply, val_main_v12_apply, val_main_v9_apply, val_main_v11_apply, val_main_v14_apply, val_main_v7_apply, val_main_v6_apply, val_main_v8_apply, val_main_v10_apply, val_main_v13_apply, val_main_c_apply, val_main_c_0_apply, val_main_c_1_apply]
  have e : (idx_main_v7 (idx_main_call0_v0 i) 0).val = (i 0).val * 4 + (i 2).val := by
    show (((i 0).val * 1 + 0) * 4 + (i 2).val) * 1 + 0 = _
    omega
  rw [e]

theorem deriv (x : S4096x2048.Idx → EReal) (dh : S4096x16384.Idx → EReal) (i : Cert.Reference4Ideal.S4x2048x4x1024.Idx) :
    val_main_v5 (F := Ideal) x dh i = gradAt x dh (i 1).val (4096 * (i 0).val + 1024 * (i 2).val + (i 3).val) :=
  (congrFun (show val_main_v5 (F := Ideal) x dh = Cert.Reference3Ideal.Read.val_main_v5 (F := Ideal) x dh from rfl) i).trans
    (Cert.Kernel3Ideal.Part.deriv x dh i)

theorem result : (dats m 0 c).arrAt 2 cfg0.N = val_main_v19 (F := Ideal) (m ((c : Thread nD τ).loc main_arg0)) (m ((c : Thread nD τ).loc main_arg1))
    (m ((c : Thread nD τ).loc main_arg2)) :=
  (final m c).trans (choose_blocks Mine (xA m c) (dhA m c) (prevA m c) (val_main_call0_v0 (F := Ideal)) (val_main_v5 (F := Ideal) (xA m c) (dhA m c))
    mask (deriv (xA m c) (dhA m c)) _ _).symm

/-- Equal arguments, equal results. -/
theorem result_congr {x x' : S4096x2048.Idx → EReal} {dh dh' : S4096x16384.Idx → EReal} {prev prev' : S4x2048x4096.Idx → EReal}
    (h0 : x = x') (h1 : dh = dh') (h2 : prev = prev') : val_main_v19 (F := Ideal) x dh prev = val_main_v19 (F := Ideal) x' dh' prev' := by
  subst h0 h1 h2
  rfl

end Cert.Kernel4Ideal.Part
-- ==== Proof.WPart5.lean ====
/-
  The call `w_in_grad_qkv2`: its operands have their tokens in the order of the group of dilation 16, its blocks of columns are those of the
  queries, the keys and the values of that group.

  Point `t` takes half `t % 2` of the tokens, rows `1024 (t / 2 % 2)`, … of the gradient and block `(3 * (t.val / 4) + 2)` of its columns. A block
  of 1024 × 1024 is accumulated over the two halves: the first starts from zero, the second adds to it and writes the sum back.
-/
module

public import proofs.«01_k».proof.Proof.Tokens
public import proofs.«01_k».proof.Proof.WPart3
public import proofs.«01_k».proof.Proof.Gen.Reference5Ideal.Read
public import proofs.«01_k».proof.Proof.Gen.Kernel5Ideal.Frame
public import proofs.«01_k».proof.Proof.Gen.Kernel5Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel5Ideal.Part

open Cert.Kernel5Ideal.Gen Cert.Tokens

/-! ## One point -/

theorem pay_zero : k0_pay1 (F := Ideal) = fun _ => 0 := Cert.Kernel3Ideal.Part.pay_zero

theorem pay_step (acc : Vec Ideal S1024x1024 .f32) (A : Vec Ideal S1024x2048 .bf16) (b : Vec Ideal S1x2048x1024 .bf16) :
    k0_pay2 (F := Ideal) acc A b = stepW A (flat b) acc := Cert.Kernel3Ideal.Part.pay_step acc A b

theorem pay_out (acc : Vec Ideal S1024x1024 .f32) (y : S1x1024x1024.Idx) : k0_pay3 (F := Ideal) acc y = acc (ix2 (y 1) (y 2)) :=
  Cert.Kernel3Ideal.Part.pay_out acc y

/-! ## The arrays the call reads, and a point's blocks of them -/

variable (m : (ℓ : Loc nD τ sig) → Buf (Elt Ideal) ℓ) (c : Dev nD)

/-- The call's arguments. -/
abbrev xA : S4096x2048.Idx → EReal := m ((c : Thread nD τ).loc main_arg0)
abbrev dhA : S4096x16384.Idx → EReal := m ((c : Thread nD τ).loc main_arg1)
abbrev prevA : S4x2048x4096.Idx → EReal := m ((c : Thread nD τ).loc main_arg2)

theorem arr_0 (y : S2048x4096.Idx) : V m c main_v21 y = at2 (xA m c) (tok 16 256 (y 1).val) (y 0).val := by
  have e : V m c main_v21 = transpose S2048x4096 [1, 0] (shapeCast S4096x2048 (transpose S16x256x2048 [1, 0, 2] (shapeCast S256x16x2048 (xA m c)
      shapeCasts_S4096x2048_S256x16x2048) transposes_S256x16x2048_S16x256x2048_1_0_2) shapeCasts_S16x256x2048_S4096x2048)
      transposes_S4096x2048_S2048x4096_1_0 := by
    unfold_abbrev_sides
    simp only [hostOps0]
    after_results
    rfl
  rw [e]
  exact groupT_apply (n := 16) (l := 256) (by norm_num) (xA m c) _ _ _ _ y

theorem arr_1 (y : S3x4096x1024.Idx) :
    V m c main_v16 y = at2 (dhA m c) (tok 16 256 (y 1).val) (1024 * (3 * ((y 0).val) + 2) + (y 2).val) := by
  have e : V m c main_v16 = stack3 bcast_S4096x1024_S1x4096x1024_1_2 concatenates_S1x4096x1024_S1x4096x1024_S1x4096x1024_S3x4096x1024_d0
      ![grp (n := 16) (l := 256) 2048 (dhA m c) slices_S4096x16384_S4096x1024_0_2048 shapeCasts_S4096x1024_S256x16x1024
        transposes_S256x16x1024_S16x256x1024_1_0_2 shapeCasts_S16x256x1024_S4096x1024,
      grp (n := 16) (l := 256) 5120 (dhA m c) slices_S4096x16384_S4096x1024_0_5120 shapeCasts_S4096x1024_S256x16x1024
        transposes_S256x16x1024_S16x256x1024_1_0_2 shapeCasts_S16x256x1024_S4096x1024,
      grp (n := 16) (l := 256) 8192 (dhA m c) slices_S4096x16384_S4096x1024_0_8192 shapeCasts_S4096x1024_S256x16x1024
        transposes_S256x16x1024_S16x256x1024_1_0_2 shapeCasts_S16x256x1024_S4096x1024] := by
    unfold_abbrev_sides
    simp only [hostOps0]
    after_results
    dsimp only [Matrix.cons_val_zero, Matrix.cons_val_one, Matrix.cons_val]
    refine stack3_congr _ _ _ _ _ ?_ ?_ ?_
    · after_results; rfl
    · after_results; rfl
    · after_results; rfl
  rw [e]
  obtain ⟨p, r, e, rfl⟩ : ∃ (p : Fin 3) (r : Fin 4096) (e : Fin 1024), y = ix3 p r e := ⟨y 0, y 1, y 2, eq_ix3 y⟩
  refine (stack3_apply _ _ _ p r e).trans ?_
  fin_cases p
  exacts [grp_apply (by norm_num) 2048 (dhA m c) slices_S4096x16384_S4096x1024_0_2048 _ _ _ _,
    grp_apply (by norm_num) 5120 (dhA m c) slices_S4096x16384_S4096x1024_0_5120 _ _ _ _,
    grp_apply (by norm_num) 8192 (dhA m c) slices_S4096x16384_S4096x1024_0_8192 _ _ _ _]

theorem host_2 : V m c main_v23 = prevA m c := by
  unfold_abbrev_sides
  simp only [hostOps0]
  after_results
  rfl

theorem ix_0 : ∀ t : Fin cfg0.N, win0_0.index t 0 = t.val / 2 % 2 ∧ win0_0.index t 1 = t.val % 2 := by decide +kernel
theorem ix_1 : ∀ t : Fin cfg0.N, win0_1.index t 0 = t.val / 4 ∧ win0_1.index t 1 = t.val % 2 ∧ win0_1.index t 2 = 0 := by decide +kernel
theorem ix_2 : ∀ t : Fin cfg0.N, win0_2.index t 0 = (3 * (t.val / 4) + 2) / 4 ∧ win0_2.index t 1 = t.val / 2 % 2 ∧ win0_2.index t 2 = (3 * (t.val / 4) + 2) % 4 := by
  decide +kernel
theorem flush_2 : ∀ t : Fin cfg0.N, (cfg0.win 2).flush t = true ↔ t.val % 2 = 1 := by decide +kernel

theorem rd_0 (X : S2048x4096.Idx → Elt Ideal .bf16) (t : Fin cfg0.N) (y : S1024x2048.Idx) :
    ((cfg0.win 0).blk t).view.read (Elt Ideal) X y = X ((win0_0.blk t).view.emb y) := rfl
theorem rd_1 (X : S3x4096x1024.Idx → Elt Ideal .bf16) (t : Fin cfg0.N) (y : S1x2048x1024.Idx) :
    ((cfg0.win 1).blk t).view.read (Elt Ideal) X y = X ((win0_1.blk t).view.emb y) := rfl
theorem rd_2 (X : S4x2048x4096.Idx → Elt Ideal .bf16) (t : Fin cfg0.N) (y : S1x1024x1024.Idx) :
    ((cfg0.win 2).blk t).view.read (Elt Ideal) X y = X ((win0_2.blk t).view.emb y) := rfl

theorem e_0 (t : Fin cfg0.N) (y : S1024x2048.Idx) : ((win0_0.blk t).view.emb y 0).val = (t.val / 2 % 2) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S1x2048x1024.Idx) : ((win0_1.blk t).view.emb y 0).val = (t.val / 4) * 1 + (y 0).val
    ∧ ((win0_1.blk t).view.emb y 1).val = (t.val % 2) * 2048 + (y 1).val ∧ ((win0_1.blk t).view.emb y 2).val = 0 * 1024 + (y 2).val := by
  obtain ⟨i0, i1, i2⟩ := ix_1 t
  refine ⟨?_, ?_, ?_⟩
  · blk_simp; rw [i0] <;> omega
  · blk_simp; rw [i1] <;> omega
  · blk_simp; rw [i2] <;> omega
theorem e_2 (t : Fin cfg0.N) (y : S1x1024x1024.Idx) : ((win0_2.blk t).view.emb y 0).val = (3 * (t.val / 4) + 2) / 4 * 1 + (y 0).val
    ∧ ((win0_2.blk t).view.emb y 1).val = (t.val / 2 % 2) * 1024 + (y 1).val
    ∧ ((win0_2.blk t).view.emb y 2).val = (3 * (t.val / 4) + 2) % 4 * 1024 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = xT 16 256 (xA m c) t.val := by
  funext y
  unfold xT
  refine (rd_0 (V m c main_v21) t y).trans ((arr_0 m c _).trans ?_)
  obtain ⟨e0, e1⟩ := e_0 t y
  rw [e0, e1]
  exact congrArg₂ (fun p q => at2 (xA m c) (tok 16 256 p) q) (by omega) (by omega)
theorem r_1 (t : Fin cfg0.N) : (flat (iblk m c 1 t)) = dT 16 256 ((3 * (t.val / 4) + 2)) (dhA m c) t.val := by
  funext y
  unfold dT
  refine (rd_1 (V m c main_v16) t (ix3 (0 : Fin 1) (y 0) (y 1))).trans ((arr_1 m c _).trans ?_)
  obtain ⟨e0, e1, e2⟩ := e_1 t (ix3 (0 : Fin 1) (y 0) (y 1))
  rw [e0, e1, e2]
  refine congrArg₂ (fun p q => at2 (dhA m c) (tok 16 256 p) q) (?_ : t.val % 2 * 2048 + (y 0).val = _)
    (?_ : 1024 * (3 * (t.val / 4 * 1 + 0) + 2) + (0 * 1024 + (y 1).val) = _) <;> omega

/-! ## The array the call leaves -/

/-- The blocks of columns of the call. -/
abbrev Mine (j : ℕ) : Prop := j = 2 ∨ j = 5 ∨ j = 8

/-- The first half, from zero. -/
theorem acc_A (t : Fin cfg0.N) (h : t.val % 2 = 0) :
    (outsAt0 m c t.val t.isLt).2 = stepW (xT 16 256 (xA m c) t.val) (dT 16 256 ((3 * (t.val / 4) + 2)) (dhA m c) t.val) fun _ => 0 := by
  rw [outsAt0_A m c t h (by omega)]
  dsimp only
  unfold sout0_A_0
  frame_out
  rw [pay_zero]
  exact (pay_step _ _ _).trans (congrArg₂ (fun A b => stepW A b fun _ => 0) (r_0 m c t) (r_1 m c t))

/-- What the second half writes back. -/
theorem back (t : Fin cfg0.N) (h : t.val % 2 = 1) (y : S1x1024x1024.Idx) : (dats m 0 c).flushed 2 t y
    = gradAt (xA m c) (dhA m c) (1024 * (t.val / 2 % 2) + (y 1).val) (1024 * ((3 * (t.val / 4) + 2)) + (y 2).val) := by
  rw [Value.flushed2_B m c t (by omega) h]
  unfold out0_B_2
  frame_out
  refine (pay_out _ y).trans ((congrFun ((pay_step _ _ _).trans (congrArg (stepW _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (3 * ((t.val - 1) / 4) + 2) = (3 * (t.val / 4) + 2) by omega]
  exact two_steps (by norm_num) _ (xA m c) (dhA m c) t.val h _

theorem mine_blk (t a b : ℕ) (ht : t < 12) (ha : a < 1) (hb : b < 1024) : Mine (((3 * (t / 4) + 2) / 4 * 1 + a) * 4 + ((3 * (t / 4) + 2) % 4 * 1024 + b) / 1024) := by
  obtain ⟨j, hj⟩ : ∃ j, j = ((3 * (t / 4) + 2) / 4 * 1 + a) * 4 + ((3 * (t / 4) + 2) % 4 * 1024 + b) / 1024 := ⟨_, rfl⟩
  rw [← hj]
  show j = 2 ∨ j = 5 ∨ j = 8
  omega

/-- The array, block by block. -/
theorem block (t : Fin cfg0.N) (h : (cfg0.win 2).flush t = true) : (dats m 0 c).flushed 2 t
    = ((cfg0.win 2).blk t).view.read (Elt Ideal) (resW Mine (xA m c) (dhA m c) (prevA m c)) := by
  have ht : t.val < 12 := t.isLt
  funext y
  have y0 : (y 0).val < 1 := (y 0).isLt
  have y2 : (y 2).val < 1024 := (y 2).isLt
  obtain ⟨e0, e1, e2⟩ := e_2 t y
  refine (back m c t ((flush_2 t).mp h) y).trans (Eq.trans ?_ (rd_2 (resW Mine (xA m c) (dhA m c) (prevA m c)) t y).symm)
  unfold resW
  rw [e0, e1, e2, if_pos (mine_blk t.val _ _ ht y0 y2)]
  exact congrArg₂ (gradAt (xA m c) (dhA m c)) (by omega) (by omega)

theorem final : (dats m 0 c).arrAt 2 cfg0.N = resW Mine (xA m c) (dhA m c) (prevA m c) := by
  funext i
  have i0 : (i 0).val < 4 := (i 0).isLt
  have i1 : (i 1).val < 2048 := (i 1).isLt
  have i2 : (i 2).val < 4096 := (i 2).isLt
  by_cases hj : Mine ((i 0).val * 4 + (i 2).val / 1024)
  · obtain ⟨j, ej⟩ : ∃ j, j = (i 0).val * 4 + (i 2).val / 1024 := ⟨_, rfl⟩
    have hj' : j = 2 ∨ j = 5 ∨ j = 8 := by rw [ej]; exact hj
    have hN : 4 * (j / 3) + 2 * ((i 1).val / 1024) + 1 < 12 := by omega
    obtain ⟨t, ht⟩ : ∃ t : Fin cfg0.N, t.val = 4 * (j / 3) + 2 * ((i 1).val / 1024) + 1 := ⟨⟨_, hN⟩, rfl⟩
    have hf : (cfg0.win 2).flush t = true := (flush_2 t).mpr (by omega)
    refine (dats m 0 c).arrAt_apply_of_mem 2 _ (block m c) cfg0.N t i t.isLt hf ?_
    obtain ⟨e0, e1, e2⟩ := e_2 t (ix3 (0 : Fin 1) (⟨(i 1).val % 1024, Nat.mod_lt _ (by norm_num)⟩ : Fin 1024)
      (⟨(i 2).val % 1024, Nat.mod_lt _ (by norm_num)⟩ : Fin 1024))
    have he : (win0_2.blk t).view.emb (ix3 (0 : Fin 1) (⟨(i 1).val % 1024, Nat.mod_lt _ (by norm_num)⟩ : Fin 1024)
      (⟨(i 2).val % 1024, Nat.mod_lt _ (by norm_num)⟩ : Fin 1024)) = i := by
      funext a
      refine Fin.ext ?_
      fin_cases a
      · refine e0.trans ?_
        show (3 * (t.val / 4) + 2) / 4 * 1 + 0 = (i 0).val
        omega
      · refine e1.trans ?_
        show t.val / 2 % 2 * 1024 + (i 1).val % 1024 = (i 1).val
        omega
      · refine e2.trans ?_
        show (3 * (t.val / 4) + 2) % 4 * 1024 + (i 2).val % 1024 = (i 2).val
        omega
    exact he ▸ (win0_2.blk t).view.emb_mem_set _
  · rw [Value.entry2 m c i fun t hf hi => hj ?_]
    · exact (congrFun (host_2 m c) i).trans (if_neg hj).symm
    · obtain ⟨y, -, rfl⟩ := Finset.mem_map.mp hi
      obtain ⟨e0, e1, e2⟩ := e_2 t y
      have h := mine_blk t.val (y 0).val (y 2).val t.isLt (y 0).isLt (y 2).isLt
      rw [← e0, ← e2] at h
      exact h

/-! ## The reference -/

open Cert.Reference5Ideal.Read

theorem here (q : Fin 16) (b : BitVec 1) (hb : b = IntOp.ori (IntOp.ori (IntOp.cmpi .eq (BitVec.ofNat 32 q.val) 2#32) (IntOp.cmpi .eq (BitVec.ofNat 32 q.val) 5#32)) (IntOp.cmpi .eq (BitVec.ofNat 32 q.val) 8#32)) : b = if Mine q.val then 1#1 else 0#1 := by
  subst hb
  revert q
  decide +kernel

theorem mask (i : Cert.Reference5Ideal.S4x2048x4x1024.Idx) : val_main_call0_v0 (F := Ideal) i
    = if Mine ((i 0).val * 4 + (i 2).val) then 1#1 else 0#1 := by
  have h0 : (i 0).val < 4 := (i 0).isLt
  have h2 : (i 2).val < 4 := (i 2).isLt
  refine here ⟨(i 0).val * 4 + (i 2).val, by omega⟩ _ ?_
  rw [val_main_call0_v0_apply, val_main_v15_apply, val_main_v12_apply, val_main_v9_apply, val_main_v11_apply, val_main_v14_apply, val_main_v7_apply, val_main_v6_apply, val_main_v8_apply, val_main_v10_apply, val_main_v13_apply, val_main_c_apply, val_main_c_0_apply, val_main_c_1_apply]
  have e : (idx_main_v7 (idx_main_call0_v0 i) 0).val = (i 0).val * 4 + (i 2).val := by
    show (((i 0).val * 1 + 0) * 4 + (i 2).val) * 1 + 0 = _
    omega
  rw [e]

theorem deriv (x : S4096x2048.Idx → EReal) (dh : S4096x16384.Idx → EReal) (i : Cert.Reference5Ideal.S4x2048x4x1024.Idx) :
    val_main_v5 (F := Ideal) x dh i = gradAt x dh (i 1).val (4096 * (i 0).val + 1024 * (i 2).val + (i 3).val) :=
  (congrFun (show val_main_v5 (F := Ideal) x dh = Cert.Reference3Ideal.Read.val_main_v5 (F := Ideal) x dh from rfl) i).trans
    (Cert.Kernel3Ideal.Part.deriv x dh i)

theorem result : (dats m 0 c).arrAt 2 cfg0.N = val_main_v19 (F := Ideal) (m ((c : Thread nD τ).loc main_arg0)) (m ((c : Thread nD τ).loc main_arg1))
    (m ((c : Thread nD τ).loc main_arg2)) :=
  (final m c).trans (choose_blocks Mine (xA m c) (dhA m c) (prevA m c) (val_main_call0_v0 (F := Ideal)) (val_main_v5 (F := Ideal) (xA m c) (dhA m c))
    mask (deriv (xA m c) (dhA m c)) _ _).symm

/-- Equal arguments, equal results. -/
theorem result_congr {x x' : S4096x2048.Idx → EReal} {dh dh' : S4096x16384.Idx → EReal} {prev prev' : S4x2048x4096.Idx → EReal}
    (h0 : x = x') (h1 : dh = dh') (h2 : prev = prev') : val_main_v19 (F := Ideal) x dh prev = val_main_v19 (F := Ideal) x' dh' prev' := by
  subst h0 h1 h2
  rfl

end Cert.Kernel5Ideal.Part
-- ==== Proof.WPart6.lean ====
/-
  The call `w_in_grad_rest0`: its block of columns is 9.

  Point `t` takes half `t % 2` of the tokens, rows `1024 (t / 2 % 2)`, … of the gradient and block `(9 + t.val / 4)` of its columns. A block
  of 1024 × 1024 is accumulated over the two halves: the first starts from zero, the second adds to it and writes the sum back.
-/
module

public import proofs.«01_k».proof.Proof.Tokens
public import proofs.«01_k».proof.Proof.WPart3
public import proofs.«01_k».proof.Proof.Gen.Reference6Ideal.Read
public import proofs.«01_k».proof.Proof.Gen.Kernel6Ideal.Frame
public import proofs.«01_k».proof.Proof.Gen.Kernel6Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel6Ideal.Part

open Cert.Kernel6Ideal.Gen Cert.Tokens

/-! ## One point -/

theorem pay_zero : k0_pay1 (F := Ideal) = fun _ => 0 := by
  funext y
  unfold k0_pay1
  rw [shapeCast_self]
  exact Ideal.ofBits_zero_f32

theorem pay_step (acc : Vec Ideal S1024x1024 .f32) (A : Vec Ideal S1024x2048 .bf16) (b : Vec Ideal S2048x1024 .bf16) :
    k0_pay2 (F := Ideal) acc A b = stepW A b acc := by
  funext y
  unfold k0_pay2
  rw [shapeCast_self, shapeCast_self, shapeCast_self]
  refine congrArg (acc y + ·) ?_
  refine (Ideal.matmul_constant_zero_apply (φ₂ := .bf16) _ none A b y).trans ?_
  refine (Equiv.sum_comp (contrEquiv1 _ 2048 rfl rfl).symm _).symm.trans ?_
  refine Finset.sum_congr rfl fun e _ => ?_
  congr 2
  · funext a; fin_cases a <;> rfl
  · funext a; fin_cases a <;> rfl

theorem pay_out (acc : Vec Ideal S1024x1024 .f32) (y : S1x1024x1024.Idx) : k0_pay3 (F := Ideal) acc y = acc (ix2 (y 1) (y 2)) := by
  unfold k0_pay3
  have hy : y = ix3 (0 : Fin 1) (y 1) (y 2) := by
    funext a
    fin_cases a
    · exact Subsingleton.elim (α := Fin 1) _ _
    · rfl
    · rfl
  rw [hy]
  exact (shapeCast_ab_1ab_apply (a := 1024) (b := 1024) _ _ 0 (y 1) (y 2)).trans rfl

/-! ## The arrays the call reads, and a point's blocks of them -/

variable (m : (ℓ : Loc nD τ sig) → Buf (Elt Ideal) ℓ) (c : Dev nD)

/-- The call's arguments. -/
abbrev xA : S4096x2048.Idx → EReal := m ((c : Thread nD τ).loc main_arg0)
abbrev dhA : S4096x16384.Idx → EReal := m ((c : Thread nD τ).loc main_arg1)
abbrev prevA : S4x2048x4096.Idx → EReal := m ((c : Thread nD τ).loc main_arg2)

theorem arr_0 (y : S2048x4096.Idx) : V m c main_v6 y = at2 (xA m c) (tok 1 4096 (y 1).val) (y 0).val := by
  have e : V m c main_v6 = transpose S2048x4096 [1, 0] (shapeCast S4096x2048 (transpose S1x4096x2048 [1, 0, 2] (shapeCast S4096x1x2048 (xA m c)
      shapeCasts_S4096x2048_S4096x1x2048) transposes_S4096x1x2048_S1x4096x2048_1_0_2) shapeCasts_S1x4096x2048_S4096x2048)
      transposes_S4096x2048_S2048x4096_1_0 := by
    unfold_abbrev_sides
    simp only [hostOps0]
    after_results
    rfl
  rw [e]
  exact groupT_apply (n := 1) (l := 4096) (by norm_num) (xA m c) _ _ _ _ y

theorem arr_1 (y : S4096x1024.Idx) : V m c main_v1 y = at2 (dhA m c) (y 0).val (9216 + (y 1).val) := by
  have e : V m c main_v1 = extractStridedSlice S4096x1024 ![0, 9216] (dhA m c) slices_S4096x16384_S4096x1024_0_9216 := by
    unfold_abbrev_sides
    simp only [hostOps0]
    after_results
    rfl
  rw [e]
  exact cols_apply 9216 (dhA m c) slices_S4096x16384_S4096x1024_0_9216 y

theorem host_2 : V m c main_v8 = prevA m c := by
  unfold_abbrev_sides
  simp only [hostOps0]
  after_results
  rfl

theorem ix_0 : ∀ t : Fin cfg0.N, win0_0.index t 0 = t.val / 2 % 2 ∧ win0_0.index t 1 = t.val % 2 := by decide +kernel
theorem ix_1 : ∀ t : Fin cfg0.N, win0_1.index t 0 = t.val % 2 ∧ win0_1.index t 1 = t.val / 4 := by decide +kernel
theorem ix_2 : ∀ t : Fin cfg0.N, win0_2.index t 0 = (9 + t.val / 4) / 4 ∧ win0_2.index t 1 = t.val / 2 % 2 ∧ win0_2.index t 2 = (9 + t.val / 4) % 4 := by
  decide +kernel
theorem flush_2 : ∀ t : Fin cfg0.N, (cfg0.win 2).flush t = true ↔ t.val % 2 = 1 := by decide +kernel

theorem rd_0 (X : S2048x4096.Idx → Elt Ideal .bf16) (t : Fin cfg0.N) (y : S1024x2048.Idx) :
    ((cfg0.win 0).blk t).view.read (Elt Ideal) X y = X ((win0_0.blk t).view.emb y) := rfl
theorem rd_1 (X : S4096x1024.Idx → Elt Ideal .bf16) (t : Fin cfg0.N) (y : S2048x1024.Idx) :
    ((cfg0.win 1).blk t).view.read (Elt Ideal) X y = X ((win0_1.blk t).view.emb y) := rfl
theorem rd_2 (X : S4x2048x4096.Idx → Elt Ideal .bf16) (t : Fin cfg0.N) (y : S1x1024x1024.Idx) :
    ((cfg0.win 2).blk t).view.read (Elt Ideal) X y = X ((win0_2.blk t).view.emb y) := rfl

theorem e_0 (t : Fin cfg0.N) (y : S1024x2048.Idx) : ((win0_0.blk t).view.emb y 0).val = (t.val / 2 % 2) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S2048x1024.Idx) : ((win0_1.blk t).view.emb y 0).val = (t.val % 2) * 2048 + (y 0).val
    ∧ ((win0_1.blk t).view.emb y 1).val = (t.val / 4) * 1024 + (y 1).val := by
  obtain ⟨i0, i1⟩ := ix_1 t
  refine ⟨?_, ?_⟩
  · blk_simp; rw [i0] <;> omega
  · blk_simp; rw [i1] <;> omega
theorem e_2 (t : Fin cfg0.N) (y : S1x1024x1024.Idx) : ((win0_2.blk t).view.emb y 0).val = (9 + t.val / 4) / 4 * 1 + (y 0).val
    ∧ ((win0_2.blk t).view.emb y 1).val = (t.val / 2 % 2) * 1024 + (y 1).val
    ∧ ((win0_2.blk t).view.emb y 2).val = (9 + t.val / 4) % 4 * 1024 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = xT 1 4096 (xA m c) t.val := by
  funext y
  unfold xT
  refine (rd_0 (V m c main_v6) t y).trans ((arr_0 m c _).trans ?_)
  obtain ⟨e0, e1⟩ := e_0 t y
  rw [e0, e1]
  exact congrArg₂ (fun p q => at2 (xA m c) (tok 1 4096 p) q) (by omega) (by omega)
theorem r_1 (t : Fin cfg0.N) : (iblk m c 1 t : S2048x1024.Idx → EReal) = dT 1 4096 ((9 + t.val / 4)) (dhA m c) t.val := by
  funext y
  unfold dT
  have y0 : (y 0).val < 2048 := (y 0).isLt
  refine (rd_1 (V m c main_v1) t y).trans ((arr_1 m c _).trans ?_)
  obtain ⟨e0, e1⟩ := e_1 t y
  rw [e0, e1]
  refine congrArg₂ (at2 (dhA m c)) (?_ : _ = (2048 * (t.val % 2) + (y 0).val) % 4096 * 1 + (2048 * (t.val % 2) + (y 0).val) / 4096) ?_ <;> omega

/-! ## The array the call leaves -/

/-- The blocks of columns of the call. -/
abbrev Mine (j : ℕ) : Prop := j = 9

/-- The first half, from zero. -/
theorem acc_A (t : Fin cfg0.N) (h : t.val % 2 = 0) :
    (outsAt0 m c t.val t.isLt).2 = stepW (xT 1 4096 (xA m c) t.val) (dT 1 4096 ((9 + t.val / 4)) (dhA m c) t.val) fun _ => 0 := by
  rw [outsAt0_A m c t h (by omega)]
  dsimp only
  unfold sout0_A_0
  frame_out
  rw [pay_zero]
  exact (pay_step _ _ _).trans (congrArg₂ (fun A b => stepW A b fun _ => 0) (r_0 m c t) (r_1 m c t))

/-- What the second half writes back. -/
theorem back (t : Fin cfg0.N) (h : t.val % 2 = 1) (y : S1x1024x1024.Idx) : (dats m 0 c).flushed 2 t y
    = gradAt (xA m c) (dhA m c) (1024 * (t.val / 2 % 2) + (y 1).val) (1024 * ((9 + t.val / 4)) + (y 2).val) := by
  rw [Value.flushed2_B m c t (by omega) h]
  unfold out0_B_2
  frame_out
  refine (pay_out _ y).trans ((congrFun ((pay_step _ _ _).trans (congrArg (stepW _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (9 + (t.val - 1) / 4) = (9 + t.val / 4) by omega]
  exact two_steps (by norm_num) _ (xA m c) (dhA m c) t.val h _

theorem mine_blk (t a b : ℕ) (ht : t < 4) (ha : a < 1) (hb : b < 1024) : Mine (((9 + t / 4) / 4 * 1 + a) * 4 + ((9 + t / 4) % 4 * 1024 + b) / 1024) := by
  obtain ⟨j, hj⟩ : ∃ j, j = ((9 + t / 4) / 4 * 1 + a) * 4 + ((9 + t / 4) % 4 * 1024 + b) / 1024 := ⟨_, rfl⟩
  rw [← hj]
  show j = 9
  omega

/-- The array, block by block. -/
theorem block (t : Fin cfg0.N) (h : (cfg0.win 2).flush t = true) : (dats m 0 c).flushed 2 t
    = ((cfg0.win 2).blk t).view.read (Elt Ideal) (resW Mine (xA m c) (dhA m c) (prevA m c)) := by
  have ht : t.val < 4 := t.isLt
  funext y
  have y0 : (y 0).val < 1 := (y 0).isLt
  have y2 : (y 2).val < 1024 := (y 2).isLt
  obtain ⟨e0, e1, e2⟩ := e_2 t y
  refine (back m c t ((flush_2 t).mp h) y).trans (Eq.trans ?_ (rd_2 (resW Mine (xA m c) (dhA m c) (prevA m c)) t y).symm)
  unfold resW
  rw [e0, e1, e2, if_pos (mine_blk t.val _ _ ht y0 y2)]
  exact congrArg₂ (gradAt (xA m c) (dhA m c)) (by omega) (by omega)

theorem final : (dats m 0 c).arrAt 2 cfg0.N = resW Mine (xA m c) (dhA m c) (prevA m c) := by
  funext i
  have i0 : (i 0).val < 4 := (i 0).isLt
  have i1 : (i 1).val < 2048 := (i 1).isLt
  have i2 : (i 2).val < 4096 := (i 2).isLt
  by_cases hj : Mine ((i 0).val * 4 + (i 2).val / 1024)
  · obtain ⟨j, ej⟩ : ∃ j, j = (i 0).val * 4 + (i 2).val / 1024 := ⟨_, rfl⟩
    have hj' : j = 9 := by rw [ej]; exact hj
    have hN : 4 * (j - 9) + 2 * ((i 1).val / 1024) + 1 < 4 := by omega
    obtain ⟨t, ht⟩ : ∃ t : Fin cfg0.N, t.val = 4 * (j - 9) + 2 * ((i 1).val / 1024) + 1 := ⟨⟨_, hN⟩, rfl⟩
    have hf : (cfg0.win 2).flush t = true := (flush_2 t).mpr (by omega)
    refine (dats m 0 c).arrAt_apply_of_mem 2 _ (block m c) cfg0.N t i t.isLt hf ?_
    obtain ⟨e0, e1, e2⟩ := e_2 t (ix3 (0 : Fin 1) (⟨(i 1).val % 1024, Nat.mod_lt _ (by norm_num)⟩ : Fin 1024)
      (⟨(i 2).val % 1024, Nat.mod_lt _ (by norm_num)⟩ : Fin 1024))
    have he : (win0_2.blk t).view.emb (ix3 (0 : Fin 1) (⟨(i 1).val % 1024, Nat.mod_lt _ (by norm_num)⟩ : Fin 1024)
      (⟨(i 2).val % 1024, Nat.mod_lt _ (by norm_num)⟩ : Fin 1024)) = i := by
      funext a
      refine Fin.ext ?_
      fin_cases a
      · refine e0.trans ?_
        show (9 + t.val / 4) / 4 * 1 + 0 = (i 0).val
        omega
      · refine e1.trans ?_
        show t.val / 2 % 2 * 1024 + (i 1).val % 1024 = (i 1).val
        omega
      · refine e2.trans ?_
        show (9 + t.val / 4) % 4 * 1024 + (i 2).val % 1024 = (i 2).val
        omega
    exact he ▸ (win0_2.blk t).view.emb_mem_set _
  · rw [Value.entry2 m c i fun t hf hi => hj ?_]
    · exact (congrFun (host_2 m c) i).trans (if_neg hj).symm
    · obtain ⟨y, -, rfl⟩ := Finset.mem_map.mp hi
      obtain ⟨e0, e1, e2⟩ := e_2 t y
      have h := mine_blk t.val (y 0).val (y 2).val t.isLt (y 0).isLt (y 2).isLt
      rw [← e0, ← e2] at h
      exact h

/-! ## The reference -/

open Cert.Reference6Ideal.Read

theorem here (q : Fin 16) (b : BitVec 1) (hb : b = IntOp.cmpi .eq (BitVec.ofNat 32 q.val) 9#32) : b = if Mine q.val then 1#1 else 0#1 := by
  subst hb
  revert q
  decide +kernel

theorem mask (i : Cert.Reference6Ideal.S4x2048x4x1024.Idx) : val_main_call0_v0 (F := Ideal) i
    = if Mine ((i 0).val * 4 + (i 2).val) then 1#1 else 0#1 := by
  have h0 : (i 0).val < 4 := (i 0).isLt
  have h2 : (i 2).val < 4 := (i 2).isLt
  refine here ⟨(i 0).val * 4 + (i 2).val, by omega⟩ _ ?_
  rw [val_main_call0_v0_apply, val_main_v9_apply, val_main_v7_apply, val_main_v6_apply, val_main_v8_apply, val_main_c_apply]
  have e : (idx_main_v7 (idx_main_call0_v0 i) 0).val = (i 0).val * 4 + (i 2).val := by
    show (((i 0).val * 1 + 0) * 4 + (i 2).val) * 1 + 0 = _
    omega
  rw [e]

theorem deriv (x : S4096x2048.Idx → EReal) (dh : S4096x16384.Idx → EReal) (i : Cert.Reference6Ideal.S4x2048x4x1024.Idx) :
    val_main_v5 (F := Ideal) x dh i = gradAt x dh (i 1).val (4096 * (i 0).val + 1024 * (i 2).val + (i 3).val) :=
  (congrFun (show val_main_v5 (F := Ideal) x dh = Cert.Reference3Ideal.Read.val_main_v5 (F := Ideal) x dh from rfl) i).trans
    (Cert.Kernel3Ideal.Part.deriv x dh i)

theorem result : (dats m 0 c).arrAt 2 cfg0.N = val_main_v13 (F := Ideal) (m ((c : Thread nD τ).loc main_arg0)) (m ((c : Thread nD τ).loc main_arg1))
    (m ((c : Thread nD τ).loc main_arg2)) :=
  (final m c).trans (choose_blocks Mine (xA m c) (dhA m c) (prevA m c) (val_main_call0_v0 (F := Ideal)) (val_main_v5 (F := Ideal) (xA m c) (dhA m c))
    mask (deriv (xA m c) (dhA m c)) _ _).symm

/-- Equal arguments, equal results. -/
theorem result_congr {x x' : S4096x2048.Idx → EReal} {dh dh' : S4096x16384.Idx → EReal} {prev prev' : S4x2048x4096.Idx → EReal}
    (h0 : x = x') (h1 : dh = dh') (h2 : prev = prev') : val_main_v13 (F := Ideal) x dh prev = val_main_v13 (F := Ideal) x' dh' prev' := by
  subst h0 h1 h2
  rfl

end Cert.Kernel6Ideal.Part
-- ==== Proof.WPart7.lean ====
/-
  The call `w_in_grad_rest1`: its block of columns is 10.

  Point `t` takes half `t % 2` of the tokens, rows `1024 (t / 2 % 2)`, … of the gradient and block `(10 + t.val / 4)` of its columns. A block
  of 1024 × 1024 is accumulated over the two halves: the first starts from zero, the second adds to it and writes the sum back.
-/
module

public import proofs.«01_k».proof.Proof.Tokens
public import proofs.«01_k».proof.Proof.WPart6
public import proofs.«01_k».proof.Proof.Gen.Reference7Ideal.Read
public import proofs.«01_k».proof.Proof.Gen.Kernel7Ideal.Frame
public import proofs.«01_k».proof.Proof.Gen.Kernel7Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel7Ideal.Part

open Cert.Kernel7Ideal.Gen Cert.Tokens

/-! ## One point -/

theorem pay_zero : k0_pay1 (F := Ideal) = fun _ => 0 := Cert.Kernel6Ideal.Part.pay_zero

theorem pay_step (acc : Vec Ideal S1024x1024 .f32) (A : Vec Ideal S1024x2048 .bf16) (b : Vec Ideal S2048x1024 .bf16) :
    k0_pay2 (F := Ideal) acc A b = stepW A b acc := Cert.Kernel6Ideal.Part.pay_step acc A b

theorem pay_out (acc : Vec Ideal S1024x1024 .f32) (y : S1x1024x1024.Idx) : k0_pay3 (F := Ideal) acc y = acc (ix2 (y 1) (y 2)) :=
  Cert.Kernel6Ideal.Part.pay_out acc y

/-! ## The arrays the call reads, and a point's blocks of them -/

variable (m : (ℓ : Loc nD τ sig) → Buf (Elt Ideal) ℓ) (c : Dev nD)

/-- The call's arguments. -/
abbrev xA : S4096x2048.Idx → EReal := m ((c : Thread nD τ).loc main_arg0)
abbrev dhA : S4096x16384.Idx → EReal := m ((c : Thread nD τ).loc main_arg1)
abbrev prevA : S4x2048x4096.Idx → EReal := m ((c : Thread nD τ).loc main_arg2)

theorem arr_0 (y : S2048x4096.Idx) : V m c main_v6 y = at2 (xA m c) (tok 1 4096 (y 1).val) (y 0).val := by
  have e : V m c main_v6 = transpose S2048x4096 [1, 0] (shapeCast S4096x2048 (transpose S1x4096x2048 [1, 0, 2] (shapeCast S4096x1x2048 (xA m c)
      shapeCasts_S4096x2048_S4096x1x2048) transposes_S4096x1x2048_S1x4096x2048_1_0_2) shapeCasts_S1x4096x2048_S4096x2048)
      transposes_S4096x2048_S2048x4096_1_0 := by
    unfold_abbrev_sides
    simp only [hostOps0]
    after_results
    rfl
  rw [e]
  exact groupT_apply (n := 1) (l := 4096) (by norm_num) (xA m c) _ _ _ _ y

theorem arr_1 (y : S4096x1024.Idx) : V m c main_v1 y = at2 (dhA m c) (y 0).val (10240 + (y 1).val) := by
  have e : V m c main_v1 = extractStridedSlice S4096x1024 ![0, 10240] (dhA m c) slices_S4096x16384_S4096x1024_0_10240 := by
    unfold_abbrev_sides
    simp only [hostOps0]
    after_results
    rfl
  rw [e]
  exact cols_apply 10240 (dhA m c) slices_S4096x16384_S4096x1024_0_10240 y

theorem host_2 : V m c main_v8 = prevA m c := by
  unfold_abbrev_sides
  simp only [hostOps0]
  after_results
  rfl

theorem ix_0 : ∀ t : Fin cfg0.N, win0_0.index t 0 = t.val / 2 % 2 ∧ win0_0.index t 1 = t.val % 2 := by decide +kernel
theorem ix_1 : ∀ t : Fin cfg0.N, win0_1.index t 0 = t.val % 2 ∧ win0_1.index t 1 = t.val / 4 := by decide +kernel
theorem ix_2 : ∀ t : Fin cfg0.N, win0_2.index t 0 = (10 + t.val / 4) / 4 ∧ win0_2.index t 1 = t.val / 2 % 2 ∧ win0_2.index t 2 = (10 + t.val / 4) % 4 := by
  decide +kernel
theorem flush_2 : ∀ t : Fin cfg0.N, (cfg0.win 2).flush t = true ↔ t.val % 2 = 1 := by decide +kernel

theorem rd_0 (X : S2048x4096.Idx → Elt Ideal .bf16) (t : Fin cfg0.N) (y : S1024x2048.Idx) :
    ((cfg0.win 0).blk t).view.read (Elt Ideal) X y = X ((win0_0.blk t).view.emb y) := rfl
theorem rd_1 (X : S4096x1024.Idx → Elt Ideal .bf16) (t : Fin cfg0.N) (y : S2048x1024.Idx) :
    ((cfg0.win 1).blk t).view.read (Elt Ideal) X y = X ((win0_1.blk t).view.emb y) := rfl
theorem rd_2 (X : S4x2048x4096.Idx → Elt Ideal .bf16) (t : Fin cfg0.N) (y : S1x1024x1024.Idx) :
    ((cfg0.win 2).blk t).view.read (Elt Ideal) X y = X ((win0_2.blk t).view.emb y) := rfl

theorem e_0 (t : Fin cfg0.N) (y : S1024x2048.Idx) : ((win0_0.blk t).view.emb y 0).val = (t.val / 2 % 2) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S2048x1024.Idx) : ((win0_1.blk t).view.emb y 0).val = (t.val % 2) * 2048 + (y 0).val
    ∧ ((win0_1.blk t).view.emb y 1).val = (t.val / 4) * 1024 + (y 1).val := by
  obtain ⟨i0, i1⟩ := ix_1 t
  refine ⟨?_, ?_⟩
  · blk_simp; rw [i0] <;> omega
  · blk_simp; rw [i1] <;> omega
theorem e_2 (t : Fin cfg0.N) (y : S1x1024x1024.Idx) : ((win0_2.blk t).view.emb y 0).val = (10 + t.val / 4) / 4 * 1 + (y 0).val
    ∧ ((win0_2.blk t).view.emb y 1).val = (t.val / 2 % 2) * 1024 + (y 1).val
    ∧ ((win0_2.blk t).view.emb y 2).val = (10 + t.val / 4) % 4 * 1024 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = xT 1 4096 (xA m c) t.val := by
  funext y
  unfold xT
  refine (rd_0 (V m c main_v6) t y).trans ((arr_0 m c _).trans ?_)
  obtain ⟨e0, e1⟩ := e_0 t y
  rw [e0, e1]
  exact congrArg₂ (fun p q => at2 (xA m c) (tok 1 4096 p) q) (by omega) (by omega)
theorem r_1 (t : Fin cfg0.N) : (iblk m c 1 t : S2048x1024.Idx → EReal) = dT 1 4096 ((10 + t.val / 4)) (dhA m c) t.val := by
  funext y
  unfold dT
  have y0 : (y 0).val < 2048 := (y 0).isLt
  refine (rd_1 (V m c main_v1) t y).trans ((arr_1 m c _).trans ?_)
  obtain ⟨e0, e1⟩ := e_1 t y
  rw [e0, e1]
  refine congrArg₂ (at2 (dhA m c)) (?_ : _ = (2048 * (t.val % 2) + (y 0).val) % 4096 * 1 + (2048 * (t.val % 2) + (y 0).val) / 4096) ?_ <;> omega

/-! ## The array the call leaves -/

/-- The blocks of columns of the call. -/
abbrev Mine (j : ℕ) : Prop := j = 10

/-- The first half, from zero. -/
theorem acc_A (t : Fin cfg0.N) (h : t.val % 2 = 0) :
    (outsAt0 m c t.val t.isLt).2 = stepW (xT 1 4096 (xA m c) t.val) (dT 1 4096 ((10 + t.val / 4)) (dhA m c) t.val) fun _ => 0 := by
  rw [outsAt0_A m c t h (by omega)]
  dsimp only
  unfold sout0_A_0
  frame_out
  rw [pay_zero]
  exact (pay_step _ _ _).trans (congrArg₂ (fun A b => stepW A b fun _ => 0) (r_0 m c t) (r_1 m c t))

/-- What the second half writes back. -/
theorem back (t : Fin cfg0.N) (h : t.val % 2 = 1) (y : S1x1024x1024.Idx) : (dats m 0 c).flushed 2 t y
    = gradAt (xA m c) (dhA m c) (1024 * (t.val / 2 % 2) + (y 1).val) (1024 * ((10 + t.val / 4)) + (y 2).val) := by
  rw [Value.flushed2_B m c t (by omega) h]
  unfold out0_B_2
  frame_out
  refine (pay_out _ y).trans ((congrFun ((pay_step _ _ _).trans (congrArg (stepW _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (10 + (t.val - 1) / 4) = (10 + t.val / 4) by omega]
  exact two_steps (by norm_num) _ (xA m c) (dhA m c) t.val h _

theorem mine_blk (t a b : ℕ) (ht : t < 4) (ha : a < 1) (hb : b < 1024) : Mine (((10 + t / 4) / 4 * 1 + a) * 4 + ((10 + t / 4) % 4 * 1024 + b) / 1024) := by
  obtain ⟨j, hj⟩ : ∃ j, j = ((10 + t / 4) / 4 * 1 + a) * 4 + ((10 + t / 4) % 4 * 1024 + b) / 1024 := ⟨_, rfl⟩
  rw [← hj]
  show j = 10
  omega

/-- The array, block by block. -/
theorem block (t : Fin cfg0.N) (h : (cfg0.win 2).flush t = true) : (dats m 0 c).flushed 2 t
    = ((cfg0.win 2).blk t).view.read (Elt Ideal) (resW Mine (xA m c) (dhA m c) (prevA m c)) := by
  have ht : t.val < 4 := t.isLt
  funext y
  have y0 : (y 0).val < 1 := (y 0).isLt
  have y2 : (y 2).val < 1024 := (y 2).isLt
  obtain ⟨e0, e1, e2⟩ := e_2 t y
  refine (back m c t ((flush_2 t).mp h) y).trans (Eq.trans ?_ (rd_2 (resW Mine (xA m c) (dhA m c) (prevA m c)) t y).symm)
  unfold resW
  rw [e0, e1, e2, if_pos (mine_blk t.val _ _ ht y0 y2)]
  exact congrArg₂ (gradAt (xA m c) (dhA m c)) (by omega) (by omega)

theorem final : (dats m 0 c).arrAt 2 cfg0.N = resW Mine (xA m c) (dhA m c) (prevA m c) := by
  funext i
  have i0 : (i 0).val < 4 := (i 0).isLt
  have i1 : (i 1).val < 2048 := (i 1).isLt
  have i2 : (i 2).val < 4096 := (i 2).isLt
  by_cases hj : Mine ((i 0).val * 4 + (i 2).val / 1024)
  · obtain ⟨j, ej⟩ : ∃ j, j = (i 0).val * 4 + (i 2).val / 1024 := ⟨_, rfl⟩
    have hj' : j = 10 := by rw [ej]; exact hj
    have hN : 4 * (j - 10) + 2 * ((i 1).val / 1024) + 1 < 4 := by omega
    obtain ⟨t, ht⟩ : ∃ t : Fin cfg0.N, t.val = 4 * (j - 10) + 2 * ((i 1).val / 1024) + 1 := ⟨⟨_, hN⟩, rfl⟩
    have hf : (cfg0.win 2).flush t = true := (flush_2 t).mpr (by omega)
    refine (dats m 0 c).arrAt_apply_of_mem 2 _ (block m c) cfg0.N t i t.isLt hf ?_
    obtain ⟨e0, e1, e2⟩ := e_2 t (ix3 (0 : Fin 1) (⟨(i 1).val % 1024, Nat.mod_lt _ (by norm_num)⟩ : Fin 1024)
      (⟨(i 2).val % 1024, Nat.mod_lt _ (by norm_num)⟩ : Fin 1024))
    have he : (win0_2.blk t).view.emb (ix3 (0 : Fin 1) (⟨(i 1).val % 1024, Nat.mod_lt _ (by norm_num)⟩ : Fin 1024)
      (⟨(i 2).val % 1024, Nat.mod_lt _ (by norm_num)⟩ : Fin 1024)) = i := by
      funext a
      refine Fin.ext ?_
      fin_cases a
      · refine e0.trans ?_
        show (10 + t.val / 4) / 4 * 1 + 0 = (i 0).val
        omega
      · refine e1.trans ?_
        show t.val / 2 % 2 * 1024 + (i 1).val % 1024 = (i 1).val
        omega
      · refine e2.trans ?_
        show (10 + t.val / 4) % 4 * 1024 + (i 2).val % 1024 = (i 2).val
        omega
    exact he ▸ (win0_2.blk t).view.emb_mem_set _
  · rw [Value.entry2 m c i fun t hf hi => hj ?_]
    · exact (congrFun (host_2 m c) i).trans (if_neg hj).symm
    · obtain ⟨y, -, rfl⟩ := Finset.mem_map.mp hi
      obtain ⟨e0, e1, e2⟩ := e_2 t y
      have h := mine_blk t.val (y 0).val (y 2).val t.isLt (y 0).isLt (y 2).isLt
      rw [← e0, ← e2] at h
      exact h

/-! ## The reference -/

open Cert.Reference7Ideal.Read

theorem here (q : Fin 16) (b : BitVec 1) (hb : b = IntOp.cmpi .eq (BitVec.ofNat 32 q.val) 10#32) : b = if Mine q.val then 1#1 else 0#1 := by
  subst hb
  revert q
  decide +kernel

theorem mask (i : Cert.Reference7Ideal.S4x2048x4x1024.Idx) : val_main_call0_v0 (F := Ideal) i
    = if Mine ((i 0).val * 4 + (i 2).val) then 1#1 else 0#1 := by
  have h0 : (i 0).val < 4 := (i 0).isLt
  have h2 : (i 2).val < 4 := (i 2).isLt
  refine here ⟨(i 0).val * 4 + (i 2).val, by omega⟩ _ ?_
  rw [val_main_call0_v0_apply, val_main_v9_apply, val_main_v7_apply, val_main_v6_apply, val_main_v8_apply, val_main_c_apply]
  have e : (idx_main_v7 (idx_main_call0_v0 i) 0).val = (i 0).val * 4 + (i 2).val := by
    show (((i 0).val * 1 + 0) * 4 + (i 2).val) * 1 + 0 = _
    omega
  rw [e]

theorem deriv (x : S4096x2048.Idx → EReal) (dh : S4096x16384.Idx → EReal) (i : Cert.Reference7Ideal.S4x2048x4x1024.Idx) :
    val_main_v5 (F := Ideal) x dh i = gradAt x dh (i 1).val (4096 * (i 0).val + 1024 * (i 2).val + (i 3).val) :=
  (congrFun (show val_main_v5 (F := Ideal) x dh = Cert.Reference3Ideal.Read.val_main_v5 (F := Ideal) x dh from rfl) i).trans
    (Cert.Kernel3Ideal.Part.deriv x dh i)

theorem result : (dats m 0 c).arrAt 2 cfg0.N = val_main_v13 (F := Ideal) (m ((c : Thread nD τ).loc main_arg0)) (m ((c : Thread nD τ).loc main_arg1))
    (m ((c : Thread nD τ).loc main_arg2)) :=
  (final m c).trans (choose_blocks Mine (xA m c) (dhA m c) (prevA m c) (val_main_call0_v0 (F := Ideal)) (val_main_v5 (F := Ideal) (xA m c) (dhA m c))
    mask (deriv (xA m c) (dhA m c)) _ _).symm

/-- Equal arguments, equal results. -/
theorem result_congr {x x' : S4096x2048.Idx → EReal} {dh dh' : S4096x16384.Idx → EReal} {prev prev' : S4x2048x4096.Idx → EReal}
    (h0 : x = x') (h1 : dh = dh') (h2 : prev = prev') : val_main_v13 (F := Ideal) x dh prev = val_main_v13 (F := Ideal) x' dh' prev' := by
  subst h0 h1 h2
  rfl

end Cert.Kernel7Ideal.Part
-- ==== Proof.WPart8.lean ====
/-
  The call `w_in_grad_rest2`: its block of columns is 11.

  Point `t` takes half `t % 2` of the tokens, rows `1024 (t / 2 % 2)`, … of the gradient and block `(11 + t.val / 4)` of its columns. A block
  of 1024 × 1024 is accumulated over the two halves: the first starts from zero, the second adds to it and writes the sum back.
-/
module

public import proofs.«01_k».proof.Proof.Tokens
public import proofs.«01_k».proof.Proof.WPart6
public import proofs.«01_k».proof.Proof.Gen.Reference8Ideal.Read
public import proofs.«01_k».proof.Proof.Gen.Kernel8Ideal.Frame
public import proofs.«01_k».proof.Proof.Gen.Kernel8Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel8Ideal.Part

open Cert.Kernel8Ideal.Gen Cert.Tokens

/-! ## One point -/

theorem pay_zero : k0_pay1 (F := Ideal) = fun _ => 0 := Cert.Kernel6Ideal.Part.pay_zero

theorem pay_step (acc : Vec Ideal S1024x1024 .f32) (A : Vec Ideal S1024x2048 .bf16) (b : Vec Ideal S2048x1024 .bf16) :
    k0_pay2 (F := Ideal) acc A b = stepW A b acc := Cert.Kernel6Ideal.Part.pay_step acc A b

theorem pay_out (acc : Vec Ideal S1024x1024 .f32) (y : S1x1024x1024.Idx) : k0_pay3 (F := Ideal) acc y = acc (ix2 (y 1) (y 2)) :=
  Cert.Kernel6Ideal.Part.pay_out acc y

/-! ## The arrays the call reads, and a point's blocks of them -/

variable (m : (ℓ : Loc nD τ sig) → Buf (Elt Ideal) ℓ) (c : Dev nD)

/-- The call's arguments. -/
abbrev xA : S4096x2048.Idx → EReal := m ((c : Thread nD τ).loc main_arg0)
abbrev dhA : S4096x16384.Idx → EReal := m ((c : Thread nD τ).loc main_arg1)
abbrev prevA : S4x2048x4096.Idx → EReal := m ((c : Thread nD τ).loc main_arg2)

theorem arr_0 (y : S2048x4096.Idx) : V m c main_v6 y = at2 (xA m c) (tok 1 4096 (y 1).val) (y 0).val := by
  have e : V m c main_v6 = transpose S2048x4096 [1, 0] (shapeCast S4096x2048 (transpose S1x4096x2048 [1, 0, 2] (shapeCast S4096x1x2048 (xA m c)
      shapeCasts_S4096x2048_S4096x1x2048) transposes_S4096x1x2048_S1x4096x2048_1_0_2) shapeCasts_S1x4096x2048_S4096x2048)
      transposes_S4096x2048_S2048x4096_1_0 := by
    unfold_abbrev_sides
    simp only [hostOps0]
    after_results
    rfl
  rw [e]
  exact groupT_apply (n := 1) (l := 4096) (by norm_num) (xA m c) _ _ _ _ y

theorem arr_1 (y : S4096x1024.Idx) : V m c main_v1 y = at2 (dhA m c) (y 0).val (11264 + (y 1).val) := by
  have e : V m c main_v1 = extractStridedSlice S4096x1024 ![0, 11264] (dhA m c) slices_S4096x16384_S4096x1024_0_11264 := by
    unfold_abbrev_sides
    simp only [hostOps0]
    after_results
    rfl
  rw [e]
  exact cols_apply 11264 (dhA m c) slices_S4096x16384_S4096x1024_0_11264 y

theorem host_2 : V m c main_v8 = prevA m c := by
  unfold_abbrev_sides
  simp only [hostOps0]
  after_results
  rfl

theorem ix_0 : ∀ t : Fin cfg0.N, win0_0.index t 0 = t.val / 2 % 2 ∧ win0_0.index t 1 = t.val % 2 := by decide +kernel
theorem ix_1 : ∀ t : Fin cfg0.N, win0_1.index t 0 = t.val % 2 ∧ win0_1.index t 1 = t.val / 4 := by decide +kernel
theorem ix_2 : ∀ t : Fin cfg0.N, win0_2.index t 0 = (11 + t.val / 4) / 4 ∧ win0_2.index t 1 = t.val / 2 % 2 ∧ win0_2.index t 2 = (11 + t.val / 4) % 4 := by
  decide +kernel
theorem flush_2 : ∀ t : Fin cfg0.N, (cfg0.win 2).flush t = true ↔ t.val % 2 = 1 := by decide +kernel

theorem rd_0 (X : S2048x4096.Idx → Elt Ideal .bf16) (t : Fin cfg0.N) (y : S1024x2048.Idx) :
    ((cfg0.win 0).blk t).view.read (Elt Ideal) X y = X ((win0_0.blk t).view.emb y) := rfl
theorem rd_1 (X : S4096x1024.Idx → Elt Ideal .bf16) (t : Fin cfg0.N) (y : S2048x1024.Idx) :
    ((cfg0.win 1).blk t).view.read (Elt Ideal) X y = X ((win0_1.blk t).view.emb y) := rfl
theorem rd_2 (X : S4x2048x4096.Idx → Elt Ideal .bf16) (t : Fin cfg0.N) (y : S1x1024x1024.Idx) :
    ((cfg0.win 2).blk t).view.read (Elt Ideal) X y = X ((win0_2.blk t).view.emb y) := rfl

theorem e_0 (t : Fin cfg0.N) (y : S1024x2048.Idx) : ((win0_0.blk t).view.emb y 0).val = (t.val / 2 % 2) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S2048x1024.Idx) : ((win0_1.blk t).view.emb y 0).val = (t.val % 2) * 2048 + (y 0).val
    ∧ ((win0_1.blk t).view.emb y 1).val = (t.val / 4) * 1024 + (y 1).val := by
  obtain ⟨i0, i1⟩ := ix_1 t
  refine ⟨?_, ?_⟩
  · blk_simp; rw [i0] <;> omega
  · blk_simp; rw [i1] <;> omega
theorem e_2 (t : Fin cfg0.N) (y : S1x1024x1024.Idx) : ((win0_2.blk t).view.emb y 0).val = (11 + t.val / 4) / 4 * 1 + (y 0).val
    ∧ ((win0_2.blk t).view.emb y 1).val = (t.val / 2 % 2) * 1024 + (y 1).val
    ∧ ((win0_2.blk t).view.emb y 2).val = (11 + t.val / 4) % 4 * 1024 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = xT 1 4096 (xA m c) t.val := by
  funext y
  unfold xT
  refine (rd_0 (V m c main_v6) t y).trans ((arr_0 m c _).trans ?_)
  obtain ⟨e0, e1⟩ := e_0 t y
  rw [e0, e1]
  exact congrArg₂ (fun p q => at2 (xA m c) (tok 1 4096 p) q) (by omega) (by omega)
theorem r_1 (t : Fin cfg0.N) : (iblk m c 1 t : S2048x1024.Idx → EReal) = dT 1 4096 ((11 + t.val / 4)) (dhA m c) t.val := by
  funext y
  unfold dT
  have y0 : (y 0).val < 2048 := (y 0).isLt
  refine (rd_1 (V m c main_v1) t y).trans ((arr_1 m c _).trans ?_)
  obtain ⟨e0, e1⟩ := e_1 t y
  rw [e0, e1]
  refine congrArg₂ (at2 (dhA m c)) (?_ : _ = (2048 * (t.val % 2) + (y 0).val) % 4096 * 1 + (2048 * (t.val % 2) + (y 0).val) / 4096) ?_ <;> omega

/-! ## The array the call leaves -/

/-- The blocks of columns of the call. -/
abbrev Mine (j : ℕ) : Prop := j = 11

/-- The first half, from zero. -/
theorem acc_A (t : Fin cfg0.N) (h : t.val % 2 = 0) :
    (outsAt0 m c t.val t.isLt).2 = stepW (xT 1 4096 (xA m c) t.val) (dT 1 4096 ((11 + t.val / 4)) (dhA m c) t.val) fun _ => 0 := by
  rw [outsAt0_A m c t h (by omega)]
  dsimp only
  unfold sout0_A_0
  frame_out
  rw [pay_zero]
  exact (pay_step _ _ _).trans (congrArg₂ (fun A b => stepW A b fun _ => 0) (r_0 m c t) (r_1 m c t))

/-- What the second half writes back. -/
theorem back (t : Fin cfg0.N) (h : t.val % 2 = 1) (y : S1x1024x1024.Idx) : (dats m 0 c).flushed 2 t y
    = gradAt (xA m c) (dhA m c) (1024 * (t.val / 2 % 2) + (y 1).val) (1024 * ((11 + t.val / 4)) + (y 2).val) := by
  rw [Value.flushed2_B m c t (by omega) h]
  unfold out0_B_2
  frame_out
  refine (pay_out _ y).trans ((congrFun ((pay_step _ _ _).trans (congrArg (stepW _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (11 + (t.val - 1) / 4) = (11 + t.val / 4) by omega]
  exact two_steps (by norm_num) _ (xA m c) (dhA m c) t.val h _

theorem mine_blk (t a b : ℕ) (ht : t < 4) (ha : a < 1) (hb : b < 1024) : Mine (((11 + t / 4) / 4 * 1 + a) * 4 + ((11 + t / 4) % 4 * 1024 + b) / 1024) := by
  obtain ⟨j, hj⟩ : ∃ j, j = ((11 + t / 4) / 4 * 1 + a) * 4 + ((11 + t / 4) % 4 * 1024 + b) / 1024 := ⟨_, rfl⟩
  rw [← hj]
  show j = 11
  omega

/-- The array, block by block. -/
theorem block (t : Fin cfg0.N) (h : (cfg0.win 2).flush t = true) : (dats m 0 c).flushed 2 t
    = ((cfg0.win 2).blk t).view.read (Elt Ideal) (resW Mine (xA m c) (dhA m c) (prevA m c)) := by
  have ht : t.val < 4 := t.isLt
  funext y
  have y0 : (y 0).val < 1 := (y 0).isLt
  have y2 : (y 2).val < 1024 := (y 2).isLt
  obtain ⟨e0, e1, e2⟩ := e_2 t y
  refine (back m c t ((flush_2 t).mp h) y).trans (Eq.trans ?_ (rd_2 (resW Mine (xA m c) (dhA m c) (prevA m c)) t y).symm)
  unfold resW
  rw [e0, e1, e2, if_pos (mine_blk t.val _ _ ht y0 y2)]
  exact congrArg₂ (gradAt (xA m c) (dhA m c)) (by omega) (by omega)

theorem final : (dats m 0 c).arrAt 2 cfg0.N = resW Mine (xA m c) (dhA m c) (prevA m c) := by
  funext i
  have i0 : (i 0).val < 4 := (i 0).isLt
  have i1 : (i 1).val < 2048 := (i 1).isLt
  have i2 : (i 2).val < 4096 := (i 2).isLt
  by_cases hj : Mine ((i 0).val * 4 + (i 2).val / 1024)
  · obtain ⟨j, ej⟩ : ∃ j, j = (i 0).val * 4 + (i 2).val / 1024 := ⟨_, rfl⟩
    have hj' : j = 11 := by rw [ej]; exact hj
    have hN : 4 * (j - 11) + 2 * ((i 1).val / 1024) + 1 < 4 := by omega
    obtain ⟨t, ht⟩ : ∃ t : Fin cfg0.N, t.val = 4 * (j - 11) + 2 * ((i 1).val / 1024) + 1 := ⟨⟨_, hN⟩, rfl⟩
    have hf : (cfg0.win 2).flush t = true := (flush_2 t).mpr (by omega)
    refine (dats m 0 c).arrAt_apply_of_mem 2 _ (block m c) cfg0.N t i t.isLt hf ?_
    obtain ⟨e0, e1, e2⟩ := e_2 t (ix3 (0 : Fin 1) (⟨(i 1).val % 1024, Nat.mod_lt _ (by norm_num)⟩ : Fin 1024)
      (⟨(i 2).val % 1024, Nat.mod_lt _ (by norm_num)⟩ : Fin 1024))
    have he : (win0_2.blk t).view.emb (ix3 (0 : Fin 1) (⟨(i 1).val % 1024, Nat.mod_lt _ (by norm_num)⟩ : Fin 1024)
      (⟨(i 2).val % 1024, Nat.mod_lt _ (by norm_num)⟩ : Fin 1024)) = i := by
      funext a
      refine Fin.ext ?_
      fin_cases a
      · refine e0.trans ?_
        show (11 + t.val / 4) / 4 * 1 + 0 = (i 0).val
        omega
      · refine e1.trans ?_
        show t.val / 2 % 2 * 1024 + (i 1).val % 1024 = (i 1).val
        omega
      · refine e2.trans ?_
        show (11 + t.val / 4) % 4 * 1024 + (i 2).val % 1024 = (i 2).val
        omega
    exact he ▸ (win0_2.blk t).view.emb_mem_set _
  · rw [Value.entry2 m c i fun t hf hi => hj ?_]
    · exact (congrFun (host_2 m c) i).trans (if_neg hj).symm
    · obtain ⟨y, -, rfl⟩ := Finset.mem_map.mp hi
      obtain ⟨e0, e1, e2⟩ := e_2 t y
      have h := mine_blk t.val (y 0).val (y 2).val t.isLt (y 0).isLt (y 2).isLt
      rw [← e0, ← e2] at h
      exact h

/-! ## The reference -/

open Cert.Reference8Ideal.Read

theorem here (q : Fin 16) (b : BitVec 1) (hb : b = IntOp.cmpi .eq (BitVec.ofNat 32 q.val) 11#32) : b = if Mine q.val then 1#1 else 0#1 := by
  subst hb
  revert q
  decide +kernel

theorem mask (i : Cert.Reference8Ideal.S4x2048x4x1024.Idx) : val_main_call0_v0 (F := Ideal) i
    = if Mine ((i 0).val * 4 + (i 2).val) then 1#1 else 0#1 := by
  have h0 : (i 0).val < 4 := (i 0).isLt
  have h2 : (i 2).val < 4 := (i 2).isLt
  refine here ⟨(i 0).val * 4 + (i 2).val, by omega⟩ _ ?_
  rw [val_main_call0_v0_apply, val_main_v9_apply, val_main_v7_apply, val_main_v6_apply, val_main_v8_apply, val_main_c_apply]
  have e : (idx_main_v7 (idx_main_call0_v0 i) 0).val = (i 0).val * 4 + (i 2).val := by
    show (((i 0).val * 1 + 0) * 4 + (i 2).val) * 1 + 0 = _
    omega
  rw [e]

theorem deriv (x : S4096x2048.Idx → EReal) (dh : S4096x16384.Idx → EReal) (i : Cert.Reference8Ideal.S4x2048x4x1024.Idx) :
    val_main_v5 (F := Ideal) x dh i = gradAt x dh (i 1).val (4096 * (i 0).val + 1024 * (i 2).val + (i 3).val) :=
  (congrFun (show val_main_v5 (F := Ideal) x dh = Cert.Reference3Ideal.Read.val_main_v5 (F := Ideal) x dh from rfl) i).trans
    (Cert.Kernel3Ideal.Part.deriv x dh i)

theorem result : (dats m 0 c).arrAt 2 cfg0.N = val_main_v13 (F := Ideal) (m ((c : Thread nD τ).loc main_arg0)) (m ((c : Thread nD τ).loc main_arg1))
    (m ((c : Thread nD τ).loc main_arg2)) :=
  (final m c).trans (choose_blocks Mine (xA m c) (dhA m c) (prevA m c) (val_main_call0_v0 (F := Ideal)) (val_main_v5 (F := Ideal) (xA m c) (dhA m c))
    mask (deriv (xA m c) (dhA m c)) _ _).symm

/-- Equal arguments, equal results. -/
theorem result_congr {x x' : S4096x2048.Idx → EReal} {dh dh' : S4096x16384.Idx → EReal} {prev prev' : S4x2048x4096.Idx → EReal}
    (h0 : x = x') (h1 : dh = dh') (h2 : prev = prev') : val_main_v13 (F := Ideal) x dh prev = val_main_v13 (F := Ideal) x' dh' prev' := by
  subst h0 h1 h2
  rfl

end Cert.Kernel8Ideal.Part
-- ==== Proof.WPart9.lean ====
/-
  The call `w_in_grad_rest3`: its blocks of columns are 12 and 13.

  Point `t` takes half `t % 2` of the tokens, rows `1024 (t / 2 % 2)`, … of the gradient and block `(12 + t.val / 4)` of its columns. A block
  of 1024 × 1024 is accumulated over the two halves: the first starts from zero, the second adds to it and writes the sum back.
-/
module

public import proofs.«01_k».proof.Proof.Tokens
public import proofs.«01_k».proof.Proof.WPart6
public import proofs.«01_k».proof.Proof.Gen.Reference9Ideal.Read
public import proofs.«01_k».proof.Proof.Gen.Kernel9Ideal.Frame
public import proofs.«01_k».proof.Proof.Gen.Kernel9Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel9Ideal.Part

open Cert.Kernel9Ideal.Gen Cert.Tokens

/-! ## One point -/

theorem pay_zero : k0_pay1 (F := Ideal) = fun _ => 0 := Cert.Kernel6Ideal.Part.pay_zero

theorem pay_step (acc : Vec Ideal S1024x1024 .f32) (A : Vec Ideal S1024x2048 .bf16) (b : Vec Ideal S2048x1024 .bf16) :
    k0_pay2 (F := Ideal) acc A b = stepW A b acc := Cert.Kernel6Ideal.Part.pay_step acc A b

theorem pay_out (acc : Vec Ideal S1024x1024 .f32) (y : S1x1024x1024.Idx) : k0_pay3 (F := Ideal) acc y = acc (ix2 (y 1) (y 2)) :=
  Cert.Kernel6Ideal.Part.pay_out acc y

/-! ## The arrays the call reads, and a point's blocks of them -/

variable (m : (ℓ : Loc nD τ sig) → Buf (Elt Ideal) ℓ) (c : Dev nD)

/-- The call's arguments. -/
abbrev xA : S4096x2048.Idx → EReal := m ((c : Thread nD τ).loc main_arg0)
abbrev dhA : S4096x16384.Idx → EReal := m ((c : Thread nD τ).loc main_arg1)
abbrev prevA : S4x2048x4096.Idx → EReal := m ((c : Thread nD τ).loc main_arg2)

theorem arr_0 (y : S2048x4096.Idx) : V m c main_v6 y = at2 (xA m c) (tok 1 4096 (y 1).val) (y 0).val := by
  have e : V m c main_v6 = transpose S2048x4096 [1, 0] (shapeCast S4096x2048 (transpose S1x4096x2048 [1, 0, 2] (shapeCast S4096x1x2048 (xA m c)
      shapeCasts_S4096x2048_S4096x1x2048) transposes_S4096x1x2048_S1x4096x2048_1_0_2) shapeCasts_S1x4096x2048_S4096x2048)
      transposes_S4096x2048_S2048x4096_1_0 := by
    unfold_abbrev_sides
    simp only [hostOps0]
    after_results
    rfl
  rw [e]
  exact groupT_apply (n := 1) (l := 4096) (by norm_num) (xA m c) _ _ _ _ y

theorem arr_1 (y : S4096x2048.Idx) : V m c main_v1 y = at2 (dhA m c) (y 0).val (12288 + (y 1).val) := by
  have e : V m c main_v1 = extractStridedSlice S4096x2048 ![0, 12288] (dhA m c) slices_S4096x16384_S4096x2048_0_12288 := by
    unfold_abbrev_sides
    simp only [hostOps0]
    after_results
    rfl
  rw [e]
  exact cols_apply 12288 (dhA m c) slices_S4096x16384_S4096x2048_0_12288 y

theorem host_2 : V m c main_v8 = prevA m c := by
  unfold_abbrev_sides
  simp only [hostOps0]
  after_results
  rfl

theorem ix_0 : ∀ t : Fin cfg0.N, win0_0.index t 0 = t.val / 2 % 2 ∧ win0_0.index t 1 = t.val % 2 := by decide +kernel
theorem ix_1 : ∀ t : Fin cfg0.N, win0_1.index t 0 = t.val % 2 ∧ win0_1.index t 1 = t.val / 4 := by decide +kernel
theorem ix_2 : ∀ t : Fin cfg0.N, win0_2.index t 0 = (12 + t.val / 4) / 4 ∧ win0_2.index t 1 = t.val / 2 % 2 ∧ win0_2.index t 2 = (12 + t.val / 4) % 4 := by
  decide +kernel
theorem flush_2 : ∀ t : Fin cfg0.N, (cfg0.win 2).flush t = true ↔ t.val % 2 = 1 := by decide +kernel

theorem rd_0 (X : S2048x4096.Idx → Elt Ideal .bf16) (t : Fin cfg0.N) (y : S1024x2048.Idx) :
    ((cfg0.win 0).blk t).view.read (Elt Ideal) X y = X ((win0_0.blk t).view.emb y) := rfl
theorem rd_1 (X : S4096x2048.Idx → Elt Ideal .bf16) (t : Fin cfg0.N) (y : S2048x1024.Idx) :
    ((cfg0.win 1).blk t).view.read (Elt Ideal) X y = X ((win0_1.blk t).view.emb y) := rfl
theorem rd_2 (X : S4x2048x4096.Idx → Elt Ideal .bf16) (t : Fin cfg0.N) (y : S1x1024x1024.Idx) :
    ((cfg0.win 2).blk t).view.read (Elt Ideal) X y = X ((win0_2.blk t).view.emb y) := rfl

theorem e_0 (t : Fin cfg0.N) (y : S1024x2048.Idx) : ((win0_0.blk t).view.emb y 0).val = (t.val / 2 % 2) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S2048x1024.Idx) : ((win0_1.blk t).view.emb y 0).val = (t.val % 2) * 2048 + (y 0).val
    ∧ ((win0_1.blk t).view.emb y 1).val = (t.val / 4) * 1024 + (y 1).val := by
  obtain ⟨i0, i1⟩ := ix_1 t
  refine ⟨?_, ?_⟩
  · blk_simp; rw [i0] <;> omega
  · blk_simp; rw [i1] <;> omega
theorem e_2 (t : Fin cfg0.N) (y : S1x1024x1024.Idx) : ((win0_2.blk t).view.emb y 0).val = (12 + t.val / 4) / 4 * 1 + (y 0).val
    ∧ ((win0_2.blk t).view.emb y 1).val = (t.val / 2 % 2) * 1024 + (y 1).val
    ∧ ((win0_2.blk t).view.emb y 2).val = (12 + t.val / 4) % 4 * 1024 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = xT 1 4096 (xA m c) t.val := by
  funext y
  unfold xT
  refine (rd_0 (V m c main_v6) t y).trans ((arr_0 m c _).trans ?_)
  obtain ⟨e0, e1⟩ := e_0 t y
  rw [e0, e1]
  exact congrArg₂ (fun p q => at2 (xA m c) (tok 1 4096 p) q) (by omega) (by omega)
theorem r_1 (t : Fin cfg0.N) : (iblk m c 1 t : S2048x1024.Idx → EReal) = dT 1 4096 ((12 + t.val / 4)) (dhA m c) t.val := by
  funext y
  unfold dT
  have y0 : (y 0).val < 2048 := (y 0).isLt
  refine (rd_1 (V m c main_v1) t y).trans ((arr_1 m c _).trans ?_)
  obtain ⟨e0, e1⟩ := e_1 t y
  rw [e0, e1]
  refine congrArg₂ (at2 (dhA m c)) (?_ : _ = (2048 * (t.val % 2) + (y 0).val) % 4096 * 1 + (2048 * (t.val % 2) + (y 0).val) / 4096) ?_ <;> omega

/-! ## The array the call leaves -/

/-- The blocks of columns of the call. -/
abbrev Mine (j : ℕ) : Prop := j = 12 ∨ j = 13

/-- The first half, from zero. -/
theorem acc_A (t : Fin cfg0.N) (h : t.val % 2 = 0) :
    (outsAt0 m c t.val t.isLt).2 = stepW (xT 1 4096 (xA m c) t.val) (dT 1 4096 ((12 + t.val / 4)) (dhA m c) t.val) fun _ => 0 := by
  rw [outsAt0_A m c t h (by omega)]
  dsimp only
  unfold sout0_A_0
  frame_out
  rw [pay_zero]
  exact (pay_step _ _ _).trans (congrArg₂ (fun A b => stepW A b fun _ => 0) (r_0 m c t) (r_1 m c t))

/-- What the second half writes back. -/
theorem back (t : Fin cfg0.N) (h : t.val % 2 = 1) (y : S1x1024x1024.Idx) : (dats m 0 c).flushed 2 t y
    = gradAt (xA m c) (dhA m c) (1024 * (t.val / 2 % 2) + (y 1).val) (1024 * ((12 + t.val / 4)) + (y 2).val) := by
  rw [Value.flushed2_B m c t (by omega) h]
  unfold out0_B_2
  frame_out
  refine (pay_out _ y).trans ((congrFun ((pay_step _ _ _).trans (congrArg (stepW _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (12 + (t.val - 1) / 4) = (12 + t.val / 4) by omega]
  exact two_steps (by norm_num) _ (xA m c) (dhA m c) t.val h _

theorem mine_blk (t a b : ℕ) (ht : t < 8) (ha : a < 1) (hb : b < 1024) : Mine (((12 + t / 4) / 4 * 1 + a) * 4 + ((12 + t / 4) % 4 * 1024 + b) / 1024) := by
  obtain ⟨j, hj⟩ : ∃ j, j = ((12 + t / 4) / 4 * 1 + a) * 4 + ((12 + t / 4) % 4 * 1024 + b) / 1024 := ⟨_, rfl⟩
  rw [← hj]
  show j = 12 ∨ j = 13
  omega

/-- The array, block by block. -/
theorem block (t : Fin cfg0.N) (h : (cfg0.win 2).flush t = true) : (dats m 0 c).flushed 2 t
    = ((cfg0.win 2).blk t).view.read (Elt Ideal) (resW Mine (xA m c) (dhA m c) (prevA m c)) := by
  have ht : t.val < 8 := t.isLt
  funext y
  have y0 : (y 0).val < 1 := (y 0).isLt
  have y2 : (y 2).val < 1024 := (y 2).isLt
  obtain ⟨e0, e1, e2⟩ := e_2 t y
  refine (back m c t ((flush_2 t).mp h) y).trans (Eq.trans ?_ (rd_2 (resW Mine (xA m c) (dhA m c) (prevA m c)) t y).symm)
  unfold resW
  rw [e0, e1, e2, if_pos (mine_blk t.val _ _ ht y0 y2)]
  exact congrArg₂ (gradAt (xA m c) (dhA m c)) (by omega) (by omega)

theorem final : (dats m 0 c).arrAt 2 cfg0.N = resW Mine (xA m c) (dhA m c) (prevA m c) := by
  funext i
  have i0 : (i 0).val < 4 := (i 0).isLt
  have i1 : (i 1).val < 2048 := (i 1).isLt
  have i2 : (i 2).val < 4096 := (i 2).isLt
  by_cases hj : Mine ((i 0).val * 4 + (i 2).val / 1024)
  · obtain ⟨j, ej⟩ : ∃ j, j = (i 0).val * 4 + (i 2).val / 1024 := ⟨_, rfl⟩
    have hj' : j = 12 ∨ j = 13 := by rw [ej]; exact hj
    have hN : 4 * (j - 12) + 2 * ((i 1).val / 1024) + 1 < 8 := by omega
    obtain ⟨t, ht⟩ : ∃ t : Fin cfg0.N, t.val = 4 * (j - 12) + 2 * ((i 1).val / 1024) + 1 := ⟨⟨_, hN⟩, rfl⟩
    have hf : (cfg0.win 2).flush t = true := (flush_2 t).mpr (by omega)
    refine (dats m 0 c).arrAt_apply_of_mem 2 _ (block m c) cfg0.N t i t.isLt hf ?_
    obtain ⟨e0, e1, e2⟩ := e_2 t (ix3 (0 : Fin 1) (⟨(i 1).val % 1024, Nat.mod_lt _ (by norm_num)⟩ : Fin 1024)
      (⟨(i 2).val % 1024, Nat.mod_lt _ (by norm_num)⟩ : Fin 1024))
    have he : (win0_2.blk t).view.emb (ix3 (0 : Fin 1) (⟨(i 1).val % 1024, Nat.mod_lt _ (by norm_num)⟩ : Fin 1024)
      (⟨(i 2).val % 1024, Nat.mod_lt _ (by norm_num)⟩ : Fin 1024)) = i := by
      funext a
      refine Fin.ext ?_
      fin_cases a
      · refine e0.trans ?_
        show (12 + t.val / 4) / 4 * 1 + 0 = (i 0).val
        omega
      · refine e1.trans ?_
        show t.val / 2 % 2 * 1024 + (i 1).val % 1024 = (i 1).val
        omega
      · refine e2.trans ?_
        show (12 + t.val / 4) % 4 * 1024 + (i 2).val % 1024 = (i 2).val
        omega
    exact he ▸ (win0_2.blk t).view.emb_mem_set _
  · rw [Value.entry2 m c i fun t hf hi => hj ?_]
    · exact (congrFun (host_2 m c) i).trans (if_neg hj).symm
    · obtain ⟨y, -, rfl⟩ := Finset.mem_map.mp hi
      obtain ⟨e0, e1, e2⟩ := e_2 t y
      have h := mine_blk t.val (y 0).val (y 2).val t.isLt (y 0).isLt (y 2).isLt
      rw [← e0, ← e2] at h
      exact h

/-! ## The reference -/

open Cert.Reference9Ideal.Read

theorem here (q : Fin 16) (b : BitVec 1) (hb : b = IntOp.ori (IntOp.cmpi .eq (BitVec.ofNat 32 q.val) 12#32) (IntOp.cmpi .eq (BitVec.ofNat 32 q.val) 13#32)) : b = if Mine q.val then 1#1 else 0#1 := by
  subst hb
  revert q
  decide +kernel

theorem mask (i : Cert.Reference9Ideal.S4x2048x4x1024.Idx) : val_main_call0_v0 (F := Ideal) i
    = if Mine ((i 0).val * 4 + (i 2).val) then 1#1 else 0#1 := by
  have h0 : (i 0).val < 4 := (i 0).isLt
  have h2 : (i 2).val < 4 := (i 2).isLt
  refine here ⟨(i 0).val * 4 + (i 2).val, by omega⟩ _ ?_
  rw [val_main_call0_v0_apply, val_main_v12_apply, val_main_v9_apply, val_main_v11_apply, val_main_v7_apply, val_main_v6_apply, val_main_v8_apply, val_main_v10_apply, val_main_c_apply, val_main_c_0_apply]
  have e : (idx_main_v7 (idx_main_call0_v0 i) 0).val = (i 0).val * 4 + (i 2).val := by
    show (((i 0).val * 1 + 0) * 4 + (i 2).val) * 1 + 0 = _
    omega
  rw [e]

theorem deriv (x : S4096x2048.Idx → EReal) (dh : S4096x16384.Idx → EReal) (i : Cert.Reference9Ideal.S4x2048x4x1024.Idx) :
    val_main_v5 (F := Ideal) x dh i = gradAt x dh (i 1).val (4096 * (i 0).val + 1024 * (i 2).val + (i 3).val) :=
  (congrFun (show val_main_v5 (F := Ideal) x dh = Cert.Reference3Ideal.Read.val_main_v5 (F := Ideal) x dh from rfl) i).trans
    (Cert.Kernel3Ideal.Part.deriv x dh i)

theorem result : (dats m 0 c).arrAt 2 cfg0.N = val_main_v16 (F := Ideal) (m ((c : Thread nD τ).loc main_arg0)) (m ((c : Thread nD τ).loc main_arg1))
    (m ((c : Thread nD τ).loc main_arg2)) :=
  (final m c).trans (choose_blocks Mine (xA m c) (dhA m c) (prevA m c) (val_main_call0_v0 (F := Ideal)) (val_main_v5 (F := Ideal) (xA m c) (dhA m c))
    mask (deriv (xA m c) (dhA m c)) _ _).symm

/-- Equal arguments, equal results. -/
theorem result_congr {x x' : S4096x2048.Idx → EReal} {dh dh' : S4096x16384.Idx → EReal} {prev prev' : S4x2048x4096.Idx → EReal}
    (h0 : x = x') (h1 : dh = dh') (h2 : prev = prev') : val_main_v16 (F := Ideal) x dh prev = val_main_v16 (F := Ideal) x' dh' prev' := by
  subst h0 h1 h2
  rfl

end Cert.Kernel9Ideal.Part
-- ==== Proof.WPart10.lean ====
/-
  The call `w_in_grad_rest4`: its blocks of columns are 14 and 15.

  Point `t` takes half `t % 2` of the tokens, rows `1024 (t / 2 % 2)`, … of the gradient and block `(14 + t.val / 4)` of its columns. A block
  of 1024 × 1024 is accumulated over the two halves: the first starts from zero, the second adds to it and writes the sum back.
-/
module

public import proofs.«01_k».proof.Proof.Tokens
public import proofs.«01_k».proof.Proof.WPart6
public import proofs.«01_k».proof.Proof.Gen.Reference10Ideal.Read
public import proofs.«01_k».proof.Proof.Gen.Kernel10Ideal.Frame
public import proofs.«01_k».proof.Proof.Gen.Kernel10Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel10Ideal.Part

open Cert.Kernel10Ideal.Gen Cert.Tokens

/-! ## One point -/

theorem pay_zero : k0_pay1 (F := Ideal) = fun _ => 0 := Cert.Kernel6Ideal.Part.pay_zero

theorem pay_step (acc : Vec Ideal S1024x1024 .f32) (A : Vec Ideal S1024x2048 .bf16) (b : Vec Ideal S2048x1024 .bf16) :
    k0_pay2 (F := Ideal) acc A b = stepW A b acc := Cert.Kernel6Ideal.Part.pay_step acc A b

theorem pay_out (acc : Vec Ideal S1024x1024 .f32) (y : S1x1024x1024.Idx) : k0_pay3 (F := Ideal) acc y = acc (ix2 (y 1) (y 2)) :=
  Cert.Kernel6Ideal.Part.pay_out acc y

/-! ## The arrays the call reads, and a point's blocks of them -/

variable (m : (ℓ : Loc nD τ sig) → Buf (Elt Ideal) ℓ) (c : Dev nD)

/-- The call's arguments. -/
abbrev xA : S4096x2048.Idx → EReal := m ((c : Thread nD τ).loc main_arg0)
abbrev dhA : S4096x16384.Idx → EReal := m ((c : Thread nD τ).loc main_arg1)
abbrev prevA : S4x2048x4096.Idx → EReal := m ((c : Thread nD τ).loc main_arg2)

theorem arr_0 (y : S2048x4096.Idx) : V m c main_v6 y = at2 (xA m c) (tok 1 4096 (y 1).val) (y 0).val := by
  have e : V m c main_v6 = transpose S2048x4096 [1, 0] (shapeCast S4096x2048 (transpose S1x4096x2048 [1, 0, 2] (shapeCast S4096x1x2048 (xA m c)
      shapeCasts_S4096x2048_S4096x1x2048) transposes_S4096x1x2048_S1x4096x2048_1_0_2) shapeCasts_S1x4096x2048_S4096x2048)
      transposes_S4096x2048_S2048x4096_1_0 := by
    unfold_abbrev_sides
    simp only [hostOps0]
    after_results
    rfl
  rw [e]
  exact groupT_apply (n := 1) (l := 4096) (by norm_num) (xA m c) _ _ _ _ y

theorem arr_1 (y : S4096x2048.Idx) : V m c main_v1 y = at2 (dhA m c) (y 0).val (14336 + (y 1).val) := by
  have e : V m c main_v1 = extractStridedSlice S4096x2048 ![0, 14336] (dhA m c) slices_S4096x16384_S4096x2048_0_14336 := by
    unfold_abbrev_sides
    simp only [hostOps0]
    after_results
    rfl
  rw [e]
  exact cols_apply 14336 (dhA m c) slices_S4096x16384_S4096x2048_0_14336 y

theorem host_2 : V m c main_v8 = prevA m c := by
  unfold_abbrev_sides
  simp only [hostOps0]
  after_results
  rfl

theorem ix_0 : ∀ t : Fin cfg0.N, win0_0.index t 0 = t.val / 2 % 2 ∧ win0_0.index t 1 = t.val % 2 := by decide +kernel
theorem ix_1 : ∀ t : Fin cfg0.N, win0_1.index t 0 = t.val % 2 ∧ win0_1.index t 1 = t.val / 4 := by decide +kernel
theorem ix_2 : ∀ t : Fin cfg0.N, win0_2.index t 0 = (14 + t.val / 4) / 4 ∧ win0_2.index t 1 = t.val / 2 % 2 ∧ win0_2.index t 2 = (14 + t.val / 4) % 4 := by
  decide +kernel
theorem flush_2 : ∀ t : Fin cfg0.N, (cfg0.win 2).flush t = true ↔ t.val % 2 = 1 := by decide +kernel

theorem rd_0 (X : S2048x4096.Idx → Elt Ideal .bf16) (t : Fin cfg0.N) (y : S1024x2048.Idx) :
    ((cfg0.win 0).blk t).view.read (Elt Ideal) X y = X ((win0_0.blk t).view.emb y) := rfl
theorem rd_1 (X : S4096x2048.Idx → Elt Ideal .bf16) (t : Fin cfg0.N) (y : S2048x1024.Idx) :
    ((cfg0.win 1).blk t).view.read (Elt Ideal) X y = X ((win0_1.blk t).view.emb y) := rfl
theorem rd_2 (X : S4x2048x4096.Idx → Elt Ideal .bf16) (t : Fin cfg0.N) (y : S1x1024x1024.Idx) :
    ((cfg0.win 2).blk t).view.read (Elt Ideal) X y = X ((win0_2.blk t).view.emb y) := rfl

theorem e_0 (t : Fin cfg0.N) (y : S1024x2048.Idx) : ((win0_0.blk t).view.emb y 0).val = (t.val / 2 % 2) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S2048x1024.Idx) : ((win0_1.blk t).view.emb y 0).val = (t.val % 2) * 2048 + (y 0).val
    ∧ ((win0_1.blk t).view.emb y 1).val = (t.val / 4) * 1024 + (y 1).val := by
  obtain ⟨i0, i1⟩ := ix_1 t
  refine ⟨?_, ?_⟩
  · blk_simp; rw [i0] <;> omega
  · blk_simp; rw [i1] <;> omega
theorem e_2 (t : Fin cfg0.N) (y : S1x1024x1024.Idx) : ((win0_2.blk t).view.emb y 0).val = (14 + t.val / 4) / 4 * 1 + (y 0).val
    ∧ ((win0_2.blk t).view.emb y 1).val = (t.val / 2 % 2) * 1024 + (y 1).val
    ∧ ((win0_2.blk t).view.emb y 2).val = (14 + t.val / 4) % 4 * 1024 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = xT 1 4096 (xA m c) t.val := by
  funext y
  unfold xT
  refine (rd_0 (V m c main_v6) t y).trans ((arr_0 m c _).trans ?_)
  obtain ⟨e0, e1⟩ := e_0 t y
  rw [e0, e1]
  exact congrArg₂ (fun p q => at2 (xA m c) (tok 1 4096 p) q) (by omega) (by omega)
theorem r_1 (t : Fin cfg0.N) : (iblk m c 1 t : S2048x1024.Idx → EReal) = dT 1 4096 ((14 + t.val / 4)) (dhA m c) t.val := by
  funext y
  unfold dT
  have y0 : (y 0).val < 2048 := (y 0).isLt
  refine (rd_1 (V m c main_v1) t y).trans ((arr_1 m c _).trans ?_)
  obtain ⟨e0, e1⟩ := e_1 t y
  rw [e0, e1]
  refine congrArg₂ (at2 (dhA m c)) (?_ : _ = (2048 * (t.val % 2) + (y 0).val) % 4096 * 1 + (2048 * (t.val % 2) + (y 0).val) / 4096) ?_ <;> omega

/-! ## The array the call leaves -/

/-- The blocks of columns of the call. -/
abbrev Mine (j : ℕ) : Prop := j = 14 ∨ j = 15

/-- The first half, from zero. -/
theorem acc_A (t : Fin cfg0.N) (h : t.val % 2 = 0) :
    (outsAt0 m c t.val t.isLt).2 = stepW (xT 1 4096 (xA m c) t.val) (dT 1 4096 ((14 + t.val / 4)) (dhA m c) t.val) fun _ => 0 := by
  rw [outsAt0_A m c t h (by omega)]
  dsimp only
  unfold sout0_A_0
  frame_out
  rw [pay_zero]
  exact (pay_step _ _ _).trans (congrArg₂ (fun A b => stepW A b fun _ => 0) (r_0 m c t) (r_1 m c t))

/-- What the second half writes back. -/
theorem back (t : Fin cfg0.N) (h : t.val % 2 = 1) (y : S1x1024x1024.Idx) : (dats m 0 c).flushed 2 t y
    = gradAt (xA m c) (dhA m c) (1024 * (t.val / 2 % 2) + (y 1).val) (1024 * ((14 + t.val / 4)) + (y 2).val) := by
  rw [Value.flushed2_B m c t (by omega) h]
  unfold out0_B_2
  frame_out
  refine (pay_out _ y).trans ((congrFun ((pay_step _ _ _).trans (congrArg (stepW _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (14 + (t.val - 1) / 4) = (14 + t.val / 4) by omega]
  exact two_steps (by norm_num) _ (xA m c) (dhA m c) t.val h _

theorem mine_blk (t a b : ℕ) (ht : t < 8) (ha : a < 1) (hb : b < 1024) : Mine (((14 + t / 4) / 4 * 1 + a) * 4 + ((14 + t / 4) % 4 * 1024 + b) / 1024) := by
  obtain ⟨j, hj⟩ : ∃ j, j = ((14 + t / 4) / 4 * 1 + a) * 4 + ((14 + t / 4) % 4 * 1024 + b) / 1024 := ⟨_, rfl⟩
  rw [← hj]
  show j = 14 ∨ j = 15
  omega

/-- The array, block by block. -/
theorem block (t : Fin cfg0.N) (h : (cfg0.win 2).flush t = true) : (dats m 0 c).flushed 2 t
    = ((cfg0.win 2).blk t).view.read (Elt Ideal) (resW Mine (xA m c) (dhA m c) (prevA m c)) := by
  have ht : t.val < 8 := t.isLt
  funext y
  have y0 : (y 0).val < 1 := (y 0).isLt
  have y2 : (y 2).val < 1024 := (y 2).isLt
  obtain ⟨e0, e1, e2⟩ := e_2 t y
  refine (back m c t ((flush_2 t).mp h) y).trans (Eq.trans ?_ (rd_2 (resW Mine (xA m c) (dhA m c) (prevA m c)) t y).symm)
  unfold resW
  rw [e0, e1, e2, if_pos (mine_blk t.val _ _ ht y0 y2)]
  exact congrArg₂ (gradAt (xA m c) (dhA m c)) (by omega) (by omega)

theorem final : (dats m 0 c).arrAt 2 cfg0.N = resW Mine (xA m c) (dhA m c) (prevA m c) := by
  funext i
  have i0 : (i 0).val < 4 := (i 0).isLt
  have i1 : (i 1).val < 2048 := (i 1).isLt
  have i2 : (i 2).val < 4096 := (i 2).isLt
  by_cases hj : Mine ((i 0).val * 4 + (i 2).val / 1024)
  · obtain ⟨j, ej⟩ : ∃ j, j = (i 0).val * 4 + (i 2).val / 1024 := ⟨_, rfl⟩
    have hj' : j = 14 ∨ j = 15 := by rw [ej]; exact hj
    have hN : 4 * (j - 14) + 2 * ((i 1).val / 1024) + 1 < 8 := by omega
    obtain ⟨t, ht⟩ : ∃ t : Fin cfg0.N, t.val = 4 * (j - 14) + 2 * ((i 1).val / 1024) + 1 := ⟨⟨_, hN⟩, rfl⟩
    have hf : (cfg0.win 2).flush t = true := (flush_2 t).mpr (by omega)
    refine (dats m 0 c).arrAt_apply_of_mem 2 _ (block m c) cfg0.N t i t.isLt hf ?_
    obtain ⟨e0, e1, e2⟩ := e_2 t (ix3 (0 : Fin 1) (⟨(i 1).val % 1024, Nat.mod_lt _ (by norm_num)⟩ : Fin 1024)
      (⟨(i 2).val % 1024, Nat.mod_lt _ (by norm_num)⟩ : Fin 1024))
    have he : (win0_2.blk t).view.emb (ix3 (0 : Fin 1) (⟨(i 1).val % 1024, Nat.mod_lt _ (by norm_num)⟩ : Fin 1024)
      (⟨(i 2).val % 1024, Nat.mod_lt _ (by norm_num)⟩ : Fin 1024)) = i := by
      funext a
      refine Fin.ext ?_
      fin_cases a
      · refine e0.trans ?_
        show (14 + t.val / 4) / 4 * 1 + 0 = (i 0).val
        omega
      · refine e1.trans ?_
        show t.val / 2 % 2 * 1024 + (i 1).val % 1024 = (i 1).val
        omega
      · refine e2.trans ?_
        show (14 + t.val / 4) % 4 * 1024 + (i 2).val % 1024 = (i 2).val
        omega
    exact he ▸ (win0_2.blk t).view.emb_mem_set _
  · rw [Value.entry2 m c i fun t hf hi => hj ?_]
    · exact (congrFun (host_2 m c) i).trans (if_neg hj).symm
    · obtain ⟨y, -, rfl⟩ := Finset.mem_map.mp hi
      obtain ⟨e0, e1, e2⟩ := e_2 t y
      have h := mine_blk t.val (y 0).val (y 2).val t.isLt (y 0).isLt (y 2).isLt
      rw [← e0, ← e2] at h
      exact h

/-! ## The reference -/

open Cert.Reference10Ideal.Read

theorem here (q : Fin 16) (b : BitVec 1) (hb : b = IntOp.ori (IntOp.cmpi .eq (BitVec.ofNat 32 q.val) 14#32) (IntOp.cmpi .eq (BitVec.ofNat 32 q.val) 15#32)) : b = if Mine q.val then 1#1 else 0#1 := by
  subst hb
  revert q
  decide +kernel

theorem mask (i : Cert.Reference10Ideal.S4x2048x4x1024.Idx) : val_main_call0_v0 (F := Ideal) i
    = if Mine ((i 0).val * 4 + (i 2).val) then 1#1 else 0#1 := by
  have h0 : (i 0).val < 4 := (i 0).isLt
  have h2 : (i 2).val < 4 := (i 2).isLt
  refine here ⟨(i 0).val * 4 + (i 2).val, by omega⟩ _ ?_
  rw [val_main_call0_v0_apply, val_main_v12_apply, val_main_v9_apply, val_main_v11_apply, val_main_v7_apply, val_main_v6_apply, val_main_v8_apply, val_main_v10_apply, val_main_c_apply, val_main_c_0_apply]
  have e : (idx_main_v7 (idx_main_call0_v0 i) 0).val = (i 0).val * 4 + (i 2).val := by
    show (((i 0).val * 1 + 0) * 4 + (i 2).val) * 1 + 0 = _
    omega
  rw [e]

theorem deriv (x : S4096x2048.Idx → EReal) (dh : S4096x16384.Idx → EReal) (i : Cert.Reference10Ideal.S4x2048x4x1024.Idx) :
    val_main_v5 (F := Ideal) x dh i = gradAt x dh (i 1).val (4096 * (i 0).val + 1024 * (i 2).val + (i 3).val) :=
  (congrFun (show val_main_v5 (F := Ideal) x dh = Cert.Reference3Ideal.Read.val_main_v5 (F := Ideal) x dh from rfl) i).trans
    (Cert.Kernel3Ideal.Part.deriv x dh i)

theorem result : (dats m 0 c).arrAt 2 cfg0.N = val_main_v16 (F := Ideal) (m ((c : Thread nD τ).loc main_arg0)) (m ((c : Thread nD τ).loc main_arg1))
    (m ((c : Thread nD τ).loc main_arg2)) :=
  (final m c).trans (choose_blocks Mine (xA m c) (dhA m c) (prevA m c) (val_main_call0_v0 (F := Ideal)) (val_main_v5 (F := Ideal) (xA m c) (dhA m c))
    mask (deriv (xA m c) (dhA m c)) _ _).symm

/-- Equal arguments, equal results. -/
theorem result_congr {x x' : S4096x2048.Idx → EReal} {dh dh' : S4096x16384.Idx → EReal} {prev prev' : S4x2048x4096.Idx → EReal}
    (h0 : x = x') (h1 : dh = dh') (h2 : prev = prev') : val_main_v16 (F := Ideal) x dh prev = val_main_v16 (F := Ideal) x' dh' prev' := by
  subst h0 h1 h2
  rfl

end Cert.Kernel10Ideal.Part
-- ==== Proof.Weight.lean ====
/-
  The gradient of a weight that maps `M` columns to `N`, in blocks of 1024 × 512 accumulated over two halves of the tokens.
-/
module

public import proofs.«01_k».proof.Proof.Tokens

@[expose] public section

set_option maxRecDepth 16384
set_option maxHeartbeats 4000000

noncomputable section

open Idealize.ShloMosaic hiding ix2 ix3 ix4 eq_ix2 eq_ix3 eq_ix4
open Idealize.ShloMosaic.ValueIdx
open scoped BigOperators

namespace Cert.Tokens

/-- An entry of the gradient: a sum over the tokens. -/
def weightAt {M N : ℕ} (x : (⟨2, ![4096, M]⟩ : Shape).Idx → EReal) (dy : (⟨2, ![4096, N]⟩ : Shape).Idx → EReal) (r k : ℕ) : EReal :=
  ∑ s ∈ Finset.range 4096, at2 x s r * at2 dy s k

/-- One step: the product of two blocks, added to what was accumulated. -/
def stepV (A : (⟨2, ![1024, 2048]⟩ : Shape).Idx → EReal) (b : (⟨2, ![2048, 512]⟩ : Shape).Idx → EReal)
    (acc : (⟨2, ![1024, 512]⟩ : Shape).Idx → EReal) : (⟨2, ![1024, 512]⟩ : Shape).Idx → EReal :=
  fun y => acc y + ∑ e : Fin 2048, A (ix2 (y 0) e) * b (ix2 e (y 1))

/-- The transposed activations' block of rows `i`, in half `t % 2` of the tokens. -/
def actT {M : ℕ} (i : ℕ) (x : (⟨2, ![4096, M]⟩ : Shape).Idx → EReal) (t : ℕ) : (⟨2, ![1024, 2048]⟩ : Shape).Idx → EReal := fun y =>
  at2 x (2048 * (t % 2) + (y 1).val) (1024 * i + (y 0).val)
/-- The cotangent's block of columns `j`, in half `t % 2` of the tokens. -/
def cotT {N : ℕ} (j : ℕ) (dy : (⟨2, ![4096, N]⟩ : Shape).Idx → EReal) (t : ℕ) : (⟨2, ![2048, 512]⟩ : Shape).Idx → EReal := fun y =>
  at2 dy (2048 * (t % 2) + (y 0).val) (512 * j + (y 1).val)

theorem tok_one (p : ℕ) (h : p < 4096) : tok 1 4096 p = p := by
  unfold tok
  omega

/-- Two halves of the tokens make the gradient. -/
theorem two_weight_steps {M N : ℕ} (i j : ℕ) (x : (⟨2, ![4096, M]⟩ : Shape).Idx → EReal) (dy : (⟨2, ![4096, N]⟩ : Shape).Idx → EReal)
    (t : ℕ) (h : t % 2 = 1) (y : (⟨2, ![1024, 512]⟩ : Shape).Idx) :
    stepV (actT i x t) (cotT j dy t) (stepV (actT i x (t - 1)) (cotT j dy (t - 1)) fun _ => 0) y
      = weightAt x dy (1024 * i + (y 0).val) (512 * j + (y 1).val) := by
  unfold weightAt
  refine Eq.trans ?_ (two_halves (n := 1) (l := 4096) (by norm_num) fun s => at2 x s (1024 * i + (y 0).val) * at2 dy s (512 * j + (y 1).val))
  unfold stepV
  rw [zero_add]
  refine congrArg₂ (· + ·) (Finset.sum_congr rfl fun e _ => ?_) (Finset.sum_congr rfl fun e _ => ?_)
  · unfold actT cotT
    rw [show (t - 1) % 2 = 0 by omega, tok_one _ (by omega)]
  · unfold actT cotT
    rw [h, tok_one _ (by omega)]

/-- A transpose read at two numbers. -/
theorem transpose_at2 {n l : ℕ} (x : (⟨2, ![n, l]⟩ : Shape).Idx → EReal) (h : (⟨2, ![n, l]⟩ : Shape).Transposes [1, 0] ⟨2, ![l, n]⟩)
    (y : (⟨2, ![l, n]⟩ : Shape).Idx) : transpose (⟨2, ![l, n]⟩ : Shape) [1, 0] x h y = at2 x (y 1).val (y 0).val :=
  (transpose_apply [1, 0] _ _ y (ix2 (y 1) (y 0)) (fun b => by fin_cases b <;> rfl)).trans (at2_eq x _ rfl rfl)

end Cert.Tokens
-- ==== Proof.WPart11.lean ====
/-
  The call `w_out_grad`: a block of 1024 rows and 512 columns is accumulated over two halves of the tokens. Point `t` takes half `t % 2`
  of the tokens and the block of columns `t / 2 % 4`, in the block of rows `t / 8`.
-/
module

public import proofs.«01_k».proof.Proof.Weight
public import proofs.«01_k».proof.Proof.Gen.Reference11Ideal.Read
public import proofs.«01_k».proof.Proof.Gen.Kernel11Ideal.Frame
public import proofs.«01_k».proof.Proof.Gen.Kernel11Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel11Ideal.Part

open Cert.Kernel11Ideal.Gen Cert.Tokens

/-! ## One point -/

theorem pay_zero : k0_pay1 (F := Ideal) = fun _ => 0 := by
  funext y
  unfold k0_pay1
  rw [shapeCast_self]
  exact Ideal.ofBits_zero_f32

theorem pay_step (acc : Vec Ideal S1024x512 .f32) (A : Vec Ideal S1024x2048 .bf16) (b : Vec Ideal S2048x512 .bf16) :
    k0_pay2 (F := Ideal) acc A b = stepV A b acc := by
  funext y
  unfold k0_pay2
  rw [shapeCast_self, shapeCast_self, shapeCast_self]
  refine congrArg (acc y + ·) ?_
  refine (Ideal.matmul_constant_zero_apply (φ₂ := .bf16) _ none A b y).trans ?_
  refine (Equiv.sum_comp (contrEquiv1 _ 2048 rfl rfl).symm _).symm.trans ?_
  refine Finset.sum_congr rfl fun e _ => ?_
  congr 2
  · funext a; fin_cases a <;> rfl
  · funext a; fin_cases a <;> rfl

theorem pay_out (acc : Vec Ideal S1024x512 .f32) (y : S1024x512.Idx) : k0_pay3 (F := Ideal) acc y = acc y := rfl

/-! ## The arrays the call reads, and a point's blocks of them -/

variable (m : (ℓ : Loc nD τ sig) → Buf (Elt Ideal) ℓ) (c : Dev nD)

/-- The call's arguments. -/
abbrev xA : S4096x2048.Idx → EReal := m ((c : Thread nD τ).loc main_arg0)
abbrev dyA : S4096x2048.Idx → EReal := m ((c : Thread nD τ).loc main_arg1)

theorem arr_0 (y : S2048x4096.Idx) : V m c main_v1 y = at2 (xA m c) (y 1).val (y 0).val := by
  have e : V m c main_v1 = transpose S2048x4096 [1, 0] (xA m c) transposes_S4096x2048_S2048x4096_1_0 := by
    unfold_abbrev_sides
    simp only [hostOps0]
    after_results
    rfl
  rw [e]
  exact transpose_at2 (xA m c) _ y

theorem arr_1 (y : S4096x2048.Idx) : V m c main_v2 y = at2 (dyA m c) (y 0).val (y 1).val := by
  have e : V m c main_v2 = dyA m c := by
    unfold_abbrev_sides
    simp only [hostOps0]
    after_results
    rfl
  rw [e]
  exact at2_eq (dyA m c) y rfl rfl

theorem ix_0 : ∀ t : Fin cfg0.N, win0_0.index t 0 = t.val / 8 ∧ win0_0.index t 1 = t.val % 2 := by decide +kernel
theorem ix_1 : ∀ t : Fin cfg0.N, win0_1.index t 0 = t.val % 2 ∧ win0_1.index t 1 = t.val / 2 % 4 := by decide +kernel
theorem ix_2 : ∀ t : Fin cfg0.N, win0_2.index t 0 = t.val / 8 ∧ win0_2.index t 1 = t.val / 2 % 4 := by decide +kernel
theorem flush_2 : ∀ t : Fin cfg0.N, (cfg0.win 2).flush t = true ↔ t.val % 2 = 1 := by decide +kernel

theorem rd_0 (X : S2048x4096.Idx → Elt Ideal .bf16) (t : Fin cfg0.N) (y : S1024x2048.Idx) :
    ((cfg0.win 0).blk t).view.read (Elt Ideal) X y = X ((win0_0.blk t).view.emb y) := rfl
theorem rd_1 (X : S4096x2048.Idx → Elt Ideal .bf16) (t : Fin cfg0.N) (y : S2048x512.Idx) :
    ((cfg0.win 1).blk t).view.read (Elt Ideal) X y = X ((win0_1.blk t).view.emb y) := rfl
theorem rd_2 (X : S2048x2048.Idx → Elt Ideal .bf16) (t : Fin cfg0.N) (y : S1024x512.Idx) :
    ((cfg0.win 2).blk t).view.read (Elt Ideal) X y = X ((win0_2.blk t).view.emb y) := rfl

theorem e_0 (t : Fin cfg0.N) (y : S1024x2048.Idx) : ((win0_0.blk t).view.emb y 0).val = (t.val / 8) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S2048x512.Idx) : ((win0_1.blk t).view.emb y 0).val = (t.val % 2) * 2048 + (y 0).val
    ∧ ((win0_1.blk t).view.emb y 1).val = (t.val / 2 % 4) * 512 + (y 1).val := by
  obtain ⟨i0, i1⟩ := ix_1 t
  refine ⟨?_, ?_⟩
  · blk_simp; rw [i0] <;> omega
  · blk_simp; rw [i1] <;> omega
theorem e_2 (t : Fin cfg0.N) (y : S1024x512.Idx) : ((win0_2.blk t).view.emb y 0).val = t.val / 8 * 1024 + (y 0).val
    ∧ ((win0_2.blk t).view.emb y 1).val = t.val / 2 % 4 * 512 + (y 1).val := by
  obtain ⟨i0, i1⟩ := ix_2 t
  refine ⟨?_, ?_⟩
  · blk_simp; rw [i0] <;> omega
  · blk_simp; rw [i1] <;> omega

theorem r_0 (t : Fin cfg0.N) : (iblk m c 0 t : S1024x2048.Idx → EReal) = actT (t.val / 8) (xA m c) t.val := by
  funext y
  unfold actT
  refine (rd_0 (V m c main_v1) t y).trans ((arr_0 m c _).trans ?_)
  obtain ⟨e0, e1⟩ := e_0 t y
  rw [e0, e1]
  exact congrArg₂ (at2 (xA m c)) (by omega) (by omega)
theorem r_1 (t : Fin cfg0.N) : (iblk m c 1 t : S2048x512.Idx → EReal) = cotT (t.val / 2 % 4) (dyA m c) t.val := by
  funext y
  unfold cotT
  refine (rd_1 (V m c main_v2) t y).trans ((arr_1 m c _).trans ?_)
  obtain ⟨e0, e1⟩ := e_1 t y
  rw [e0, e1]
  exact congrArg₂ (at2 (dyA m c)) (by omega) (by omega)

/-! ## The array the call leaves -/

/-- The first half, from zero. -/
theorem acc_A (t : Fin cfg0.N) (h : t.val % 2 = 0) :
    (outsAt0 m c t.val t.isLt).2 = stepV (actT (t.val / 8) (xA m c) t.val) (cotT (t.val / 2 % 4) (dyA m c) t.val) fun _ => 0 := by
  rw [outsAt0_A m c t h (by omega)]
  dsimp only
  unfold sout0_A_0
  frame_out
  rw [pay_zero]
  exact (pay_step _ _ _).trans (congrArg₂ (fun A b => stepV A b fun _ => 0) (r_0 m c t) (r_1 m c t))

/-- What the second half writes back. -/
theorem back (t : Fin cfg0.N) (h : t.val % 2 = 1) (y : S1024x512.Idx) : (dats m 0 c).flushed 2 t y
    = weightAt (xA m c) (dyA m c) (1024 * (t.val / 8) + (y 0).val) (512 * (t.val / 2 % 4) + (y 1).val) := by
  rw [Value.flushed2_B m c t (by omega) h]
  unfold out0_B_2
  frame_out
  refine (pay_out _ y).trans ((congrFun ((pay_step _ _ _).trans (congrArg (stepV _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (t.val - 1) / 8 = t.val / 8 by omega, show (t.val - 1) / 2 % 4 = t.val / 2 % 4 by omega]
  exact two_weight_steps _ _ (xA m c) (dyA m c) t.val h _

/-- The whole result. -/
def resV : S2048x2048.Idx → EReal := fun y => weightAt (xA m c) (dyA m c) (y 0).val (y 1).val

theorem block (t : Fin cfg0.N) (h : (cfg0.win 2).flush t = true) : (dats m 0 c).flushed 2 t
    = ((cfg0.win 2).blk t).view.read (Elt Ideal) (resV m c) := by
  funext y
  obtain ⟨e0, e1⟩ := e_2 t y
  refine (back m c t ((flush_2 t).mp h) y).trans (Eq.trans ?_ (rd_2 (resV m c) t y).symm)
  unfold resV
  rw [e0, e1]
  exact congrArg₂ (weightAt (xA m c) (dyA m c)) (by omega) (by omega)

theorem final : (dats m 0 c).arrAt 2 cfg0.N = resV m c :=
  (dats m 0 c).arrAt_eq_of_cover 2 _ (block m c) fun i => (Value.covered_iff2 i).2 (by
    have h0 : (i 0).val < 2048 := (i 0).isLt
    have h1 : (i 1).val < 2048 := (i 1).isLt
    omega)

/-! ## The reference -/

open Cert.Reference11Ideal.Read

theorem deriv (x : S4096x2048.Idx → EReal) (dy : S4096x2048.Idx → EReal) (i : S2048x2048.Idx) :
    val_main_v4 (F := Ideal) x dy i = weightAt x dy (i 0).val (i 1).val := by
  refine (show val_main_v4 (F := Ideal) x dy i = val_main_v3 (F := Ideal) x dy i from rfl).trans ?_
  rw [val_main_v3_apply, val_main_v2_apply]
  unfold weightAt
  rw [Finset.sum_range]
  exact Finset.sum_congr rfl fun k _ => (mul_comm _ _).trans (congrArg₂ (· * ·) (at2_eq (n := 4096) (l := 2048) x _ rfl rfl)
    (at2_eq (n := 4096) (l := 2048) dy _ rfl rfl))

theorem result : (dats m 0 c).arrAt 2 cfg0.N
    = val_main_v4 (F := Ideal) (m ((c : Thread nD τ).loc main_arg0)) (m ((c : Thread nD τ).loc main_arg1)) :=
  (final m c).trans (funext fun i => (deriv (xA m c) (dyA m c) i).symm)

/-- Equal arguments, equal results. -/
theorem result_congr {x x' : S4096x2048.Idx → EReal} {dy dy' : S4096x2048.Idx → EReal} (h0 : x = x') (h1 : dy = dy') :
    val_main_v4 (F := Ideal) x dy = val_main_v4 (F := Ideal) x' dy' := by
  subst h0 h1
  rfl

end Cert.Kernel11Ideal.Part
-- ==== Proof.WPart12.lean ====
/-
  The call `w_proj_attn_grad`: a block of 1024 rows and 512 columns is accumulated over two halves of the tokens. Point `t` takes half `t % 2`
  of the tokens and the block of columns `t / 2 % 4`. The four blocks of columns lie one after the other in the result.
-/
module

public import proofs.«01_k».proof.Proof.Weight
public import proofs.«01_k».proof.Proof.WPart11
public import proofs.«01_k».proof.Proof.Gen.Reference12Ideal.Read
public import proofs.«01_k».proof.Proof.Gen.Kernel12Ideal.Frame
public import proofs.«01_k».proof.Proof.Gen.Kernel12Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel12Ideal.Part

open Cert.Kernel12Ideal.Gen Cert.Tokens

/-! ## One point -/

theorem pay_zero : k0_pay1 (F := Ideal) = fun _ => 0 := Cert.Kernel11Ideal.Part.pay_zero

theorem pay_step (acc : Vec Ideal S1024x512 .f32) (A : Vec Ideal S1024x2048 .bf16) (b : Vec Ideal S2048x512 .bf16) :
    k0_pay2 (F := Ideal) acc A b = stepV A b acc := Cert.Kernel11Ideal.Part.pay_step acc A b

theorem pay_out (acc : Vec Ideal S1024x512 .f32) (y : S1x1024x512.Idx) : k0_pay3 (F := Ideal) acc y = acc (ix2 (y 1) (y 2)) := by
  unfold k0_pay3
  have hy : y = ix3 (0 : Fin 1) (y 1) (y 2) := by
    funext a
    fin_cases a
    · exact Subsingleton.elim (α := Fin 1) _ _
    · rfl
    · rfl
  rw [hy]
  exact (shapeCast_ab_1ab_apply (a := 1024) (b := 512) _ _ 0 (y 1) (y 2)).trans rfl

/-! ## The arrays the call reads, and a point's blocks of them -/

variable (m : (ℓ : Loc nD τ sig) → Buf (Elt Ideal) ℓ) (c : Dev nD)

/-- The call's arguments. -/
abbrev xA : S4096x1024.Idx → EReal := m ((c : Thread nD τ).loc main_arg0)
abbrev dyA : S4096x2048.Idx → EReal := m ((c : Thread nD τ).loc main_arg1)

theorem arr_0 (y : S1024x4096.Idx) : V m c main_v1 y = at2 (xA m c) (y 1).val (y 0).val := by
  have e : V m c main_v1 = transpose S1024x4096 [1, 0] (xA m c) transposes_S4096x1024_S1024x4096_1_0 := by
    unfold_abbrev_sides
    simp only [hostOps0]
    after_results
    rfl
  rw [e]
  exact transpose_at2 (xA m c) _ y

theorem arr_1 (y : S4096x2048.Idx) : V m c main_v2 y = at2 (dyA m c) (y 0).val (y 1).val := by
  have e : V m c main_v2 = dyA m c := by
    unfold_abbrev_sides
    simp only [hostOps0]
    after_results
    rfl
  rw [e]
  exact at2_eq (dyA m c) y rfl rfl

theorem ix_0 : ∀ t : Fin cfg0.N, win0_0.index t 0 = 0 ∧ win0_0.index t 1 = t.val % 2 := by decide +kernel
theorem ix_1 : ∀ t : Fin cfg0.N, win0_1.index t 0 = t.val % 2 ∧ win0_1.index t 1 = t.val / 2 % 4 := by decide +kernel
theorem ix_2 : ∀ t : Fin cfg0.N, win0_2.index t 0 = t.val / 2 % 4 ∧ win0_2.index t 1 = 0 ∧ win0_2.index t 2 = 0 := by decide +kernel
theorem flush_2 : ∀ t : Fin cfg0.N, (cfg0.win 2).flush t = true ↔ t.val % 2 = 1 := by decide +kernel

theorem rd_0 (X : S1024x4096.Idx → Elt Ideal .bf16) (t : Fin cfg0.N) (y : S1024x2048.Idx) :
    ((cfg0.win 0).blk t).view.read (Elt Ideal) X y = X ((win0_0.blk t).view.emb y) := rfl
theorem rd_1 (X : S4096x2048.Idx → Elt Ideal .bf16) (t : Fin cfg0.N) (y : S2048x512.Idx) :
    ((cfg0.win 1).blk t).view.read (Elt Ideal) X y = X ((win0_1.blk t).view.emb y) := rfl
theorem rd_2 (X : S4x1024x512.Idx → Elt Ideal .bf16) (t : Fin cfg0.N) (y : S1x1024x512.Idx) :
    ((cfg0.win 2).blk t).view.read (Elt Ideal) X y = X ((win0_2.blk t).view.emb y) := rfl

theorem e_0 (t : Fin cfg0.N) (y : S1024x2048.Idx) : ((win0_0.blk t).view.emb y 0).val = (0) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S2048x512.Idx) : ((win0_1.blk t).view.emb y 0).val = (t.val % 2) * 2048 + (y 0).val
    ∧ ((win0_1.blk t).view.emb y 1).val = (t.val / 2 % 4) * 512 + (y 1).val := by
  obtain ⟨i0, i1⟩ := ix_1 t
  refine ⟨?_, ?_⟩
  · blk_simp; rw [i0] <;> omega
  · blk_simp; rw [i1] <;> omega
theorem e_2 (t : Fin cfg0.N) (y : S1x1024x512.Idx) : ((win0_2.blk t).view.emb y 0).val = t.val / 2 % 4 * 1 + (y 0).val
    ∧ ((win0_2.blk t).view.emb y 1).val = 0 * 1024 + (y 1).val
    ∧ ((win0_2.blk t).view.emb y 2).val = 0 * 512 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = actT (0) (xA m c) t.val := by
  funext y
  unfold actT
  refine (rd_0 (V m c main_v1) t y).trans ((arr_0 m c _).trans ?_)
  obtain ⟨e0, e1⟩ := e_0 t y
  rw [e0, e1]
  exact congrArg₂ (at2 (xA m c)) (by omega) (by omega)
theorem r_1 (t : Fin cfg0.N) : (iblk m c 1 t : S2048x512.Idx → EReal) = cotT (t.val / 2 % 4) (dyA m c) t.val := by
  funext y
  unfold cotT
  refine (rd_1 (V m c main_v2) t y).trans ((arr_1 m c _).trans ?_)
  obtain ⟨e0, e1⟩ := e_1 t y
  rw [e0, e1]
  exact congrArg₂ (at2 (dyA m c)) (by omega) (by omega)

/-! ## The array the call leaves -/

/-- The first half, from zero. -/
theorem acc_A (t : Fin cfg0.N) (h : t.val % 2 = 0) :
    (outsAt0 m c t.val t.isLt).2 = stepV (actT (0) (xA m c) t.val) (cotT (t.val / 2 % 4) (dyA m c) t.val) fun _ => 0 := by
  rw [outsAt0_A m c t h (by omega)]
  dsimp only
  unfold sout0_A_0
  frame_out
  rw [pay_zero]
  exact (pay_step _ _ _).trans (congrArg₂ (fun A b => stepV A b fun _ => 0) (r_0 m c t) (r_1 m c t))

/-- What the second half writes back. -/
theorem back (t : Fin cfg0.N) (h : t.val % 2 = 1) (y : S1x1024x512.Idx) : (dats m 0 c).flushed 2 t y
    = weightAt (xA m c) (dyA m c) (1024 * (0) + (y 1).val) (512 * (t.val / 2 % 4) + (y 2).val) := by
  rw [Value.flushed2_B m c t (by omega) h]
  unfold out0_B_2
  frame_out
  refine (pay_out _ y).trans ((congrFun ((pay_step _ _ _).trans (congrArg (stepV _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (t.val - 1) / 2 % 4 = t.val / 2 % 4 by omega]
  exact two_weight_steps _ _ (xA m c) (dyA m c) t.val h _

/-- The whole result. -/
def resV : S4x1024x512.Idx → EReal := fun y => weightAt (xA m c) (dyA m c) (y 1).val (512 * (y 0).val + (y 2).val)

theorem block (t : Fin cfg0.N) (h : (cfg0.win 2).flush t = true) : (dats m 0 c).flushed 2 t
    = ((cfg0.win 2).blk t).view.read (Elt Ideal) (resV m c) := by
  funext y
  have y0 : (y 0).val < 1 := (y 0).isLt
  obtain ⟨e0, e1, e2⟩ := e_2 t y
  refine (back m c t ((flush_2 t).mp h) y).trans (Eq.trans ?_ (rd_2 (resV m c) t y).symm)
  unfold resV
  rw [e0, e1, e2]
  exact congrArg₂ (weightAt (xA m c) (dyA m c)) (by omega) (by omega)

theorem final : (dats m 0 c).arrAt 2 cfg0.N = resV m c :=
  (dats m 0 c).arrAt_eq_of_cover 2 _ (block m c) fun i => (Value.covered_iff2 i).2 (by
    have h0 : (i 0).val < 4 := (i 0).isLt
    have h1 : (i 1).val < 1024 := (i 1).isLt
    have h2 : (i 2).val < 512 := (i 2).isLt
    omega)

/-! ## The reference -/

open Cert.Reference12Ideal.Read

theorem deriv (x : S4096x1024.Idx → EReal) (dy : S4096x2048.Idx → EReal) (i : S4x1024x512.Idx) :
    val_main_v6 (F := Ideal) x dy i = weightAt x dy (i 1).val (512 * (i 0).val + (i 2).val) := by
  have h0 : (i 0).val < 4 := (i 0).isLt
  have h1 : (i 1).val < 1024 := (i 1).isLt
  have h2 : (i 2).val < 512 := (i 2).isLt
  refine (show val_main_v6 (F := Ideal) x dy i = val_main_v5 (F := Ideal) x dy i from rfl).trans ?_
  rw [val_main_v5_apply, val_main_v4_apply, val_main_v3_apply, val_main_v2_apply]
  unfold weightAt
  rw [Finset.sum_range]
  refine Finset.sum_congr rfl fun k _ => (mul_comm _ _).trans (congrArg₂ (· * ·) ?_ ?_)
  · refine at2_eq (n := 4096) (l := 1024) x _ rfl ?_
    show (((i 1).val * 4 + (i 0).val) * 512 + (i 2).val) / 2048 = _
    omega
  · refine at2_eq (n := 4096) (l := 2048) dy _ rfl ?_
    show (((i 1).val * 4 + (i 0).val) * 512 + (i 2).val) % 2048 = _
    omega

theorem result : (dats m 0 c).arrAt 2 cfg0.N
    = val_main_v6 (F := Ideal) (m ((c : Thread nD τ).loc main_arg0)) (m ((c : Thread nD τ).loc main_arg1)) :=
  (final m c).trans (funext fun i => (deriv (xA m c) (dyA m c) i).symm)

/-- Equal arguments, equal results. -/
theorem result_congr {x x' : S4096x1024.Idx → EReal} {dy dy' : S4096x2048.Idx → EReal} (h0 : x = x') (h1 : dy = dy') :
    val_main_v6 (F := Ideal) x dy = val_main_v6 (F := Ideal) x' dy' := by
  subst h0 h1
  rfl

end Cert.Kernel12Ideal.Part
-- ==== Proof.WPart13.lean ====
/-
  The call `w_proj_pool_grad`: a block of 1024 rows and 512 columns is accumulated over two halves of the tokens. Point `t` takes half `t % 2`
  of the tokens and the block of columns `t / 2 % 4`. The four blocks of columns lie one after the other in the result.
-/
module

public import proofs.«01_k».proof.Proof.Weight
public import proofs.«01_k».proof.Proof.WPart12
public import proofs.«01_k».proof.Proof.Gen.Reference13Ideal.Read
public import proofs.«01_k».proof.Proof.Gen.Kernel13Ideal.Frame
public import proofs.«01_k».proof.Proof.Gen.Kernel13Ideal.Value
public import Idealize.ShloMosaic.Lib.Pipeline.ReadBack

@[expose] public section

set_option maxRecDepth 16384
set_option maxHeartbeats 4000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel13Ideal.Part

open Cert.Kernel13Ideal.Gen Cert.Tokens

/-! ## One point -/

theorem pay_zero : k0_pay1 (F := Ideal) = fun _ => 0 := Cert.Kernel12Ideal.Part.pay_zero

theorem pay_step (acc : Vec Ideal S1024x512 .f32) (A : Vec Ideal S1024x2048 .bf16) (b : Vec Ideal S2048x512 .bf16) :
    k0_pay2 (F := Ideal) acc A b = stepV A b acc := Cert.Kernel12Ideal.Part.pay_step acc A b

theorem pay_out (acc : Vec Ideal S1024x512 .f32) (y : S1x1024x512.Idx) : k0_pay3 (F := Ideal) acc y = acc (ix2 (y 1) (y 2)) :=
  Cert.Kernel12Ideal.Part.pay_out acc y

/-! ## The arrays the call reads, and a point's blocks of them -/

variable (m : (ℓ : Loc nD τ sig) → Buf (Elt Ideal) ℓ) (c : Dev nD)

/-- The call's arguments. -/
abbrev xA : S4096x1024.Idx → EReal := m ((c : Thread nD τ).loc main_arg0)
abbrev dyA : S4096x2048.Idx → EReal := m ((c : Thread nD τ).loc main_arg1)

theorem arr_0 (y : S1024x4096.Idx) : V m c main_v1 y = at2 (xA m c) (y 1).val (y 0).val := by
  have e : V m c main_v1 = transpose S1024x4096 [1, 0] (xA m c) transposes_S4096x1024_S1024x4096_1_0 := by
    unfold_abbrev_sides
    simp only [hostOps0]
    after_results
    rfl
  rw [e]
  exact transpose_at2 (xA m c) _ y

theorem arr_1 (y : S4096x2048.Idx) : V m c main_v2 y = at2 (dyA m c) (y 0).val (y 1).val := by
  have e : V m c main_v2 = dyA m c := by
    unfold_abbrev_sides
    simp only [hostOps0]
    after_results
    rfl
  rw [e]
  exact at2_eq (dyA m c) y rfl rfl

theorem ix_0 : ∀ t : Fin cfg0.N, win0_0.index t 0 = 0 ∧ win0_0.index t 1 = t.val % 2 := by decide +kernel
theorem ix_1 : ∀ t : Fin cfg0.N, win0_1.index t 0 = t.val % 2 ∧ win0_1.index t 1 = t.val / 2 % 4 := by decide +kernel
theorem ix_2 : ∀ t : Fin cfg0.N, win0_2.index t 0 = t.val / 2 % 4 ∧ win0_2.index t 1 = 0 ∧ win0_2.index t 2 = 0 := by decide +kernel
theorem flush_2 : ∀ t : Fin cfg0.N, (cfg0.win 2).flush t = true ↔ t.val % 2 = 1 := by decide +kernel

theorem rd_0 (X : S1024x4096.Idx → Elt Ideal .bf16) (t : Fin cfg0.N) (y : S1024x2048.Idx) :
    ((cfg0.win 0).blk t).view.read (Elt Ideal) X y = X ((win0_0.blk t).view.emb y) := rfl
theorem rd_1 (X : S4096x2048.Idx → Elt Ideal .bf16) (t : Fin cfg0.N) (y : S2048x512.Idx) :
    ((cfg0.win 1).blk t).view.read (Elt Ideal) X y = X ((win0_1.blk t).view.emb y) := rfl
theorem rd_2 (X : S4x1024x512.Idx → Elt Ideal .bf16) (t : Fin cfg0.N) (y : S1x1024x512.Idx) :
    ((cfg0.win 2).blk t).view.read (Elt Ideal) X y = X ((win0_2.blk t).view.emb y) := rfl

theorem e_0 (t : Fin cfg0.N) (y : S1024x2048.Idx) : ((win0_0.blk t).view.emb y 0).val = (0) * 1024 + (y 0).val
    ∧ ((win0_0.blk t).view.emb y 1).val = (t.val % 2) * 2048 + (y 1).val := by
  obtain ⟨i0, i1⟩ := ix_0 t
  refine ⟨?_, ?_⟩
  · blk_simp; rw [i0] <;> omega
  · blk_simp; rw [i1] <;> omega
theorem e_1 (t : Fin cfg0.N) (y : S2048x512.Idx) : ((win0_1.blk t).view.emb y 0).val = (t.val % 2) * 2048 + (y 0).val
    ∧ ((win0_1.blk t).view.emb y 1).val = (t.val / 2 % 4) * 512 + (y 1).val := by
  obtain ⟨i0, i1⟩ := ix_1 t
  refine ⟨?_, ?_⟩
  · blk_simp; rw [i0] <;> omega
  · blk_simp; rw [i1] <;> omega
theorem e_2 (t : Fin cfg0.N) (y : S1x1024x512.Idx) : ((win0_2.blk t).view.emb y 0).val = t.val / 2 % 4 * 1 + (y 0).val
    ∧ ((win0_2.blk t).view.emb y 1).val = 0 * 1024 + (y 1).val
    ∧ ((win0_2.blk t).view.emb y 2).val = 0 * 512 + (y 2).val := by
  obtain ⟨i0, i1, i2⟩ := ix_2 t
  refine ⟨?_, ?_, ?_⟩
  · blk_simp; rw [i0] <;> omega
  · blk_simp; rw [i1] <;> omega
  · blk_simp; rw [i2] <;> omega

theorem r_0 (t : Fin cfg0.N) : (iblk m c 0 t : S1024x2048.Idx → EReal) = actT (0) (xA m c) t.val := by
  funext y
  unfold actT
  refine (rd_0 (V m c main_v1) t y).trans ((arr_0 m c _).trans ?_)
  obtain ⟨e0, e1⟩ := e_0 t y
  rw [e0, e1]
  exact congrArg₂ (at2 (xA m c)) (by omega) (by omega)
theorem r_1 (t : Fin cfg0.N) : (iblk m c 1 t : S2048x512.Idx → EReal) = cotT (t.val / 2 % 4) (dyA m c) t.val := by
  funext y
  unfold cotT
  refine (rd_1 (V m c main_v2) t y).trans ((arr_1 m c _).trans ?_)
  obtain ⟨e0, e1⟩ := e_1 t y
  rw [e0, e1]
  exact congrArg₂ (at2 (dyA m c)) (by omega) (by omega)

/-! ## The array the call leaves -/

/-- The first half, from zero. -/
theorem acc_A (t : Fin cfg0.N) (h : t.val % 2 = 0) :
    (outsAt0 m c t.val t.isLt).2 = stepV (actT (0) (xA m c) t.val) (cotT (t.val / 2 % 4) (dyA m c) t.val) fun _ => 0 := by
  rw [outsAt0_A m c t h (by omega)]
  dsimp only
  unfold sout0_A_0
  frame_out
  rw [pay_zero]
  exact (pay_step _ _ _).trans (congrArg₂ (fun A b => stepV A b fun _ => 0) (r_0 m c t) (r_1 m c t))

/-- What the second half writes back. -/
theorem back (t : Fin cfg0.N) (h : t.val % 2 = 1) (y : S1x1024x512.Idx) : (dats m 0 c).flushed 2 t y
    = weightAt (xA m c) (dyA m c) (1024 * (0) + (y 1).val) (512 * (t.val / 2 % 4) + (y 2).val) := by
  rw [Value.flushed2_B m c t (by omega) h]
  unfold out0_B_2
  frame_out
  refine (pay_out _ y).trans ((congrFun ((pay_step _ _ _).trans (congrArg (stepV _ _) ((Memref.isWhole_whole _).read_unread _))) _).trans ?_)
  rw [r_0, r_1, acc_A m c ⟨t.val - 1, Nat.lt_of_le_of_lt (Nat.sub_le _ _) t.isLt⟩ (by show (t.val - 1) % 2 = 0; omega)]
  dsimp only
  rw [show (t.val - 1) / 2 % 4 = t.val / 2 % 4 by omega]
  exact two_weight_steps _ _ (xA m c) (dyA m c) t.val h _

/-- The whole result. -/
def resV : S4x1024x512.Idx → EReal := fun y => weightAt (xA m c) (dyA m c) (y 1).val (512 * (y 0).val + (y 2).val)

theorem block (t : Fin cfg0.N) (h : (cfg0.win 2).flush t = true) : (dats m 0 c).flushed 2 t
    = ((cfg0.win 2).blk t).view.read (Elt Ideal) (resV m c) := by
  funext y
  have y0 : (y 0).val < 1 := (y 0).isLt
  obtain ⟨e0, e1, e2⟩ := e_2 t y
  refine (back m c t ((flush_2 t).mp h) y).trans (Eq.trans ?_ (rd_2 (resV m c) t y).symm)
  unfold resV
  rw [e0, e1, e2]
  exact congrArg₂ (weightAt (xA m c) (dyA m c)) (by omega) (by omega)

theorem final : (dats m 0 c).arrAt 2 cfg0.N = resV m c :=
  (dats m 0 c).arrAt_eq_of_cover 2 _ (block m c) fun i => (Value.covered_iff2 i).2 (by
    have h0 : (i 0).val < 4 := (i 0).isLt
    have h1 : (i 1).val < 1024 := (i 1).isLt
    have h2 : (i 2).val < 512 := (i 2).isLt
    omega)

/-! ## The reference -/

open Cert.Reference13Ideal.Read

theorem deriv (x : S4096x1024.Idx → EReal) (dy : S4096x2048.Idx → EReal) (i : S4x1024x512.Idx) :
    val_main_v6 (F := Ideal) x dy i = weightAt x dy (i 1).val (512 * (i 0).val + (i 2).val) := by
  have h0 : (i 0).val < 4 := (i 0).isLt
  have h1 : (i 1).val < 1024 := (i 1).isLt
  have h2 : (i 2).val < 512 := (i 2).isLt
  refine (show val_main_v6 (F := Ideal) x dy i = val_main_v5 (F := Ideal) x dy i from rfl).trans ?_
  rw [val_main_v5_apply, val_main_v4_apply, val_main_v3_apply, val_main_v2_apply]
  unfold weightAt
  rw [Finset.sum_range]
  refine Finset.sum_congr rfl fun k _ => (mul_comm _ _).trans (congrArg₂ (· * ·) ?_ ?_)
  · refine at2_eq (n := 4096) (l := 1024) x _ rfl ?_
    show (((i 1).val * 4 + (i 0).val) * 512 + (i 2).val) / 2048 = _
    omega
  · refine at2_eq (n := 4096) (l := 2048) dy _ rfl ?_
    show (((i 1).val * 4 + (i 0).val) * 512 + (i 2).val) % 2048 = _
    omega

theorem result : (dats m 0 c).arrAt 2 cfg0.N
    = val_main_v6 (F := Ideal) (m ((c : Thread nD τ).loc main_arg0)) (m ((c : Thread nD τ).loc main_arg1)) :=
  (final m c).trans (funext fun i => (deriv (xA m c) (dyA m c) i).symm)

/-- Equal arguments, equal results. -/
theorem result_congr {x x' : S4096x1024.Idx → EReal} {dy dy' : S4096x2048.Idx → EReal} (h0 : x = x') (h1 : dy = dy') :
    val_main_v6 (F := Ideal) x dy = val_main_v6 (F := Ideal) x' dy' := by
  subst h0 h1
  rfl

end Cert.Kernel13Ideal.Part
-- ==== Proof.MergeRef.lean ====
/-
  The gradients of the two gates and of what they merge: the values, and the reference's results as these values.
-/
module

public import proofs.«01_k».proof.Proof.Tokens
public import proofs.«01_k».proof.Proof.Gen.Reference14Ideal.Read

@[expose] public section

set_option maxRecDepth 16384
set_option maxHeartbeats 1000000

noncomputable section

open Idealize.ShloMosaic hiding ix2 ix3 ix4 eq_ix2 eq_ix3 eq_ix4
open Idealize.ShloMosaic.ValueIdx
open scoped BigOperators

namespace Cert.Merge

open Cert.Tokens Cert.Reference14Ideal Cert.Reference14Ideal.Read

variable (dr : S4096x2048.Idx → EReal) (w : S2048x2048.Idx → EReal) (x s : S4096x2048.Idx → EReal)

/-- The gradient of the merged columns. -/
def mergedAt (r k : ℕ) : EReal := ∑ e : Fin 2048, at2 dr r e.val * at2 w k e.val
/-- The gradient of what a gate `s` multiplies. -/
def inAt (r k : ℕ) : EReal := mergedAt dr w r k * at2 s r k
/-- The gradient of what enters the gate `s` that multiplies `x`. -/
def gateAt (r k : ℕ) : EReal := mergedAt dr w r k * at2 x r k * at2 s r k * (1 - at2 s r k)

variable (a p : S4096x2048.Idx → EReal) (g : S4096x4096.Idx → EReal) (b : S4096.Idx → EReal)

theorem merged (i : S4096x2048.Idx) : val_main_v18 (F := Ideal) dr w i = mergedAt dr w (i 0).val (i 1).val := by
  rw [val_main_v18_apply]
  exact Finset.sum_congr rfl fun k _ => congrArg₂ (· * ·) (at2_eq (n := 4096) (l := 2048) dr _ rfl rfl)
    (at2_eq (n := 2048) (l := 2048) w _ rfl rfl)

theorem in_attn (i : S4096x2048.Idx) :
    val_main_v30 (F := Ideal) dr w g b i = inAt dr w (val_main_v12 (F := Ideal) g b) (i 0).val (i 1).val := by
  refine (show val_main_v30 (F := Ideal) dr w g b i = val_main_v12 (F := Ideal) g b i * val_main_v18 (F := Ideal) dr w i from rfl).trans ?_
  rw [merged, mul_comm]
  exact congrArg (mergedAt dr w _ _ * ·) (at2_eq (n := 4096) (l := 2048) _ i rfl rfl)

theorem in_pool (i : S4096x2048.Idx) :
    val_main_v31 (F := Ideal) dr w g b i = inAt dr w (val_main_v13 (F := Ideal) g b) (i 0).val (i 1).val := by
  refine (show val_main_v31 (F := Ideal) dr w g b i = val_main_v13 (F := Ideal) g b i * val_main_v18 (F := Ideal) dr w i from rfl).trans ?_
  rw [merged, mul_comm]
  exact congrArg (mergedAt dr w _ _ * ·) (at2_eq (n := 4096) (l := 2048) _ i rfl rfl)

/-- What the derivative of the gates multiplies. -/
theorem gate_of (j : S4096x4096.Idx) (i : S4096x2048.Idx)
    (hx : val_main_v23 (F := Ideal) dr w a p j = val_main_v18 (F := Ideal) dr w i * x i)
    (hs : val_main_v8 (F := Ideal) g b j = s i) :
    val_main_v24 (F := Ideal) dr w a p g b j = gateAt dr w x s (i 0).val (i 1).val := by
  refine (show val_main_v24 (F := Ideal) dr w a p g b j = val_main_v23 (F := Ideal) dr w a p j
    * (val_main_v8 (F := Ideal) g b j * (val_main_v9 (F := Ideal) j - val_main_v8 (F := Ideal) g b j)) from rfl).trans ?_
  rw [hx, hs, merged, val_main_v9_apply, val_main_cst_1_apply]
  unfold gateAt
  rw [← at2_eq (n := 4096) (l := 2048) x i rfl rfl, ← at2_eq (n := 4096) (l := 2048) s i rfl rfl, mul_assoc (_ * x i)]
  exact congrArg (fun o : EReal => mergedAt dr w (i 0).val (i 1).val * x i * (s i * (o - s i))) Ideal.ofBits_one_f32

theorem gate_attn (i : S4096x2048.Idx) (j : S4096x4096.Idx) (h0 : (j 0).val = (i 0).val) (h1 : (j 1).val = (i 1).val) :
    val_main_v24 (F := Ideal) dr w a p g b j = gateAt dr w a (val_main_v12 (F := Ideal) g b) (i 0).val (i 1).val := by
  refine gate_of dr w a _ a p g b j i ?_ ?_
  · unfold val_main_v23
    exact concatenate_pair_apply_left (t := S4096x4096) (s₁ := S4096x2048) (s₂ := S4096x2048) 1 _ _ _ j rfl i
      (by intro b; fin_cases b; exacts [h0.symm, h1.symm])
  · rw [val_main_v12_apply]
    refine congrArg _ (funext fun c => Fin.ext ?_)
    fin_cases c
    exacts [h0, h1]

theorem gate_pool (i : S4096x2048.Idx) (j : S4096x4096.Idx) (h0 : (j 0).val = (i 0).val) (h1 : (j 1).val = 2048 + (i 1).val) :
    val_main_v24 (F := Ideal) dr w a p g b j = gateAt dr w p (val_main_v13 (F := Ideal) g b) (i 0).val (i 1).val := by
  refine gate_of dr w p _ a p g b j i ?_ ?_
  · unfold val_main_v23
    exact concatenate_pair_apply_right (t := S4096x4096) (s₁ := S4096x2048) (s₂ := S4096x2048) 1 _ _ _ j rfl rfl i
      (by intro b hb; fin_cases b; exacts [h0.symm, absurd rfl hb]) (by show (i 1).val + 2048 = (j 1).val; omega)
  · rw [val_main_v13_apply]
    refine congrArg _ (funext fun c => Fin.ext ?_)
    fin_cases c
    exacts [h0, h1]

theorem out_attn (i : S4096x2048.Idx) :
    val_main_v32 (F := Ideal) dr w a p g b i = gateAt dr w a (val_main_v12 (F := Ideal) g b) (i 0).val (i 1).val := by
  rw [val_main_v32_apply, val_main_v28_apply, gate_attn dr w a p g b i (idx_main_v28 i) rfl rfl]
  rfl

theorem out_pool (i : S4096x2048.Idx) :
    val_main_v33 (F := Ideal) dr w a p g b i = gateAt dr w p (val_main_v13 (F := Ideal) g b) (i 0).val (i 1).val := by
  rw [val_main_v33_apply, val_main_v29_apply, gate_pool dr w a p g b i (idx_main_v29 i) rfl rfl]
  rfl

/-- The sum over the tokens. -/
theorem sum_of (i : S4096.Idx) : val_main_v27 (F := Ideal) dr w a p g b i
    = ∑ k : Fin 4096, val_main_v24 (F := Ideal) dr w a p g b (ix2 k (i 0)) := by
  rw [val_main_v27_apply, Fin.sum_univ_one, val_main_v26_apply, val_main_v25_apply, val_main_cst_2_apply, val_main_cst_3_apply]
  refine (congrArg₂ (· + ·) Ideal.ofBits_zero_f32 (congrArg₂ (· + ·) Ideal.ofBits_zero_f32 rfl)).trans ?_
  rw [zero_add, zero_add]
  refine Finset.sum_congr rfl fun k _ => congrArg _ (funext fun c => Fin.ext ?_)
  fin_cases c
  · rfl
  · show 0 * 4096 + (i 0).val = (i 0).val
    omega

theorem bias_attn (i : S1x2048.Idx) : val_main_v35 (F := Ideal) dr w a p g b i
    = ∑ r ∈ Finset.range 4096, gateAt dr w a (val_main_v12 (F := Ideal) g b) r (i 1).val := by
  rw [val_main_v35_apply, val_main_v34_apply, sum_of, Finset.sum_range]
  exact Finset.sum_congr rfl fun k _ => gate_attn dr w a p g b (ix2 k (i 1)) _ rfl rfl

theorem bias_pool (i : S1x2048.Idx) : val_main_v37 (F := Ideal) dr w a p g b i
    = ∑ r ∈ Finset.range 4096, gateAt dr w p (val_main_v13 (F := Ideal) g b) r (i 1).val := by
  rw [val_main_v37_apply, val_main_v36_apply, sum_of, Finset.sum_range]
  exact Finset.sum_congr rfl fun k _ => gate_pool dr w a p g b (ix2 k (i 1)) _ rfl rfl

end Cert.Merge
-- ==== Proof.Merge.lean ====
/-
  The call `merge_bwd`: point `t` takes the block of tokens `t % 4` and the block of columns `t / 4`; the gradient of a gate's bias is
  accumulated over the four blocks of tokens.
-/
module

public import proofs.«01_k».proof.Proof.MergeRef
public import proofs.«01_k».proof.Proof.Gen.Kernel14Ideal.Frame
public import proofs.«01_k».proof.Proof.Gen.Kernel14Ideal.Value
public import Idealize.ShloMosaic.Lib.Pipeline.ReadBack

@[expose] public section

set_option maxRecDepth 16384
set_option maxHeartbeats 1000000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel14Ideal.Part

open Cert.Kernel14Ideal.Gen Cert.Tokens Cert.Merge

/-! ## One point -/

section
variable (A : S1024x2048.Idx → EReal) (b : S512x2048.Idx → EReal) (x s : S1024x512.Idx → EReal)

/-- A block of the gradient of the merged columns, of what a gate multiplies, and of what enters the gate. -/
def mergedB : S1024x512.Idx → EReal := fun y => ∑ e : Fin 2048, A (ix2 (y 0) e) * b (ix2 (y 1) e)
def inB : S1024x512.Idx → EReal := fun y => mergedB A b y * s y
def gateB : S1024x512.Idx → EReal := fun y => mergedB A b y * x y * s y * (1 - s y)
/-- The block's tokens, added to what was accumulated. -/
def sumB (acc : S1x512.Idx → EReal) : S1x512.Idx → EReal := fun y => acc y + ∑ r : Fin 1024, gateB A b x s (ix2 r (y 1))

theorem pay_merged : k0_pay8 (F := Ideal) A b = mergedB A b := by
  funext y
  unfold k0_pay8
  rw [shapeCast_self, shapeCast_self]
  refine (Ideal.matmul_constant_zero_apply (φ₂ := .bf16) _ none A b y).trans ?_
  refine (Equiv.sum_comp (contrEquiv1 _ 2048 rfl rfl).symm _).symm.trans ?_
  refine Finset.sum_congr rfl fun e _ => ?_
  congr 2
  · funext a; fin_cases a <;> rfl
  · funext a; fin_cases a <;> rfl

theorem pay_in : k0_pay11 (F := Ideal) A b s = inB A b s := by
  unfold k0_pay11 k0_pay9
  rw [pay_merged, shapeCast_self]
  rfl
theorem pay_in' : k0_pay12 (F := Ideal) A b s = inB A b s := by
  unfold k0_pay12 k0_pay10
  rw [pay_merged, shapeCast_self]
  rfl

theorem pay_gate : k0_pay13 (F := Ideal) A b s x = gateB A b x s := by
  unfold k0_pay13 k0_pay9
  rw [pay_merged, shapeCast_self, shapeCast_self]
  funext y
  exact congrArg (fun o : EReal => mergedB A b y * x y * s y * (o - s y)) Ideal.ofBits_one_f32
theorem pay_gate' : k0_pay1 (F := Ideal) (k0_pay10 s) (k0_pay14 A b s x) k0_pay15 = gateB A b x s := by
  unfold k0_pay1 k0_pay14 k0_pay10 k0_pay15
  rw [pay_merged, shapeCast_self, shapeCast_self]
  funext y
  exact congrArg (fun o : EReal => mergedB A b y * x y * s y * (o - s y)) Ideal.ofBits_one_f32

theorem sum_rows (v : FVec Ideal S1024x512 .f32) (y : S1x512.Idx) :
    shapeCast S1x512 (multiReduction .add [0] S512 v 0x00000000#32 reduces_S1024x512_S512 (.inl rfl) rfl) shapeCasts_S512_S1x512 y
      = ∑ r : Fin 1024, v (ix2 r (y 1)) := by
  refine (shapeCast_apply _ shapeCasts_S512_S1x512 y (fun a => match a with | ⟨0, _⟩ => ⟨(y 1).val, (y 1).isLt⟩) ?_).trans ?_
  · rw [Shape.rowMajor_val_one, Shape.rowMajor_val_two]
    have h : (y 0).val < 1 := (y 0).isLt
    show (y 1).val = (y 0).val * 512 + (y 1).val
    omega
  · refine (Ideal.multiReduction_add_single v _ reduces_S1024x512_S512 (.inl rfl) rfl _).trans ?_
    refine Finset.sum_congr rfl fun r _ => congrArg v (funext fun a => ?_)
    fin_cases a <;> rfl

theorem pay_bias (acc : S1x512.Idx → EReal) : k0_pay4 (F := Ideal) (k0_pay13 A b s x) acc = sumB A b x s acc := by
  rw [pay_gate]
  unfold k0_pay4
  rw [shapeCast_self]
  funext y
  exact congrArg (acc y + ·) (sum_rows _ y)
theorem pay_bias' (acc : S1x512.Idx → EReal) :
    k0_pay5 (F := Ideal) (k0_pay10 s) (k0_pay14 A b s x) k0_pay15 acc = sumB A b x s acc := by
  unfold k0_pay5
  rw [pay_gate', shapeCast_self]
  funext y
  exact congrArg (acc y + ·) (sum_rows _ y)

theorem pay_zero : k0_pay6 (F := Ideal) = fun _ => 0 := funext fun _ => Ideal.ofBits_zero_f32
theorem pay_zero' : k0_pay7 (F := Ideal) = fun _ => 0 := funext fun _ => Ideal.ofBits_zero_f32

end

variable (m : (ℓ : Loc nD τ sig) → Buf (Elt Ideal) ℓ) (c : Dev nD)

/-! ## What a point leaves, of its blocks -/

theorem o_6 (t : Fin cfg0.N) : (outsAt0 m c t.val t.isLt).1 = inB (iblk m c 0 t) (iblk m c 1 t) (iblk m c 4 t) := by
  by_cases h : t.val % 4 = 0
  · rw [outsAt0_A m c t h]; dsimp only; unfold out0_A_6; frame_out; exact pay_in _ _ _
  · rw [outsAt0_B m c t h]; dsimp only; unfold out0_B_6; frame_out; exact pay_in _ _ _
theorem o_7 (t : Fin cfg0.N) : (outsAt0 m c t.val t.isLt).2.1 = inB (iblk m c 0 t) (iblk m c 1 t) (iblk m c 5 t) := by
  by_cases h : t.val % 4 = 0
  · rw [outsAt0_A m c t h]; dsimp only; unfold out0_A_7; frame_out; exact pay_in' _ _ _
  · rw [outsAt0_B m c t h]; dsimp only; unfold out0_B_7; frame_out; exact pay_in' _ _ _
theorem o_8 (t : Fin cfg0.N) : (outsAt0 m c t.val t.isLt).2.2.1 = gateB (iblk m c 0 t) (iblk m c 1 t) (iblk m c 2 t) (iblk m c 4 t) := by
  by_cases h : t.val % 4 = 0
  · rw [outsAt0_A m c t h]; dsimp only; unfold out0_A_8; frame_out; exact pay_gate _ _ _ _
  · rw [outsAt0_B m c t h]; dsimp only; unfold out0_B_8; frame_out; exact pay_gate _ _ _ _
theorem o_9 (t : Fin cfg0.N) : (outsAt0 m c t.val t.isLt).2.2.2.1 = gateB (iblk m c 0 t) (iblk m c 1 t) (iblk m c 3 t) (iblk m c 5 t) := by
  by_cases h : t.val % 4 = 0
  · rw [outsAt0_A m c t h]; dsimp only; unfold out0_A_9; frame_out; exact pay_gate' _ _ _ _
  · rw [outsAt0_B m c t h]; dsimp only; unfold out0_B_9; frame_out; exact pay_gate' _ _ _ _
theorem o_10A (t : Fin cfg0.N) (h : t.val % 4 = 0) : (outsAt0 m c t.val t.isLt).2.2.2.2.1
    = sumB (iblk m c 0 t) (iblk m c 1 t) (iblk m c 2 t) (iblk m c 4 t) fun _ => 0 := by
  rw [outsAt0_A m c t h]
  dsimp only
  unfold out0_A_10
  frame_out
  rw [pay_zero]
  exact pay_bias _ _ _ _ _
theorem o_10B (t : Fin cfg0.N) (h : ¬t.val % 4 = 0) : (outsAt0 m c t.val t.isLt).2.2.2.2.1
    = sumB (iblk m c 0 t) (iblk m c 1 t) (iblk m c 2 t) (iblk m c 4 t)
      (outsAt0 m c (t.val - 1) (Nat.lt_of_le_of_lt (Nat.sub_le _ _) t.isLt)).2.2.2.2.1 := by
  rw [outsAt0_B m c t h]
  dsimp only
  unfold out0_B_10
  frame_out
  exact pay_bias _ _ _ _ _
theorem o_11A (t : Fin cfg0.N) (h : t.val % 4 = 0) : (outsAt0 m c t.val t.isLt).2.2.2.2.2
    = sumB (iblk m c 0 t) (iblk m c 1 t) (iblk m c 3 t) (iblk m c 5 t) fun _ => 0 := by
  rw [outsAt0_A m c t h]
  dsimp only
  unfold out0_A_11
  frame_out
  rw [pay_zero']
  exact pay_bias' _ _ _ _ _
theorem o_11B (t : Fin cfg0.N) (h : ¬t.val % 4 = 0) : (outsAt0 m c t.val t.isLt).2.2.2.2.2
    = sumB (iblk m c 0 t) (iblk m c 1 t) (iblk m c 3 t) (iblk m c 5 t)
      (outsAt0 m c (t.val - 1) (Nat.lt_of_le_of_lt (Nat.sub_le _ _) t.isLt)).2.2.2.2.2 := by
  rw [outsAt0_B m c t h]
  dsimp only
  unfold out0_B_11
  frame_out
  exact pay_bias' _ _ _ _ _

/-! ## The arrays the call reads, and a point's blocks of them -/

/-- The call's arguments, and the two gates. -/
abbrev drA : S4096x2048.Idx → EReal := m ((c : Thread nD τ).loc main_arg0)
abbrev wA : S2048x2048.Idx → EReal := m ((c : Thread nD τ).loc main_arg1)
abbrev aA : S4096x2048.Idx → EReal := m ((c : Thread nD τ).loc main_arg2)
abbrev pA : S4096x2048.Idx → EReal := m ((c : Thread nD τ).loc main_arg3)
abbrev gA : S4096x4096.Idx → EReal := m ((c : Thread nD τ).loc main_arg4)
abbrev bA : S4096.Idx → EReal := m ((c : Thread nD τ).loc main_arg5)
abbrev saA : S4096x2048.Idx → EReal := Cert.Reference14Ideal.Read.val_main_v12 (F := Ideal) (gA m c) (bA m c)
abbrev spA : S4096x2048.Idx → EReal := Cert.Reference14Ideal.Read.val_main_v13 (F := Ideal) (gA m c) (bA m c)

theorem arr : V m c main_v11 = drA m c ∧ V m c main_v12 = wA m c ∧ V m c main_v13 = aA m c ∧ V m c main_v14 = pA m c
    ∧ V m c main_v15 = saA m c ∧ V m c main_v16 = spA m c := by
  refine ⟨?_, ?_, ?_, ?_, ?_, ?_⟩ <;> (unfold_abbrev_sides; simp only [hostOps0]; after_results; rfl)

theorem ix_0 : ∀ t : Fin cfg0.N, win0_0.index t 0 = t.val % 4 ∧ win0_0.index t 1 = 0 := by decide +kernel
theorem rd_0 (X : S4096x2048.Idx → Elt Ideal .bf16) (t : Fin cfg0.N) (y : S1024x2048.Idx) :
    ((cfg0.win 0).blk t).view.read (Elt Ideal) X y = at2 X (t.val % 4 * 1024 + (y 0).val) (0 * 2048 + (y 1).val) := by
  obtain ⟨i0, i1⟩ := ix_0 t
  refine (show _ = X ((win0_0.blk t).view.emb y) from rfl).trans (at2_eq X _ ?_ ?_)
  · blk_simp; rw [i0] <;> omega
  · blk_simp; rw [i1] <;> omega

theorem ix_1 : ∀ t : Fin cfg0.N, win0_1.index t 0 = t.val / 4 ∧ win0_1.index t 1 = 0 := by decide +kernel
theorem rd_1 (X : S2048x2048.Idx → Elt Ideal .bf16) (t : Fin cfg0.N) (y : S512x2048.Idx) :
    ((cfg0.win 1).blk t).view.read (Elt Ideal) X y = at2 X (t.val / 4 * 512 + (y 0).val) (0 * 2048 + (y 1).val) := by
  obtain ⟨i0, i1⟩ := ix_1 t
  refine (show _ = X ((win0_1.blk t).view.emb y) from rfl).trans (at2_eq X _ ?_ ?_)
  · blk_simp; rw [i0] <;> omega
  · blk_simp; rw [i1] <;> omega

theorem ix_2 : ∀ t : Fin cfg0.N, win0_2.index t 0 = t.val % 4 ∧ win0_2.index t 1 = t.val / 4 := by decide +kernel
theorem rd_2 (X : S4096x2048.Idx → Elt Ideal .bf16) (t : Fin cfg0.N) (y : S1024x512.Idx) :
    ((cfg0.win 2).blk t).view.read (Elt Ideal) X y = at2 X (t.val % 4 * 1024 + (y 0).val) (t.val / 4 * 512 + (y 1).val) := by
  obtain ⟨i0, i1⟩ := ix_2 t
  refine (show _ = X ((win0_2.blk t).view.emb y) from rfl).trans (at2_eq X _ ?_ ?_)
  · blk_simp; rw [i0] <;> omega
  · blk_simp; rw [i1] <;> omega

theorem ix_6 : ∀ t : Fin cfg0.N, win0_6.index t 0 = t.val % 4 ∧ win0_6.index t 1 = t.val / 4 := by decide +kernel
theorem e_6 (t : Fin cfg0.N) (y : S1024x512.Idx) : ((win0_6.blk t).view.emb y 0).val = t.val % 4 * 1024 + (y 0).val
    ∧ ((win0_6.blk t).view.emb y 1).val = t.val / 4 * 512 + (y 1).val := by
  obtain ⟨i0, i1⟩ := ix_6 t
  refine ⟨?_, ?_⟩
  · blk_simp; rw [i0] <;> omega
  · blk_simp; rw [i1] <;> omega

theorem ix_10 : ∀ t : Fin cfg0.N, win0_10.index t 0 = 0 ∧ win0_10.index t 1 = t.val / 4 := by decide +kernel
theorem e_10 (t : Fin cfg0.N) (y : S1x512.Idx) : ((win0_10.blk t).view.emb y 0).val = 0 * 1 + (y 0).val
    ∧ ((win0_10.blk t).view.emb y 1).val = t.val / 4 * 512 + (y 1).val := by
  obtain ⟨i0, i1⟩ := ix_10 t
  refine ⟨?_, ?_⟩
  · blk_simp; rw [i0] <;> omega
  · blk_simp; rw [i1] <;> omega

/-- The values of a point's blocks. -/
theorem v_0 (t : Fin cfg0.N) (y : S1024x2048.Idx) : (iblk m c 0 t : S1024x2048.Idx → EReal) y
    = at2 (drA m c) (t.val % 4 * 1024 + (y 0).val) (0 * 2048 + (y 1).val) :=
  (rd_0 (V m c main_v11) t y).trans (by rw [(arr m c).1])
theorem v_1 (t : Fin cfg0.N) (y : S512x2048.Idx) : (iblk m c 1 t : S512x2048.Idx → EReal) y
    = at2 (wA m c) (t.val / 4 * 512 + (y 0).val) (0 * 2048 + (y 1).val) :=
  (rd_1 (V m c main_v12) t y).trans (by rw [(arr m c).2.1])
theorem v_merged (t : Fin cfg0.N) (y : S1024x512.Idx) : mergedB (iblk m c 0 t) (iblk m c 1 t) y
    = mergedAt (drA m c) (wA m c) (t.val % 4 * 1024 + (y 0).val) (t.val / 4 * 512 + (y 1).val) := by
  unfold mergedB mergedAt
  refine Finset.sum_congr rfl fun e _ => congrArg₂ (· * ·) ?_ ?_
  exacts [(v_0 m c t (ix2 (y 0) e)).trans (congrArg (at2 (drA m c) _) (by show 0 * 2048 + e.val = e.val; omega)),
    (v_1 m c t (ix2 (y 1) e)).trans (congrArg (at2 (wA m c) _) (by show 0 * 2048 + e.val = e.val; omega))]

theorem v_2 (t : Fin cfg0.N) (y : S1024x512.Idx) : (iblk m c 2 t : S1024x512.Idx → EReal) y
    = at2 (aA m c) (t.val % 4 * 1024 + (y 0).val) (t.val / 4 * 512 + (y 1).val) :=
  (rd_2 (V m c main_v13) t y).trans (by rw [(arr m c).2.2.1])
theorem v_3 (t : Fin cfg0.N) (y : S1024x512.Idx) : (iblk m c 3 t : S1024x512.Idx → EReal) y
    = at2 (pA m c) (t.val % 4 * 1024 + (y 0).val) (t.val / 4 * 512 + (y 1).val) :=
  (rd_2 (V m c main_v14) t y).trans (by rw [(arr m c).2.2.2.1])
theorem v_4 (t : Fin cfg0.N) (y : S1024x512.Idx) : (iblk m c 4 t : S1024x512.Idx → EReal) y
    = at2 (saA m c) (t.val % 4 * 1024 + (y 0).val) (t.val / 4 * 512 + (y 1).val) :=
  (rd_2 (V m c main_v15) t y).trans (by rw [(arr m c).2.2.2.2.1])
theorem v_5 (t : Fin cfg0.N) (y : S1024x512.Idx) : (iblk m c 5 t : S1024x512.Idx → EReal) y
    = at2 (spA m c) (t.val % 4 * 1024 + (y 0).val) (t.val / 4 * 512 + (y 1).val) :=
  (rd_2 (V m c main_v16) t y).trans (by rw [(arr m c).2.2.2.2.2])
theorem v_in_attn (t : Fin cfg0.N) (y : S1024x512.Idx) : inB (iblk m c 0 t) (iblk m c 1 t) (iblk m c 4 t) y
    = inAt (drA m c) (wA m c) (saA m c) (t.val % 4 * 1024 + (y 0).val) (t.val / 4 * 512 + (y 1).val) := by
  unfold inB inAt
  rw [v_merged, v_4]
theorem v_gate_attn (t : Fin cfg0.N) (y : S1024x512.Idx) : gateB (iblk m c 0 t) (iblk m c 1 t) (iblk m c 2 t) (iblk m c 4 t) y
    = gateAt (drA m c) (wA m c) (aA m c) (saA m c) (t.val % 4 * 1024 + (y 0).val) (t.val / 4 * 512 + (y 1).val) := by
  unfold gateB gateAt
  rw [v_merged, v_2, v_4]
theorem v_in_pool (t : Fin cfg0.N) (y : S1024x512.Idx) : inB (iblk m c 0 t) (iblk m c 1 t) (iblk m c 5 t) y
    = inAt (drA m c) (wA m c) (spA m c) (t.val % 4 * 1024 + (y 0).val) (t.val / 4 * 512 + (y 1).val) := by
  unfold inB inAt
  rw [v_merged, v_5]
theorem v_gate_pool (t : Fin cfg0.N) (y : S1024x512.Idx) : gateB (iblk m c 0 t) (iblk m c 1 t) (iblk m c 3 t) (iblk m c 5 t) y
    = gateAt (drA m c) (wA m c) (pA m c) (spA m c) (t.val % 4 * 1024 + (y 0).val) (t.val / 4 * 512 + (y 1).val) := by
  unfold gateB gateAt
  rw [v_merged, v_3, v_5]

/-- A block of tokens more. -/
theorem add_block (f : ℕ → EReal) (n : ℕ) :
    ∑ r ∈ Finset.range (1024 * n), f r + ∑ r : Fin 1024, f (n * 1024 + r.val) = ∑ r ∈ Finset.range (1024 * (n + 1)), f r := by
  rw [show 1024 * (n + 1) = 1024 * n + 1024 by omega, Finset.sum_range_add, Finset.sum_range (fun x => f (1024 * n + x)), Nat.mul_comm n 1024]

/-- What is accumulated over the blocks of tokens, from zero at the first of each block of columns. -/
theorem acc (f : ℕ → ℕ → EReal) (o : ∀ t, t < cfg0.N → S1x512.Idx → EReal)
    (hA : ∀ t ht, t % 4 = 0 → ∀ y, o t ht y = 0 + ∑ r : Fin 1024, f (t % 4 * 1024 + r.val) (t / 4 * 512 + (y 1).val))
    (hB : ∀ t ht, ¬t % 4 = 0 → ∀ y, o t ht y = o (t - 1) (Nat.lt_of_le_of_lt (Nat.sub_le _ _) ht) y
      + ∑ r : Fin 1024, f (t % 4 * 1024 + r.val) (t / 4 * 512 + (y 1).val)) :
    ∀ t ht y, o t ht y = ∑ r ∈ Finset.range (1024 * (t % 4 + 1)), f r (t / 4 * 512 + (y 1).val) := by
  intro t
  induction t with
  | zero => intro ht y; rw [hA 0 ht rfl, ← add_block]; rfl
  | succ t ih =>
    intro ht y
    rw [← add_block]
    by_cases h : (t + 1) % 4 = 0
    · rw [hA _ ht h, h]; rfl
    · refine (hB _ ht h y).trans (congrArg₂ (· + ·) ((ih _ y).trans ?_) rfl)
      rw [show (t + 1) % 4 = t % 4 + 1 by omega, show (t + 1) / 4 = t / 4 by omega]
theorem acc_10 (t : ℕ) (ht : t < cfg0.N) (y : S1x512.Idx) : (outsAt0 m c t ht).2.2.2.2.1 y
    = ∑ r ∈ Finset.range (1024 * (t % 4 + 1)), gateAt (drA m c) (wA m c) (aA m c) (saA m c) r (t / 4 * 512 + (y 1).val) :=
  acc _ (fun t ht => (outsAt0 m c t ht).2.2.2.2.1)
    (fun t ht h y => (congrFun (o_10A m c ⟨t, ht⟩ h) y).trans (congrArg (0 + ·) (Finset.sum_congr rfl fun _ _ => v_gate_attn m c ⟨t, ht⟩ _)))
    (fun t ht h y => (congrFun (o_10B m c ⟨t, ht⟩ h) y).trans (congrArg (_ + ·) (Finset.sum_congr rfl fun _ _ => v_gate_attn m c ⟨t, ht⟩ _)))
    t ht y
theorem acc_11 (t : ℕ) (ht : t < cfg0.N) (y : S1x512.Idx) : (outsAt0 m c t ht).2.2.2.2.2 y
    = ∑ r ∈ Finset.range (1024 * (t % 4 + 1)), gateAt (drA m c) (wA m c) (pA m c) (spA m c) r (t / 4 * 512 + (y 1).val) :=
  acc _ (fun t ht => (outsAt0 m c t ht).2.2.2.2.2)
    (fun t ht h y => (congrFun (o_11A m c ⟨t, ht⟩ h) y).trans (congrArg (0 + ·) (Finset.sum_congr rfl fun _ _ => v_gate_pool m c ⟨t, ht⟩ _)))
    (fun t ht h y => (congrFun (o_11B m c ⟨t, ht⟩ h) y).trans (congrArg (_ + ·) (Finset.sum_congr rfl fun _ _ => v_gate_pool m c ⟨t, ht⟩ _)))
    t ht y

/-! ## The arrays the call leaves -/

theorem flush_v : ∀ t : Fin cfg0.N, t.val % 4 = 3 → (cfg0.win 10).flush t = true ∧ (cfg0.win 11).flush t = true := by decide +kernel
theorem flush_m : ∀ t : Fin cfg0.N, (cfg0.win 6).flush t = true ∧ (cfg0.win 7).flush t = true ∧ (cfg0.win 8).flush t = true
    ∧ (cfg0.win 9).flush t = true := by decide +kernel
theorem flush_n : ∀ t : Fin cfg0.N, ((cfg0.win 10).flush t = true → t.val % 4 = 3) ∧ ((cfg0.win 11).flush t = true → t.val % 4 = 3) := by
  decide +kernel

theorem cover_m (i : S4096x2048.Idx) : ∃ t : Fin cfg0.N, i ∈ (win0_6.rect t).set := by
  have h0 : (i 0).val < 4096 := (i 0).isLt
  have h1 : (i 1).val < 2048 := (i 1).isLt
  let t : Fin cfg0.N := ⟨4 * ((i 1).val / 512) + (i 0).val / 1024, by show _ < 16; omega⟩
  obtain ⟨e0, e1⟩ := ix_6 t
  refine ⟨t, ?_⟩
  rw [Rect.mem_set_unit]
  have tv : t.val = 4 * ((i 1).val / 512) + (i 0).val / 1024 := rfl
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega
theorem cover_v (i : S1x2048.Idx) : ∃ t : Fin cfg0.N, t.val % 4 = 3 ∧ i ∈ (win0_10.rect t).set := by
  have h0 : (i 0).val < 1 := (i 0).isLt
  have h1 : (i 1).val < 2048 := (i 1).isLt
  let t : Fin cfg0.N := ⟨4 * ((i 1).val / 512) + 3, by show _ < 16; omega⟩
  obtain ⟨e0, e1⟩ := ix_10 t
  refine ⟨t, by show (4 * _ + 3) % 4 = 3; omega, ?_⟩
  rw [Rect.mem_set_unit]
  have tv : t.val = 4 * ((i 1).val / 512) + 3 := rfl
  intro a
  match a with
  | ⟨0, _⟩ => show win0_10.index t (0 : Fin 2) * 1 ≤ (i 0).val ∧ (i 0).val < win0_10.index t (0 : Fin 2) * 1 + 1; omega
  | ⟨1, _⟩ => show win0_10.index t (1 : Fin 2) * 512 ≤ (i 1).val ∧ (i 1).val < win0_10.index t (1 : Fin 2) * 512 + 512; omega

theorem final_6 : (dats m 0 c).arrAt 6 cfg0.N = Cert.Reference14Ideal.Read.val_main_v30 (F := Ideal) (drA m c) (wA m c) (gA m c) (bA m c) := by
  refine Eq.trans ?_ (funext fun i : S4096x2048.Idx => (in_attn (drA m c) (wA m c) (gA m c) (bA m c) i).symm)
  refine (dats m 0 c).arrAt_eq_of_cover 6 _ (fun t hf => ?_) fun i => ?_
  · funext y
    rw [Value.flushed6]
    exact (congrFun (o_6 m c t) y).trans ((v_in_attn m c t y).trans (congrArg₂ (inAt _ _ _) (e_6 t y).1 (e_6 t y).2).symm)
  · obtain ⟨t, h⟩ := cover_m i
    refine ⟨t, (flush_m t).1, ?_⟩
    show i ∈ ((View.whole main_v17_0).slice (win0_6.rect t)).set
    rw [View.set_slice_whole]
    exact h

theorem final_7 : (dats m 0 c).arrAt 7 cfg0.N = Cert.Reference14Ideal.Read.val_main_v31 (F := Ideal) (drA m c) (wA m c) (gA m c) (bA m c) := by
  refine Eq.trans ?_ (funext fun i : S4096x2048.Idx => (in_pool (drA m c) (wA m c) (gA m c) (bA m c) i).symm)
  refine (dats m 0 c).arrAt_eq_of_cover 7 _ (fun t hf => ?_) fun i => ?_
  · funext y
    rw [Value.flushed7]
    exact (congrFun (o_7 m c t) y).trans ((v_in_pool m c t y).trans (congrArg₂ (inAt _ _ _) (e_6 t y).1 (e_6 t y).2).symm)
  · obtain ⟨t, h⟩ := cover_m i
    refine ⟨t, (flush_m t).2.1, ?_⟩
    show i ∈ ((View.whole main_v17_1).slice (win0_7.rect t)).set
    rw [View.set_slice_whole]
    exact h

theorem final_8 : (dats m 0 c).arrAt 8 cfg0.N = Cert.Reference14Ideal.Read.val_main_v32 (F := Ideal) (drA m c) (wA m c) (aA m c) (pA m c) (gA m c) (bA m c) := by
  refine Eq.trans ?_ (funext fun i : S4096x2048.Idx => (out_attn (drA m c) (wA m c) (aA m c) (pA m c) (gA m c) (bA m c) i).symm)
  refine (dats m 0 c).arrAt_eq_of_cover 8 _ (fun t hf => ?_) fun i => ?_
  · funext y
    rw [Value.flushed8]
    exact (congrFun (o_8 m c t) y).trans ((v_gate_attn m c t y).trans (congrArg₂ (gateAt _ _ _ _) (e_6 t y).1 (e_6 t y).2).symm)
  · obtain ⟨t, h⟩ := cover_m i
    refine ⟨t, (flush_m t).2.2.1, ?_⟩
    show i ∈ ((View.whole main_v17_2).slice (win0_8.rect t)).set
    rw [View.set_slice_whole]
    exact h

theorem final_9 : (dats m 0 c).arrAt 9 cfg0.N = Cert.Reference14Ideal.Read.val_main_v33 (F := Ideal) (drA m c) (wA m c) (aA m c) (pA m c) (gA m c) (bA m c) := by
  refine Eq.trans ?_ (funext fun i : S4096x2048.Idx => (out_pool (drA m c) (wA m c) (aA m c) (pA m c) (gA m c) (bA m c) i).symm)
  refine (dats m 0 c).arrAt_eq_of_cover 9 _ (fun t hf => ?_) fun i => ?_
  · funext y
    rw [Value.flushed9]
    exact (congrFun (o_9 m c t) y).trans ((v_gate_pool m c t y).trans (congrArg₂ (gateAt _ _ _ _) (e_6 t y).1 (e_6 t y).2).symm)
  · obtain ⟨t, h⟩ := cover_m i
    refine ⟨t, (flush_m t).2.2.2, ?_⟩
    show i ∈ ((View.whole main_v17_3).slice (win0_9.rect t)).set
    rw [View.set_slice_whole]
    exact h

theorem final_10 : (dats m 0 c).arrAt 10 cfg0.N = Cert.Reference14Ideal.Read.val_main_v35 (F := Ideal) (drA m c) (wA m c) (aA m c) (pA m c) (gA m c) (bA m c) := by
  refine Eq.trans ?_ (funext fun i : S1x2048.Idx => (bias_attn (drA m c) (wA m c) (aA m c) (pA m c) (gA m c) (bA m c) i).symm)
  refine (dats m 0 c).arrAt_eq_of_cover 10 _ (fun t hf => ?_) fun i => ?_
  · funext y
    rw [Value.flushed10]
    refine (acc_10 m c t.val t.isLt y).trans ?_
    rw [(flush_n t).1 hf]
    exact congrArg (fun j => ∑ r ∈ Finset.range 4096, gateAt _ _ _ _ r j) (e_10 t y).2.symm
  · obtain ⟨t, h3, h⟩ := cover_v i
    refine ⟨t, (flush_v t h3).1, ?_⟩
    show i ∈ ((View.whole main_v17_4).slice (win0_10.rect t)).set
    rw [View.set_slice_whole]
    exact h

theorem final_11 : (dats m 0 c).arrAt 11 cfg0.N = Cert.Reference14Ideal.Read.val_main_v37 (F := Ideal) (drA m c) (wA m c) (aA m c) (pA m c) (gA m c) (bA m c) := by
  refine Eq.trans ?_ (funext fun i : S1x2048.Idx => (bias_pool (drA m c) (wA m c) (aA m c) (pA m c) (gA m c) (bA m c) i).symm)
  refine (dats m 0 c).arrAt_eq_of_cover 11 _ (fun t hf => ?_) fun i => ?_
  · funext y
    rw [Value.flushed11]
    refine (acc_11 m c t.val t.isLt y).trans ?_
    rw [(flush_n t).2 hf]
    exact congrArg (fun j => ∑ r ∈ Finset.range 4096, gateAt _ _ _ _ r j) (e_10 t y).2.symm
  · obtain ⟨t, h3, h⟩ := cover_v i
    refine ⟨t, (flush_v t h3).2, ?_⟩
    show i ∈ ((View.whole main_v17_5).slice (win0_11.rect t)).set
    rw [View.set_slice_whole]
    exact h

end Cert.Kernel14Ideal.Part
-- ==== Proof.ProjMerge.lean ====
/-
  The call `proj_merge`: point `t` takes the block of tokens `t % 4` and the block of columns `t / 4` of the two projections, of the two
  gates and of the merge.
-/
module

public import proofs.«01_k».proof.Proof.Tokens
public import proofs.«01_k».proof.Proof.Gen.Reference15Ideal.Read
public import proofs.«01_k».proof.Proof.Gen.Kernel15Ideal.Frame
public import proofs.«01_k».proof.Proof.Gen.Kernel15Ideal.Value
public import Idealize.ShloMosaic.Lib.Pipeline.ReadBack

@[expose] public section

set_option maxRecDepth 16384
set_option maxHeartbeats 400000

noncomputable section

open Idealize.ShloMosaic hiding ix2 ix3 ix4 eq_ix2 eq_ix3 eq_ix4
open Idealize.ShloMosaic.TcCoe Idealize.ShloMosaic.ValueIdx Idealize.ShloMosaic.Tactic Idealize.SL.Sem
open scoped BigOperators

namespace Cert.Kernel15Ideal.Part

open Cert.Kernel15Ideal.Gen Cert.Tokens Cert.Reference15Ideal.Read

/-! ## The reference -/

section
variable (x x' : S4096x1024.Idx → EReal) (w w' : S1024x2048.Idx → EReal) (g : S4096x4096.Idx → EReal) (b : S4096.Idx → EReal)

/-- A projection, and the merge by the gates `G`. -/
def projAt (r k : ℕ) : EReal := ∑ e : Fin 1024, at2 x r e.val * at2 w e.val k
def mergeAt (G : S4096x4096.Idx → EReal) (r k : ℕ) : EReal := at2 G r k * projAt x w r k + at2 G r (2048 + k) * projAt x' w' r k
/-- The two gates side by side. -/
abbrev gates : S4096x4096.Idx → EReal := val_main_v8 (F := Ideal) g b

theorem proj (i : S4096x2048.Idx) : val_main_v11 (F := Ideal) x w i = projAt x w (i 0).val (i 1).val := by
  rw [val_main_v11_apply]
  exact Finset.sum_congr rfl fun k _ => congrArg₂ (· * ·) (at2_eq (n := 4096) (l := 1024) x _ rfl rfl)
    (at2_eq (n := 1024) (l := 2048) w _ rfl rfl)

theorem gate_attn (i : S4096x2048.Idx) : val_main_v9 (F := Ideal) g b i = at2 (gates g b) (i 0).val (i 1).val := by
  rw [val_main_v9_apply]
  exact at2_eq (n := 4096) (l := 4096) _ _ rfl rfl
theorem gate_pool (i : S4096x2048.Idx) : val_main_v10 (F := Ideal) g b i = at2 (gates g b) (i 0).val (2048 + (i 1).val) := by
  rw [val_main_v10_apply]
  exact at2_eq (n := 4096) (l := 4096) _ _ rfl rfl

theorem merge (i : S4096x2048.Idx) : val_main_v15 (F := Ideal) x x' w w' g b i = mergeAt x x' w w' (gates g b) (i 0).val (i 1).val :=
  congrArg₂ (fun a p : EReal => a + p) (congrArg₂ (· * ·) (gate_attn g b i) (proj x w i)) (congrArg₂ (· * ·) (gate_pool g b i) (proj x' w' i))

theorem merge_t (i : S2048x4096.Idx) : val_main_v22 (F := Ideal) x x' w w' g b i = mergeAt x x' w w' (gates g b) (i 1).val (i 0).val := by
  refine (show _ = val_main_v16 (F := Ideal) x x' w w' g b i from rfl).trans ?_
  rw [val_main_v16_apply, merge]

/-- A gate at an index, of what enters it. -/
theorem gate_at (i : S4096x4096.Idx) {r k : ℕ} (h0 : (i 0).val = r) (h1 : (i 1).val = k) :
    FloatOps.logistic (F := Ideal) (φ := .f32) (at2 g r k + at2 (val_main_v0 (F := Ideal) b) 0 k : EReal) = at2 (gates g b) r k := by
  rw [← at2_eq (n := 4096) (l := 4096) g i h0 h1, ← at2_eq (n := 4096) (l := 4096) (gates g b) i h0 h1,
    ← at2_eq (n := 1) (l := 4096) (val_main_v0 (F := Ideal) b) (idx_main_v1 i) rfl h1]
  unfold gates
  rw [val_main_v8_apply, val_main_v6_apply, val_main_v7_apply, val_main_v5_apply, val_main_v4_apply, val_main_v3_apply, val_main_v2_apply,
    val_main_v1_apply, val_main_cst_apply, val_main_cst_0_apply]
  rw [show FloatOps.ofBits (F := Ideal) .f32 0x3F800000#32 = (1 : EReal) from Ideal.ofBits_one_f32]
  rfl

/-- A weight's columns in four blocks. -/
def colBlocks : S4x1024x512.Idx → EReal := transpose S4x1024x512 [1, 0, 2] (shapeCast S1024x4x512 w shapeCasts_S1024x2048_S1024x4x512)
  transposes_S1024x4x512_S4x1024x512_1_0_2
theorem colBlocks_apply (i : S4x1024x512.Idx) : colBlocks w i = at2 w (i 1).val ((i 0).val * 512 + (i 2).val) := by
  have h0 : (i 0).val < 4 := (i 0).isLt
  have h2 : (i 2).val < 512 := (i 2).isLt
  unfold colBlocks
  refine (transpose_apply [1, 0, 2] _ transposes_S1024x4x512_S4x1024x512_1_0_2 i (ix3 (i 1) (i 0) (i 2)) (by intro a; fin_cases a <;> rfl)).trans
    ((shapeCast_apply w shapeCasts_S1024x2048_S1024x4x512 _ (ix2 (i 1) ⟨(i 0).val * 512 + (i 2).val, by omega⟩) ?_).trans ?_)
  · rw [Shape.rowMajor_val_two, Shape.rowMajor_val_three]
    show (i 1).val * 2048 + ((i 0).val * 512 + (i 2).val) = ((i 1).val * 4 + (i 0).val) * 512 + (i 2).val
    omega
  · exact at2_eq (n := 1024) (l := 2048) w _ rfl rfl

end

/-! ## One point -/

section
variable (A A' : S1024x1024.Idx → EReal) (b b' : S1x1024x512.Idx → EReal) (g g' : S1024x512.Idx → EReal) (v v' : S1x512.Idx → EReal)

def projB : S1024x512.Idx → EReal := fun y => ∑ e : Fin 1024, A (ix2 (y 0) e) * b (ix3 0 e (y 1))
def gateB : S1024x512.Idx → EReal := fun y => FloatOps.logistic (F := Ideal) (φ := .f32) (g y + v (ix2 0 (y 1)) : EReal)
def mergeB : S1024x512.Idx → EReal := fun y => gateB g v y * projB A b y + gateB g' v' y * projB A' b' y

theorem pay_proj : k0_pay5 (F := Ideal) A b = projB A b := by
  funext y
  unfold k0_pay5
  rw [shapeCast_self]
  refine (Ideal.matmul_constant_zero_apply (φ₂ := .bf16) _ none A _ y).trans ?_
  refine (Equiv.sum_comp (contrEquiv1 _ 1024 rfl rfl).symm _).symm.trans ?_
  refine Finset.sum_congr rfl fun e _ => ?_
  show _ = A (ix2 (y 0) e) * b (ix3 0 e (y 1))
  rw [← shapeCast_1ab_ab_apply (a := 1024) (b := 512) b shapeCasts_S1x1024x512_S1024x512 e (y 1)]
  congr 2
  · funext a; fin_cases a <;> rfl
  · funext a; fin_cases a <;> rfl

theorem pay_gate : k0_pay7 (F := Ideal) g v = gateB g v := by
  funext y
  unfold k0_pay7
  rw [shapeCast_self, shapeCast_self]
  refine congrArg (fun z : EReal => FloatOps.logistic (F := Ideal) (φ := .f32) (g y + z : EReal)) ?_
  exact broadcastTo_apply v _ y (ix2 0 (y 1)) (by intro a; fin_cases a <;> rfl)

theorem pay_merge : k0_pay9 (F := Ideal) A b A' b' g v g' v' = mergeB A A' b b' g g' v v' := by
  unfold k0_pay9
  rw [pay_gate, pay_proj, show k0_pay8 (F := Ideal) g' v' = gateB g' v' from pay_gate g' v',
    show k0_pay6 (F := Ideal) A' b' = projB A' b' from pay_proj A' b']
  rfl

theorem pay_merge_t (y : S512x1024.Idx) :
    k0_pay4 (F := Ideal) (k0_pay9 A b A' b' g v g' v') y = mergeB A A' b b' g g' v v' (ix2 (y 1) (y 0)) := by
  rw [pay_merge]
  unfold k0_pay4
  exact transpose_apply [1, 0] (mergeB A A' b b' g g' v v') transposes_S1024x512_p1_0_S512x1024 y (ix2 (y 1) (y 0))
    (by intro a; fin_cases a <;> rfl)

end

variable (m : (ℓ : Loc nD τ sig) → Buf (Elt Ideal) ℓ) (c : Dev nD)

/-! ## The arrays the call reads, and a point's blocks of them -/

/-- The call's arguments. -/
abbrev xA : S4096x1024.Idx → EReal := m ((c : Thread nD τ).loc main_arg0)
abbrev xP : S4096x1024.Idx → EReal := m ((c : Thread nD τ).loc main_arg1)
abbrev wA : S1024x2048.Idx → EReal := m ((c : Thread nD τ).loc main_arg2)
abbrev wP : S1024x2048.Idx → EReal := m ((c : Thread nD τ).loc main_arg3)
abbrev gA : S4096x4096.Idx → EReal := m ((c : Thread nD τ).loc main_arg4)
abbrev bA : S4096.Idx → EReal := m ((c : Thread nD τ).loc main_arg5)

theorem arr : V m c main_v6 = xA m c ∧ V m c main_v7 = xP m c ∧ V m c main_v2 = colBlocks (wA m c) ∧ V m c main_v5 = colBlocks (wP m c)
    ∧ V m c main_v8 = gA m c ∧ V m c main_v9 = val_main_v0 (F := Ideal) (bA m c) := by
  refine ⟨?_, ?_, ?_, ?_, ?_, ?_⟩ <;> (unfold_abbrev_sides; simp only [hostOps0]; after_results; rfl)

theorem ix_0 : ∀ t : Fin cfg0.N, win0_0.index t 0 = t.val % 4 ∧ win0_0.index t 1 = 0 := by decide +kernel
theorem rd_0 (X : S4096x1024.Idx → EReal) (t : Fin cfg0.N) (y : S1024x1024.Idx) :
    ((cfg0.win 0).blk t).view.read (Elt Ideal) X y = at2 X (t.val % 4 * 1024 + (y 0).val) (0 * 1024 + (y 1).val) := by
  obtain ⟨i0, i1⟩ := ix_0 t
  refine (show _ = X ((win0_0.blk t).view.emb y) from rfl).trans (at2_eq X _ ?_ ?_)
  · blk_simp; rw [i0] <;> omega
  · blk_simp; rw [i1] <;> omega
theorem ix_4 : ∀ t : Fin cfg0.N, win0_4.index t 0 = t.val % 4 ∧ win0_4.index t 1 = t.val / 4 := by decide +kernel
theorem rd_4 (X : S4096x4096.Idx → EReal) (t : Fin cfg0.N) (y : S1024x512.Idx) :
    ((cfg0.win 4).blk t).view.read (Elt Ideal) X y = at2 X (t.val % 4 * 1024 + (y 0).val) (t.val / 4 * 512 + (y 1).val) := by
  obtain ⟨i0, i1⟩ := ix_4 t
  refine (show _ = X ((win0_4.blk t).view.emb y) from rfl).trans (at2_eq X _ ?_ ?_)
  · blk_simp; rw [i0] <;> omega
  · blk_simp; rw [i1] <;> omega
theorem ix_5 : ∀ t : Fin cfg0.N, win0_5.index t 0 = t.val % 4 ∧ win0_5.index t 1 = 4 + t.val / 4 := by decide +kernel
theorem rd_5 (X : S4096x4096.Idx → EReal) (t : Fin cfg0.N) (y : S1024x512.Idx) :
    ((cfg0.win 5).blk t).view.read (Elt Ideal) X y = at2 X (t.val % 4 * 1024 + (y 0).val) ((4 + t.val / 4) * 512 + (y 1).val) := by
  obtain ⟨i0, i1⟩ := ix_5 t
  refine (show _ = X ((win0_5.blk t).view.emb y) from rfl).trans (at2_eq X _ ?_ ?_)
  · blk_simp; rw [i0] <;> omega
  · blk_simp; rw [i1] <;> omega
theorem ix_6 : ∀ t : Fin cfg0.N, win0_6.index t 0 = 0 ∧ win0_6.index t 1 = t.val / 4 := by decide +kernel
theorem rd_6 (X : S1x4096.Idx → EReal) (t : Fin cfg0.N) (y : S1x512.Idx) :
    ((cfg0.win 6).blk t).view.read (Elt Ideal) X y = at2 X (0 * 1 + (y 0).val) (t.val / 4 * 512 + (y 1).val) := by
  obtain ⟨i0, i1⟩ := ix_6 t
  refine (show _ = X ((win0_6.blk t).view.emb y) from rfl).trans (at2_eq X _ ?_ ?_)
  · blk_simp; rw [i0] <;> omega
  · blk_simp; rw [i1] <;> omega
theorem ix_7 : ∀ t : Fin cfg0.N, win0_7.index t 0 = 0 ∧ win0_7.index t 1 = 4 + t.val / 4 := by decide +kernel
theorem rd_7 (X : S1x4096.Idx → EReal) (t : Fin cfg0.N) (y : S1x512.Idx) :
    ((cfg0.win 7).blk t).view.read (Elt Ideal) X y = at2 X (0 * 1 + (y 0).val) ((4 + t.val / 4) * 512 + (y 1).val) := by
  obtain ⟨i0, i1⟩ := ix_7 t
  refine (show _ = X ((win0_7.blk t).view.emb y) from rfl).trans (at2_eq X _ ?_ ?_)
  · blk_simp; rw [i0] <;> omega
  · blk_simp; rw [i1] <;> omega
theorem ix_2 : ∀ t : Fin cfg0.N, win0_2.index t 0 = t.val / 4 ∧ win0_2.index t 1 = 0 ∧ win0_2.index t 2 = 0 := by decide +kernel
theorem rd_2 (w : S1024x2048.Idx → EReal) (t : Fin cfg0.N) (y : S1x1024x512.Idx) :
    ((cfg0.win 2).blk t).view.read (Elt Ideal) (colBlocks w) y = at2 w (y 1).val (t.val / 4 * 512 + (y 2).val) := by
  obtain ⟨i0, i1, i2⟩ := ix_2 t
  have h : (y 0).val < 1 := (y 0).isLt
  have e0 : ((win0_2.blk t).view.emb y 0).val = t.val / 4 := by blk_simp; rw [i0] <;> omega
  have e1 : ((win0_2.blk t).view.emb y 1).val = (y 1).val := by blk_simp; rw [i1] <;> omega
  have e2 : ((win0_2.blk t).view.emb y 2).val = (y 2).val := by blk_simp; rw [i2] <;> omega
  refine (show _ = colBlocks w ((win0_2.blk t).view.emb y) from rfl).trans ?_
  rw [colBlocks_apply, e0, e1, e2]

/-- The values of a point's blocks. -/
theorem b_proj (x : S4096x1024.Idx → EReal) (w : S1024x2048.Idx → EReal) (t : Fin cfg0.N) (y : S1024x512.Idx) :
    projB (((cfg0.win 0).blk t).view.read (Elt Ideal) x) (((cfg0.win 2).blk t).view.read (Elt Ideal) (colBlocks w)) y
      = projAt x w (t.val % 4 * 1024 + (y 0).val) (t.val / 4 * 512 + (y 1).val) :=
  Finset.sum_congr rfl fun e _ => congrArg₂ (· * ·)
    ((rd_0 x t (ix2 (y 0) e)).trans (congrArg (at2 x _) (by show 0 * 1024 + e.val = e.val; omega))) (rd_2 w t (ix3 0 e (y 1)))

theorem v_attn (t : Fin cfg0.N) (y : S1024x512.Idx) : projB (iblk m c 0 t) (iblk m c 2 t) y
    = projAt (xA m c) (wA m c) (t.val % 4 * 1024 + (y 0).val) (t.val / 4 * 512 + (y 1).val) := by
  refine (show _ = projB (((cfg0.win 0).blk t).view.read (Elt Ideal) (V m c main_v6))
    (((cfg0.win 2).blk t).view.read (Elt Ideal) (V m c main_v2)) y from rfl).trans ?_
  rw [(arr m c).1, (arr m c).2.2.1]
  exact b_proj _ _ t y
theorem v_pool (t : Fin cfg0.N) (y : S1024x512.Idx) : projB (iblk m c 1 t) (iblk m c 3 t) y
    = projAt (xP m c) (wP m c) (t.val % 4 * 1024 + (y 0).val) (t.val / 4 * 512 + (y 1).val) := by
  refine (show _ = projB (((cfg0.win 0).blk t).view.read (Elt Ideal) (V m c main_v7))
    (((cfg0.win 2).blk t).view.read (Elt Ideal) (V m c main_v5)) y from rfl).trans ?_
  rw [(arr m c).2.1, (arr m c).2.2.2.1]
  exact b_proj _ _ t y

theorem v_gate_attn (t : Fin cfg0.N) (y : S1024x512.Idx) : gateB (iblk m c 4 t) (iblk m c 6 t) y
    = at2 (gates (gA m c) (bA m c)) (t.val % 4 * 1024 + (y 0).val) (t.val / 4 * 512 + (y 1).val) := by
  have h0 : (y 0).val < 1024 := (y 0).isLt
  have h1 : (y 1).val < 512 := (y 1).isLt
  have ht : t.val < 16 := t.isLt
  refine Eq.trans (congrArg (fun z : EReal => FloatOps.logistic (F := Ideal) (φ := .f32) z) (congrArg₂ (fun u v : EReal => u + v)
    ((rd_4 (V m c main_v8) t y).trans (by rw [(arr m c).2.2.2.2.1])) ((rd_6 (V m c main_v9) t (ix2 0 (y 1))).trans (by rw [(arr m c).2.2.2.2.2]; rfl))))
    (gate_at (gA m c) (bA m c) (ix2 ⟨t.val % 4 * 1024 + (y 0).val, by omega⟩ ⟨t.val / 4 * 512 + (y 1).val, by omega⟩) rfl rfl)
theorem v_gate_pool (t : Fin cfg0.N) (y : S1024x512.Idx) : gateB (iblk m c 5 t) (iblk m c 7 t) y
    = at2 (gates (gA m c) (bA m c)) (t.val % 4 * 1024 + (y 0).val) (2048 + (t.val / 4 * 512 + (y 1).val)) := by
  have h0 : (y 0).val < 1024 := (y 0).isLt
  have h1 : (y 1).val < 512 := (y 1).isLt
  have ht : t.val < 16 := t.isLt
  rw [show 2048 + (t.val / 4 * 512 + (y 1).val) = (4 + t.val / 4) * 512 + (y 1).val by omega]
  refine Eq.trans (congrArg (fun z : EReal => FloatOps.logistic (F := Ideal) (φ := .f32) z) (congrArg₂ (fun u v : EReal => u + v)
    ((rd_5 (V m c main_v8) t y).trans (by rw [(arr m c).2.2.2.2.1])) ((rd_7 (V m c main_v9) t (ix2 0 (y 1))).trans (by rw [(arr m c).2.2.2.2.2]; rfl))))
    (gate_at (gA m c) (bA m c) (ix2 ⟨t.val % 4 * 1024 + (y 0).val, by omega⟩ ⟨(4 + t.val / 4) * 512 + (y 1).val, by omega⟩) rfl rfl)

theorem v_merge (t : Fin cfg0.N) (y : S1024x512.Idx) : mergeB (iblk m c 0 t) (iblk m c 1 t) (iblk m c 2 t) (iblk m c 3 t) (iblk m c 4 t)
    (iblk m c 5 t) (iblk m c 6 t) (iblk m c 7 t) y = mergeAt (xA m c) (xP m c) (wA m c) (wP m c) (gates (gA m c) (bA m c))
      (t.val % 4 * 1024 + (y 0).val) (t.val / 4 * 512 + (y 1).val) := by
  unfold mergeB mergeAt
  rw [v_attn, v_pool, v_gate_attn, v_gate_pool]

/-! ## The arrays the call leaves -/

theorem hz : (![0, 0] : Fin 2 → ℕ) = fun _ => 0 := by decide
theorem hz3 : (![0, 0, 0] : Fin 3 → ℕ) = fun _ => 0 := by decide

theorem ix_8 : ∀ t : Fin cfg0.N, win0_8.index t 0 = t.val % 4 ∧ win0_8.index t 1 = t.val / 4 := by decide +kernel
theorem e_8 (t : Fin cfg0.N) (y : S1024x512.Idx) : ((win0_8.blk t).view.emb y 0).val = t.val % 4 * 1024 + (y 0).val
    ∧ ((win0_8.blk t).view.emb y 1).val = t.val / 4 * 512 + (y 1).val := by
  obtain ⟨i0, i1⟩ := ix_8 t
  refine ⟨?_, ?_⟩
  · blk_simp; rw [i0] <;> omega
  · blk_simp; rw [i1] <;> omega
theorem ix_13 : ∀ t : Fin cfg0.N, win0_13.index t 0 = t.val / 4 ∧ win0_13.index t 1 = t.val % 4 := by decide +kernel
theorem e_13 (t : Fin cfg0.N) (y : S512x1024.Idx) : ((win0_13.blk t).view.emb y 0).val = t.val / 4 * 512 + (y 0).val
    ∧ ((win0_13.blk t).view.emb y 1).val = t.val % 4 * 1024 + (y 1).val := by
  obtain ⟨i0, i1⟩ := ix_13 t
  refine ⟨?_, ?_⟩
  · blk_simp; rw [i0] <;> omega
  · blk_simp; rw [i1] <;> omega

theorem flush_m : ∀ t : Fin cfg0.N, (cfg0.win 8).flush t = true ∧ (cfg0.win 9).flush t = true ∧ (cfg0.win 10).flush t = true
    ∧ (cfg0.win 11).flush t = true ∧ (cfg0.win 12).flush t = true ∧ (cfg0.win 13).flush t = true := by decide +kernel

theorem cover_m (i : S4096x2048.Idx) : ∃ t : Fin cfg0.N, i ∈ (win0_8.rect t).set := by
  have h0 : (i 0).val < 4096 := (i 0).isLt
  have h1 : (i 1).val < 2048 := (i 1).isLt
  let t : Fin cfg0.N := ⟨4 * ((i 1).val / 512) + (i 0).val / 1024, by show _ < 16; omega⟩
  obtain ⟨e0, e1⟩ := ix_8 t
  refine ⟨t, ?_⟩
  rw [Rect.mem_set_unit]
  have tv : t.val = 4 * ((i 1).val / 512) + (i 0).val / 1024 := rfl
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega
theorem cover_t (i : S2048x4096.Idx) : ∃ t : Fin cfg0.N, i ∈ (win0_13.rect t).set := by
  have h0 : (i 0).val < 2048 := (i 0).isLt
  have h1 : (i 1).val < 4096 := (i 1).isLt
  let t : Fin cfg0.N := ⟨4 * ((i 0).val / 512) + (i 1).val / 1024, by show _ < 16; omega⟩
  obtain ⟨e0, e1⟩ := ix_13 t
  refine ⟨t, ?_⟩
  rw [Rect.mem_set_unit]
  have tv : t.val = 4 * ((i 0).val / 512) + (i 1).val / 1024 := rfl
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 1024 ≤ (i 1).val ∧ (i 1).val < win0_13.index t (1 : Fin 2) * 1024 + 1024; omega

variable (x0 x1 : Vec Ideal S1024x1024 .bf16) (x2 x3 : Vec Ideal S1x1024x512 .bf16) (x4 x5 : Vec Ideal S1024x512 .bf16) (x6 x7 : Vec Ideal S1x512 .f32)
theorem o_8 : out0_8 (F := Ideal) x0 x1 x2 x3 x4 x5 x6 x7 = projB x0 x2 := by
  unfold out0_8
  rw [View.canon_unit_zero (S := S1024x512) hz]
  simp only [View.ld_unit_zero (S := S1024x1024) hz, View.ld_unit_zero (S := S1x1024x512) hz3]
  exact pay_proj x0 x2
theorem o_9 : out0_9 (F := Ideal) x0 x1 x2 x3 x4 x5 x6 x7 = projB x1 x3 := by
  unfold out0_9
  rw [View.canon_unit_zero (S := S1024x512) hz]
  simp only [View.ld_unit_zero (S := S1024x1024) hz, View.ld_unit_zero (S := S1x1024x512) hz3]
  exact pay_proj x1 x3
theorem o_10 : out0_10 (F := Ideal) x0 x1 x2 x3 x4 x5 x6 x7 = gateB x4 x6 := by
  unfold out0_10
  rw [View.canon_unit_zero (S := S1024x512) hz]
  simp only [View.ld_unit_zero (S := S1024x512) hz, View.ld_unit_zero (S := S1x512) hz]
  exact pay_gate x4 x6
theorem o_11 : out0_11 (F := Ideal) x0 x1 x2 x3 x4 x5 x6 x7 = gateB x5 x7 := by
  unfold out0_11
  rw [View.canon_unit_zero (S := S1024x512) hz]
  simp only [View.ld_unit_zero (S := S1024x512) hz, View.ld_unit_zero (S := S1x512) hz]
  exact pay_gate x5 x7
theorem o_12 : out0_12 (F := Ideal) x0 x1 x2 x3 x4 x5 x6 x7 = mergeB x0 x1 x2 x3 x4 x5 x6 x7 := by
  unfold out0_12 k0_pay12
  rw [View.canon_unit_zero (S := S1024x512) hz]
  simp only [View.ld_unit_zero (S := S1024x1024) hz, View.ld_unit_zero (S := S1x1024x512) hz3, View.ld_unit_zero (S := S1024x512) hz, View.ld_unit_zero (S := S1x512) hz]
  exact pay_merge x0 x1 x2 x3 x4 x5 x6 x7
theorem o_13 : out0_13 (F := Ideal) x0 x1 x2 x3 x4 x5 x6 x7 = fun y => mergeB x0 x1 x2 x3 x4 x5 x6 x7 (ix2 (y 1) (y 0)) := by
  unfold out0_13 k0_pay12
  rw [View.canon_unit_zero (S := S512x1024) hz]
  simp only [View.ld_unit_zero (S := S1024x1024) hz, View.ld_unit_zero (S := S1x1024x512) hz3, View.ld_unit_zero (S := S1024x512) hz, View.ld_unit_zero (S := S1x512) hz]
  exact funext (pay_merge_t x0 x1 x2 x3 x4 x5 x6 x7)

theorem final_8 : (dats m 0 c).arrAt 8 cfg0.N = val_main_v17 (F := Ideal) (xA m c) (wA m c) := by
  refine Eq.trans ?_ (funext fun i : S4096x2048.Idx => (proj (xA m c) (wA m c) i).symm)
  refine (dats m 0 c).arrAt_eq_of_cover 8 _ (fun t hf => ?_) fun i => ?_
  · funext y
    rw [Value.flushed8]
    exact (congrFun (o_8 _ _ _ _ _ _ _ _) y).trans ((v_attn m c t y).trans (congrArg₂ (projAt _ _) (e_8 t y).1 (e_8 t y).2).symm)
  · obtain ⟨t, h⟩ := cover_m i
    refine ⟨t, (flush_m t).1, ?_⟩
    show i ∈ ((View.whole main_v10_0).slice (win0_8.rect t)).set
    rw [View.set_slice_whole]
    exact h

theorem final_9 : (dats m 0 c).arrAt 9 cfg0.N = val_main_v18 (F := Ideal) (xP m c) (wP m c) := by
  refine Eq.trans ?_ (funext fun i : S4096x2048.Idx => (proj (xP m c) (wP m c) i).symm)
  refine (dats m 0 c).arrAt_eq_of_cover 9 _ (fun t hf => ?_) fun i => ?_
  · funext y
    rw [Value.flushed9]
    exact (congrFun (o_9 _ _ _ _ _ _ _ _) y).trans ((v_pool m c t y).trans (congrArg₂ (projAt _ _) (e_8 t y).1 (e_8 t y).2).symm)
  · obtain ⟨t, h⟩ := cover_m i
    refine ⟨t, (flush_m t).2.1, ?_⟩
    show i ∈ ((View.whole main_v10_1).slice (win0_9.rect t)).set
    rw [View.set_slice_whole]
    exact h

theorem final_10 : (dats m 0 c).arrAt 10 cfg0.N = val_main_v19 (F := Ideal) (gA m c) (bA m c) := by
  refine Eq.trans ?_ (funext fun i : S4096x2048.Idx => (gate_attn (gA m c) (bA m c) i).symm)
  refine (dats m 0 c).arrAt_eq_of_cover 10 _ (fun t hf => ?_) fun i => ?_
  · funext y
    rw [Value.flushed10]
    exact (congrFun (o_10 _ _ _ _ _ _ _ _) y).trans ((v_gate_attn m c t y).trans (congrArg₂ (at2 _) (e_8 t y).1 (e_8 t y).2).symm)
  · obtain ⟨t, h⟩ := cover_m i
    refine ⟨t, (flush_m t).2.2.1, ?_⟩
    show i ∈ ((View.whole main_v10_2).slice (win0_10.rect t)).set
    rw [View.set_slice_whole]
    exact h

theorem final_11 : (dats m 0 c).arrAt 11 cfg0.N = val_main_v20 (F := Ideal) (gA m c) (bA m c) := by
  refine Eq.trans ?_ (funext fun i : S4096x2048.Idx => (gate_pool (gA m c) (bA m c) i).symm)
  refine (dats m 0 c).arrAt_eq_of_cover 11 _ (fun t hf => ?_) fun i => ?_
  · funext y
    rw [Value.flushed11]
    exact (congrFun (o_11 _ _ _ _ _ _ _ _) y).trans ((v_gate_pool m c t y).trans (congrArg₂ (fun r k => at2 _ r (2048 + k)) (e_8 t y).1 (e_8 t y).2).symm)
  · obtain ⟨t, h⟩ := cover_m i
    refine ⟨t, (flush_m t).2.2.2.1, ?_⟩
    show i ∈ ((View.whole main_v10_3).slice (win0_11.rect t)).set
    rw [View.set_slice_whole]
    exact h

theorem final_12 : (dats m 0 c).arrAt 12 cfg0.N = val_main_v21 (F := Ideal) (xA m c) (xP m c) (wA m c) (wP m c) (gA m c) (bA m c) := by
  refine Eq.trans ?_ (funext fun i : S4096x2048.Idx => (merge (xA m c) (xP m c) (wA m c) (wP m c) (gA m c) (bA m c) i).symm)
  refine (dats m 0 c).arrAt_eq_of_cover 12 _ (fun t hf => ?_) fun i => ?_
  · funext y
    rw [Value.flushed12]
    exact (congrFun (o_12 _ _ _ _ _ _ _ _) y).trans ((v_merge m c t y).trans (congrArg₂ (mergeAt _ _ _ _ _) (e_8 t y).1 (e_8 t y).2).symm)
  · obtain ⟨t, h⟩ := cover_m i
    refine ⟨t, (flush_m t).2.2.2.2.1, ?_⟩
    show i ∈ ((View.whole main_v10_4).slice (win0_12.rect t)).set
    rw [View.set_slice_whole]
    exact h

theorem final_13 : (dats m 0 c).arrAt 13 cfg0.N = val_main_v22 (F := Ideal) (xA m c) (xP m c) (wA m c) (wP m c) (gA m c) (bA m c) := by
  refine Eq.trans ?_ (funext fun i : S2048x4096.Idx => (merge_t (xA m c) (xP m c) (wA m c) (wP m c) (gA m c) (bA m c) i).symm)
  refine (dats m 0 c).arrAt_eq_of_cover 13 _ (fun t hf => ?_) fun i => ?_
  · funext y
    rw [Value.flushed13]
    exact (congrFun (o_13 _ _ _ _ _ _ _ _) y).trans ((v_merge m c t (ix2 (y 1) (y 0))).trans (congrArg₂ (fun k r => mergeAt _ _ _ _ _ r k) (e_13 t y).1 (e_13 t y).2).symm)
  · obtain ⟨t, h⟩ := cover_t i
    refine ⟨t, (flush_m t).2.2.2.2.2, ?_⟩
    show i ∈ ((View.whole main_v10_5).slice (win0_13.rect t)).set
    rw [View.set_slice_whole]
    exact h

end Cert.Kernel15Ideal.Part
-- ==== Proof.lean ====
/- Fourteen backward calls of the kernel, the attention's and the projections', against the derivatives of the reference's lines, and one forward
   call, of two projections and their merge, against the lines themselves. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Result
public import proofs.«01_k».proof.Proof.XJoin
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.WPart3
public import proofs.«01_k».proof.Proof.WPart4
public import proofs.«01_k».proof.Proof.WPart5
public import proofs.«01_k».proof.Proof.WPart6
public import proofs.«01_k».proof.Proof.WPart7
public import proofs.«01_k».proof.Proof.WPart8
public import proofs.«01_k».proof.Proof.WPart9
public import proofs.«01_k».proof.Proof.WPart10
public import proofs.«01_k».proof.Proof.WPart11
public import proofs.«01_k».proof.Proof.WPart12
public import proofs.«01_k».proof.Proof.WPart13
public import proofs.«01_k».proof.Proof.Merge
public import proofs.«01_k».proof.Proof.ProjMerge
public import Idealize.ShloMosaic.Adequacy
public import Idealize.ShloMosaic.Init

@[expose] public section

noncomputable section

namespace Cert.Proof

open Idealize.ShloMosaic Idealize.SL.Sem Kernel

/-- The kernel's run and the reference's, at the ideal instance. -/
theorem algebraic : algebraic_KernelIdeal_ReferenceIdeal_pre_finite (hKernelIdeal := KernelIdeal.Gen.facts)
    (hReferenceIdeal := ReferenceIdeal.Gen.facts) (hPre_finite := Pre_finite.Gen.facts) := by
  intro m ρ m' ρ' hpre hagree
  refine ⟨_, KernelIdeal.Value.run_blocks (F := Ideal) m ρ, ?_⟩
  refine (θ_run ReferenceIdeal.defs _ _).mono (fun _ h c => ⟨(h c).1.trans ?_, (h c).2⟩) (ReferenceIdeal.Value.run (F := Ideal) m' ρ')
  refine (ReferenceIdeal.Read.val_main_v161_eq (F := Ideal) (StableHlo.launchContents m' c)).trans ?_
  refine Eq.trans ?_ (KernelIdeal.Piece.result m c (hpre c)).symm
  exact KernelIdeal.Piece.result_congr (hagree c).1 (hagree c).2.1 (hagree c).2.2.1 (hagree c).2.2.2.1 (hagree c).2.2.2.2

/-- The second kernel's run and its reference's, at the ideal instance. -/
theorem algebraic2 : algebraic_Kernel2Ideal_Reference2Ideal (hKernel2Ideal := Kernel2Ideal.Gen.facts)
    (hReference2Ideal := Reference2Ideal.Gen.facts) := by
  intro m ρ m' ρ' _ hagree
  refine ⟨_, Kernel2Ideal.Value.run (F := Ideal) m ρ, ?_⟩
  refine (θ_run Reference2Ideal.defs _ _).mono (fun _ h c => ⟨(h c).1.trans ?_, (h c).2⟩) (Reference2Ideal.Value.run (F := Ideal) m' ρ')
  refine Eq.trans ?_ (Kernel2Ideal.Step.result m c).symm
  exact Kernel2Ideal.Step.result_congr (hagree c).1 (hagree c).2.1 (hagree c).2.2

/-- The call `w_in_grad_qkv0`. -/
theorem algebraic3 : algebraic_Kernel3Ideal_Reference3Ideal (hKernel3Ideal := Kernel3Ideal.Gen.facts)
    (hReference3Ideal := Reference3Ideal.Gen.facts) := by
  intro m ρ m' ρ' _ hagree
  refine ⟨_, Kernel3Ideal.Value.run_blocks (F := Ideal) m ρ, ?_⟩
  refine (θ_run Reference3Ideal.defs _ _).mono (fun _ h c => ⟨(h c).1.trans ?_, (h c).2⟩) (Reference3Ideal.Value.run (F := Ideal) m' ρ')
  refine (Reference3Ideal.Read.val_main_v19_eq (F := Ideal) _ _ _).trans ?_
  refine Eq.trans ?_ (Kernel3Ideal.Part.result m c).symm
  exact Kernel3Ideal.Part.result_congr (hagree c).1 (hagree c).2.1 (hagree c).2.2

/-- The call `w_in_grad_qkv1`. -/
theorem algebraic4 : algebraic_Kernel4Ideal_Reference4Ideal (hKernel4Ideal := Kernel4Ideal.Gen.facts)
    (hReference4Ideal := Reference4Ideal.Gen.facts) := by
  intro m ρ m' ρ' _ hagree
  refine ⟨_, Kernel4Ideal.Value.run_blocks (F := Ideal) m ρ, ?_⟩
  refine (θ_run Reference4Ideal.defs _ _).mono (fun _ h c => ⟨(h c).1.trans ?_, (h c).2⟩) (Reference4Ideal.Value.run (F := Ideal) m' ρ')
  refine (Reference4Ideal.Read.val_main_v19_eq (F := Ideal) _ _ _).trans ?_
  refine Eq.trans ?_ (Kernel4Ideal.Part.result m c).symm
  exact Kernel4Ideal.Part.result_congr (hagree c).1 (hagree c).2.1 (hagree c).2.2

/-- The call `w_in_grad_qkv2`. -/
theorem algebraic5 : algebraic_Kernel5Ideal_Reference5Ideal (hKernel5Ideal := Kernel5Ideal.Gen.facts)
    (hReference5Ideal := Reference5Ideal.Gen.facts) := by
  intro m ρ m' ρ' _ hagree
  refine ⟨_, Kernel5Ideal.Value.run_blocks (F := Ideal) m ρ, ?_⟩
  refine (θ_run Reference5Ideal.defs _ _).mono (fun _ h c => ⟨(h c).1.trans ?_, (h c).2⟩) (Reference5Ideal.Value.run (F := Ideal) m' ρ')
  refine (Reference5Ideal.Read.val_main_v19_eq (F := Ideal) _ _ _).trans ?_
  refine Eq.trans ?_ (Kernel5Ideal.Part.result m c).symm
  exact Kernel5Ideal.Part.result_congr (hagree c).1 (hagree c).2.1 (hagree c).2.2

/-- The call `w_in_grad_rest0`. -/
theorem algebraic6 : algebraic_Kernel6Ideal_Reference6Ideal (hKernel6Ideal := Kernel6Ideal.Gen.facts)
    (hReference6Ideal := Reference6Ideal.Gen.facts) := by
  intro m ρ m' ρ' _ hagree
  refine ⟨_, Kernel6Ideal.Value.run_blocks (F := Ideal) m ρ, ?_⟩
  refine (θ_run Reference6Ideal.defs _ _).mono (fun _ h c => ⟨(h c).1.trans ?_, (h c).2⟩) (Reference6Ideal.Value.run (F := Ideal) m' ρ')
  refine (Reference6Ideal.Read.val_main_v13_eq (F := Ideal) _ _ _).trans ?_
  refine Eq.trans ?_ (Kernel6Ideal.Part.result m c).symm
  exact Kernel6Ideal.Part.result_congr (hagree c).1 (hagree c).2.1 (hagree c).2.2

/-- The call `w_in_grad_rest1`. -/
theorem algebraic7 : algebraic_Kernel7Ideal_Reference7Ideal (hKernel7Ideal := Kernel7Ideal.Gen.facts)
    (hReference7Ideal := Reference7Ideal.Gen.facts) := by
  intro m ρ m' ρ' _ hagree
  refine ⟨_, Kernel7Ideal.Value.run_blocks (F := Ideal) m ρ, ?_⟩
  refine (θ_run Reference7Ideal.defs _ _).mono (fun _ h c => ⟨(h c).1.trans ?_, (h c).2⟩) (Reference7Ideal.Value.run (F := Ideal) m' ρ')
  refine (Reference7Ideal.Read.val_main_v13_eq (F := Ideal) _ _ _).trans ?_
  refine Eq.trans ?_ (Kernel7Ideal.Part.result m c).symm
  exact Kernel7Ideal.Part.result_congr (hagree c).1 (hagree c).2.1 (hagree c).2.2

/-- The call `w_in_grad_rest2`. -/
theorem algebraic8 : algebraic_Kernel8Ideal_Reference8Ideal (hKernel8Ideal := Kernel8Ideal.Gen.facts)
    (hReference8Ideal := Reference8Ideal.Gen.facts) := by
  intro m ρ m' ρ' _ hagree
  refine ⟨_, Kernel8Ideal.Value.run_blocks (F := Ideal) m ρ, ?_⟩
  refine (θ_run Reference8Ideal.defs _ _).mono (fun _ h c => ⟨(h c).1.trans ?_, (h c).2⟩) (Reference8Ideal.Value.run (F := Ideal) m' ρ')
  refine (Reference8Ideal.Read.val_main_v13_eq (F := Ideal) _ _ _).trans ?_
  refine Eq.trans ?_ (Kernel8Ideal.Part.result m c).symm
  exact Kernel8Ideal.Part.result_congr (hagree c).1 (hagree c).2.1 (hagree c).2.2

/-- The call `w_in_grad_rest3`. -/
theorem algebraic9 : algebraic_Kernel9Ideal_Reference9Ideal (hKernel9Ideal := Kernel9Ideal.Gen.facts)
    (hReference9Ideal := Reference9Ideal.Gen.facts) := by
  intro m ρ m' ρ' _ hagree
  refine ⟨_, Kernel9Ideal.Value.run_blocks (F := Ideal) m ρ, ?_⟩
  refine (θ_run Reference9Ideal.defs _ _).mono (fun _ h c => ⟨(h c).1.trans ?_, (h c).2⟩) (Reference9Ideal.Value.run (F := Ideal) m' ρ')
  refine (Reference9Ideal.Read.val_main_v16_eq (F := Ideal) _ _ _).trans ?_
  refine Eq.trans ?_ (Kernel9Ideal.Part.result m c).symm
  exact Kernel9Ideal.Part.result_congr (hagree c).1 (hagree c).2.1 (hagree c).2.2

/-- The call `w_in_grad_rest4`. -/
theorem algebraic10 : algebraic_Kernel10Ideal_Reference10Ideal (hKernel10Ideal := Kernel10Ideal.Gen.facts)
    (hReference10Ideal := Reference10Ideal.Gen.facts) := by
  intro m ρ m' ρ' _ hagree
  refine ⟨_, Kernel10Ideal.Value.run_blocks (F := Ideal) m ρ, ?_⟩
  refine (θ_run Reference10Ideal.defs _ _).mono (fun _ h c => ⟨(h c).1.trans ?_, (h c).2⟩) (Reference10Ideal.Value.run (F := Ideal) m' ρ')
  refine (Reference10Ideal.Read.val_main_v16_eq (F := Ideal) _ _ _).trans ?_
  refine Eq.trans ?_ (Kernel10Ideal.Part.result m c).symm
  exact Kernel10Ideal.Part.result_congr (hagree c).1 (hagree c).2.1 (hagree c).2.2

theorem algebraic11 : algebraic_Kernel11Ideal_Reference11Ideal (hKernel11Ideal := Kernel11Ideal.Gen.facts)
    (hReference11Ideal := Reference11Ideal.Gen.facts) := by
  intro m ρ m' ρ' _ hagree
  refine ⟨_, Kernel11Ideal.Value.run_blocks (F := Ideal) m ρ, ?_⟩
  refine (θ_run Reference11Ideal.defs _ _).mono (fun _ h c => ⟨(h c).1.trans ?_, (h c).2⟩) (Reference11Ideal.Value.run (F := Ideal) m' ρ')
  refine (Reference11Ideal.Read.val_main_v4_eq (F := Ideal) _ _).trans ?_
  refine Eq.trans ?_ (Kernel11Ideal.Part.result m c).symm
  exact Kernel11Ideal.Part.result_congr (hagree c).1 (hagree c).2

theorem algebraic12 : algebraic_Kernel12Ideal_Reference12Ideal (hKernel12Ideal := Kernel12Ideal.Gen.facts)
    (hReference12Ideal := Reference12Ideal.Gen.facts) := by
  intro m ρ m' ρ' _ hagree
  refine ⟨_, Kernel12Ideal.Value.run_blocks (F := Ideal) m ρ, ?_⟩
  refine (θ_run Reference12Ideal.defs _ _).mono (fun _ h c => ⟨(h c).1.trans ?_, (h c).2⟩) (Reference12Ideal.Value.run (F := Ideal) m' ρ')
  refine (Reference12Ideal.Read.val_main_v6_eq (F := Ideal) _ _).trans ?_
  refine Eq.trans ?_ (Kernel12Ideal.Part.result m c).symm
  exact Kernel12Ideal.Part.result_congr (hagree c).1 (hagree c).2

theorem algebraic13 : algebraic_Kernel13Ideal_Reference13Ideal (hKernel13Ideal := Kernel13Ideal.Gen.facts)
    (hReference13Ideal := Reference13Ideal.Gen.facts) := by
  intro m ρ m' ρ' _ hagree
  refine ⟨_, Kernel13Ideal.Value.run_blocks (F := Ideal) m ρ, ?_⟩
  refine (θ_run Reference13Ideal.defs _ _).mono (fun _ h c => ⟨(h c).1.trans ?_, (h c).2⟩) (Reference13Ideal.Value.run (F := Ideal) m' ρ')
  refine (Reference13Ideal.Read.val_main_v6_eq (F := Ideal) _ _).trans ?_
  refine Eq.trans ?_ (Kernel13Ideal.Part.result m c).symm
  exact Kernel13Ideal.Part.result_congr (hagree c).1 (hagree c).2

theorem algebraic14 : algebraic_Kernel14Ideal_Reference14Ideal (hKernel14Ideal := Kernel14Ideal.Gen.facts)
    (hReference14Ideal := Reference14Ideal.Gen.facts) := by
  intro m ρ m' ρ' _ hagree
  refine ⟨_, _, _, _, _, _, Kernel14Ideal.Value.run_blocks (F := Ideal) m ρ, ?_⟩
  refine (θ_run Reference14Ideal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Reference14Ideal.Value.run (F := Ideal) m' ρ')
  all_goals obtain ⟨h0, h1, h2, h3, h4, h5⟩ := hagree c
  · refine (Reference14Ideal.Read.val_main_v30_eq (F := Ideal) _ _ _ _).trans (Eq.trans ?_ (Kernel14Ideal.Part.final_6 m c).symm)
    exact congr (congr (congr (congrArg (Reference14Ideal.Read.val_main_v30 (F := Ideal)) h0) h1) h4) h5
  · refine (Reference14Ideal.Read.val_main_v31_eq (F := Ideal) _ _ _ _).trans (Eq.trans ?_ (Kernel14Ideal.Part.final_7 m c).symm)
    exact congr (congr (congr (congrArg (Reference14Ideal.Read.val_main_v31 (F := Ideal)) h0) h1) h4) h5
  · refine (Reference14Ideal.Read.val_main_v32_eq (F := Ideal) _ _ _ _ _ _).trans (Eq.trans ?_ (Kernel14Ideal.Part.final_8 m c).symm)
    exact congr (congr (congr (congr (congr (congrArg (Reference14Ideal.Read.val_main_v32 (F := Ideal)) h0) h1) h2) h3) h4) h5
  · refine (Reference14Ideal.Read.val_main_v33_eq (F := Ideal) _ _ _ _ _ _).trans (Eq.trans ?_ (Kernel14Ideal.Part.final_9 m c).symm)
    exact congr (congr (congr (congr (congr (congrArg (Reference14Ideal.Read.val_main_v33 (F := Ideal)) h0) h1) h2) h3) h4) h5
  · refine (Reference14Ideal.Read.val_main_v35_eq (F := Ideal) _ _ _ _ _ _).trans (Eq.trans ?_ (Kernel14Ideal.Part.final_10 m c).symm)
    exact congr (congr (congr (congr (congr (congrArg (Reference14Ideal.Read.val_main_v35 (F := Ideal)) h0) h1) h2) h3) h4) h5
  · refine (Reference14Ideal.Read.val_main_v37_eq (F := Ideal) _ _ _ _ _ _).trans (Eq.trans ?_ (Kernel14Ideal.Part.final_11 m c).symm)
    exact congr (congr (congr (congr (congr (congrArg (Reference14Ideal.Read.val_main_v37 (F := Ideal)) h0) h1) h2) h3) h4) h5

theorem algebraic15 : algebraic_Kernel15Ideal_Reference15Ideal (hKernel15Ideal := Kernel15Ideal.Gen.facts)
    (hReference15Ideal := Reference15Ideal.Gen.facts) := by
  intro m ρ m' ρ' _ hagree
  refine ⟨_, _, _, _, _, _, Kernel15Ideal.Value.run_blocks (F := Ideal) m ρ, ?_⟩
  refine (θ_run Reference15Ideal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Reference15Ideal.Value.run (F := Ideal) m' ρ')
  all_goals obtain ⟨h0, h1, h2, h3, h4, h5⟩ := hagree c
  · refine (Reference15Ideal.Read.val_main_v17_eq (F := Ideal) _ _).trans (Eq.trans ?_ (Kernel15Ideal.Part.final_8 m c).symm)
    exact congr (congrArg (Reference15Ideal.Read.val_main_v17 (F := Ideal)) h0) h2
  · refine (Reference15Ideal.Read.val_main_v18_eq (F := Ideal) _ _).trans (Eq.trans ?_ (Kernel15Ideal.Part.final_9 m c).symm)
    exact congr (congrArg (Reference15Ideal.Read.val_main_v18 (F := Ideal)) h1) h3
  · refine (Reference15Ideal.Read.val_main_v19_eq (F := Ideal) _ _).trans (Eq.trans ?_ (Kernel15Ideal.Part.final_10 m c).symm)
    exact congr (congrArg (Reference15Ideal.Read.val_main_v19 (F := Ideal)) h4) h5
  · refine (Reference15Ideal.Read.val_main_v20_eq (F := Ideal) _ _).trans (Eq.trans ?_ (Kernel15Ideal.Part.final_11 m c).symm)
    exact congr (congrArg (Reference15Ideal.Read.val_main_v20 (F := Ideal)) h4) h5
  · refine (Reference15Ideal.Read.val_main_v21_eq (F := Ideal) _ _ _ _ _ _).trans (Eq.trans ?_ (Kernel15Ideal.Part.final_12 m c).symm)
    exact congr (congr (congr (congr (congr (congrArg (Reference15Ideal.Read.val_main_v21 (F := Ideal)) h0) h1) h2) h3) h4) h5
  · refine (Reference15Ideal.Read.val_main_v22_eq (F := Ideal) _ _ _ _ _ _).trans (Eq.trans ?_ (Kernel15Ideal.Part.final_13 m c).symm)
    exact congr (congr (congr (congr (congr (congrArg (Reference15Ideal.Read.val_main_v22 (F := Ideal)) h0) h1) h2) h3) h4) h5

theorem claim : Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Pre_finite.Gen.facts,
  fun m ρ _ => Kernel.Gen.frame m ρ,
  fun m ρ _ => KernelIdeal.Gen.frame m ρ,
  fun m ρ _ => KernelIdeal.Gen.frame m ρ,
  fun m ρ _ => (θ_run ReferenceIdeal.defs _ _).mono
    (fun r h => ⟨fun c => (h c).2, sem_eq_zero_of_no_sems (by decide) r.2⟩) (ReferenceIdeal.Value.run (F := Ideal) m ρ),
  fun m ρ _ => (θ_run ReferenceIdeal.defs _ _).mono
    (fun r h => ⟨fun c => (h c).2, sem_eq_zero_of_no_sems (by decide) r.2⟩) (ReferenceIdeal.Value.run (F := Ideal) m ρ),
  fun m ρ _ => Kernel2.Gen.frame m ρ,
  fun m ρ _ => Kernel2Ideal.Gen.frame m ρ,
  fun m ρ _ => (θ_run Reference2Ideal.defs _ _).mono
    (fun r h => ⟨fun c => (h c).2, sem_eq_zero_of_no_sems (by decide) r.2⟩) (Reference2Ideal.Value.run (F := Ideal) m ρ),
  fun m ρ _ => Kernel3.Gen.frame m ρ,
  fun m ρ _ => Kernel3Ideal.Gen.frame m ρ,
  fun m ρ _ => (θ_run Reference3Ideal.defs _ _).mono
    (fun r h => ⟨fun c => (h c).2, sem_eq_zero_of_no_sems (by decide) r.2⟩) (Reference3Ideal.Value.run (F := Ideal) m ρ),
  fun m ρ _ => Kernel4.Gen.frame m ρ,
  fun m ρ _ => Kernel4Ideal.Gen.frame m ρ,
  fun m ρ _ => (θ_run Reference4Ideal.defs _ _).mono
    (fun r h => ⟨fun c => (h c).2, sem_eq_zero_of_no_sems (by decide) r.2⟩) (Reference4Ideal.Value.run (F := Ideal) m ρ),
  fun m ρ _ => Kernel5.Gen.frame m ρ,
  fun m ρ _ => Kernel5Ideal.Gen.frame m ρ,
  fun m ρ _ => (θ_run Reference5Ideal.defs _ _).mono
    (fun r h => ⟨fun c => (h c).2, sem_eq_zero_of_no_sems (by decide) r.2⟩) (Reference5Ideal.Value.run (F := Ideal) m ρ),
  fun m ρ _ => Kernel6.Gen.frame m ρ,
  fun m ρ _ => Kernel6Ideal.Gen.frame m ρ,
  fun m ρ _ => (θ_run Reference6Ideal.defs _ _).mono
    (fun r h => ⟨fun c => (h c).2, sem_eq_zero_of_no_sems (by decide) r.2⟩) (Reference6Ideal.Value.run (F := Ideal) m ρ),
  fun m ρ _ => Kernel7.Gen.frame m ρ,
  fun m ρ _ => Kernel7Ideal.Gen.frame m ρ,
  fun m ρ _ => (θ_run Reference7Ideal.defs _ _).mono
    (fun r h => ⟨fun c => (h c).2, sem_eq_zero_of_no_sems (by decide) r.2⟩) (Reference7Ideal.Value.run (F := Ideal) m ρ),
  fun m ρ _ => Kernel8.Gen.frame m ρ,
  fun m ρ _ => Kernel8Ideal.Gen.frame m ρ,
  fun m ρ _ => (θ_run Reference8Ideal.defs _ _).mono
    (fun r h => ⟨fun c => (h c).2, sem_eq_zero_of_no_sems (by decide) r.2⟩) (Reference8Ideal.Value.run (F := Ideal) m ρ),
  fun m ρ _ => Kernel9.Gen.frame m ρ,
  fun m ρ _ => Kernel9Ideal.Gen.frame m ρ,
  fun m ρ _ => (θ_run Reference9Ideal.defs _ _).mono
    (fun r h => ⟨fun c => (h c).2, sem_eq_zero_of_no_sems (by decide) r.2⟩) (Reference9Ideal.Value.run (F := Ideal) m ρ),
  fun m ρ _ => Kernel10.Gen.frame m ρ,
  fun m ρ _ => Kernel10Ideal.Gen.frame m ρ,
  fun m ρ _ => (θ_run Reference10Ideal.defs _ _).mono
    (fun r h => ⟨fun c => (h c).2, sem_eq_zero_of_no_sems (by decide) r.2⟩) (Reference10Ideal.Value.run (F := Ideal) m ρ),
  fun m ρ _ => Kernel11.Gen.frame m ρ,
  fun m ρ _ => Kernel11Ideal.Gen.frame m ρ,
  fun m ρ _ => (θ_run Reference11Ideal.defs _ _).mono
    (fun r h => ⟨fun c => (h c).2, sem_eq_zero_of_no_sems (by decide) r.2⟩) (Reference11Ideal.Value.run (F := Ideal) m ρ),
  fun m ρ _ => Kernel12.Gen.frame m ρ,
  fun m ρ _ => Kernel12Ideal.Gen.frame m ρ,
  fun m ρ _ => (θ_run Reference12Ideal.defs _ _).mono
    (fun r h => ⟨fun c => (h c).2, sem_eq_zero_of_no_sems (by decide) r.2⟩) (Reference12Ideal.Value.run (F := Ideal) m ρ),
  fun m ρ _ => Kernel13.Gen.frame m ρ,
  fun m ρ _ => Kernel13Ideal.Gen.frame m ρ,
  fun m ρ _ => (θ_run Reference13Ideal.defs _ _).mono
    (fun r h => ⟨fun c => (h c).2, sem_eq_zero_of_no_sems (by decide) r.2⟩) (Reference13Ideal.Value.run (F := Ideal) m ρ),
  fun m ρ _ => Kernel14.Gen.frame m ρ,
  fun m ρ _ => Kernel14Ideal.Gen.frame m ρ,
  fun m ρ _ => (θ_run Reference14Ideal.defs _ _).mono
    (fun r h => ⟨fun c => (h c).2.2.2.2.2.2, sem_eq_zero_of_no_sems (by decide) r.2⟩) (Reference14Ideal.Value.run (F := Ideal) m ρ),
  fun m ρ _ => Kernel15.Gen.frame m ρ,
  fun m ρ _ => Kernel15Ideal.Gen.frame m ρ,
  fun m ρ _ => (θ_run Reference15Ideal.defs _ _).mono
    (fun r h => ⟨fun c => (h c).2.2.2.2.2.2, sem_eq_zero_of_no_sems (by decide) r.2⟩) (Reference15Ideal.Value.run (F := Ideal) m ρ),
  trivial, algebraic, trivial, algebraic2, trivial, algebraic3, trivial, algebraic4, trivial, algebraic5, trivial, algebraic6, trivial, algebraic7, trivial, algebraic8, trivial, algebraic9, trivial, algebraic10,
  trivial, algebraic11, trivial, algebraic12, trivial, algebraic13, trivial, algebraic14,
  trivial, algebraic15⟩

end Cert.Proof

end
